-- ==== Defs.lean ====
def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_MlKernel (m : (ℓ : Loc Cert.MlKernel.nD Cert.MlKernel.τ Cert.MlKernel.sig) → Buf (Elt Bits) ℓ) : Prop :=
  True

def Pre_MlKernelIdeal (m : (ℓ : Loc Cert.MlKernelIdeal.nD Cert.MlKernelIdeal.τ Cert.MlKernelIdeal.sig) → Buf (Elt Ideal) ℓ) : Prop :=
  True

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_FwdKernel (m : (ℓ : Loc Cert.FwdKernel.nD Cert.FwdKernel.τ Cert.FwdKernel.sig) → Buf (Elt Bits) ℓ) : Prop :=
  True

def Pre_FwdKernelIdeal (m : (ℓ : Loc Cert.FwdKernelIdeal.nD Cert.FwdKernelIdeal.τ Cert.FwdKernelIdeal.sig) → Buf (Elt Ideal) ℓ) : Prop :=
  True

def Pre_FwdReferenceIdeal (m : (ℓ : Loc Cert.FwdReferenceIdeal.nD Cert.FwdReferenceIdeal.τ Cert.FwdReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_finite_inputs [hPre_finite_inputs : Cert.Pre_finite_inputs.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_finite_inputs.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite_inputs [hPre_finite_inputs : Cert.Pre_finite_inputs.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite_inputs.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))) = (fun _ => 1#1)

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixKernelIdeal_finite_mixer_inputs [hPre_finite_mixer_inputs : Cert.Pre_finite_mixer_inputs.Facts] (m : (ℓ : Loc Cert.MixKernelIdeal.nD Cert.MixKernelIdeal.τ Cert.MixKernelIdeal.sig) → Buf (Elt Ideal) ℓ) : Prop :=
  ∀ c : Dev Cert.MixKernelIdeal.nD,
    (Cert.Pre_finite_mixer_inputs.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4))) = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_finite_mixer_inputs [hPre_finite_mixer_inputs : Cert.Pre_finite_mixer_inputs.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_finite_mixer_inputs.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4))) = (fun _ => 1#1)

def Pre_InbKernel (m : (ℓ : Loc Cert.InbKernel.nD Cert.InbKernel.τ Cert.InbKernel.sig) → Buf (Elt Bits) ℓ) : Prop :=
  True

def Pre_InbKernelIdeal (m : (ℓ : Loc Cert.InbKernelIdeal.nD Cert.InbKernelIdeal.τ Cert.InbKernelIdeal.sig) → Buf (Elt Ideal) ℓ) : Prop :=
  True

def Pre_InbReferenceIdeal (m : (ℓ : Loc Cert.InbReferenceIdeal.nD Cert.InbReferenceIdeal.τ Cert.InbReferenceIdeal.sig) → Buf (Elt Ideal) ℓ) : Prop :=
  True

def Pre_WoutKernel (m : (ℓ : Loc Cert.WoutKernel.nD Cert.WoutKernel.τ Cert.WoutKernel.sig) → Buf (Elt Bits) ℓ) : Prop :=
  True

def Pre_WoutKernelIdeal (m : (ℓ : Loc Cert.WoutKernelIdeal.nD Cert.WoutKernelIdeal.τ Cert.WoutKernelIdeal.sig) → Buf (Elt Ideal) ℓ) : Prop :=
  True

def Pre_WoutReferenceIdeal (m : (ℓ : Loc Cert.WoutReferenceIdeal.nD Cert.WoutReferenceIdeal.τ Cert.WoutReferenceIdeal.sig) → Buf (Elt Ideal) ℓ) : Prop :=
  True

def Pre_WinKernel (m : (ℓ : Loc Cert.WinKernel.nD Cert.WinKernel.τ Cert.WinKernel.sig) → Buf (Elt Bits) ℓ) : Prop :=
  True

def Pre_WinKernelIdeal (m : (ℓ : Loc Cert.WinKernelIdeal.nD Cert.WinKernelIdeal.τ Cert.WinKernelIdeal.sig) → Buf (Elt Ideal) ℓ) : Prop :=
  True

def Pre_WinReferenceIdeal (m : (ℓ : Loc Cert.WinReferenceIdeal.nD Cert.WinReferenceIdeal.τ Cert.WinReferenceIdeal.sig) → Buf (Elt Ideal) ℓ) : Prop :=
  True

def Pre_InfKernel (m : (ℓ : Loc Cert.InfKernel.nD Cert.InfKernel.τ Cert.InfKernel.sig) → Buf (Elt Bits) ℓ) : Prop :=
  True

def Pre_InfKernelIdeal (m : (ℓ : Loc Cert.InfKernelIdeal.nD Cert.InfKernelIdeal.τ Cert.InfKernelIdeal.sig) → Buf (Elt Ideal) ℓ) : Prop :=
  True

def Pre_InfReferenceIdeal (m : (ℓ : Loc Cert.InfReferenceIdeal.nD Cert.InfReferenceIdeal.τ Cert.InfReferenceIdeal.sig) → Buf (Elt Ideal) ℓ) : Prop :=
  True

def Pre_OutfKernel (m : (ℓ : Loc Cert.OutfKernel.nD Cert.OutfKernel.τ Cert.OutfKernel.sig) → Buf (Elt Bits) ℓ) : Prop :=
  True

def Pre_OutfKernelIdeal (m : (ℓ : Loc Cert.OutfKernelIdeal.nD Cert.OutfKernelIdeal.τ Cert.OutfKernelIdeal.sig) → Buf (Elt Ideal) ℓ) : Prop :=
  True

def Pre_OutfReferenceIdeal (m : (ℓ : Loc Cert.OutfReferenceIdeal.nD Cert.OutfReferenceIdeal.τ Cert.OutfReferenceIdeal.sig) → Buf (Elt Ideal) ℓ) : Prop :=
  True

def Pre_AdamLnKernel (m : (ℓ : Loc Cert.AdamLnKernel.nD Cert.AdamLnKernel.τ Cert.AdamLnKernel.sig) → Buf (Elt Bits) ℓ) : Prop :=
  True

def Pre_AdamLnKernelIdeal (m : (ℓ : Loc Cert.AdamLnKernelIdeal.nD Cert.AdamLnKernelIdeal.τ Cert.AdamLnKernelIdeal.sig) → Buf (Elt Ideal) ℓ) : Prop :=
  True

def Pre_AdamLnReferenceIdeal (m : (ℓ : Loc Cert.AdamLnReferenceIdeal.nD Cert.AdamLnReferenceIdeal.τ Cert.AdamLnReferenceIdeal.sig) → Buf (Elt Ideal) ℓ) : Prop :=
  True

def Pre_AdamCvKernel (m : (ℓ : Loc Cert.AdamCvKernel.nD Cert.AdamCvKernel.τ Cert.AdamCvKernel.sig) → Buf (Elt Bits) ℓ) : Prop :=
  True

def Pre_AdamCvKernelIdeal (m : (ℓ : Loc Cert.AdamCvKernelIdeal.nD Cert.AdamCvKernelIdeal.τ Cert.AdamCvKernelIdeal.sig) → Buf (Elt Ideal) ℓ) : Prop :=
  True

def Pre_AdamCvReferenceIdeal (m : (ℓ : Loc Cert.AdamCvReferenceIdeal.nD Cert.AdamCvReferenceIdeal.τ Cert.AdamCvReferenceIdeal.sig) → Buf (Elt Ideal) ℓ) : Prop :=
  True

def Pre_AdamGtKernel (m : (ℓ : Loc Cert.AdamGtKernel.nD Cert.AdamGtKernel.τ Cert.AdamGtKernel.sig) → Buf (Elt Bits) ℓ) : Prop :=
  True

def Pre_AdamGtKernelIdeal (m : (ℓ : Loc Cert.AdamGtKernelIdeal.nD Cert.AdamGtKernelIdeal.τ Cert.AdamGtKernelIdeal.sig) → Buf (Elt Ideal) ℓ) : Prop :=
  True

def Pre_AdamGtReferenceIdeal (m : (ℓ : Loc Cert.AdamGtReferenceIdeal.nD Cert.AdamGtReferenceIdeal.τ Cert.AdamGtReferenceIdeal.sig) → Buf (Elt Ideal) ℓ) : Prop :=
  True

def Pre_AdamQkKernel (m : (ℓ : Loc Cert.AdamQkKernel.nD Cert.AdamQkKernel.τ Cert.AdamQkKernel.sig) → Buf (Elt Bits) ℓ) : Prop :=
  True

def Pre_AdamQkKernelIdeal (m : (ℓ : Loc Cert.AdamQkKernelIdeal.nD Cert.AdamQkKernelIdeal.τ Cert.AdamQkKernelIdeal.sig) → Buf (Elt Ideal) ℓ) : Prop :=
  True

def Pre_AdamQkReferenceIdeal (m : (ℓ : Loc Cert.AdamQkReferenceIdeal.nD Cert.AdamQkReferenceIdeal.τ Cert.AdamQkReferenceIdeal.sig) → Buf (Elt Ideal) ℓ) : Prop :=
  True

def Pre_AdamHnKernel (m : (ℓ : Loc Cert.AdamHnKernel.nD Cert.AdamHnKernel.τ Cert.AdamHnKernel.sig) → Buf (Elt Bits) ℓ) : Prop :=
  True

def Pre_AdamHnKernelIdeal (m : (ℓ : Loc Cert.AdamHnKernelIdeal.nD Cert.AdamHnKernelIdeal.τ Cert.AdamHnKernelIdeal.sig) → Buf (Elt Ideal) ℓ) : Prop :=
  True

def Pre_AdamHnReferenceIdeal (m : (ℓ : Loc Cert.AdamHnReferenceIdeal.nD Cert.AdamHnReferenceIdeal.τ Cert.AdamHnReferenceIdeal.sig) → Buf (Elt Ideal) ℓ) : Prop :=
  True

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2))
      ∧ r.2.sem = fun _ => 0)

def quiescent_MlKernel [hMlKernel : Cert.MlKernel.Facts] : Prop :=
  ∀ (m : (ℓ : Loc Cert.MlKernel.nD Cert.MlKernel.τ Cert.MlKernel.sig) → Buf (Elt Bits) ℓ) (g : Dev Cert.MlKernel.nD → PrngReg), Pre_MlKernel m →
    θ_run (Cert.MlKernel.defs (F := Bits)) (onTc (τ := Cert.MlKernel.τ) (Cert.MlKernel.main (F := Bits))) ⟨m, fun _ => 0, g⟩ (fun r => (∀ c : Dev Cert.MlKernel.nD,
      r.2.mem ((c.tc : Thread Cert.MlKernel.nD Cert.MlKernel.τ).loc Cert.MlKernel.main_arg0) = m ((c.tc : Thread Cert.MlKernel.nD Cert.MlKernel.τ).loc Cert.MlKernel.main_arg0)
      ∧ r.2.mem ((c.tc : Thread Cert.MlKernel.nD Cert.MlKernel.τ).loc Cert.MlKernel.main_arg1) = m ((c.tc : Thread Cert.MlKernel.nD Cert.MlKernel.τ).loc Cert.MlKernel.main_arg1)
      ∧ r.2.mem ((c.tc : Thread Cert.MlKernel.nD Cert.MlKernel.τ).loc Cert.MlKernel.main_arg2) = m ((c.tc : Thread Cert.MlKernel.nD Cert.MlKernel.τ).loc Cert.MlKernel.main_arg2)
      ∧ r.2.mem ((c.tc : Thread Cert.MlKernel.nD Cert.MlKernel.τ).loc Cert.MlKernel.main_arg3) = m ((c.tc : Thread Cert.MlKernel.nD Cert.MlKernel.τ).loc Cert.MlKernel.main_arg3)
      ∧ r.2.mem ((c.tc : Thread Cert.MlKernel.nD Cert.MlKernel.τ).loc Cert.MlKernel.main_arg4) = m ((c.tc : Thread Cert.MlKernel.nD Cert.MlKernel.τ).loc Cert.MlKernel.main_arg4)
      ∧ r.2.mem ((c.tc : Thread Cert.MlKernel.nD Cert.MlKernel.τ).loc Cert.MlKernel.main_arg5) = m ((c.tc : Thread Cert.MlKernel.nD Cert.MlKernel.τ).loc Cert.MlKernel.main_arg5)
      ∧ r.2.mem ((c.tc : Thread Cert.MlKernel.nD Cert.MlKernel.τ).loc Cert.MlKernel.main_arg6) = m ((c.tc : Thread Cert.MlKernel.nD Cert.MlKernel.τ).loc Cert.MlKernel.main_arg6))
      ∧ r.2.sem = fun _ => 0)

def quiescent_MlKernelIdeal [hMlKernelIdeal : Cert.MlKernelIdeal.Facts] : Prop :=
  ∀ (m : (ℓ : Loc Cert.MlKernelIdeal.nD Cert.MlKernelIdeal.τ Cert.MlKernelIdeal.sig) → Buf (Elt Ideal) ℓ) (g : Dev Cert.MlKernelIdeal.nD → PrngReg), Pre_MlKernelIdeal m →
    θ_run (Cert.MlKernelIdeal.defs (F := Ideal)) (onTc (τ := Cert.MlKernelIdeal.τ) (Cert.MlKernelIdeal.main (F := Ideal))) ⟨m, fun _ => 0, g⟩ (fun r => (∀ c : Dev Cert.MlKernelIdeal.nD,
      r.2.mem ((c.tc : Thread Cert.MlKernelIdeal.nD Cert.MlKernelIdeal.τ).loc Cert.MlKernelIdeal.main_arg0) = m ((c.tc : Thread Cert.MlKernelIdeal.nD Cert.MlKernelIdeal.τ).loc Cert.MlKernelIdeal.main_arg0)
      ∧ r.2.mem ((c.tc : Thread Cert.MlKernelIdeal.nD Cert.MlKernelIdeal.τ).loc Cert.MlKernelIdeal.main_arg1) = m ((c.tc : Thread Cert.MlKernelIdeal.nD Cert.MlKernelIdeal.τ).loc Cert.MlKernelIdeal.main_arg1)
      ∧ r.2.mem ((c.tc : Thread Cert.MlKernelIdeal.nD Cert.MlKernelIdeal.τ).loc Cert.MlKernelIdeal.main_arg2) = m ((c.tc : Thread Cert.MlKernelIdeal.nD Cert.MlKernelIdeal.τ).loc Cert.MlKernelIdeal.main_arg2)
      ∧ r.2.mem ((c.tc : Thread Cert.MlKernelIdeal.nD Cert.MlKernelIdeal.τ).loc Cert.MlKernelIdeal.main_arg3) = m ((c.tc : Thread Cert.MlKernelIdeal.nD Cert.MlKernelIdeal.τ).loc Cert.MlKernelIdeal.main_arg3)
      ∧ r.2.mem ((c.tc : Thread Cert.MlKernelIdeal.nD Cert.MlKernelIdeal.τ).loc Cert.MlKernelIdeal.main_arg4) = m ((c.tc : Thread Cert.MlKernelIdeal.nD Cert.MlKernelIdeal.τ).loc Cert.MlKernelIdeal.main_arg4)
      ∧ r.2.mem ((c.tc : Thread Cert.MlKernelIdeal.nD Cert.MlKernelIdeal.τ).loc Cert.MlKernelIdeal.main_arg5) = m ((c.tc : Thread Cert.MlKernelIdeal.nD Cert.MlKernelIdeal.τ).loc Cert.MlKernelIdeal.main_arg5)
      ∧ r.2.mem ((c.tc : Thread Cert.MlKernelIdeal.nD Cert.MlKernelIdeal.τ).loc Cert.MlKernelIdeal.main_arg6) = m ((c.tc : Thread Cert.MlKernelIdeal.nD Cert.MlKernelIdeal.τ).loc Cert.MlKernelIdeal.main_arg6))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_FwdKernel [hFwdKernel : Cert.FwdKernel.Facts] : Prop :=
  ∀ (m : (ℓ : Loc Cert.FwdKernel.nD Cert.FwdKernel.τ Cert.FwdKernel.sig) → Buf (Elt Bits) ℓ) (g : Dev Cert.FwdKernel.nD → PrngReg), Pre_FwdKernel m →
    θ_run (Cert.FwdKernel.defs (F := Bits)) (onTc (τ := Cert.FwdKernel.τ) (Cert.FwdKernel.main (F := Bits))) ⟨m, fun _ => 0, g⟩ (fun r => (∀ c : Dev Cert.FwdKernel.nD,
      r.2.mem ((c.tc : Thread Cert.FwdKernel.nD Cert.FwdKernel.τ).loc Cert.FwdKernel.main_arg0) = m ((c.tc : Thread Cert.FwdKernel.nD Cert.FwdKernel.τ).loc Cert.FwdKernel.main_arg0)
      ∧ r.2.mem ((c.tc : Thread Cert.FwdKernel.nD Cert.FwdKernel.τ).loc Cert.FwdKernel.main_arg1) = m ((c.tc : Thread Cert.FwdKernel.nD Cert.FwdKernel.τ).loc Cert.FwdKernel.main_arg1)
      ∧ r.2.mem ((c.tc : Thread Cert.FwdKernel.nD Cert.FwdKernel.τ).loc Cert.FwdKernel.main_arg2) = m ((c.tc : Thread Cert.FwdKernel.nD Cert.FwdKernel.τ).loc Cert.FwdKernel.main_arg2)
      ∧ r.2.mem ((c.tc : Thread Cert.FwdKernel.nD Cert.FwdKernel.τ).loc Cert.FwdKernel.main_arg3) = m ((c.tc : Thread Cert.FwdKernel.nD Cert.FwdKernel.τ).loc Cert.FwdKernel.main_arg3)
      ∧ r.2.mem ((c.tc : Thread Cert.FwdKernel.nD Cert.FwdKernel.τ).loc Cert.FwdKernel.main_arg4) = m ((c.tc : Thread Cert.FwdKernel.nD Cert.FwdKernel.τ).loc Cert.FwdKernel.main_arg4)
      ∧ r.2.mem ((c.tc : Thread Cert.FwdKernel.nD Cert.FwdKernel.τ).loc Cert.FwdKernel.main_arg5) = m ((c.tc : Thread Cert.FwdKernel.nD Cert.FwdKernel.τ).loc Cert.FwdKernel.main_arg5))
      ∧ r.2.sem = fun _ => 0)

def quiescent_FwdKernelIdeal [hFwdKernelIdeal : Cert.FwdKernelIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
      ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
      ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4)
      ∧ r.2.mem ((c.tc : Thread Cert.FwdKernelIdeal.nD Cert.FwdKernelIdeal.τ).loc Cert.FwdKernelIdeal.main_arg5) = m ((c.tc : Thread Cert.FwdKernelIdeal.nD Cert.FwdKernelIdeal.τ).loc Cert.FwdKernelIdeal.main_arg5))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3)
      ∧ r.2.mem ((c.tc : Thread Cert.FwdReferenceIdeal.nD Cert.FwdReferenceIdeal.τ).loc Cert.FwdReferenceIdeal.main_arg4) = m ((c.tc : Thread Cert.FwdReferenceIdeal.nD Cert.FwdReferenceIdeal.τ).loc Cert.FwdReferenceIdeal.main_arg4)
      ∧ r.2.mem ((c.tc : Thread Cert.FwdReferenceIdeal.nD Cert.FwdReferenceIdeal.τ).loc Cert.FwdReferenceIdeal.main_arg5) = m ((c.tc : Thread Cert.FwdReferenceIdeal.nD Cert.FwdReferenceIdeal.τ).loc Cert.FwdReferenceIdeal.main_arg5))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnKernelIdeal_pre_finite_inputs [hFfnKernelIdeal : Cert.FfnKernelIdeal.Facts] [hPre_finite_inputs : Cert.Pre_finite_inputs.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_finite_inputs m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnReferenceIdeal_pre_finite_inputs [hFfnReferenceIdeal : Cert.FfnReferenceIdeal.Facts] [hPre_finite_inputs : Cert.Pre_finite_inputs.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite_inputs m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ r.2.sem = fun _ => 0)

def quiescent_MixKernelIdeal_pre_finite_mixer_inputs [hMixKernelIdeal : Cert.MixKernelIdeal.Facts] [hPre_finite_mixer_inputs : Cert.Pre_finite_mixer_inputs.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal_finite_mixer_inputs m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4))
      ∧ r.2.sem = fun _ => 0)

def quiescent_MixReferenceIdeal_pre_finite_mixer_inputs [hMixReferenceIdeal : Cert.MixReferenceIdeal.Facts] [hPre_finite_mixer_inputs : Cert.Pre_finite_mixer_inputs.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_finite_mixer_inputs m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4))
      ∧ r.2.sem = fun _ => 0)

def quiescent_InbKernel [hInbKernel : Cert.InbKernel.Facts] : Prop :=
  ∀ (m : (ℓ : Loc Cert.InbKernel.nD Cert.InbKernel.τ Cert.InbKernel.sig) → Buf (Elt Bits) ℓ) (g : Dev Cert.InbKernel.nD → PrngReg), Pre_InbKernel m →
    θ_run (Cert.InbKernel.defs (F := Bits)) (onTc (τ := Cert.InbKernel.τ) (Cert.InbKernel.main (F := Bits))) ⟨m, fun _ => 0, g⟩ (fun r => (∀ c : Dev Cert.InbKernel.nD,
      r.2.mem ((c.tc : Thread Cert.InbKernel.nD Cert.InbKernel.τ).loc Cert.InbKernel.main_arg0) = m ((c.tc : Thread Cert.InbKernel.nD Cert.InbKernel.τ).loc Cert.InbKernel.main_arg0)
      ∧ r.2.mem ((c.tc : Thread Cert.InbKernel.nD Cert.InbKernel.τ).loc Cert.InbKernel.main_arg1) = m ((c.tc : Thread Cert.InbKernel.nD Cert.InbKernel.τ).loc Cert.InbKernel.main_arg1)
      ∧ r.2.mem ((c.tc : Thread Cert.InbKernel.nD Cert.InbKernel.τ).loc Cert.InbKernel.main_arg2) = m ((c.tc : Thread Cert.InbKernel.nD Cert.InbKernel.τ).loc Cert.InbKernel.main_arg2)
      ∧ r.2.mem ((c.tc : Thread Cert.InbKernel.nD Cert.InbKernel.τ).loc Cert.InbKernel.main_arg3) = m ((c.tc : Thread Cert.InbKernel.nD Cert.InbKernel.τ).loc Cert.InbKernel.main_arg3))
      ∧ r.2.sem = fun _ => 0)

def quiescent_InbKernelIdeal [hInbKernelIdeal : Cert.InbKernelIdeal.Facts] : Prop :=
  ∀ (m : (ℓ : Loc Cert.InbKernelIdeal.nD Cert.InbKernelIdeal.τ Cert.InbKernelIdeal.sig) → Buf (Elt Ideal) ℓ) (g : Dev Cert.InbKernelIdeal.nD → PrngReg), Pre_InbKernelIdeal m →
    θ_run (Cert.InbKernelIdeal.defs (F := Ideal)) (onTc (τ := Cert.InbKernelIdeal.τ) (Cert.InbKernelIdeal.main (F := Ideal))) ⟨m, fun _ => 0, g⟩ (fun r => (∀ c : Dev Cert.InbKernelIdeal.nD,
      r.2.mem ((c.tc : Thread Cert.InbKernelIdeal.nD Cert.InbKernelIdeal.τ).loc Cert.InbKernelIdeal.main_arg0) = m ((c.tc : Thread Cert.InbKernelIdeal.nD Cert.InbKernelIdeal.τ).loc Cert.InbKernelIdeal.main_arg0)
      ∧ r.2.mem ((c.tc : Thread Cert.InbKernelIdeal.nD Cert.InbKernelIdeal.τ).loc Cert.InbKernelIdeal.main_arg1) = m ((c.tc : Thread Cert.InbKernelIdeal.nD Cert.InbKernelIdeal.τ).loc Cert.InbKernelIdeal.main_arg1)
      ∧ r.2.mem ((c.tc : Thread Cert.InbKernelIdeal.nD Cert.InbKernelIdeal.τ).loc Cert.InbKernelIdeal.main_arg2) = m ((c.tc : Thread Cert.InbKernelIdeal.nD Cert.InbKernelIdeal.τ).loc Cert.InbKernelIdeal.main_arg2)
      ∧ r.2.mem ((c.tc : Thread Cert.InbKernelIdeal.nD Cert.InbKernelIdeal.τ).loc Cert.InbKernelIdeal.main_arg3) = m ((c.tc : Thread Cert.InbKernelIdeal.nD Cert.InbKernelIdeal.τ).loc Cert.InbKernelIdeal.main_arg3))
      ∧ r.2.sem = fun _ => 0)

def quiescent_InbReferenceIdeal [hInbReferenceIdeal : Cert.InbReferenceIdeal.Facts] : Prop :=
  ∀ (m : (ℓ : Loc Cert.InbReferenceIdeal.nD Cert.InbReferenceIdeal.τ Cert.InbReferenceIdeal.sig) → Buf (Elt Ideal) ℓ) (g : Dev Cert.InbReferenceIdeal.nD → PrngReg), Pre_InbReferenceIdeal m →
    θ_run (Cert.InbReferenceIdeal.defs (F := Ideal)) (onTc (τ := Cert.InbReferenceIdeal.τ) (Cert.InbReferenceIdeal.main (F := Ideal))) ⟨m, fun _ => 0, g⟩ (fun r => (∀ c : Dev Cert.InbReferenceIdeal.nD,
      r.2.mem ((c.tc : Thread Cert.InbReferenceIdeal.nD Cert.InbReferenceIdeal.τ).loc Cert.InbReferenceIdeal.main_arg0) = m ((c.tc : Thread Cert.InbReferenceIdeal.nD Cert.InbReferenceIdeal.τ).loc Cert.InbReferenceIdeal.main_arg0)
      ∧ r.2.mem ((c.tc : Thread Cert.InbReferenceIdeal.nD Cert.InbReferenceIdeal.τ).loc Cert.InbReferenceIdeal.main_arg1) = m ((c.tc : Thread Cert.InbReferenceIdeal.nD Cert.InbReferenceIdeal.τ).loc Cert.InbReferenceIdeal.main_arg1)
      ∧ r.2.mem ((c.tc : Thread Cert.InbReferenceIdeal.nD Cert.InbReferenceIdeal.τ).loc Cert.InbReferenceIdeal.main_arg2) = m ((c.tc : Thread Cert.InbReferenceIdeal.nD Cert.InbReferenceIdeal.τ).loc Cert.InbReferenceIdeal.main_arg2)
      ∧ r.2.mem ((c.tc : Thread Cert.InbReferenceIdeal.nD Cert.InbReferenceIdeal.τ).loc Cert.InbReferenceIdeal.main_arg3) = m ((c.tc : Thread Cert.InbReferenceIdeal.nD Cert.InbReferenceIdeal.τ).loc Cert.InbReferenceIdeal.main_arg3))
      ∧ r.2.sem = fun _ => 0)

def quiescent_WoutKernel [hWoutKernel : Cert.WoutKernel.Facts] : Prop :=
  ∀ (m : (ℓ : Loc Cert.WoutKernel.nD Cert.WoutKernel.τ Cert.WoutKernel.sig) → Buf (Elt Bits) ℓ) (g : Dev Cert.WoutKernel.nD → PrngReg), Pre_WoutKernel m →
    θ_run (Cert.WoutKernel.defs (F := Bits)) (onTc (τ := Cert.WoutKernel.τ) (Cert.WoutKernel.main (F := Bits))) ⟨m, fun _ => 0, g⟩ (fun r => (∀ c : Dev Cert.WoutKernel.nD,
      r.2.mem ((c.tc : Thread Cert.WoutKernel.nD Cert.WoutKernel.τ).loc Cert.WoutKernel.main_arg0) = m ((c.tc : Thread Cert.WoutKernel.nD Cert.WoutKernel.τ).loc Cert.WoutKernel.main_arg0)
      ∧ r.2.mem ((c.tc : Thread Cert.WoutKernel.nD Cert.WoutKernel.τ).loc Cert.WoutKernel.main_arg1) = m ((c.tc : Thread Cert.WoutKernel.nD Cert.WoutKernel.τ).loc Cert.WoutKernel.main_arg1)
      ∧ r.2.mem ((c.tc : Thread Cert.WoutKernel.nD Cert.WoutKernel.τ).loc Cert.WoutKernel.main_arg2) = m ((c.tc : Thread Cert.WoutKernel.nD Cert.WoutKernel.τ).loc Cert.WoutKernel.main_arg2))
      ∧ r.2.sem = fun _ => 0)

def quiescent_WoutKernelIdeal [hWoutKernelIdeal : Cert.WoutKernelIdeal.Facts] : Prop :=
  ∀ (m : (ℓ : Loc Cert.WoutKernelIdeal.nD Cert.WoutKernelIdeal.τ Cert.WoutKernelIdeal.sig) → Buf (Elt Ideal) ℓ) (g : Dev Cert.WoutKernelIdeal.nD → PrngReg), Pre_WoutKernelIdeal m →
    θ_run (Cert.WoutKernelIdeal.defs (F := Ideal)) (onTc (τ := Cert.WoutKernelIdeal.τ) (Cert.WoutKernelIdeal.main (F := Ideal))) ⟨m, fun _ => 0, g⟩ (fun r => (∀ c : Dev Cert.WoutKernelIdeal.nD,
      r.2.mem ((c.tc : Thread Cert.WoutKernelIdeal.nD Cert.WoutKernelIdeal.τ).loc Cert.WoutKernelIdeal.main_arg0) = m ((c.tc : Thread Cert.WoutKernelIdeal.nD Cert.WoutKernelIdeal.τ).loc Cert.WoutKernelIdeal.main_arg0)
      ∧ r.2.mem ((c.tc : Thread Cert.WoutKernelIdeal.nD Cert.WoutKernelIdeal.τ).loc Cert.WoutKernelIdeal.main_arg1) = m ((c.tc : Thread Cert.WoutKernelIdeal.nD Cert.WoutKernelIdeal.τ).loc Cert.WoutKernelIdeal.main_arg1)
      ∧ r.2.mem ((c.tc : Thread Cert.WoutKernelIdeal.nD Cert.WoutKernelIdeal.τ).loc Cert.WoutKernelIdeal.main_arg2) = m ((c.tc : Thread Cert.WoutKernelIdeal.nD Cert.WoutKernelIdeal.τ).loc Cert.WoutKernelIdeal.main_arg2))
      ∧ r.2.sem = fun _ => 0)

def quiescent_WoutReferenceIdeal [hWoutReferenceIdeal : Cert.WoutReferenceIdeal.Facts] : Prop :=
  ∀ (m : (ℓ : Loc Cert.WoutReferenceIdeal.nD Cert.WoutReferenceIdeal.τ Cert.WoutReferenceIdeal.sig) → Buf (Elt Ideal) ℓ) (g : Dev Cert.WoutReferenceIdeal.nD → PrngReg), Pre_WoutReferenceIdeal m →
    θ_run (Cert.WoutReferenceIdeal.defs (F := Ideal)) (onTc (τ := Cert.WoutReferenceIdeal.τ) (Cert.WoutReferenceIdeal.main (F := Ideal))) ⟨m, fun _ => 0, g⟩ (fun r => (∀ c : Dev Cert.WoutReferenceIdeal.nD,
      r.2.mem ((c.tc : Thread Cert.WoutReferenceIdeal.nD Cert.WoutReferenceIdeal.τ).loc Cert.WoutReferenceIdeal.main_arg0) = m ((c.tc : Thread Cert.WoutReferenceIdeal.nD Cert.WoutReferenceIdeal.τ).loc Cert.WoutReferenceIdeal.main_arg0)
      ∧ r.2.mem ((c.tc : Thread Cert.WoutReferenceIdeal.nD Cert.WoutReferenceIdeal.τ).loc Cert.WoutReferenceIdeal.main_arg1) = m ((c.tc : Thread Cert.WoutReferenceIdeal.nD Cert.WoutReferenceIdeal.τ).loc Cert.WoutReferenceIdeal.main_arg1)
      ∧ r.2.mem ((c.tc : Thread Cert.WoutReferenceIdeal.nD Cert.WoutReferenceIdeal.τ).loc Cert.WoutReferenceIdeal.main_arg2) = m ((c.tc : Thread Cert.WoutReferenceIdeal.nD Cert.WoutReferenceIdeal.τ).loc Cert.WoutReferenceIdeal.main_arg2))
      ∧ r.2.sem = fun _ => 0)

def quiescent_WinKernel [hWinKernel : Cert.WinKernel.Facts] : Prop :=
  ∀ (m : (ℓ : Loc Cert.WinKernel.nD Cert.WinKernel.τ Cert.WinKernel.sig) → Buf (Elt Bits) ℓ) (g : Dev Cert.WinKernel.nD → PrngReg), Pre_WinKernel m →
    θ_run (Cert.WinKernel.defs (F := Bits)) (onTc (τ := Cert.WinKernel.τ) (Cert.WinKernel.main (F := Bits))) ⟨m, fun _ => 0, g⟩ (fun r => (∀ c : Dev Cert.WinKernel.nD,
      r.2.mem ((c.tc : Thread Cert.WinKernel.nD Cert.WinKernel.τ).loc Cert.WinKernel.main_arg0) = m ((c.tc : Thread Cert.WinKernel.nD Cert.WinKernel.τ).loc Cert.WinKernel.main_arg0)
      ∧ r.2.mem ((c.tc : Thread Cert.WinKernel.nD Cert.WinKernel.τ).loc Cert.WinKernel.main_arg1) = m ((c.tc : Thread Cert.WinKernel.nD Cert.WinKernel.τ).loc Cert.WinKernel.main_arg1)
      ∧ r.2.mem ((c.tc : Thread Cert.WinKernel.nD Cert.WinKernel.τ).loc Cert.WinKernel.main_arg2) = m ((c.tc : Thread Cert.WinKernel.nD Cert.WinKernel.τ).loc Cert.WinKernel.main_arg2))
      ∧ r.2.sem = fun _ => 0)

def quiescent_WinKernelIdeal [hWinKernelIdeal : Cert.WinKernelIdeal.Facts] : Prop :=
  ∀ (m : (ℓ : Loc Cert.WinKernelIdeal.nD Cert.WinKernelIdeal.τ Cert.WinKernelIdeal.sig) → Buf (Elt Ideal) ℓ) (g : Dev Cert.WinKernelIdeal.nD → PrngReg), Pre_WinKernelIdeal m →
    θ_run (Cert.WinKernelIdeal.defs (F := Ideal)) (onTc (τ := Cert.WinKernelIdeal.τ) (Cert.WinKernelIdeal.main (F := Ideal))) ⟨m, fun _ => 0, g⟩ (fun r => (∀ c : Dev Cert.WinKernelIdeal.nD,
      r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
      ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1)
      ∧ r.2.mem ((c.tc : Thread Cert.WinKernelIdeal.nD Cert.WinKernelIdeal.τ).loc Cert.WinKernelIdeal.main_arg2) = m ((c.tc : Thread Cert.WinKernelIdeal.nD Cert.WinKernelIdeal.τ).loc Cert.WinKernelIdeal.main_arg2))
      ∧ r.2.sem = fun _ => 0)

def quiescent_WinReferenceIdeal [hWinReferenceIdeal : Cert.WinReferenceIdeal.Facts] : Prop :=
  ∀ (m : (ℓ : Loc Cert.WinReferenceIdeal.nD Cert.WinReferenceIdeal.τ Cert.WinReferenceIdeal.sig) → Buf (Elt Ideal) ℓ) (g : Dev Cert.WinReferenceIdeal.nD → PrngReg), Pre_WinReferenceIdeal m →
    θ_run (Cert.WinReferenceIdeal.defs (F := Ideal)) (onTc (τ := Cert.WinReferenceIdeal.τ) (Cert.WinReferenceIdeal.main (F := Ideal))) ⟨m, fun _ => 0, g⟩ (fun r => (∀ c : Dev Cert.WinReferenceIdeal.nD,
      r.2.mem ((c.tc : Thread Cert.WinReferenceIdeal.nD Cert.WinReferenceIdeal.τ).loc Cert.WinReferenceIdeal.main_arg0) = m ((c.tc : Thread Cert.WinReferenceIdeal.nD Cert.WinReferenceIdeal.τ).loc Cert.WinReferenceIdeal.main_arg0)
      ∧ r.2.mem ((c.tc : Thread Cert.WinReferenceIdeal.nD Cert.WinReferenceIdeal.τ).loc Cert.WinReferenceIdeal.main_arg1) = m ((c.tc : Thread Cert.WinReferenceIdeal.nD Cert.WinReferenceIdeal.τ).loc Cert.WinReferenceIdeal.main_arg1)
      ∧ r.2.mem ((c.tc : Thread Cert.WinReferenceIdeal.nD Cert.WinReferenceIdeal.τ).loc Cert.WinReferenceIdeal.main_arg2) = m ((c.tc : Thread Cert.WinReferenceIdeal.nD Cert.WinReferenceIdeal.τ).loc Cert.WinReferenceIdeal.main_arg2))
      ∧ r.2.sem = fun _ => 0)

def quiescent_InfKernel [hInfKernel : Cert.InfKernel.Facts] : Prop :=
  ∀ (m : (ℓ : Loc Cert.InfKernel.nD Cert.InfKernel.τ Cert.InfKernel.sig) → Buf (Elt Bits) ℓ) (g : Dev Cert.InfKernel.nD → PrngReg), Pre_InfKernel m →
    θ_run (Cert.InfKernel.defs (F := Bits)) (onTc (τ := Cert.InfKernel.τ) (Cert.InfKernel.main (F := Bits))) ⟨m, fun _ => 0, g⟩ (fun r => (∀ c : Dev Cert.InfKernel.nD,
      r.2.mem ((c.tc : Thread Cert.InfKernel.nD Cert.InfKernel.τ).loc Cert.InfKernel.main_arg0) = m ((c.tc : Thread Cert.InfKernel.nD Cert.InfKernel.τ).loc Cert.InfKernel.main_arg0)
      ∧ r.2.mem ((c.tc : Thread Cert.InfKernel.nD Cert.InfKernel.τ).loc Cert.InfKernel.main_arg1) = m ((c.tc : Thread Cert.InfKernel.nD Cert.InfKernel.τ).loc Cert.InfKernel.main_arg1))
      ∧ r.2.sem = fun _ => 0)

def quiescent_InfKernelIdeal [hInfKernelIdeal : Cert.InfKernelIdeal.Facts] : Prop :=
  ∀ (m : (ℓ : Loc Cert.InfKernelIdeal.nD Cert.InfKernelIdeal.τ Cert.InfKernelIdeal.sig) → Buf (Elt Ideal) ℓ) (g : Dev Cert.InfKernelIdeal.nD → PrngReg), Pre_InfKernelIdeal m →
    θ_run (Cert.InfKernelIdeal.defs (F := Ideal)) (onTc (τ := Cert.InfKernelIdeal.τ) (Cert.InfKernelIdeal.main (F := Ideal))) ⟨m, fun _ => 0, g⟩ (fun r => (∀ c : Dev Cert.InfKernelIdeal.nD,
      r.2.mem ((c.tc : Thread Cert.InfKernelIdeal.nD Cert.InfKernelIdeal.τ).loc Cert.InfKernelIdeal.main_arg0) = m ((c.tc : Thread Cert.InfKernelIdeal.nD Cert.InfKernelIdeal.τ).loc Cert.InfKernelIdeal.main_arg0)
      ∧ r.2.mem ((c.tc : Thread Cert.InfKernelIdeal.nD Cert.InfKernelIdeal.τ).loc Cert.InfKernelIdeal.main_arg1) = m ((c.tc : Thread Cert.InfKernelIdeal.nD Cert.InfKernelIdeal.τ).loc Cert.InfKernelIdeal.main_arg1))
      ∧ r.2.sem = fun _ => 0)

def quiescent_InfReferenceIdeal [hInfReferenceIdeal : Cert.InfReferenceIdeal.Facts] : Prop :=
  ∀ (m : (ℓ : Loc Cert.InfReferenceIdeal.nD Cert.InfReferenceIdeal.τ Cert.InfReferenceIdeal.sig) → Buf (Elt Ideal) ℓ) (g : Dev Cert.InfReferenceIdeal.nD → PrngReg), Pre_InfReferenceIdeal m →
    θ_run (Cert.InfReferenceIdeal.defs (F := Ideal)) (onTc (τ := Cert.InfReferenceIdeal.τ) (Cert.InfReferenceIdeal.main (F := Ideal))) ⟨m, fun _ => 0, g⟩ (fun r => (∀ c : Dev Cert.InfReferenceIdeal.nD,
      r.2.mem ((c.tc : Thread Cert.InfReferenceIdeal.nD Cert.InfReferenceIdeal.τ).loc Cert.InfReferenceIdeal.main_arg0) = m ((c.tc : Thread Cert.InfReferenceIdeal.nD Cert.InfReferenceIdeal.τ).loc Cert.InfReferenceIdeal.main_arg0)
      ∧ r.2.mem ((c.tc : Thread Cert.InfReferenceIdeal.nD Cert.InfReferenceIdeal.τ).loc Cert.InfReferenceIdeal.main_arg1) = m ((c.tc : Thread Cert.InfReferenceIdeal.nD Cert.InfReferenceIdeal.τ).loc Cert.InfReferenceIdeal.main_arg1))
      ∧ r.2.sem = fun _ => 0)

def quiescent_OutfKernel [hOutfKernel : Cert.OutfKernel.Facts] : Prop :=
  ∀ (m : (ℓ : Loc Cert.OutfKernel.nD Cert.OutfKernel.τ Cert.OutfKernel.sig) → Buf (Elt Bits) ℓ) (g : Dev Cert.OutfKernel.nD → PrngReg), Pre_OutfKernel m →
    θ_run (Cert.OutfKernel.defs (F := Bits)) (onTc (τ := Cert.OutfKernel.τ) (Cert.OutfKernel.main (F := Bits))) ⟨m, fun _ => 0, g⟩ (fun r => (∀ c : Dev Cert.OutfKernel.nD,
      r.2.mem ((c.tc : Thread Cert.OutfKernel.nD Cert.OutfKernel.τ).loc Cert.OutfKernel.main_arg0) = m ((c.tc : Thread Cert.OutfKernel.nD Cert.OutfKernel.τ).loc Cert.OutfKernel.main_arg0)
      ∧ r.2.mem ((c.tc : Thread Cert.OutfKernel.nD Cert.OutfKernel.τ).loc Cert.OutfKernel.main_arg1) = m ((c.tc : Thread Cert.OutfKernel.nD Cert.OutfKernel.τ).loc Cert.OutfKernel.main_arg1)
      ∧ r.2.mem ((c.tc : Thread Cert.OutfKernel.nD Cert.OutfKernel.τ).loc Cert.OutfKernel.main_arg2) = m ((c.tc : Thread Cert.OutfKernel.nD Cert.OutfKernel.τ).loc Cert.OutfKernel.main_arg2)
      ∧ r.2.mem ((c.tc : Thread Cert.OutfKernel.nD Cert.OutfKernel.τ).loc Cert.OutfKernel.main_arg3) = m ((c.tc : Thread Cert.OutfKernel.nD Cert.OutfKernel.τ).loc Cert.OutfKernel.main_arg3)
      ∧ r.2.mem ((c.tc : Thread Cert.OutfKernel.nD Cert.OutfKernel.τ).loc Cert.OutfKernel.main_arg4) = m ((c.tc : Thread Cert.OutfKernel.nD Cert.OutfKernel.τ).loc Cert.OutfKernel.main_arg4))
      ∧ r.2.sem = fun _ => 0)

def quiescent_OutfKernelIdeal [hOutfKernelIdeal : Cert.OutfKernelIdeal.Facts] : Prop :=
  ∀ (m : (ℓ : Loc Cert.OutfKernelIdeal.nD Cert.OutfKernelIdeal.τ Cert.OutfKernelIdeal.sig) → Buf (Elt Ideal) ℓ) (g : Dev Cert.OutfKernelIdeal.nD → PrngReg), Pre_OutfKernelIdeal m →
    θ_run (Cert.OutfKernelIdeal.defs (F := Ideal)) (onTc (τ := Cert.OutfKernelIdeal.τ) (Cert.OutfKernelIdeal.main (F := Ideal))) ⟨m, fun _ => 0, g⟩ (fun r => (∀ c : Dev Cert.OutfKernelIdeal.nD,
      r.2.mem ((c.tc : Thread Cert.OutfKernelIdeal.nD Cert.OutfKernelIdeal.τ).loc Cert.OutfKernelIdeal.main_arg0) = m ((c.tc : Thread Cert.OutfKernelIdeal.nD Cert.OutfKernelIdeal.τ).loc Cert.OutfKernelIdeal.main_arg0)
      ∧ r.2.mem ((c.tc : Thread Cert.OutfKernelIdeal.nD Cert.OutfKernelIdeal.τ).loc Cert.OutfKernelIdeal.main_arg1) = m ((c.tc : Thread Cert.OutfKernelIdeal.nD Cert.OutfKernelIdeal.τ).loc Cert.OutfKernelIdeal.main_arg1)
      ∧ r.2.mem ((c.tc : Thread Cert.OutfKernelIdeal.nD Cert.OutfKernelIdeal.τ).loc Cert.OutfKernelIdeal.main_arg2) = m ((c.tc : Thread Cert.OutfKernelIdeal.nD Cert.OutfKernelIdeal.τ).loc Cert.OutfKernelIdeal.main_arg2)
      ∧ r.2.mem ((c.tc : Thread Cert.OutfKernelIdeal.nD Cert.OutfKernelIdeal.τ).loc Cert.OutfKernelIdeal.main_arg3) = m ((c.tc : Thread Cert.OutfKernelIdeal.nD Cert.OutfKernelIdeal.τ).loc Cert.OutfKernelIdeal.main_arg3)
      ∧ r.2.mem ((c.tc : Thread Cert.OutfKernelIdeal.nD Cert.OutfKernelIdeal.τ).loc Cert.OutfKernelIdeal.main_arg4) = m ((c.tc : Thread Cert.OutfKernelIdeal.nD Cert.OutfKernelIdeal.τ).loc Cert.OutfKernelIdeal.main_arg4))
      ∧ r.2.sem = fun _ => 0)

def quiescent_OutfReferenceIdeal [hOutfReferenceIdeal : Cert.OutfReferenceIdeal.Facts] : Prop :=
  ∀ (m : (ℓ : Loc Cert.OutfReferenceIdeal.nD Cert.OutfReferenceIdeal.τ Cert.OutfReferenceIdeal.sig) → Buf (Elt Ideal) ℓ) (g : Dev Cert.OutfReferenceIdeal.nD → PrngReg), Pre_OutfReferenceIdeal m →
    θ_run (Cert.OutfReferenceIdeal.defs (F := Ideal)) (onTc (τ := Cert.OutfReferenceIdeal.τ) (Cert.OutfReferenceIdeal.main (F := Ideal))) ⟨m, fun _ => 0, g⟩ (fun r => (∀ c : Dev Cert.OutfReferenceIdeal.nD,
      r.2.mem ((c.tc : Thread Cert.OutfReferenceIdeal.nD Cert.OutfReferenceIdeal.τ).loc Cert.OutfReferenceIdeal.main_arg0) = m ((c.tc : Thread Cert.OutfReferenceIdeal.nD Cert.OutfReferenceIdeal.τ).loc Cert.OutfReferenceIdeal.main_arg0)
      ∧ r.2.mem ((c.tc : Thread Cert.OutfReferenceIdeal.nD Cert.OutfReferenceIdeal.τ).loc Cert.OutfReferenceIdeal.main_arg1) = m ((c.tc : Thread Cert.OutfReferenceIdeal.nD Cert.OutfReferenceIdeal.τ).loc Cert.OutfReferenceIdeal.main_arg1)
      ∧ r.2.mem ((c.tc : Thread Cert.OutfReferenceIdeal.nD Cert.OutfReferenceIdeal.τ).loc Cert.OutfReferenceIdeal.main_arg2) = m ((c.tc : Thread Cert.OutfReferenceIdeal.nD Cert.OutfReferenceIdeal.τ).loc Cert.OutfReferenceIdeal.main_arg2)
      ∧ r.2.mem ((c.tc : Thread Cert.OutfReferenceIdeal.nD Cert.OutfReferenceIdeal.τ).loc Cert.OutfReferenceIdeal.main_arg3) = m ((c.tc : Thread Cert.OutfReferenceIdeal.nD Cert.OutfReferenceIdeal.τ).loc Cert.OutfReferenceIdeal.main_arg3)
      ∧ r.2.mem ((c.tc : Thread Cert.OutfReferenceIdeal.nD Cert.OutfReferenceIdeal.τ).loc Cert.OutfReferenceIdeal.main_arg4) = m ((c.tc : Thread Cert.OutfReferenceIdeal.nD Cert.OutfReferenceIdeal.τ).loc Cert.OutfReferenceIdeal.main_arg4))
      ∧ r.2.sem = fun _ => 0)

def quiescent_AdamLnKernel [hAdamLnKernel : Cert.AdamLnKernel.Facts] : Prop :=
  ∀ (m : (ℓ : Loc Cert.AdamLnKernel.nD Cert.AdamLnKernel.τ Cert.AdamLnKernel.sig) → Buf (Elt Bits) ℓ) (g : Dev Cert.AdamLnKernel.nD → PrngReg), Pre_AdamLnKernel m →
    θ_run (Cert.AdamLnKernel.defs (F := Bits)) (onTc (τ := Cert.AdamLnKernel.τ) (Cert.AdamLnKernel.main (F := Bits))) ⟨m, fun _ => 0, g⟩ (fun r => (∀ c : Dev Cert.AdamLnKernel.nD,
      r.2.mem ((c.tc : Thread Cert.AdamLnKernel.nD Cert.AdamLnKernel.τ).loc Cert.AdamLnKernel.main_arg0) = m ((c.tc : Thread Cert.AdamLnKernel.nD Cert.AdamLnKernel.τ).loc Cert.AdamLnKernel.main_arg0)
      ∧ r.2.mem ((c.tc : Thread Cert.AdamLnKernel.nD Cert.AdamLnKernel.τ).loc Cert.AdamLnKernel.main_arg1) = m ((c.tc : Thread Cert.AdamLnKernel.nD Cert.AdamLnKernel.τ).loc Cert.AdamLnKernel.main_arg1)
      ∧ r.2.mem ((c.tc : Thread Cert.AdamLnKernel.nD Cert.AdamLnKernel.τ).loc Cert.AdamLnKernel.main_arg2) = m ((c.tc : Thread Cert.AdamLnKernel.nD Cert.AdamLnKernel.τ).loc Cert.AdamLnKernel.main_arg2)
      ∧ r.2.mem ((c.tc : Thread Cert.AdamLnKernel.nD Cert.AdamLnKernel.τ).loc Cert.AdamLnKernel.main_arg3) = m ((c.tc : Thread Cert.AdamLnKernel.nD Cert.AdamLnKernel.τ).loc Cert.AdamLnKernel.main_arg3))
      ∧ r.2.sem = fun _ => 0)

def quiescent_AdamLnKernelIdeal [hAdamLnKernelIdeal : Cert.AdamLnKernelIdeal.Facts] : Prop :=
  ∀ (m : (ℓ : Loc Cert.AdamLnKernelIdeal.nD Cert.AdamLnKernelIdeal.τ Cert.AdamLnKernelIdeal.sig) → Buf (Elt Ideal) ℓ) (g : Dev Cert.AdamLnKernelIdeal.nD → PrngReg), Pre_AdamLnKernelIdeal m →
    θ_run (Cert.AdamLnKernelIdeal.defs (F := Ideal)) (onTc (τ := Cert.AdamLnKernelIdeal.τ) (Cert.AdamLnKernelIdeal.main (F := Ideal))) ⟨m, fun _ => 0, g⟩ (fun r => (∀ c : Dev Cert.AdamLnKernelIdeal.nD,
      r.2.mem ((c.tc : Thread Cert.AdamLnKernelIdeal.nD Cert.AdamLnKernelIdeal.τ).loc Cert.AdamLnKernelIdeal.main_arg0) = m ((c.tc : Thread Cert.AdamLnKernelIdeal.nD Cert.AdamLnKernelIdeal.τ).loc Cert.AdamLnKernelIdeal.main_arg0)
      ∧ r.2.mem ((c.tc : Thread Cert.AdamLnKernelIdeal.nD Cert.AdamLnKernelIdeal.τ).loc Cert.AdamLnKernelIdeal.main_arg1) = m ((c.tc : Thread Cert.AdamLnKernelIdeal.nD Cert.AdamLnKernelIdeal.τ).loc Cert.AdamLnKernelIdeal.main_arg1)
      ∧ r.2.mem ((c.tc : Thread Cert.AdamLnKernelIdeal.nD Cert.AdamLnKernelIdeal.τ).loc Cert.AdamLnKernelIdeal.main_arg2) = m ((c.tc : Thread Cert.AdamLnKernelIdeal.nD Cert.AdamLnKernelIdeal.τ).loc Cert.AdamLnKernelIdeal.main_arg2)
      ∧ r.2.mem ((c.tc : Thread Cert.AdamLnKernelIdeal.nD Cert.AdamLnKernelIdeal.τ).loc Cert.AdamLnKernelIdeal.main_arg3) = m ((c.tc : Thread Cert.AdamLnKernelIdeal.nD Cert.AdamLnKernelIdeal.τ).loc Cert.AdamLnKernelIdeal.main_arg3))
      ∧ r.2.sem = fun _ => 0)

def quiescent_AdamLnReferenceIdeal [hAdamLnReferenceIdeal : Cert.AdamLnReferenceIdeal.Facts] : Prop :=
  ∀ (m : (ℓ : Loc Cert.AdamLnReferenceIdeal.nD Cert.AdamLnReferenceIdeal.τ Cert.AdamLnReferenceIdeal.sig) → Buf (Elt Ideal) ℓ) (g : Dev Cert.AdamLnReferenceIdeal.nD → PrngReg), Pre_AdamLnReferenceIdeal m →
    θ_run (Cert.AdamLnReferenceIdeal.defs (F := Ideal)) (onTc (τ := Cert.AdamLnReferenceIdeal.τ) (Cert.AdamLnReferenceIdeal.main (F := Ideal))) ⟨m, fun _ => 0, g⟩ (fun r => (∀ c : Dev Cert.AdamLnReferenceIdeal.nD,
      r.2.mem ((c.tc : Thread Cert.AdamLnReferenceIdeal.nD Cert.AdamLnReferenceIdeal.τ).loc Cert.AdamLnReferenceIdeal.main_arg0) = m ((c.tc : Thread Cert.AdamLnReferenceIdeal.nD Cert.AdamLnReferenceIdeal.τ).loc Cert.AdamLnReferenceIdeal.main_arg0)
      ∧ r.2.mem ((c.tc : Thread Cert.AdamLnReferenceIdeal.nD Cert.AdamLnReferenceIdeal.τ).loc Cert.AdamLnReferenceIdeal.main_arg1) = m ((c.tc : Thread Cert.AdamLnReferenceIdeal.nD Cert.AdamLnReferenceIdeal.τ).loc Cert.AdamLnReferenceIdeal.main_arg1)
      ∧ r.2.mem ((c.tc : Thread Cert.AdamLnReferenceIdeal.nD Cert.AdamLnReferenceIdeal.τ).loc Cert.AdamLnReferenceIdeal.main_arg2) = m ((c.tc : Thread Cert.AdamLnReferenceIdeal.nD Cert.AdamLnReferenceIdeal.τ).loc Cert.AdamLnReferenceIdeal.main_arg2)
      ∧ r.2.mem ((c.tc : Thread Cert.AdamLnReferenceIdeal.nD Cert.AdamLnReferenceIdeal.τ).loc Cert.AdamLnReferenceIdeal.main_arg3) = m ((c.tc : Thread Cert.AdamLnReferenceIdeal.nD Cert.AdamLnReferenceIdeal.τ).loc Cert.AdamLnReferenceIdeal.main_arg3))
      ∧ r.2.sem = fun _ => 0)

def quiescent_AdamCvKernel [hAdamCvKernel : Cert.AdamCvKernel.Facts] : Prop :=
  ∀ (m : (ℓ : Loc Cert.AdamCvKernel.nD Cert.AdamCvKernel.τ Cert.AdamCvKernel.sig) → Buf (Elt Bits) ℓ) (g : Dev Cert.AdamCvKernel.nD → PrngReg), Pre_AdamCvKernel m →
    θ_run (Cert.AdamCvKernel.defs (F := Bits)) (onTc (τ := Cert.AdamCvKernel.τ) (Cert.AdamCvKernel.main (F := Bits))) ⟨m, fun _ => 0, g⟩ (fun r => (∀ c : Dev Cert.AdamCvKernel.nD,
      r.2.mem ((c.tc : Thread Cert.AdamCvKernel.nD Cert.AdamCvKernel.τ).loc Cert.AdamCvKernel.main_arg0) = m ((c.tc : Thread Cert.AdamCvKernel.nD Cert.AdamCvKernel.τ).loc Cert.AdamCvKernel.main_arg0)
      ∧ r.2.mem ((c.tc : Thread Cert.AdamCvKernel.nD Cert.AdamCvKernel.τ).loc Cert.AdamCvKernel.main_arg1) = m ((c.tc : Thread Cert.AdamCvKernel.nD Cert.AdamCvKernel.τ).loc Cert.AdamCvKernel.main_arg1)
      ∧ r.2.mem ((c.tc : Thread Cert.AdamCvKernel.nD Cert.AdamCvKernel.τ).loc Cert.AdamCvKernel.main_arg2) = m ((c.tc : Thread Cert.AdamCvKernel.nD Cert.AdamCvKernel.τ).loc Cert.AdamCvKernel.main_arg2)
      ∧ r.2.mem ((c.tc : Thread Cert.AdamCvKernel.nD Cert.AdamCvKernel.τ).loc Cert.AdamCvKernel.main_arg3) = m ((c.tc : Thread Cert.AdamCvKernel.nD Cert.AdamCvKernel.τ).loc Cert.AdamCvKernel.main_arg3))
      ∧ r.2.sem = fun _ => 0)

def quiescent_AdamCvKernelIdeal [hAdamCvKernelIdeal : Cert.AdamCvKernelIdeal.Facts] : Prop :=
  ∀ (m : (ℓ : Loc Cert.AdamCvKernelIdeal.nD Cert.AdamCvKernelIdeal.τ Cert.AdamCvKernelIdeal.sig) → Buf (Elt Ideal) ℓ) (g : Dev Cert.AdamCvKernelIdeal.nD → PrngReg), Pre_AdamCvKernelIdeal m →
    θ_run (Cert.AdamCvKernelIdeal.defs (F := Ideal)) (onTc (τ := Cert.AdamCvKernelIdeal.τ) (Cert.AdamCvKernelIdeal.main (F := Ideal))) ⟨m, fun _ => 0, g⟩ (fun r => (∀ c : Dev Cert.AdamCvKernelIdeal.nD,
      r.2.mem ((c.tc : Thread Cert.AdamCvKernelIdeal.nD Cert.AdamCvKernelIdeal.τ).loc Cert.AdamCvKernelIdeal.main_arg0) = m ((c.tc : Thread Cert.AdamCvKernelIdeal.nD Cert.AdamCvKernelIdeal.τ).loc Cert.AdamCvKernelIdeal.main_arg0)
      ∧ r.2.mem ((c.tc : Thread Cert.AdamCvKernelIdeal.nD Cert.AdamCvKernelIdeal.τ).loc Cert.AdamCvKernelIdeal.main_arg1) = m ((c.tc : Thread Cert.AdamCvKernelIdeal.nD Cert.AdamCvKernelIdeal.τ).loc Cert.AdamCvKernelIdeal.main_arg1)
      ∧ r.2.mem ((c.tc : Thread Cert.AdamCvKernelIdeal.nD Cert.AdamCvKernelIdeal.τ).loc Cert.AdamCvKernelIdeal.main_arg2) = m ((c.tc : Thread Cert.AdamCvKernelIdeal.nD Cert.AdamCvKernelIdeal.τ).loc Cert.AdamCvKernelIdeal.main_arg2)
      ∧ r.2.mem ((c.tc : Thread Cert.AdamCvKernelIdeal.nD Cert.AdamCvKernelIdeal.τ).loc Cert.AdamCvKernelIdeal.main_arg3) = m ((c.tc : Thread Cert.AdamCvKernelIdeal.nD Cert.AdamCvKernelIdeal.τ).loc Cert.AdamCvKernelIdeal.main_arg3))
      ∧ r.2.sem = fun _ => 0)

def quiescent_AdamCvReferenceIdeal [hAdamCvReferenceIdeal : Cert.AdamCvReferenceIdeal.Facts] : Prop :=
  ∀ (m : (ℓ : Loc Cert.AdamCvReferenceIdeal.nD Cert.AdamCvReferenceIdeal.τ Cert.AdamCvReferenceIdeal.sig) → Buf (Elt Ideal) ℓ) (g : Dev Cert.AdamCvReferenceIdeal.nD → PrngReg), Pre_AdamCvReferenceIdeal m →
    θ_run (Cert.AdamCvReferenceIdeal.defs (F := Ideal)) (onTc (τ := Cert.AdamCvReferenceIdeal.τ) (Cert.AdamCvReferenceIdeal.main (F := Ideal))) ⟨m, fun _ => 0, g⟩ (fun r => (∀ c : Dev Cert.AdamCvReferenceIdeal.nD,
      r.2.mem ((c.tc : Thread Cert.AdamCvReferenceIdeal.nD Cert.AdamCvReferenceIdeal.τ).loc Cert.AdamCvReferenceIdeal.main_arg0) = m ((c.tc : Thread Cert.AdamCvReferenceIdeal.nD Cert.AdamCvReferenceIdeal.τ).loc Cert.AdamCvReferenceIdeal.main_arg0)
      ∧ r.2.mem ((c.tc : Thread Cert.AdamCvReferenceIdeal.nD Cert.AdamCvReferenceIdeal.τ).loc Cert.AdamCvReferenceIdeal.main_arg1) = m ((c.tc : Thread Cert.AdamCvReferenceIdeal.nD Cert.AdamCvReferenceIdeal.τ).loc Cert.AdamCvReferenceIdeal.main_arg1)
      ∧ r.2.mem ((c.tc : Thread Cert.AdamCvReferenceIdeal.nD Cert.AdamCvReferenceIdeal.τ).loc Cert.AdamCvReferenceIdeal.main_arg2) = m ((c.tc : Thread Cert.AdamCvReferenceIdeal.nD Cert.AdamCvReferenceIdeal.τ).loc Cert.AdamCvReferenceIdeal.main_arg2)
      ∧ r.2.mem ((c.tc : Thread Cert.AdamCvReferenceIdeal.nD Cert.AdamCvReferenceIdeal.τ).loc Cert.AdamCvReferenceIdeal.main_arg3) = m ((c.tc : Thread Cert.AdamCvReferenceIdeal.nD Cert.AdamCvReferenceIdeal.τ).loc Cert.AdamCvReferenceIdeal.main_arg3))
      ∧ r.2.sem = fun _ => 0)

def quiescent_AdamGtKernel [hAdamGtKernel : Cert.AdamGtKernel.Facts] : Prop :=
  ∀ (m : (ℓ : Loc Cert.AdamGtKernel.nD Cert.AdamGtKernel.τ Cert.AdamGtKernel.sig) → Buf (Elt Bits) ℓ) (g : Dev Cert.AdamGtKernel.nD → PrngReg), Pre_AdamGtKernel m →
    θ_run (Cert.AdamGtKernel.defs (F := Bits)) (onTc (τ := Cert.AdamGtKernel.τ) (Cert.AdamGtKernel.main (F := Bits))) ⟨m, fun _ => 0, g⟩ (fun r => (∀ c : Dev Cert.AdamGtKernel.nD,
      r.2.mem ((c.tc : Thread Cert.AdamGtKernel.nD Cert.AdamGtKernel.τ).loc Cert.AdamGtKernel.main_arg0) = m ((c.tc : Thread Cert.AdamGtKernel.nD Cert.AdamGtKernel.τ).loc Cert.AdamGtKernel.main_arg0)
      ∧ r.2.mem ((c.tc : Thread Cert.AdamGtKernel.nD Cert.AdamGtKernel.τ).loc Cert.AdamGtKernel.main_arg1) = m ((c.tc : Thread Cert.AdamGtKernel.nD Cert.AdamGtKernel.τ).loc Cert.AdamGtKernel.main_arg1)
      ∧ r.2.mem ((c.tc : Thread Cert.AdamGtKernel.nD Cert.AdamGtKernel.τ).loc Cert.AdamGtKernel.main_arg2) = m ((c.tc : Thread Cert.AdamGtKernel.nD Cert.AdamGtKernel.τ).loc Cert.AdamGtKernel.main_arg2)
      ∧ r.2.mem ((c.tc : Thread Cert.AdamGtKernel.nD Cert.AdamGtKernel.τ).loc Cert.AdamGtKernel.main_arg3) = m ((c.tc : Thread Cert.AdamGtKernel.nD Cert.AdamGtKernel.τ).loc Cert.AdamGtKernel.main_arg3))
      ∧ r.2.sem = fun _ => 0)

def quiescent_AdamGtKernelIdeal [hAdamGtKernelIdeal : Cert.AdamGtKernelIdeal.Facts] : Prop :=
  ∀ (m : (ℓ : Loc Cert.AdamGtKernelIdeal.nD Cert.AdamGtKernelIdeal.τ Cert.AdamGtKernelIdeal.sig) → Buf (Elt Ideal) ℓ) (g : Dev Cert.AdamGtKernelIdeal.nD → PrngReg), Pre_AdamGtKernelIdeal m →
    θ_run (Cert.AdamGtKernelIdeal.defs (F := Ideal)) (onTc (τ := Cert.AdamGtKernelIdeal.τ) (Cert.AdamGtKernelIdeal.main (F := Ideal))) ⟨m, fun _ => 0, g⟩ (fun r => (∀ c : Dev Cert.AdamGtKernelIdeal.nD,
      r.2.mem ((c.tc : Thread Cert.AdamGtKernelIdeal.nD Cert.AdamGtKernelIdeal.τ).loc Cert.AdamGtKernelIdeal.main_arg0) = m ((c.tc : Thread Cert.AdamGtKernelIdeal.nD Cert.AdamGtKernelIdeal.τ).loc Cert.AdamGtKernelIdeal.main_arg0)
      ∧ r.2.mem ((c.tc : Thread Cert.AdamGtKernelIdeal.nD Cert.AdamGtKernelIdeal.τ).loc Cert.AdamGtKernelIdeal.main_arg1) = m ((c.tc : Thread Cert.AdamGtKernelIdeal.nD Cert.AdamGtKernelIdeal.τ).loc Cert.AdamGtKernelIdeal.main_arg1)
      ∧ r.2.mem ((c.tc : Thread Cert.AdamGtKernelIdeal.nD Cert.AdamGtKernelIdeal.τ).loc Cert.AdamGtKernelIdeal.main_arg2) = m ((c.tc : Thread Cert.AdamGtKernelIdeal.nD Cert.AdamGtKernelIdeal.τ).loc Cert.AdamGtKernelIdeal.main_arg2)
      ∧ r.2.mem ((c.tc : Thread Cert.AdamGtKernelIdeal.nD Cert.AdamGtKernelIdeal.τ).loc Cert.AdamGtKernelIdeal.main_arg3) = m ((c.tc : Thread Cert.AdamGtKernelIdeal.nD Cert.AdamGtKernelIdeal.τ).loc Cert.AdamGtKernelIdeal.main_arg3))
      ∧ r.2.sem = fun _ => 0)

def quiescent_AdamGtReferenceIdeal [hAdamGtReferenceIdeal : Cert.AdamGtReferenceIdeal.Facts] : Prop :=
  ∀ (m : (ℓ : Loc Cert.AdamGtReferenceIdeal.nD Cert.AdamGtReferenceIdeal.τ Cert.AdamGtReferenceIdeal.sig) → Buf (Elt Ideal) ℓ) (g : Dev Cert.AdamGtReferenceIdeal.nD → PrngReg), Pre_AdamGtReferenceIdeal m →
    θ_run (Cert.AdamGtReferenceIdeal.defs (F := Ideal)) (onTc (τ := Cert.AdamGtReferenceIdeal.τ) (Cert.AdamGtReferenceIdeal.main (F := Ideal))) ⟨m, fun _ => 0, g⟩ (fun r => (∀ c : Dev Cert.AdamGtReferenceIdeal.nD,
      r.2.mem ((c.tc : Thread Cert.AdamGtReferenceIdeal.nD Cert.AdamGtReferenceIdeal.τ).loc Cert.AdamGtReferenceIdeal.main_arg0) = m ((c.tc : Thread Cert.AdamGtReferenceIdeal.nD Cert.AdamGtReferenceIdeal.τ).loc Cert.AdamGtReferenceIdeal.main_arg0)
      ∧ r.2.mem ((c.tc : Thread Cert.AdamGtReferenceIdeal.nD Cert.AdamGtReferenceIdeal.τ).loc Cert.AdamGtReferenceIdeal.main_arg1) = m ((c.tc : Thread Cert.AdamGtReferenceIdeal.nD Cert.AdamGtReferenceIdeal.τ).loc Cert.AdamGtReferenceIdeal.main_arg1)
      ∧ r.2.mem ((c.tc : Thread Cert.AdamGtReferenceIdeal.nD Cert.AdamGtReferenceIdeal.τ).loc Cert.AdamGtReferenceIdeal.main_arg2) = m ((c.tc : Thread Cert.AdamGtReferenceIdeal.nD Cert.AdamGtReferenceIdeal.τ).loc Cert.AdamGtReferenceIdeal.main_arg2)
      ∧ r.2.mem ((c.tc : Thread Cert.AdamGtReferenceIdeal.nD Cert.AdamGtReferenceIdeal.τ).loc Cert.AdamGtReferenceIdeal.main_arg3) = m ((c.tc : Thread Cert.AdamGtReferenceIdeal.nD Cert.AdamGtReferenceIdeal.τ).loc Cert.AdamGtReferenceIdeal.main_arg3))
      ∧ r.2.sem = fun _ => 0)

def quiescent_AdamQkKernel [hAdamQkKernel : Cert.AdamQkKernel.Facts] : Prop :=
  ∀ (m : (ℓ : Loc Cert.AdamQkKernel.nD Cert.AdamQkKernel.τ Cert.AdamQkKernel.sig) → Buf (Elt Bits) ℓ) (g : Dev Cert.AdamQkKernel.nD → PrngReg), Pre_AdamQkKernel m →
    θ_run (Cert.AdamQkKernel.defs (F := Bits)) (onTc (τ := Cert.AdamQkKernel.τ) (Cert.AdamQkKernel.main (F := Bits))) ⟨m, fun _ => 0, g⟩ (fun r => (∀ c : Dev Cert.AdamQkKernel.nD,
      r.2.mem ((c.tc : Thread Cert.AdamQkKernel.nD Cert.AdamQkKernel.τ).loc Cert.AdamQkKernel.main_arg0) = m ((c.tc : Thread Cert.AdamQkKernel.nD Cert.AdamQkKernel.τ).loc Cert.AdamQkKernel.main_arg0)
      ∧ r.2.mem ((c.tc : Thread Cert.AdamQkKernel.nD Cert.AdamQkKernel.τ).loc Cert.AdamQkKernel.main_arg1) = m ((c.tc : Thread Cert.AdamQkKernel.nD Cert.AdamQkKernel.τ).loc Cert.AdamQkKernel.main_arg1)
      ∧ r.2.mem ((c.tc : Thread Cert.AdamQkKernel.nD Cert.AdamQkKernel.τ).loc Cert.AdamQkKernel.main_arg2) = m ((c.tc : Thread Cert.AdamQkKernel.nD Cert.AdamQkKernel.τ).loc Cert.AdamQkKernel.main_arg2)
      ∧ r.2.mem ((c.tc : Thread Cert.AdamQkKernel.nD Cert.AdamQkKernel.τ).loc Cert.AdamQkKernel.main_arg3) = m ((c.tc : Thread Cert.AdamQkKernel.nD Cert.AdamQkKernel.τ).loc Cert.AdamQkKernel.main_arg3))
      ∧ r.2.sem = fun _ => 0)

def quiescent_AdamQkKernelIdeal [hAdamQkKernelIdeal : Cert.AdamQkKernelIdeal.Facts] : Prop :=
  ∀ (m : (ℓ : Loc Cert.AdamQkKernelIdeal.nD Cert.AdamQkKernelIdeal.τ Cert.AdamQkKernelIdeal.sig) → Buf (Elt Ideal) ℓ) (g : Dev Cert.AdamQkKernelIdeal.nD → PrngReg), Pre_AdamQkKernelIdeal m →
    θ_run (Cert.AdamQkKernelIdeal.defs (F := Ideal)) (onTc (τ := Cert.AdamQkKernelIdeal.τ) (Cert.AdamQkKernelIdeal.main (F := Ideal))) ⟨m, fun _ => 0, g⟩ (fun r => (∀ c : Dev Cert.AdamQkKernelIdeal.nD,
      r.2.mem ((c.tc : Thread Cert.AdamQkKernelIdeal.nD Cert.AdamQkKernelIdeal.τ).loc Cert.AdamQkKernelIdeal.main_arg0) = m ((c.tc : Thread Cert.AdamQkKernelIdeal.nD Cert.AdamQkKernelIdeal.τ).loc Cert.AdamQkKernelIdeal.main_arg0)
      ∧ r.2.mem ((c.tc : Thread Cert.AdamQkKernelIdeal.nD Cert.AdamQkKernelIdeal.τ).loc Cert.AdamQkKernelIdeal.main_arg1) = m ((c.tc : Thread Cert.AdamQkKernelIdeal.nD Cert.AdamQkKernelIdeal.τ).loc Cert.AdamQkKernelIdeal.main_arg1)
      ∧ r.2.mem ((c.tc : Thread Cert.AdamQkKernelIdeal.nD Cert.AdamQkKernelIdeal.τ).loc Cert.AdamQkKernelIdeal.main_arg2) = m ((c.tc : Thread Cert.AdamQkKernelIdeal.nD Cert.AdamQkKernelIdeal.τ).loc Cert.AdamQkKernelIdeal.main_arg2)
      ∧ r.2.mem ((c.tc : Thread Cert.AdamQkKernelIdeal.nD Cert.AdamQkKernelIdeal.τ).loc Cert.AdamQkKernelIdeal.main_arg3) = m ((c.tc : Thread Cert.AdamQkKernelIdeal.nD Cert.AdamQkKernelIdeal.τ).loc Cert.AdamQkKernelIdeal.main_arg3))
      ∧ r.2.sem = fun _ => 0)

def quiescent_AdamQkReferenceIdeal [hAdamQkReferenceIdeal : Cert.AdamQkReferenceIdeal.Facts] : Prop :=
  ∀ (m : (ℓ : Loc Cert.AdamQkReferenceIdeal.nD Cert.AdamQkReferenceIdeal.τ Cert.AdamQkReferenceIdeal.sig) → Buf (Elt Ideal) ℓ) (g : Dev Cert.AdamQkReferenceIdeal.nD → PrngReg), Pre_AdamQkReferenceIdeal m →
    θ_run (Cert.AdamQkReferenceIdeal.defs (F := Ideal)) (onTc (τ := Cert.AdamQkReferenceIdeal.τ) (Cert.AdamQkReferenceIdeal.main (F := Ideal))) ⟨m, fun _ => 0, g⟩ (fun r => (∀ c : Dev Cert.AdamQkReferenceIdeal.nD,
      r.2.mem ((c.tc : Thread Cert.AdamQkReferenceIdeal.nD Cert.AdamQkReferenceIdeal.τ).loc Cert.AdamQkReferenceIdeal.main_arg0) = m ((c.tc : Thread Cert.AdamQkReferenceIdeal.nD Cert.AdamQkReferenceIdeal.τ).loc Cert.AdamQkReferenceIdeal.main_arg0)
      ∧ r.2.mem ((c.tc : Thread Cert.AdamQkReferenceIdeal.nD Cert.AdamQkReferenceIdeal.τ).loc Cert.AdamQkReferenceIdeal.main_arg1) = m ((c.tc : Thread Cert.AdamQkReferenceIdeal.nD Cert.AdamQkReferenceIdeal.τ).loc Cert.AdamQkReferenceIdeal.main_arg1)
      ∧ r.2.mem ((c.tc : Thread Cert.AdamQkReferenceIdeal.nD Cert.AdamQkReferenceIdeal.τ).loc Cert.AdamQkReferenceIdeal.main_arg2) = m ((c.tc : Thread Cert.AdamQkReferenceIdeal.nD Cert.AdamQkReferenceIdeal.τ).loc Cert.AdamQkReferenceIdeal.main_arg2)
      ∧ r.2.mem ((c.tc : Thread Cert.AdamQkReferenceIdeal.nD Cert.AdamQkReferenceIdeal.τ).loc Cert.AdamQkReferenceIdeal.main_arg3) = m ((c.tc : Thread Cert.AdamQkReferenceIdeal.nD Cert.AdamQkReferenceIdeal.τ).loc Cert.AdamQkReferenceIdeal.main_arg3))
      ∧ r.2.sem = fun _ => 0)

def quiescent_AdamHnKernel [hAdamHnKernel : Cert.AdamHnKernel.Facts] : Prop :=
  ∀ (m : (ℓ : Loc Cert.AdamHnKernel.nD Cert.AdamHnKernel.τ Cert.AdamHnKernel.sig) → Buf (Elt Bits) ℓ) (g : Dev Cert.AdamHnKernel.nD → PrngReg), Pre_AdamHnKernel m →
    θ_run (Cert.AdamHnKernel.defs (F := Bits)) (onTc (τ := Cert.AdamHnKernel.τ) (Cert.AdamHnKernel.main (F := Bits))) ⟨m, fun _ => 0, g⟩ (fun r => (∀ c : Dev Cert.AdamHnKernel.nD,
      r.2.mem ((c.tc : Thread Cert.AdamHnKernel.nD Cert.AdamHnKernel.τ).loc Cert.AdamHnKernel.main_arg0) = m ((c.tc : Thread Cert.AdamHnKernel.nD Cert.AdamHnKernel.τ).loc Cert.AdamHnKernel.main_arg0)
      ∧ r.2.mem ((c.tc : Thread Cert.AdamHnKernel.nD Cert.AdamHnKernel.τ).loc Cert.AdamHnKernel.main_arg1) = m ((c.tc : Thread Cert.AdamHnKernel.nD Cert.AdamHnKernel.τ).loc Cert.AdamHnKernel.main_arg1)
      ∧ r.2.mem ((c.tc : Thread Cert.AdamHnKernel.nD Cert.AdamHnKernel.τ).loc Cert.AdamHnKernel.main_arg2) = m ((c.tc : Thread Cert.AdamHnKernel.nD Cert.AdamHnKernel.τ).loc Cert.AdamHnKernel.main_arg2)
      ∧ r.2.mem ((c.tc : Thread Cert.AdamHnKernel.nD Cert.AdamHnKernel.τ).loc Cert.AdamHnKernel.main_arg3) = m ((c.tc : Thread Cert.AdamHnKernel.nD Cert.AdamHnKernel.τ).loc Cert.AdamHnKernel.main_arg3))
      ∧ r.2.sem = fun _ => 0)

def quiescent_AdamHnKernelIdeal [hAdamHnKernelIdeal : Cert.AdamHnKernelIdeal.Facts] : Prop :=
  ∀ (m : (ℓ : Loc Cert.AdamHnKernelIdeal.nD Cert.AdamHnKernelIdeal.τ Cert.AdamHnKernelIdeal.sig) → Buf (Elt Ideal) ℓ) (g : Dev Cert.AdamHnKernelIdeal.nD → PrngReg), Pre_AdamHnKernelIdeal m →
    θ_run (Cert.AdamHnKernelIdeal.defs (F := Ideal)) (onTc (τ := Cert.AdamHnKernelIdeal.τ) (Cert.AdamHnKernelIdeal.main (F := Ideal))) ⟨m, fun _ => 0, g⟩ (fun r => (∀ c : Dev Cert.AdamHnKernelIdeal.nD,
      r.2.mem ((c.tc : Thread Cert.AdamHnKernelIdeal.nD Cert.AdamHnKernelIdeal.τ).loc Cert.AdamHnKernelIdeal.main_arg0) = m ((c.tc : Thread Cert.AdamHnKernelIdeal.nD Cert.AdamHnKernelIdeal.τ).loc Cert.AdamHnKernelIdeal.main_arg0)
      ∧ r.2.mem ((c.tc : Thread Cert.AdamHnKernelIdeal.nD Cert.AdamHnKernelIdeal.τ).loc Cert.AdamHnKernelIdeal.main_arg1) = m ((c.tc : Thread Cert.AdamHnKernelIdeal.nD Cert.AdamHnKernelIdeal.τ).loc Cert.AdamHnKernelIdeal.main_arg1)
      ∧ r.2.mem ((c.tc : Thread Cert.AdamHnKernelIdeal.nD Cert.AdamHnKernelIdeal.τ).loc Cert.AdamHnKernelIdeal.main_arg2) = m ((c.tc : Thread Cert.AdamHnKernelIdeal.nD Cert.AdamHnKernelIdeal.τ).loc Cert.AdamHnKernelIdeal.main_arg2)
      ∧ r.2.mem ((c.tc : Thread Cert.AdamHnKernelIdeal.nD Cert.AdamHnKernelIdeal.τ).loc Cert.AdamHnKernelIdeal.main_arg3) = m ((c.tc : Thread Cert.AdamHnKernelIdeal.nD Cert.AdamHnKernelIdeal.τ).loc Cert.AdamHnKernelIdeal.main_arg3))
      ∧ r.2.sem = fun _ => 0)

def quiescent_AdamHnReferenceIdeal [hAdamHnReferenceIdeal : Cert.AdamHnReferenceIdeal.Facts] : Prop :=
  ∀ (m : (ℓ : Loc Cert.AdamHnReferenceIdeal.nD Cert.AdamHnReferenceIdeal.τ Cert.AdamHnReferenceIdeal.sig) → Buf (Elt Ideal) ℓ) (g : Dev Cert.AdamHnReferenceIdeal.nD → PrngReg), Pre_AdamHnReferenceIdeal m →
    θ_run (Cert.AdamHnReferenceIdeal.defs (F := Ideal)) (onTc (τ := Cert.AdamHnReferenceIdeal.τ) (Cert.AdamHnReferenceIdeal.main (F := Ideal))) ⟨m, fun _ => 0, g⟩ (fun r => (∀ c : Dev Cert.AdamHnReferenceIdeal.nD,
      r.2.mem ((c.tc : Thread Cert.AdamHnReferenceIdeal.nD Cert.AdamHnReferenceIdeal.τ).loc Cert.AdamHnReferenceIdeal.main_arg0) = m ((c.tc : Thread Cert.AdamHnReferenceIdeal.nD Cert.AdamHnReferenceIdeal.τ).loc Cert.AdamHnReferenceIdeal.main_arg0)
      ∧ r.2.mem ((c.tc : Thread Cert.AdamHnReferenceIdeal.nD Cert.AdamHnReferenceIdeal.τ).loc Cert.AdamHnReferenceIdeal.main_arg1) = m ((c.tc : Thread Cert.AdamHnReferenceIdeal.nD Cert.AdamHnReferenceIdeal.τ).loc Cert.AdamHnReferenceIdeal.main_arg1)
      ∧ r.2.mem ((c.tc : Thread Cert.AdamHnReferenceIdeal.nD Cert.AdamHnReferenceIdeal.τ).loc Cert.AdamHnReferenceIdeal.main_arg2) = m ((c.tc : Thread Cert.AdamHnReferenceIdeal.nD Cert.AdamHnReferenceIdeal.τ).loc Cert.AdamHnReferenceIdeal.main_arg2)
      ∧ r.2.mem ((c.tc : Thread Cert.AdamHnReferenceIdeal.nD Cert.AdamHnReferenceIdeal.τ).loc Cert.AdamHnReferenceIdeal.main_arg3) = m ((c.tc : Thread Cert.AdamHnReferenceIdeal.nD Cert.AdamHnReferenceIdeal.τ).loc Cert.AdamHnReferenceIdeal.main_arg3))
      ∧ r.2.sem = fun _ => 0)

def preserves_ConvKernel_ConvKernelIdeal : Prop :=
  True

def algebraic_ConvKernelIdeal_ConvReferenceIdeal [hConvKernelIdeal : Cert.ConvKernelIdeal.Facts] [hConvReferenceIdeal : Cert.ConvReferenceIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)) →
    ∃ (v0 : (c : Dev Cert.ConvKernelIdeal.nD) → Buf (Elt Ideal) ((c.tc : Thread Cert.ConvKernelIdeal.nD Cert.ConvKernelIdeal.τ).loc Cert.ConvKernelIdeal.main_v10_0)) (v1 : (c : Dev Cert.ConvKernelIdeal.nD) → Buf (Elt Ideal) ((c.tc : Thread Cert.ConvKernelIdeal.nD Cert.ConvKernelIdeal.τ).loc Cert.ConvKernelIdeal.main_v10_1)) (v2 : (c : Dev Cert.ConvKernelIdeal.nD) → Buf (Elt Ideal) ((c.tc : Thread Cert.ConvKernelIdeal.nD Cert.ConvKernelIdeal.τ).loc Cert.ConvKernelIdeal.main_v10_2)) (v3 : (c : Dev Cert.ConvKernelIdeal.nD) → Buf (Elt Ideal) ((c.tc : Thread Cert.ConvKernelIdeal.nD Cert.ConvKernelIdeal.τ).loc Cert.ConvKernelIdeal.main_v10_3)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v10_0) = v0 c
          ∧ r.2.mem ((c.tc : Thread Cert.ConvKernelIdeal.nD Cert.ConvKernelIdeal.τ).loc Cert.ConvKernelIdeal.main_v10_1) = v1 c
          ∧ r.2.mem ((c.tc : Thread Cert.ConvKernelIdeal.nD Cert.ConvKernelIdeal.τ).loc Cert.ConvKernelIdeal.main_v10_2) = v2 c
          ∧ r.2.mem ((c.tc : Thread Cert.ConvKernelIdeal.nD Cert.ConvKernelIdeal.τ).loc Cert.ConvKernelIdeal.main_v10_3) = v3 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v74) = v0 c
          ∧ r.2.mem ((c.tc : Thread Cert.ConvReferenceIdeal.nD Cert.ConvReferenceIdeal.τ).loc Cert.ConvReferenceIdeal.main_v78) = v1 c
          ∧ r.2.mem ((c.tc : Thread Cert.ConvReferenceIdeal.nD Cert.ConvReferenceIdeal.τ).loc Cert.ConvReferenceIdeal.main_v82) = v2 c
          ∧ r.2.mem ((c.tc : Thread Cert.ConvReferenceIdeal.nD Cert.ConvReferenceIdeal.τ).loc Cert.ConvReferenceIdeal.main_v85) = v3 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2))

def preserves_MlKernel_MlKernelIdeal : Prop :=
  IdealRules.sign_bit.Statement Cert.MlKernelIdeal.S4x64x1 .f32

def preserves_GateKernel_GateKernelIdeal : Prop :=
  True

def algebraic_GateKernelIdeal_GateReferenceIdeal [hGateKernelIdeal : Cert.GateKernelIdeal.Facts] [hGateReferenceIdeal : Cert.GateReferenceIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)) →
    ∃ (v0 : (c : Dev Cert.GateKernelIdeal.nD) → Buf (Elt Ideal) ((c.tc : Thread Cert.GateKernelIdeal.nD Cert.GateKernelIdeal.τ).loc Cert.GateKernelIdeal.main_v6)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v6) = v0 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v5) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)) →
    ∃ (v0 : (c : Dev Cert.DownKernelIdeal.nD) → Buf (Elt Ideal) ((c.tc : Thread Cert.DownKernelIdeal.nD Cert.DownKernelIdeal.τ).loc Cert.DownKernelIdeal.main_v6)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v6) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v4) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_FwdKernel_FwdKernelIdeal : Prop :=
  True

def algebraic_FwdKernelIdeal_FwdReferenceIdeal [hFwdKernelIdeal : Cert.FwdKernelIdeal.Facts] [hFwdReferenceIdeal : Cert.FwdReferenceIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdKernelIdeal m →
    (∀ c : Dev Cert.FwdKernelIdeal.nD,
      m' ((c.tc : Thread Cert.FwdReferenceIdeal.nD Cert.FwdReferenceIdeal.τ).loc Cert.FwdReferenceIdeal.main_arg0) = m ((c.tc : Thread Cert.FwdKernelIdeal.nD Cert.FwdKernelIdeal.τ).loc Cert.FwdKernelIdeal.main_arg0)
      ∧ m' ((c.tc : Thread Cert.FwdReferenceIdeal.nD Cert.FwdReferenceIdeal.τ).loc Cert.FwdReferenceIdeal.main_arg1) = m ((c.tc : Thread Cert.FwdKernelIdeal.nD Cert.FwdKernelIdeal.τ).loc Cert.FwdKernelIdeal.main_arg1)
      ∧ m' ((c.tc : Thread Cert.FwdReferenceIdeal.nD Cert.FwdReferenceIdeal.τ).loc Cert.FwdReferenceIdeal.main_arg2) = m ((c.tc : Thread Cert.FwdKernelIdeal.nD Cert.FwdKernelIdeal.τ).loc Cert.FwdKernelIdeal.main_arg2)
      ∧ m' ((c.tc : Thread Cert.FwdReferenceIdeal.nD Cert.FwdReferenceIdeal.τ).loc Cert.FwdReferenceIdeal.main_arg3) = m ((c.tc : Thread Cert.FwdKernelIdeal.nD Cert.FwdKernelIdeal.τ).loc Cert.FwdKernelIdeal.main_arg3)
      ∧ m' ((c.tc : Thread Cert.FwdReferenceIdeal.nD Cert.FwdReferenceIdeal.τ).loc Cert.FwdReferenceIdeal.main_arg4) = m ((c.tc : Thread Cert.FwdKernelIdeal.nD Cert.FwdKernelIdeal.τ).loc Cert.FwdKernelIdeal.main_arg4)
      ∧ m' ((c.tc : Thread Cert.FwdReferenceIdeal.nD Cert.FwdReferenceIdeal.τ).loc Cert.FwdReferenceIdeal.main_arg5) = m ((c.tc : Thread Cert.FwdKernelIdeal.nD Cert.FwdKernelIdeal.τ).loc Cert.FwdKernelIdeal.main_arg5)) →
    ∃ (v0 : (c : Dev Cert.FwdKernelIdeal.nD) → Buf (Elt Ideal) ((c.tc : Thread Cert.FwdKernelIdeal.nD Cert.FwdKernelIdeal.τ).loc Cert.FwdKernelIdeal.main_v13_0)) (v1 : (c : Dev Cert.FwdKernelIdeal.nD) → Buf (Elt Ideal) ((c.tc : Thread Cert.FwdKernelIdeal.nD Cert.FwdKernelIdeal.τ).loc Cert.FwdKernelIdeal.main_v13_1)) (v2 : (c : Dev Cert.FwdKernelIdeal.nD) → Buf (Elt Ideal) ((c.tc : Thread Cert.FwdKernelIdeal.nD Cert.FwdKernelIdeal.τ).loc Cert.FwdKernelIdeal.main_v13_2)) (v3 : (c : Dev Cert.FwdKernelIdeal.nD) → Buf (Elt Ideal) ((c.tc : Thread Cert.FwdKernelIdeal.nD Cert.FwdKernelIdeal.τ).loc Cert.FwdKernelIdeal.main_v13_3)) (v4 : (c : Dev Cert.FwdKernelIdeal.nD) → Buf (Elt Ideal) ((c.tc : Thread Cert.FwdKernelIdeal.nD Cert.FwdKernelIdeal.τ).loc Cert.FwdKernelIdeal.main_v13_4)) (v5 : (c : Dev Cert.FwdKernelIdeal.nD) → Buf (Elt Ideal) ((c.tc : Thread Cert.FwdKernelIdeal.nD Cert.FwdKernelIdeal.τ).loc Cert.FwdKernelIdeal.main_v13_5)),
      θ_run (Cert.FwdKernelIdeal.defs (F := Ideal)) (onTc (τ := Cert.FwdKernelIdeal.τ) (Cert.FwdKernelIdeal.main (F := Ideal))) ⟨m, fun _ => 0, g⟩ (fun r => ∀ c : Dev Cert.FwdKernelIdeal.nD,
          r.2.mem ((c.tc : Thread Cert.FwdKernelIdeal.nD Cert.FwdKernelIdeal.τ).loc Cert.FwdKernelIdeal.main_v13_0) = v0 c
          ∧ r.2.mem ((c.tc : Thread Cert.FwdKernelIdeal.nD Cert.FwdKernelIdeal.τ).loc Cert.FwdKernelIdeal.main_v13_1) = v1 c
          ∧ r.2.mem ((c.tc : Thread Cert.FwdKernelIdeal.nD Cert.FwdKernelIdeal.τ).loc Cert.FwdKernelIdeal.main_v13_2) = v2 c
          ∧ r.2.mem ((c.tc : Thread Cert.FwdKernelIdeal.nD Cert.FwdKernelIdeal.τ).loc Cert.FwdKernelIdeal.main_v13_3) = v3 c
          ∧ r.2.mem ((c.tc : Thread Cert.FwdKernelIdeal.nD Cert.FwdKernelIdeal.τ).loc Cert.FwdKernelIdeal.main_v13_4) = v4 c
          ∧ r.2.mem ((c.tc : Thread Cert.FwdKernelIdeal.nD Cert.FwdKernelIdeal.τ).loc Cert.FwdKernelIdeal.main_v13_5) = v5 c
          ∧ r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
          ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
          ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
          ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
          ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4)
          ∧ r.2.mem ((c.tc : Thread Cert.FwdKernelIdeal.nD Cert.FwdKernelIdeal.τ).loc Cert.FwdKernelIdeal.main_arg5) = m ((c.tc : Thread Cert.FwdKernelIdeal.nD Cert.FwdKernelIdeal.τ).loc Cert.FwdKernelIdeal.main_arg5))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v37) = v0 c
          ∧ r.2.mem ((c.tc : Thread Cert.FwdReferenceIdeal.nD Cert.FwdReferenceIdeal.τ).loc Cert.FwdReferenceIdeal.main_v41) = v1 c
          ∧ r.2.mem ((c.tc : Thread Cert.FwdReferenceIdeal.nD Cert.FwdReferenceIdeal.τ).loc Cert.FwdReferenceIdeal.main_v45) = v2 c
          ∧ r.2.mem ((c.tc : Thread Cert.FwdReferenceIdeal.nD Cert.FwdReferenceIdeal.τ).loc Cert.FwdReferenceIdeal.main_v46) = v3 c
          ∧ r.2.mem ((c.tc : Thread Cert.FwdReferenceIdeal.nD Cert.FwdReferenceIdeal.τ).loc Cert.FwdReferenceIdeal.main_v47) = v4 c
          ∧ r.2.mem ((c.tc : Thread Cert.FwdReferenceIdeal.nD Cert.FwdReferenceIdeal.τ).loc Cert.FwdReferenceIdeal.main_v49) = v5 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2)
          ∧ r.2.mem ((c.tc : Thread Cert.FwdReferenceIdeal.nD Cert.FwdReferenceIdeal.τ).loc Cert.FwdReferenceIdeal.main_arg3) = m' ((c.tc : Thread Cert.FwdReferenceIdeal.nD Cert.FwdReferenceIdeal.τ).loc Cert.FwdReferenceIdeal.main_arg3)
          ∧ r.2.mem ((c.tc : Thread Cert.FwdReferenceIdeal.nD Cert.FwdReferenceIdeal.τ).loc Cert.FwdReferenceIdeal.main_arg4) = m' ((c.tc : Thread Cert.FwdReferenceIdeal.nD Cert.FwdReferenceIdeal.τ).loc Cert.FwdReferenceIdeal.main_arg4)
          ∧ r.2.mem ((c.tc : Thread Cert.FwdReferenceIdeal.nD Cert.FwdReferenceIdeal.τ).loc Cert.FwdReferenceIdeal.main_arg5) = m' ((c.tc : Thread Cert.FwdReferenceIdeal.nD Cert.FwdReferenceIdeal.τ).loc Cert.FwdReferenceIdeal.main_arg5))

def preserves_FfnKernel_FfnKernelIdeal : Prop :=
  True

def algebraic_FfnKernelIdeal_FfnReferenceIdeal_pre_finite_inputs [hFfnKernelIdeal : Cert.FfnKernelIdeal.Facts] [hFfnReferenceIdeal : Cert.FfnReferenceIdeal.Facts] [hPre_finite_inputs : Cert.Pre_finite_inputs.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_finite_inputs m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)) →
    ∃ (v0 : (c : Dev Cert.FfnKernelIdeal.nD) → Buf (Elt Ideal) ((c.tc : Thread Cert.FfnKernelIdeal.nD Cert.FfnKernelIdeal.τ).loc Cert.FfnKernelIdeal.main_v29_0)) (v1 : (c : Dev Cert.FfnKernelIdeal.nD) → Buf (Elt Ideal) ((c.tc : Thread Cert.FfnKernelIdeal.nD Cert.FfnKernelIdeal.τ).loc Cert.FfnKernelIdeal.main_v29_1)) (v2 : (c : Dev Cert.FfnKernelIdeal.nD) → Buf (Elt Ideal) ((c.tc : Thread Cert.FfnKernelIdeal.nD Cert.FfnKernelIdeal.τ).loc Cert.FfnKernelIdeal.main_v29_2)) (v3 : (c : Dev Cert.FfnKernelIdeal.nD) → Buf (Elt Ideal) ((c.tc : Thread Cert.FfnKernelIdeal.nD Cert.FfnKernelIdeal.τ).loc Cert.FfnKernelIdeal.main_v29_3)) (v4 : (c : Dev Cert.FfnKernelIdeal.nD) → Buf (Elt Ideal) ((c.tc : Thread Cert.FfnKernelIdeal.nD Cert.FfnKernelIdeal.τ).loc Cert.FfnKernelIdeal.main_v29_4)) (v5 : (c : Dev Cert.FfnKernelIdeal.nD) → Buf (Elt Ideal) ((c.tc : Thread Cert.FfnKernelIdeal.nD Cert.FfnKernelIdeal.τ).loc Cert.FfnKernelIdeal.main_v29_5)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v29_0) = v0 c
          ∧ r.2.mem ((c.tc : Thread Cert.FfnKernelIdeal.nD Cert.FfnKernelIdeal.τ).loc Cert.FfnKernelIdeal.main_v29_1) = v1 c
          ∧ r.2.mem ((c.tc : Thread Cert.FfnKernelIdeal.nD Cert.FfnKernelIdeal.τ).loc Cert.FfnKernelIdeal.main_v29_2) = v2 c
          ∧ r.2.mem ((c.tc : Thread Cert.FfnKernelIdeal.nD Cert.FfnKernelIdeal.τ).loc Cert.FfnKernelIdeal.main_v29_3) = v3 c
          ∧ r.2.mem ((c.tc : Thread Cert.FfnKernelIdeal.nD Cert.FfnKernelIdeal.τ).loc Cert.FfnKernelIdeal.main_v29_4) = v4 c
          ∧ r.2.mem ((c.tc : Thread Cert.FfnKernelIdeal.nD Cert.FfnKernelIdeal.τ).loc Cert.FfnKernelIdeal.main_v29_5) = v5 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v91) = v0 c
          ∧ r.2.mem ((c.tc : Thread Cert.FfnReferenceIdeal.nD Cert.FfnReferenceIdeal.τ).loc Cert.FfnReferenceIdeal.main_v95) = v1 c
          ∧ r.2.mem ((c.tc : Thread Cert.FfnReferenceIdeal.nD Cert.FfnReferenceIdeal.τ).loc Cert.FfnReferenceIdeal.main_v96) = v2 c
          ∧ r.2.mem ((c.tc : Thread Cert.FfnReferenceIdeal.nD Cert.FfnReferenceIdeal.τ).loc Cert.FfnReferenceIdeal.main_v98) = v3 c
          ∧ r.2.mem ((c.tc : Thread Cert.FfnReferenceIdeal.nD Cert.FfnReferenceIdeal.τ).loc Cert.FfnReferenceIdeal.main_v99) = v4 c
          ∧ r.2.mem ((c.tc : Thread Cert.FfnReferenceIdeal.nD Cert.FfnReferenceIdeal.τ).loc Cert.FfnReferenceIdeal.main_v100) = v5 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_MixKernel_MixKernelIdeal : Prop :=
  True

def algebraic_MixKernelIdeal_MixReferenceIdeal_pre_finite_mixer_inputs [hMixKernelIdeal : Cert.MixKernelIdeal.Facts] [hMixReferenceIdeal : Cert.MixReferenceIdeal.Facts] [hPre_finite_mixer_inputs : Cert.Pre_finite_mixer_inputs.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal_finite_mixer_inputs m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)) →
    ∃ (v0 : (c : Dev Cert.MixKernelIdeal.nD) → Buf (Elt Ideal) ((c.tc : Thread Cert.MixKernelIdeal.nD Cert.MixKernelIdeal.τ).loc Cert.MixKernelIdeal.main_v10_0)) (v1 : (c : Dev Cert.MixKernelIdeal.nD) → Buf (Elt Ideal) ((c.tc : Thread Cert.MixKernelIdeal.nD Cert.MixKernelIdeal.τ).loc Cert.MixKernelIdeal.main_v10_1)) (v2 : (c : Dev Cert.MixKernelIdeal.nD) → Buf (Elt Ideal) ((c.tc : Thread Cert.MixKernelIdeal.nD Cert.MixKernelIdeal.τ).loc Cert.MixKernelIdeal.main_v10_2)) (v3 : (c : Dev Cert.MixKernelIdeal.nD) → Buf (Elt Ideal) ((c.tc : Thread Cert.MixKernelIdeal.nD Cert.MixKernelIdeal.τ).loc Cert.MixKernelIdeal.main_v10_3)) (v4 : (c : Dev Cert.MixKernelIdeal.nD) → Buf (Elt Ideal) ((c.tc : Thread Cert.MixKernelIdeal.nD Cert.MixKernelIdeal.τ).loc Cert.MixKernelIdeal.main_v10_4)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v10_0) = v0 c
          ∧ r.2.mem ((c.tc : Thread Cert.MixKernelIdeal.nD Cert.MixKernelIdeal.τ).loc Cert.MixKernelIdeal.main_v10_1) = v1 c
          ∧ r.2.mem ((c.tc : Thread Cert.MixKernelIdeal.nD Cert.MixKernelIdeal.τ).loc Cert.MixKernelIdeal.main_v10_2) = v2 c
          ∧ r.2.mem ((c.tc : Thread Cert.MixKernelIdeal.nD Cert.MixKernelIdeal.τ).loc Cert.MixKernelIdeal.main_v10_3) = v3 c
          ∧ r.2.mem ((c.tc : Thread Cert.MixKernelIdeal.nD Cert.MixKernelIdeal.τ).loc Cert.MixKernelIdeal.main_v10_4) = v4 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v73) = v0 c
          ∧ r.2.mem ((c.tc : Thread Cert.MixReferenceIdeal.nD Cert.MixReferenceIdeal.τ).loc Cert.MixReferenceIdeal.main_v74) = v1 c
          ∧ r.2.mem ((c.tc : Thread Cert.MixReferenceIdeal.nD Cert.MixReferenceIdeal.τ).loc Cert.MixReferenceIdeal.main_v76) = v2 c
          ∧ r.2.mem ((c.tc : Thread Cert.MixReferenceIdeal.nD Cert.MixReferenceIdeal.τ).loc Cert.MixReferenceIdeal.main_v77) = v3 c
          ∧ r.2.mem ((c.tc : Thread Cert.MixReferenceIdeal.nD Cert.MixReferenceIdeal.τ).loc Cert.MixReferenceIdeal.main_v78) = v4 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4))

def preserves_InbKernel_InbKernelIdeal : Prop :=
  True

def algebraic_InbKernelIdeal_InbReferenceIdeal [hInbKernelIdeal : Cert.InbKernelIdeal.Facts] [hInbReferenceIdeal : Cert.InbReferenceIdeal.Facts] : Prop :=
  ∀ (m : (ℓ : Loc Cert.InbKernelIdeal.nD Cert.InbKernelIdeal.τ Cert.InbKernelIdeal.sig) → Buf (Elt Ideal) ℓ) (g : Dev Cert.InbKernelIdeal.nD → PrngReg)
    (m' : (ℓ : Loc Cert.InbReferenceIdeal.nD Cert.InbReferenceIdeal.τ Cert.InbReferenceIdeal.sig) → Buf (Elt Ideal) ℓ) (g' : Dev Cert.InbReferenceIdeal.nD → PrngReg), Pre_InbKernelIdeal m →
    (∀ c : Dev Cert.InbKernelIdeal.nD,
      m' ((c.tc : Thread Cert.InbReferenceIdeal.nD Cert.InbReferenceIdeal.τ).loc Cert.InbReferenceIdeal.main_arg0) = m ((c.tc : Thread Cert.InbKernelIdeal.nD Cert.InbKernelIdeal.τ).loc Cert.InbKernelIdeal.main_arg0)
      ∧ m' ((c.tc : Thread Cert.InbReferenceIdeal.nD Cert.InbReferenceIdeal.τ).loc Cert.InbReferenceIdeal.main_arg1) = m ((c.tc : Thread Cert.InbKernelIdeal.nD Cert.InbKernelIdeal.τ).loc Cert.InbKernelIdeal.main_arg1)
      ∧ m' ((c.tc : Thread Cert.InbReferenceIdeal.nD Cert.InbReferenceIdeal.τ).loc Cert.InbReferenceIdeal.main_arg2) = m ((c.tc : Thread Cert.InbKernelIdeal.nD Cert.InbKernelIdeal.τ).loc Cert.InbKernelIdeal.main_arg2)
      ∧ m' ((c.tc : Thread Cert.InbReferenceIdeal.nD Cert.InbReferenceIdeal.τ).loc Cert.InbReferenceIdeal.main_arg3) = m ((c.tc : Thread Cert.InbKernelIdeal.nD Cert.InbKernelIdeal.τ).loc Cert.InbKernelIdeal.main_arg3)) →
    ∃ (v0 : (c : Dev Cert.InbKernelIdeal.nD) → Buf (Elt Ideal) ((c.tc : Thread Cert.InbKernelIdeal.nD Cert.InbKernelIdeal.τ).loc Cert.InbKernelIdeal.main_v8)),
      θ_run (Cert.InbKernelIdeal.defs (F := Ideal)) (onTc (τ := Cert.InbKernelIdeal.τ) (Cert.InbKernelIdeal.main (F := Ideal))) ⟨m, fun _ => 0, g⟩ (fun r => ∀ c : Dev Cert.InbKernelIdeal.nD,
          r.2.mem ((c.tc : Thread Cert.InbKernelIdeal.nD Cert.InbKernelIdeal.τ).loc Cert.InbKernelIdeal.main_v8) = v0 c
          ∧ r.2.mem ((c.tc : Thread Cert.InbKernelIdeal.nD Cert.InbKernelIdeal.τ).loc Cert.InbKernelIdeal.main_arg0) = m ((c.tc : Thread Cert.InbKernelIdeal.nD Cert.InbKernelIdeal.τ).loc Cert.InbKernelIdeal.main_arg0)
          ∧ r.2.mem ((c.tc : Thread Cert.InbKernelIdeal.nD Cert.InbKernelIdeal.τ).loc Cert.InbKernelIdeal.main_arg1) = m ((c.tc : Thread Cert.InbKernelIdeal.nD Cert.InbKernelIdeal.τ).loc Cert.InbKernelIdeal.main_arg1)
          ∧ r.2.mem ((c.tc : Thread Cert.InbKernelIdeal.nD Cert.InbKernelIdeal.τ).loc Cert.InbKernelIdeal.main_arg2) = m ((c.tc : Thread Cert.InbKernelIdeal.nD Cert.InbKernelIdeal.τ).loc Cert.InbKernelIdeal.main_arg2)
          ∧ r.2.mem ((c.tc : Thread Cert.InbKernelIdeal.nD Cert.InbKernelIdeal.τ).loc Cert.InbKernelIdeal.main_arg3) = m ((c.tc : Thread Cert.InbKernelIdeal.nD Cert.InbKernelIdeal.τ).loc Cert.InbKernelIdeal.main_arg3))
      ∧ θ_run (Cert.InbReferenceIdeal.defs (F := Ideal)) (onTc (τ := Cert.InbReferenceIdeal.τ) (Cert.InbReferenceIdeal.main (F := Ideal))) ⟨m', fun _ => 0, g'⟩ (fun r => ∀ c : Dev Cert.InbReferenceIdeal.nD,
          r.2.mem ((c.tc : Thread Cert.InbReferenceIdeal.nD Cert.InbReferenceIdeal.τ).loc Cert.InbReferenceIdeal.main_v7) = v0 c
          ∧ r.2.mem ((c.tc : Thread Cert.InbReferenceIdeal.nD Cert.InbReferenceIdeal.τ).loc Cert.InbReferenceIdeal.main_arg0) = m' ((c.tc : Thread Cert.InbReferenceIdeal.nD Cert.InbReferenceIdeal.τ).loc Cert.InbReferenceIdeal.main_arg0)
          ∧ r.2.mem ((c.tc : Thread Cert.InbReferenceIdeal.nD Cert.InbReferenceIdeal.τ).loc Cert.InbReferenceIdeal.main_arg1) = m' ((c.tc : Thread Cert.InbReferenceIdeal.nD Cert.InbReferenceIdeal.τ).loc Cert.InbReferenceIdeal.main_arg1)
          ∧ r.2.mem ((c.tc : Thread Cert.InbReferenceIdeal.nD Cert.InbReferenceIdeal.τ).loc Cert.InbReferenceIdeal.main_arg2) = m' ((c.tc : Thread Cert.InbReferenceIdeal.nD Cert.InbReferenceIdeal.τ).loc Cert.InbReferenceIdeal.main_arg2)
          ∧ r.2.mem ((c.tc : Thread Cert.InbReferenceIdeal.nD Cert.InbReferenceIdeal.τ).loc Cert.InbReferenceIdeal.main_arg3) = m' ((c.tc : Thread Cert.InbReferenceIdeal.nD Cert.InbReferenceIdeal.τ).loc Cert.InbReferenceIdeal.main_arg3))

def preserves_WoutKernel_WoutKernelIdeal : Prop :=
  True

def algebraic_WoutKernelIdeal_WoutReferenceIdeal [hWoutKernelIdeal : Cert.WoutKernelIdeal.Facts] [hWoutReferenceIdeal : Cert.WoutReferenceIdeal.Facts] : Prop :=
  ∀ (m : (ℓ : Loc Cert.WoutKernelIdeal.nD Cert.WoutKernelIdeal.τ Cert.WoutKernelIdeal.sig) → Buf (Elt Ideal) ℓ) (g : Dev Cert.WoutKernelIdeal.nD → PrngReg)
    (m' : (ℓ : Loc Cert.WoutReferenceIdeal.nD Cert.WoutReferenceIdeal.τ Cert.WoutReferenceIdeal.sig) → Buf (Elt Ideal) ℓ) (g' : Dev Cert.WoutReferenceIdeal.nD → PrngReg), Pre_WoutKernelIdeal m →
    (∀ c : Dev Cert.WoutKernelIdeal.nD,
      m' ((c.tc : Thread Cert.WoutReferenceIdeal.nD Cert.WoutReferenceIdeal.τ).loc Cert.WoutReferenceIdeal.main_arg0) = m ((c.tc : Thread Cert.WoutKernelIdeal.nD Cert.WoutKernelIdeal.τ).loc Cert.WoutKernelIdeal.main_arg0)
      ∧ m' ((c.tc : Thread Cert.WoutReferenceIdeal.nD Cert.WoutReferenceIdeal.τ).loc Cert.WoutReferenceIdeal.main_arg1) = m ((c.tc : Thread Cert.WoutKernelIdeal.nD Cert.WoutKernelIdeal.τ).loc Cert.WoutKernelIdeal.main_arg1)
      ∧ m' ((c.tc : Thread Cert.WoutReferenceIdeal.nD Cert.WoutReferenceIdeal.τ).loc Cert.WoutReferenceIdeal.main_arg2) = m ((c.tc : Thread Cert.WoutKernelIdeal.nD Cert.WoutKernelIdeal.τ).loc Cert.WoutKernelIdeal.main_arg2)) →
    ∃ (v0 : (c : Dev Cert.WoutKernelIdeal.nD) → Buf (Elt Ideal) ((c.tc : Thread Cert.WoutKernelIdeal.nD Cert.WoutKernelIdeal.τ).loc Cert.WoutKernelIdeal.main_v6)),
      θ_run (Cert.WoutKernelIdeal.defs (F := Ideal)) (onTc (τ := Cert.WoutKernelIdeal.τ) (Cert.WoutKernelIdeal.main (F := Ideal))) ⟨m, fun _ => 0, g⟩ (fun r => ∀ c : Dev Cert.WoutKernelIdeal.nD,
          r.2.mem ((c.tc : Thread Cert.WoutKernelIdeal.nD Cert.WoutKernelIdeal.τ).loc Cert.WoutKernelIdeal.main_v6) = v0 c
          ∧ r.2.mem ((c.tc : Thread Cert.WoutKernelIdeal.nD Cert.WoutKernelIdeal.τ).loc Cert.WoutKernelIdeal.main_arg0) = m ((c.tc : Thread Cert.WoutKernelIdeal.nD Cert.WoutKernelIdeal.τ).loc Cert.WoutKernelIdeal.main_arg0)
          ∧ r.2.mem ((c.tc : Thread Cert.WoutKernelIdeal.nD Cert.WoutKernelIdeal.τ).loc Cert.WoutKernelIdeal.main_arg1) = m ((c.tc : Thread Cert.WoutKernelIdeal.nD Cert.WoutKernelIdeal.τ).loc Cert.WoutKernelIdeal.main_arg1)
          ∧ r.2.mem ((c.tc : Thread Cert.WoutKernelIdeal.nD Cert.WoutKernelIdeal.τ).loc Cert.WoutKernelIdeal.main_arg2) = m ((c.tc : Thread Cert.WoutKernelIdeal.nD Cert.WoutKernelIdeal.τ).loc Cert.WoutKernelIdeal.main_arg2))
      ∧ θ_run (Cert.WoutReferenceIdeal.defs (F := Ideal)) (onTc (τ := Cert.WoutReferenceIdeal.τ) (Cert.WoutReferenceIdeal.main (F := Ideal))) ⟨m', fun _ => 0, g'⟩ (fun r => ∀ c : Dev Cert.WoutReferenceIdeal.nD,
          r.2.mem ((c.tc : Thread Cert.WoutReferenceIdeal.nD Cert.WoutReferenceIdeal.τ).loc Cert.WoutReferenceIdeal.main_v4) = v0 c
          ∧ r.2.mem ((c.tc : Thread Cert.WoutReferenceIdeal.nD Cert.WoutReferenceIdeal.τ).loc Cert.WoutReferenceIdeal.main_arg0) = m' ((c.tc : Thread Cert.WoutReferenceIdeal.nD Cert.WoutReferenceIdeal.τ).loc Cert.WoutReferenceIdeal.main_arg0)
          ∧ r.2.mem ((c.tc : Thread Cert.WoutReferenceIdeal.nD Cert.WoutReferenceIdeal.τ).loc Cert.WoutReferenceIdeal.main_arg1) = m' ((c.tc : Thread Cert.WoutReferenceIdeal.nD Cert.WoutReferenceIdeal.τ).loc Cert.WoutReferenceIdeal.main_arg1)
          ∧ r.2.mem ((c.tc : Thread Cert.WoutReferenceIdeal.nD Cert.WoutReferenceIdeal.τ).loc Cert.WoutReferenceIdeal.main_arg2) = m' ((c.tc : Thread Cert.WoutReferenceIdeal.nD Cert.WoutReferenceIdeal.τ).loc Cert.WoutReferenceIdeal.main_arg2))

def preserves_WinKernel_WinKernelIdeal : Prop :=
  True

def algebraic_WinKernelIdeal_WinReferenceIdeal [hWinKernelIdeal : Cert.WinKernelIdeal.Facts] [hWinReferenceIdeal : Cert.WinReferenceIdeal.Facts] : Prop :=
  ∀ (m : (ℓ : Loc Cert.WinKernelIdeal.nD Cert.WinKernelIdeal.τ Cert.WinKernelIdeal.sig) → Buf (Elt Ideal) ℓ) (g : Dev Cert.WinKernelIdeal.nD → PrngReg)
    (m' : (ℓ : Loc Cert.WinReferenceIdeal.nD Cert.WinReferenceIdeal.τ Cert.WinReferenceIdeal.sig) → Buf (Elt Ideal) ℓ) (g' : Dev Cert.WinReferenceIdeal.nD → PrngReg), Pre_WinKernelIdeal m →
    (∀ c : Dev Cert.WinKernelIdeal.nD,
      m' ((c.tc : Thread Cert.WinReferenceIdeal.nD Cert.WinReferenceIdeal.τ).loc Cert.WinReferenceIdeal.main_arg0) = m ((c.tc : Thread Cert.WinKernelIdeal.nD Cert.WinKernelIdeal.τ).loc Cert.WinKernelIdeal.main_arg0)
      ∧ m' ((c.tc : Thread Cert.WinReferenceIdeal.nD Cert.WinReferenceIdeal.τ).loc Cert.WinReferenceIdeal.main_arg1) = m ((c.tc : Thread Cert.WinKernelIdeal.nD Cert.WinKernelIdeal.τ).loc Cert.WinKernelIdeal.main_arg1)
      ∧ m' ((c.tc : Thread Cert.WinReferenceIdeal.nD Cert.WinReferenceIdeal.τ).loc Cert.WinReferenceIdeal.main_arg2) = m ((c.tc : Thread Cert.WinKernelIdeal.nD Cert.WinKernelIdeal.τ).loc Cert.WinKernelIdeal.main_arg2)) →
    ∃ (v0 : (c : Dev Cert.WinKernelIdeal.nD) → Buf (Elt Ideal) ((c.tc : Thread Cert.WinKernelIdeal.nD Cert.WinKernelIdeal.τ).loc Cert.WinKernelIdeal.main_v6)),
      θ_run (Cert.WinKernelIdeal.defs (F := Ideal)) (onTc (τ := Cert.WinKernelIdeal.τ) (Cert.WinKernelIdeal.main (F := Ideal))) ⟨m, fun _ => 0, g⟩ (fun r => ∀ c : Dev Cert.WinKernelIdeal.nD,
          r.2.mem ((c.tc : Thread Cert.WinKernelIdeal.nD Cert.WinKernelIdeal.τ).loc Cert.WinKernelIdeal.main_v6) = v0 c
          ∧ r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
          ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1)
          ∧ r.2.mem ((c.tc : Thread Cert.WinKernelIdeal.nD Cert.WinKernelIdeal.τ).loc Cert.WinKernelIdeal.main_arg2) = m ((c.tc : Thread Cert.WinKernelIdeal.nD Cert.WinKernelIdeal.τ).loc Cert.WinKernelIdeal.main_arg2))
      ∧ θ_run (Cert.WinReferenceIdeal.defs (F := Ideal)) (onTc (τ := Cert.WinReferenceIdeal.τ) (Cert.WinReferenceIdeal.main (F := Ideal))) ⟨m', fun _ => 0, g'⟩ (fun r => ∀ c : Dev Cert.WinReferenceIdeal.nD,
          r.2.mem ((c.tc : Thread Cert.WinReferenceIdeal.nD Cert.WinReferenceIdeal.τ).loc Cert.WinReferenceIdeal.main_v5) = v0 c
          ∧ r.2.mem ((c.tc : Thread Cert.WinReferenceIdeal.nD Cert.WinReferenceIdeal.τ).loc Cert.WinReferenceIdeal.main_arg0) = m' ((c.tc : Thread Cert.WinReferenceIdeal.nD Cert.WinReferenceIdeal.τ).loc Cert.WinReferenceIdeal.main_arg0)
          ∧ r.2.mem ((c.tc : Thread Cert.WinReferenceIdeal.nD Cert.WinReferenceIdeal.τ).loc Cert.WinReferenceIdeal.main_arg1) = m' ((c.tc : Thread Cert.WinReferenceIdeal.nD Cert.WinReferenceIdeal.τ).loc Cert.WinReferenceIdeal.main_arg1)
          ∧ r.2.mem ((c.tc : Thread Cert.WinReferenceIdeal.nD Cert.WinReferenceIdeal.τ).loc Cert.WinReferenceIdeal.main_arg2) = m' ((c.tc : Thread Cert.WinReferenceIdeal.nD Cert.WinReferenceIdeal.τ).loc Cert.WinReferenceIdeal.main_arg2))

def preserves_InfKernel_InfKernelIdeal : Prop :=
  True

def algebraic_InfKernelIdeal_InfReferenceIdeal [hInfKernelIdeal : Cert.InfKernelIdeal.Facts] [hInfReferenceIdeal : Cert.InfReferenceIdeal.Facts] : Prop :=
  ∀ (m : (ℓ : Loc Cert.InfKernelIdeal.nD Cert.InfKernelIdeal.τ Cert.InfKernelIdeal.sig) → Buf (Elt Ideal) ℓ) (g : Dev Cert.InfKernelIdeal.nD → PrngReg)
    (m' : (ℓ : Loc Cert.InfReferenceIdeal.nD Cert.InfReferenceIdeal.τ Cert.InfReferenceIdeal.sig) → Buf (Elt Ideal) ℓ) (g' : Dev Cert.InfReferenceIdeal.nD → PrngReg), Pre_InfKernelIdeal m →
    (∀ c : Dev Cert.InfKernelIdeal.nD,
      m' ((c.tc : Thread Cert.InfReferenceIdeal.nD Cert.InfReferenceIdeal.τ).loc Cert.InfReferenceIdeal.main_arg0) = m ((c.tc : Thread Cert.InfKernelIdeal.nD Cert.InfKernelIdeal.τ).loc Cert.InfKernelIdeal.main_arg0)
      ∧ m' ((c.tc : Thread Cert.InfReferenceIdeal.nD Cert.InfReferenceIdeal.τ).loc Cert.InfReferenceIdeal.main_arg1) = m ((c.tc : Thread Cert.InfKernelIdeal.nD Cert.InfKernelIdeal.τ).loc Cert.InfKernelIdeal.main_arg1)) →
    ∃ (v0 : (c : Dev Cert.InfKernelIdeal.nD) → Buf (Elt Ideal) ((c.tc : Thread Cert.InfKernelIdeal.nD Cert.InfKernelIdeal.τ).loc Cert.InfKernelIdeal.main_v5)),
      θ_run (Cert.InfKernelIdeal.defs (F := Ideal)) (onTc (τ := Cert.InfKernelIdeal.τ) (Cert.InfKernelIdeal.main (F := Ideal))) ⟨m, fun _ => 0, g⟩ (fun r => ∀ c : Dev Cert.InfKernelIdeal.nD,
          r.2.mem ((c.tc : Thread Cert.InfKernelIdeal.nD Cert.InfKernelIdeal.τ).loc Cert.InfKernelIdeal.main_v5) = v0 c
          ∧ r.2.mem ((c.tc : Thread Cert.InfKernelIdeal.nD Cert.InfKernelIdeal.τ).loc Cert.InfKernelIdeal.main_arg0) = m ((c.tc : Thread Cert.InfKernelIdeal.nD Cert.InfKernelIdeal.τ).loc Cert.InfKernelIdeal.main_arg0)
          ∧ r.2.mem ((c.tc : Thread Cert.InfKernelIdeal.nD Cert.InfKernelIdeal.τ).loc Cert.InfKernelIdeal.main_arg1) = m ((c.tc : Thread Cert.InfKernelIdeal.nD Cert.InfKernelIdeal.τ).loc Cert.InfKernelIdeal.main_arg1))
      ∧ θ_run (Cert.InfReferenceIdeal.defs (F := Ideal)) (onTc (τ := Cert.InfReferenceIdeal.τ) (Cert.InfReferenceIdeal.main (F := Ideal))) ⟨m', fun _ => 0, g'⟩ (fun r => ∀ c : Dev Cert.InfReferenceIdeal.nD,
          r.2.mem ((c.tc : Thread Cert.InfReferenceIdeal.nD Cert.InfReferenceIdeal.τ).loc Cert.InfReferenceIdeal.main_v3) = v0 c
          ∧ r.2.mem ((c.tc : Thread Cert.InfReferenceIdeal.nD Cert.InfReferenceIdeal.τ).loc Cert.InfReferenceIdeal.main_arg0) = m' ((c.tc : Thread Cert.InfReferenceIdeal.nD Cert.InfReferenceIdeal.τ).loc Cert.InfReferenceIdeal.main_arg0)
          ∧ r.2.mem ((c.tc : Thread Cert.InfReferenceIdeal.nD Cert.InfReferenceIdeal.τ).loc Cert.InfReferenceIdeal.main_arg1) = m' ((c.tc : Thread Cert.InfReferenceIdeal.nD Cert.InfReferenceIdeal.τ).loc Cert.InfReferenceIdeal.main_arg1))

def preserves_OutfKernel_OutfKernelIdeal : Prop :=
  True

def algebraic_OutfKernelIdeal_OutfReferenceIdeal [hOutfKernelIdeal : Cert.OutfKernelIdeal.Facts] [hOutfReferenceIdeal : Cert.OutfReferenceIdeal.Facts] : Prop :=
  ∀ (m : (ℓ : Loc Cert.OutfKernelIdeal.nD Cert.OutfKernelIdeal.τ Cert.OutfKernelIdeal.sig) → Buf (Elt Ideal) ℓ) (g : Dev Cert.OutfKernelIdeal.nD → PrngReg)
    (m' : (ℓ : Loc Cert.OutfReferenceIdeal.nD Cert.OutfReferenceIdeal.τ Cert.OutfReferenceIdeal.sig) → Buf (Elt Ideal) ℓ) (g' : Dev Cert.OutfReferenceIdeal.nD → PrngReg), Pre_OutfKernelIdeal m →
    (∀ c : Dev Cert.OutfKernelIdeal.nD,
      m' ((c.tc : Thread Cert.OutfReferenceIdeal.nD Cert.OutfReferenceIdeal.τ).loc Cert.OutfReferenceIdeal.main_arg0) = m ((c.tc : Thread Cert.OutfKernelIdeal.nD Cert.OutfKernelIdeal.τ).loc Cert.OutfKernelIdeal.main_arg0)
      ∧ m' ((c.tc : Thread Cert.OutfReferenceIdeal.nD Cert.OutfReferenceIdeal.τ).loc Cert.OutfReferenceIdeal.main_arg1) = m ((c.tc : Thread Cert.OutfKernelIdeal.nD Cert.OutfKernelIdeal.τ).loc Cert.OutfKernelIdeal.main_arg1)
      ∧ m' ((c.tc : Thread Cert.OutfReferenceIdeal.nD Cert.OutfReferenceIdeal.τ).loc Cert.OutfReferenceIdeal.main_arg2) = m ((c.tc : Thread Cert.OutfKernelIdeal.nD Cert.OutfKernelIdeal.τ).loc Cert.OutfKernelIdeal.main_arg2)
      ∧ m' ((c.tc : Thread Cert.OutfReferenceIdeal.nD Cert.OutfReferenceIdeal.τ).loc Cert.OutfReferenceIdeal.main_arg3) = m ((c.tc : Thread Cert.OutfKernelIdeal.nD Cert.OutfKernelIdeal.τ).loc Cert.OutfKernelIdeal.main_arg3)
      ∧ m' ((c.tc : Thread Cert.OutfReferenceIdeal.nD Cert.OutfReferenceIdeal.τ).loc Cert.OutfReferenceIdeal.main_arg4) = m ((c.tc : Thread Cert.OutfKernelIdeal.nD Cert.OutfKernelIdeal.τ).loc Cert.OutfKernelIdeal.main_arg4)) →
    ∃ (v0 : (c : Dev Cert.OutfKernelIdeal.nD) → Buf (Elt Ideal) ((c.tc : Thread Cert.OutfKernelIdeal.nD Cert.OutfKernelIdeal.τ).loc Cert.OutfKernelIdeal.main_v9_0)) (v1 : (c : Dev Cert.OutfKernelIdeal.nD) → Buf (Elt Ideal) ((c.tc : Thread Cert.OutfKernelIdeal.nD Cert.OutfKernelIdeal.τ).loc Cert.OutfKernelIdeal.main_v9_1)) (v2 : (c : Dev Cert.OutfKernelIdeal.nD) → Buf (Elt Ideal) ((c.tc : Thread Cert.OutfKernelIdeal.nD Cert.OutfKernelIdeal.τ).loc Cert.OutfKernelIdeal.main_v9_2)),
      θ_run (Cert.OutfKernelIdeal.defs (F := Ideal)) (onTc (τ := Cert.OutfKernelIdeal.τ) (Cert.OutfKernelIdeal.main (F := Ideal))) ⟨m, fun _ => 0, g⟩ (fun r => ∀ c : Dev Cert.OutfKernelIdeal.nD,
          r.2.mem ((c.tc : Thread Cert.OutfKernelIdeal.nD Cert.OutfKernelIdeal.τ).loc Cert.OutfKernelIdeal.main_v9_0) = v0 c
          ∧ r.2.mem ((c.tc : Thread Cert.OutfKernelIdeal.nD Cert.OutfKernelIdeal.τ).loc Cert.OutfKernelIdeal.main_v9_1) = v1 c
          ∧ r.2.mem ((c.tc : Thread Cert.OutfKernelIdeal.nD Cert.OutfKernelIdeal.τ).loc Cert.OutfKernelIdeal.main_v9_2) = v2 c
          ∧ r.2.mem ((c.tc : Thread Cert.OutfKernelIdeal.nD Cert.OutfKernelIdeal.τ).loc Cert.OutfKernelIdeal.main_arg0) = m ((c.tc : Thread Cert.OutfKernelIdeal.nD Cert.OutfKernelIdeal.τ).loc Cert.OutfKernelIdeal.main_arg0)
          ∧ r.2.mem ((c.tc : Thread Cert.OutfKernelIdeal.nD Cert.OutfKernelIdeal.τ).loc Cert.OutfKernelIdeal.main_arg1) = m ((c.tc : Thread Cert.OutfKernelIdeal.nD Cert.OutfKernelIdeal.τ).loc Cert.OutfKernelIdeal.main_arg1)
          ∧ r.2.mem ((c.tc : Thread Cert.OutfKernelIdeal.nD Cert.OutfKernelIdeal.τ).loc Cert.OutfKernelIdeal.main_arg2) = m ((c.tc : Thread Cert.OutfKernelIdeal.nD Cert.OutfKernelIdeal.τ).loc Cert.OutfKernelIdeal.main_arg2)
          ∧ r.2.mem ((c.tc : Thread Cert.OutfKernelIdeal.nD Cert.OutfKernelIdeal.τ).loc Cert.OutfKernelIdeal.main_arg3) = m ((c.tc : Thread Cert.OutfKernelIdeal.nD Cert.OutfKernelIdeal.τ).loc Cert.OutfKernelIdeal.main_arg3)
          ∧ r.2.mem ((c.tc : Thread Cert.OutfKernelIdeal.nD Cert.OutfKernelIdeal.τ).loc Cert.OutfKernelIdeal.main_arg4) = m ((c.tc : Thread Cert.OutfKernelIdeal.nD Cert.OutfKernelIdeal.τ).loc Cert.OutfKernelIdeal.main_arg4))
      ∧ θ_run (Cert.OutfReferenceIdeal.defs (F := Ideal)) (onTc (τ := Cert.OutfReferenceIdeal.τ) (Cert.OutfReferenceIdeal.main (F := Ideal))) ⟨m', fun _ => 0, g'⟩ (fun r => ∀ c : Dev Cert.OutfReferenceIdeal.nD,
          r.2.mem ((c.tc : Thread Cert.OutfReferenceIdeal.nD Cert.OutfReferenceIdeal.τ).loc Cert.OutfReferenceIdeal.main_v28) = v0 c
          ∧ r.2.mem ((c.tc : Thread Cert.OutfReferenceIdeal.nD Cert.OutfReferenceIdeal.τ).loc Cert.OutfReferenceIdeal.main_v29) = v1 c
          ∧ r.2.mem ((c.tc : Thread Cert.OutfReferenceIdeal.nD Cert.OutfReferenceIdeal.τ).loc Cert.OutfReferenceIdeal.main_v31) = v2 c
          ∧ r.2.mem ((c.tc : Thread Cert.OutfReferenceIdeal.nD Cert.OutfReferenceIdeal.τ).loc Cert.OutfReferenceIdeal.main_arg0) = m' ((c.tc : Thread Cert.OutfReferenceIdeal.nD Cert.OutfReferenceIdeal.τ).loc Cert.OutfReferenceIdeal.main_arg0)
          ∧ r.2.mem ((c.tc : Thread Cert.OutfReferenceIdeal.nD Cert.OutfReferenceIdeal.τ).loc Cert.OutfReferenceIdeal.main_arg1) = m' ((c.tc : Thread Cert.OutfReferenceIdeal.nD Cert.OutfReferenceIdeal.τ).loc Cert.OutfReferenceIdeal.main_arg1)
          ∧ r.2.mem ((c.tc : Thread Cert.OutfReferenceIdeal.nD Cert.OutfReferenceIdeal.τ).loc Cert.OutfReferenceIdeal.main_arg2) = m' ((c.tc : Thread Cert.OutfReferenceIdeal.nD Cert.OutfReferenceIdeal.τ).loc Cert.OutfReferenceIdeal.main_arg2)
          ∧ r.2.mem ((c.tc : Thread Cert.OutfReferenceIdeal.nD Cert.OutfReferenceIdeal.τ).loc Cert.OutfReferenceIdeal.main_arg3) = m' ((c.tc : Thread Cert.OutfReferenceIdeal.nD Cert.OutfReferenceIdeal.τ).loc Cert.OutfReferenceIdeal.main_arg3)
          ∧ r.2.mem ((c.tc : Thread Cert.OutfReferenceIdeal.nD Cert.OutfReferenceIdeal.τ).loc Cert.OutfReferenceIdeal.main_arg4) = m' ((c.tc : Thread Cert.OutfReferenceIdeal.nD Cert.OutfReferenceIdeal.τ).loc Cert.OutfReferenceIdeal.main_arg4))

def preserves_AdamLnKernel_AdamLnKernelIdeal : Prop :=
  IdealRules.named_const.Statement Cert.AdamLnKernelIdeal.κ "c1" .f32 0x3FC48605#32 (((5463681 / 8388608)⁻¹ : ℝ) : EReal)
  ∧ IdealRules.named_const.Statement Cert.AdamLnKernelIdeal.κ "c2" .f32 0x42C8E6D3#32 (((2672307 / 268435456)⁻¹ : ℝ) : EReal)

def algebraic_AdamLnKernelIdeal_AdamLnReferenceIdeal [hAdamLnKernelIdeal : Cert.AdamLnKernelIdeal.Facts] [hAdamLnReferenceIdeal : Cert.AdamLnReferenceIdeal.Facts] : Prop :=
  ∀ (m : (ℓ : Loc Cert.AdamLnKernelIdeal.nD Cert.AdamLnKernelIdeal.τ Cert.AdamLnKernelIdeal.sig) → Buf (Elt Ideal) ℓ) (g : Dev Cert.AdamLnKernelIdeal.nD → PrngReg)
    (m' : (ℓ : Loc Cert.AdamLnReferenceIdeal.nD Cert.AdamLnReferenceIdeal.τ Cert.AdamLnReferenceIdeal.sig) → Buf (Elt Ideal) ℓ) (g' : Dev Cert.AdamLnReferenceIdeal.nD → PrngReg), Pre_AdamLnKernelIdeal m →
    (∀ c : Dev Cert.AdamLnKernelIdeal.nD,
      m' ((c.tc : Thread Cert.AdamLnReferenceIdeal.nD Cert.AdamLnReferenceIdeal.τ).loc Cert.AdamLnReferenceIdeal.main_arg0) = m ((c.tc : Thread Cert.AdamLnKernelIdeal.nD Cert.AdamLnKernelIdeal.τ).loc Cert.AdamLnKernelIdeal.main_arg0)
      ∧ m' ((c.tc : Thread Cert.AdamLnReferenceIdeal.nD Cert.AdamLnReferenceIdeal.τ).loc Cert.AdamLnReferenceIdeal.main_arg1) = m ((c.tc : Thread Cert.AdamLnKernelIdeal.nD Cert.AdamLnKernelIdeal.τ).loc Cert.AdamLnKernelIdeal.main_arg1)
      ∧ m' ((c.tc : Thread Cert.AdamLnReferenceIdeal.nD Cert.AdamLnReferenceIdeal.τ).loc Cert.AdamLnReferenceIdeal.main_arg2) = m ((c.tc : Thread Cert.AdamLnKernelIdeal.nD Cert.AdamLnKernelIdeal.τ).loc Cert.AdamLnKernelIdeal.main_arg2)
      ∧ m' ((c.tc : Thread Cert.AdamLnReferenceIdeal.nD Cert.AdamLnReferenceIdeal.τ).loc Cert.AdamLnReferenceIdeal.main_arg3) = m ((c.tc : Thread Cert.AdamLnKernelIdeal.nD Cert.AdamLnKernelIdeal.τ).loc Cert.AdamLnKernelIdeal.main_arg3)) →
    ∃ (v0 : (c : Dev Cert.AdamLnKernelIdeal.nD) → Buf (Elt Ideal) ((c.tc : Thread Cert.AdamLnKernelIdeal.nD Cert.AdamLnKernelIdeal.τ).loc Cert.AdamLnKernelIdeal.main_v4_0)) (v1 : (c : Dev Cert.AdamLnKernelIdeal.nD) → Buf (Elt Ideal) ((c.tc : Thread Cert.AdamLnKernelIdeal.nD Cert.AdamLnKernelIdeal.τ).loc Cert.AdamLnKernelIdeal.main_v4_1)) (v2 : (c : Dev Cert.AdamLnKernelIdeal.nD) → Buf (Elt Ideal) ((c.tc : Thread Cert.AdamLnKernelIdeal.nD Cert.AdamLnKernelIdeal.τ).loc Cert.AdamLnKernelIdeal.main_v4_2)),
      θ_run (Cert.AdamLnKernelIdeal.defs (F := Ideal)) (onTc (τ := Cert.AdamLnKernelIdeal.τ) (Cert.AdamLnKernelIdeal.main (F := Ideal))) ⟨m, fun _ => 0, g⟩ (fun r => ∀ c : Dev Cert.AdamLnKernelIdeal.nD,
          r.2.mem ((c.tc : Thread Cert.AdamLnKernelIdeal.nD Cert.AdamLnKernelIdeal.τ).loc Cert.AdamLnKernelIdeal.main_v4_0) = v0 c
          ∧ r.2.mem ((c.tc : Thread Cert.AdamLnKernelIdeal.nD Cert.AdamLnKernelIdeal.τ).loc Cert.AdamLnKernelIdeal.main_v4_1) = v1 c
          ∧ r.2.mem ((c.tc : Thread Cert.AdamLnKernelIdeal.nD Cert.AdamLnKernelIdeal.τ).loc Cert.AdamLnKernelIdeal.main_v4_2) = v2 c
          ∧ r.2.mem ((c.tc : Thread Cert.AdamLnKernelIdeal.nD Cert.AdamLnKernelIdeal.τ).loc Cert.AdamLnKernelIdeal.main_arg0) = m ((c.tc : Thread Cert.AdamLnKernelIdeal.nD Cert.AdamLnKernelIdeal.τ).loc Cert.AdamLnKernelIdeal.main_arg0)
          ∧ r.2.mem ((c.tc : Thread Cert.AdamLnKernelIdeal.nD Cert.AdamLnKernelIdeal.τ).loc Cert.AdamLnKernelIdeal.main_arg1) = m ((c.tc : Thread Cert.AdamLnKernelIdeal.nD Cert.AdamLnKernelIdeal.τ).loc Cert.AdamLnKernelIdeal.main_arg1)
          ∧ r.2.mem ((c.tc : Thread Cert.AdamLnKernelIdeal.nD Cert.AdamLnKernelIdeal.τ).loc Cert.AdamLnKernelIdeal.main_arg2) = m ((c.tc : Thread Cert.AdamLnKernelIdeal.nD Cert.AdamLnKernelIdeal.τ).loc Cert.AdamLnKernelIdeal.main_arg2)
          ∧ r.2.mem ((c.tc : Thread Cert.AdamLnKernelIdeal.nD Cert.AdamLnKernelIdeal.τ).loc Cert.AdamLnKernelIdeal.main_arg3) = m ((c.tc : Thread Cert.AdamLnKernelIdeal.nD Cert.AdamLnKernelIdeal.τ).loc Cert.AdamLnKernelIdeal.main_arg3))
      ∧ θ_run (Cert.AdamLnReferenceIdeal.defs (F := Ideal)) (onTc (τ := Cert.AdamLnReferenceIdeal.τ) (Cert.AdamLnReferenceIdeal.main (F := Ideal))) ⟨m', fun _ => 0, g'⟩ (fun r => ∀ c : Dev Cert.AdamLnReferenceIdeal.nD,
          r.2.mem ((c.tc : Thread Cert.AdamLnReferenceIdeal.nD Cert.AdamLnReferenceIdeal.τ).loc Cert.AdamLnReferenceIdeal.main_v24) = v0 c
          ∧ r.2.mem ((c.tc : Thread Cert.AdamLnReferenceIdeal.nD Cert.AdamLnReferenceIdeal.τ).loc Cert.AdamLnReferenceIdeal.main_v25) = v1 c
          ∧ r.2.mem ((c.tc : Thread Cert.AdamLnReferenceIdeal.nD Cert.AdamLnReferenceIdeal.τ).loc Cert.AdamLnReferenceIdeal.main_v26) = v2 c
          ∧ r.2.mem ((c.tc : Thread Cert.AdamLnReferenceIdeal.nD Cert.AdamLnReferenceIdeal.τ).loc Cert.AdamLnReferenceIdeal.main_arg0) = m' ((c.tc : Thread Cert.AdamLnReferenceIdeal.nD Cert.AdamLnReferenceIdeal.τ).loc Cert.AdamLnReferenceIdeal.main_arg0)
          ∧ r.2.mem ((c.tc : Thread Cert.AdamLnReferenceIdeal.nD Cert.AdamLnReferenceIdeal.τ).loc Cert.AdamLnReferenceIdeal.main_arg1) = m' ((c.tc : Thread Cert.AdamLnReferenceIdeal.nD Cert.AdamLnReferenceIdeal.τ).loc Cert.AdamLnReferenceIdeal.main_arg1)
          ∧ r.2.mem ((c.tc : Thread Cert.AdamLnReferenceIdeal.nD Cert.AdamLnReferenceIdeal.τ).loc Cert.AdamLnReferenceIdeal.main_arg2) = m' ((c.tc : Thread Cert.AdamLnReferenceIdeal.nD Cert.AdamLnReferenceIdeal.τ).loc Cert.AdamLnReferenceIdeal.main_arg2)
          ∧ r.2.mem ((c.tc : Thread Cert.AdamLnReferenceIdeal.nD Cert.AdamLnReferenceIdeal.τ).loc Cert.AdamLnReferenceIdeal.main_arg3) = m' ((c.tc : Thread Cert.AdamLnReferenceIdeal.nD Cert.AdamLnReferenceIdeal.τ).loc Cert.AdamLnReferenceIdeal.main_arg3))

def preserves_AdamCvKernel_AdamCvKernelIdeal : Prop :=
  IdealRules.named_const.Statement Cert.AdamCvKernelIdeal.κ "c1" .f32 0x3FC48605#32 (((5463681 / 8388608)⁻¹ : ℝ) : EReal)
  ∧ IdealRules.named_const.Statement Cert.AdamCvKernelIdeal.κ "c2" .f32 0x42C8E6D3#32 (((2672307 / 268435456)⁻¹ : ℝ) : EReal)

def algebraic_AdamCvKernelIdeal_AdamCvReferenceIdeal [hAdamCvKernelIdeal : Cert.AdamCvKernelIdeal.Facts] [hAdamCvReferenceIdeal : Cert.AdamCvReferenceIdeal.Facts] : Prop :=
  ∀ (m : (ℓ : Loc Cert.AdamCvKernelIdeal.nD Cert.AdamCvKernelIdeal.τ Cert.AdamCvKernelIdeal.sig) → Buf (Elt Ideal) ℓ) (g : Dev Cert.AdamCvKernelIdeal.nD → PrngReg)
    (m' : (ℓ : Loc Cert.AdamCvReferenceIdeal.nD Cert.AdamCvReferenceIdeal.τ Cert.AdamCvReferenceIdeal.sig) → Buf (Elt Ideal) ℓ) (g' : Dev Cert.AdamCvReferenceIdeal.nD → PrngReg), Pre_AdamCvKernelIdeal m →
    (∀ c : Dev Cert.AdamCvKernelIdeal.nD,
      m' ((c.tc : Thread Cert.AdamCvReferenceIdeal.nD Cert.AdamCvReferenceIdeal.τ).loc Cert.AdamCvReferenceIdeal.main_arg0) = m ((c.tc : Thread Cert.AdamCvKernelIdeal.nD Cert.AdamCvKernelIdeal.τ).loc Cert.AdamCvKernelIdeal.main_arg0)
      ∧ m' ((c.tc : Thread Cert.AdamCvReferenceIdeal.nD Cert.AdamCvReferenceIdeal.τ).loc Cert.AdamCvReferenceIdeal.main_arg1) = m ((c.tc : Thread Cert.AdamCvKernelIdeal.nD Cert.AdamCvKernelIdeal.τ).loc Cert.AdamCvKernelIdeal.main_arg1)
      ∧ m' ((c.tc : Thread Cert.AdamCvReferenceIdeal.nD Cert.AdamCvReferenceIdeal.τ).loc Cert.AdamCvReferenceIdeal.main_arg2) = m ((c.tc : Thread Cert.AdamCvKernelIdeal.nD Cert.AdamCvKernelIdeal.τ).loc Cert.AdamCvKernelIdeal.main_arg2)
      ∧ m' ((c.tc : Thread Cert.AdamCvReferenceIdeal.nD Cert.AdamCvReferenceIdeal.τ).loc Cert.AdamCvReferenceIdeal.main_arg3) = m ((c.tc : Thread Cert.AdamCvKernelIdeal.nD Cert.AdamCvKernelIdeal.τ).loc Cert.AdamCvKernelIdeal.main_arg3)) →
    ∃ (v0 : (c : Dev Cert.AdamCvKernelIdeal.nD) → Buf (Elt Ideal) ((c.tc : Thread Cert.AdamCvKernelIdeal.nD Cert.AdamCvKernelIdeal.τ).loc Cert.AdamCvKernelIdeal.main_v4_0)) (v1 : (c : Dev Cert.AdamCvKernelIdeal.nD) → Buf (Elt Ideal) ((c.tc : Thread Cert.AdamCvKernelIdeal.nD Cert.AdamCvKernelIdeal.τ).loc Cert.AdamCvKernelIdeal.main_v4_1)) (v2 : (c : Dev Cert.AdamCvKernelIdeal.nD) → Buf (Elt Ideal) ((c.tc : Thread Cert.AdamCvKernelIdeal.nD Cert.AdamCvKernelIdeal.τ).loc Cert.AdamCvKernelIdeal.main_v4_2)),
      θ_run (Cert.AdamCvKernelIdeal.defs (F := Ideal)) (onTc (τ := Cert.AdamCvKernelIdeal.τ) (Cert.AdamCvKernelIdeal.main (F := Ideal))) ⟨m, fun _ => 0, g⟩ (fun r => ∀ c : Dev Cert.AdamCvKernelIdeal.nD,
          r.2.mem ((c.tc : Thread Cert.AdamCvKernelIdeal.nD Cert.AdamCvKernelIdeal.τ).loc Cert.AdamCvKernelIdeal.main_v4_0) = v0 c
          ∧ r.2.mem ((c.tc : Thread Cert.AdamCvKernelIdeal.nD Cert.AdamCvKernelIdeal.τ).loc Cert.AdamCvKernelIdeal.main_v4_1) = v1 c
          ∧ r.2.mem ((c.tc : Thread Cert.AdamCvKernelIdeal.nD Cert.AdamCvKernelIdeal.τ).loc Cert.AdamCvKernelIdeal.main_v4_2) = v2 c
          ∧ r.2.mem ((c.tc : Thread Cert.AdamCvKernelIdeal.nD Cert.AdamCvKernelIdeal.τ).loc Cert.AdamCvKernelIdeal.main_arg0) = m ((c.tc : Thread Cert.AdamCvKernelIdeal.nD Cert.AdamCvKernelIdeal.τ).loc Cert.AdamCvKernelIdeal.main_arg0)
          ∧ r.2.mem ((c.tc : Thread Cert.AdamCvKernelIdeal.nD Cert.AdamCvKernelIdeal.τ).loc Cert.AdamCvKernelIdeal.main_arg1) = m ((c.tc : Thread Cert.AdamCvKernelIdeal.nD Cert.AdamCvKernelIdeal.τ).loc Cert.AdamCvKernelIdeal.main_arg1)
          ∧ r.2.mem ((c.tc : Thread Cert.AdamCvKernelIdeal.nD Cert.AdamCvKernelIdeal.τ).loc Cert.AdamCvKernelIdeal.main_arg2) = m ((c.tc : Thread Cert.AdamCvKernelIdeal.nD Cert.AdamCvKernelIdeal.τ).loc Cert.AdamCvKernelIdeal.main_arg2)
          ∧ r.2.mem ((c.tc : Thread Cert.AdamCvKernelIdeal.nD Cert.AdamCvKernelIdeal.τ).loc Cert.AdamCvKernelIdeal.main_arg3) = m ((c.tc : Thread Cert.AdamCvKernelIdeal.nD Cert.AdamCvKernelIdeal.τ).loc Cert.AdamCvKernelIdeal.main_arg3))
      ∧ θ_run (Cert.AdamCvReferenceIdeal.defs (F := Ideal)) (onTc (τ := Cert.AdamCvReferenceIdeal.τ) (Cert.AdamCvReferenceIdeal.main (F := Ideal))) ⟨m', fun _ => 0, g'⟩ (fun r => ∀ c : Dev Cert.AdamCvReferenceIdeal.nD,
          r.2.mem ((c.tc : Thread Cert.AdamCvReferenceIdeal.nD Cert.AdamCvReferenceIdeal.τ).loc Cert.AdamCvReferenceIdeal.main_v24) = v0 c
          ∧ r.2.mem ((c.tc : Thread Cert.AdamCvReferenceIdeal.nD Cert.AdamCvReferenceIdeal.τ).loc Cert.AdamCvReferenceIdeal.main_v25) = v1 c
          ∧ r.2.mem ((c.tc : Thread Cert.AdamCvReferenceIdeal.nD Cert.AdamCvReferenceIdeal.τ).loc Cert.AdamCvReferenceIdeal.main_v26) = v2 c
          ∧ r.2.mem ((c.tc : Thread Cert.AdamCvReferenceIdeal.nD Cert.AdamCvReferenceIdeal.τ).loc Cert.AdamCvReferenceIdeal.main_arg0) = m' ((c.tc : Thread Cert.AdamCvReferenceIdeal.nD Cert.AdamCvReferenceIdeal.τ).loc Cert.AdamCvReferenceIdeal.main_arg0)
          ∧ r.2.mem ((c.tc : Thread Cert.AdamCvReferenceIdeal.nD Cert.AdamCvReferenceIdeal.τ).loc Cert.AdamCvReferenceIdeal.main_arg1) = m' ((c.tc : Thread Cert.AdamCvReferenceIdeal.nD Cert.AdamCvReferenceIdeal.τ).loc Cert.AdamCvReferenceIdeal.main_arg1)
          ∧ r.2.mem ((c.tc : Thread Cert.AdamCvReferenceIdeal.nD Cert.AdamCvReferenceIdeal.τ).loc Cert.AdamCvReferenceIdeal.main_arg2) = m' ((c.tc : Thread Cert.AdamCvReferenceIdeal.nD Cert.AdamCvReferenceIdeal.τ).loc Cert.AdamCvReferenceIdeal.main_arg2)
          ∧ r.2.mem ((c.tc : Thread Cert.AdamCvReferenceIdeal.nD Cert.AdamCvReferenceIdeal.τ).loc Cert.AdamCvReferenceIdeal.main_arg3) = m' ((c.tc : Thread Cert.AdamCvReferenceIdeal.nD Cert.AdamCvReferenceIdeal.τ).loc Cert.AdamCvReferenceIdeal.main_arg3))

def preserves_AdamGtKernel_AdamGtKernelIdeal : Prop :=
  IdealRules.named_const.Statement Cert.AdamGtKernelIdeal.κ "c1" .f32 0x3FC48605#32 (((5463681 / 8388608)⁻¹ : ℝ) : EReal)
  ∧ IdealRules.named_const.Statement Cert.AdamGtKernelIdeal.κ "c2" .f32 0x42C8E6D3#32 (((2672307 / 268435456)⁻¹ : ℝ) : EReal)

def algebraic_AdamGtKernelIdeal_AdamGtReferenceIdeal [hAdamGtKernelIdeal : Cert.AdamGtKernelIdeal.Facts] [hAdamGtReferenceIdeal : Cert.AdamGtReferenceIdeal.Facts] : Prop :=
  ∀ (m : (ℓ : Loc Cert.AdamGtKernelIdeal.nD Cert.AdamGtKernelIdeal.τ Cert.AdamGtKernelIdeal.sig) → Buf (Elt Ideal) ℓ) (g : Dev Cert.AdamGtKernelIdeal.nD → PrngReg)
    (m' : (ℓ : Loc Cert.AdamGtReferenceIdeal.nD Cert.AdamGtReferenceIdeal.τ Cert.AdamGtReferenceIdeal.sig) → Buf (Elt Ideal) ℓ) (g' : Dev Cert.AdamGtReferenceIdeal.nD → PrngReg), Pre_AdamGtKernelIdeal m →
    (∀ c : Dev Cert.AdamGtKernelIdeal.nD,
      m' ((c.tc : Thread Cert.AdamGtReferenceIdeal.nD Cert.AdamGtReferenceIdeal.τ).loc Cert.AdamGtReferenceIdeal.main_arg0) = m ((c.tc : Thread Cert.AdamGtKernelIdeal.nD Cert.AdamGtKernelIdeal.τ).loc Cert.AdamGtKernelIdeal.main_arg0)
      ∧ m' ((c.tc : Thread Cert.AdamGtReferenceIdeal.nD Cert.AdamGtReferenceIdeal.τ).loc Cert.AdamGtReferenceIdeal.main_arg1) = m ((c.tc : Thread Cert.AdamGtKernelIdeal.nD Cert.AdamGtKernelIdeal.τ).loc Cert.AdamGtKernelIdeal.main_arg1)
      ∧ m' ((c.tc : Thread Cert.AdamGtReferenceIdeal.nD Cert.AdamGtReferenceIdeal.τ).loc Cert.AdamGtReferenceIdeal.main_arg2) = m ((c.tc : Thread Cert.AdamGtKernelIdeal.nD Cert.AdamGtKernelIdeal.τ).loc Cert.AdamGtKernelIdeal.main_arg2)
      ∧ m' ((c.tc : Thread Cert.AdamGtReferenceIdeal.nD Cert.AdamGtReferenceIdeal.τ).loc Cert.AdamGtReferenceIdeal.main_arg3) = m ((c.tc : Thread Cert.AdamGtKernelIdeal.nD Cert.AdamGtKernelIdeal.τ).loc Cert.AdamGtKernelIdeal.main_arg3)) →
    ∃ (v0 : (c : Dev Cert.AdamGtKernelIdeal.nD) → Buf (Elt Ideal) ((c.tc : Thread Cert.AdamGtKernelIdeal.nD Cert.AdamGtKernelIdeal.τ).loc Cert.AdamGtKernelIdeal.main_v0_0)) (v1 : (c : Dev Cert.AdamGtKernelIdeal.nD) → Buf (Elt Ideal) ((c.tc : Thread Cert.AdamGtKernelIdeal.nD Cert.AdamGtKernelIdeal.τ).loc Cert.AdamGtKernelIdeal.main_v0_1)) (v2 : (c : Dev Cert.AdamGtKernelIdeal.nD) → Buf (Elt Ideal) ((c.tc : Thread Cert.AdamGtKernelIdeal.nD Cert.AdamGtKernelIdeal.τ).loc Cert.AdamGtKernelIdeal.main_v0_2)),
      θ_run (Cert.AdamGtKernelIdeal.defs (F := Ideal)) (onTc (τ := Cert.AdamGtKernelIdeal.τ) (Cert.AdamGtKernelIdeal.main (F := Ideal))) ⟨m, fun _ => 0, g⟩ (fun r => ∀ c : Dev Cert.AdamGtKernelIdeal.nD,
          r.2.mem ((c.tc : Thread Cert.AdamGtKernelIdeal.nD Cert.AdamGtKernelIdeal.τ).loc Cert.AdamGtKernelIdeal.main_v0_0) = v0 c
          ∧ r.2.mem ((c.tc : Thread Cert.AdamGtKernelIdeal.nD Cert.AdamGtKernelIdeal.τ).loc Cert.AdamGtKernelIdeal.main_v0_1) = v1 c
          ∧ r.2.mem ((c.tc : Thread Cert.AdamGtKernelIdeal.nD Cert.AdamGtKernelIdeal.τ).loc Cert.AdamGtKernelIdeal.main_v0_2) = v2 c
          ∧ r.2.mem ((c.tc : Thread Cert.AdamGtKernelIdeal.nD Cert.AdamGtKernelIdeal.τ).loc Cert.AdamGtKernelIdeal.main_arg0) = m ((c.tc : Thread Cert.AdamGtKernelIdeal.nD Cert.AdamGtKernelIdeal.τ).loc Cert.AdamGtKernelIdeal.main_arg0)
          ∧ r.2.mem ((c.tc : Thread Cert.AdamGtKernelIdeal.nD Cert.AdamGtKernelIdeal.τ).loc Cert.AdamGtKernelIdeal.main_arg1) = m ((c.tc : Thread Cert.AdamGtKernelIdeal.nD Cert.AdamGtKernelIdeal.τ).loc Cert.AdamGtKernelIdeal.main_arg1)
          ∧ r.2.mem ((c.tc : Thread Cert.AdamGtKernelIdeal.nD Cert.AdamGtKernelIdeal.τ).loc Cert.AdamGtKernelIdeal.main_arg2) = m ((c.tc : Thread Cert.AdamGtKernelIdeal.nD Cert.AdamGtKernelIdeal.τ).loc Cert.AdamGtKernelIdeal.main_arg2)
          ∧ r.2.mem ((c.tc : Thread Cert.AdamGtKernelIdeal.nD Cert.AdamGtKernelIdeal.τ).loc Cert.AdamGtKernelIdeal.main_arg3) = m ((c.tc : Thread Cert.AdamGtKernelIdeal.nD Cert.AdamGtKernelIdeal.τ).loc Cert.AdamGtKernelIdeal.main_arg3))
      ∧ θ_run (Cert.AdamGtReferenceIdeal.defs (F := Ideal)) (onTc (τ := Cert.AdamGtReferenceIdeal.τ) (Cert.AdamGtReferenceIdeal.main (F := Ideal))) ⟨m', fun _ => 0, g'⟩ (fun r => ∀ c : Dev Cert.AdamGtReferenceIdeal.nD,
          r.2.mem ((c.tc : Thread Cert.AdamGtReferenceIdeal.nD Cert.AdamGtReferenceIdeal.τ).loc Cert.AdamGtReferenceIdeal.main_v23) = v0 c
          ∧ r.2.mem ((c.tc : Thread Cert.AdamGtReferenceIdeal.nD Cert.AdamGtReferenceIdeal.τ).loc Cert.AdamGtReferenceIdeal.main_v4) = v1 c
          ∧ r.2.mem ((c.tc : Thread Cert.AdamGtReferenceIdeal.nD Cert.AdamGtReferenceIdeal.τ).loc Cert.AdamGtReferenceIdeal.main_v10) = v2 c
          ∧ r.2.mem ((c.tc : Thread Cert.AdamGtReferenceIdeal.nD Cert.AdamGtReferenceIdeal.τ).loc Cert.AdamGtReferenceIdeal.main_arg0) = m' ((c.tc : Thread Cert.AdamGtReferenceIdeal.nD Cert.AdamGtReferenceIdeal.τ).loc Cert.AdamGtReferenceIdeal.main_arg0)
          ∧ r.2.mem ((c.tc : Thread Cert.AdamGtReferenceIdeal.nD Cert.AdamGtReferenceIdeal.τ).loc Cert.AdamGtReferenceIdeal.main_arg1) = m' ((c.tc : Thread Cert.AdamGtReferenceIdeal.nD Cert.AdamGtReferenceIdeal.τ).loc Cert.AdamGtReferenceIdeal.main_arg1)
          ∧ r.2.mem ((c.tc : Thread Cert.AdamGtReferenceIdeal.nD Cert.AdamGtReferenceIdeal.τ).loc Cert.AdamGtReferenceIdeal.main_arg2) = m' ((c.tc : Thread Cert.AdamGtReferenceIdeal.nD Cert.AdamGtReferenceIdeal.τ).loc Cert.AdamGtReferenceIdeal.main_arg2)
          ∧ r.2.mem ((c.tc : Thread Cert.AdamGtReferenceIdeal.nD Cert.AdamGtReferenceIdeal.τ).loc Cert.AdamGtReferenceIdeal.main_arg3) = m' ((c.tc : Thread Cert.AdamGtReferenceIdeal.nD Cert.AdamGtReferenceIdeal.τ).loc Cert.AdamGtReferenceIdeal.main_arg3))

def preserves_AdamQkKernel_AdamQkKernelIdeal : Prop :=
  IdealRules.named_const.Statement Cert.AdamQkKernelIdeal.κ "c1" .f32 0x3FC48605#32 (((5463681 / 8388608)⁻¹ : ℝ) : EReal)
  ∧ IdealRules.named_const.Statement Cert.AdamQkKernelIdeal.κ "c2" .f32 0x42C8E6D3#32 (((2672307 / 268435456)⁻¹ : ℝ) : EReal)

def algebraic_AdamQkKernelIdeal_AdamQkReferenceIdeal [hAdamQkKernelIdeal : Cert.AdamQkKernelIdeal.Facts] [hAdamQkReferenceIdeal : Cert.AdamQkReferenceIdeal.Facts] : Prop :=
  ∀ (m : (ℓ : Loc Cert.AdamQkKernelIdeal.nD Cert.AdamQkKernelIdeal.τ Cert.AdamQkKernelIdeal.sig) → Buf (Elt Ideal) ℓ) (g : Dev Cert.AdamQkKernelIdeal.nD → PrngReg)
    (m' : (ℓ : Loc Cert.AdamQkReferenceIdeal.nD Cert.AdamQkReferenceIdeal.τ Cert.AdamQkReferenceIdeal.sig) → Buf (Elt Ideal) ℓ) (g' : Dev Cert.AdamQkReferenceIdeal.nD → PrngReg), Pre_AdamQkKernelIdeal m →
    (∀ c : Dev Cert.AdamQkKernelIdeal.nD,
      m' ((c.tc : Thread Cert.AdamQkReferenceIdeal.nD Cert.AdamQkReferenceIdeal.τ).loc Cert.AdamQkReferenceIdeal.main_arg0) = m ((c.tc : Thread Cert.AdamQkKernelIdeal.nD Cert.AdamQkKernelIdeal.τ).loc Cert.AdamQkKernelIdeal.main_arg0)
      ∧ m' ((c.tc : Thread Cert.AdamQkReferenceIdeal.nD Cert.AdamQkReferenceIdeal.τ).loc Cert.AdamQkReferenceIdeal.main_arg1) = m ((c.tc : Thread Cert.AdamQkKernelIdeal.nD Cert.AdamQkKernelIdeal.τ).loc Cert.AdamQkKernelIdeal.main_arg1)
      ∧ m' ((c.tc : Thread Cert.AdamQkReferenceIdeal.nD Cert.AdamQkReferenceIdeal.τ).loc Cert.AdamQkReferenceIdeal.main_arg2) = m ((c.tc : Thread Cert.AdamQkKernelIdeal.nD Cert.AdamQkKernelIdeal.τ).loc Cert.AdamQkKernelIdeal.main_arg2)
      ∧ m' ((c.tc : Thread Cert.AdamQkReferenceIdeal.nD Cert.AdamQkReferenceIdeal.τ).loc Cert.AdamQkReferenceIdeal.main_arg3) = m ((c.tc : Thread Cert.AdamQkKernelIdeal.nD Cert.AdamQkKernelIdeal.τ).loc Cert.AdamQkKernelIdeal.main_arg3)) →
    ∃ (v0 : (c : Dev Cert.AdamQkKernelIdeal.nD) → Buf (Elt Ideal) ((c.tc : Thread Cert.AdamQkKernelIdeal.nD Cert.AdamQkKernelIdeal.τ).loc Cert.AdamQkKernelIdeal.main_v4_0)) (v1 : (c : Dev Cert.AdamQkKernelIdeal.nD) → Buf (Elt Ideal) ((c.tc : Thread Cert.AdamQkKernelIdeal.nD Cert.AdamQkKernelIdeal.τ).loc Cert.AdamQkKernelIdeal.main_v4_1)) (v2 : (c : Dev Cert.AdamQkKernelIdeal.nD) → Buf (Elt Ideal) ((c.tc : Thread Cert.AdamQkKernelIdeal.nD Cert.AdamQkKernelIdeal.τ).loc Cert.AdamQkKernelIdeal.main_v4_2)),
      θ_run (Cert.AdamQkKernelIdeal.defs (F := Ideal)) (onTc (τ := Cert.AdamQkKernelIdeal.τ) (Cert.AdamQkKernelIdeal.main (F := Ideal))) ⟨m, fun _ => 0, g⟩ (fun r => ∀ c : Dev Cert.AdamQkKernelIdeal.nD,
          r.2.mem ((c.tc : Thread Cert.AdamQkKernelIdeal.nD Cert.AdamQkKernelIdeal.τ).loc Cert.AdamQkKernelIdeal.main_v4_0) = v0 c
          ∧ r.2.mem ((c.tc : Thread Cert.AdamQkKernelIdeal.nD Cert.AdamQkKernelIdeal.τ).loc Cert.AdamQkKernelIdeal.main_v4_1) = v1 c
          ∧ r.2.mem ((c.tc : Thread Cert.AdamQkKernelIdeal.nD Cert.AdamQkKernelIdeal.τ).loc Cert.AdamQkKernelIdeal.main_v4_2) = v2 c
          ∧ r.2.mem ((c.tc : Thread Cert.AdamQkKernelIdeal.nD Cert.AdamQkKernelIdeal.τ).loc Cert.AdamQkKernelIdeal.main_arg0) = m ((c.tc : Thread Cert.AdamQkKernelIdeal.nD Cert.AdamQkKernelIdeal.τ).loc Cert.AdamQkKernelIdeal.main_arg0)
          ∧ r.2.mem ((c.tc : Thread Cert.AdamQkKernelIdeal.nD Cert.AdamQkKernelIdeal.τ).loc Cert.AdamQkKernelIdeal.main_arg1) = m ((c.tc : Thread Cert.AdamQkKernelIdeal.nD Cert.AdamQkKernelIdeal.τ).loc Cert.AdamQkKernelIdeal.main_arg1)
          ∧ r.2.mem ((c.tc : Thread Cert.AdamQkKernelIdeal.nD Cert.AdamQkKernelIdeal.τ).loc Cert.AdamQkKernelIdeal.main_arg2) = m ((c.tc : Thread Cert.AdamQkKernelIdeal.nD Cert.AdamQkKernelIdeal.τ).loc Cert.AdamQkKernelIdeal.main_arg2)
          ∧ r.2.mem ((c.tc : Thread Cert.AdamQkKernelIdeal.nD Cert.AdamQkKernelIdeal.τ).loc Cert.AdamQkKernelIdeal.main_arg3) = m ((c.tc : Thread Cert.AdamQkKernelIdeal.nD Cert.AdamQkKernelIdeal.τ).loc Cert.AdamQkKernelIdeal.main_arg3))
      ∧ θ_run (Cert.AdamQkReferenceIdeal.defs (F := Ideal)) (onTc (τ := Cert.AdamQkReferenceIdeal.τ) (Cert.AdamQkReferenceIdeal.main (F := Ideal))) ⟨m', fun _ => 0, g'⟩ (fun r => ∀ c : Dev Cert.AdamQkReferenceIdeal.nD,
          r.2.mem ((c.tc : Thread Cert.AdamQkReferenceIdeal.nD Cert.AdamQkReferenceIdeal.τ).loc Cert.AdamQkReferenceIdeal.main_v24) = v0 c
          ∧ r.2.mem ((c.tc : Thread Cert.AdamQkReferenceIdeal.nD Cert.AdamQkReferenceIdeal.τ).loc Cert.AdamQkReferenceIdeal.main_v25) = v1 c
          ∧ r.2.mem ((c.tc : Thread Cert.AdamQkReferenceIdeal.nD Cert.AdamQkReferenceIdeal.τ).loc Cert.AdamQkReferenceIdeal.main_v26) = v2 c
          ∧ r.2.mem ((c.tc : Thread Cert.AdamQkReferenceIdeal.nD Cert.AdamQkReferenceIdeal.τ).loc Cert.AdamQkReferenceIdeal.main_arg0) = m' ((c.tc : Thread Cert.AdamQkReferenceIdeal.nD Cert.AdamQkReferenceIdeal.τ).loc Cert.AdamQkReferenceIdeal.main_arg0)
          ∧ r.2.mem ((c.tc : Thread Cert.AdamQkReferenceIdeal.nD Cert.AdamQkReferenceIdeal.τ).loc Cert.AdamQkReferenceIdeal.main_arg1) = m' ((c.tc : Thread Cert.AdamQkReferenceIdeal.nD Cert.AdamQkReferenceIdeal.τ).loc Cert.AdamQkReferenceIdeal.main_arg1)
          ∧ r.2.mem ((c.tc : Thread Cert.AdamQkReferenceIdeal.nD Cert.AdamQkReferenceIdeal.τ).loc Cert.AdamQkReferenceIdeal.main_arg2) = m' ((c.tc : Thread Cert.AdamQkReferenceIdeal.nD Cert.AdamQkReferenceIdeal.τ).loc Cert.AdamQkReferenceIdeal.main_arg2)
          ∧ r.2.mem ((c.tc : Thread Cert.AdamQkReferenceIdeal.nD Cert.AdamQkReferenceIdeal.τ).loc Cert.AdamQkReferenceIdeal.main_arg3) = m' ((c.tc : Thread Cert.AdamQkReferenceIdeal.nD Cert.AdamQkReferenceIdeal.τ).loc Cert.AdamQkReferenceIdeal.main_arg3))

def preserves_AdamHnKernel_AdamHnKernelIdeal : Prop :=
  IdealRules.named_const.Statement Cert.AdamHnKernelIdeal.κ "c1" .f32 0x3FC48605#32 (((5463681 / 8388608)⁻¹ : ℝ) : EReal)
  ∧ IdealRules.named_const.Statement Cert.AdamHnKernelIdeal.κ "c2" .f32 0x42C8E6D3#32 (((2672307 / 268435456)⁻¹ : ℝ) : EReal)

def algebraic_AdamHnKernelIdeal_AdamHnReferenceIdeal [hAdamHnKernelIdeal : Cert.AdamHnKernelIdeal.Facts] [hAdamHnReferenceIdeal : Cert.AdamHnReferenceIdeal.Facts] : Prop :=
  ∀ (m : (ℓ : Loc Cert.AdamHnKernelIdeal.nD Cert.AdamHnKernelIdeal.τ Cert.AdamHnKernelIdeal.sig) → Buf (Elt Ideal) ℓ) (g : Dev Cert.AdamHnKernelIdeal.nD → PrngReg)
    (m' : (ℓ : Loc Cert.AdamHnReferenceIdeal.nD Cert.AdamHnReferenceIdeal.τ Cert.AdamHnReferenceIdeal.sig) → Buf (Elt Ideal) ℓ) (g' : Dev Cert.AdamHnReferenceIdeal.nD → PrngReg), Pre_AdamHnKernelIdeal m →
    (∀ c : Dev Cert.AdamHnKernelIdeal.nD,
      m' ((c.tc : Thread Cert.AdamHnReferenceIdeal.nD Cert.AdamHnReferenceIdeal.τ).loc Cert.AdamHnReferenceIdeal.main_arg0) = m ((c.tc : Thread Cert.AdamHnKernelIdeal.nD Cert.AdamHnKernelIdeal.τ).loc Cert.AdamHnKernelIdeal.main_arg0)
      ∧ m' ((c.tc : Thread Cert.AdamHnReferenceIdeal.nD Cert.AdamHnReferenceIdeal.τ).loc Cert.AdamHnReferenceIdeal.main_arg1) = m ((c.tc : Thread Cert.AdamHnKernelIdeal.nD Cert.AdamHnKernelIdeal.τ).loc Cert.AdamHnKernelIdeal.main_arg1)
      ∧ m' ((c.tc : Thread Cert.AdamHnReferenceIdeal.nD Cert.AdamHnReferenceIdeal.τ).loc Cert.AdamHnReferenceIdeal.main_arg2) = m ((c.tc : Thread Cert.AdamHnKernelIdeal.nD Cert.AdamHnKernelIdeal.τ).loc Cert.AdamHnKernelIdeal.main_arg2)
      ∧ m' ((c.tc : Thread Cert.AdamHnReferenceIdeal.nD Cert.AdamHnReferenceIdeal.τ).loc Cert.AdamHnReferenceIdeal.main_arg3) = m ((c.tc : Thread Cert.AdamHnKernelIdeal.nD Cert.AdamHnKernelIdeal.τ).loc Cert.AdamHnKernelIdeal.main_arg3)) →
    ∃ (v0 : (c : Dev Cert.AdamHnKernelIdeal.nD) → Buf (Elt Ideal) ((c.tc : Thread Cert.AdamHnKernelIdeal.nD Cert.AdamHnKernelIdeal.τ).loc Cert.AdamHnKernelIdeal.main_v4_0)) (v1 : (c : Dev Cert.AdamHnKernelIdeal.nD) → Buf (Elt Ideal) ((c.tc : Thread Cert.AdamHnKernelIdeal.nD Cert.AdamHnKernelIdeal.τ).loc Cert.AdamHnKernelIdeal.main_v4_1)) (v2 : (c : Dev Cert.AdamHnKernelIdeal.nD) → Buf (Elt Ideal) ((c.tc : Thread Cert.AdamHnKernelIdeal.nD Cert.AdamHnKernelIdeal.τ).loc Cert.AdamHnKernelIdeal.main_v4_2)),
      θ_run (Cert.AdamHnKernelIdeal.defs (F := Ideal)) (onTc (τ := Cert.AdamHnKernelIdeal.τ) (Cert.AdamHnKernelIdeal.main (F := Ideal))) ⟨m, fun _ => 0, g⟩ (fun r => ∀ c : Dev Cert.AdamHnKernelIdeal.nD,
          r.2.mem ((c.tc : Thread Cert.AdamHnKernelIdeal.nD Cert.AdamHnKernelIdeal.τ).loc Cert.AdamHnKernelIdeal.main_v4_0) = v0 c
          ∧ r.2.mem ((c.tc : Thread Cert.AdamHnKernelIdeal.nD Cert.AdamHnKernelIdeal.τ).loc Cert.AdamHnKernelIdeal.main_v4_1) = v1 c
          ∧ r.2.mem ((c.tc : Thread Cert.AdamHnKernelIdeal.nD Cert.AdamHnKernelIdeal.τ).loc Cert.AdamHnKernelIdeal.main_v4_2) = v2 c
          ∧ r.2.mem ((c.tc : Thread Cert.AdamHnKernelIdeal.nD Cert.AdamHnKernelIdeal.τ).loc Cert.AdamHnKernelIdeal.main_arg0) = m ((c.tc : Thread Cert.AdamHnKernelIdeal.nD Cert.AdamHnKernelIdeal.τ).loc Cert.AdamHnKernelIdeal.main_arg0)
          ∧ r.2.mem ((c.tc : Thread Cert.AdamHnKernelIdeal.nD Cert.AdamHnKernelIdeal.τ).loc Cert.AdamHnKernelIdeal.main_arg1) = m ((c.tc : Thread Cert.AdamHnKernelIdeal.nD Cert.AdamHnKernelIdeal.τ).loc Cert.AdamHnKernelIdeal.main_arg1)
          ∧ r.2.mem ((c.tc : Thread Cert.AdamHnKernelIdeal.nD Cert.AdamHnKernelIdeal.τ).loc Cert.AdamHnKernelIdeal.main_arg2) = m ((c.tc : Thread Cert.AdamHnKernelIdeal.nD Cert.AdamHnKernelIdeal.τ).loc Cert.AdamHnKernelIdeal.main_arg2)
          ∧ r.2.mem ((c.tc : Thread Cert.AdamHnKernelIdeal.nD Cert.AdamHnKernelIdeal.τ).loc Cert.AdamHnKernelIdeal.main_arg3) = m ((c.tc : Thread Cert.AdamHnKernelIdeal.nD Cert.AdamHnKernelIdeal.τ).loc Cert.AdamHnKernelIdeal.main_arg3))
      ∧ θ_run (Cert.AdamHnReferenceIdeal.defs (F := Ideal)) (onTc (τ := Cert.AdamHnReferenceIdeal.τ) (Cert.AdamHnReferenceIdeal.main (F := Ideal))) ⟨m', fun _ => 0, g'⟩ (fun r => ∀ c : Dev Cert.AdamHnReferenceIdeal.nD,
          r.2.mem ((c.tc : Thread Cert.AdamHnReferenceIdeal.nD Cert.AdamHnReferenceIdeal.τ).loc Cert.AdamHnReferenceIdeal.main_v24) = v0 c
          ∧ r.2.mem ((c.tc : Thread Cert.AdamHnReferenceIdeal.nD Cert.AdamHnReferenceIdeal.τ).loc Cert.AdamHnReferenceIdeal.main_v25) = v1 c
          ∧ r.2.mem ((c.tc : Thread Cert.AdamHnReferenceIdeal.nD Cert.AdamHnReferenceIdeal.τ).loc Cert.AdamHnReferenceIdeal.main_v26) = v2 c
          ∧ r.2.mem ((c.tc : Thread Cert.AdamHnReferenceIdeal.nD Cert.AdamHnReferenceIdeal.τ).loc Cert.AdamHnReferenceIdeal.main_arg0) = m' ((c.tc : Thread Cert.AdamHnReferenceIdeal.nD Cert.AdamHnReferenceIdeal.τ).loc Cert.AdamHnReferenceIdeal.main_arg0)
          ∧ r.2.mem ((c.tc : Thread Cert.AdamHnReferenceIdeal.nD Cert.AdamHnReferenceIdeal.τ).loc Cert.AdamHnReferenceIdeal.main_arg1) = m' ((c.tc : Thread Cert.AdamHnReferenceIdeal.nD Cert.AdamHnReferenceIdeal.τ).loc Cert.AdamHnReferenceIdeal.main_arg1)
          ∧ r.2.mem ((c.tc : Thread Cert.AdamHnReferenceIdeal.nD Cert.AdamHnReferenceIdeal.τ).loc Cert.AdamHnReferenceIdeal.main_arg2) = m' ((c.tc : Thread Cert.AdamHnReferenceIdeal.nD Cert.AdamHnReferenceIdeal.τ).loc Cert.AdamHnReferenceIdeal.main_arg2)
          ∧ r.2.mem ((c.tc : Thread Cert.AdamHnReferenceIdeal.nD Cert.AdamHnReferenceIdeal.τ).loc Cert.AdamHnReferenceIdeal.main_arg3) = m' ((c.tc : Thread Cert.AdamHnReferenceIdeal.nD Cert.AdamHnReferenceIdeal.τ).loc Cert.AdamHnReferenceIdeal.main_arg3))

def Claim : Prop :=
  ∃ (hConvKernel : Cert.ConvKernel.Facts) (hConvKernelIdeal : Cert.ConvKernelIdeal.Facts) (hConvReferenceIdeal : Cert.ConvReferenceIdeal.Facts) (hMlKernel : Cert.MlKernel.Facts) (hMlKernelIdeal : Cert.MlKernelIdeal.Facts) (hGateKernel : Cert.GateKernel.Facts) (hGateKernelIdeal : Cert.GateKernelIdeal.Facts) (hGateReferenceIdeal : Cert.GateReferenceIdeal.Facts) (hDownKernel : Cert.DownKernel.Facts) (hDownKernelIdeal : Cert.DownKernelIdeal.Facts) (hDownReferenceIdeal : Cert.DownReferenceIdeal.Facts) (hFwdKernel : Cert.FwdKernel.Facts) (hFwdKernelIdeal : Cert.FwdKernelIdeal.Facts) (hFwdReferenceIdeal : Cert.FwdReferenceIdeal.Facts) (hFfnKernel : Cert.FfnKernel.Facts) (hFfnKernelIdeal : Cert.FfnKernelIdeal.Facts) (hFfnReferenceIdeal : Cert.FfnReferenceIdeal.Facts) (hMixKernel : Cert.MixKernel.Facts) (hMixKernelIdeal : Cert.MixKernelIdeal.Facts) (hMixReferenceIdeal : Cert.MixReferenceIdeal.Facts) (hInbKernel : Cert.InbKernel.Facts) (hInbKernelIdeal : Cert.InbKernelIdeal.Facts) (hInbReferenceIdeal : Cert.InbReferenceIdeal.Facts) (hWoutKernel : Cert.WoutKernel.Facts) (hWoutKernelIdeal : Cert.WoutKernelIdeal.Facts) (hWoutReferenceIdeal : Cert.WoutReferenceIdeal.Facts) (hWinKernel : Cert.WinKernel.Facts) (hWinKernelIdeal : Cert.WinKernelIdeal.Facts) (hWinReferenceIdeal : Cert.WinReferenceIdeal.Facts) (hInfKernel : Cert.InfKernel.Facts) (hInfKernelIdeal : Cert.InfKernelIdeal.Facts) (hInfReferenceIdeal : Cert.InfReferenceIdeal.Facts) (hOutfKernel : Cert.OutfKernel.Facts) (hOutfKernelIdeal : Cert.OutfKernelIdeal.Facts) (hOutfReferenceIdeal : Cert.OutfReferenceIdeal.Facts) (hAdamLnKernel : Cert.AdamLnKernel.Facts) (hAdamLnKernelIdeal : Cert.AdamLnKernelIdeal.Facts) (hAdamLnReferenceIdeal : Cert.AdamLnReferenceIdeal.Facts) (hAdamCvKernel : Cert.AdamCvKernel.Facts) (hAdamCvKernelIdeal : Cert.AdamCvKernelIdeal.Facts) (hAdamCvReferenceIdeal : Cert.AdamCvReferenceIdeal.Facts) (hAdamGtKernel : Cert.AdamGtKernel.Facts) (hAdamGtKernelIdeal : Cert.AdamGtKernelIdeal.Facts) (hAdamGtReferenceIdeal : Cert.AdamGtReferenceIdeal.Facts) (hAdamQkKernel : Cert.AdamQkKernel.Facts) (hAdamQkKernelIdeal : Cert.AdamQkKernelIdeal.Facts) (hAdamQkReferenceIdeal : Cert.AdamQkReferenceIdeal.Facts) (hAdamHnKernel : Cert.AdamHnKernel.Facts) (hAdamHnKernelIdeal : Cert.AdamHnKernelIdeal.Facts) (hAdamHnReferenceIdeal : Cert.AdamHnReferenceIdeal.Facts) (hPre_finite_inputs : Cert.Pre_finite_inputs.Facts) (hPre_finite_mixer_inputs : Cert.Pre_finite_mixer_inputs.Facts),
    quiescent_ConvKernel (hConvKernel := hConvKernel)
    ∧ quiescent_ConvKernelIdeal (hConvKernelIdeal := hConvKernelIdeal)
    ∧ quiescent_ConvReferenceIdeal (hConvReferenceIdeal := hConvReferenceIdeal)
    ∧ quiescent_MlKernel (hMlKernel := hMlKernel)
    ∧ quiescent_MlKernelIdeal (hMlKernelIdeal := hMlKernelIdeal)
    ∧ quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_FwdKernel (hFwdKernel := hFwdKernel)
    ∧ quiescent_FwdKernelIdeal (hFwdKernelIdeal := hFwdKernelIdeal)
    ∧ quiescent_FwdReferenceIdeal (hFwdReferenceIdeal := hFwdReferenceIdeal)
    ∧ quiescent_FfnKernel (hFfnKernel := hFfnKernel)
    ∧ quiescent_FfnKernelIdeal (hFfnKernelIdeal := hFfnKernelIdeal)
    ∧ quiescent_FfnKernelIdeal_pre_finite_inputs (hFfnKernelIdeal := hFfnKernelIdeal) (hPre_finite_inputs := hPre_finite_inputs)
    ∧ quiescent_FfnReferenceIdeal (hFfnReferenceIdeal := hFfnReferenceIdeal)
    ∧ quiescent_FfnReferenceIdeal_pre_finite_inputs (hFfnReferenceIdeal := hFfnReferenceIdeal) (hPre_finite_inputs := hPre_finite_inputs)
    ∧ quiescent_MixKernel (hMixKernel := hMixKernel)
    ∧ quiescent_MixKernelIdeal (hMixKernelIdeal := hMixKernelIdeal)
    ∧ quiescent_MixKernelIdeal_pre_finite_mixer_inputs (hMixKernelIdeal := hMixKernelIdeal) (hPre_finite_mixer_inputs := hPre_finite_mixer_inputs)
    ∧ quiescent_MixReferenceIdeal (hMixReferenceIdeal := hMixReferenceIdeal)
    ∧ quiescent_MixReferenceIdeal_pre_finite_mixer_inputs (hMixReferenceIdeal := hMixReferenceIdeal) (hPre_finite_mixer_inputs := hPre_finite_mixer_inputs)
    ∧ quiescent_InbKernel (hInbKernel := hInbKernel)
    ∧ quiescent_InbKernelIdeal (hInbKernelIdeal := hInbKernelIdeal)
    ∧ quiescent_InbReferenceIdeal (hInbReferenceIdeal := hInbReferenceIdeal)
    ∧ quiescent_WoutKernel (hWoutKernel := hWoutKernel)
    ∧ quiescent_WoutKernelIdeal (hWoutKernelIdeal := hWoutKernelIdeal)
    ∧ quiescent_WoutReferenceIdeal (hWoutReferenceIdeal := hWoutReferenceIdeal)
    ∧ quiescent_WinKernel (hWinKernel := hWinKernel)
    ∧ quiescent_WinKernelIdeal (hWinKernelIdeal := hWinKernelIdeal)
    ∧ quiescent_WinReferenceIdeal (hWinReferenceIdeal := hWinReferenceIdeal)
    ∧ quiescent_InfKernel (hInfKernel := hInfKernel)
    ∧ quiescent_InfKernelIdeal (hInfKernelIdeal := hInfKernelIdeal)
    ∧ quiescent_InfReferenceIdeal (hInfReferenceIdeal := hInfReferenceIdeal)
    ∧ quiescent_OutfKernel (hOutfKernel := hOutfKernel)
    ∧ quiescent_OutfKernelIdeal (hOutfKernelIdeal := hOutfKernelIdeal)
    ∧ quiescent_OutfReferenceIdeal (hOutfReferenceIdeal := hOutfReferenceIdeal)
    ∧ quiescent_AdamLnKernel (hAdamLnKernel := hAdamLnKernel)
    ∧ quiescent_AdamLnKernelIdeal (hAdamLnKernelIdeal := hAdamLnKernelIdeal)
    ∧ quiescent_AdamLnReferenceIdeal (hAdamLnReferenceIdeal := hAdamLnReferenceIdeal)
    ∧ quiescent_AdamCvKernel (hAdamCvKernel := hAdamCvKernel)
    ∧ quiescent_AdamCvKernelIdeal (hAdamCvKernelIdeal := hAdamCvKernelIdeal)
    ∧ quiescent_AdamCvReferenceIdeal (hAdamCvReferenceIdeal := hAdamCvReferenceIdeal)
    ∧ quiescent_AdamGtKernel (hAdamGtKernel := hAdamGtKernel)
    ∧ quiescent_AdamGtKernelIdeal (hAdamGtKernelIdeal := hAdamGtKernelIdeal)
    ∧ quiescent_AdamGtReferenceIdeal (hAdamGtReferenceIdeal := hAdamGtReferenceIdeal)
    ∧ quiescent_AdamQkKernel (hAdamQkKernel := hAdamQkKernel)
    ∧ quiescent_AdamQkKernelIdeal (hAdamQkKernelIdeal := hAdamQkKernelIdeal)
    ∧ quiescent_AdamQkReferenceIdeal (hAdamQkReferenceIdeal := hAdamQkReferenceIdeal)
    ∧ quiescent_AdamHnKernel (hAdamHnKernel := hAdamHnKernel)
    ∧ quiescent_AdamHnKernelIdeal (hAdamHnKernelIdeal := hAdamHnKernelIdeal)
    ∧ quiescent_AdamHnReferenceIdeal (hAdamHnReferenceIdeal := hAdamHnReferenceIdeal)
    ∧ preserves_ConvKernel_ConvKernelIdeal
    ∧ algebraic_ConvKernelIdeal_ConvReferenceIdeal (hConvKernelIdeal := hConvKernelIdeal) (hConvReferenceIdeal := hConvReferenceIdeal)
    ∧ preserves_MlKernel_MlKernelIdeal
    ∧ preserves_GateKernel_GateKernelIdeal
    ∧ algebraic_GateKernelIdeal_GateReferenceIdeal (hGateKernelIdeal := hGateKernelIdeal) (hGateReferenceIdeal := hGateReferenceIdeal)
    ∧ preserves_DownKernel_DownKernelIdeal
    ∧ algebraic_DownKernelIdeal_DownReferenceIdeal (hDownKernelIdeal := hDownKernelIdeal) (hDownReferenceIdeal := hDownReferenceIdeal)
    ∧ preserves_FwdKernel_FwdKernelIdeal
    ∧ algebraic_FwdKernelIdeal_FwdReferenceIdeal (hFwdKernelIdeal := hFwdKernelIdeal) (hFwdReferenceIdeal := hFwdReferenceIdeal)
    ∧ preserves_FfnKernel_FfnKernelIdeal
    ∧ algebraic_FfnKernelIdeal_FfnReferenceIdeal_pre_finite_inputs (hFfnKernelIdeal := hFfnKernelIdeal) (hFfnReferenceIdeal := hFfnReferenceIdeal) (hPre_finite_inputs := hPre_finite_inputs)
    ∧ preserves_MixKernel_MixKernelIdeal
    ∧ algebraic_MixKernelIdeal_MixReferenceIdeal_pre_finite_mixer_inputs (hMixKernelIdeal := hMixKernelIdeal) (hMixReferenceIdeal := hMixReferenceIdeal) (hPre_finite_mixer_inputs := hPre_finite_mixer_inputs)
    ∧ preserves_InbKernel_InbKernelIdeal
    ∧ algebraic_InbKernelIdeal_InbReferenceIdeal (hInbKernelIdeal := hInbKernelIdeal) (hInbReferenceIdeal := hInbReferenceIdeal)
    ∧ preserves_WoutKernel_WoutKernelIdeal
    ∧ algebraic_WoutKernelIdeal_WoutReferenceIdeal (hWoutKernelIdeal := hWoutKernelIdeal) (hWoutReferenceIdeal := hWoutReferenceIdeal)
    ∧ preserves_WinKernel_WinKernelIdeal
    ∧ algebraic_WinKernelIdeal_WinReferenceIdeal (hWinKernelIdeal := hWinKernelIdeal) (hWinReferenceIdeal := hWinReferenceIdeal)
    ∧ preserves_InfKernel_InfKernelIdeal
    ∧ algebraic_InfKernelIdeal_InfReferenceIdeal (hInfKernelIdeal := hInfKernelIdeal) (hInfReferenceIdeal := hInfReferenceIdeal)
    ∧ preserves_OutfKernel_OutfKernelIdeal
    ∧ algebraic_OutfKernelIdeal_OutfReferenceIdeal (hOutfKernelIdeal := hOutfKernelIdeal) (hOutfReferenceIdeal := hOutfReferenceIdeal)
    ∧ preserves_AdamLnKernel_AdamLnKernelIdeal
    ∧ algebraic_AdamLnKernelIdeal_AdamLnReferenceIdeal (hAdamLnKernelIdeal := hAdamLnKernelIdeal) (hAdamLnReferenceIdeal := hAdamLnReferenceIdeal)
    ∧ preserves_AdamCvKernel_AdamCvKernelIdeal
    ∧ algebraic_AdamCvKernelIdeal_AdamCvReferenceIdeal (hAdamCvKernelIdeal := hAdamCvKernelIdeal) (hAdamCvReferenceIdeal := hAdamCvReferenceIdeal)
    ∧ preserves_AdamGtKernel_AdamGtKernelIdeal
    ∧ algebraic_AdamGtKernelIdeal_AdamGtReferenceIdeal (hAdamGtKernelIdeal := hAdamGtKernelIdeal) (hAdamGtReferenceIdeal := hAdamGtReferenceIdeal)
    ∧ preserves_AdamQkKernel_AdamQkKernelIdeal
    ∧ algebraic_AdamQkKernelIdeal_AdamQkReferenceIdeal (hAdamQkKernelIdeal := hAdamQkKernelIdeal) (hAdamQkReferenceIdeal := hAdamQkReferenceIdeal)
    ∧ preserves_AdamHnKernel_AdamHnKernelIdeal
    ∧ algebraic_AdamHnKernelIdeal_AdamHnReferenceIdeal (hAdamHnKernelIdeal := hAdamHnKernelIdeal) (hAdamHnReferenceIdeal := hAdamHnReferenceIdeal)
-- ==== Pre_finite_inputs.lean ====
abbrev S1x4096x1024 : Shape := ⟨3, ![1, 4096, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1x4096x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1x4096x1024 .f32 := Host.absf main_arg5
  let main_cst_8 : FVec F S_ .f32 := constant S_ .f32 0x7F800000#32
  let main_v25 : FVec F S1x4096x1024 .f32 := broadcastInDim S1x4096x1024 ![] bcast_S_S1x4096x1024 main_cst_8
  let main_v26 : IVec S1x4096x1024 1 := cmpf .olt main_v24 main_v25
  let main_c_9 : IVec S_ 1 := constantI S_ 1 1#1
  let main_v27 : IVec S_ 1 := (fun x v => Host.reduce IntOp.andi x v reducesTo_S1x4096x1024_S_d0_1_2 h_S_) main_v26 main_c_9
  let main_v28 : IVec S_ 1 := andi main_v23 main_v27
  main_v28

def fn {F : FTy → Type} [FloatOps F] (main_arg0 : FVec F S1x4096x1024 .f32) (main_arg1 : FVec F S1024x2816 .f32) (main_arg2 : FVec F S1024x2816 .f32) (main_arg3 : FVec F S2816x1024 .f32) (main_arg4 : FVec F S1024 .f32) (main_arg5 : FVec F S1x4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_arg5 main_v13 main_v16
-- ==== Pre_finite_mixer_inputs.lean ====
abbrev S1x4096x1024 : Shape := ⟨3, ![1, 4096, 1024]⟩
abbrev S1024x1024 : Shape := ⟨2, ![1024, 1024]⟩
abbrev S1024 : Shape := ⟨1, ![1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1x4096x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1x4096x1024 .f32 := Host.absf main_arg4
  let main_cst_6 : FVec F S_ .f32 := constant S_ .f32 0x7F800000#32
  let main_v20 : FVec F S1x4096x1024 .f32 := broadcastInDim S1x4096x1024 ![] bcast_S_S1x4096x1024 main_cst_6
  let main_v21 : IVec S1x4096x1024 1 := cmpf .olt main_v19 main_v20
  let main_c_7 : IVec S_ 1 := constantI S_ 1 1#1
  let main_v22 : IVec S_ 1 := (fun x v => Host.reduce IntOp.andi x v reducesTo_S1x4096x1024_S_d0_1_2 h_S_) main_v21 main_c_7
  let main_v23 : IVec S_ 1 := andi main_v18 main_v22
  main_v23

def fn {F : FTy → Type} [FloatOps F] (main_arg0 : FVec F S1x4096x1024 .f32) (main_arg1 : FVec F S1x4096x1024 .f32) (main_arg2 : FVec F S1024x1024 .f32) (main_arg3 : FVec F S1024 .f32) (main_arg4 : FVec F S1x4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x4096x1024 .f32 := Host.absf main_arg1
  let main_cst_0 : FVec F S_ .f32 := constant S_ .f32 0x7F800000#32
  let main_v5 : FVec F S1x4096x1024 .f32 := broadcastInDim S1x4096x1024 ![] bcast_S_S1x4096x1024 main_cst_0
  let main_v6 : IVec S1x4096x1024 1 := cmpf .olt main_v4 main_v5
  let main_c_1 : IVec S_ 1 := constantI S_ 1 1#1
  let main_v7 : IVec S_ 1 := (fun x v => Host.reduce IntOp.andi x v reducesTo_S1x4096x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== ConvKernel.lean ====
abbrev S1x4096x2560 : Shape := ⟨3, ![1, 4096, 2560]⟩
abbrev S3x768 : Shape := ⟨2, ![3, 768]⟩
abbrev S1x4096x1024 : Shape := ⟨3, ![1, 4096, 1024]⟩
abbrev S4096x2560 : Shape := ⟨2, ![4096, 2560]⟩
abbrev S4096x10x256 : Shape := ⟨3, ![4096, 10, 256]⟩
abbrev S10x4096x256 : Shape := ⟨3, ![10, 4096, 256]⟩
abbrev S3x3x256 : Shape := ⟨3, ![3, 3, 256]⟩
abbrev S_ : Shape := ⟨0, ![]⟩
abbrev S3x8x256 : Shape := ⟨3, ![3, 8, 256]⟩
abbrev S4096x1024 : Shape := ⟨2, ![4096, 1024]⟩
abbrev S4096x4x256 : Shape := ⟨3, ![4096, 4, 256]⟩
abbrev S4x4096x256 : Shape := ⟨3, ![4, 4096, 256]⟩
abbrev S3x4096x256 : Shape := ⟨3, ![3, 4096, 256]⟩
abbrev S1x4096x128 : Shape := ⟨3, ![1, 4096, 128]⟩
abbrev S1x8x128 : Shape := ⟨3, ![1, 8, 128]⟩
abbrev S4096x128 : Shape := ⟨2, ![4096, 128]⟩
abbrev S8x128 : Shape := ⟨2, ![8, 128]⟩
abbrev S1x128 : Shape := ⟨2, ![1, 128]⟩
abbrev S128 : Shape := ⟨1, ![128]⟩
abbrev S5x128 : Shape := ⟨2, ![5, 128]⟩

abbrev nBuf : Space → Nat
  | .hbm => 21
  | .vmem => 18
  | .smem => 0
  | _ => 0

abbrev bufTy : (tb : Table) → Fin (tcTables nBuf tb) → BufTy
  | .hbm, ⟨0, _⟩ => ⟨S1x4096x2560, .f32⟩
  | .hbm, ⟨1, _⟩ => ⟨S3x768, .f32⟩
  | .hbm, ⟨2, _⟩ => ⟨S1x4096x1024, .f32⟩
  | .hbm, ⟨3, _⟩ => ⟨S4096x2560, .f32⟩
  | .hbm, ⟨4, _⟩ => ⟨S4096x10x256, .f32⟩
  | .hbm, ⟨5, _⟩ => ⟨S10x4096x256, .f32⟩
  | .hbm, ⟨6, _⟩ => ⟨S3x3x256, .f32⟩
  | .hbm, ⟨7, _⟩ => ⟨S_, .i32⟩
  | .hbm, ⟨8, _⟩ => ⟨S_, .f32⟩
  | .hbm, ⟨9, _⟩ => ⟨S3x3x256, .f32⟩
  | .hbm, ⟨10, _⟩ => ⟨S3x3x256, .f32⟩
  | .hbm, ⟨11, _⟩ => ⟨S_, .i32⟩
  | .hbm, ⟨12, _⟩ => ⟨S_, .f32⟩
  | .hbm, ⟨13, _⟩ => ⟨S3x8x256, .f32⟩
  | .hbm, ⟨14, _⟩ => ⟨S4096x1024, .f32⟩
  | .hbm, ⟨15, _⟩ => ⟨S4096x4x256, .f32⟩
  | .hbm, ⟨16, _⟩ => ⟨S4x4096x256, .f32⟩
  | .hbm, ⟨17, _⟩ => ⟨S3x4096x256, .bf16⟩
  | .hbm, ⟨18, _⟩ => ⟨S3x4096x256, .bf16⟩
  | .hbm, ⟨19, _⟩ => ⟨S3x4096x256, .bf16⟩
  | .hbm, ⟨20, _⟩ => ⟨S3x8x256, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x8x128, .f32⟩
  | .local _ .vmem, ⟨7, _⟩ => ⟨S1x8x128, .f32⟩
  | .local _ .vmem, ⟨8, _⟩ => ⟨S1x4096x128, .f32⟩
  | .local _ .vmem, ⟨9, _⟩ => ⟨S1x4096x128, .f32⟩
  | .local _ .vmem, ⟨10, _⟩ => ⟨S1x4096x128, .bf16⟩
  | .local _ .vmem, ⟨11, _⟩ => ⟨S1x4096x128, .bf16⟩
  | .local _ .vmem, ⟨12, _⟩ => ⟨S1x4096x128, .bf16⟩
  | .local _ .vmem, ⟨13, _⟩ => ⟨S1x4096x128, .bf16⟩
  | .local _ .vmem, ⟨14, _⟩ => ⟨S1x4096x128, .bf16⟩
  | .local _ .vmem, ⟨15, _⟩ => ⟨S1x4096x128, .bf16⟩
  | .local _ .vmem, ⟨16, _⟩ => ⟨S1x8x128, .f32⟩
  | .local _ .vmem, ⟨17, _⟩ => ⟨S1x8x128, .f32⟩
  | _, _ => ⟨S1x4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![3, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.addi arg0 c3_i32
  let c0_i32 : BitVec 32 := 0#32
  let c0_i32_0 : BitVec 32 := 0#32
  ![v0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi arg0 c6_i32
  let c0_i32 : BitVec 32 := 0#32
  let c0_i32_0 : BitVec 32 := 0#32
  ![v0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ConvReferenceIdeal.lean ====
abbrev S1x4096x2560 : Shape := ⟨3, ![1, 4096, 2560]⟩
abbrev S3x768 : Shape := ⟨2, ![3, 768]⟩
abbrev S1x4096x1024 : Shape := ⟨3, ![1, 4096, 1024]⟩
abbrev S1x4096x2304 : Shape := ⟨3, ![1, 4096, 2304]⟩
abbrev S1x4096x768 : Shape := ⟨3, ![1, 4096, 768]⟩
abbrev S_ : Shape := ⟨0, ![]⟩
abbrev S1x2x768 : Shape := ⟨3, ![1, 2, 768]⟩
abbrev S1x4098x768 : Shape := ⟨3, ![1, 4098, 768]⟩
abbrev S1x768 : Shape := ⟨2, ![1, 768]⟩
abbrev S768 : Shape := ⟨1, ![768]⟩
abbrev S1x1x768 : Shape := ⟨3, ![1, 1, 768]⟩
abbrev S4096x768 : Shape := ⟨2, ![4096, 768]⟩
abbrev S4096x3x256 : Shape := ⟨3, ![4096, 3, 256]⟩
abbrev S3x4096x256 : Shape := ⟨3, ![3, 4096, 256]⟩
abbrev S3x3x256 : Shape := ⟨3, ![3, 3, 256]⟩
abbrev S3x8x256 : Shape := ⟨3, ![3, 8, 256]⟩

abbrev nBuf : Space → Nat
  | .hbm => 105
  | .vmem => 0
  | .smem => 0
  | _ => 0

abbrev bufTy : (tb : Table) → Fin (tcTables nBuf tb) → BufTy
  | .hbm, ⟨0, _⟩ => ⟨S1x4096x2560, .f32⟩
  | .hbm, ⟨1, _⟩ => ⟨S3x768, .f32⟩
  | .hbm, ⟨2, _⟩ => ⟨S1x4096x1024, .f32⟩
  | .hbm, ⟨3, _⟩ => ⟨S1x4096x2304, .f32⟩
  | .hbm, ⟨4, _⟩ => ⟨S1x4096x768, .f32⟩
  | .hbm, ⟨5, _⟩ => ⟨S1x4096x768, .f32⟩
  | .hbm, ⟨6, _⟩ => ⟨S1x4096x768, .f32⟩
  | .hbm, ⟨7, _⟩ => ⟨S1x4096x768, .f32⟩
  | .hbm, ⟨8, _⟩ => ⟨S_, .f32⟩
  | .hbm, ⟨9, _⟩ => ⟨S1x2x768, .f32⟩
  | .hbm, ⟨10, _⟩ => ⟨S1x4098x768, .f32⟩
  | .hbm, ⟨11, _⟩ => ⟨S_, .f32⟩
  | .hbm, ⟨12, _⟩ => ⟨S1x2x768, .f32⟩
  | .hbm, ⟨13, _⟩ => ⟨S1x4096x768, .f32⟩
  | .hbm, ⟨14, _⟩ => ⟨S1x768, .f32⟩
  | .hbm, ⟨15, _⟩ => ⟨S768, .f32⟩
  | .hbm, ⟨16, _⟩ => ⟨S1x1x768, .f32⟩
  | .hbm, ⟨17, _⟩ => ⟨S1x4096x768, .f32⟩
  | .hbm, ⟨18, _⟩ => ⟨S1x4096x768, .f32⟩
  | .hbm, ⟨19, _⟩ => ⟨S1x4096x768, .f32⟩
  | .hbm, ⟨20, _⟩ => ⟨S1x768, .f32⟩
  | .hbm, ⟨21, _⟩ => ⟨S768, .f32⟩
  | .hbm, ⟨22, _⟩ => ⟨S1x1x768, .f32⟩
  | .hbm, ⟨23, _⟩ => ⟨S1x4096x768, .f32⟩
  | .hbm, ⟨24, _⟩ => ⟨S1x4096x768, .f32⟩
  | .hbm, ⟨25, _⟩ => ⟨S1x4096x768, .f32⟩
  | .hbm, ⟨26, _⟩ => ⟨S1x4096x768, .f32⟩
  | .hbm, ⟨27, _⟩ => ⟨S1x768, .f32⟩
  | .hbm, ⟨28, _⟩ => ⟨S768, .f32⟩
  | .hbm, ⟨29, _⟩ => ⟨S1x1x768, .f32⟩
  | .hbm, ⟨30, _⟩ => ⟨S1x4096x768, .f32⟩
  | .hbm, ⟨31, _⟩ => ⟨S1x4096x768, .f32⟩
  | .hbm, ⟨32, _⟩ => ⟨S1x4096x768, .f32⟩
  | .hbm, ⟨33, _⟩ => ⟨S1x4096x768, .f32⟩
  | .hbm, ⟨34, _⟩ => ⟨S1x4096x768, .f32⟩
  | .hbm, ⟨35, _⟩ => ⟨S1x4096x768, .f32⟩
  | .hbm, ⟨36, _⟩ => ⟨S1x4096x768, .f32⟩
  | .hbm, ⟨37, _⟩ => ⟨S1x4096x768, .f32⟩
  | .hbm, ⟨38, _⟩ => ⟨S_, .f32⟩
  | .hbm, ⟨39, _⟩ => ⟨S1x768, .f32⟩
  | .hbm, ⟨40, _⟩ => ⟨S1x1x768, .f32⟩
  | .hbm, ⟨41, _⟩ => ⟨S1x4096x768, .f32⟩
  | .hbm, ⟨42, _⟩ => ⟨S1x4096x768, .f32⟩
  | .hbm, ⟨43, _⟩ => ⟨S_, .f32⟩
  | .hbm, ⟨44, _⟩ => ⟨S768, .f32⟩
  | .hbm, ⟨45, _⟩ => ⟨S1x768, .f32⟩
  | .hbm, ⟨46, _⟩ => ⟨S_, .f32⟩
  | .hbm, ⟨47, _⟩ => ⟨S3x768, .f32⟩
  | .hbm, ⟨48, _⟩ => ⟨S_, .f32⟩
  | .hbm, ⟨49, _⟩ => ⟨S1x4098x768, .f32⟩
  | .hbm, ⟨50, _⟩ => ⟨S1x4096x768, .f32⟩
  | .hbm, ⟨51, _⟩ => ⟨S_, .f32⟩
  | .hbm, ⟨52, _⟩ => ⟨S1x768, .f32⟩
  | .hbm, ⟨53, _⟩ => ⟨S1x1x768, .f32⟩
  | .hbm, ⟨54, _⟩ => ⟨S1x4096x768, .f32⟩
  | .hbm, ⟨55, _⟩ => ⟨S1x4096x768, .f32⟩
  | .hbm, ⟨56, _⟩ => ⟨S_, .f32⟩
  | .hbm, ⟨57, _⟩ => ⟨S768, .f32⟩
  | .hbm, ⟨58, _⟩ => ⟨S1x768, .f32⟩
  | .hbm, ⟨59, _⟩ => ⟨S_, .f32⟩
  | .hbm, ⟨60, _⟩ => ⟨S3x768, .f32⟩
  | .hbm, ⟨61, _⟩ => ⟨S3x768, .f32⟩
  | .hbm, ⟨62, _⟩ => ⟨S_, .f32⟩
  | .hbm, ⟨63, _⟩ => ⟨S1x4098x768, .f32⟩
  | .hbm, ⟨64, _⟩ => ⟨S1x4098x768, .f32⟩
  | .hbm, ⟨65, _⟩ => ⟨S1x4096x768, .f32⟩
  | .hbm, ⟨66, _⟩ => ⟨S_, .f32⟩
  | .hbm, ⟨67, _⟩ => ⟨S1x768, .f32⟩
  | .hbm, ⟨68, _⟩ => ⟨S1x1x768, .f32⟩
  | .hbm, ⟨69, _⟩ => ⟨S1x4096x768, .f32⟩
  | .hbm, ⟨70, _⟩ => ⟨S1x4096x768, .f32⟩
  | .hbm, ⟨71, _⟩ => ⟨S_, .f32⟩
  | .hbm, ⟨72, _⟩ => ⟨S768, .f32⟩
  | .hbm, ⟨73, _⟩ => ⟨S1x768, .f32⟩
  | .hbm, ⟨74, _⟩ => ⟨S_, .f32⟩
  | .hbm, ⟨75, _⟩ => ⟨S3x768, .f32⟩
  | .hbm, ⟨76, _⟩ => ⟨S3x768, .f32⟩
  | .hbm, ⟨77, _⟩ => ⟨S_, .f32⟩
  | .hbm, ⟨78, _⟩ => ⟨S1x4098x768, .f32⟩
  | .hbm, ⟨79, _⟩ => ⟨S1x4098x768, .f32⟩
  | .hbm, ⟨80, _⟩ => ⟨S1x2x768, .f32⟩
  | .hbm, ⟨81, _⟩ => ⟨S1x4096x768, .f32⟩
  | .hbm, ⟨82, _⟩ => ⟨S1x4096x768, .f32⟩
  | .hbm, ⟨83, _⟩ => ⟨S1x4096x768, .f32⟩
  | .hbm, ⟨84, _⟩ => ⟨S1x4096x2304, .f32⟩
  | .hbm, ⟨85, _⟩ => ⟨S1x4096x768, .f32⟩
  | .hbm, ⟨86, _⟩ => ⟨S1x4096x768, .f32⟩
  | .hbm, ⟨87, _⟩ => ⟨S1x4096x768, .f32⟩
  | .hbm, ⟨88, _⟩ => ⟨S4096x768, .f32⟩
  | .hbm, ⟨89, _⟩ => ⟨S4096x3x256, .f32⟩
  | .hbm, ⟨90, _⟩ => ⟨S3x4096x256, .f32⟩
  | .hbm, ⟨91, _⟩ => ⟨S3x4096x256, .bf16⟩
  | .hbm, ⟨92, _⟩ => ⟨S4096x768, .f32⟩
  | .hbm, ⟨93, _⟩ => ⟨S4096x3x256, .f32⟩
  | .hbm, ⟨94, _⟩ => ⟨S3x4096x256, .f32⟩
  | .hbm, ⟨95, _⟩ => ⟨S3x4096x256, .bf16⟩
  | .hbm, ⟨96, _⟩ => ⟨S4096x768, .f32⟩
  | .hbm, ⟨97, _⟩ => ⟨S4096x3x256, .f32⟩
  | .hbm, ⟨98, _⟩ => ⟨S3x4096x256, .f32⟩
  | .hbm, ⟨99, _⟩ => ⟨S3x4096x256, .bf16⟩
  | .hbm, ⟨100, _⟩ => ⟨S3x3x256, .f32⟩
  | .hbm, ⟨101, _⟩ => ⟨S3x3x256, .f32⟩
  | .hbm, ⟨102, _⟩ => ⟨S_, .i32⟩
  | .hbm, ⟨103, _⟩ => ⟨S_, .f32⟩
  | .hbm, ⟨104, _⟩ => ⟨S3x8x256, .f32⟩
  | _, _ => ⟨S1x4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_10 : Ref sig .tc := ⟨.hbm, 71, rfl⟩
abbrev main_v57 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_c : Ref sig .tc := ⟨.hbm, 102, rfl⟩
abbrev main_call0_v0 : Ref sig .tc := ⟨.hbm, 103, rfl⟩
abbrev main_v85 : Ref sig .tc := ⟨.hbm, 104, rfl⟩

abbrev nD : Nat := 1
abbrev τ : Topo := Topo.v7x

variable {F : FTy → Type} [FloatOps F]
-- ==== MlKernel.lean ====
abbrev S8x4096x256 : Shape := ⟨3, ![8, 4096, 256]⟩
abbrev S18x4096x256 : Shape := ⟨3, ![18, 4096, 256]⟩
abbrev S1x256 : Shape := ⟨2, ![1, 256]⟩
abbrev S64x4x256x256 : Shape := ⟨4, ![64, 4, 256, 256]⟩
abbrev S64x4x1x128 : Shape := ⟨4, ![64, 4, 1, 128]⟩
abbrev S4x4096x256 : Shape := ⟨3, ![4, 4096, 256]⟩
abbrev S1x4096x256 : Shape := ⟨3, ![1, 4096, 256]⟩
abbrev S8x256x256 : Shape := ⟨3, ![8, 256, 256]⟩
abbrev S4x256x256 : Shape := ⟨3, ![4, 256, 256]⟩
abbrev S1x256x256 : Shape := ⟨3, ![1, 256, 256]⟩
abbrev S4x4x256x256 : Shape := ⟨4, ![4, 4, 256, 256]⟩
abbrev S4x4x1x128 : Shape := ⟨4, ![4, 4, 1, 128]⟩
abbrev S1x64x64 : Shape := ⟨3, ![1, 64, 64]⟩
abbrev S4x64x256 : Shape := ⟨3, ![4, 64, 256]⟩
abbrev S1x64x256 : Shape := ⟨3, ![1, 64, 256]⟩
abbrev S64x256 : Shape := ⟨2, ![64, 256]⟩
abbrev S64 : Shape := ⟨1, ![64]⟩
abbrev S64x1 : Shape := ⟨2, ![64, 1]⟩
abbrev S1x64x1 : Shape := ⟨3, ![1, 64, 1]⟩
abbrev S4x64x1 : Shape := ⟨3, ![4, 64, 1]⟩
abbrev S1x4x256x256 : Shape := ⟨4, ![1, 4, 256, 256]⟩
abbrev S1x4x1x128 : Shape := ⟨4, ![1, 4, 1, 128]⟩
abbrev S4x1x128 : Shape := ⟨3, ![4, 1, 128]⟩
abbrev S4x1x1 : Shape := ⟨3, ![4, 1, 1]⟩
abbrev S4x64x64 : Shape := ⟨3, ![4, 64, 64]⟩
abbrev S4x64 : Shape := ⟨2, ![4, 64]⟩
abbrev S4x1x64 : Shape := ⟨3, ![4, 1, 64]⟩
abbrev S4x1 : Shape := ⟨2, ![4, 1]⟩
abbrev S4x256 : Shape := ⟨2, ![4, 256]⟩
abbrev S4x256x1 : Shape := ⟨3, ![4, 256, 1]⟩
abbrev S256 : Shape := ⟨1, ![256]⟩

abbrev nBuf : Space → Nat
  | .hbm => 11
  | .vmem => 21
  | .smem => 0
  | _ => 0

abbrev bufTy : (tb : Table) → Fin (tcTables nBuf tb) → BufTy
  | .hbm, ⟨0, _⟩ => ⟨S8x4096x256, .f32⟩
  | .hbm, ⟨1, _⟩ => ⟨S18x4096x256, .f32⟩
  | .hbm, ⟨2, _⟩ => ⟨S1x256, .f32⟩
  | .hbm, ⟨3, _⟩ => ⟨S64x4x256x256, .f32⟩
  | .hbm, ⟨4, _⟩ => ⟨S64x4x1x128, .f32⟩
  | .hbm, ⟨5, _⟩ => ⟨S4x4096x256, .f32⟩
  | .hbm, ⟨6, _⟩ => ⟨S18x4096x256, .bf16⟩
  | .hbm, ⟨7, _⟩ => ⟨S8x4096x256, .bf16⟩
  | .hbm, ⟨8, _⟩ => ⟨S18x4096x256, .bf16⟩
  | .hbm, ⟨9, _⟩ => ⟨S1x4096x256, .bf16⟩
  | .hbm, ⟨10, _⟩ => ⟨S1x256, .f32⟩
  | .local _ .vmem, ⟨0, _⟩ => ⟨S8x256x256, .f32⟩
  | .local _ .vmem, ⟨1, _⟩ => ⟨S8x256x256, .f32⟩
  | .local _ .vmem, ⟨2, _⟩ => ⟨S4x256x256, .f32⟩
  | .local _ .vmem, ⟨3, _⟩ => ⟨S4x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256, .f32⟩
  | .local _ .vmem, ⟨7, _⟩ => ⟨S4x4x256x256, .f32⟩
  | .local _ .vmem, ⟨8, _⟩ => ⟨S4x4x256x256, .f32⟩
  | .local _ .vmem, ⟨9, _⟩ => ⟨S4x4x1x128, .f32⟩
  | .local _ .vmem, ⟨10, _⟩ => ⟨S4x4x1x128, .f32⟩
  | .local _ .vmem, ⟨11, _⟩ => ⟨S4x256x256, .f32⟩
  | .local _ .vmem, ⟨12, _⟩ => ⟨S4x256x256, .f32⟩
  | .local _ .vmem, ⟨13, _⟩ => ⟨S8x256x256, .bf16⟩
  | .local _ .vmem, ⟨14, _⟩ => ⟨S8x256x256, .bf16⟩
  | .local _ .vmem, ⟨15, _⟩ => ⟨S4x256x256, .bf16⟩
  | .local _ .vmem, ⟨16, _⟩ => ⟨S4x256x256, .bf16⟩
  | .local _ .vmem, ⟨17, _⟩ => ⟨S1x256x256, .bf16⟩
  | .local _ .vmem, ⟨18, _⟩ => ⟨S1x256x256, .bf16⟩
  | .local _ .vmem, ⟨19, _⟩ => ⟨S1x256, .f32⟩
  | .local _ .vmem, ⟨20, _⟩ => ⟨S4x256x256, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [BitOps F]

abbrev grid0 : Pipeline.Grid := ⟨1, ![16], ![false]⟩

def cc0_transform_0 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  let c0_i32_0 : BitVec 32 := 0#32
  ![c2_i32.toNat, v0.toNat, c0_i32.toNat]

def cc0_transform_2 (i : grid0.Coords) : Fin 3 → Nat :=
  let arg0 : BitVec 32 := BitVec.ofNat 32 (i 0).val
  let c15_i32 : BitVec 32 := 15#32
  let v0 : BitVec 32 := Scalar.subi c15_i32 arg0
  let c17_i32 : BitVec 32 := 17#32
  let c0_i32 : BitVec 32 := 0#32
  let c0_i32_0 : BitVec 32 := 0#32
  ![c17_i32.toNat, v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_8 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_9 (i : grid0.Coords) : Fin 3 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  let c0_i32_0 : BitVec 32 := 0#32
  ![c2_i32.toNat, v0.toNat, c0_i32.toNat]

def cc0_transform_10 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x4x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x4x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MlKernelIdeal.lean ====
variable {F : FTy → Type} [FloatOps F]
-- ==== GateKernel.lean ====
abbrev S1x4096x1024 : Shape := ⟨3, ![1, 4096, 1024]⟩
abbrev S1024x2816 : Shape := ⟨2, ![1024, 2816]⟩
abbrev S1x4096x2816 : Shape := ⟨3, ![1, 4096, 2816]⟩
abbrev S4096x2816 : Shape := ⟨2, ![4096, 2816]⟩
abbrev S4096x4x704 : Shape := ⟨3, ![4096, 4, 704]⟩
abbrev S4x4096x704 : Shape := ⟨3, ![4, 4096, 704]⟩
abbrev S4096x1024 : Shape := ⟨2, ![4096, 1024]⟩
abbrev S4x704x1024 : Shape := ⟨3, ![4, 704, 1024]⟩
abbrev S2x2048x704 : Shape := ⟨3, ![2, 2048, 704]⟩
abbrev S2048x1024 : Shape := ⟨2, ![2048, 1024]⟩
abbrev S2x704x1024 : Shape := ⟨3, ![2, 704, 1024]⟩
abbrev S1x704x1024 : Shape := ⟨3, ![1, 704, 1024]⟩
abbrev S704x1024 : Shape := ⟨2, ![704, 1024]⟩
abbrev S1x2048x704 : Shape := ⟨3, ![1, 2048, 704]⟩
abbrev S2048x704 : Shape := ⟨2, ![2048, 704]⟩

abbrev nBuf : Space → Nat
  | .hbm => 10
  | .vmem => 7
  | .smem => 0
  | _ => 0

abbrev bufTy : (tb : Table) → Fin (tcTables nBuf tb) → BufTy
  | .hbm, ⟨0, _⟩ => ⟨S1x4096x1024, .f32⟩
  | .hbm, ⟨1, _⟩ => ⟨S1024x2816, .f32⟩
  | .hbm, ⟨2, _⟩ => ⟨S1x4096x2816, .f32⟩
  | .hbm, ⟨3, _⟩ => ⟨S4096x2816, .f32⟩
  | .hbm, ⟨4, _⟩ => ⟨S4096x4x704, .f32⟩
  | .hbm, ⟨5, _⟩ => ⟨S4x4096x704, .f32⟩
  | .hbm, ⟨6, _⟩ => ⟨S4x4096x704, .bf16⟩
  | .hbm, ⟨7, _⟩ => ⟨S4096x1024, .f32⟩
  | .hbm, ⟨8, _⟩ => ⟨S4096x1024, .bf16⟩
  | .hbm, ⟨9, _⟩ => ⟨S4x704x1024, .bf16⟩
  | .local _ .vmem, ⟨0, _⟩ => ⟨S2x2048x704, .bf16⟩
  | .local _ .vmem, ⟨1, _⟩ => ⟨S2x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S2x704x1024, .bf16⟩
  | .local _ .vmem, ⟨5, _⟩ => ⟨S2x704x1024, .bf16⟩
  | .local _ .vmem, ⟨6, _⟩ => ⟨S2x704x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v25 : BitVec 1 := Scalar.cmpi .eq arg1 c1_i32
  let v26 : BitVec 32 := Scalar.extui v25
  let c0_i32_22 : BitVec 32 := 0#32
  let v27 : BitVec 1 := Scalar.cmpi .ne v26 c0_i32_22
  v27

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GateReferenceIdeal.lean ====
abbrev S1x4096x1024 : Shape := ⟨3, ![1, 4096, 1024]⟩
abbrev S1024x2816 : Shape := ⟨2, ![1024, 2816]⟩
abbrev S1x4096x2816 : Shape := ⟨3, ![1, 4096, 2816]⟩
abbrev S2816x1024 : Shape := ⟨2, ![2816, 1024]⟩
abbrev S4x704x1024 : Shape := ⟨3, ![4, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024x2816, .f32⟩
  | .hbm, ⟨2, _⟩ => ⟨S1x4096x2816, .f32⟩
  | .hbm, ⟨3, _⟩ => ⟨S1x4096x2816, .f32⟩
  | .hbm, ⟨4, _⟩ => ⟨S2816x1024, .f32⟩
  | .hbm, ⟨5, _⟩ => ⟨S1024x2816, .f32⟩
  | .hbm, ⟨6, _⟩ => ⟨S2816x1024, .f32⟩
  | .hbm, ⟨7, _⟩ => ⟨S4x704x1024, .f32⟩
  | .hbm, ⟨8, _⟩ => ⟨S4x704x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownKernel.lean ====
abbrev S1x4096x2816 : Shape := ⟨3, ![1, 4096, 2816]⟩
abbrev S2816x1024 : Shape := ⟨2, ![2816, 1024]⟩
abbrev S1x4096x1024 : Shape := ⟨3, ![1, 4096, 1024]⟩
abbrev S4096x2816 : Shape := ⟨2, ![4096, 2816]⟩
abbrev S4096x4x704 : Shape := ⟨3, ![4096, 4, 704]⟩
abbrev S4x4096x704 : Shape := ⟨3, ![4, 4096, 704]⟩
abbrev S4096x1024 : Shape := ⟨2, ![4096, 1024]⟩
abbrev S4x704x1024 : Shape := ⟨3, ![4, 704, 1024]⟩
abbrev S2x2048x704 : Shape := ⟨3, ![2, 2048, 704]⟩
abbrev S2048x1024 : Shape := ⟨2, ![2048, 1024]⟩
abbrev S2x704x1024 : Shape := ⟨3, ![2, 704, 1024]⟩
abbrev S1x704x1024 : Shape := ⟨3, ![1, 704, 1024]⟩
abbrev S704x1024 : Shape := ⟨2, ![704, 1024]⟩
abbrev S1x2048x704 : Shape := ⟨3, ![1, 2048, 704]⟩
abbrev S2048x704 : Shape := ⟨2, ![2048, 704]⟩

abbrev nBuf : Space → Nat
  | .hbm => 10
  | .vmem => 7
  | .smem => 0
  | _ => 0

abbrev bufTy : (tb : Table) → Fin (tcTables nBuf tb) → BufTy
  | .hbm, ⟨0, _⟩ => ⟨S1x4096x2816, .f32⟩
  | .hbm, ⟨1, _⟩ => ⟨S2816x1024, .f32⟩
  | .hbm, ⟨2, _⟩ => ⟨S1x4096x1024, .f32⟩
  | .hbm, ⟨3, _⟩ => ⟨S4096x2816, .f32⟩
  | .hbm, ⟨4, _⟩ => ⟨S4096x4x704, .f32⟩
  | .hbm, ⟨5, _⟩ => ⟨S4x4096x704, .f32⟩
  | .hbm, ⟨6, _⟩ => ⟨S4x4096x704, .bf16⟩
  | .hbm, ⟨7, _⟩ => ⟨S4096x1024, .f32⟩
  | .hbm, ⟨8, _⟩ => ⟨S4096x1024, .bf16⟩
  | .hbm, ⟨9, _⟩ => ⟨S4x704x1024, .bf16⟩
  | .local _ .vmem, ⟨0, _⟩ => ⟨S2x2048x704, .bf16⟩
  | .local _ .vmem, ⟨1, _⟩ => ⟨S2x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S2x704x1024, .bf16⟩
  | .local _ .vmem, ⟨5, _⟩ => ⟨S2x704x1024, .bf16⟩
  | .local _ .vmem, ⟨6, _⟩ => ⟨S2x704x1024, .f32⟩
  | _, _ => ⟨S1x4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v25 : BitVec 1 := Scalar.cmpi .eq arg1 c1_i32
  let v26 : BitVec 32 := Scalar.extui v25
  let c0_i32_22 : BitVec 32 := 0#32
  let v27 : BitVec 1 := Scalar.cmpi .ne v26 c0_i32_22
  v27

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DownReferenceIdeal.lean ====
abbrev S1x4096x2816 : Shape := ⟨3, ![1, 4096, 2816]⟩
abbrev S2816x1024 : Shape := ⟨2, ![2816, 1024]⟩
abbrev S1x4096x1024 : Shape := ⟨3, ![1, 4096, 1024]⟩
abbrev S1024x2816 : Shape := ⟨2, ![1024, 2816]⟩
abbrev S4x704x1024 : Shape := ⟨3, ![4, 704, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1x4096x2816, .f32⟩
  | .hbm, ⟨1, _⟩ => ⟨S2816x1024, .f32⟩
  | .hbm, ⟨2, _⟩ => ⟨S1x4096x1024, .f32⟩
  | .hbm, ⟨3, _⟩ => ⟨S1x4096x1024, .f32⟩
  | .hbm, ⟨4, _⟩ => ⟨S1024x2816, .f32⟩
  | .hbm, ⟨5, _⟩ => ⟨S2816x1024, .f32⟩
  | .hbm, ⟨6, _⟩ => ⟨S4x704x1024, .f32⟩
  | .hbm, ⟨7, _⟩ => ⟨S4x704x1024, .bf16⟩
  | _, _ => ⟨S1x4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FwdKernel.lean ====
abbrev S1x4096x1024 : Shape := ⟨3, ![1, 4096, 1024]⟩
abbrev S1024x2816 : Shape := ⟨2, ![1024, 2816]⟩
abbrev S2816x1024 : Shape := ⟨2, ![2816, 1024]⟩
abbrev S1024 : Shape := ⟨1, ![1024]⟩
abbrev S4x704x1024 : Shape := ⟨3, ![4, 704, 1024]⟩
abbrev S4096x1024 : Shape := ⟨2, ![4096, 1024]⟩
abbrev S1x1024 : Shape := ⟨2, ![1, 1024]⟩
abbrev S4x4096x704 : Shape := ⟨3, ![4, 4096, 704]⟩
abbrev S512x1024 : Shape := ⟨2, ![512, 1024]⟩
abbrev S1x512x704 : Shape := ⟨3, ![1, 512, 704]⟩
abbrev S1x704x1024 : Shape := ⟨3, ![1, 704, 1024]⟩
abbrev S704x1024 : Shape := ⟨2, ![704, 1024]⟩
abbrev S512x704 : Shape := ⟨2, ![512, 704]⟩
abbrev S512 : Shape := ⟨1, ![512]⟩
abbrev S512x1 : Shape := ⟨2, ![512, 1]⟩

abbrev nBuf : Space → Nat
  | .hbm => 25
  | .vmem => 21
  | .smem => 0
  | _ => 0

abbrev bufTy : (tb : Table) → Fin (tcTables nBuf tb) → BufTy
  | .hbm, ⟨0, _⟩ => ⟨S1x4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S4x704x1024, .f32⟩
  | .hbm, ⟨7, _⟩ => ⟨S4x704x1024, .bf16⟩
  | .hbm, ⟨8, _⟩ => ⟨S4096x1024, .f32⟩
  | .hbm, ⟨9, _⟩ => ⟨S4096x1024, .bf16⟩
  | .hbm, ⟨10, _⟩ => ⟨S4096x1024, .f32⟩
  | .hbm, ⟨11, _⟩ => ⟨S2816x1024, .f32⟩
  | .hbm, ⟨12, _⟩ => ⟨S4x704x1024, .f32⟩
  | .hbm, ⟨13, _⟩ => ⟨S4x704x1024, .bf16⟩
  | .hbm, ⟨14, _⟩ => ⟨S2816x1024, .f32⟩
  | .hbm, ⟨15, _⟩ => ⟨S4x704x1024, .f32⟩
  | .hbm, ⟨16, _⟩ => ⟨S4x704x1024, .bf16⟩
  | .hbm, ⟨17, _⟩ => ⟨S1x1024, .f32⟩
  | .hbm, ⟨18, _⟩ => ⟨S1x1024, .f32⟩
  | .hbm, ⟨19, _⟩ => ⟨S4x4096x704, .bf16⟩
  | .hbm, ⟨20, _⟩ => ⟨S4x4096x704, .bf16⟩
  | .hbm, ⟨21, _⟩ => ⟨S4x4096x704, .bf16⟩
  | .hbm, ⟨22, _⟩ => ⟨S4096x1024, .f32⟩
  | .hbm, ⟨23, _⟩ => ⟨S4096x1024, .f32⟩
  | .hbm, ⟨24, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S4x704x1024, .bf16⟩
  | .local _ .vmem, ⟨5, _⟩ => ⟨S4x704x1024, .bf16⟩
  | .local _ .vmem, ⟨6, _⟩ => ⟨S4x704x1024, .bf16⟩
  | .local _ .vmem, ⟨7, _⟩ => ⟨S1x1024, .f32⟩
  | .local _ .vmem, ⟨8, _⟩ => ⟨S1x1024, .f32⟩
  | .local _ .vmem, ⟨9, _⟩ => ⟨S1x512x704, .bf16⟩
  | .local _ .vmem, ⟨10, _⟩ => ⟨S1x512x704, .bf16⟩
  | .local _ .vmem, ⟨11, _⟩ => ⟨S1x512x704, .bf16⟩
  | .local _ .vmem, ⟨12, _⟩ => ⟨S1x512x704, .bf16⟩
  | .local _ .vmem, ⟨13, _⟩ => ⟨S1x512x704, .bf16⟩
  | .local _ .vmem, ⟨14, _⟩ => ⟨S1x512x704, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v13_2 : Ref sig .tc := ⟨.hbm, 21, rfl⟩
abbrev main_v13_3 : Ref sig .tc := ⟨.hbm, 22, rfl⟩
abbrev main_v13_4 : Ref sig .tc := ⟨.hbm, 23, rfl⟩
abbrev main_v13_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![8, 4], ![false, false]⟩

def k0_off1 (i : grid0.Coords) : Fin 3 → Nat :=
  let arg1 : BitVec 32 := BitVec.ofNat 32 (i 1).val
  let v2 : Index := Scalar.indexCast arg1
  let c0_1 : Index := 0#32
  let c0_2 : Index := 0#32
  ![v2.toNat, 0, 0]
def k0_cond1 (i : grid0.Coords) : BitVec 1 :=
  let arg1 : BitVec 32 := BitVec.ofNat 32 (i 1).val
  let c0_i32 : BitVec 32 := 0#32
  let v35 : BitVec 1 := Scalar.cmpi .eq arg1 c0_i32
  let v36 : BitVec 32 := Scalar.extui v35
  let c0_i32_21 : BitVec 32 := 0#32
  let v37 : BitVec 1 := Scalar.cmpi .ne v36 c0_i32_21
  v37

def k0_cond2 (i : grid0.Coords) : BitVec 1 :=
  let arg1 : BitVec 32 := BitVec.ofNat 32 (i 1).val
  let c0_i32_22 : BitVec 32 := 0#32
  let v38 : BitVec 1 := Scalar.cmpi .sgt arg1 c0_i32_22
  let v39 : BitVec 32 := Scalar.extui v38
  let c0_i32_23 : BitVec 32 := 0#32
  let v40 : BitVec 1 := Scalar.cmpi .ne v39 c0_i32_23
  v40

def k0_cond3 (i : grid0.Coords) : BitVec 1 :=
  let arg1 : BitVec 32 := BitVec.ofNat 32 (i 1).val
  let c3_i32 : BitVec 32 := 3#32
  let v41 : BitVec 1 := Scalar.cmpi .eq arg1 c3_i32
  let v42 : BitVec 32 := Scalar.extui v41
  let c0_i32_24 : BitVec 32 := 0#32
  let v43 : BitVec 1 := Scalar.cmpi .ne v42 c0_i32_24
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== FwdReferenceIdeal.lean ====
abbrev S1x4096x1024 : Shape := ⟨3, ![1, 4096, 1024]⟩
abbrev S1024x2816 : Shape := ⟨2, ![1024, 2816]⟩
abbrev S2816x1024 : Shape := ⟨2, ![2816, 1024]⟩
abbrev S1024 : Shape := ⟨1, ![1024]⟩
abbrev S1x4096x2816 : Shape := ⟨3, ![1, 4096, 2816]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S4096x2816 : Shape := ⟨2, ![4096, 2816]⟩
abbrev S4096x4x704 : Shape := ⟨3, ![4096, 4, 704]⟩
abbrev S4x4096x704 : Shape := ⟨3, ![4, 4096, 704]⟩
abbrev S4096x1024 : Shape := ⟨2, ![4096, 1024]⟩

abbrev nBuf : Space → Nat
  | .hbm => 71
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1x4096x2816, .f32⟩
  | .hbm, ⟨7, _⟩ => ⟨S1x4096x2816, .f32⟩
  | .hbm, ⟨8, _⟩ => ⟨S1x4096x2816, .f32⟩
  | .hbm, ⟨9, _⟩ => ⟨S1x4096x2816, .f32⟩
  | .hbm, ⟨10, _⟩ => ⟨S_, .f32⟩
  | .hbm, ⟨11, _⟩ => ⟨S1x4096x2816, .f32⟩
  | .hbm, ⟨12, _⟩ => ⟨S1x4096x2816, .f32⟩
  | .hbm, ⟨13, _⟩ => ⟨S_, .f32⟩
  | .hbm, ⟨14, _⟩ => ⟨S1x4096x2816, .f32⟩
  | .hbm, ⟨15, _⟩ => ⟨S1x4096x2816, .f32⟩
  | .hbm, ⟨16, _⟩ => ⟨S1x4096x2816, .f32⟩
  | .hbm, ⟨17, _⟩ => ⟨S1x4096x2816, .f32⟩
  | .hbm, ⟨18, _⟩ => ⟨S_, .f32⟩
  | .hbm, ⟨19, _⟩ => ⟨S1x4096x1024, .f32⟩
  | .hbm, ⟨20, _⟩ => ⟨S1x4096x1024, .f32⟩
  | .hbm, ⟨21, _⟩ => ⟨S1x4096x1024, .f32⟩
  | .hbm, ⟨22, _⟩ => ⟨S_, .f32⟩
  | .hbm, ⟨23, _⟩ => ⟨S1x4096x1024, .f32⟩
  | .hbm, ⟨24, _⟩ => ⟨S1x4096x1024, .f32⟩
  | .hbm, ⟨25, _⟩ => ⟨S1x4096x1024, .f32⟩
  | .hbm, ⟨26, _⟩ => ⟨S_, .f32⟩
  | .hbm, ⟨27, _⟩ => ⟨S1x4096, .f32⟩
  | .hbm, ⟨28, _⟩ => ⟨S1x4096x1, .f32⟩
  | .hbm, ⟨29, _⟩ => ⟨S_, .f32⟩
  | .hbm, ⟨30, _⟩ => ⟨S1x4096x1, .f32⟩
  | .hbm, ⟨31, _⟩ => ⟨S1x4096x1, .f32⟩
  | .hbm, ⟨32, _⟩ => ⟨S1x4096x1024, .f32⟩
  | .hbm, ⟨33, _⟩ => ⟨S1x4096x1024, .f32⟩
  | .hbm, ⟨34, _⟩ => ⟨S1x4096x1024, .f32⟩
  | .hbm, ⟨35, _⟩ => ⟨S_, .f32⟩
  | .hbm, ⟨36, _⟩ => ⟨S1x4096, .f32⟩
  | .hbm, ⟨37, _⟩ => ⟨S1x4096x1, .f32⟩
  | .hbm, ⟨38, _⟩ => ⟨S_, .f32⟩
  | .hbm, ⟨39, _⟩ => ⟨S1x4096x1, .f32⟩
  | .hbm, ⟨40, _⟩ => ⟨S1x4096x1, .f32⟩
  | .hbm, ⟨41, _⟩ => ⟨S1x4096x1024, .f32⟩
  | .hbm, ⟨42, _⟩ => ⟨S1x4096x1024, .f32⟩
  | .hbm, ⟨43, _⟩ => ⟨S_, .f32⟩
  | .hbm, ⟨44, _⟩ => ⟨S1x4096x1, .f32⟩
  | .hbm, ⟨45, _⟩ => ⟨S1x4096x1, .f32⟩
  | .hbm, ⟨46, _⟩ => ⟨S1x4096x1, .f32⟩
  | .hbm, ⟨47, _⟩ => ⟨S1x4096x1024, .f32⟩
  | .hbm, ⟨48, _⟩ => ⟨S1x4096x1024, .f32⟩
  | .hbm, ⟨49, _⟩ => ⟨S1x1x1024, .f32⟩
  | .hbm, ⟨50, _⟩ => ⟨S1x4096x1024, .f32⟩
  | .hbm, ⟨51, _⟩ => ⟨S1x4096x1024, .f32⟩
  | .hbm, ⟨52, _⟩ => ⟨S1x1x1024, .f32⟩
  | .hbm, ⟨53, _⟩ => ⟨S1x4096x1024, .f32⟩
  | .hbm, ⟨54, _⟩ => ⟨S1x4096x1024, .f32⟩
  | .hbm, ⟨55, _⟩ => ⟨S4096x2816, .f32⟩
  | .hbm, ⟨56, _⟩ => ⟨S4096x4x704, .f32⟩
  | .hbm, ⟨57, _⟩ => ⟨S4x4096x704, .f32⟩
  | .hbm, ⟨58, _⟩ => ⟨S4x4096x704, .bf16⟩
  | .hbm, ⟨59, _⟩ => ⟨S4096x2816, .f32⟩
  | .hbm, ⟨60, _⟩ => ⟨S4096x4x704, .f32⟩
  | .hbm, ⟨61, _⟩ => ⟨S4x4096x704, .f32⟩
  | .hbm, ⟨62, _⟩ => ⟨S4x4096x704, .bf16⟩
  | .hbm, ⟨63, _⟩ => ⟨S4096x2816, .f32⟩
  | .hbm, ⟨64, _⟩ => ⟨S4096x4x704, .f32⟩
  | .hbm, ⟨65, _⟩ => ⟨S4x4096x704, .f32⟩
  | .hbm, ⟨66, _⟩ => ⟨S4x4096x704, .bf16⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩

abbrev nD : Nat := 1
abbrev τ : Topo := Topo.v7x

variable {F : FTy → Type} [FloatOps F]
-- ==== FfnKernel.lean ====
abbrev S1x4096x1024 : Shape := ⟨3, ![1, 4096, 1024]⟩
abbrev S1024x2816 : Shape := ⟨2, ![1024, 2816]⟩
abbrev S2816x1024 : Shape := ⟨2, ![2816, 1024]⟩
abbrev S1024 : Shape := ⟨1, ![1024]⟩
abbrev S4096x1024 : Shape := ⟨2, ![4096, 1024]⟩
abbrev S4096x2816 : Shape := ⟨2, ![4096, 2816]⟩
abbrev S_ : Shape := ⟨0, ![]⟩
abbrev S4x704x1024 : Shape := ⟨3, ![4, 704, 1024]⟩
abbrev S1x1024 : Shape := ⟨2, ![1, 1024]⟩
abbrev S4096x4x704 : Shape := ⟨3, ![4096, 4, 704]⟩
abbrev S4x4096x704 : Shape := ⟨3, ![4, 4096, 704]⟩
abbrev S512x1024 : Shape := ⟨2, ![512, 1024]⟩
abbrev S1x512x704 : Shape := ⟨3, ![1, 512, 704]⟩
abbrev S512 : Shape := ⟨1, ![512]⟩
abbrev S512x1 : Shape := ⟨2, ![512, 1]⟩
abbrev S1x384x1024 : Shape := ⟨3, ![1, 384, 1024]⟩
abbrev S384x1024 : Shape := ⟨2, ![384, 1024]⟩
abbrev S512x384 : Shape := ⟨2, ![512, 384]⟩
abbrev S1x512x384 : Shape := ⟨3, ![1, 512, 384]⟩
abbrev S1x320x1024 : Shape := ⟨3, ![1, 320, 1024]⟩
abbrev S320x1024 : Shape := ⟨2, ![320, 1024]⟩
abbrev S512x320 : Shape := ⟨2, ![512, 320]⟩
abbrev S1x512x320 : Shape := ⟨3, ![1, 512, 320]⟩

abbrev nBuf : Space → Nat
  | .hbm => 51
  | .vmem => 22
  | .smem => 0
  | _ => 0

abbrev bufTy : (tb : Table) → Fin (tcTables nBuf tb) → BufTy
  | .hbm, ⟨0, _⟩ => ⟨S1x4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1x4096x1024, .f32⟩
  | .hbm, ⟨6, _⟩ => ⟨S4096x1024, .f32⟩
  | .hbm, ⟨7, _⟩ => ⟨S4096x2816, .f32⟩
  | .hbm, ⟨8, _⟩ => ⟨S4096x1024, .f32⟩
  | .hbm, ⟨9, _⟩ => ⟨S4096x2816, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S2816x1024, .f32⟩
  | .hbm, ⟨30, _⟩ => ⟨S4x704x1024, .f32⟩
  | .hbm, ⟨31, _⟩ => ⟨S4x704x1024, .bf16⟩
  | .hbm, ⟨32, _⟩ => ⟨S2816x1024, .f32⟩
  | .hbm, ⟨33, _⟩ => ⟨S4x704x1024, .f32⟩
  | .hbm, ⟨34, _⟩ => ⟨S4x704x1024, .bf16⟩
  | .hbm, ⟨35, _⟩ => ⟨S4x704x1024, .f32⟩
  | .hbm, ⟨36, _⟩ => ⟨S4x704x1024, .bf16⟩
  | .hbm, ⟨37, _⟩ => ⟨S4096x1024, .f32⟩
  | .hbm, ⟨38, _⟩ => ⟨S1x1024, .f32⟩
  | .hbm, ⟨39, _⟩ => ⟨S4096x4x704, .f32⟩
  | .hbm, ⟨40, _⟩ => ⟨S4x4096x704, .f32⟩
  | .hbm, ⟨41, _⟩ => ⟨S4x4096x704, .bf16⟩
  | .hbm, ⟨42, _⟩ => ⟨S4096x4x704, .f32⟩
  | .hbm, ⟨43, _⟩ => ⟨S4x4096x704, .f32⟩
  | .hbm, ⟨44, _⟩ => ⟨S4x4096x704, .bf16⟩
  | .hbm, ⟨45, _⟩ => ⟨S4x4096x704, .bf16⟩
  | .hbm, ⟨46, _⟩ => ⟨S4x4096x704, .bf16⟩
  | .hbm, ⟨47, _⟩ => ⟨S4096x1024, .f32⟩
  | .hbm, ⟨48, _⟩ => ⟨S4096x1024, .bf16⟩
  | .hbm, ⟨49, _⟩ => ⟨S1x1024, .f32⟩
  | .hbm, ⟨50, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S4x704x1024, .bf16⟩
  | .local _ .vmem, ⟨6, _⟩ => ⟨S4x704x1024, .bf16⟩
  | .local _ .vmem, ⟨7, _⟩ => ⟨S4x704x1024, .bf16⟩
  | .local _ .vmem, ⟨8, _⟩ => ⟨S1x512x704, .bf16⟩
  | .local _ .vmem, ⟨9, _⟩ => ⟨S1x512x704, .bf16⟩
  | .local _ .vmem, ⟨10, _⟩ => ⟨S1x512x704, .bf16⟩
  | .local _ .vmem, ⟨11, _⟩ => ⟨S1x512x704, .bf16⟩
  | .local _ .vmem, ⟨12, _⟩ => ⟨S1x512x704, .bf16⟩
  | .local _ .vmem, ⟨13, _⟩ => ⟨S1x512x704, .bf16⟩
  | .local _ .vmem, ⟨14, _⟩ => ⟨S1x512x704, .bf16⟩
  | .local _ .vmem, ⟨15, _⟩ => ⟨S1x512x704, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S1x1024, .f32⟩
  | .local _ .vmem, ⟨21, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29_0 : Ref sig .tc := ⟨.hbm, 45, rfl⟩
abbrev main_v29_1 : Ref sig .tc := ⟨.hbm, 46, rfl⟩
abbrev main_v29_2 : Ref sig .tc := ⟨.hbm, 47, rfl⟩
abbrev main_v29_3 : Ref sig .tc := ⟨.hbm, 48, rfl⟩
abbrev main_v29_4 : Ref sig .tc := ⟨.hbm, 49, rfl⟩
abbrev main_v29_5 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨2, ![8, 4], ![false, false]⟩

def k0_off1 (i : grid0.Coords) : Fin 3 → Nat :=
  let arg1 : BitVec 32 := BitVec.ofNat 32 (i 1).val
  let v10 : Index := Scalar.indexCast arg1
  let c0_5 : Index := 0#32
  let c0_6 : Index := 0#32
  ![v10.toNat, 0, 0]
def k0_off2 (i : grid0.Coords) : Fin 3 → Nat :=
  let arg1 : BitVec 32 := BitVec.ofNat 32 (i 1).val
  let v54 : Index := Scalar.indexCast arg1
  let c384 : Index := 384#32
  let c0_30 : Index := 0#32
  ![v54.toNat, 384, 0]
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== FfnReferenceIdeal.lean ====
abbrev S1x4096x1024 : Shape := ⟨3, ![1, 4096, 1024]⟩
abbrev S1024x2816 : Shape := ⟨2, ![1024, 2816]⟩
abbrev S2816x1024 : Shape := ⟨2, ![2816, 1024]⟩
abbrev S1024 : Shape := ⟨1, ![1024]⟩
abbrev S1x4096x2816 : Shape := ⟨3, ![1, 4096, 2816]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x1024 : Shape := ⟨2, ![1, 1024]⟩
abbrev S4096 : Shape := ⟨1, ![4096]⟩
abbrev S4096x2816 : Shape := ⟨2, ![4096, 2816]⟩
abbrev S4096x4x704 : Shape := ⟨3, ![4096, 4, 704]⟩
abbrev S4x4096x704 : Shape := ⟨3, ![4, 4096, 704]⟩
abbrev S4096x1024 : Shape := ⟨2, ![4096, 1024]⟩

abbrev nBuf : Space → Nat
  | .hbm => 145
  | .vmem => 0
  | .smem => 0
  | _ => 0

abbrev hbmTy0_0 (i : Nat) : BufTy := match i % 128 with
  | 0 => ⟨S1x4096x1024, .f32⟩
  | 1 => ⟨S1024x2816, .f32⟩
  | 2 => ⟨S1024x2816, .f32⟩
  | 3 => ⟨S2816x1024, .f32⟩
  | 4 => ⟨S1024, .f32⟩
  | 5 => ⟨S1x4096x1024, .f32⟩
  | 6 => ⟨S1x4096x2816, .f32⟩
  | 7 => ⟨S1x4096x2816, .f32⟩
  | 8 => ⟨S1x4096x2816, .f32⟩
  | 9 => ⟨S1x4096x2816, .f32⟩
  | 10 => ⟨S_, .f32⟩
  | 11 => ⟨S1x4096x2816, .f32⟩
  | 12 => ⟨S1x4096x2816, .f32⟩
  | 13 => ⟨S_, .f32⟩
  | 14 => ⟨S1x4096x2816, .f32⟩
  | 15 => ⟨S1x4096x2816, .f32⟩
  | 16 => ⟨S_, .f32⟩
  | 17 => ⟨S1x4096x2816, .f32⟩
  | 18 => ⟨S1x4096x2816, .f32⟩
  | 19 => ⟨S1x4096x2816, .f32⟩
  | 20 => ⟨S1x4096x2816, .f32⟩
  | 21 => ⟨S1x4096x2816, .f32⟩
  | 22 => ⟨S1x4096x1024, .f32⟩
  | 23 => ⟨S_, .f32⟩
  | 24 => ⟨S1024, .f32⟩
  | 25 => ⟨S_, .f32⟩
  | 26 => ⟨S1x4096x1024, .f32⟩
  | 27 => ⟨S1x4096x1024, .f32⟩
  | 28 => ⟨S_, .f32⟩
  | 29 => ⟨S1x4096x1024, .f32⟩
  | 30 => ⟨S1x4096x1024, .f32⟩
  | 31 => ⟨S1x4096x1024, .f32⟩
  | 32 => ⟨S_, .f32⟩
  | 33 => ⟨S1x4096, .f32⟩
  | 34 => ⟨S1x4096x1, .f32⟩
  | 35 => ⟨S_, .f32⟩
  | 36 => ⟨S1x4096x1, .f32⟩
  | 37 => ⟨S1x4096x1, .f32⟩
  | 38 => ⟨S1x4096x1024, .f32⟩
  | 39 => ⟨S1x4096x1024, .f32⟩
  | 40 => ⟨S1x4096x1024, .f32⟩
  | 41 => ⟨S_, .f32⟩
  | 42 => ⟨S1x4096x1024, .f32⟩
  | 43 => ⟨S1x4096x1024, .f32⟩
  | 44 => ⟨S_, .f32⟩
  | 45 => ⟨S1x4096, .f32⟩
  | 46 => ⟨S1x4096x1, .f32⟩
  | 47 => ⟨S_, .f32⟩
  | 48 => ⟨S1x4096x1, .f32⟩
  | 49 => ⟨S1x4096x1, .f32⟩
  | 50 => ⟨S1x4096x1024, .f32⟩
  | 51 => ⟨S1x4096x1024, .f32⟩
  | 52 => ⟨S_, .f32⟩
  | 53 => ⟨S1x4096x1, .f32⟩
  | 54 => ⟨S1x4096x1, .f32⟩
  | 55 => ⟨S1x4096x1, .f32⟩
  | 56 => ⟨S1x4096x1, .f32⟩
  | 57 => ⟨S_, .f32⟩
  | 58 => ⟨S1x4096x1, .f32⟩
  | 59 => ⟨S1x4096x1, .f32⟩
  | 60 => ⟨S1x4096x1024, .f32⟩
  | 61 => ⟨S1x4096x1024, .f32⟩
  | 62 => ⟨S1x1x1024, .f32⟩
  | 63 => ⟨S1x4096x1024, .f32⟩
  | 64 => ⟨S1x4096x1024, .f32⟩
  | 65 => ⟨S1x1x1024, .f32⟩
  | 66 => ⟨S1x4096x1024, .f32⟩
  | 67 => ⟨S1x4096x1024, .f32⟩
  | 68 => ⟨S1x4096x1024, .f32⟩
  | 69 => ⟨S_, .f32⟩
  | 70 => ⟨S1x1024, .f32⟩
  | 71 => ⟨S1x1x1024, .f32⟩
  | 72 => ⟨S_, .f32⟩
  | 73 => ⟨S1024, .f32⟩
  | 74 => ⟨S1x4096x1024, .f32⟩
  | 75 => ⟨S_, .f32⟩
  | 76 => ⟨S1x1024, .f32⟩
  | 77 => ⟨S1x1x1024, .f32⟩
  | 78 => ⟨S1x4096x1024, .f32⟩
  | 79 => ⟨S1x4096x1024, .f32⟩
  | 80 => ⟨S_, .f32⟩
  | 81 => ⟨S1024, .f32⟩
  | 82 => ⟨S1x4096x1024, .f32⟩
  | 83 => ⟨S_, .f32⟩
  | 84 => ⟨S1x4096, .f32⟩
  | 85 => ⟨S1x4096x1, .f32⟩
  | 86 => ⟨S1x4096x1024, .f32⟩
  | 87 => ⟨S1x4096x1024, .f32⟩
  | 88 => ⟨S1x4096x1, .f32⟩
  | 89 => ⟨S1x4096x1024, .f32⟩
  | 90 => ⟨S_, .f32⟩
  | 91 => ⟨S1x4096, .f32⟩
  | 92 => ⟨S1x4096x1, .f32⟩
  | 93 => ⟨S_, .f32⟩
  | 94 => ⟨S1x4096x1, .f32⟩
  | 95 => ⟨S1x4096x1, .f32⟩
  | 96 => ⟨S_, .f32⟩
  | 97 => ⟨S4096, .f32⟩
  | 98 => ⟨S1x4096, .f32⟩
  | 99 => ⟨S1x4096x1024, .f32⟩
  | 100 => ⟨S1x4096x1024, .f32⟩
  | 101 => ⟨S1x4096x1024, .f32⟩
  | 102 => ⟨S_, .f32⟩
  | 103 => ⟨S1x4096, .f32⟩
  | 104 => ⟨S1x4096x1, .f32⟩
  | 105 => ⟨S1x4096x1024, .f32⟩
  | 106 => ⟨S1x4096x1, .f32⟩
  | 107 => ⟨S_, .f32⟩
  | 108 => ⟨S1x4096x1, .f32⟩
  | 109 => ⟨S1x4096x1, .f32⟩
  | 110 => ⟨S_, .f32⟩
  | 111 => ⟨S4096, .f32⟩
  | 112 => ⟨S1x4096, .f32⟩
  | 113 => ⟨S1x4096x1024, .f32⟩
  | 114 => ⟨S1x4096x1024, .f32⟩
  | 115 => ⟨S_, .f32⟩
  | 116 => ⟨S1x4096x1024, .f32⟩
  | 117 => ⟨S1x4096x1024, .f32⟩
  | 118 => ⟨S_, .f32⟩
  | 119 => ⟨S1x4096x1024, .f32⟩
  | 120 => ⟨S1x4096x1024, .f32⟩
  | 121 => ⟨S1x4096x2816, .f32⟩
  | 122 => ⟨S1x4096x2816, .f32⟩
  | 123 => ⟨S1x4096x2816, .f32⟩
  | 124 => ⟨S1x4096x2816, .f32⟩
  | 125 => ⟨S1x4096x2816, .f32⟩
  | 126 => ⟨S1x4096x2816, .f32⟩
  | 127 => ⟨S1x4096x2816, .f32⟩
  | _ => ⟨S1x4096x1024, .f32⟩

abbrev hbmTy0_1 (i : Nat) : BufTy := match i % 128 with
  | 0 => ⟨S1x4096x1024, .f32⟩
  | 1 => ⟨S1x4096x1024, .f32⟩
  | 2 => ⟨S1x4096x1024, .f32⟩
  | 3 => ⟨S1x4096x1024, .f32⟩
  | 4 => ⟨S4096x2816, .f32⟩
  | 5 => ⟨S4096x4x704, .f32⟩
  | 6 => ⟨S4x4096x704, .f32⟩
  | 7 => ⟨S4x4096x704, .bf16⟩
  | 8 => ⟨S4096x2816, .f32⟩
  | 9 => ⟨S4096x4x704, .f32⟩
  | 10 => ⟨S4x4096x704, .f32⟩
  | 11 => ⟨S4x4096x704, .bf16⟩
  | 12 => ⟨S4096x1024, .f32⟩
  | 13 => ⟨S4096x1024, .f32⟩
  | 14 => ⟨S4096x1024, .bf16⟩
  | 15 => ⟨S1x1024, .f32⟩
  | 16 => ⟨S1x1024, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v2_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v2_1 : Ref sig .tc := ⟨.hbm, 19, rfl⟩
abbrev main_v2_0 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_cst_0 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_2 : Ref sig .tc := ⟨.hbm, 32, rfl⟩
abbrev main_v11 : Ref sig .tc := ⟨.hbm, 33, rfl⟩
abbrev main_v12 : Ref sig .tc := ⟨.hbm, 34, rfl⟩
abbrev main_cst_3 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_4 : Ref sig .tc := ⟨.hbm, 41, rfl⟩
abbrev main_v18 : Ref sig .tc := ⟨.hbm, 42, rfl⟩
abbrev main_v19 : Ref sig .tc := ⟨.hbm, 43, rfl⟩
abbrev main_cst_5 : Ref sig .tc := ⟨.hbm, 44, rfl⟩
abbrev main_v20 : Ref sig .tc := ⟨.hbm, 45, rfl⟩
abbrev main_v21 : Ref sig .tc := ⟨.hbm, 46, rfl⟩
abbrev main_cst_6 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_7 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_8 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_9 : Ref sig .tc := ⟨.hbm, 69, rfl⟩
abbrev main_v41 : Ref sig .tc := ⟨.hbm, 70, rfl⟩
abbrev main_v42 : Ref sig .tc := ⟨.hbm, 71, rfl⟩
abbrev main_cst_10 : Ref sig .tc := ⟨.hbm, 72, rfl⟩
abbrev main_v43 : Ref sig .tc := ⟨.hbm, 73, rfl⟩
abbrev main_v44 : Ref sig .tc := ⟨.hbm, 74, rfl⟩
abbrev main_cst_11 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_12 : Ref sig .tc := ⟨.hbm, 80, rfl⟩
abbrev main_v49 : Ref sig .tc := ⟨.hbm, 81, rfl⟩
abbrev main_v50 : Ref sig .tc := ⟨.hbm, 82, rfl⟩
abbrev main_cst_13 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_14 : Ref sig .tc := ⟨.hbm, 90, rfl⟩
abbrev main_v57 : Ref sig .tc := ⟨.hbm, 91, rfl⟩
abbrev main_v58 : Ref sig .tc := ⟨.hbm, 92, rfl⟩
abbrev main_cst_15 : Ref sig .tc := ⟨.hbm, 93, rfl⟩
abbrev main_v59 : Ref sig .tc := ⟨.hbm, 94, rfl⟩
abbrev main_v60 : Ref sig .tc := ⟨.hbm, 95, rfl⟩
abbrev main_cst_16 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_17 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_18 : Ref sig .tc := ⟨.hbm, 107, rfl⟩
abbrev main_v70 : Ref sig .tc := ⟨.hbm, 108, rfl⟩
abbrev main_v71 : Ref sig .tc := ⟨.hbm, 109, rfl⟩
abbrev main_cst_19 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_20 : Ref sig .tc := ⟨.hbm, 115, rfl⟩
abbrev main_v76 : Ref sig .tc := ⟨.hbm, 116, rfl⟩
abbrev main_v77 : Ref sig .tc := ⟨.hbm, 117, rfl⟩
abbrev main_cst_21 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_call1_v0 : Ref sig .tc := ⟨.hbm, 124, rfl⟩
abbrev main_call1_v1 : Ref sig .tc := ⟨.hbm, 125, rfl⟩
abbrev main_call1_v2 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩

abbrev nD : Nat := 1
abbrev τ : Topo := Topo.v7x

variable {F : FTy → Type} [FloatOps F]
-- ==== MixKernel.lean ====
abbrev S1x4096x1024 : Shape := ⟨3, ![1, 4096, 1024]⟩
abbrev S1024x1024 : Shape := ⟨2, ![1024, 1024]⟩
abbrev S1024 : Shape := ⟨1, ![1024]⟩
abbrev S4096x1024 : Shape := ⟨2, ![4096, 1024]⟩
abbrev S_ : Shape := ⟨0, ![]⟩
abbrev S1x1024 : Shape := ⟨2, ![1, 1024]⟩
abbrev S4x256x1024 : Shape := ⟨3, ![4, 256, 1024]⟩
abbrev S4x4096x256 : Shape := ⟨3, ![4, 4096, 256]⟩
abbrev S512x1024 : Shape := ⟨2, ![512, 1024]⟩
abbrev S4x512x256 : Shape := ⟨3, ![4, 512, 256]⟩
abbrev S512 : Shape := ⟨1, ![512]⟩
abbrev S512x1 : Shape := ⟨2, ![512, 1]⟩
abbrev S1x256x1024 : Shape := ⟨3, ![1, 256, 1024]⟩
abbrev S256x1024 : Shape := ⟨2, ![256, 1024]⟩
abbrev S512x256 : Shape := ⟨2, ![512, 256]⟩
abbrev S1x512x256 : Shape := ⟨3, ![1, 512, 256]⟩

abbrev nBuf : Space → Nat
  | .hbm => 21
  | .vmem => 14
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1024x1024, .f32⟩
  | .hbm, ⟨3, _⟩ => ⟨S1024, .f32⟩
  | .hbm, ⟨4, _⟩ => ⟨S1x4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S1x1024, .f32⟩
  | .hbm, ⟨14, _⟩ => ⟨S4x256x1024, .f32⟩
  | .hbm, ⟨15, _⟩ => ⟨S4x256x1024, .bf16⟩
  | .hbm, ⟨16, _⟩ => ⟨S4x4096x256, .f32⟩
  | .hbm, ⟨17, _⟩ => ⟨S4096x1024, .f32⟩
  | .hbm, ⟨18, _⟩ => ⟨S4096x1024, .bf16⟩
  | .hbm, ⟨19, _⟩ => ⟨S1x1024, .f32⟩
  | .hbm, ⟨20, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S4x256x1024, .bf16⟩
  | .local _ .vmem, ⟨6, _⟩ => ⟨S4x512x256, .f32⟩
  | .local _ .vmem, ⟨7, _⟩ => ⟨S4x512x256, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MixReferenceIdeal.lean ====
abbrev S1x4096x1024 : Shape := ⟨3, ![1, 4096, 1024]⟩
abbrev S1024x1024 : Shape := ⟨2, ![1024, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x1024 : Shape := ⟨2, ![1, 1024]⟩
abbrev S4096 : Shape := ⟨1, ![4096]⟩
abbrev S4096x1024 : Shape := ⟨2, ![4096, 1024]⟩
abbrev S4096x4x256 : Shape := ⟨3, ![4096, 4, 256]⟩
abbrev S4x4096x256 : Shape := ⟨3, ![4, 4096, 256]⟩

abbrev nBuf : Space → Nat
  | .hbm => 104
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1024x1024, .f32⟩
  | .hbm, ⟨3, _⟩ => ⟨S1024, .f32⟩
  | .hbm, ⟨4, _⟩ => ⟨S1x4096x1024, .f32⟩
  | .hbm, ⟨5, _⟩ => ⟨S1x4096x1024, .f32⟩
  | .hbm, ⟨6, _⟩ => ⟨S_, .f32⟩
  | .hbm, ⟨7, _⟩ => ⟨S1024, .f32⟩
  | .hbm, ⟨8, _⟩ => ⟨S_, .f32⟩
  | .hbm, ⟨9, _⟩ => ⟨S1x4096x1024, .f32⟩
  | .hbm, ⟨10, _⟩ => ⟨S1x4096x1024, .f32⟩
  | .hbm, ⟨11, _⟩ => ⟨S1x4096x1024, .f32⟩
  | .hbm, ⟨12, _⟩ => ⟨S_, .f32⟩
  | .hbm, ⟨13, _⟩ => ⟨S1x4096, .f32⟩
  | .hbm, ⟨14, _⟩ => ⟨S1x4096x1, .f32⟩
  | .hbm, ⟨15, _⟩ => ⟨S_, .f32⟩
  | .hbm, ⟨16, _⟩ => ⟨S1x4096x1, .f32⟩
  | .hbm, ⟨17, _⟩ => ⟨S1x4096x1, .f32⟩
  | .hbm, ⟨18, _⟩ => ⟨S1x4096x1024, .f32⟩
  | .hbm, ⟨19, _⟩ => ⟨S1x4096x1024, .f32⟩
  | .hbm, ⟨20, _⟩ => ⟨S1x4096x1024, .f32⟩
  | .hbm, ⟨21, _⟩ => ⟨S_, .f32⟩
  | .hbm, ⟨22, _⟩ => ⟨S1x4096x1024, .f32⟩
  | .hbm, ⟨23, _⟩ => ⟨S1x4096x1024, .f32⟩
  | .hbm, ⟨24, _⟩ => ⟨S_, .f32⟩
  | .hbm, ⟨25, _⟩ => ⟨S1x4096, .f32⟩
  | .hbm, ⟨26, _⟩ => ⟨S1x4096x1, .f32⟩
  | .hbm, ⟨27, _⟩ => ⟨S_, .f32⟩
  | .hbm, ⟨28, _⟩ => ⟨S1x4096x1, .f32⟩
  | .hbm, ⟨29, _⟩ => ⟨S1x4096x1, .f32⟩
  | .hbm, ⟨30, _⟩ => ⟨S1x4096x1024, .f32⟩
  | .hbm, ⟨31, _⟩ => ⟨S1x4096x1024, .f32⟩
  | .hbm, ⟨32, _⟩ => ⟨S_, .f32⟩
  | .hbm, ⟨33, _⟩ => ⟨S1x4096x1, .f32⟩
  | .hbm, ⟨34, _⟩ => ⟨S1x4096x1, .f32⟩
  | .hbm, ⟨35, _⟩ => ⟨S1x4096x1, .f32⟩
  | .hbm, ⟨36, _⟩ => ⟨S1x4096x1, .f32⟩
  | .hbm, ⟨37, _⟩ => ⟨S_, .f32⟩
  | .hbm, ⟨38, _⟩ => ⟨S1x4096x1, .f32⟩
  | .hbm, ⟨39, _⟩ => ⟨S1x4096x1, .f32⟩
  | .hbm, ⟨40, _⟩ => ⟨S1x4096x1024, .f32⟩
  | .hbm, ⟨41, _⟩ => ⟨S1x4096x1024, .f32⟩
  | .hbm, ⟨42, _⟩ => ⟨S1x1x1024, .f32⟩
  | .hbm, ⟨43, _⟩ => ⟨S1x4096x1024, .f32⟩
  | .hbm, ⟨44, _⟩ => ⟨S1x4096x1024, .f32⟩
  | .hbm, ⟨45, _⟩ => ⟨S1x1x1024, .f32⟩
  | .hbm, ⟨46, _⟩ => ⟨S1x4096x1024, .f32⟩
  | .hbm, ⟨47, _⟩ => ⟨S1x4096x1024, .f32⟩
  | .hbm, ⟨48, _⟩ => ⟨S1x4096x1024, .f32⟩
  | .hbm, ⟨49, _⟩ => ⟨S_, .f32⟩
  | .hbm, ⟨50, _⟩ => ⟨S1x1024, .f32⟩
  | .hbm, ⟨51, _⟩ => ⟨S1x1x1024, .f32⟩
  | .hbm, ⟨52, _⟩ => ⟨S_, .f32⟩
  | .hbm, ⟨53, _⟩ => ⟨S1024, .f32⟩
  | .hbm, ⟨54, _⟩ => ⟨S1x4096x1024, .f32⟩
  | .hbm, ⟨55, _⟩ => ⟨S_, .f32⟩
  | .hbm, ⟨56, _⟩ => ⟨S1x1024, .f32⟩
  | .hbm, ⟨57, _⟩ => ⟨S1x1x1024, .f32⟩
  | .hbm, ⟨58, _⟩ => ⟨S1x4096x1024, .f32⟩
  | .hbm, ⟨59, _⟩ => ⟨S1x4096x1024, .f32⟩
  | .hbm, ⟨60, _⟩ => ⟨S_, .f32⟩
  | .hbm, ⟨61, _⟩ => ⟨S1024, .f32⟩
  | .hbm, ⟨62, _⟩ => ⟨S1x4096x1024, .f32⟩
  | .hbm, ⟨63, _⟩ => ⟨S_, .f32⟩
  | .hbm, ⟨64, _⟩ => ⟨S1x4096, .f32⟩
  | .hbm, ⟨65, _⟩ => ⟨S1x4096x1, .f32⟩
  | .hbm, ⟨66, _⟩ => ⟨S1x4096x1024, .f32⟩
  | .hbm, ⟨67, _⟩ => ⟨S1x4096x1024, .f32⟩
  | .hbm, ⟨68, _⟩ => ⟨S1x4096x1, .f32⟩
  | .hbm, ⟨69, _⟩ => ⟨S1x4096x1024, .f32⟩
  | .hbm, ⟨70, _⟩ => ⟨S_, .f32⟩
  | .hbm, ⟨71, _⟩ => ⟨S1x4096, .f32⟩
  | .hbm, ⟨72, _⟩ => ⟨S1x4096x1, .f32⟩
  | .hbm, ⟨73, _⟩ => ⟨S_, .f32⟩
  | .hbm, ⟨74, _⟩ => ⟨S1x4096x1, .f32⟩
  | .hbm, ⟨75, _⟩ => ⟨S1x4096x1, .f32⟩
  | .hbm, ⟨76, _⟩ => ⟨S_, .f32⟩
  | .hbm, ⟨77, _⟩ => ⟨S4096, .f32⟩
  | .hbm, ⟨78, _⟩ => ⟨S1x4096, .f32⟩
  | .hbm, ⟨79, _⟩ => ⟨S1x4096x1024, .f32⟩
  | .hbm, ⟨80, _⟩ => ⟨S1x4096x1024, .f32⟩
  | .hbm, ⟨81, _⟩ => ⟨S1x4096x1024, .f32⟩
  | .hbm, ⟨82, _⟩ => ⟨S_, .f32⟩
  | .hbm, ⟨83, _⟩ => ⟨S1x4096, .f32⟩
  | .hbm, ⟨84, _⟩ => ⟨S1x4096x1, .f32⟩
  | .hbm, ⟨85, _⟩ => ⟨S1x4096x1024, .f32⟩
  | .hbm, ⟨86, _⟩ => ⟨S1x4096x1, .f32⟩
  | .hbm, ⟨87, _⟩ => ⟨S_, .f32⟩
  | .hbm, ⟨88, _⟩ => ⟨S1x4096x1, .f32⟩
  | .hbm, ⟨89, _⟩ => ⟨S1x4096x1, .f32⟩
  | .hbm, ⟨90, _⟩ => ⟨S_, .f32⟩
  | .hbm, ⟨91, _⟩ => ⟨S4096, .f32⟩
  | .hbm, ⟨92, _⟩ => ⟨S1x4096, .f32⟩
  | .hbm, ⟨93, _⟩ => ⟨S1x4096x1024, .f32⟩
  | .hbm, ⟨94, _⟩ => ⟨S1x4096x1024, .f32⟩
  | .hbm, ⟨95, _⟩ => ⟨S1x4096x1024, .f32⟩
  | .hbm, ⟨96, _⟩ => ⟨S4096x1024, .f32⟩
  | .hbm, ⟨97, _⟩ => ⟨S4096x4x256, .f32⟩
  | .hbm, ⟨98, _⟩ => ⟨S4x4096x256, .f32⟩
  | .hbm, ⟨99, _⟩ => ⟨S4096x1024, .f32⟩
  | .hbm, ⟨100, _⟩ => ⟨S4096x1024, .f32⟩
  | .hbm, ⟨101, _⟩ => ⟨S4096x1024, .bf16⟩
  | .hbm, ⟨102, _⟩ => ⟨S1x1024, .f32⟩
  | .hbm, ⟨103, _⟩ => ⟨S1x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_16 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_17 : Ref sig .tc := ⟨.hbm, 87, rfl⟩
abbrev main_v64 : Ref sig .tc := ⟨.hbm, 88, rfl⟩
abbrev main_v65 : Ref sig .tc := ⟨.hbm, 89, rfl⟩
abbrev main_cst_18 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩

abbrev nD : Nat := 1
abbrev τ : Topo := Topo.v7x

variable {F : FTy → Type} [FloatOps F]
-- ==== InbKernel.lean ====
abbrev S1x4096x1024 : Shape := ⟨3, ![1, 4096, 1024]⟩
abbrev S1024x2560 : Shape := ⟨2, ![1024, 2560]⟩
abbrev S1x4096x2560 : Shape := ⟨3, ![1, 4096, 2560]⟩
abbrev S4096x2560 : Shape := ⟨2, ![4096, 2560]⟩
abbrev S4096x10x256 : Shape := ⟨3, ![4096, 10, 256]⟩
abbrev S10x4096x256 : Shape := ⟨3, ![10, 4096, 256]⟩
abbrev S1024x10x256 : Shape := ⟨3, ![1024, 10, 256]⟩
abbrev S10x1024x256 : Shape := ⟨3, ![10, 1024, 256]⟩
abbrev S4096x1024 : Shape := ⟨2, ![4096, 1024]⟩
abbrev S5x1024x256 : Shape := ⟨3, ![5, 1024, 256]⟩
abbrev S1024x1024 : Shape := ⟨2, ![1024, 1024]⟩
abbrev S1x1024x256 : Shape := ⟨3, ![1, 1024, 256]⟩
abbrev S1024x256 : Shape := ⟨2, ![1024, 256]⟩

abbrev nBuf : Space → Nat
  | .hbm => 13
  | .vmem => 8
  | .smem => 0
  | _ => 0

abbrev bufTy : (tb : Table) → Fin (tcTables nBuf tb) → BufTy
  | .hbm, ⟨0, _⟩ => ⟨S1x4096x1024, .f32⟩
  | .hbm, ⟨1, _⟩ => ⟨S1024x2560, .f32⟩
  | .hbm, ⟨2, _⟩ => ⟨S1x4096x2560, .f32⟩
  | .hbm, ⟨3, _⟩ => ⟨S1x4096x1024, .f32⟩
  | .hbm, ⟨4, _⟩ => ⟨S4096x2560, .f32⟩
  | .hbm, ⟨5, _⟩ => ⟨S4096x10x256, .f32⟩
  | .hbm, ⟨6, _⟩ => ⟨S10x4096x256, .f32⟩
  | .hbm, ⟨7, _⟩ => ⟨S10x4096x256, .bf16⟩
  | .hbm, ⟨8, _⟩ => ⟨S1024x10x256, .f32⟩
  | .hbm, ⟨9, _⟩ => ⟨S10x1024x256, .f32⟩
  | .hbm, ⟨10, _⟩ => ⟨S10x1024x256, .bf16⟩
  | .hbm, ⟨11, _⟩ => ⟨S4096x1024, .f32⟩
  | .hbm, ⟨12, _⟩ => ⟨S4096x1024, .f32⟩
  | .local _ .vmem, ⟨0, _⟩ => ⟨S5x1024x256, .bf16⟩
  | .local _ .vmem, ⟨1, _⟩ => ⟨S5x1024x256, .bf16⟩
  | .local _ .vmem, ⟨2, _⟩ => ⟨S5x1024x256, .bf16⟩
  | .local _ .vmem, ⟨3, _⟩ => ⟨S5x1024x256, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v29 : BitVec 1 := Scalar.cmpi .eq arg1 c0_i32
  let v30 : BitVec 32 := Scalar.extui v29
  let c0_i32_29 : BitVec 32 := 0#32
  let v31 : BitVec 1 := Scalar.cmpi .ne v30 c0_i32_29
  v31

def k0_cond2 (i : grid0.Coords) : BitVec 1 :=
  let arg1 : BitVec 32 := BitVec.ofNat 32 (i 1).val
  let c0_i32_30 : BitVec 32 := 0#32
  let v32 : BitVec 1 := Scalar.cmpi .sgt arg1 c0_i32_30
  let v33 : BitVec 32 := Scalar.extui v32
  let c0_i32_31 : BitVec 32 := 0#32
  let v34 : BitVec 1 := Scalar.cmpi .ne v33 c0_i32_31
  v34

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S5x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== InbReferenceIdeal.lean ====
abbrev S1x4096x1024 : Shape := ⟨3, ![1, 4096, 1024]⟩
abbrev S1024x2560 : Shape := ⟨2, ![1024, 2560]⟩
abbrev S1x4096x2560 : Shape := ⟨3, ![1, 4096, 2560]⟩
abbrev S_ : Shape := ⟨0, ![]⟩
abbrev S4096x1024 : Shape := ⟨2, ![4096, 1024]⟩

abbrev nBuf : Space → Nat
  | .hbm => 14
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024x2560, .f32⟩
  | .hbm, ⟨2, _⟩ => ⟨S1x4096x2560, .f32⟩
  | .hbm, ⟨3, _⟩ => ⟨S1x4096x1024, .f32⟩
  | .hbm, ⟨4, _⟩ => ⟨S_, .f32⟩
  | .hbm, ⟨5, _⟩ => ⟨S1x4096x1024, .f32⟩
  | .hbm, ⟨6, _⟩ => ⟨S1x4096x1024, .f32⟩
  | .hbm, ⟨7, _⟩ => ⟨S1x4096x2560, .f32⟩
  | .hbm, ⟨8, _⟩ => ⟨S1x4096x1024, .f32⟩
  | .hbm, ⟨9, _⟩ => ⟨S_, .f32⟩
  | .hbm, ⟨10, _⟩ => ⟨S1x4096x1024, .f32⟩
  | .hbm, ⟨11, _⟩ => ⟨S1x4096x1024, .f32⟩
  | .hbm, ⟨12, _⟩ => ⟨S1x4096x1024, .f32⟩
  | .hbm, ⟨13, _⟩ => ⟨S4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== WoutKernel.lean ====
abbrev S1x4096x1024 : Shape := ⟨3, ![1, 4096, 1024]⟩
abbrev S1024x1024 : Shape := ⟨2, ![1024, 1024]⟩
abbrev S4096x1024 : Shape := ⟨2, ![4096, 1024]⟩
abbrev S4096x4x256 : Shape := ⟨3, ![4096, 4, 256]⟩
abbrev S4x4096x256 : Shape := ⟨3, ![4, 4096, 256]⟩
abbrev S4x256x1024 : Shape := ⟨3, ![4, 256, 1024]⟩
abbrev S4x2048x256 : Shape := ⟨3, ![4, 2048, 256]⟩
abbrev S2048x1024 : Shape := ⟨2, ![2048, 1024]⟩
abbrev S1x256x1024 : Shape := ⟨3, ![1, 256, 1024]⟩
abbrev S256x1024 : Shape := ⟨2, ![256, 1024]⟩
abbrev S1x2048x256 : Shape := ⟨3, ![1, 2048, 256]⟩
abbrev S2048x256 : Shape := ⟨2, ![2048, 256]⟩

abbrev nBuf : Space → Nat
  | .hbm => 10
  | .vmem => 6
  | .smem => 0
  | _ => 0

abbrev bufTy : (tb : Table) → Fin (tcTables nBuf tb) → BufTy
  | .hbm, ⟨0, _⟩ => ⟨S1x4096x1024, .f32⟩
  | .hbm, ⟨1, _⟩ => ⟨S1024x1024, .f32⟩
  | .hbm, ⟨2, _⟩ => ⟨S1x4096x1024, .f32⟩
  | .hbm, ⟨3, _⟩ => ⟨S4096x1024, .f32⟩
  | .hbm, ⟨4, _⟩ => ⟨S4096x4x256, .f32⟩
  | .hbm, ⟨5, _⟩ => ⟨S4x4096x256, .f32⟩
  | .hbm, ⟨6, _⟩ => ⟨S4x4096x256, .bf16⟩
  | .hbm, ⟨7, _⟩ => ⟨S4096x1024, .f32⟩
  | .hbm, ⟨8, _⟩ => ⟨S4096x1024, .bf16⟩
  | .hbm, ⟨9, _⟩ => ⟨S4x256x1024, .bf16⟩
  | .local _ .vmem, ⟨0, _⟩ => ⟨S4x2048x256, .bf16⟩
  | .local _ .vmem, ⟨1, _⟩ => ⟨S4x2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S4x256x1024, .bf16⟩
  | .local _ .vmem, ⟨5, _⟩ => ⟨S4x256x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v47 : BitVec 1 := Scalar.cmpi .eq arg1 c1_i32
  let v48 : BitVec 32 := Scalar.extui v47
  let c0_i32_44 : BitVec 32 := 0#32
  let v49 : BitVec 1 := Scalar.cmpi .ne v48 c0_i32_44
  v49

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== WoutReferenceIdeal.lean ====
abbrev S1x4096x1024 : Shape := ⟨3, ![1, 4096, 1024]⟩
abbrev S1024x1024 : Shape := ⟨2, ![1024, 1024]⟩
abbrev S4x256x1024 : Shape := ⟨3, ![4, 256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024x1024, .f32⟩
  | .hbm, ⟨2, _⟩ => ⟨S1x4096x1024, .f32⟩
  | .hbm, ⟨3, _⟩ => ⟨S1x4096x1024, .f32⟩
  | .hbm, ⟨4, _⟩ => ⟨S1024x1024, .f32⟩
  | .hbm, ⟨5, _⟩ => ⟨S1024x1024, .f32⟩
  | .hbm, ⟨6, _⟩ => ⟨S4x256x1024, .f32⟩
  | .hbm, ⟨7, _⟩ => ⟨S4x256x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== WinKernel.lean ====
abbrev S1x4096x1024 : Shape := ⟨3, ![1, 4096, 1024]⟩
abbrev S1024x2560 : Shape := ⟨2, ![1024, 2560]⟩
abbrev S1x4096x2560 : Shape := ⟨3, ![1, 4096, 2560]⟩
abbrev S4096x1024 : Shape := ⟨2, ![4096, 1024]⟩
abbrev S4096x2560 : Shape := ⟨2, ![4096, 2560]⟩
abbrev S4096x10x256 : Shape := ⟨3, ![4096, 10, 256]⟩
abbrev S10x4096x256 : Shape := ⟨3, ![10, 4096, 256]⟩
abbrev S10x1024x256 : Shape := ⟨3, ![10, 1024, 256]⟩
abbrev S2048x1024 : Shape := ⟨2, ![2048, 1024]⟩
abbrev S5x2048x256 : Shape := ⟨3, ![5, 2048, 256]⟩
abbrev S5x1024x256 : Shape := ⟨3, ![5, 1024, 256]⟩
abbrev S1x1024x256 : Shape := ⟨3, ![1, 1024, 256]⟩
abbrev S1024x256 : Shape := ⟨2, ![1024, 256]⟩
abbrev S1x2048x256 : Shape := ⟨3, ![1, 2048, 256]⟩
abbrev S2048x256 : Shape := ⟨2, ![2048, 256]⟩

abbrev nBuf : Space → Nat
  | .hbm => 10
  | .vmem => 7
  | .smem => 0
  | _ => 0

abbrev bufTy : (tb : Table) → Fin (tcTables nBuf tb) → BufTy
  | .hbm, ⟨0, _⟩ => ⟨S1x4096x1024, .f32⟩
  | .hbm, ⟨1, _⟩ => ⟨S1024x2560, .f32⟩
  | .hbm, ⟨2, _⟩ => ⟨S1x4096x2560, .f32⟩
  | .hbm, ⟨3, _⟩ => ⟨S4096x1024, .f32⟩
  | .hbm, ⟨4, _⟩ => ⟨S4096x1024, .bf16⟩
  | .hbm, ⟨5, _⟩ => ⟨S4096x2560, .f32⟩
  | .hbm, ⟨6, _⟩ => ⟨S4096x10x256, .f32⟩
  | .hbm, ⟨7, _⟩ => ⟨S10x4096x256, .f32⟩
  | .hbm, ⟨8, _⟩ => ⟨S10x4096x256, .bf16⟩
  | .hbm, ⟨9, _⟩ => ⟨S10x1024x256, .bf16⟩
  | .local _ .vmem, ⟨0, _⟩ => ⟨S2048x1024, .bf16⟩
  | .local _ .vmem, ⟨1, _⟩ => ⟨S2048x1024, .bf16⟩
  | .local _ .vmem, ⟨2, _⟩ => ⟨S5x2048x256, .bf16⟩
  | .local _ .vmem, ⟨3, _⟩ => ⟨S5x2048x256, .bf16⟩
  | .local _ .vmem, ⟨4, _⟩ => ⟨S5x1024x256, .bf16⟩
  | .local _ .vmem, ⟨5, _⟩ => ⟨S5x1024x256, .bf16⟩
  | .local _ .vmem, ⟨6, _⟩ => ⟨S5x1024x256, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v58 : BitVec 1 := Scalar.cmpi .eq arg1 c1_i32
  let v59 : BitVec 32 := Scalar.extui v58
  let c0_i32_55 : BitVec 32 := 0#32
  let v60 : BitVec 1 := Scalar.cmpi .ne v59 c0_i32_55
  v60

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S5x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WinReferenceIdeal.lean ====
abbrev S1x4096x1024 : Shape := ⟨3, ![1, 4096, 1024]⟩
abbrev S1024x2560 : Shape := ⟨2, ![1024, 2560]⟩
abbrev S1x4096x2560 : Shape := ⟨3, ![1, 4096, 2560]⟩
abbrev S2560x1024 : Shape := ⟨2, ![2560, 1024]⟩
abbrev S1024x10x256 : Shape := ⟨3, ![1024, 10, 256]⟩
abbrev S10x1024x256 : Shape := ⟨3, ![10, 1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024x2560, .f32⟩
  | .hbm, ⟨2, _⟩ => ⟨S1x4096x2560, .f32⟩
  | .hbm, ⟨3, _⟩ => ⟨S1x4096x2560, .f32⟩
  | .hbm, ⟨4, _⟩ => ⟨S2560x1024, .f32⟩
  | .hbm, ⟨5, _⟩ => ⟨S1024x2560, .f32⟩
  | .hbm, ⟨6, _⟩ => ⟨S1024x10x256, .f32⟩
  | .hbm, ⟨7, _⟩ => ⟨S10x1024x256, .f32⟩
  | .hbm, ⟨8, _⟩ => ⟨S10x1024x256, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InfKernel.lean ====
abbrev S1x4096x1024 : Shape := ⟨3, ![1, 4096, 1024]⟩
abbrev S1024x2560 : Shape := ⟨2, ![1024, 2560]⟩
abbrev S4096x1024 : Shape := ⟨2, ![4096, 1024]⟩
abbrev S1024x10x256 : Shape := ⟨3, ![1024, 10, 256]⟩
abbrev S10x1024x256 : Shape := ⟨3, ![10, 1024, 256]⟩
abbrev S10x4096x256 : Shape := ⟨3, ![10, 4096, 256]⟩
abbrev S1024x1024 : Shape := ⟨2, ![1024, 1024]⟩
abbrev S5x1024x256 : Shape := ⟨3, ![5, 1024, 256]⟩
abbrev S1x1024x256 : Shape := ⟨3, ![1, 1024, 256]⟩
abbrev S1024x256 : Shape := ⟨2, ![1024, 256]⟩

abbrev nBuf : Space → Nat
  | .hbm => 8
  | .vmem => 6
  | .smem => 0
  | _ => 0

abbrev bufTy : (tb : Table) → Fin (tcTables nBuf tb) → BufTy
  | .hbm, ⟨0, _⟩ => ⟨S1x4096x1024, .f32⟩
  | .hbm, ⟨1, _⟩ => ⟨S1024x2560, .f32⟩
  | .hbm, ⟨2, _⟩ => ⟨S4096x1024, .f32⟩
  | .hbm, ⟨3, _⟩ => ⟨S4096x1024, .bf16⟩
  | .hbm, ⟨4, _⟩ => ⟨S1024x10x256, .f32⟩
  | .hbm, ⟨5, _⟩ => ⟨S10x1024x256, .f32⟩
  | .hbm, ⟨6, _⟩ => ⟨S10x1024x256, .bf16⟩
  | .hbm, ⟨7, _⟩ => ⟨S10x4096x256, .f32⟩
  | .local _ .vmem, ⟨0, _⟩ => ⟨S1024x1024, .bf16⟩
  | .local _ .vmem, ⟨1, _⟩ => ⟨S1024x1024, .bf16⟩
  | .local _ .vmem, ⟨2, _⟩ => ⟨S5x1024x256, .bf16⟩
  | .local _ .vmem, ⟨3, _⟩ => ⟨S5x1024x256, .bf16⟩
  | .local _ .vmem, ⟨4, _⟩ => ⟨S5x1024x256, .f32⟩
  | .local _ .vmem, ⟨5, _⟩ => ⟨S5x1024x256, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S5x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InfReferenceIdeal.lean ====
abbrev S1x4096x1024 : Shape := ⟨3, ![1, 4096, 1024]⟩
abbrev S1024x2560 : Shape := ⟨2, ![1024, 2560]⟩
abbrev S1x4096x2560 : Shape := ⟨3, ![1, 4096, 2560]⟩
abbrev S4096x2560 : Shape := ⟨2, ![4096, 2560]⟩
abbrev S4096x10x256 : Shape := ⟨3, ![4096, 10, 256]⟩
abbrev S10x4096x256 : Shape := ⟨3, ![10, 4096, 256]⟩

abbrev nBuf : Space → Nat
  | .hbm => 6
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024x2560, .f32⟩
  | .hbm, ⟨2, _⟩ => ⟨S1x4096x2560, .f32⟩
  | .hbm, ⟨3, _⟩ => ⟨S4096x2560, .f32⟩
  | .hbm, ⟨4, _⟩ => ⟨S4096x10x256, .f32⟩
  | .hbm, ⟨5, _⟩ => ⟨S10x4096x256, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutfKernel.lean ====
abbrev S1x4096x1024 : Shape := ⟨3, ![1, 4096, 1024]⟩
abbrev S1024x1024 : Shape := ⟨2, ![1024, 1024]⟩
abbrev S1024 : Shape := ⟨1, ![1024]⟩
abbrev S4x256x1024 : Shape := ⟨3, ![4, 256, 1024]⟩
abbrev S4096x1024 : Shape := ⟨2, ![4096, 1024]⟩
abbrev S4096x4x256 : Shape := ⟨3, ![4096, 4, 256]⟩
abbrev S4x4096x256 : Shape := ⟨3, ![4, 4096, 256]⟩
abbrev S1x1024 : Shape := ⟨2, ![1, 1024]⟩
abbrev S4x1024x256 : Shape := ⟨3, ![4, 1024, 256]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S1024x1 : Shape := ⟨2, ![1024, 1]⟩

abbrev nBuf : Space → Nat
  | .hbm => 17
  | .vmem => 13
  | .smem => 0
  | _ => 0

abbrev bufTy : (tb : Table) → Fin (tcTables nBuf tb) → BufTy
  | .hbm, ⟨0, _⟩ => ⟨S1x4096x1024, .f32⟩
  | .hbm, ⟨1, _⟩ => ⟨S1024x1024, .f32⟩
  | .hbm, ⟨2, _⟩ => ⟨S1x4096x1024, .f32⟩
  | .hbm, ⟨3, _⟩ => ⟨S1024, .f32⟩
  | .hbm, ⟨4, _⟩ => ⟨S1024, .f32⟩
  | .hbm, ⟨5, _⟩ => ⟨S4x256x1024, .f32⟩
  | .hbm, ⟨6, _⟩ => ⟨S4x256x1024, .bf16⟩
  | .hbm, ⟨7, _⟩ => ⟨S4096x1024, .f32⟩
  | .hbm, ⟨8, _⟩ => ⟨S4096x4x256, .f32⟩
  | .hbm, ⟨9, _⟩ => ⟨S4x4096x256, .f32⟩
  | .hbm, ⟨10, _⟩ => ⟨S4x4096x256, .bf16⟩
  | .hbm, ⟨11, _⟩ => ⟨S4096x1024, .f32⟩
  | .hbm, ⟨12, _⟩ => ⟨S1x1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S4096x1024, .bf16⟩
  | .local _ .vmem, ⟨0, _⟩ => ⟨S4x1024x256, .bf16⟩
  | .local _ .vmem, ⟨1, _⟩ => ⟨S4x1024x256, .bf16⟩
  | .local _ .vmem, ⟨2, _⟩ => ⟨S4x256x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutfReferenceIdeal.lean ====
abbrev S1x4096x1024 : Shape := ⟨3, ![1, 4096, 1024]⟩
abbrev S1024x1024 : Shape := ⟨2, ![1024, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S4096x1024 : Shape := ⟨2, ![4096, 1024]⟩

abbrev nBuf : Space → Nat
  | .hbm => 43
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024x1024, .f32⟩
  | .hbm, ⟨2, _⟩ => ⟨S1x4096x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S1x4096x1024, .f32⟩
  | .hbm, ⟨7, _⟩ => ⟨S1x4096x1024, .f32⟩
  | .hbm, ⟨8, _⟩ => ⟨S1x4096x1024, .f32⟩
  | .hbm, ⟨9, _⟩ => ⟨S1x4096x1024, .f32⟩
  | .hbm, ⟨10, _⟩ => ⟨S_, .f32⟩
  | .hbm, ⟨11, _⟩ => ⟨S1x4096, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S1x4096x1024, .f32⟩
  | .hbm, ⟨17, _⟩ => ⟨S1x4096x1024, .f32⟩
  | .hbm, ⟨18, _⟩ => ⟨S1x4096x1024, .f32⟩
  | .hbm, ⟨19, _⟩ => ⟨S_, .f32⟩
  | .hbm, ⟨20, _⟩ => ⟨S1x4096, .f32⟩
  | .hbm, ⟨21, _⟩ => ⟨S1x4096x1, .f32⟩
  | .hbm, ⟨22, _⟩ => ⟨S_, .f32⟩
  | .hbm, ⟨23, _⟩ => ⟨S1x4096x1, .f32⟩
  | .hbm, ⟨24, _⟩ => ⟨S1x4096x1, .f32⟩
  | .hbm, ⟨25, _⟩ => ⟨S1x4096x1024, .f32⟩
  | .hbm, ⟨26, _⟩ => ⟨S1x4096x1024, .f32⟩
  | .hbm, ⟨27, _⟩ => ⟨S_, .f32⟩
  | .hbm, ⟨28, _⟩ => ⟨S1x4096x1, .f32⟩
  | .hbm, ⟨29, _⟩ => ⟨S1x4096x1, .f32⟩
  | .hbm, ⟨30, _⟩ => ⟨S1x4096x1, .f32⟩
  | .hbm, ⟨31, _⟩ => ⟨S1x4096x1024, .f32⟩
  | .hbm, ⟨32, _⟩ => ⟨S1x4096x1024, .f32⟩
  | .hbm, ⟨33, _⟩ => ⟨S1x1x1024, .f32⟩
  | .hbm, ⟨34, _⟩ => ⟨S1x4096x1024, .f32⟩
  | .hbm, ⟨35, _⟩ => ⟨S1x4096x1024, .f32⟩
  | .hbm, ⟨36, _⟩ => ⟨S1x1x1024, .f32⟩
  | .hbm, ⟨37, _⟩ => ⟨S1x4096x1024, .f32⟩
  | .hbm, ⟨38, _⟩ => ⟨S1x4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== AdamLnKernel.lean ====
abbrev S2x3x256 : Shape := ⟨3, ![2, 3, 256]⟩
abbrev S6x256 : Shape := ⟨2, ![6, 256]⟩

abbrev nBuf : Space → Nat
  | .hbm => 11
  | .vmem => 7
  | .smem => 0
  | _ => 0

abbrev bufTy : (tb : Table) → Fin (tcTables nBuf tb) → BufTy
  | .hbm, ⟨0, _⟩ => ⟨S2x3x256, .f32⟩
  | .hbm, ⟨1, _⟩ => ⟨S2x3x256, .f32⟩
  | .hbm, ⟨2, _⟩ => ⟨S2x3x256, .f32⟩
  | .hbm, ⟨3, _⟩ => ⟨S2x3x256, .f32⟩
  | .hbm, ⟨4, _⟩ => ⟨S6x256, .f32⟩
  | .hbm, ⟨5, _⟩ => ⟨S6x256, .f32⟩
  | .hbm, ⟨6, _⟩ => ⟨S6x256, .f32⟩
  | .hbm, ⟨7, _⟩ => ⟨S6x256, .f32⟩
  | .hbm, ⟨8, _⟩ => ⟨S6x256, .f32⟩
  | .hbm, ⟨9, _⟩ => ⟨S6x256, .f32⟩
  | .hbm, ⟨10, _⟩ => ⟨S6x256, .f32⟩
  | .local _ .vmem, ⟨0, _⟩ => ⟨S6x256, .f32⟩
  | .local _ .vmem, ⟨1, _⟩ => ⟨S6x256, .f32⟩
  | .local _ .vmem, ⟨2, _⟩ => ⟨S6x256, .f32⟩
  | .local _ .vmem, ⟨3, _⟩ => ⟨S6x256, .f32⟩
  | .local _ .vmem, ⟨4, _⟩ => ⟨S6x256, .f32⟩
  | .local _ .vmem, ⟨5, _⟩ => ⟨S6x256, .f32⟩
  | .local _ .vmem, ⟨6, _⟩ => ⟨S6x256, .f32⟩
  | _, _ => ⟨S2x3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLnKernelIdeal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== AdamLnReferenceIdeal.lean ====
abbrev S2x3x256 : Shape := ⟨3, ![2, 3, 256]⟩
abbrev S_ : Shape := ⟨0, ![]⟩
abbrev S6x256 : Shape := ⟨2, ![6, 256]⟩

abbrev nBuf : Space → Nat
  | .hbm => 40
  | .vmem => 0
  | .smem => 0
  | _ => 0

abbrev bufTy : (tb : Table) → Fin (tcTables nBuf tb) → BufTy
  | .hbm, ⟨0, _⟩ => ⟨S2x3x256, .f32⟩
  | .hbm, ⟨1, _⟩ => ⟨S2x3x256, .f32⟩
  | .hbm, ⟨2, _⟩ => ⟨S2x3x256, .f32⟩
  | .hbm, ⟨3, _⟩ => ⟨S2x3x256, .f32⟩
  | .hbm, ⟨4, _⟩ => ⟨S_, .f32⟩
  | .hbm, ⟨5, _⟩ => ⟨S2x3x256, .f32⟩
  | .hbm, ⟨6, _⟩ => ⟨S2x3x256, .f32⟩
  | .hbm, ⟨7, _⟩ => ⟨S_, .f32⟩
  | .hbm, ⟨8, _⟩ => ⟨S2x3x256, .f32⟩
  | .hbm, ⟨9, _⟩ => ⟨S2x3x256, .f32⟩
  | .hbm, ⟨10, _⟩ => ⟨S2x3x256, .f32⟩
  | .hbm, ⟨11, _⟩ => ⟨S_, .f32⟩
  | .hbm, ⟨12, _⟩ => ⟨S2x3x256, .f32⟩
  | .hbm, ⟨13, _⟩ => ⟨S2x3x256, .f32⟩
  | .hbm, ⟨14, _⟩ => ⟨S2x3x256, .f32⟩
  | .hbm, ⟨15, _⟩ => ⟨S_, .f32⟩
  | .hbm, ⟨16, _⟩ => ⟨S2x3x256, .f32⟩
  | .hbm, ⟨17, _⟩ => ⟨S2x3x256, .f32⟩
  | .hbm, ⟨18, _⟩ => ⟨S2x3x256, .f32⟩
  | .hbm, ⟨19, _⟩ => ⟨S_, .f32⟩
  | .hbm, ⟨20, _⟩ => ⟨S2x3x256, .f32⟩
  | .hbm, ⟨21, _⟩ => ⟨S2x3x256, .f32⟩
  | .hbm, ⟨22, _⟩ => ⟨S_, .f32⟩
  | .hbm, ⟨23, _⟩ => ⟨S2x3x256, .f32⟩
  | .hbm, ⟨24, _⟩ => ⟨S2x3x256, .f32⟩
  | .hbm, ⟨25, _⟩ => ⟨S2x3x256, .f32⟩
  | .hbm, ⟨26, _⟩ => ⟨S_, .f32⟩
  | .hbm, ⟨27, _⟩ => ⟨S2x3x256, .f32⟩
  | .hbm, ⟨28, _⟩ => ⟨S2x3x256, .f32⟩
  | .hbm, ⟨29, _⟩ => ⟨S2x3x256, .f32⟩
  | .hbm, ⟨30, _⟩ => ⟨S_, .f32⟩
  | .hbm, ⟨31, _⟩ => ⟨S2x3x256, .f32⟩
  | .hbm, ⟨32, _⟩ => ⟨S2x3x256, .f32⟩
  | .hbm, ⟨33, _⟩ => ⟨S2x3x256, .f32⟩
  | .hbm, ⟨34, _⟩ => ⟨S_, .f32⟩
  | .hbm, ⟨35, _⟩ => ⟨S2x3x256, .f32⟩
  | .hbm, ⟨36, _⟩ => ⟨S2x3x256, .f32⟩
  | .hbm, ⟨37, _⟩ => ⟨S6x256, .f32⟩
  | .hbm, ⟨38, _⟩ => ⟨S6x256, .f32⟩
  | .hbm, ⟨39, _⟩ => ⟨S6x256, .f32⟩
  | _, _ => ⟨S2x3x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamCvKernel.lean ====
abbrev S1x3x192 : Shape := ⟨3, ![1, 3, 192]⟩
abbrev S3x192 : Shape := ⟨2, ![3, 192]⟩

abbrev nBuf : Space → Nat
  | .hbm => 11
  | .vmem => 7
  | .smem => 0
  | _ => 0

abbrev bufTy : (tb : Table) → Fin (tcTables nBuf tb) → BufTy
  | .hbm, ⟨0, _⟩ => ⟨S1x3x192, .f32⟩
  | .hbm, ⟨1, _⟩ => ⟨S1x3x192, .f32⟩
  | .hbm, ⟨2, _⟩ => ⟨S1x3x192, .f32⟩
  | .hbm, ⟨3, _⟩ => ⟨S1x3x192, .f32⟩
  | .hbm, ⟨4, _⟩ => ⟨S3x192, .f32⟩
  | .hbm, ⟨5, _⟩ => ⟨S3x192, .f32⟩
  | .hbm, ⟨6, _⟩ => ⟨S3x192, .f32⟩
  | .hbm, ⟨7, _⟩ => ⟨S3x192, .f32⟩
  | .hbm, ⟨8, _⟩ => ⟨S3x192, .f32⟩
  | .hbm, ⟨9, _⟩ => ⟨S3x192, .f32⟩
  | .hbm, ⟨10, _⟩ => ⟨S3x192, .f32⟩
  | .local _ .vmem, ⟨0, _⟩ => ⟨S3x192, .f32⟩
  | .local _ .vmem, ⟨1, _⟩ => ⟨S3x192, .f32⟩
  | .local _ .vmem, ⟨2, _⟩ => ⟨S3x192, .f32⟩
  | .local _ .vmem, ⟨3, _⟩ => ⟨S3x192, .f32⟩
  | .local _ .vmem, ⟨4, _⟩ => ⟨S3x192, .f32⟩
  | .local _ .vmem, ⟨5, _⟩ => ⟨S3x192, .f32⟩
  | .local _ .vmem, ⟨6, _⟩ => ⟨S3x192, .f32⟩
  | _, _ => ⟨S1x3x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamCvKernelIdeal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== AdamCvReferenceIdeal.lean ====
abbrev S1x3x192 : Shape := ⟨3, ![1, 3, 192]⟩
abbrev S_ : Shape := ⟨0, ![]⟩
abbrev S3x192 : Shape := ⟨2, ![3, 192]⟩

abbrev nBuf : Space → Nat
  | .hbm => 40
  | .vmem => 0
  | .smem => 0
  | _ => 0

abbrev bufTy : (tb : Table) → Fin (tcTables nBuf tb) → BufTy
  | .hbm, ⟨0, _⟩ => ⟨S1x3x192, .f32⟩
  | .hbm, ⟨1, _⟩ => ⟨S1x3x192, .f32⟩
  | .hbm, ⟨2, _⟩ => ⟨S1x3x192, .f32⟩
  | .hbm, ⟨3, _⟩ => ⟨S1x3x192, .f32⟩
  | .hbm, ⟨4, _⟩ => ⟨S_, .f32⟩
  | .hbm, ⟨5, _⟩ => ⟨S1x3x192, .f32⟩
  | .hbm, ⟨6, _⟩ => ⟨S1x3x192, .f32⟩
  | .hbm, ⟨7, _⟩ => ⟨S_, .f32⟩
  | .hbm, ⟨8, _⟩ => ⟨S1x3x192, .f32⟩
  | .hbm, ⟨9, _⟩ => ⟨S1x3x192, .f32⟩
  | .hbm, ⟨10, _⟩ => ⟨S1x3x192, .f32⟩
  | .hbm, ⟨11, _⟩ => ⟨S_, .f32⟩
  | .hbm, ⟨12, _⟩ => ⟨S1x3x192, .f32⟩
  | .hbm, ⟨13, _⟩ => ⟨S1x3x192, .f32⟩
  | .hbm, ⟨14, _⟩ => ⟨S1x3x192, .f32⟩
  | .hbm, ⟨15, _⟩ => ⟨S_, .f32⟩
  | .hbm, ⟨16, _⟩ => ⟨S1x3x192, .f32⟩
  | .hbm, ⟨17, _⟩ => ⟨S1x3x192, .f32⟩
  | .hbm, ⟨18, _⟩ => ⟨S1x3x192, .f32⟩
  | .hbm, ⟨19, _⟩ => ⟨S_, .f32⟩
  | .hbm, ⟨20, _⟩ => ⟨S1x3x192, .f32⟩
  | .hbm, ⟨21, _⟩ => ⟨S1x3x192, .f32⟩
  | .hbm, ⟨22, _⟩ => ⟨S_, .f32⟩
  | .hbm, ⟨23, _⟩ => ⟨S1x3x192, .f32⟩
  | .hbm, ⟨24, _⟩ => ⟨S1x3x192, .f32⟩
  | .hbm, ⟨25, _⟩ => ⟨S1x3x192, .f32⟩
  | .hbm, ⟨26, _⟩ => ⟨S_, .f32⟩
  | .hbm, ⟨27, _⟩ => ⟨S1x3x192, .f32⟩
  | .hbm, ⟨28, _⟩ => ⟨S1x3x192, .f32⟩
  | .hbm, ⟨29, _⟩ => ⟨S1x3x192, .f32⟩
  | .hbm, ⟨30, _⟩ => ⟨S_, .f32⟩
  | .hbm, ⟨31, _⟩ => ⟨S1x3x192, .f32⟩
  | .hbm, ⟨32, _⟩ => ⟨S1x3x192, .f32⟩
  | .hbm, ⟨33, _⟩ => ⟨S1x3x192, .f32⟩
  | .hbm, ⟨34, _⟩ => ⟨S_, .f32⟩
  | .hbm, ⟨35, _⟩ => ⟨S1x3x192, .f32⟩
  | .hbm, ⟨36, _⟩ => ⟨S1x3x192, .f32⟩
  | .hbm, ⟨37, _⟩ => ⟨S3x192, .f32⟩
  | .hbm, ⟨38, _⟩ => ⟨S3x192, .f32⟩
  | .hbm, ⟨39, _⟩ => ⟨S3x192, .f32⟩
  | _, _ => ⟨S1x3x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamGtKernel.lean ====
abbrev S1x8 : Shape := ⟨2, ![1, 8]⟩

abbrev nBuf : Space → Nat
  | .hbm => 7
  | .vmem => 7
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S1x8, .f32⟩
  | .hbm, ⟨5, _⟩ => ⟨S1x8, .f32⟩
  | .hbm, ⟨6, _⟩ => ⟨S1x8, .f32⟩
  | .local _ .vmem, ⟨0, _⟩ => ⟨S1x8, .f32⟩
  | .local _ .vmem, ⟨1, _⟩ => ⟨S1x8, .f32⟩
  | .local _ .vmem, ⟨2, _⟩ => ⟨S1x8, .f32⟩
  | .local _ .vmem, ⟨3, _⟩ => ⟨S1x8, .f32⟩
  | .local _ .vmem, ⟨4, _⟩ => ⟨S1x8, .f32⟩
  | .local _ .vmem, ⟨5, _⟩ => ⟨S1x8, .f32⟩
  | .local _ .vmem, ⟨6, _⟩ => ⟨S1x8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGtKernelIdeal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== AdamGtReferenceIdeal.lean ====
abbrev S1x8 : Shape := ⟨2, ![1, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S_, .f32⟩
  | .hbm, ⟨5, _⟩ => ⟨S1x8, .f32⟩
  | .hbm, ⟨6, _⟩ => ⟨S1x8, .f32⟩
  | .hbm, ⟨7, _⟩ => ⟨S_, .f32⟩
  | .hbm, ⟨8, _⟩ => ⟨S1x8, .f32⟩
  | .hbm, ⟨9, _⟩ => ⟨S1x8, .f32⟩
  | .hbm, ⟨10, _⟩ => ⟨S1x8, .f32⟩
  | .hbm, ⟨11, _⟩ => ⟨S_, .f32⟩
  | .hbm, ⟨12, _⟩ => ⟨S1x8, .f32⟩
  | .hbm, ⟨13, _⟩ => ⟨S1x8, .f32⟩
  | .hbm, ⟨14, _⟩ => ⟨S1x8, .f32⟩
  | .hbm, ⟨15, _⟩ => ⟨S_, .f32⟩
  | .hbm, ⟨16, _⟩ => ⟨S1x8, .f32⟩
  | .hbm, ⟨17, _⟩ => ⟨S1x8, .f32⟩
  | .hbm, ⟨18, _⟩ => ⟨S1x8, .f32⟩
  | .hbm, ⟨19, _⟩ => ⟨S_, .f32⟩
  | .hbm, ⟨20, _⟩ => ⟨S1x8, .f32⟩
  | .hbm, ⟨21, _⟩ => ⟨S1x8, .f32⟩
  | .hbm, ⟨22, _⟩ => ⟨S_, .f32⟩
  | .hbm, ⟨23, _⟩ => ⟨S1x8, .f32⟩
  | .hbm, ⟨24, _⟩ => ⟨S1x8, .f32⟩
  | .hbm, ⟨25, _⟩ => ⟨S1x8, .f32⟩
  | .hbm, ⟨26, _⟩ => ⟨S_, .f32⟩
  | .hbm, ⟨27, _⟩ => ⟨S1x8, .f32⟩
  | .hbm, ⟨28, _⟩ => ⟨S1x8, .f32⟩
  | .hbm, ⟨29, _⟩ => ⟨S1x8, .f32⟩
  | .hbm, ⟨30, _⟩ => ⟨S_, .f32⟩
  | .hbm, ⟨31, _⟩ => ⟨S1x8, .f32⟩
  | .hbm, ⟨32, _⟩ => ⟨S1x8, .f32⟩
  | .hbm, ⟨33, _⟩ => ⟨S1x8, .f32⟩
  | .hbm, ⟨34, _⟩ => ⟨S_, .f32⟩
  | .hbm, ⟨35, _⟩ => ⟨S1x8, .f32⟩
  | .hbm, ⟨36, _⟩ => ⟨S1x8, .f32⟩
  | _, _ => ⟨S1x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamQkKernel.lean ====
abbrev S1x4x384 : Shape := ⟨3, ![1, 4, 384]⟩
abbrev S4x384 : Shape := ⟨2, ![4, 384]⟩

abbrev nBuf : Space → Nat
  | .hbm => 11
  | .vmem => 7
  | .smem => 0
  | _ => 0

abbrev bufTy : (tb : Table) → Fin (tcTables nBuf tb) → BufTy
  | .hbm, ⟨0, _⟩ => ⟨S1x4x384, .f32⟩
  | .hbm, ⟨1, _⟩ => ⟨S1x4x384, .f32⟩
  | .hbm, ⟨2, _⟩ => ⟨S1x4x384, .f32⟩
  | .hbm, ⟨3, _⟩ => ⟨S1x4x384, .f32⟩
  | .hbm, ⟨4, _⟩ => ⟨S4x384, .f32⟩
  | .hbm, ⟨5, _⟩ => ⟨S4x384, .f32⟩
  | .hbm, ⟨6, _⟩ => ⟨S4x384, .f32⟩
  | .hbm, ⟨7, _⟩ => ⟨S4x384, .f32⟩
  | .hbm, ⟨8, _⟩ => ⟨S4x384, .f32⟩
  | .hbm, ⟨9, _⟩ => ⟨S4x384, .f32⟩
  | .hbm, ⟨10, _⟩ => ⟨S4x384, .f32⟩
  | .local _ .vmem, ⟨0, _⟩ => ⟨S4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | _, _ => ⟨S1x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamQkKernelIdeal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== AdamQkReferenceIdeal.lean ====
abbrev S1x4x384 : Shape := ⟨3, ![1, 4, 384]⟩
abbrev S_ : Shape := ⟨0, ![]⟩
abbrev S4x384 : Shape := ⟨2, ![4, 384]⟩

abbrev nBuf : Space → Nat
  | .hbm => 40
  | .vmem => 0
  | .smem => 0
  | _ => 0

abbrev bufTy : (tb : Table) → Fin (tcTables nBuf tb) → BufTy
  | .hbm, ⟨0, _⟩ => ⟨S1x4x384, .f32⟩
  | .hbm, ⟨1, _⟩ => ⟨S1x4x384, .f32⟩
  | .hbm, ⟨2, _⟩ => ⟨S1x4x384, .f32⟩
  | .hbm, ⟨3, _⟩ => ⟨S1x4x384, .f32⟩
  | .hbm, ⟨4, _⟩ => ⟨S_, .f32⟩
  | .hbm, ⟨5, _⟩ => ⟨S1x4x384, .f32⟩
  | .hbm, ⟨6, _⟩ => ⟨S1x4x384, .f32⟩
  | .hbm, ⟨7, _⟩ => ⟨S_, .f32⟩
  | .hbm, ⟨8, _⟩ => ⟨S1x4x384, .f32⟩
  | .hbm, ⟨9, _⟩ => ⟨S1x4x384, .f32⟩
  | .hbm, ⟨10, _⟩ => ⟨S1x4x384, .f32⟩
  | .hbm, ⟨11, _⟩ => ⟨S_, .f32⟩
  | .hbm, ⟨12, _⟩ => ⟨S1x4x384, .f32⟩
  | .hbm, ⟨13, _⟩ => ⟨S1x4x384, .f32⟩
  | .hbm, ⟨14, _⟩ => ⟨S1x4x384, .f32⟩
  | .hbm, ⟨15, _⟩ => ⟨S_, .f32⟩
  | .hbm, ⟨16, _⟩ => ⟨S1x4x384, .f32⟩
  | .hbm, ⟨17, _⟩ => ⟨S1x4x384, .f32⟩
  | .hbm, ⟨18, _⟩ => ⟨S1x4x384, .f32⟩
  | .hbm, ⟨19, _⟩ => ⟨S_, .f32⟩
  | .hbm, ⟨20, _⟩ => ⟨S1x4x384, .f32⟩
  | .hbm, ⟨21, _⟩ => ⟨S1x4x384, .f32⟩
  | .hbm, ⟨22, _⟩ => ⟨S_, .f32⟩
  | .hbm, ⟨23, _⟩ => ⟨S1x4x384, .f32⟩
  | .hbm, ⟨24, _⟩ => ⟨S1x4x384, .f32⟩
  | .hbm, ⟨25, _⟩ => ⟨S1x4x384, .f32⟩
  | .hbm, ⟨26, _⟩ => ⟨S_, .f32⟩
  | .hbm, ⟨27, _⟩ => ⟨S1x4x384, .f32⟩
  | .hbm, ⟨28, _⟩ => ⟨S1x4x384, .f32⟩
  | .hbm, ⟨29, _⟩ => ⟨S1x4x384, .f32⟩
  | .hbm, ⟨30, _⟩ => ⟨S_, .f32⟩
  | .hbm, ⟨31, _⟩ => ⟨S1x4x384, .f32⟩
  | .hbm, ⟨32, _⟩ => ⟨S1x4x384, .f32⟩
  | .hbm, ⟨33, _⟩ => ⟨S1x4x384, .f32⟩
  | .hbm, ⟨34, _⟩ => ⟨S_, .f32⟩
  | .hbm, ⟨35, _⟩ => ⟨S1x4x384, .f32⟩
  | .hbm, ⟨36, _⟩ => ⟨S1x4x384, .f32⟩
  | .hbm, ⟨37, _⟩ => ⟨S4x384, .f32⟩
  | .hbm, ⟨38, _⟩ => ⟨S4x384, .f32⟩
  | .hbm, ⟨39, _⟩ => ⟨S4x384, .f32⟩
  | _, _ => ⟨S1x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamHnKernel.lean ====
abbrev S1x4x192 : Shape := ⟨3, ![1, 4, 192]⟩
abbrev S4x192 : Shape := ⟨2, ![4, 192]⟩

abbrev nBuf : Space → Nat
  | .hbm => 11
  | .vmem => 7
  | .smem => 0
  | _ => 0

abbrev bufTy : (tb : Table) → Fin (tcTables nBuf tb) → BufTy
  | .hbm, ⟨0, _⟩ => ⟨S1x4x192, .f32⟩
  | .hbm, ⟨1, _⟩ => ⟨S1x4x192, .f32⟩
  | .hbm, ⟨2, _⟩ => ⟨S1x4x192, .f32⟩
  | .hbm, ⟨3, _⟩ => ⟨S1x4x192, .f32⟩
  | .hbm, ⟨4, _⟩ => ⟨S4x192, .f32⟩
  | .hbm, ⟨5, _⟩ => ⟨S4x192, .f32⟩
  | .hbm, ⟨6, _⟩ => ⟨S4x192, .f32⟩
  | .hbm, ⟨7, _⟩ => ⟨S4x192, .f32⟩
  | .hbm, ⟨8, _⟩ => ⟨S4x192, .f32⟩
  | .hbm, ⟨9, _⟩ => ⟨S4x192, .f32⟩
  | .hbm, ⟨10, _⟩ => ⟨S4x192, .f32⟩
  | .local _ .vmem, ⟨0, _⟩ => ⟨S4x192, .f32⟩
  | .local _ .vmem, ⟨1, _⟩ => ⟨S4x192, .f32⟩
  | .local _ .vmem, ⟨2, _⟩ => ⟨S4x192, .f32⟩
  | .local _ .vmem, ⟨3, _⟩ => ⟨S4x192, .f32⟩
  | .local _ .vmem, ⟨4, _⟩ => ⟨S4x192, .f32⟩
  | .local _ .vmem, ⟨5, _⟩ => ⟨S4x192, .f32⟩
  | .local _ .vmem, ⟨6, _⟩ => ⟨S4x192, .f32⟩
  | _, _ => ⟨S1x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamHnKernelIdeal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== AdamHnReferenceIdeal.lean ====
abbrev S1x4x192 : Shape := ⟨3, ![1, 4, 192]⟩
abbrev S_ : Shape := ⟨0, ![]⟩
abbrev S4x192 : Shape := ⟨2, ![4, 192]⟩

abbrev nBuf : Space → Nat
  | .hbm => 40
  | .vmem => 0
  | .smem => 0
  | _ => 0

abbrev bufTy : (tb : Table) → Fin (tcTables nBuf tb) → BufTy
  | .hbm, ⟨0, _⟩ => ⟨S1x4x192, .f32⟩
  | .hbm, ⟨1, _⟩ => ⟨S1x4x192, .f32⟩
  | .hbm, ⟨2, _⟩ => ⟨S1x4x192, .f32⟩
  | .hbm, ⟨3, _⟩ => ⟨S1x4x192, .f32⟩
  | .hbm, ⟨4, _⟩ => ⟨S_, .f32⟩
  | .hbm, ⟨5, _⟩ => ⟨S1x4x192, .f32⟩
  | .hbm, ⟨6, _⟩ => ⟨S1x4x192, .f32⟩
  | .hbm, ⟨7, _⟩ => ⟨S_, .f32⟩
  | .hbm, ⟨8, _⟩ => ⟨S1x4x192, .f32⟩
  | .hbm, ⟨9, _⟩ => ⟨S1x4x192, .f32⟩
  | .hbm, ⟨10, _⟩ => ⟨S1x4x192, .f32⟩
  | .hbm, ⟨11, _⟩ => ⟨S_, .f32⟩
  | .hbm, ⟨12, _⟩ => ⟨S1x4x192, .f32⟩
  | .hbm, ⟨13, _⟩ => ⟨S1x4x192, .f32⟩
  | .hbm, ⟨14, _⟩ => ⟨S1x4x192, .f32⟩
  | .hbm, ⟨15, _⟩ => ⟨S_, .f32⟩
  | .hbm, ⟨16, _⟩ => ⟨S1x4x192, .f32⟩
  | .hbm, ⟨17, _⟩ => ⟨S1x4x192, .f32⟩
  | .hbm, ⟨18, _⟩ => ⟨S1x4x192, .f32⟩
  | .hbm, ⟨19, _⟩ => ⟨S_, .f32⟩
  | .hbm, ⟨20, _⟩ => ⟨S1x4x192, .f32⟩
  | .hbm, ⟨21, _⟩ => ⟨S1x4x192, .f32⟩
  | .hbm, ⟨22, _⟩ => ⟨S_, .f32⟩
  | .hbm, ⟨23, _⟩ => ⟨S1x4x192, .f32⟩
  | .hbm, ⟨24, _⟩ => ⟨S1x4x192, .f32⟩
  | .hbm, ⟨25, _⟩ => ⟨S1x4x192, .f32⟩
  | .hbm, ⟨26, _⟩ => ⟨S_, .f32⟩
  | .hbm, ⟨27, _⟩ => ⟨S1x4x192, .f32⟩
  | .hbm, ⟨28, _⟩ => ⟨S1x4x192, .f32⟩
  | .hbm, ⟨29, _⟩ => ⟨S1x4x192, .f32⟩
  | .hbm, ⟨30, _⟩ => ⟨S_, .f32⟩
  | .hbm, ⟨31, _⟩ => ⟨S1x4x192, .f32⟩
  | .hbm, ⟨32, _⟩ => ⟨S1x4x192, .f32⟩
  | .hbm, ⟨33, _⟩ => ⟨S1x4x192, .f32⟩
  | .hbm, ⟨34, _⟩ => ⟨S_, .f32⟩
  | .hbm, ⟨35, _⟩ => ⟨S1x4x192, .f32⟩
  | .hbm, ⟨36, _⟩ => ⟨S1x4x192, .f32⟩
  | .hbm, ⟨37, _⟩ => ⟨S4x192, .f32⟩
  | .hbm, ⟨38, _⟩ => ⟨S4x192, .f32⟩
  | .hbm, ⟨39, _⟩ => ⟨S4x192, .f32⟩
  | _, _ => ⟨S1x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.ConvRef.lean ====
/- The reference's side of the gated convolution's backward pass: the four results of the reference program, read at an
   index, as closed forms in the packed projection `A`, the taps `W` and the incoming gradient `D`. -/
module

public import proofs.«01_k».proof.Proof.Gen.ConvReferenceIdeal.Run
public import Idealize.ShloMosaic.Lib.Pointwise
public import Idealize.ShloMosaic.Lib.KernelVsHost
public import Idealize.ShloMosaic.Lib.Tactic.CleanTypes

@[expose] public section

set_option maxRecDepth 16384

noncomputable section

open Idealize.ShloMosaic Idealize.ShloMosaic.TcCoe Idealize.SL.Sem

namespace Cert.Conv

/-- The packed projection: per token the gates b, c, the input x and the queries. -/
abbrev SA : Shape := ⟨3, ![1, 4096, 2560]⟩
/-- The three taps of each channel. -/
abbrev SW : Shape := ⟨2, ![3, 768]⟩
/-- The gradient of the concatenated mixers' output. -/
abbrev SD : Shape := ⟨3, ![1, 4096, 1024]⟩

variable (A : SA.Idx → EReal) (W : SW.Idx → EReal) (D : SD.Idx → EReal)

/-- The convolution's input at token `t`, channel `q`: the gate c times x. -/
def prod (t : Fin 4096) (q : Fin 768) : EReal :=
  A (ix3 0 t ⟨768 + q.val, by omega⟩) * A (ix3 0 t ⟨1536 + q.val, by omega⟩)

/-- The gradient that reaches the convolution's output: the gate b times the incoming gradient. -/
def grad (t : Fin 4096) (q : Fin 768) : EReal := A (ix3 0 t ⟨q.val, by omega⟩) * D (ix3 0 t ⟨q.val, by omega⟩)

/-- The convolution's input `s` tokens before `t`, zero before the first token. -/
def back (s : Nat) (t : Fin 4096) (q : Fin 768) : EReal :=
  if _h : t.val < s then 0 else prod A ⟨t.val - s, by omega⟩ q

/-- The gradient at the convolution's output `s` tokens after `t`, weighted by tap `k`, zero after the last token. -/
def ahead (k : Fin 3) (s : Nat) (t : Fin 4096) (q : Fin 768) : EReal :=
  if h : t.val + s < 4096 then grad A D ⟨t.val + s, h⟩ q * W (ix2 k q) else 0

/-- The gradient of the gate b. -/
def db (t : Fin 4096) (q : Fin 768) : EReal :=
  D (ix3 0 t ⟨q.val, by omega⟩) * (prod A t q * W (ix2 2 q) + back A 2 t q * W (ix2 0 q) + back A 1 t q * W (ix2 1 q))

/-- The gradient of the convolution's input. -/
def dp (t : Fin 4096) (q : Fin 768) : EReal :=
  ahead A W D 1 1 t q + ahead A W D 0 2 t q + grad A D t q * W (ix2 2 q)

/-- The gradient of the gate c. -/
def dc (t : Fin 4096) (q : Fin 768) : EReal := dp A W D t q * A (ix3 0 t ⟨1536 + q.val, by omega⟩)

/-- The gradient of x. -/
def dx (t : Fin 4096) (q : Fin 768) : EReal := A (ix3 0 t ⟨768 + q.val, by omega⟩) * dp A W D t q

/-- The gradient of tap `k`, with rows of zeros after the third. -/
def dw (k : Fin 8) (q : Fin 768) : EReal :=
  if k.val < 3 then ∑ t : Fin 4096, back A (2 - k.val) t q * grad A D t q else 0

/-- A function of token and channel as the array of three groups of 256 channels. -/
def unpack (f : Fin 4096 → Fin 768 → EReal) : (⟨3, ![3, 4096, 256]⟩ : Shape).Idx → EReal := fun i =>
  f (i 1) ⟨(i 0).val * 256 + (i 2).val, by
    have h0 : (i 0).val < 3 := (i 0).isLt
    have h2 : (i 2).val < 256 := (i 2).isLt
    omega⟩

/-- The same for a function of tap and channel, with eight rows of taps. -/
def unpackTaps (f : Fin 8 → Fin 768 → EReal) : (⟨3, ![3, 8, 256]⟩ : Shape).Idx → EReal := fun i =>
  f (i 1) ⟨(i 0).val * 256 + (i 2).val, by
    have h0 : (i 0).val < 3 := (i 0).isLt
    have h2 : (i 2).val < 256 := (i 2).isLt
    omega⟩

/-- The sum over two leading axes of extent one of a rank-three array. -/
theorem sum_unit_axes {n : Nat} {t : Shape} (h : (⟨3, ![1, 1, n]⟩ : Shape).ReducesTo [0, 1] t) (v : (⟨3, ![1, 1, n]⟩ : Shape).Idx → EReal)
    (init : EReal) (j : t.Idx) (l : Fin n) (hl : ∀ hr : 0 < t.rank, (j ⟨0, hr⟩).val = l.val) :
    Ideal.hostReduceAdd h v init j = init + v (ix3 0 0 l) := by
  have hr : t.rank = 1 := h.1
  refine congrArg (init + ·) ?_
  refine (Finset.sum_congr (Finset.ext fun i => ?_) fun _ _ => rfl).trans (Finset.sum_singleton v (ix3 0 0 l))
  simp only [Finset.mem_filter, Finset.mem_univ, true_and, Finset.mem_singleton]
  constructor
  · intro e
    have e0 : (i 2).val = l.val := by
      rw [← hl (by omega)]
      exact congrArg Fin.val (congrFun e ⟨0, by omega⟩)
    funext a
    match a with
    | ⟨0, _⟩ => exact Subsingleton.elim (α := Fin 1) _ _
    | ⟨1, _⟩ => exact Subsingleton.elim (α := Fin 1) _ _
    | ⟨2, _⟩ => exact Fin.ext e0
  · rintro rfl
    funext b
    apply Fin.ext
    match b with
    | ⟨0, _⟩ => exact (hl (by omega)).symm
    | ⟨_ + 1, hb⟩ => exact absurd hb (by omega)

/-- The same for the taps' gradient, whose sums start at zero. -/
theorem sum_unit_axes_zero (h : (⟨3, ![1, 1, 768]⟩ : Shape).ReducesTo [0, 1] ⟨1, ![768]⟩)
    (v : (⟨3, ![1, 1, 768]⟩ : Shape).Idx → EReal) (q : Fin 768) :
    Ideal.hostReduceAdd h v 0 (ix1 q) = v (ix3 0 0 q) := by
  rw [sum_unit_axes h v 0 (ix1 q) q fun _ => rfl]
  exact zero_add _

end Cert.Conv

namespace Cert.ConvReferenceIdeal.Value
open Cert.ConvReferenceIdeal Cert.Conv

variable (m : (ℓ : Loc nD τ sig) → Buf (Elt Ideal) ℓ) (c : Dev nD)

/-- The packed projection as the reference's argument. -/
abbrev argA : SA.Idx → EReal := m ((c.tc : Thread nD τ).loc main_arg0)
/-- The taps as the reference's argument. -/
abbrev argW : SW.Idx → EReal := m ((c.tc : Thread nD τ).loc main_arg1)
/-- The incoming gradient as the reference's argument. -/
abbrev argD : SD.Idx → EReal := m ((c.tc : Thread nD τ).loc main_arg2)

/-- The first result: the gradient of the gate b. -/
theorem res0 (h : Fin 3) (t : Fin 4096) (l : Fin 256) (hq : h.val * 256 + l.val < 768) :
    (res_out0 m c : S3x4096x256.Idx → EReal) (ix3 h t l) = db (argA m c) (argW m c) (argD m c) t ⟨h.val * 256 + l.val, hq⟩ := by
  unfold res_out0 res_main_v74
  clean_types
  pointwise
  rw [dif_pos hq]
  simp only [db, prod, back]
  have e : (1 + t.val < 2) = (t.val < 1) := propext (by omega)
  have e' : ∀ h, (⟨1 + t.val - 2, h⟩ : Fin 4096) = ⟨t.val - 1, by omega⟩ := fun _ => Fin.ext (by show 1 + t.val - 2 = t.val - 1; omega)
  simp only [e, e']

/-- A guarded term of the reference is the guarded term of the closed form. -/
theorem guard_eq {p : Prop} [Decidable p] (k : Fin 3) (s n : Nat) (hn : p → n < 4096) (t : Fin 4096) (q : Fin 768) (hp : p ↔ t.val + s < 4096) (hs : n = t.val + s)
    (A : SA.Idx → EReal) (W : SW.Idx → EReal) (D : SD.Idx → EReal) :
    (if h : p then A (ix3 0 ⟨n, hn h⟩ ⟨q.val, by omega⟩) * D (ix3 0 ⟨n, hn h⟩ ⟨q.val, by omega⟩) * W (ix2 k q) else 0)
      = ahead A W D k s t q := by
  subst hs
  unfold ahead
  by_cases h : t.val + s < 4096
  · rw [dif_pos (hp.mpr h), dif_pos h]
    rfl
  · rw [dif_neg (fun e => h (hp.mp e)), dif_neg h]

/-- The second result: the gradient of the gate c. -/
theorem res1 (h : Fin 3) (t : Fin 4096) (l : Fin 256) (hq : h.val * 256 + l.val < 768) :
    (res_out1 m c : S3x4096x256.Idx → EReal) (ix3 h t l) = dc (argA m c) (argW m c) (argD m c) t ⟨h.val * 256 + l.val, hq⟩ := by
  unfold res_out1 res_main_v78
  clean_types
  pointwise
  have h1 : ((1 ≤ 2 + t.val ∧ 2 + t.val - 1 < 4096) ∧ h.val * 256 + l.val < 768) ↔ t.val + 1 < 4096 := by omega
  have h2 : (2 + t.val < 4096 ∧ h.val * 256 + l.val < 768) ↔ t.val + 2 < 4096 := by omega
  have g1 := guard_eq 1 1 (2 + t.val - 1) (fun h => h.1.2) t ⟨h.val * 256 + l.val, hq⟩ h1 (by omega) (argA m c) (argW m c) (argD m c)
  have g2 := guard_eq 0 2 (2 + t.val) (fun h => h.1) t ⟨h.val * 256 + l.val, hq⟩ h2 (by omega) (argA m c) (argW m c) (argD m c)
  simp only [dif_pos hq, dc, dp, grad, ← g1, ← g2]

/-- The third result: the gradient of x. -/
theorem res2 (h : Fin 3) (t : Fin 4096) (l : Fin 256) (hq : h.val * 256 + l.val < 768) :
    (res_out2 m c : S3x4096x256.Idx → EReal) (ix3 h t l) = dx (argA m c) (argW m c) (argD m c) t ⟨h.val * 256 + l.val, hq⟩ := by
  unfold res_out2 res_main_v82
  clean_types
  pointwise
  have h1 : ((1 ≤ 2 + t.val ∧ 2 + t.val - 1 < 4096) ∧ h.val * 256 + l.val < 768) ↔ t.val + 1 < 4096 := by omega
  have h2 : (2 + t.val < 4096 ∧ h.val * 256 + l.val < 768) ↔ t.val + 2 < 4096 := by omega
  have g1 := guard_eq 1 1 (2 + t.val - 1) (fun h => h.1.2) t ⟨h.val * 256 + l.val, hq⟩ h1 (by omega) (argA m c) (argW m c) (argD m c)
  have g2 := guard_eq 0 2 (2 + t.val) (fun h => h.1) t ⟨h.val * 256 + l.val, hq⟩ h2 (by omega) (argA m c) (argW m c) (argD m c)
  have n1 : ¬ 1536 + (h.val * 256 + l.val) < 768 := by omega
  have n2 : ¬ 1536 + (h.val * 256 + l.val) - 768 < 768 := by omega
  have e3 : 1536 + (h.val * 256 + l.val) - 768 - 768 = h.val * 256 + l.val := by omega
  simp only [dif_neg n1, dif_neg n2, e3, dif_pos hq, dx, dp, grad, ← g1, ← g2]

/-- A sum over the tokens, split after the first two. -/
theorem sum_split_two {n k : Nat} (h : 2 + k = n) (f : Fin n → EReal) :
    ∑ t, f t = (∑ x : Fin 2, f ⟨x.val, by omega⟩) + ∑ x : Fin k, f ⟨2 + x.val, by omega⟩ := by
  subst h
  exact Fin.sum_univ_add f

/-- The first tap's sum, split after the two tokens that see only padding. -/
theorem sum_back_two (A : SA.Idx → EReal) (D : SD.Idx → EReal) (q : Fin 768) :
    ∑ t : Fin 4096, back A 2 t q * grad A D t q
      = (∑ x : Fin 2, 0 * grad A D ⟨x.val, by omega⟩ q)
        + ∑ x : Fin 4094, prod A ⟨x.val, by omega⟩ q * grad A D ⟨2 + x.val, by omega⟩ q := by
  rw [sum_split_two (k := 4094) (by omega)]
  refine congrArg₂ (· + ·) (Finset.sum_congr rfl fun x _ => ?_) (Finset.sum_congr rfl fun x _ => ?_)
  · have h : back A 2 ⟨x.val, by omega⟩ q = 0 := dif_pos x.isLt
    rw [h]
  · have e : ∀ p, (⟨2 + x.val - 2, p⟩ : Fin 4096) = ⟨x.val, by omega⟩ := fun _ => Fin.ext (Nat.add_sub_cancel_left 2 x.val)
    have n : ¬ 2 + x.val < 2 := by omega
    simp only [back, dif_neg n, e]

/-- Zero tokens back is the product itself. -/
theorem back_zero (A : SA.Idx → EReal) (t : Fin 4096) (q : Fin 768) : back A 0 t q = prod A t q := rfl

/-- A tap is the first, the second or the third. -/
theorem three_cases {t : Nat} (h : t < 3) : t = 0 ∨ t = 1 ∨ t = 2 := by omega

/-- Which of the three padded rows of taps holds the first tap. -/
theorem guards_zero {t a : Nat} (h : t = 0) (ha : a < 768) :
    ¬ ((1 ≤ t ∧ t - 1 < 1) ∧ a < 768) ∧ (t < 1 ∧ a < 768) ∧ ¬ ((2 ≤ t ∧ t - 2 < 1) ∧ a < 768) ∧ 2 - t = 2 := by
  subst h; simp [ha]

/-- Which of the three padded rows of taps holds the second tap. -/
theorem guards_one {t a : Nat} (h : t = 1) (ha : a < 768) :
    ((1 ≤ t ∧ t - 1 < 1) ∧ a < 768) ∧ ¬ (t < 1 ∧ a < 768) ∧ ¬ ((2 ≤ t ∧ t - 2 < 1) ∧ a < 768) ∧ 2 - t = 1 := by
  subst h; simp [ha]

/-- Which of the three padded rows of taps holds the third tap. -/
theorem guards_two {t a : Nat} (h : t = 2) (ha : a < 768) :
    ¬ ((1 ≤ t ∧ t - 1 < 1) ∧ a < 768) ∧ ¬ (t < 1 ∧ a < 768) ∧ ((2 ≤ t ∧ t - 2 < 1) ∧ a < 768) ∧ 2 - t = 0 := by
  subst h; simp [ha]

/-- The row before the second padding row is the first token. -/
theorem one_token_back (x : Fin 4096) : (1 + x.val < 2) = (x.val < 1) := propext (by omega)

/-- Two rows back from the padded row is one token back. -/
theorem one_token_back_val (x : Fin 4096) (p : 1 + x.val - 2 < 4096) : (⟨1 + x.val - 2, p⟩ : Fin 4096) = ⟨x.val - 1, by omega⟩ :=
  Fin.ext (by show 1 + x.val - 2 = x.val - 1; omega)

set_option maxHeartbeats 2000000 in
/-- The fourth result: the taps' gradient. -/
theorem res3 (h : Fin 3) (t : Fin 8) (l : Fin 256) (hq : h.val * 256 + l.val < 768) :
    (res_out3 m c : S3x8x256.Idx → EReal) (ix3 h t l) = dw (argA m c) (argD m c) t ⟨h.val * 256 + l.val, hq⟩ := by
  unfold res_out3 res_main_v85
  clean_types
  by_cases h3 : t.val < 3
  · obtain h0 | h0 | h0 := three_cases h3
    · obtain ⟨n1, n2, n3, n4⟩ := guards_zero h0 hq
      pointwise
      simp only [sum_unit_axes_zero]
      pointwise
      simp only [dw, dif_pos h3, if_pos h3, dif_neg n1, dif_pos n2, dif_neg n3, zero_add, add_zero, n4]
      have s := sum_back_two (argA m c) (argD m c) ⟨h.val * 256 + l.val, hq⟩
      simp only [prod, grad] at s ⊢
      exact s.symm
    · obtain ⟨n1, n2, n3, n4⟩ := guards_one h0 hq
      pointwise
      simp only [sum_unit_axes_zero]
      pointwise
      simp only [dw, dif_pos h3, if_pos h3, dif_pos n1, dif_neg n2, dif_neg n3, add_zero, n4, back, prod, grad, one_token_back,
        one_token_back_val]
    · obtain ⟨n1, n2, n3, n4⟩ := guards_two h0 hq
      pointwise
      simp only [sum_unit_axes_zero]
      pointwise
      simp only [dw, dif_pos h3, if_pos h3, dif_neg n1, dif_neg n2, dif_pos n3, zero_add, n4, back_zero, prod, grad]
  · pointwise
    exact (dif_neg h3).trans ((sitofp_zero (φ := .f32)).trans (if_neg h3).symm)

/-- The reference's first result is the gradient of the outer gate, in groups of 256 columns. -/
theorem whole0 : res_out0 m c = unpack (db (argA m c) (argW m c) (argD m c)) := by
  funext i
  idx_vars i
  exact res0 m c i0 i1 i2 (by omega)

/-- The reference's second result is the gradient of the inner gate, in groups of 256 columns. -/
theorem whole1 : res_out1 m c = unpack (dc (argA m c) (argW m c) (argD m c)) := by
  funext i
  idx_vars i
  exact res1 m c i0 i1 i2 (by omega)

/-- The reference's third result is the gradient of the convolved input, in groups of 256 columns. -/
theorem whole2 : res_out2 m c = unpack (dx (argA m c) (argW m c) (argD m c)) := by
  funext i
  idx_vars i
  exact res2 m c i0 i1 i2 (by omega)

/-- The reference's fourth result is the gradient of the taps, in groups of 256 columns, padded to eight rows. -/
theorem whole3 : res_out3 m c = unpackTaps (dw (argA m c) (argD m c)) := by
  funext i
  idx_vars i
  exact res3 m c i0 i1 i2 (by omega)

end Cert.ConvReferenceIdeal.Value

end
-- ==== Proof.ConvKer.lean ====
/- The kernel's side of the gated convolution's backward pass: what the body leaves at each point of its grid, read as the
   closed forms of `ConvRef`, and from that the four result arrays after the run. -/
module

public import proofs.«01_k».proof.Proof.Gen.ConvKernelIdeal.Value
public import proofs.«01_k».proof.Proof.ConvRef
public import Idealize.ShloMosaic.Lib.Pipeline.ValueKit
public import Idealize.ShloMosaic.Lib.Pointwise
public import Idealize.ShloMosaic.Lib.WordCmp
public import Idealize.ShloMosaic.Lib.Tactic.CleanTypes
public import Idealize.ShloMosaic.Lib.StableHlo.ReadAt

@[expose] public section

set_option maxRecDepth 16384

noncomputable section

open Idealize.ShloMosaic Idealize.ShloMosaic.TcCoe Idealize.SL.Sem

namespace Cert.Conv

variable (A : SA.Idx → EReal) (W : SW.Idx → EReal) (D : SD.Idx → EReal)

/-- The position a rotation by `s` reads, where it does not wrap round. -/
theorem rot_back {s : Nat} {t : Fin 4096} (h : s ≤ t.val) (hs : s < 4096) (p : (t.val + 4096 - s) % 4096 < 4096) :
    (⟨(t.val + 4096 - s) % 4096, p⟩ : Fin 4096) = ⟨t.val - s, by omega⟩ := Fin.ext (by
  show (t.val + 4096 - s) % 4096 = t.val - s
  omega)

/-- A rotated and masked product, weighted, is the weighted product some tokens back. -/
theorem weighted_back (s : Nat) (hs : s < 4096) (t : Fin 4096) (q : Fin 768) (w : EReal) (p : (t.val + 4096 - s) % 4096 < 4096) :
    (if s ≤ t.val then w * (A (ix3 0 ⟨(t.val + 4096 - s) % 4096, p⟩ ⟨768 + q.val, by omega⟩)
        * A (ix3 0 ⟨(t.val + 4096 - s) % 4096, p⟩ ⟨1536 + q.val, by omega⟩)) else 0) = back A s t q * w := by
  unfold back
  by_cases h : s ≤ t.val
  · rw [if_pos h, dif_neg (by omega), rot_back h hs, mul_comm]
    rfl
  · rw [if_neg h, dif_pos (by omega), zero_mul]

/-- A rotated and masked product, times the gradient at the token, is the tap's summand there. -/
theorem tap_back (s : Nat) (hs : s < 4096) (t : Fin 4096) (q : Fin 768) (p : (t.val + 4096 - s) % 4096 < 4096) :
    (if s ≤ t.val then D (ix3 0 t ⟨q.val, by omega⟩) * A (ix3 0 t ⟨q.val, by omega⟩)
        * (A (ix3 0 ⟨(t.val + 4096 - s) % 4096, p⟩ ⟨768 + q.val, by omega⟩)
        * A (ix3 0 ⟨(t.val + 4096 - s) % 4096, p⟩ ⟨1536 + q.val, by omega⟩)) else 0) = back A s t q * grad A D t q := by
  unfold back
  by_cases h : s ≤ t.val
  · rw [if_pos h, dif_neg (by omega), rot_back h hs, mul_comm, mul_comm (D _)]
    rfl
  · rw [if_neg h, dif_pos (by omega), zero_mul]

/-- A gradient rotated the other way, masked and weighted, is the weighted gradient some tokens ahead. -/
theorem weighted_ahead (k : Fin 3) (s n : Nat) (hn : n + s = 4096) (h0 : 0 < s) (t : Fin 4096) (q : Fin 768)
    (p : (t.val + 4096 - n) % 4096 < 4096) :
    (if t.val < n then W (ix2 k q) * (D (ix3 0 ⟨(t.val + 4096 - n) % 4096, p⟩ ⟨q.val, by omega⟩)
        * A (ix3 0 ⟨(t.val + 4096 - n) % 4096, p⟩ ⟨q.val, by omega⟩)) else 0) = ahead A W D k s t q := by
  unfold ahead
  by_cases h : t.val < n
  · have e : (⟨(t.val + 4096 - n) % 4096, p⟩ : Fin 4096) = ⟨t.val + s, by omega⟩ := Fin.ext (by
      show (t.val + 4096 - n) % 4096 = t.val + s
      omega)
    rw [if_pos h, dif_pos (by omega), e, mul_comm, mul_comm (D _)]
    rfl
  · rw [if_neg h, dif_neg (by omega)]

/-- The kernel's order of the factors and of the three taps against the reference's, for the outer gate. -/
theorem order_db (d w p x y : EReal) : d * (w * p + x + y) = d * (p * w + y + x) := by
  rw [mul_comm w p, add_right_comm]

/-- The kernel's order of the factors and of the three taps against the reference's, for the convolved product. -/
theorem order_dp (w g h x y : EReal) : w * (g * h) + x + y = x + y + h * g * w := by
  rw [mul_comm w, mul_comm g h, add_assoc, add_comm]

end Cert.Conv

namespace Cert.ConvKernelIdeal.Value
open Cert.ConvKernelIdeal Cert.ConvKernelIdeal.Gen Cert.Conv

/-! ### What the body leaves, given what its blocks hold at one lane -/

section Body
variable {A : SA.Idx → EReal} {W : SW.Idx → EReal} {D : SD.Idx → EReal}
variable {X0 X1 X2 X4 : Vec Ideal S1x4096x128 .f32} {X3 : Vec Ideal S1x8x128 .f32} {l : Fin 128} {q : Fin 768}

/-- What one grid point leaves in its block of the outer gate's gradient. -/
theorem out5 (h1 : ∀ t, X1 (ix3 0 t l) = A (ix3 0 t ⟨768 + q.val, by omega⟩)) (h2 : ∀ t, X2 (ix3 0 t l) = A (ix3 0 t ⟨1536 + q.val, by omega⟩))
    (w0 : X3 (ix3 0 0 l) = W (ix2 0 q)) (w1 : X3 (ix3 0 1 l) = W (ix2 1 q)) (w2 : X3 (ix3 0 2 l) = W (ix2 2 q))
    (h4 : ∀ t, X4 (ix3 0 t l) = D (ix3 0 t ⟨q.val, by omega⟩)) (a : Fin 1) (t : Fin 4096) :
    @Eq EReal (out0_5 X0 X1 X2 X3 X4 (ix3 a t l)) (db A W D t q) := by
  unfold out0_5
  frame_out
  pointwise [k0_pay9, k0_pay8, k0_pay7, k0_pay6, k0_pay5, k0_pay4, k0_pay3, k0_pay2]
  simp (disch := omega) only [hlo_ix]
  simp only [h1, h2, h4, w0, w1, w2]
  simp (disch := omega) only [weighted_back]
  exact order_db _ _ _ _ _

/-- The body's gradient of the product of inner gate and input, at one token and column. -/
theorem dp_eq (h0 : ∀ t, X0 (ix3 0 t l) = A (ix3 0 t ⟨q.val, by omega⟩))
    (w0 : X3 (ix3 0 0 l) = W (ix2 0 q)) (w1 : X3 (ix3 0 1 l) = W (ix2 1 q)) (w2 : X3 (ix3 0 2 l) = W (ix2 2 q))
    (h4 : ∀ t, X4 (ix3 0 t l) = D (ix3 0 t ⟨q.val, by omega⟩)) (t : Fin 4096) :
    @Eq EReal (k0_pay11 (k0_pay7 X3) (k0_pay8 X4) X0 (ix2 t l)) (dp A W D t q) := by
  set_option maxRecDepth 100000 in pointwise [k0_pay11, k0_pay10, k0_pay8, k0_pay7]
  simp (disch := omega) only [hlo_ix]
  simp only [h0, h4, w0, w1, w2]
  rw [weighted_ahead A W D 1 1 4095 rfl (by omega) t q, weighted_ahead A W D 0 2 4094 rfl (by omega) t q]
  exact order_dp _ _ _ _ _

/-- What one grid point leaves in its block of the inner gate's gradient. -/
theorem out6 (h0 : ∀ t, X0 (ix3 0 t l) = A (ix3 0 t ⟨q.val, by omega⟩))
    (h2 : ∀ t, X2 (ix3 0 t l) = A (ix3 0 t ⟨1536 + q.val, by omega⟩))
    (w0 : X3 (ix3 0 0 l) = W (ix2 0 q)) (w1 : X3 (ix3 0 1 l) = W (ix2 1 q)) (w2 : X3 (ix3 0 2 l) = W (ix2 2 q))
    (h4 : ∀ t, X4 (ix3 0 t l) = D (ix3 0 t ⟨q.val, by omega⟩)) (a : Fin 1) (t : Fin 4096) :
    @Eq EReal (out0_6 X0 X1 X2 X3 X4 (ix3 a t l)) (dc A W D t q) := by
  unfold out0_6 k0_pay16 k0_pay17
  frame_out
  pointwise [k0_pay12, k0_pay3]
  rw [dp_eq h0 w0 w1 w2 h4, h2]
  rfl

/-- What one grid point leaves in its block of the input's gradient. -/
theorem out7 (h0 : ∀ t, X0 (ix3 0 t l) = A (ix3 0 t ⟨q.val, by omega⟩))
    (h1 : ∀ t, X1 (ix3 0 t l) = A (ix3 0 t ⟨768 + q.val, by omega⟩))
    (w0 : X3 (ix3 0 0 l) = W (ix2 0 q)) (w1 : X3 (ix3 0 1 l) = W (ix2 1 q)) (w2 : X3 (ix3 0 2 l) = W (ix2 2 q))
    (h4 : ∀ t, X4 (ix3 0 t l) = D (ix3 0 t ⟨q.val, by omega⟩)) (a : Fin 1) (t : Fin 4096) :
    @Eq EReal (out0_7 X0 X1 X2 X3 X4 (ix3 a t l)) (dx A W D t q) := by
  unfold out0_7 k0_pay16 k0_pay17
  frame_out
  pointwise [k0_pay13, k0_pay2]
  rw [dp_eq h0 w0 w1 w2 h4, h1]
  exact mul_comm _ _

set_option maxHeartbeats 2000000 in
/-- What one grid point leaves in its block of the taps' gradient: three sums over the tokens, and zeros below. -/
theorem out8 (h0 : ∀ t, X0 (ix3 0 t l) = A (ix3 0 t ⟨q.val, by omega⟩))
    (h1 : ∀ t, X1 (ix3 0 t l) = A (ix3 0 t ⟨768 + q.val, by omega⟩)) (h2 : ∀ t, X2 (ix3 0 t l) = A (ix3 0 t ⟨1536 + q.val, by omega⟩))
    (h4 : ∀ t, X4 (ix3 0 t l) = D (ix3 0 t ⟨q.val, by omega⟩)) (a : Fin 1) (k : Fin 8) :
    @Eq EReal (out0_8 X0 X1 X2 X3 X4 (ix3 a k l)) (dw A D k q) := by
  unfold out0_8
  frame_out
  pointwise [k0_pay1, k0_pay17, k0_pay16, k0_pay15, k0_pay14, k0_pay10, k0_pay8, k0_pay7, k0_pay6, k0_pay5, k0_pay4, k0_pay3, k0_pay2]
  simp (disch := omega) only [hlo_ix]
  simp only [h0, h1, h2, h4]
  simp (disch := omega) only [tap_back]
  have e0 : ∀ t, D (ix3 0 t ⟨q.val, by omega⟩) * A (ix3 0 t ⟨q.val, by omega⟩)
      * (A (ix3 0 t ⟨768 + q.val, by omega⟩) * A (ix3 0 t ⟨1536 + q.val, by omega⟩)) = back A 0 t q * grad A D t q := fun t => by
    rw [mul_comm, mul_comm (D _)]
    rfl
  simp only [e0]
  match k with
  | ⟨0, _⟩ => rfl
  | ⟨1, _⟩ => rfl
  | ⟨2, _⟩ => rfl
  | ⟨n + 3, _⟩ =>
    have n1 : ¬ n + 3 < 1 := by omega
    have n2 : ¬ n + 3 - 1 < 1 := by omega
    have n3 : ¬ n + 3 - 1 - 1 < 1 := by omega
    have n4 : ¬ n + 3 < 3 := by omega
    exact (dif_neg n1).trans ((dif_neg n2).trans ((dif_neg n3).trans (if_neg n4).symm))

end Body

/-! ### What the blocks hold -/

variable (m : (ℓ : Loc nD τ sig) → Buf (Elt Ideal) ℓ)

/-- The packed projection as the kernel's argument. -/
abbrev argA (c : Dev nD) : SA.Idx → EReal := m ((c.tc : Thread nD τ).loc main_arg0)
/-- The taps as the kernel's argument. -/
abbrev argW (c : Dev nD) : SW.Idx → EReal := m ((c.tc : Thread nD τ).loc main_arg1)
/-- The incoming gradient as the kernel's argument. -/
abbrev argD (c : Dev nD) : SD.Idx → EReal := m ((c.tc : Thread nD τ).loc main_arg2)

/-- The activation array that the call takes, read through the argument. -/
theorem entry0 (c : Dev nD) (h : Fin 10) (t : Fin 4096) (l : Fin 256) :
    @Eq EReal ((V m c main_v2 : S10x4096x256.Idx → EReal) (ix3 h t l)) (argA m c (ix3 0 t ⟨h.val * 256 + l.val, by omega⟩)) := by
  unfold V
  after_reads_at

/-- The cotangent array that the call takes, read through the argument. -/
theorem entry4 (c : Dev nD) (h : Fin 4) (t : Fin 4096) (l : Fin 256) :
    @Eq EReal ((V m c (Pipeline.arrRef spec0 4) : S4x4096x256.Idx → EReal) (ix3 h t l)) (argD m c (ix3 0 t ⟨h.val * 256 + l.val, by omega⟩)) := by
  unfold V
  after_reads_at

/-- The array of taps that the call takes, read through the argument. -/
theorem entry3 (c : Dev nD) (h : Fin 3) (k : Fin 3) (l : Fin 256) :
    @Eq EReal ((V m c (Pipeline.arrRef spec0 3) : S3x8x256.Idx → EReal) (ix3 h ⟨k.val, by omega⟩ l))
      (argW m c (ix2 k ⟨h.val * 256 + l.val, by omega⟩)) := by
  unfold V
  after_reads_at

/-- The block of window 0 at each grid point. -/
theorem idx0 : ∀ t : Fin cfg0.N, win0_0.index t = ![t.val / 2, 0, t.val % 2] := by decide +kernel
/-- The block of window 1 at each grid point. -/
theorem idx1 : ∀ t : Fin cfg0.N, win0_1.index t = ![3 + t.val / 2, 0, t.val % 2] := by decide +kernel
/-- The block of window 2 at each grid point. -/
theorem idx2 : ∀ t : Fin cfg0.N, win0_2.index t = ![6 + t.val / 2, 0, t.val % 2] := by decide +kernel
/-- The block of window 3 at each grid point. -/
theorem idx3 : ∀ t : Fin cfg0.N, win0_3.index t = ![t.val / 2, 0, t.val % 2] := by decide +kernel
/-- The block of window 4 at each grid point. -/
theorem idx4 : ∀ t : Fin cfg0.N, win0_4.index t = ![t.val / 2, 0, t.val % 2] := by decide +kernel
/-- The block of window 5 at each grid point. -/
theorem idx5 : ∀ t : Fin cfg0.N, win0_5.index t = ![t.val / 2, 0, t.val % 2] := by decide +kernel
/-- The block of window 6 at each grid point. -/
theorem idx6 : ∀ t : Fin cfg0.N, win0_6.index t = ![t.val / 2, 0, t.val % 2] := by decide +kernel
/-- The block of window 7 at each grid point. -/
theorem idx7 : ∀ t : Fin cfg0.N, win0_7.index t = ![t.val / 2, 0, t.val % 2] := by decide +kernel
/-- The block of window 8 at each grid point. -/
theorem idx8 : ∀ t : Fin cfg0.N, win0_8.index t = ![t.val / 2, 0, t.val % 2] := by decide +kernel

/-- There are six grid points. -/
theorem point_lt (p : Fin cfg0.N) : p.val < 6 := p.isLt

/-- The outer gate's block at a grid point, read through the argument. -/
theorem blk0 (c : Dev nD) (p : Fin cfg0.N) (l : Fin 128) (q : Fin 768) (hq : q.val = p.val / 2 * 256 + p.val % 2 * 128 + l.val)
    (t : Fin 4096) :
    @Eq EReal ((iblk m c 0 p : S1x4096x128.Idx → EReal) (ix3 0 t l)) (argA m c (ix3 0 t ⟨q.val, by omega⟩)) := by
  have hp := point_lt p
  have e : (iblk m c 0 p : S1x4096x128.Idx → EReal) (ix3 0 t l)
      = (V m c main_v2 : S10x4096x256.Idx → EReal) (ix3 ⟨p.val / 2, by omega⟩ t ⟨p.val % 2 * 128 + l.val, by omega⟩) := by
    blk_point [iblk, idx0 p]
  refine e.trans ((entry0 m c _ _ _).trans (congrArg (argA m c) (congrArg (ix3 0 t) (Fin.ext ?_))))
  show (p.val / 2) * 256 + (p.val % 2 * 128 + l.val) = q.val
  omega

/-- The inner gate's block at a grid point, read through the argument. -/
theorem blk1 (c : Dev nD) (p : Fin cfg0.N) (l : Fin 128) (q : Fin 768) (hq : q.val = p.val / 2 * 256 + p.val % 2 * 128 + l.val)
    (t : Fin 4096) :
    @Eq EReal ((iblk m c 1 p : S1x4096x128.Idx → EReal) (ix3 0 t l)) (argA m c (ix3 0 t ⟨768 + q.val, by omega⟩)) := by
  have hp := point_lt p
  have e : (iblk m c 1 p : S1x4096x128.Idx → EReal) (ix3 0 t l)
      = (V m c main_v2 : S10x4096x256.Idx → EReal) (ix3 ⟨3 + p.val / 2, by omega⟩ t ⟨p.val % 2 * 128 + l.val, by omega⟩) := by
    blk_point [iblk, idx1 p]
  refine e.trans ((entry0 m c _ _ _).trans (congrArg (argA m c) (congrArg (ix3 0 t) (Fin.ext ?_))))
  show (3 + p.val / 2) * 256 + (p.val % 2 * 128 + l.val) = 768 + q.val
  omega

/-- The input's block at a grid point, read through the argument. -/
theorem blk2 (c : Dev nD) (p : Fin cfg0.N) (l : Fin 128) (q : Fin 768) (hq : q.val = p.val / 2 * 256 + p.val % 2 * 128 + l.val)
    (t : Fin 4096) :
    @Eq EReal ((iblk m c 2 p : S1x4096x128.Idx → EReal) (ix3 0 t l)) (argA m c (ix3 0 t ⟨1536 + q.val, by omega⟩)) := by
  have hp := point_lt p
  have e : (iblk m c 2 p : S1x4096x128.Idx → EReal) (ix3 0 t l)
      = (V m c main_v2 : S10x4096x256.Idx → EReal) (ix3 ⟨6 + p.val / 2, by omega⟩ t ⟨p.val % 2 * 128 + l.val, by omega⟩) := by
    blk_point [iblk, idx2 p]
  refine e.trans ((entry0 m c _ _ _).trans (congrArg (argA m c) (congrArg (ix3 0 t) (Fin.ext ?_))))
  show (6 + p.val / 2) * 256 + (p.val % 2 * 128 + l.val) = 1536 + q.val
  omega

/-- The cotangent's block at a grid point, read through the argument. -/
theorem blk4 (c : Dev nD) (p : Fin cfg0.N) (l : Fin 128) (q : Fin 768) (hq : q.val = p.val / 2 * 256 + p.val % 2 * 128 + l.val)
    (t : Fin 4096) :
    @Eq EReal ((iblk m c 4 p : S1x4096x128.Idx → EReal) (ix3 0 t l)) (argD m c (ix3 0 t ⟨q.val, by omega⟩)) := by
  have hp := point_lt p
  have e : (iblk m c 4 p : S1x4096x128.Idx → EReal) (ix3 0 t l)
      = (V m c (Pipeline.arrRef spec0 4) : S4x4096x256.Idx → EReal) (ix3 ⟨p.val / 2, by omega⟩ t ⟨p.val % 2 * 128 + l.val, by omega⟩) := by
    blk_point [iblk, idx4 p]
  refine e.trans ((entry4 m c _ _ _).trans (congrArg (argD m c) (congrArg (ix3 0 t) (Fin.ext ?_))))
  show (p.val / 2) * 256 + (p.val % 2 * 128 + l.val) = q.val
  omega

/-- The taps' block at a grid point, read through the argument. -/
theorem blk3 (c : Dev nD) (p : Fin cfg0.N) (l : Fin 128) (q : Fin 768) (hq : q.val = p.val / 2 * 256 + p.val % 2 * 128 + l.val)
    (k : Fin 3) :
    @Eq EReal ((iblk m c 3 p : S1x8x128.Idx → EReal) (ix3 0 ⟨k.val, by omega⟩ l)) (argW m c (ix2 k q)) := by
  have hp := point_lt p
  have e : (iblk m c 3 p : S1x8x128.Idx → EReal) (ix3 0 ⟨k.val, by omega⟩ l)
      = (V m c (Pipeline.arrRef spec0 3) : S3x8x256.Idx → EReal) (ix3 ⟨p.val / 2, by omega⟩ ⟨k.val, by omega⟩ ⟨p.val % 2 * 128 + l.val, by omega⟩) := by
    blk_point [iblk, idx3 p]
  refine e.trans ((entry3 m c _ _ _).trans (congrArg (argW m c) (congrArg (ix2 k) (Fin.ext ?_))))
  show p.val / 2 * 256 + (p.val % 2 * 128 + l.val) = q.val
  omega

/-! ### The result arrays after the run -/

/-- The kernel's first result at the end of the grid. -/
theorem arr5 (c : Dev nD) : (dats m 0 c).arrAt 5 cfg0.N = unpack (db (argA m c) (argW m c) (argD m c)) := by
  refine (dats m 0 c).arrAt_eq_of_covers 5 _ (by decide +kernel) fun t hf y => ?_
  blk_simp
  rw [after0_5]
  idx_vars y
  have ht := point_lt t
  have e : ((View.whole main_v10_0).slice (win0_5.rect t)).emb (ix3 y0 y1 y2)
      = ix3 ⟨t.val / 2, by omega⟩ y1 ⟨t.val % 2 * 128 + y2.val, by omega⟩ := by
    blk_ext [idx5 t]
  rw [e]
  have hq : (⟨t.val / 2 * 256 + (t.val % 2 * 128 + y2.val), by omega⟩ : Fin 768).val = t.val / 2 * 256 + t.val % 2 * 128 + y2.val := by
    show t.val / 2 * 256 + (t.val % 2 * 128 + y2.val) = _
    omega
  exact out5 (blk1 m c t y2 _ hq) (blk2 m c t y2 _ hq) (blk3 m c t y2 _ hq 0) (blk3 m c t y2 _ hq 1) (blk3 m c t y2 _ hq 2) (blk4 m c t y2 _ hq) y0 y1

/-- The kernel's second result at the end of the grid. -/
theorem arr6 (c : Dev nD) : (dats m 0 c).arrAt 6 cfg0.N = unpack (dc (argA m c) (argW m c) (argD m c)) := by
  refine (dats m 0 c).arrAt_eq_of_covers 6 _ (by decide +kernel) fun t hf y => ?_
  blk_simp
  rw [after0_6]
  idx_vars y
  have ht := point_lt t
  have e : ((View.whole main_v10_1).slice (win0_6.rect t)).emb (ix3 y0 y1 y2)
      = ix3 ⟨t.val / 2, by omega⟩ y1 ⟨t.val % 2 * 128 + y2.val, by omega⟩ := by
    blk_ext [idx6 t]
  rw [e]
  have hq : (⟨t.val / 2 * 256 + (t.val % 2 * 128 + y2.val), by omega⟩ : Fin 768).val = t.val / 2 * 256 + t.val % 2 * 128 + y2.val := by
    show t.val / 2 * 256 + (t.val % 2 * 128 + y2.val) = _
    omega
  exact out6 (blk0 m c t y2 _ hq) (blk2 m c t y2 _ hq) (blk3 m c t y2 _ hq 0) (blk3 m c t y2 _ hq 1) (blk3 m c t y2 _ hq 2) (blk4 m c t y2 _ hq) y0 y1

/-- The kernel's third result at the end of the grid. -/
theorem arr7 (c : Dev nD) : (dats m 0 c).arrAt 7 cfg0.N = unpack (dx (argA m c) (argW m c) (argD m c)) := by
  refine (dats m 0 c).arrAt_eq_of_covers 7 _ (by decide +kernel) fun t hf y => ?_
  blk_simp
  rw [after0_7]
  idx_vars y
  have ht := point_lt t
  have e : ((View.whole main_v10_2).slice (win0_7.rect t)).emb (ix3 y0 y1 y2)
      = ix3 ⟨t.val / 2, by omega⟩ y1 ⟨t.val % 2 * 128 + y2.val, by omega⟩ := by
    blk_ext [idx7 t]
  rw [e]
  have hq : (⟨t.val / 2 * 256 + (t.val % 2 * 128 + y2.val), by omega⟩ : Fin 768).val = t.val / 2 * 256 + t.val % 2 * 128 + y2.val := by
    show t.val / 2 * 256 + (t.val % 2 * 128 + y2.val) = _
    omega
  exact out7 (blk0 m c t y2 _ hq) (blk1 m c t y2 _ hq) (blk3 m c t y2 _ hq 0) (blk3 m c t y2 _ hq 1) (blk3 m c t y2 _ hq 2) (blk4 m c t y2 _ hq) y0 y1

/-- The kernel's fourth result at the end of the grid. -/
theorem arr8 (c : Dev nD) : (dats m 0 c).arrAt 8 cfg0.N = unpackTaps (dw (argA m c) (argD m c)) := by
  refine (dats m 0 c).arrAt_eq_of_covers 8 _ (by decide +kernel) fun t hf y => ?_
  blk_simp
  rw [after0_8]
  idx_vars y
  have ht := point_lt t
  have e : ((View.whole main_v10_3).slice (win0_8.rect t)).emb (ix3 y0 y1 y2)
      = ix3 ⟨t.val / 2, by omega⟩ y1 ⟨t.val % 2 * 128 + y2.val, by omega⟩ := by
    blk_ext [idx8 t]
  rw [e]
  have hq : (⟨t.val / 2 * 256 + (t.val % 2 * 128 + y2.val), by omega⟩ : Fin 768).val = t.val / 2 * 256 + t.val % 2 * 128 + y2.val := by
    show t.val / 2 * 256 + (t.val % 2 * 128 + y2.val) = _
    omega
  exact out8 (blk0 m c t y2 _ hq) (blk1 m c t y2 _ hq) (blk2 m c t y2 _ hq) (blk4 m c t y2 _ hq) y0 y1

end Cert.ConvKernelIdeal.Value

end
-- ==== Proof.ConvClaim.lean ====
/- The value claim of the gated convolution's backward pass: the kernel's run and the reference's run, side by side. -/
module

public import proofs.«01_k».proof.Defs
public import proofs.«01_k».proof.Proof.ConvKer
public import Idealize.ShloMosaic.Lib.Claim

@[expose] public section

set_option maxRecDepth 16384

noncomputable section

open Idealize.ShloMosaic Idealize.ShloMosaic.TcCoe Idealize.SL.Sem

namespace Cert.Conv

/-- The kernel's four arrays are the reference's four results, for every input. -/
theorem algebraic : Cert.algebraic_ConvKernelIdeal_ConvReferenceIdeal (hConvKernelIdeal := Cert.ConvKernelIdeal.Gen.facts)
    (hConvReferenceIdeal := Cert.ConvReferenceIdeal.Gen.facts) := by
  intro m g m' g' _ hag
  refine ⟨fun c => unpack (db (ConvKernelIdeal.Value.argA m c) (ConvKernelIdeal.Value.argW m c) (ConvKernelIdeal.Value.argD m c)),
    fun c => unpack (dc (ConvKernelIdeal.Value.argA m c) (ConvKernelIdeal.Value.argW m c) (ConvKernelIdeal.Value.argD m c)),
    fun c => unpack (dx (ConvKernelIdeal.Value.argA m c) (ConvKernelIdeal.Value.argW m c) (ConvKernelIdeal.Value.argD m c)),
    fun c => unpackTaps (dw (ConvKernelIdeal.Value.argA m c) (ConvKernelIdeal.Value.argD m c)), ?_, ?_⟩
  · refine (θ_run _ _ _).mono (fun r h c => ?_) (ConvKernelIdeal.Value.run_blocks m g)
    obtain ⟨h0, h1, h2, h3, ha⟩ := h c
    exact ⟨h0.trans (ConvKernelIdeal.Value.arr5 m c), h1.trans (ConvKernelIdeal.Value.arr6 m c),
      h2.trans (ConvKernelIdeal.Value.arr7 m c), h3.trans (ConvKernelIdeal.Value.arr8 m c), ha⟩
  · refine (θ_run _ _ _).mono (fun r h c => ?_) (ConvReferenceIdeal.Value.run m' g')
    obtain ⟨h0, h1, h2, h3, ha⟩ := h c
    obtain ⟨e0, e1, e2⟩ := hag c
    have eA : ConvReferenceIdeal.Value.argA m' c = ConvKernelIdeal.Value.argA m c := e0
    have eW : ConvReferenceIdeal.Value.argW m' c = ConvKernelIdeal.Value.argW m c := e1
    have eD : ConvReferenceIdeal.Value.argD m' c = ConvKernelIdeal.Value.argD m c := e2
    refine ⟨h0.trans ((ConvReferenceIdeal.Value.whole0 m' c).trans ?_), h1.trans ((ConvReferenceIdeal.Value.whole1 m' c).trans ?_),
      h2.trans ((ConvReferenceIdeal.Value.whole2 m' c).trans ?_), h3.trans ((ConvReferenceIdeal.Value.whole3 m' c).trans ?_), ha⟩
    all_goals simp only [eA, eW, eD]

end Cert.Conv

end
-- ==== Proof.WeightGrad.lean ====
/- The gradient of a weight matrix as a closed form: the sum over all tokens of the left operand's entry times the right
   operand's, laid out as one array per chip. -/
module

public import Idealize.ShloMosaic.Lib.Pointwise

@[expose] public section

noncomputable section

open Idealize.ShloMosaic

namespace Cert.WeightGrad

/-- One row of the hidden width per token. -/
abbrev SHid : Shape := ⟨3, ![1, 4096, 2816]⟩
/-- One row of the model width per token. -/
abbrev SMod : Shape := ⟨3, ![1, 4096, 1024]⟩
/-- The gradient, per chip, hidden channel of the chip and model channel. -/
abbrev SGrad : Shape := ⟨3, ![4, 704, 1024]⟩

/-- The gradient at hidden channel `j`, model channel `k`: the sum over the tokens. -/
def entry (A : SHid.Idx → EReal) (B : SMod.Idx → EReal) (j : Fin 2816) (k : Fin 1024) : EReal :=
  ∑ s : Fin 4096, A (ix3 0 s j) * B (ix3 0 s k)

/-- The whole gradient, cut into one array per chip. -/
def whole (A : SHid.Idx → EReal) (B : SMod.Idx → EReal) : SGrad.Idx → EReal :=
  fun i => entry A B ⟨704 * (i 0).val + (i 1).val, by
    have h0 : (i 0).val < 4 := (i 0).isLt
    have h1 : (i 1).val < 704 := (i 1).isLt
    omega⟩ (i 2)

/-- A sum over all tokens is the sum over the first half plus the sum over the second half. -/
theorem halves (f : Fin 4096 → EReal) :
    ∑ s : Fin 4096, f s = (∑ s : Fin 2048, f ⟨s.val, by omega⟩) + ∑ s : Fin 2048, f ⟨2048 + s.val, by omega⟩ :=
  Fin.sum_univ_add (a := 2048) (b := 2048) f

/-- What one grid point adds for the group `g` of its block: the sum over the tokens of its blocks. -/
def part (X : (⟨3, ![2, 2048, 704]⟩ : Shape).Idx → EReal) (Y : (⟨2, ![2048, 1024]⟩ : Shape).Idx → EReal) (g : Fin 2)
    (n : Fin 704) (k : Fin 1024) : EReal :=
  ∑ s : Fin 2048, X (ix3 g s n) * Y (ix2 s k)

end Cert.WeightGrad

end
-- ==== Proof.GateKer.lean ====
/- The kernel's side of the gate weight's gradient: what the body leaves after each of the two token blocks of a group of
   chips, and from that the array after the run. -/
module

public import proofs.«01_k».proof.Proof.Gen.GateKernelIdeal.Value
public import proofs.«01_k».proof.Proof.WeightGrad
public import Idealize.ShloMosaic.Lib.Pipeline.ValueKit
public import Idealize.ShloMosaic.Lib.Pipeline.ReadBack
public import Idealize.ShloMosaic.Lib.Pointwise
public import Idealize.ShloMosaic.Lib.Tactic.CleanTypes
public import Idealize.ShloMosaic.Lib.StableHlo.ReadAt

@[expose] public section

set_option maxRecDepth 16384

noncomputable section

open Idealize.ShloMosaic Idealize.ShloMosaic.TcCoe Idealize.SL.Sem

namespace Cert.GateKernelIdeal.Value
open Cert.GateKernelIdeal Cert.GateKernelIdeal.Gen Cert.WeightGrad

variable (m : (ℓ : Loc nD τ sig) → Buf (Elt Ideal) ℓ) (c : Dev nD)

/-- The operand that carries the hidden channels. -/
abbrev argA : SHid.Idx → EReal := m ((c : Thread nD τ).loc main_arg2)
/-- The operand that carries the model channels. -/
abbrev argB : SMod.Idx → EReal := m ((c : Thread nD τ).loc main_arg0)

/-- After the first token block the accumulator holds the sum over that block. -/
theorem first (t : Fin cfg0.N) (h0 : t.val % 2 = 0) (h1 : ¬ t.val % 2 = 1) (g : Fin 2) (n : Fin 704) (k : Fin 1024) :
    @Eq EReal ((outsAt0 m c t.val t.isLt).2 (ix3 g n k)) (part (iblk m c 0 t) (iblk m c 1 t) g n k) := by
  rw [outsAt0_A m c t h0 h1]
  generalize iblk m c 0 t = X
  generalize iblk m c 1 t = Y
  unfold part
  frame_out
  simp (disch := decide) only [↓ View.readCov_skip, ↓ View.readCov_cons_toLoadRect, ↓ View.readCov_fill]
  refine View.canon_append_of_piecesOf (Val := Elt Ideal) (e := .f32) (fun i : S2x704x1024.Idx => (part X Y (i 0) (i 1) (i 2) : EReal)) [_] [_, _] ⟨?_, ?_, trivial⟩ (ix3 g n k) ?_
  · intro x
    pointwise [k0_pay4, k0_pay2]
    blk_point []
  · intro x
    pointwise [k0_pay3, k0_pay2]
    blk_point []
  · have hn := n.isLt
    have hk := k.isLt
    by_cases hg : g.val = 0
    · refine ⟨_, List.mem_cons_of_mem _ List.mem_cons_self, ?_⟩
      mem_blk []
      intro a
      match a with
      | 0 => exact ⟨Nat.zero_le _, by show g.val < 0 + 1; omega⟩
      | 1 => exact ⟨Nat.zero_le _, by show n.val < 0 + 704; omega⟩
      | 2 => exact ⟨Nat.zero_le _, by show k.val < 0 + 1024; omega⟩
    · refine ⟨_, List.mem_cons_self, ?_⟩
      mem_blk []
      intro a
      match a with
      | 0 => exact ⟨by show 1 ≤ g.val; omega, by show g.val < 1 + 1; omega⟩
      | 1 => exact ⟨Nat.zero_le _, by show n.val < 0 + 704; omega⟩
      | 2 => exact ⟨Nat.zero_le _, by show k.val < 0 + 1024; omega⟩

/-- At the second token block the body writes the accumulator plus the sum over that block. -/
theorem second (t : Fin cfg0.N) (h0 : ¬ t.val % 2 = 0) (h1 : t.val % 2 = 1) (g : Fin 2) (n : Fin 704) (k : Fin 1024) :
    @Eq EReal ((outsAt0 m c t.val t.isLt).1 (ix3 g n k))
      ((outsAt0 m c (t.val - 1) (Nat.lt_of_le_of_lt (Nat.sub_le _ _) t.isLt)).2 (ix3 g n k) + part (iblk m c 0 t) (iblk m c 1 t) g n k) := by
  rw [outsAt0_B m c t h0 h1]
  generalize (outsAt0 m c (t.val - 1) (Nat.lt_of_le_of_lt (Nat.sub_le _ _) t.isLt)).2 = Z
  generalize iblk m c 0 t = X
  generalize iblk m c 1 t = Y
  unfold part
  frame_out
  simp only [read_unread_whole, View.readCov_eq_canon']
  pointwise [k0_pay1]
  canon_tiles x h
  · obtain rfl : g = 1 := Fin.ext (by change g.val = 1 + _ at h0; show g.val = 1; omega)
    obtain rfl : n = x 1 := Fin.ext h1
    obtain rfl : k = x 2 := Fin.ext h2
    pointwise [k0_pay4]
  · obtain rfl : g = 0 := Fin.ext (by change g.val = _ at h0; show g.val = 0; omega)
    obtain rfl : n = x 1 := Fin.ext h1
    obtain rfl : k = x 2 := Fin.ext h2
    pointwise [k0_pay3]

/-- The array of the hidden operand that the call takes, read through the argument. -/
theorem entry0 (g : Fin 4) (s : Fin 4096) (n : Fin 704) :
    @Eq EReal ((V m c (Pipeline.arrRef spec0 0) : S4x4096x704.Idx → EReal) (ix3 g s n)) (argA m c (ix3 0 s ⟨g.val * 704 + n.val, by omega⟩)) := by
  unfold V
  after_reads_at

/-- The array of the model operand that the call takes, read through the argument. -/
theorem entry1 (s : Fin 4096) (k : Fin 1024) :
    @Eq EReal ((V m c (Pipeline.arrRef spec0 1) : S4096x1024.Idx → EReal) (ix2 s k)) (argB m c (ix3 0 s k)) := by
  unfold V
  after_reads_at

/-- The block of the hidden operand at each grid point. -/
theorem idx0 : ∀ t : Fin cfg0.N, win0_0.index t = ![t.val / 2, t.val % 2, 0] := by decide +kernel
/-- The block of the model operand at each grid point. -/
theorem idx1 : ∀ t : Fin cfg0.N, win0_1.index t = ![t.val % 2, 0] := by decide +kernel
/-- The block of the result at each grid point. -/
theorem idx2 : ∀ t : Fin cfg0.N, win0_2.index t = ![t.val / 2, 0, 0] := by decide +kernel

/-- There are four grid points. -/
theorem point_lt (p : Fin cfg0.N) : p.val < 4 := p.isLt

/-- The hidden operand's block at a grid point, read through the argument. -/
theorem blk0 (p : Fin cfg0.N) (g : Fin 2) (s : Fin 2048) (n : Fin 704) (q : Fin 4096) (hq : q.val = 2048 * (p.val % 2) + s.val)
    (j : Fin 2816) (hj : j.val = (p.val / 2 * 2 + g.val) * 704 + n.val) :
    @Eq EReal ((iblk m c 0 p : S2x2048x704.Idx → EReal) (ix3 g s n)) (argA m c (ix3 0 q j)) := by
  have hp := point_lt p
  have e : (iblk m c 0 p : S2x2048x704.Idx → EReal) (ix3 g s n)
      = (V m c (Pipeline.arrRef spec0 0) : S4x4096x704.Idx → EReal) (ix3 ⟨p.val / 2 * 2 + g.val, by omega⟩ ⟨p.val % 2 * 2048 + s.val, by omega⟩ n) := by
    blk_point [iblk, idx0 p]
  have eq : q = ⟨p.val % 2 * 2048 + s.val, by omega⟩ := Fin.ext (by show q.val = p.val % 2 * 2048 + s.val; omega)
  have ej : j = ⟨(p.val / 2 * 2 + g.val) * 704 + n.val, by omega⟩ := Fin.ext hj
  rw [eq, ej]
  exact e.trans (entry0 m c _ _ _)

/-- The model operand's block at a grid point, read through the argument. -/
theorem blk1 (p : Fin cfg0.N) (s : Fin 2048) (k : Fin 1024) (q : Fin 4096) (hq : q.val = 2048 * (p.val % 2) + s.val) :
    @Eq EReal ((iblk m c 1 p : S2048x1024.Idx → EReal) (ix2 s k)) (argB m c (ix3 0 q k)) := by
  have hp := point_lt p
  have e : (iblk m c 1 p : S2048x1024.Idx → EReal) (ix2 s k)
      = (V m c (Pipeline.arrRef spec0 1) : S4096x1024.Idx → EReal) (ix2 ⟨p.val % 2 * 2048 + s.val, by omega⟩ k) := by
    blk_point [iblk, idx1 p]
  have eq : q = ⟨p.val % 2 * 2048 + s.val, by omega⟩ := Fin.ext (by show q.val = p.val % 2 * 2048 + s.val; omega)
  rw [eq]
  exact e.trans (entry1 m c _ _)

/-- The kernel's result at the end of the grid: the gradient's closed form. -/
theorem arr2 : (dats m 0 c).arrAt 2 cfg0.N = whole (argA m c) (argB m c) := by
  refine (dats m 0 c).arrAt_eq_of_covers 2 _ (by decide +kernel) fun t hf y => ?_
  have hodd : t.val % 2 = 1 := (flush0_2 t).mp hf
  have heven : ¬ t.val % 2 = 0 := by omega
  blk_simp
  rw [after0_2]
  idx_vars y
  have ht := point_lt t
  have e : ((View.whole main_v6).slice (win0_2.rect t)).emb (ix3 y0 y1 y2) = ix3 ⟨t.val / 2 * 2 + y0.val, by omega⟩ y1 y2 := by
    blk_ext [idx2 t]
  rw [e]
  have hp : (t.val - 1) % 2 = 0 := by omega
  have hp' : ¬ (t.val - 1) % 2 = 1 := by omega
  have hd : (t.val - 1) / 2 = t.val / 2 := by omega
  have hl : t.val - 1 < cfg0.N := Nat.lt_of_le_of_lt (Nat.sub_le _ _) t.isLt
  refine (second m c t heven hodd y0 y1 y2).trans ?_
  refine (congrArg (fun z : EReal => z + part (iblk m c 0 t) (iblk m c 1 t) y0 y1 y2) (first m c ⟨t.val - 1, hl⟩ hp hp' y0 y1 y2)).trans ?_
  refine Eq.trans ?_ (halves fun s => argA m c (ix3 0 s ⟨704 * (t.val / 2 * 2 + y0.val) + y1.val, by have := y0.isLt; have := y1.isLt; omega⟩) * argB m c (ix3 0 s y2)).symm
  refine congrArg₂ (fun a b : EReal => a + b) (Finset.sum_congr rfl fun s _ => ?_) (Finset.sum_congr rfl fun s _ => ?_)
  · exact congrArg₂ (fun a b : EReal => a * b)
      (blk0 m c ⟨t.val - 1, hl⟩ y0 s y1 _ (by show s.val = 2048 * ((t.val - 1) % 2) + s.val; omega) _
        (by show 704 * (t.val / 2 * 2 + y0.val) + y1.val = ((t.val - 1) / 2 * 2 + y0.val) * 704 + y1.val; omega))
      (blk1 m c ⟨t.val - 1, hl⟩ s y2 _ (by show s.val = 2048 * ((t.val - 1) % 2) + s.val; omega))
  · exact congrArg₂ (fun a b : EReal => a * b)
      (blk0 m c t y0 s y1 _ (by show 2048 + s.val = 2048 * (t.val % 2) + s.val; omega) _ (by show 704 * (t.val / 2 * 2 + y0.val) + y1.val = (t.val / 2 * 2 + y0.val) * 704 + y1.val; omega))
      (blk1 m c t s y2 _ (by show 2048 + s.val = 2048 * (t.val % 2) + s.val; omega))

end Cert.GateKernelIdeal.Value

end
-- ==== Proof.GateRef.lean ====
/- The reference's side of the gate weight's gradient: the reference program's result, read at an index, is the sum over
   all tokens. -/
module

public import proofs.«01_k».proof.Proof.Gen.GateReferenceIdeal.Run
public import proofs.«01_k».proof.Proof.WeightGrad
public import Idealize.ShloMosaic.Lib.Pointwise
public import Idealize.ShloMosaic.Lib.KernelVsHost
public import Idealize.ShloMosaic.Lib.Tactic.CleanTypes

@[expose] public section

set_option maxRecDepth 16384

noncomputable section

open Idealize.ShloMosaic Idealize.ShloMosaic.TcCoe Idealize.SL.Sem

namespace Cert.GateReferenceIdeal.Value
open Cert.GateReferenceIdeal Cert.GateReferenceIdeal.Facts Cert.GateReferenceIdeal.Gen Cert.WeightGrad

variable (A : SHid.Idx → EReal) (B : SMod.Idx → EReal)

/-- The reference's result is the gradient's closed form. -/
theorem result : (truncf (F := Ideal) .bf16 (shapeCast _ (transpose S2816x1024 [1, 0] (transpose S1024x2816 [1, 0]
      (Host.dotGeneral (φ₁ := .f32) (φ₂ := .f32) dot_S1x4096x2816_S1x4096x1024_S2816x1024_01_01_2_2_n_n none (A : (⟨S1x4096x2816, .f32⟩ : BufTy).Contents (Elt Ideal)) (B : (⟨S1x4096x1024, .f32⟩ : BufTy).Contents (Elt Ideal)))
      transposes_S2816x1024_S1024x2816_1_0) transposes_S1024x2816_S2816x1024_1_0) shapeCasts_S2816x1024_S4x704x1024) bitsLt_bf16_f32 : SGrad.Idx → EReal)
    = whole A B := by
  funext y
  idx_vars y
  clean_types
  pointwise
  rw [Fin.sum_univ_one]
  show (_ : EReal) = _
  unfold whole entry
  refine Finset.sum_congr rfl fun s _ => ?_
  refine congrArg (fun j : Fin 2816 => A (ix3 0 s j) * B (ix3 0 s y2)) (Fin.ext ?_)
  show y0.val * 704 + y1.val = 704 * y0.val + y1.val
  omega

end Cert.GateReferenceIdeal.Value

end
-- ==== Proof.GateClaim.lean ====
/- The value claim of the gate weight's gradient: the kernel's run and the reference's run, side by side. -/
module

public import proofs.«01_k».proof.Defs
public import proofs.«01_k».proof.Proof.GateKer
public import proofs.«01_k».proof.Proof.GateRef
public import Idealize.ShloMosaic.Lib.Claim

@[expose] public section

set_option maxRecDepth 16384

noncomputable section

open Idealize.ShloMosaic Idealize.ShloMosaic.TcCoe Idealize.SL.Sem

namespace Cert.GateGrad
open Cert.WeightGrad

/-- The kernel's array is the reference's result, for every input. -/
theorem algebraic : Cert.algebraic_GateKernelIdeal_GateReferenceIdeal (hGateKernelIdeal := Cert.GateKernelIdeal.Gen.facts)
    (hGateReferenceIdeal := Cert.GateReferenceIdeal.Gen.facts) := by
  intro m g m' g' _ hag
  refine ⟨fun c => whole (GateKernelIdeal.Value.argA m c) (GateKernelIdeal.Value.argB m c), ?_, ?_⟩
  · refine (θ_run _ _ _).mono (fun r h c => ?_) (GateKernelIdeal.Value.run_blocks m g)
    obtain ⟨h0, ha⟩ := h c
    exact ⟨h0.trans (GateKernelIdeal.Value.arr2 m c), ha⟩
  · refine (θ_run _ _ _).mono (fun r h c => ?_) (GateReferenceIdeal.Value.run m' g')
    obtain ⟨h0, ha⟩ := h c
    obtain ⟨e0, e1, e2⟩ := hag c
    refine ⟨h0.trans ((GateReferenceIdeal.Value.result _ _).trans ?_), ha⟩
    exact congrArg₂ whole e2 e0

end Cert.GateGrad

end
-- ==== Proof.DownKer.lean ====
/- The kernel's side of the down weight's gradient: what the body leaves after each of the two token blocks of a group of
   chips, and from that the array after the run. -/
module

public import proofs.«01_k».proof.Proof.Gen.DownKernelIdeal.Value
public import proofs.«01_k».proof.Proof.WeightGrad
public import Idealize.ShloMosaic.Lib.Pipeline.ValueKit
public import Idealize.ShloMosaic.Lib.Pipeline.ReadBack
public import Idealize.ShloMosaic.Lib.Pointwise
public import Idealize.ShloMosaic.Lib.Tactic.CleanTypes
public import Idealize.ShloMosaic.Lib.StableHlo.ReadAt

@[expose] public section

set_option maxRecDepth 16384

noncomputable section

open Idealize.ShloMosaic Idealize.ShloMosaic.TcCoe Idealize.SL.Sem

namespace Cert.DownKernelIdeal.Value
open Cert.DownKernelIdeal Cert.DownKernelIdeal.Gen Cert.WeightGrad

variable (m : (ℓ : Loc nD τ sig) → Buf (Elt Ideal) ℓ) (c : Dev nD)

/-- The operand that carries the hidden channels. -/
abbrev argA : SHid.Idx → EReal := m ((c : Thread nD τ).loc main_arg0)
/-- The operand that carries the model channels. -/
abbrev argB : SMod.Idx → EReal := m ((c : Thread nD τ).loc main_arg2)

/-- After the first token block the accumulator holds the sum over that block. -/
theorem first (t : Fin cfg0.N) (h0 : t.val % 2 = 0) (h1 : ¬ t.val % 2 = 1) (g : Fin 2) (n : Fin 704) (k : Fin 1024) :
    @Eq EReal ((outsAt0 m c t.val t.isLt).2 (ix3 g n k)) (part (iblk m c 0 t) (iblk m c 1 t) g n k) := by
  rw [outsAt0_A m c t h0 h1]
  generalize iblk m c 0 t = X
  generalize iblk m c 1 t = Y
  unfold part
  frame_out
  simp (disch := decide) only [↓ View.readCov_skip, ↓ View.readCov_cons_toLoadRect, ↓ View.readCov_fill]
  refine View.canon_append_of_piecesOf (Val := Elt Ideal) (e := .f32) (fun i : S2x704x1024.Idx => (part X Y (i 0) (i 1) (i 2) : EReal)) [_] [_, _] ⟨?_, ?_, trivial⟩ (ix3 g n k) ?_
  · intro x
    pointwise [k0_pay4, k0_pay2]
    blk_point []
  · intro x
    pointwise [k0_pay3, k0_pay2]
    blk_point []
  · have hn := n.isLt
    have hk := k.isLt
    by_cases hg : g.val = 0
    · refine ⟨_, List.mem_cons_of_mem _ List.mem_cons_self, ?_⟩
      mem_blk []
      intro a
      match a with
      | 0 => exact ⟨Nat.zero_le _, by show g.val < 0 + 1; omega⟩
      | 1 => exact ⟨Nat.zero_le _, by show n.val < 0 + 704; omega⟩
      | 2 => exact ⟨Nat.zero_le _, by show k.val < 0 + 1024; omega⟩
    · refine ⟨_, List.mem_cons_self, ?_⟩
      mem_blk []
      intro a
      match a with
      | 0 => exact ⟨by show 1 ≤ g.val; omega, by show g.val < 1 + 1; omega⟩
      | 1 => exact ⟨Nat.zero_le _, by show n.val < 0 + 704; omega⟩
      | 2 => exact ⟨Nat.zero_le _, by show k.val < 0 + 1024; omega⟩

/-- At the second token block the body writes the accumulator plus the sum over that block. -/
theorem second (t : Fin cfg0.N) (h0 : ¬ t.val % 2 = 0) (h1 : t.val % 2 = 1) (g : Fin 2) (n : Fin 704) (k : Fin 1024) :
    @Eq EReal ((outsAt0 m c t.val t.isLt).1 (ix3 g n k))
      ((outsAt0 m c (t.val - 1) (Nat.lt_of_le_of_lt (Nat.sub_le _ _) t.isLt)).2 (ix3 g n k) + part (iblk m c 0 t) (iblk m c 1 t) g n k) := by
  rw [outsAt0_B m c t h0 h1]
  generalize (outsAt0 m c (t.val - 1) (Nat.lt_of_le_of_lt (Nat.sub_le _ _) t.isLt)).2 = Z
  generalize iblk m c 0 t = X
  generalize iblk m c 1 t = Y
  unfold part
  frame_out
  simp only [read_unread_whole, View.readCov_eq_canon']
  pointwise [k0_pay1]
  canon_tiles x h
  · obtain rfl : g = 1 := Fin.ext (by change g.val = 1 + _ at h0; show g.val = 1; omega)
    obtain rfl : n = x 1 := Fin.ext h1
    obtain rfl : k = x 2 := Fin.ext h2
    pointwise [k0_pay4]
  · obtain rfl : g = 0 := Fin.ext (by change g.val = _ at h0; show g.val = 0; omega)
    obtain rfl : n = x 1 := Fin.ext h1
    obtain rfl : k = x 2 := Fin.ext h2
    pointwise [k0_pay3]

/-- The array of the hidden operand that the call takes, read through the argument. -/
theorem entry0 (g : Fin 4) (s : Fin 4096) (n : Fin 704) :
    @Eq EReal ((V m c (Pipeline.arrRef spec0 0) : S4x4096x704.Idx → EReal) (ix3 g s n)) (argA m c (ix3 0 s ⟨g.val * 704 + n.val, by omega⟩)) := by
  unfold V
  after_reads_at

/-- The array of the model operand that the call takes, read through the argument. -/
theorem entry1 (s : Fin 4096) (k : Fin 1024) :
    @Eq EReal ((V m c (Pipeline.arrRef spec0 1) : S4096x1024.Idx → EReal) (ix2 s k)) (argB m c (ix3 0 s k)) := by
  unfold V
  after_reads_at

/-- The block of the hidden operand at each grid point. -/
theorem idx0 : ∀ t : Fin cfg0.N, win0_0.index t = ![t.val / 2, t.val % 2, 0] := by decide +kernel
/-- The block of the model operand at each grid point. -/
theorem idx1 : ∀ t : Fin cfg0.N, win0_1.index t = ![t.val % 2, 0] := by decide +kernel
/-- The block of the result at each grid point. -/
theorem idx2 : ∀ t : Fin cfg0.N, win0_2.index t = ![t.val / 2, 0, 0] := by decide +kernel

/-- There are four grid points. -/
theorem point_lt (p : Fin cfg0.N) : p.val < 4 := p.isLt

/-- The hidden operand's block at a grid point, read through the argument. -/
theorem blk0 (p : Fin cfg0.N) (g : Fin 2) (s : Fin 2048) (n : Fin 704) (q : Fin 4096) (hq : q.val = 2048 * (p.val % 2) + s.val)
    (j : Fin 2816) (hj : j.val = (p.val / 2 * 2 + g.val) * 704 + n.val) :
    @Eq EReal ((iblk m c 0 p : S2x2048x704.Idx → EReal) (ix3 g s n)) (argA m c (ix3 0 q j)) := by
  have hp := point_lt p
  have e : (iblk m c 0 p : S2x2048x704.Idx → EReal) (ix3 g s n)
      = (V m c (Pipeline.arrRef spec0 0) : S4x4096x704.Idx → EReal) (ix3 ⟨p.val / 2 * 2 + g.val, by omega⟩ ⟨p.val % 2 * 2048 + s.val, by omega⟩ n) := by
    blk_point [iblk, idx0 p]
  have eq : q = ⟨p.val % 2 * 2048 + s.val, by omega⟩ := Fin.ext (by show q.val = p.val % 2 * 2048 + s.val; omega)
  have ej : j = ⟨(p.val / 2 * 2 + g.val) * 704 + n.val, by omega⟩ := Fin.ext hj
  rw [eq, ej]
  exact e.trans (entry0 m c _ _ _)

/-- The model operand's block at a grid point, read through the argument. -/
theorem blk1 (p : Fin cfg0.N) (s : Fin 2048) (k : Fin 1024) (q : Fin 4096) (hq : q.val = 2048 * (p.val % 2) + s.val) :
    @Eq EReal ((iblk m c 1 p : S2048x1024.Idx → EReal) (ix2 s k)) (argB m c (ix3 0 q k)) := by
  have hp := point_lt p
  have e : (iblk m c 1 p : S2048x1024.Idx → EReal) (ix2 s k)
      = (V m c (Pipeline.arrRef spec0 1) : S4096x1024.Idx → EReal) (ix2 ⟨p.val % 2 * 2048 + s.val, by omega⟩ k) := by
    blk_point [iblk, idx1 p]
  have eq : q = ⟨p.val % 2 * 2048 + s.val, by omega⟩ := Fin.ext (by show q.val = p.val % 2 * 2048 + s.val; omega)
  rw [eq]
  exact e.trans (entry1 m c _ _)

/-- The kernel's result at the end of the grid: the gradient's closed form. -/
theorem arr2 : (dats m 0 c).arrAt 2 cfg0.N = whole (argA m c) (argB m c) := by
  refine (dats m 0 c).arrAt_eq_of_covers 2 _ (by decide +kernel) fun t hf y => ?_
  have hodd : t.val % 2 = 1 := (flush0_2 t).mp hf
  have heven : ¬ t.val % 2 = 0 := by omega
  blk_simp
  rw [after0_2]
  idx_vars y
  have ht := point_lt t
  have e : ((View.whole main_v6).slice (win0_2.rect t)).emb (ix3 y0 y1 y2) = ix3 ⟨t.val / 2 * 2 + y0.val, by omega⟩ y1 y2 := by
    blk_ext [idx2 t]
  rw [e]
  have hp : (t.val - 1) % 2 = 0 := by omega
  have hp' : ¬ (t.val - 1) % 2 = 1 := by omega
  have hd : (t.val - 1) / 2 = t.val / 2 := by omega
  have hl : t.val - 1 < cfg0.N := Nat.lt_of_le_of_lt (Nat.sub_le _ _) t.isLt
  refine (second m c t heven hodd y0 y1 y2).trans ?_
  refine (congrArg (fun z : EReal => z + part (iblk m c 0 t) (iblk m c 1 t) y0 y1 y2) (first m c ⟨t.val - 1, hl⟩ hp hp' y0 y1 y2)).trans ?_
  refine Eq.trans ?_ (halves fun s => argA m c (ix3 0 s ⟨704 * (t.val / 2 * 2 + y0.val) + y1.val, by have := y0.isLt; have := y1.isLt; omega⟩) * argB m c (ix3 0 s y2)).symm
  refine congrArg₂ (fun a b : EReal => a + b) (Finset.sum_congr rfl fun s _ => ?_) (Finset.sum_congr rfl fun s _ => ?_)
  · exact congrArg₂ (fun a b : EReal => a * b)
      (blk0 m c ⟨t.val - 1, hl⟩ y0 s y1 _ (by show s.val = 2048 * ((t.val - 1) % 2) + s.val; omega) _
        (by show 704 * (t.val / 2 * 2 + y0.val) + y1.val = ((t.val - 1) / 2 * 2 + y0.val) * 704 + y1.val; omega))
      (blk1 m c ⟨t.val - 1, hl⟩ s y2 _ (by show s.val = 2048 * ((t.val - 1) % 2) + s.val; omega))
  · exact congrArg₂ (fun a b : EReal => a * b)
      (blk0 m c t y0 s y1 _ (by show 2048 + s.val = 2048 * (t.val % 2) + s.val; omega) _ (by show 704 * (t.val / 2 * 2 + y0.val) + y1.val = (t.val / 2 * 2 + y0.val) * 704 + y1.val; omega))
      (blk1 m c t s y2 _ (by show 2048 + s.val = 2048 * (t.val % 2) + s.val; omega))

end Cert.DownKernelIdeal.Value

end
-- ==== Proof.DownRef.lean ====
/- The reference's side of the down weight's gradient: the reference program's result, read at an index, is the sum over
   all tokens. -/
module

public import proofs.«01_k».proof.Proof.Gen.DownReferenceIdeal.Run
public import proofs.«01_k».proof.Proof.WeightGrad
public import Idealize.ShloMosaic.Lib.Pointwise
public import Idealize.ShloMosaic.Lib.KernelVsHost
public import Idealize.ShloMosaic.Lib.Tactic.CleanTypes

@[expose] public section

set_option maxRecDepth 16384

noncomputable section

open Idealize.ShloMosaic Idealize.ShloMosaic.TcCoe Idealize.SL.Sem

namespace Cert.DownReferenceIdeal.Value
open Cert.DownReferenceIdeal Cert.DownReferenceIdeal.Facts Cert.DownReferenceIdeal.Gen Cert.WeightGrad

variable (A : SHid.Idx → EReal) (B : SMod.Idx → EReal)

/-- The reference's result is the gradient's closed form. -/
theorem result : (truncf (F := Ideal) .bf16 (shapeCast _ (transpose S2816x1024 [1, 0]
      (Host.dotGeneral (φ₁ := .f32) (φ₂ := .f32) dot_S1x4096x1024_S1x4096x2816_S1024x2816_01_01_2_2_n_n none (B : (⟨S1x4096x1024, .f32⟩ : BufTy).Contents (Elt Ideal)) (A : (⟨S1x4096x2816, .f32⟩ : BufTy).Contents (Elt Ideal)))
      transposes_S1024x2816_S2816x1024_1_0) shapeCasts_S2816x1024_S4x704x1024) bitsLt_bf16_f32 : SGrad.Idx → EReal)
    = whole A B := by
  funext y
  idx_vars y
  clean_types
  pointwise
  rw [Fin.sum_univ_one]
  show (_ : EReal) = _
  unfold whole entry
  refine Finset.sum_congr rfl fun s _ => ?_
  refine (mul_comm (B (ix3 0 s y2)) _).trans ?_
  refine congrArg (fun j : Fin 2816 => A (ix3 0 s j) * B (ix3 0 s y2)) (Fin.ext ?_)
  show y0.val * 704 + y1.val = 704 * y0.val + y1.val
  omega

end Cert.DownReferenceIdeal.Value

end
-- ==== Proof.DownClaim.lean ====
/- The value claim of the down weight's gradient: the kernel's run and the reference's run, side by side. -/
module

public import proofs.«01_k».proof.Defs
public import proofs.«01_k».proof.Proof.DownKer
public import proofs.«01_k».proof.Proof.DownRef
public import Idealize.ShloMosaic.Lib.Claim

@[expose] public section

set_option maxRecDepth 16384

noncomputable section

open Idealize.ShloMosaic Idealize.ShloMosaic.TcCoe Idealize.SL.Sem

namespace Cert.DownGrad
open Cert.WeightGrad

/-- The kernel's array is the reference's result, for every input. -/
theorem algebraic : Cert.algebraic_DownKernelIdeal_DownReferenceIdeal (hDownKernelIdeal := Cert.DownKernelIdeal.Gen.facts)
    (hDownReferenceIdeal := Cert.DownReferenceIdeal.Gen.facts) := by
  intro m g m' g' _ hag
  refine ⟨fun c => whole (DownKernelIdeal.Value.argA m c) (DownKernelIdeal.Value.argB m c), ?_, ?_⟩
  · refine (θ_run _ _ _).mono (fun r h c => ?_) (DownKernelIdeal.Value.run_blocks m g)
    obtain ⟨h0, ha⟩ := h c
    exact ⟨h0.trans (DownKernelIdeal.Value.arr2 m c), ha⟩
  · refine (θ_run _ _ _).mono (fun r h c => ?_) (DownReferenceIdeal.Value.run m' g')
    obtain ⟨h0, ha⟩ := h c
    obtain ⟨e0, e1, e2⟩ := hag c
    refine ⟨h0.trans ((DownReferenceIdeal.Value.result _ _).trans ?_), ha⟩
    exact congrArg₂ whole e0 e2

end Cert.DownGrad

end
-- ==== Proof.FfnForm.lean ====
/- The feed-forward layer as closed forms: the two projections, the gated hidden row, the residual sum and the layer
   norm, over plain functions of the arguments. -/
module

public import Idealize.ShloMosaic.Lib.Pointwise

@[expose] public section

noncomputable section

open Idealize.ShloMosaic

namespace Cert.Ffn

/-- The activations: one row of the model width per token. -/
abbrev SX : Shape := ⟨3, ![1, 4096, 1024]⟩
/-- A weight from the model width to the hidden width. -/
abbrev SWi : Shape := ⟨2, ![1024, 2816]⟩
/-- A weight from the hidden width to the model width. -/
abbrev SWo : Shape := ⟨2, ![2816, 1024]⟩
/-- A vector of the model width. -/
abbrev SV : Shape := ⟨1, ![1024]⟩
/-- A hidden array, cut by chips: chip, token, hidden channel of the chip. -/
abbrev SH : Shape := ⟨3, ![4, 4096, 704]⟩
/-- Tokens by model channels. -/
abbrev SR : Shape := ⟨2, ![4096, 1024]⟩

variable (X : SX.Idx → EReal) (G U : SWi.Idx → EReal) (D : SWo.Idx → EReal) (g b : SV.Idx → EReal)

/-- The projection of token `t` to hidden channel `j`. -/
def lin (t : Fin 4096) (j : Fin 2816) : EReal := ∑ k : Fin 1024, X (ix3 0 t k) * G (ix2 k j)

/-- The logistic function. -/
def logi (x : EReal) : EReal := Ideal.div 1 (1 + Ideal.exp (-x))

/-- The gated hidden row. -/
def hid (t : Fin 4096) (j : Fin 2816) : EReal := lin X G t j * logi (lin X G t j) * lin X U t j

/-- The residual sum that the layer norm takes. -/
def zed (t : Fin 4096) (k : Fin 1024) : EReal :=
  Ideal.ofBits FTy.f32 1068827891#32 * X (ix3 0 t k)
    + Ideal.ofBits FTy.f32 1056964608#32 * ∑ j : Fin 2816, hid X G U t j * D (ix2 j k)

/-- The mean of a row of the model width. -/
def mean (f : Fin 1024 → EReal) : EReal := Ideal.div (∑ k : Fin 1024, f k) (Ideal.ofBits FTy.f32 1149239296#32)

/-- The variance of a row. -/
def vari (f : Fin 1024 → EReal) : EReal := mean fun k => (f k - mean f) * (f k - mean f)

/-- One over the square root of a row's variance and the norm's epsilon. -/
def rstd (f : Fin 1024 → EReal) : EReal := Ideal.rsqrt (vari f + Ideal.ofBits FTy.f32 925353388#32)

/-- The layer norm of a row at channel `k`, with scale `γ` and shift `β` there. -/
def lnorm (f : Fin 1024 → EReal) (k : Fin 1024) (γ β : EReal) : EReal := (f k - mean f) * rstd f * γ + β

/-- The layer's output. -/
def outp (t : Fin 4096) (k : Fin 1024) : EReal := lnorm (zed X G U D t) k (g (ix1 k)) (b (ix1 k))

/-- A function of token and hidden channel as one array per chip. -/
def chips (h : Fin 4096 → Fin 2816 → EReal) : SH.Idx → EReal := fun i => h (i 1) ⟨(i 0).val * 704 + (i 2).val, by
  have h0 : (i 0).val < 4 := (i 0).isLt
  have h2 : (i 2).val < 704 := (i 2).isLt
  omega⟩

/-- A function of token and model channel as an array. -/
def rows (h : Fin 4096 → Fin 1024 → EReal) : SR.Idx → EReal := fun i => h (i 0) (i 1)

/-- The sum over all hidden channels is the sum of the four chips' sums, taken in the order of the chips. -/
theorem sum_chips (f : Fin 2816 → EReal) :
    ∑ j : Fin 2816, f j = (∑ n : Fin 704, f ⟨n.val, by omega⟩) + (∑ n : Fin 704, f ⟨704 + n.val, by omega⟩)
      + (∑ n : Fin 704, f ⟨1408 + n.val, by omega⟩) + ∑ n : Fin 704, f ⟨2112 + n.val, by omega⟩ := by
  have h3 : ∑ j : Fin 2816, f j = (∑ n : Fin 2112, f ⟨n.val, by omega⟩) + ∑ n : Fin 704, f ⟨2112 + n.val, by omega⟩ :=
    Fin.sum_univ_add (a := 2112) (b := 704) f
  have h2 : ∑ n : Fin 2112, f ⟨n.val, by omega⟩ = (∑ n : Fin 1408, f ⟨n.val, by omega⟩) + ∑ n : Fin 704, f ⟨1408 + n.val, by omega⟩ :=
    Fin.sum_univ_add (a := 1408) (b := 704) fun n => f ⟨n.val, by omega⟩
  have h1 : ∑ n : Fin 1408, f ⟨n.val, by omega⟩ = (∑ n : Fin 704, f ⟨n.val, by omega⟩) + ∑ n : Fin 704, f ⟨704 + n.val, by omega⟩ :=
    Fin.sum_univ_add (a := 704) (b := 704) fun n => f ⟨n.val, by omega⟩
  rw [h3, h2, h1]

end Cert.Ffn

end
-- ==== Proof.FwdKer.lean ====
/- The kernel's side of the feed-forward layer: what the body leaves at each chip of a token block, and from that the six
   arrays after the run. -/
module

public import proofs.«01_k».proof.Proof.Gen.FwdKernelIdeal.Value
public import proofs.«01_k».proof.Proof.FfnForm
public import Idealize.ShloMosaic.Lib.Pipeline.ValueKit
public import Idealize.ShloMosaic.Lib.Pipeline.ReadBack
public import Idealize.ShloMosaic.Lib.Pointwise
public import Idealize.ShloMosaic.Lib.Tactic.CleanTypes
public import Idealize.ShloMosaic.Lib.StableHlo.ReadAt

@[expose] public section

set_option maxRecDepth 16384

noncomputable section

open Idealize.ShloMosaic Idealize.ShloMosaic.TcCoe Idealize.SL.Sem

namespace Cert.FwdKernelIdeal.Value
open Cert.FwdKernelIdeal Cert.FwdKernelIdeal.Gen Cert.Ffn

/-! ### The body's values, as functions of what it reads -/

/-- A block's projection at row `s`, channel `n`. -/
def blin (X : S512x1024.Idx → EReal) (V : S1x704x1024.Idx → EReal) (s : Fin 512) (n : Fin 704) : EReal :=
  ∑ k : Fin 1024, X (ix2 s k) * V (ix3 0 n k)

/-- A block's gated hidden row. -/
def bhid (X : S512x1024.Idx → EReal) (V W : S1x704x1024.Idx → EReal) (s : Fin 512) (n : Fin 704) : EReal :=
  blin X V s n * logi (blin X V s n) * blin X W s n

/-- A block's contribution to the residual sum. -/
def bout (H : S512x704.Idx → EReal) (D : S1x704x1024.Idx → EReal) (s : Fin 512) (k : Fin 1024) : EReal :=
  ∑ n : Fin 704, H (ix2 s n) * D (ix3 0 n k)

/-- A block's residual sum. -/
def bzed (Y Z : S512x1024.Idx → EReal) (s : Fin 512) (k : Fin 1024) : EReal :=
  Ideal.ofBits FTy.f32 1068827891#32 * Y (ix2 s k) + Ideal.ofBits FTy.f32 1056964608#32 * Z (ix2 s k)

variable (X Y Z : S512x1024.Idx → EReal) (V W D : S1x704x1024.Idx → EReal) (H : S512x704.Idx → EReal) (g b : S1x1024.Idx → EReal)

/-- The stored gate. -/
theorem pay10 (s : Fin 512) (n : Fin 704) :
    @Eq EReal (k0_pay10 (F := Ideal) X V (ix3 0 s n)) (blin X V s n) := by
  unfold blin
  pointwise [k0_pay10, k0_pay7, k0_pay6]

/-- The stored up projection. -/
theorem pay11 (s : Fin 512) (n : Fin 704) :
    @Eq EReal (k0_pay11 (F := Ideal) X V (ix3 0 s n)) (blin X V s n) := by
  unfold blin
  pointwise [k0_pay11, k0_pay8, k0_pay6]

/-- The gated hidden block. -/
theorem pay9 (s : Fin 512) (n : Fin 704) :
    @Eq EReal (k0_pay9 (F := Ideal) X V W (ix2 s n)) (bhid X V W s n) := by
  unfold bhid logi blin
  rw [← zero_sub]
  pointwise [k0_pay9, k0_pay8, k0_pay7, k0_pay6]

/-- The stored hidden block. -/
theorem pay12 (s : Fin 512) (n : Fin 704) :
    @Eq EReal (k0_pay12 (F := Ideal) X V W (ix3 0 s n)) (bhid X V W s n) := by
  unfold bhid logi blin
  rw [← zero_sub]
  pointwise [k0_pay12, k0_pay9, k0_pay8, k0_pay7, k0_pay6]

/-- The chip's contribution. -/
theorem pay1 (s : Fin 512) (k : Fin 1024) :
    @Eq EReal (k0_pay1 (F := Ideal) H D (ix2 s k)) (bout H D s k) := by
  unfold bout
  pointwise [k0_pay1]

/-- The accumulator with the chip's contribution. -/
theorem pay2 (s : Fin 512) (k : Fin 1024) :
    @Eq EReal (k0_pay2 (F := Ideal) H D Z (ix2 s k)) (Z (ix2 s k) + bout H D s k) := by
  unfold bout
  pointwise [k0_pay2, k0_pay1]

/-- The residual sum. -/
theorem pay3 (s : Fin 512) (k : Fin 1024) :
    @Eq EReal (k0_pay3 (F := Ideal) Y Z (ix2 s k)) (bzed Y Z s k) := by
  unfold bzed
  pointwise [k0_pay3]

/-- The layer norm. -/
theorem pay4 (s : Fin 512) (k : Fin 1024) :
    @Eq EReal (k0_pay4 (F := Ideal) Y Z g b (ix2 s k)) (lnorm (bzed Y Z s) k (g (ix2 0 k)) (b (ix2 0 k))) := by
  unfold lnorm rstd vari mean bzed
  pointwise [k0_pay4, k0_pay3]

/-- The layer norm, stored in the narrower format. -/
theorem pay5 (s : Fin 512) (k : Fin 1024) :
    @Eq EReal (k0_pay5 (F := Ideal) Y Z g b (ix2 s k)) (lnorm (bzed Y Z s) k (g (ix2 0 k)) (b (ix2 0 k))) := by
  unfold lnorm rstd vari mean bzed
  pointwise [k0_pay5, k0_pay4, k0_pay3]

/-! ### The blocks that the body reads, through the arguments -/

variable (m : (ℓ : Loc nD τ sig) → Buf (Elt Ideal) ℓ) (c : Dev nD)

/-- The activations. -/
abbrev argX : SX.Idx → EReal := m ((c : Thread nD τ).loc main_arg0)
/-- The gate weight. -/
abbrev argG : SWi.Idx → EReal := m ((c : Thread nD τ).loc main_arg1)
/-- The up weight. -/
abbrev argU : SWi.Idx → EReal := m ((c : Thread nD τ).loc main_arg2)
/-- The down weight. -/
abbrev argD : SWo.Idx → EReal := m ((c : Thread nD τ).loc main_arg3)
/-- The norm's scale. -/
abbrev argS : SV.Idx → EReal := m ((c : Thread nD τ).loc main_arg4)
/-- The norm's shift. -/
abbrev argT : SV.Idx → EReal := m ((c : Thread nD τ).loc main_arg5)

/-- The weights' slice at each grid point. -/
theorem off : ∀ t : Fin cfg0.N, k0_off1 (grid0.coords t) = ![t.val % 4, 0, 0] := (by decide +kernel : ∀ t : Fin grid0.N, _)

/-- There are thirty-two grid points. -/
theorem point_lt (p : Fin cfg0.N) : p.val < 32 := p.isLt

/-- The block of window 0 at each grid point. -/
theorem idx0 : ∀ t : Fin cfg0.N, win0_0.index t = ![t.val / 4, 0] := by decide +kernel
/-- The block of window 1 at each grid point. -/
theorem idx1 : ∀ t : Fin cfg0.N, win0_1.index t = ![t.val / 4, 0] := by decide +kernel
/-- The block of window 2 at each grid point. -/
theorem idx2 : ∀ t : Fin cfg0.N, win0_2.index t = ![0, 0, 0] := by decide +kernel
/-- The block of window 3 at each grid point. -/
theorem idx3 : ∀ t : Fin cfg0.N, win0_3.index t = ![0, 0, 0] := by decide +kernel
/-- The block of window 4 at each grid point. -/
theorem idx4 : ∀ t : Fin cfg0.N, win0_4.index t = ![0, 0, 0] := by decide +kernel
/-- The block of window 5 at each grid point. -/
theorem idx5 : ∀ t : Fin cfg0.N, win0_5.index t = ![0, 0] := by decide +kernel
/-- The block of window 6 at each grid point. -/
theorem idx6 : ∀ t : Fin cfg0.N, win0_6.index t = ![0, 0] := by decide +kernel
/-- The block of window 7 at each grid point. -/
theorem idx7 : ∀ t : Fin cfg0.N, win0_7.index t = ![t.val % 4, t.val / 4, 0] := by decide +kernel
/-- The block of window 8 at each grid point. -/
theorem idx8 : ∀ t : Fin cfg0.N, win0_8.index t = ![t.val % 4, t.val / 4, 0] := by decide +kernel
/-- The block of window 9 at each grid point. -/
theorem idx9 : ∀ t : Fin cfg0.N, win0_9.index t = ![t.val % 4, t.val / 4, 0] := by decide +kernel
/-- The block of window 10 at each grid point. -/
theorem idx10 : ∀ t : Fin cfg0.N, win0_10.index t = ![t.val / 4, 0] := by decide +kernel
/-- The block of window 11 at each grid point. -/
theorem idx11 : ∀ t : Fin cfg0.N, win0_11.index t = ![t.val / 4, 0] := by decide +kernel
/-- The block of window 12 at each grid point. -/
theorem idx12 : ∀ t : Fin cfg0.N, win0_12.index t = ![t.val / 4, 0] := by decide +kernel

/-- Row `s` of a grid point's block of tokens. -/
def tok (t : Fin cfg0.N) (s : Fin 512) : Fin 4096 := ⟨t.val / 4 * 512 + s.val, by have := point_lt t; omega⟩
/-- Channel `n` of the chip of a grid point. -/
def chan (t : Fin cfg0.N) (n : Fin 704) : Fin 2816 := ⟨t.val % 4 * 704 + n.val, by omega⟩

/-- The activations' block in window 0. -/
theorem blk0 (t : Fin cfg0.N) (s : Fin 512) (k : Fin 1024) :
    @Eq EReal ((iblk m c 0 t : S512x1024.Idx → EReal) (ix2 s k)) (argX m c (ix3 0 (tok t s) k)) := by
  have ht := point_lt t
  have e : (iblk m c 0 t : S512x1024.Idx → EReal) (ix2 s k)
      = (V m c (Pipeline.arrRef spec0 0) : S4096x1024.Idx → EReal) (ix2 (tok t s) k) := by
    unfold tok
    blk_point [iblk, idx0 t]
  refine e.trans ?_
  show @Eq EReal _ _
  unfold V
  after_reads_at

/-- The activations' block in window 1. -/
theorem blk1 (t : Fin cfg0.N) (s : Fin 512) (k : Fin 1024) :
    @Eq EReal ((iblk m c 1 t : S512x1024.Idx → EReal) (ix2 s k)) (argX m c (ix3 0 (tok t s) k)) := by
  have ht := point_lt t
  have e : (iblk m c 1 t : S512x1024.Idx → EReal) (ix2 s k)
      = (V m c (Pipeline.arrRef spec0 1) : S4096x1024.Idx → EReal) (ix2 (tok t s) k) := by
    unfold tok
    blk_point [iblk, idx1 t]
  refine e.trans ?_
  show @Eq EReal _ _
  unfold V
  after_reads_at

/-- The gate weight in window 2, which holds all chips' slices. -/
theorem blk2 (t : Fin cfg0.N) (j : Fin 4) (n : Fin 704) (k : Fin 1024) :
    @Eq EReal ((iblk m c 2 t : S4x704x1024.Idx → EReal) (ix3 j n k)) (argG m c (ix2 k ⟨j.val * 704 + n.val, by omega⟩)) := by
  have e : (iblk m c 2 t : S4x704x1024.Idx → EReal) (ix3 j n k)
      = (V m c (Pipeline.arrRef spec0 2) : S4x704x1024.Idx → EReal) (ix3 j n k) := by
    blk_point [iblk, idx2 t]
  refine e.trans ?_
  show @Eq EReal _ _
  unfold V
  after_reads_at

/-- The up weight in window 3, which holds all chips' slices. -/
theorem blk3 (t : Fin cfg0.N) (j : Fin 4) (n : Fin 704) (k : Fin 1024) :
    @Eq EReal ((iblk m c 3 t : S4x704x1024.Idx → EReal) (ix3 j n k)) (argU m c (ix2 k ⟨j.val * 704 + n.val, by omega⟩)) := by
  have e : (iblk m c 3 t : S4x704x1024.Idx → EReal) (ix3 j n k)
      = (V m c (Pipeline.arrRef spec0 3) : S4x704x1024.Idx → EReal) (ix3 j n k) := by
    blk_point [iblk, idx3 t]
  refine e.trans ?_
  show @Eq EReal _ _
  unfold V
  after_reads_at

/-- The down weight in window 4, which holds all chips' slices. -/
theorem blk4 (t : Fin cfg0.N) (j : Fin 4) (n : Fin 704) (k : Fin 1024) :
    @Eq EReal ((iblk m c 4 t : S4x704x1024.Idx → EReal) (ix3 j n k)) (argD m c (ix2 ⟨j.val * 704 + n.val, by omega⟩ k)) := by
  have e : (iblk m c 4 t : S4x704x1024.Idx → EReal) (ix3 j n k)
      = (V m c (Pipeline.arrRef spec0 4) : S4x704x1024.Idx → EReal) (ix3 j n k) := by
    blk_point [iblk, idx4 t]
  refine e.trans ?_
  show @Eq EReal _ _
  unfold V
  after_reads_at

/-- The norm's scale in window 5. -/
theorem blk5 (t : Fin cfg0.N) (k : Fin 1024) :
    @Eq EReal ((iblk m c 5 t : S1x1024.Idx → EReal) (ix2 0 k)) (argS m c (ix1 k)) := by
  have e : (iblk m c 5 t : S1x1024.Idx → EReal) (ix2 0 k)
      = (V m c (Pipeline.arrRef spec0 5) : S1x1024.Idx → EReal) (ix2 0 k) := by
    blk_point [iblk, idx5 t]
  refine e.trans ?_
  show @Eq EReal _ _
  unfold V
  after_reads_at

/-- The norm's shift in window 6. -/
theorem blk6 (t : Fin cfg0.N) (k : Fin 1024) :
    @Eq EReal ((iblk m c 6 t : S1x1024.Idx → EReal) (ix2 0 k)) (argT m c (ix1 k)) := by
  have e : (iblk m c 6 t : S1x1024.Idx → EReal) (ix2 0 k)
      = (V m c (Pipeline.arrRef spec0 6) : S1x1024.Idx → EReal) (ix2 0 k) := by
    blk_point [iblk, idx6 t]
  refine e.trans ?_
  show @Eq EReal _ _
  unfold V
  after_reads_at

/-- The slice of a weight that the body reads at a grid point. -/
abbrev slice (t : Fin cfg0.N) (B : S4x704x1024.Idx → EReal) : S1x704x1024.Idx → EReal :=
  View.ld (Val := Elt Ideal) (S := S4x704x1024) (e' := .bf16) B (Rect.unit (s := S4x704x1024) (k0_off1 (grid0.coords t)) S1x704x1024.size (Facts₀.k0_off1_inb (grid0.coords t)))

/-- The slice at a grid point is the array of that point's chip. -/
theorem slice_at (t : Fin cfg0.N) (B : S4x704x1024.Idx → EReal) (n : Fin 704) (k : Fin 1024) :
    slice t B (ix3 0 n k) = B (ix3 ⟨t.val % 4, by omega⟩ n k) := by
  have h := off t
  have h0 : k0_off1 (grid0.coords t) 0 = t.val % 4 := congrFun h 0
  have h1 : k0_off1 (grid0.coords t) 1 = 0 := congrFun h 1
  have h2 : k0_off1 (grid0.coords t) 2 = 0 := congrFun h 2
  refine congrArg B ?_
  funext a
  match a with
  | 0 => exact Fin.ext (by show k0_off1 (grid0.coords t) 0 + 1 * 0 = t.val % 4; omega)
  | 1 => exact Fin.ext (by show k0_off1 (grid0.coords t) 1 + 1 * n.val = n.val; omega)
  | 2 => exact Fin.ext (by show k0_off1 (grid0.coords t) 2 + 1 * k.val = k.val; omega)

/-- The gate's projection at a grid point. -/
theorem gate_at (t : Fin cfg0.N) (s : Fin 512) (n : Fin 704) :
    blin (iblk m c 0 t) (slice t (iblk m c 2 t)) s n = lin (argX m c) (argG m c) (tok t s) (chan t n) :=
  Finset.sum_congr rfl fun k _ => congrArg₂ (fun a b : EReal => a * b) (blk0 m c t s k)
    ((slice_at t _ n k).trans (blk2 m c t _ n k))

/-- The up projection at a grid point. -/
theorem up_at (t : Fin cfg0.N) (s : Fin 512) (n : Fin 704) :
    blin (iblk m c 0 t) (slice t (iblk m c 3 t)) s n = lin (argX m c) (argU m c) (tok t s) (chan t n) :=
  Finset.sum_congr rfl fun k _ => congrArg₂ (fun a b : EReal => a * b) (blk0 m c t s k)
    ((slice_at t _ n k).trans (blk3 m c t _ n k))

/-- The hidden row at a grid point. -/
theorem hid_at (t : Fin cfg0.N) (s : Fin 512) (n : Fin 704) :
    bhid (iblk m c 0 t) (slice t (iblk m c 2 t)) (slice t (iblk m c 3 t)) s n
      = hid (argX m c) (argG m c) (argU m c) (tok t s) (chan t n) := by
  unfold bhid hid
  rw [gate_at, up_at]

/-- What a grid point's chip adds to the down projection. -/
def add (t : Fin cfg0.N) (s : Fin 512) (k : Fin 1024) : EReal :=
  ∑ n : Fin 704, hid (argX m c) (argG m c) (argU m c) (tok t s) (chan t n) * argD m c (ix2 (chan t n) k)

/-- The chip's contribution is that sum. -/
theorem bout_at (t : Fin cfg0.N) (s : Fin 512) (k : Fin 1024) :
    bout (k0_pay9 (F := Ideal) (iblk m c 0 t) (slice t (iblk m c 2 t)) (slice t (iblk m c 3 t))) (slice t (iblk m c 4 t)) s k
      = add m c t s k :=
  Finset.sum_congr rfl fun n _ => congrArg₂ (fun a b : EReal => a * b)
    ((pay9 _ _ _ s n).trans (hid_at m c t s n)) ((slice_at t _ n k).trans (blk4 m c t _ n k))

/-! ### What the body leaves at each grid point -/

set_option maxHeartbeats 2000000 in
/-- The gate that the body leaves at a grid point. -/
theorem out7 (t : Fin cfg0.N) (s : Fin 512) (n : Fin 704) :
    @Eq EReal ((outsAt0 m c t.val t.isLt).1 (ix3 0 s n)) (lin (argX m c) (argG m c) (tok t s) (chan t n)) := by
  refine Eq.trans ?_ ((pay10 _ _ s n).trans (gate_at m c t s n))
  by_cases h0 : t.val % 4 = 0
  · rw [outsAt0_A m c t h0 (by omega) (by omega)]
    frame_out
  · by_cases h2 : t.val % 4 = 3
    · rw [outsAt0_C m c t h0 (by omega) h2]
      frame_out
    · rw [outsAt0_B m c t h0 (by omega) h2]
      frame_out

set_option maxHeartbeats 2000000 in
/-- The up projection that the body leaves at a grid point. -/
theorem out8 (t : Fin cfg0.N) (s : Fin 512) (n : Fin 704) :
    @Eq EReal ((outsAt0 m c t.val t.isLt).2.1 (ix3 0 s n)) (lin (argX m c) (argU m c) (tok t s) (chan t n)) := by
  refine Eq.trans ?_ ((pay11 _ _ s n).trans (up_at m c t s n))
  by_cases h0 : t.val % 4 = 0
  · rw [outsAt0_A m c t h0 (by omega) (by omega)]
    frame_out
  · by_cases h2 : t.val % 4 = 3
    · rw [outsAt0_C m c t h0 (by omega) h2]
      frame_out
    · rw [outsAt0_B m c t h0 (by omega) h2]
      frame_out

set_option maxHeartbeats 2000000 in
/-- The hidden row that the body leaves at a grid point. -/
theorem out9 (t : Fin cfg0.N) (s : Fin 512) (n : Fin 704) :
    @Eq EReal ((outsAt0 m c t.val t.isLt).2.2.1 (ix3 0 s n)) (hid (argX m c) (argG m c) (argU m c) (tok t s) (chan t n)) := by
  refine Eq.trans ?_ ((pay12 _ _ _ s n).trans (hid_at m c t s n))
  by_cases h0 : t.val % 4 = 0
  · rw [outsAt0_A m c t h0 (by omega) (by omega)]
    frame_out
  · by_cases h2 : t.val % 4 = 3
    · rw [outsAt0_C m c t h0 (by omega) h2]
      frame_out
    · rw [outsAt0_B m c t h0 (by omega) h2]
      frame_out

/-- The residual accumulator that a grid point finds. -/
abbrev found (t : Fin cfg0.N) : S512x1024.Idx → EReal :=
  (outsAt0 m c (t.val - 1) (Nat.lt_of_le_of_lt (Nat.sub_le _ _) t.isLt)).2.2.2.1

set_option maxHeartbeats 2000000 in
/-- The first chip writes its contribution. -/
theorem first (t : Fin cfg0.N) (h0 : t.val % 4 = 0) (s : Fin 512) (k : Fin 1024) :
    @Eq EReal ((outsAt0 m c t.val t.isLt).2.2.2.1 (ix2 s k)) (add m c t s k) := by
  refine Eq.trans ?_ ((pay1 _ _ s k).trans (bout_at m c t s k))
  rw [outsAt0_A m c t h0 (by omega) (by omega)]
  frame_out

set_option maxHeartbeats 2000000 in
/-- The second and third chips add theirs. -/
theorem middle (t : Fin cfg0.N) (h0 : ¬ t.val % 4 = 0) (h2 : ¬ t.val % 4 = 3) (s : Fin 512) (k : Fin 1024) :
    @Eq EReal ((outsAt0 m c t.val t.isLt).2.2.2.1 (ix2 s k)) (found m c t (ix2 s k) + add m c t s k) := by
  refine Eq.trans ?_ ((pay2 (found m c t) _ _ s k).trans (congrArg (fun z : EReal => found m c t (ix2 s k) + z) (bout_at m c t s k)))
  rw [outsAt0_B m c t h0 (by omega) h2]
  frame_out

/-- The accumulator after the last chip's contribution. -/
abbrev total (t : Fin cfg0.N) : S512x1024.Idx → EReal :=
  k0_pay2 (F := Ideal) (k0_pay9 (F := Ideal) (iblk m c 0 t) (slice t (iblk m c 2 t)) (slice t (iblk m c 3 t))) (slice t (iblk m c 4 t)) (found m c t)

set_option maxHeartbeats 2000000 in
/-- The last chip writes the residual sum. -/
theorem last10 (t : Fin cfg0.N) (h2 : t.val % 4 = 3) (s : Fin 512) (k : Fin 1024) :
    @Eq EReal ((outsAt0 m c t.val t.isLt).2.2.2.1 (ix2 s k)) (bzed (iblk m c 1 t) (total m c t) s k) := by
  refine Eq.trans ?_ (pay3 _ _ s k)
  rw [outsAt0_C m c t (by omega) (by omega) h2]
  frame_out

set_option maxHeartbeats 2000000 in
/-- The last chip writes the layer norm. -/
theorem last11 (t : Fin cfg0.N) (h2 : t.val % 4 = 3) (s : Fin 512) (k : Fin 1024) :
    @Eq EReal ((outsAt0 m c t.val t.isLt).2.2.2.2.1 (ix2 s k))
      (lnorm (bzed (iblk m c 1 t) (total m c t) s) k ((iblk m c 5 t : S1x1024.Idx → EReal) (ix2 0 k)) ((iblk m c 6 t : S1x1024.Idx → EReal) (ix2 0 k))) := by
  refine Eq.trans ?_ (pay4 _ _ _ _ s k)
  rw [outsAt0_C m c t (by omega) (by omega) h2]
  frame_out

set_option maxHeartbeats 2000000 in
/-- The last chip writes the layer norm in the narrower format. -/
theorem last12 (t : Fin cfg0.N) (h2 : t.val % 4 = 3) (s : Fin 512) (k : Fin 1024) :
    @Eq EReal ((outsAt0 m c t.val t.isLt).2.2.2.2.2 (ix2 s k))
      (lnorm (bzed (iblk m c 1 t) (total m c t) s) k ((iblk m c 5 t : S1x1024.Idx → EReal) (ix2 0 k)) ((iblk m c 6 t : S1x1024.Idx → EReal) (ix2 0 k))) := by
  refine Eq.trans ?_ (pay5 _ _ _ _ s k)
  rw [outsAt0_C m c t (by omega) (by omega) h2]
  frame_out

/-- A chip's contribution, by the chip's number. -/
theorem add_at (t t' : Fin cfg0.N) (h : t.val / 4 = t'.val / 4) (s : Fin 512) (k : Fin 1024) (q : Nat) (hq : t.val % 4 * 704 = q)
    (hb : q + 704 ≤ 2816) :
    add m c t s k = ∑ n : Fin 704, hid (argX m c) (argG m c) (argU m c) (tok t' s) ⟨q + n.val, by omega⟩
      * argD m c (ix2 ⟨q + n.val, by omega⟩ k) := by
  subst hq
  have e : tok t s = tok t' s := Fin.ext (by show t.val / 4 * 512 + s.val = t'.val / 4 * 512 + s.val; rw [h])
  unfold add
  rw [e]
  rfl

/-- After the last chip the accumulator holds the whole down projection. -/
theorem total_at (t : Fin cfg0.N) (h2 : t.val % 4 = 3) (s : Fin 512) (k : Fin 1024) :
    @Eq EReal (total m c t (ix2 s k)) (∑ j : Fin 2816, hid (argX m c) (argG m c) (argU m c) (tok t s) j * argD m c (ix2 j k)) := by
  have ht := point_lt t
  have l1 : t.val - 1 < cfg0.N := Nat.lt_of_le_of_lt (Nat.sub_le _ _) t.isLt
  have l2 : t.val - 1 - 1 < cfg0.N := Nat.lt_of_le_of_lt (Nat.sub_le _ _) l1
  have l3 : t.val - 1 - 1 - 1 < cfg0.N := Nat.lt_of_le_of_lt (Nat.sub_le _ _) l2
  have s1 := middle m c ⟨t.val - 1, l1⟩ (by show ¬ (t.val - 1) % 4 = 0; omega) (by show ¬ (t.val - 1) % 4 = 3; omega) s k
  have s2 := middle m c ⟨t.val - 1 - 1, l2⟩ (by show ¬ (t.val - 1 - 1) % 4 = 0; omega) (by show ¬ (t.val - 1 - 1) % 4 = 3; omega) s k
  have s3 := first m c ⟨t.val - 1 - 1 - 1, l3⟩ (by show (t.val - 1 - 1 - 1) % 4 = 0; omega) s k
  have a0 := add_at m c t t rfl s k 2112 (by omega) (by omega)
  have a1 := add_at m c ⟨t.val - 1, l1⟩ t (by show (t.val - 1) / 4 = t.val / 4; omega) s k 1408 (by show (t.val - 1) % 4 * 704 = 1408; omega) (by omega)
  have a2 := add_at m c ⟨t.val - 1 - 1, l2⟩ t (by show (t.val - 1 - 1) / 4 = t.val / 4; omega) s k 704 (by show (t.val - 1 - 1) % 4 * 704 = 704; omega) (by omega)
  have a3 := add_at m c ⟨t.val - 1 - 1 - 1, l3⟩ t (by show (t.val - 1 - 1 - 1) / 4 = t.val / 4; omega) s k 0 (by show (t.val - 1 - 1 - 1) % 4 * 704 = 0; omega) (by omega)
  refine (pay2 (found m c t) _ _ s k).trans ?_
  rw [sum_chips, bout_at, a0]
  refine congrArg (fun z : EReal => z + _) ?_
  refine s1.trans ?_
  rw [a1]
  refine congrArg (fun z : EReal => z + _) ?_
  refine s2.trans ?_
  rw [a2]
  refine congrArg (fun z : EReal => z + _) ?_
  refine s3.trans ?_
  rw [a3]
  simp only [Nat.zero_add]

/-- The residual sum at a grid point of the last chip, as a row. -/
theorem bzed_at (t : Fin cfg0.N) (h2 : t.val % 4 = 3) (s : Fin 512) :
    bzed (iblk m c 1 t) (total m c t) s = zed (argX m c) (argG m c) (argU m c) (argD m c) (tok t s) := by
  funext k
  exact congrArg₂ (fun a b : EReal => Ideal.ofBits FTy.f32 1068827891#32 * a + Ideal.ofBits FTy.f32 1056964608#32 * b)
    (blk1 m c t s k) (total_at m c t h2 s k)

/-! ### The result arrays after the run -/

/-- The gate at the end of the grid. -/
theorem arr7 : (dats m 0 c).arrAt 7 cfg0.N = chips (lin (argX m c) (argG m c)) := by
  refine (dats m 0 c).arrAt_eq_of_covers 7 _ (by decide +kernel) fun t hf y => ?_
  blk_simp
  rw [after0_7]
  idx_vars y
  have ht := point_lt t
  obtain rfl : y0 = 0 := Fin.ext (by omega)
  have e : ((View.whole main_v13_0).slice (win0_7.rect t)).emb (ix3 0 y1 y2)
      = ix3 ⟨t.val % 4, by omega⟩ (tok t y1) y2 := by
    unfold tok
    blk_ext [idx7 t]
  rw [e]
  exact out7 m c t y1 y2

/-- The up projection at the end of the grid. -/
theorem arr8 : (dats m 0 c).arrAt 8 cfg0.N = chips (lin (argX m c) (argU m c)) := by
  refine (dats m 0 c).arrAt_eq_of_covers 8 _ (by decide +kernel) fun t hf y => ?_
  blk_simp
  rw [after0_8]
  idx_vars y
  have ht := point_lt t
  obtain rfl : y0 = 0 := Fin.ext (by omega)
  have e : ((View.whole main_v13_1).slice (win0_8.rect t)).emb (ix3 0 y1 y2)
      = ix3 ⟨t.val % 4, by omega⟩ (tok t y1) y2 := by
    unfold tok
    blk_ext [idx8 t]
  rw [e]
  exact out8 m c t y1 y2

/-- The hidden rows at the end of the grid. -/
theorem arr9 : (dats m 0 c).arrAt 9 cfg0.N = chips (hid (argX m c) (argG m c) (argU m c)) := by
  refine (dats m 0 c).arrAt_eq_of_covers 9 _ (by decide +kernel) fun t hf y => ?_
  blk_simp
  rw [after0_9]
  idx_vars y
  have ht := point_lt t
  obtain rfl : y0 = 0 := Fin.ext (by omega)
  have e : ((View.whole main_v13_2).slice (win0_9.rect t)).emb (ix3 0 y1 y2)
      = ix3 ⟨t.val % 4, by omega⟩ (tok t y1) y2 := by
    unfold tok
    blk_ext [idx9 t]
  rw [e]
  exact out9 m c t y1 y2

/-- The residual sum at the end of the grid. -/
theorem arr10 : (dats m 0 c).arrAt 10 cfg0.N = rows (zed (argX m c) (argG m c) (argU m c) (argD m c)) := by
  refine (dats m 0 c).arrAt_eq_of_covers 10 _ (by decide +kernel) fun t hf y => ?_
  have h2 : t.val % 4 = 3 := (flush0_10 t).mp hf
  blk_simp
  rw [after0_10]
  idx_vars y
  have ht := point_lt t
  have e : ((View.whole main_v13_3).slice (win0_10.rect t)).emb (ix2 y0 y1) = ix2 (tok t y0) y1 := by
    unfold tok
    blk_ext [idx10 t]
  rw [e]
  exact (last10 m c t h2 y0 y1).trans (congrFun (bzed_at m c t h2 y0) y1)

/-- The output at the end of the grid. -/
theorem arr11 : (dats m 0 c).arrAt 11 cfg0.N = rows (outp (argX m c) (argG m c) (argU m c) (argD m c) (argS m c) (argT m c)) := by
  refine (dats m 0 c).arrAt_eq_of_covers 11 _ (by decide +kernel) fun t hf y => ?_
  have h2 : t.val % 4 = 3 := (flush0_11 t).mp hf
  blk_simp
  rw [after0_11]
  idx_vars y
  have ht := point_lt t
  have e : ((View.whole main_v13_4).slice (win0_11.rect t)).emb (ix2 y0 y1) = ix2 (tok t y0) y1 := by
    unfold tok
    blk_ext [idx11 t]
  rw [e]
  refine (last11 m c t h2 y0 y1).trans ?_
  rw [bzed_at m c t h2 y0, blk5, blk6]
  rfl

/-- The output in the narrower format at the end of the grid. -/
theorem arr12 : (dats m 0 c).arrAt 12 cfg0.N = rows (outp (argX m c) (argG m c) (argU m c) (argD m c) (argS m c) (argT m c)) := by
  refine (dats m 0 c).arrAt_eq_of_covers 12 _ (by decide +kernel) fun t hf y => ?_
  have h2 : t.val % 4 = 3 := (flush0_12 t).mp hf
  blk_simp
  rw [after0_12]
  idx_vars y
  have ht := point_lt t
  have e : ((View.whole main_v13_5).slice (win0_12.rect t)).emb (ix2 y0 y1) = ix2 (tok t y0) y1 := by
    unfold tok
    blk_ext [idx12 t]
  rw [e]
  refine (last12 m c t h2 y0 y1).trans ?_
  rw [bzed_at m c t h2 y0, blk5, blk6]
  rfl

end Cert.FwdKernelIdeal.Value

end
-- ==== Proof.FwdRef.lean ====
/- The reference's side of the feed-forward layer: each result of the reference program, read at an index, is its closed
   form. -/
module

public import proofs.«01_k».proof.Proof.Gen.FwdReferenceIdeal.Run
public import proofs.«01_k».proof.Proof.FfnForm
public import Idealize.ShloMosaic.Lib.Pointwise
public import Idealize.ShloMosaic.Lib.KernelVsHost
public import Idealize.ShloMosaic.Lib.Tactic.CleanTypes

@[expose] public section

set_option maxRecDepth 16384

noncomputable section

open Idealize.ShloMosaic Idealize.ShloMosaic.TcCoe Idealize.SL.Sem

namespace Cert.FwdReferenceIdeal.Value
open Cert.FwdReferenceIdeal Cert.FwdReferenceIdeal.Gen Cert.Ffn

variable (m : (ℓ : Loc nD τ sig) → Buf (Elt Ideal) ℓ) (c : Dev nD)

/-- The activations. -/
abbrev argX : SX.Idx → EReal := m ((c : Thread nD τ).loc main_arg0)
/-- The gate weight. -/
abbrev argG : SWi.Idx → EReal := m ((c : Thread nD τ).loc main_arg1)
/-- The up weight. -/
abbrev argU : SWi.Idx → EReal := m ((c : Thread nD τ).loc main_arg2)
/-- The down weight. -/
abbrev argD : SWo.Idx → EReal := m ((c : Thread nD τ).loc main_arg3)
/-- The norm's scale. -/
abbrev argS : SV.Idx → EReal := m ((c : Thread nD τ).loc main_arg4)
/-- The norm's shift. -/
abbrev argT : SV.Idx → EReal := m ((c : Thread nD τ).loc main_arg5)

set_option maxHeartbeats 4000000 in
/-- The reference's run: its six results are the closed forms, and its arguments stay. -/
theorem run_forms (ρ : Dev nD → PrngReg) :
    θ_run (defs (F := Ideal)) (onTc (τ := τ) (main (F := Ideal))) ⟨m, fun _ => 0, ρ⟩ fun r => ∀ c : Dev nD,
      r.2.mem ((c.tc : Thread nD τ).loc main_v37) = chips (lin (argX m c) (argG m c))
      ∧ r.2.mem ((c.tc : Thread nD τ).loc main_v41) = chips (lin (argX m c) (argU m c))
      ∧ r.2.mem ((c.tc : Thread nD τ).loc main_v45) = chips (hid (argX m c) (argG m c) (argU m c))
      ∧ r.2.mem ((c.tc : Thread nD τ).loc main_v46) = rows (zed (argX m c) (argG m c) (argU m c) (argD m c))
      ∧ r.2.mem ((c.tc : Thread nD τ).loc main_v47) = rows (outp (argX m c) (argG m c) (argU m c) (argD m c) (argS m c) (argT m c))
      ∧ r.2.mem ((c.tc : Thread nD τ).loc main_v49) = rows (outp (argX m c) (argG m c) (argU m c) (argD m c) (argS m c) (argT m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run _ _ _).mono (fun r h c => ?_) (run (F := Ideal) m ρ)
  obtain ⟨h0, h1, h2, h3, h4, h5, ha⟩ := h c
  refine ⟨h0.trans ?_, h1.trans ?_, h2.trans ?_, h3.trans ?_, h4.trans ?_, h5.trans ?_, ha⟩
  · funext y
    idx_vars y
    show (_ : EReal) = lin (argX m c) (argG m c) y1 _
    unfold lin argX argG
    generalize m ((c.tc : Thread nD τ).loc main_arg0) = X
    generalize m ((c.tc : Thread nD τ).loc main_arg1) = G
    clean_types
    pointwise
  · funext y
    idx_vars y
    show (_ : EReal) = lin (argX m c) (argU m c) y1 _
    unfold lin argX argU
    generalize m ((c.tc : Thread nD τ).loc main_arg0) = X
    generalize m ((c.tc : Thread nD τ).loc main_arg2) = U
    clean_types
    pointwise
  · funext y
    idx_vars y
    show (_ : EReal) = hid (argX m c) (argG m c) (argU m c) y1 _
    unfold hid logi lin argX argG argU
    generalize m ((c.tc : Thread nD τ).loc main_arg0) = X
    generalize m ((c.tc : Thread nD τ).loc main_arg1) = G
    generalize m ((c.tc : Thread nD τ).loc main_arg2) = U
    clean_types
    pointwise
  · funext y
    idx_vars y
    show (_ : EReal) = zed (argX m c) (argG m c) (argU m c) (argD m c) y0 y1
    unfold zed hid logi lin argX argG argU argD
    generalize m ((c.tc : Thread nD τ).loc main_arg0) = X
    generalize m ((c.tc : Thread nD τ).loc main_arg1) = G
    generalize m ((c.tc : Thread nD τ).loc main_arg2) = U
    generalize m ((c.tc : Thread nD τ).loc main_arg3) = D
    clean_types
    pointwise
  · funext y
    idx_vars y
    show (_ : EReal) = outp (argX m c) (argG m c) (argU m c) (argD m c) (argS m c) (argT m c) y0 y1
    unfold res_main_v47 outp lnorm rstd vari mean zed hid logi lin argX argG argU argD argS argT
    generalize m ((c.tc : Thread nD τ).loc main_arg0) = X
    generalize m ((c.tc : Thread nD τ).loc main_arg1) = G
    generalize m ((c.tc : Thread nD τ).loc main_arg2) = U
    generalize m ((c.tc : Thread nD τ).loc main_arg3) = D
    generalize m ((c.tc : Thread nD τ).loc main_arg4) = g
    generalize m ((c.tc : Thread nD τ).loc main_arg5) = b
    clean_types
    pointwise
  · funext y
    idx_vars y
    show (_ : EReal) = outp (argX m c) (argG m c) (argU m c) (argD m c) (argS m c) (argT m c) y0 y1
    unfold res_main_v49 outp lnorm rstd vari mean zed hid logi lin argX argG argU argD argS argT
    generalize m ((c.tc : Thread nD τ).loc main_arg0) = X
    generalize m ((c.tc : Thread nD τ).loc main_arg1) = G
    generalize m ((c.tc : Thread nD τ).loc main_arg2) = U
    generalize m ((c.tc : Thread nD τ).loc main_arg3) = D
    generalize m ((c.tc : Thread nD τ).loc main_arg4) = g
    generalize m ((c.tc : Thread nD τ).loc main_arg5) = b
    clean_types
    pointwise

end Cert.FwdReferenceIdeal.Value

end
-- ==== Proof.FwdClaim.lean ====
/- The value claim of the feed-forward layer: the kernel's run and the reference's run, side by side. -/
module

public import proofs.«01_k».proof.Defs
public import proofs.«01_k».proof.Proof.FwdKer
public import proofs.«01_k».proof.Proof.FwdRef
public import Idealize.ShloMosaic.Lib.Claim

@[expose] public section

set_option maxRecDepth 16384

noncomputable section

open Idealize.ShloMosaic Idealize.ShloMosaic.TcCoe Idealize.SL.Sem

namespace Cert.FwdLayer
open Cert.Ffn

/-- The kernel's six arrays are the reference's six results, for every input. -/
theorem algebraic : Cert.algebraic_FwdKernelIdeal_FwdReferenceIdeal (hFwdKernelIdeal := Cert.FwdKernelIdeal.Gen.facts)
    (hFwdReferenceIdeal := Cert.FwdReferenceIdeal.Gen.facts) := by
  intro m g m' g' _ hag
  refine ⟨fun c => chips (lin (FwdKernelIdeal.Value.argX m c) (FwdKernelIdeal.Value.argG m c)),
    fun c => chips (lin (FwdKernelIdeal.Value.argX m c) (FwdKernelIdeal.Value.argU m c)),
    fun c => chips (hid (FwdKernelIdeal.Value.argX m c) (FwdKernelIdeal.Value.argG m c) (FwdKernelIdeal.Value.argU m c)),
    fun c => rows (zed (FwdKernelIdeal.Value.argX m c) (FwdKernelIdeal.Value.argG m c) (FwdKernelIdeal.Value.argU m c) (FwdKernelIdeal.Value.argD m c)),
    fun c => rows (outp (FwdKernelIdeal.Value.argX m c) (FwdKernelIdeal.Value.argG m c) (FwdKernelIdeal.Value.argU m c) (FwdKernelIdeal.Value.argD m c) (FwdKernelIdeal.Value.argS m c) (FwdKernelIdeal.Value.argT m c)),
    fun c => rows (outp (FwdKernelIdeal.Value.argX m c) (FwdKernelIdeal.Value.argG m c) (FwdKernelIdeal.Value.argU m c) (FwdKernelIdeal.Value.argD m c) (FwdKernelIdeal.Value.argS m c) (FwdKernelIdeal.Value.argT m c)), ?_, ?_⟩
  · refine (θ_run _ _ _).mono (fun r h c => ?_) (FwdKernelIdeal.Value.run_blocks m g)
    obtain ⟨h0, h1, h2, h3, h4, h5, ha⟩ := h c
    exact ⟨h0.trans (FwdKernelIdeal.Value.arr7 m c), h1.trans (FwdKernelIdeal.Value.arr8 m c), h2.trans (FwdKernelIdeal.Value.arr9 m c),
      h3.trans (FwdKernelIdeal.Value.arr10 m c), h4.trans (FwdKernelIdeal.Value.arr11 m c), h5.trans (FwdKernelIdeal.Value.arr12 m c), ha⟩
  · refine (θ_run _ _ _).mono (fun r h c => ?_) (FwdReferenceIdeal.Value.run_forms m' g')
    obtain ⟨h0, h1, h2, h3, h4, h5, ha⟩ := h c
    obtain ⟨e0, e1, e2, e3, e4, e5⟩ := hag c
    have eX : FwdReferenceIdeal.Value.argX m' c = FwdKernelIdeal.Value.argX m c := e0
    have eG : FwdReferenceIdeal.Value.argG m' c = FwdKernelIdeal.Value.argG m c := e1
    have eU : FwdReferenceIdeal.Value.argU m' c = FwdKernelIdeal.Value.argU m c := e2
    have eD : FwdReferenceIdeal.Value.argD m' c = FwdKernelIdeal.Value.argD m c := e3
    have eS : FwdReferenceIdeal.Value.argS m' c = FwdKernelIdeal.Value.argS m c := e4
    have eT : FwdReferenceIdeal.Value.argT m' c = FwdKernelIdeal.Value.argT m c := e5
    refine ⟨h0.trans ?_, h1.trans ?_, h2.trans ?_, h3.trans ?_, h4.trans ?_, h5.trans ?_, ha⟩
    all_goals simp only [eX, eG, eU, eD, eS, eT]

end Cert.FwdLayer

end
-- ==== Proof.FfnRuns.lean ====
/- What the runs of the feed-forward layer's backward body share: the arrays as the region finds them, the conditions in closed form, which points store into which output. -/
module

public import proofs.«01_k».proof.Proof.Gen.FfnKernelIdeal.Launch
public import proofs.«01_k».proof.Proof.Gen.FfnKernelIdeal.Skeleton
public import proofs.«01_k».proof.Proof.Gen.FfnKernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.FfnKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_FfnKernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := k0_cond2 i = 1#1
/-- It holds at the points ≡ 0 (mod 4) — by arithmetic of the point. -/
theorem hcond0_1 : ∀ t : Fin cfg0.N, cond0_1 (grid0.coords t) ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val % 4 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an output stored at every point, under no condition). -/
theorem liveAt0_8 : ∀ t : Fin cfg0.N, cfg0.idle 8 (grid0.coords t) = false := fun _ => rfl
/-- Window 9 is never idle (an output stored at every point, under no condition). -/
theorem liveAt0_9 : ∀ t : Fin cfg0.N, cfg0.idle 9 (grid0.coords t) = false := fun _ => rfl
/-- Window 10 is never idle (an output stored at every point, under no condition). -/
theorem liveAt0_10 : ∀ t : Fin cfg0.N, cfg0.idle 10 (grid0.coords t) = false := fun _ => rfl
/-- Whether output 11's buffer is FRESH at each position `1 ‥ N` — holds nothing the body stored since the region's entry or the
    last write-back (written back at the point before, or idle there and fresh before it) —, as a bitmask the classifier
    computed, bit `n` for position `n + 1`; position 0 is fresh. `freshTab0_11_step` checks it against the configuration's own
    step point by point and Lib/Pipeline/TableIdle.lean `Cfg.fresh_tab` makes it `Cfg.fresh` (`fresh0_11_eq`). -/
def freshTab0_11 : ℕ → Bool
  | 0 => true
  | n + 1 => (0x88888888 : ℕ).testBit n
theorem freshTab0_11_step : ∀ t : Fin cfg0.N,
    freshTab0_11 (t.val + 1) = ((cfg0.win 11).flush t || (cfg0.idle 11 (cfg0.grid.coords t) && freshTab0_11 t.val)) := by decide +kernel
theorem fresh0_11_eq (t : Fin cfg0.N) : cfg0.fresh 11 t.val = freshTab0_11 t.val :=
  Pipeline.Cfg.fresh_tab cfg0 11 freshTab0_11 rfl freshTab0_11_step t.val (Nat.le_of_lt t.isLt)
/-- At the points of case A the printed configuration (`Cfg.idle`) calls output 11 live: the case stores into it. -/
theorem liveAt0_11_A : ∀ t : Fin cfg0.N, cond0_0 (grid0.coords t) → cond0_1 (grid0.coords t) → cfg0.idle 11 (grid0.coords t) = false := by decide +kernel
/-- At the points of case B the body stores nothing into output 11: the window is idle there. -/
theorem idleAt0_11_B : ∀ t : Fin cfg0.N, ¬cond0_0 (grid0.coords t) → ¬cond0_1 (grid0.coords t) → cfg0.idle 11 (grid0.coords t) = true := by decide +kernel
/-- At the points of case B, which keeps output 11's prior contents (reads it before covering, or covers it in part), the
    window's buffer is not FRESH: something was stored into it since the region's entry or its last write-back, idle points
    between or not (Lib/Pipeline/TableIdle.lean `Cfg.fresh`, by the table `freshTab0_11`). -/
theorem notFresh0_11_B : ∀ t : Fin cfg0.N, ¬cond0_0 (grid0.coords t) → ¬cond0_1 (grid0.coords t) → cfg0.fresh 11 t.val = false := by
  intro t; rw [fresh0_11_eq t]; revert t; decide +kernel
/-- At the points of case C the printed configuration (`Cfg.idle`) calls output 11 live: the case stores into it. -/
theorem liveAt0_11_C : ∀ t : Fin cfg0.N, ¬cond0_0 (grid0.coords t) → cond0_1 (grid0.coords t) → cfg0.idle 11 (grid0.coords t) = false := by decide +kernel
/-- Whether output 12's buffer is FRESH at each position `1 ‥ N` — holds nothing the body stored since the region's entry or the
    last write-back (written back at the point before, or idle there and fresh before it) —, as a bitmask the classifier
    computed, bit `n` for position `n + 1`; position 0 is fresh. `freshTab0_12_step` checks it against the configuration's own
    step point by point and Lib/Pipeline/TableIdle.lean `Cfg.fresh_tab` makes it `Cfg.fresh` (`fresh0_12_eq`). -/
def freshTab0_12 : ℕ → Bool
  | 0 => true
  | n + 1 => (0x80000000 : ℕ).testBit n
theorem freshTab0_12_step : ∀ t : Fin cfg0.N,
    freshTab0_12 (t.val + 1) = ((cfg0.win 12).flush t || (cfg0.idle 12 (cfg0.grid.coords t) && freshTab0_12 t.val)) := by decide +kernel
theorem fresh0_12_eq (t : Fin cfg0.N) : cfg0.fresh 12 t.val = freshTab0_12 t.val :=
  Pipeline.Cfg.fresh_tab cfg0 12 freshTab0_12 rfl freshTab0_12_step t.val (Nat.le_of_lt t.isLt)
/-- At the points of case A the printed configuration (`Cfg.idle`) calls output 12 live: the case stores into it. -/
theorem liveAt0_12_A : ∀ t : Fin cfg0.N, cond0_0 (grid0.coords t) → cond0_1 (grid0.coords t) → cfg0.idle 12 (grid0.coords t) = false := by decide +kernel
/-- At the points of case B the body stores nothing into output 12: the window is idle there. -/
theorem idleAt0_12_B : ∀ t : Fin cfg0.N, ¬cond0_0 (grid0.coords t) → ¬cond0_1 (grid0.coords t) → cfg0.idle 12 (grid0.coords t) = true := by decide +kernel
/-- At the points of case B, which keeps output 12's prior contents (reads it before covering, or covers it in part), the
    window's buffer is not FRESH: something was stored into it since the region's entry or its last write-back, idle points
    between or not (Lib/Pipeline/TableIdle.lean `Cfg.fresh`, by the table `freshTab0_12`). -/
theorem notFresh0_12_B : ∀ t : Fin cfg0.N, ¬cond0_0 (grid0.coords t) → ¬cond0_1 (grid0.coords t) → cfg0.fresh 12 t.val = false := by
  intro t; rw [fresh0_12_eq t]; revert t; decide +kernel
/-- At the points of case C the printed configuration (`Cfg.idle`) calls output 12 live: the case stores into it. -/
theorem liveAt0_12_C : ∀ t : Fin cfg0.N, ¬cond0_0 (grid0.coords t) → cond0_1 (grid0.coords t) → cfg0.idle 12 (grid0.coords t) = false := by decide +kernel
/-- At the points of case C, which keeps output 12's prior contents (reads it before covering, or covers it in part), the
    window's buffer is not FRESH: something was stored into it since the region's entry or its last write-back, idle points
    between or not (Lib/Pipeline/TableIdle.lean `Cfg.fresh`, by the table `freshTab0_12`). -/
theorem notFresh0_12_C : ∀ t : Fin cfg0.N, ¬cond0_0 (grid0.coords t) → cond0_1 (grid0.coords t) → cfg0.fresh 12 t.val = false := by
  intro t; rw [fresh0_12_eq t]; revert t; decide +kernel
/-- Whether output 13's buffer is FRESH at each position `1 ‥ N` — holds nothing the body stored since the region's entry or the
    last write-back (written back at the point before, or idle there and fresh before it) —, as a bitmask the classifier
    computed, bit `n` for position `n + 1`; position 0 is fresh. `freshTab0_13_step` checks it against the configuration's own
    step point by point and Lib/Pipeline/TableIdle.lean `Cfg.fresh_tab` makes it `Cfg.fresh` (`fresh0_13_eq`). -/
def freshTab0_13 : ℕ → Bool
  | 0 => true
  | n + 1 => (0x80000000 : ℕ).testBit n
theorem freshTab0_13_step : ∀ t : Fin cfg0.N,
    freshTab0_13 (t.val + 1) = ((cfg0.win 13).flush t || (cfg0.idle 13 (cfg0.grid.coords t) && freshTab0_13 t.val)) := by decide +kernel
theorem fresh0_13_eq (t : Fin cfg0.N) : cfg0.fresh 13 t.val = freshTab0_13 t.val :=
  Pipeline.Cfg.fresh_tab cfg0 13 freshTab0_13 rfl freshTab0_13_step t.val (Nat.le_of_lt t.isLt)
/-- At the points of case A the printed configuration (`Cfg.idle`) calls output 13 live: the case stores into it. -/
theorem liveAt0_13_A : ∀ t : Fin cfg0.N, cond0_0 (grid0.coords t) → cond0_1 (grid0.coords t) → cfg0.idle 13 (grid0.coords t) = false := by decide +kernel
/-- At the points of case B the body stores nothing into output 13: the window is idle there. -/
theorem idleAt0_13_B : ∀ t : Fin cfg0.N, ¬cond0_0 (grid0.coords t) → ¬cond0_1 (grid0.coords t) → cfg0.idle 13 (grid0.coords t) = true := by decide +kernel
/-- At the points of case B, which keeps output 13's prior contents (reads it before covering, or covers it in part), the
    window's buffer is not FRESH: something was stored into it since the region's entry or its last write-back, idle points
    between or not (Lib/Pipeline/TableIdle.lean `Cfg.fresh`, by the table `freshTab0_13`). -/
theorem notFresh0_13_B : ∀ t : Fin cfg0.N, ¬cond0_0 (grid0.coords t) → ¬cond0_1 (grid0.coords t) → cfg0.fresh 13 t.val = false := by
  intro t; rw [fresh0_13_eq t]; revert t; decide +kernel
/-- At the points of case C the printed configuration (`Cfg.idle`) calls output 13 live: the case stores into it. -/
theorem liveAt0_13_C : ∀ t : Fin cfg0.N, ¬cond0_0 (grid0.coords t) → cond0_1 (grid0.coords t) → cfg0.idle 13 (grid0.coords t) = false := by decide +kernel
/-- At the points of case C, which keeps output 13's prior contents (reads it before covering, or covers it in part), the
    window's buffer is not FRESH: something was stored into it since the region's entry or its last write-back, idle points
    between or not (Lib/Pipeline/TableIdle.lean `Cfg.fresh`, by the table `freshTab0_13`). -/
theorem notFresh0_13_C : ∀ t : Fin cfg0.N, ¬cond0_0 (grid0.coords t) → cond0_1 (grid0.coords t) → cfg0.fresh 13 t.val = false := by
  intro t; rw [fresh0_13_eq t]; revert t; decide +kernel

/-! ## The kernel body on any staging memrefs: a subtype the run finds -/

/-- One staging buffer of output window 8, through which its contents are stated (`View.read_writes_of_cover`: the
    choice does not matter). -/
abbrev VO0_8 : View sig .tc .vmem S1x512x704 .bf16 := (Memref.whole cc0_stg8_0 : Memref sig .tc .vmem S1x512x704 .bf16).view
/-- One staging buffer of output window 9, through which its contents are stated (`View.read_writes_of_cover`: the
    choice does not matter). -/
abbrev VO0_9 : View sig .tc .vmem S1x512x704 .bf16 := (Memref.whole cc0_stg9_0 : Memref sig .tc .vmem S1x512x704 .bf16).view
/-- One staging buffer of output window 10, through which its contents are stated (`View.read_writes_of_cover`: the
    choice does not matter). -/
abbrev VO0_10 : View sig .tc .vmem S512x1024 .f32 := (Memref.whole cc0_stg10_0 : Memref sig .tc .vmem S512x1024 .f32).view
/-- One staging buffer of output window 11, through which its contents are stated (`View.read_writes_of_cover`: the
    choice does not matter). -/
abbrev VO0_11 : View sig .tc .vmem S512x1024 .bf16 := (Memref.whole cc0_stg11_0 : Memref sig .tc .vmem S512x1024 .bf16).view
/-- One staging buffer of output window 12, through which its contents are stated (`View.read_writes_of_cover`: the
    choice does not matter). -/
abbrev VO0_12 : View sig .tc .vmem S1x1024 .f32 := (Memref.whole cc0_stg12_0 : Memref sig .tc .vmem S1x1024 .f32).view
/-- One staging buffer of output window 13, through which its contents are stated (`View.read_writes_of_cover`: the
    choice does not matter). -/
abbrev VO0_13 : View sig .tc .vmem S1x1024 .f32 := (Memref.whole cc0_stg13_0 : Memref sig .tc .vmem S1x1024 .f32).view
/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x704x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x704x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x704x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512x704 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x704 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x704 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512x704 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1024 .f32 := win0_13.stage (cfg0.slots t 13)
abbrev hs0_13 (t : Fin cfg0.N) : (ms0_13 t).IsWhole := hstage0_13 ((cfg0.slots t 13).cast nbuf0_13)

end Cert.FfnKernelIdeal.Gen

end
-- ==== Proof.FfnRunA.lean ====
/- The backward body's run at the first point of all. -/
module

public import proofs.«01_k».proof.Proof.FfnRuns

@[expose] public section

-- membership in a rectangle of production extents (`View.cover_of_tiled`): the elaborator's structural look
-- recurses once per coordinate of the long axes
set_option maxRecDepth 16384

noncomputable section

namespace Cert.FfnKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S4x704x1024 .bf16) (harg5 : arg5.IsWhole) (arg6 : Memref sig .tc .vmem S4x704x1024 .bf16) (harg6 : arg6.IsWhole) (arg7 : Memref sig .tc .vmem S4x704x1024 .bf16) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (hc0 : cond0_0 i) (hc1 : cond0_1 i)
    (x0 : Vec F S512x1024 .f32) (x1 : Vec F S512x1024 .f32) (x2 : Vec F S1x1024 .f32) (x3 : Vec F S4x704x1024 .bf16) (x4 : Vec F S4x704x1024 .bf16) (x5 : Vec F S4x704x1024 .bf16) (x6 : Vec F S1x512x704 .bf16) (x7 : Vec F S1x512x704 .bf16) :
    Σ' (L8 : List (View.Piece (Elt F) S1x512x704 .bf16)), Σ' (L9 : List (View.Piece (Elt F) S1x512x704 .bf16)), Σ' (L10 : List (View.Piece (Elt F) S512x1024 .f32)), Σ' (L11 : List (View.Piece (Elt F) S512x1024 .bf16)), Σ' (L12 : List (View.Piece (Elt F) S1x1024 .f32)), { L13 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13)) -∗ K ⟨⟩))
          ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0_ffn_bwd_eq_skeleton]; unfold cc0_ffn_bwd_skel
    simp only [k0_part2_eq_skeleton, k0_part1_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

end Cert.FfnKernelIdeal.Gen

end
-- ==== Proof.FfnRunB.lean ====
/- The backward body's run at the points that only add a chip's part. -/
module

public import proofs.«01_k».proof.Proof.FfnRunA

@[expose] public section

-- membership in a rectangle of production extents (`View.cover_of_tiled`): the elaborator's structural look
-- recurses once per coordinate of the long axes
set_option maxRecDepth 16384

noncomputable section

namespace Cert.FfnKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 31: 24 of 32), WITH the
    proof that on whole staging memrefs — the inputs' at their contents, the outputs it reads before covering (10, 11, 12, 13) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S4x704x1024 .bf16) (harg5 : arg5.IsWhole) (arg6 : Memref sig .tc .vmem S4x704x1024 .bf16) (harg6 : arg6.IsWhole) (arg7 : Memref sig .tc .vmem S4x704x1024 .bf16) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (hc0 : ¬cond0_0 i) (hc1 : ¬cond0_1 i)
    (x0 : Vec F S512x1024 .f32) (x1 : Vec F S512x1024 .f32) (x2 : Vec F S1x1024 .f32) (x3 : Vec F S4x704x1024 .bf16) (x4 : Vec F S4x704x1024 .bf16) (x5 : Vec F S4x704x1024 .bf16) (x6 : Vec F S1x512x704 .bf16) (x7 : Vec F S1x512x704 .bf16) (xo10 : Vec F S512x1024 .f32) (xo11 : Vec F S512x1024 .bf16) (xo12 : Vec F S1x1024 .f32) (xo13 : Vec F S1x1024 .f32) :
    Σ' (L8 : List (View.Piece (Elt F) S1x512x704 .bf16)), Σ' (L9 : List (View.Piece (Elt F) S1x512x704 .bf16)), Σ' (L10 : List (View.Piece (Elt F) S512x1024 .f32)), Σ' (L11 : List (View.Piece (Elt F) S512x1024 .bf16)), Σ' (L12 : List (View.Piece (Elt F) S1x1024 .f32)), { L13 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare xo10 ∗ owns (c : Thread nD τ) arg13 fullShare xo11 ∗ owns (c : Thread nD τ) arg14 fullShare xo12 ∗ owns (c : Thread nD τ) arg15 fullShare xo13
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ owns (c : Thread nD τ) arg13 fullShare xo11 ∗ owns (c : Thread nD τ) arg14 fullShare xo12 ∗ owns (c : Thread nD τ) arg15 fullShare xo13) -∗ K ⟨⟩))
          ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, [], [], [], fun E K => ?run⟩
  case run =>
    simp only [cc0_ffn_bwd_eq_skeleton]; unfold cc0_ffn_bwd_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%f12, %hf12, H12⟩, ⟨%f13, %hf13, H13⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hf10; obtain rfl := harg13.eq_unread hf11; obtain rfl := harg14.eq_unread hf12; obtain rfl := harg15.eq_unread hf13
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]
    · iexists _; isplitr; · ipureintro; exact harg13.read_unread _
      iexact H11
    isplitl [H12]
    · iexists _; isplitr; · ipureintro; exact harg14.read_unread _
      iexact H12
    iexists _; isplitr; · ipureintro; exact harg15.read_unread _
    iexact H13

end Cert.FfnKernelIdeal.Gen

end
-- ==== Proof.FfnRunC.lean ====
/- The backward body's run at the first point of each later token block. -/
module

public import proofs.«01_k».proof.Proof.FfnRunB

@[expose] public section

-- membership in a rectangle of production extents (`View.cover_of_tiled`): the elaborator's structural look
-- recurses once per coordinate of the long axes
set_option maxRecDepth 16384

noncomputable section

namespace Cert.FfnKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 4, 8, … 28: 7 of 32), WITH the
    proof that on whole staging memrefs — the inputs' at their contents, the outputs it reads before covering (12, 13) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S4x704x1024 .bf16) (harg5 : arg5.IsWhole) (arg6 : Memref sig .tc .vmem S4x704x1024 .bf16) (harg6 : arg6.IsWhole) (arg7 : Memref sig .tc .vmem S4x704x1024 .bf16) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (hc0 : ¬cond0_0 i) (hc1 : cond0_1 i)
    (x0 : Vec F S512x1024 .f32) (x1 : Vec F S512x1024 .f32) (x2 : Vec F S1x1024 .f32) (x3 : Vec F S4x704x1024 .bf16) (x4 : Vec F S4x704x1024 .bf16) (x5 : Vec F S4x704x1024 .bf16) (x6 : Vec F S1x512x704 .bf16) (x7 : Vec F S1x512x704 .bf16) (xo12 : Vec F S1x1024 .f32) (xo13 : Vec F S1x1024 .f32) :
    Σ' (L8 : List (View.Piece (Elt F) S1x512x704 .bf16)), Σ' (L9 : List (View.Piece (Elt F) S1x512x704 .bf16)), Σ' (L10 : List (View.Piece (Elt F) S512x1024 .f32)), Σ' (L11 : List (View.Piece (Elt F) S512x1024 .bf16)), Σ' (L12 : List (View.Piece (Elt F) S1x1024 .f32)), { L13 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xo12 ∗ owns (c : Thread nD τ) arg15 fullShare xo13
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13)) -∗ K ⟨⟩))
          ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0_ffn_bwd_eq_skeleton]; unfold cc0_ffn_bwd_skel
    simp only [k0_part2_eq_skeleton, k0_part1_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%f12, %hf12, H12⟩, ⟨%f13, %hf13, H13⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hf12; obtain rfl := harg15.eq_unread hf13
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

end Cert.FfnKernelIdeal.Gen

end
-- ==== Proof.FfnFrame.lean ====
/- What the six outputs of the backward call hold point by point, the body's obligation at every point, the run and the frame. Outputs 11, 12 and 13 are stored only under a condition: at the points that store nothing into them their buffers are kept (`leaves0_W_B`), also where they are written back. -/
module

public import proofs.«01_k».proof.Proof.FfnRunC
public import Idealize.ShloMosaic.Lib.Claim

@[expose] public section

-- membership in a rectangle of production extents (`View.cover_of_tiled`): the elaborator's structural look
-- recurses once per coordinate of the long axes
set_option maxRecDepth 16384

noncomputable section

namespace Cert.FfnKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 8 are of SEVERAL sizes (2 stores of `S1x512x320`, `S1x512x384`): cut into blocks of `![1, 512, 64]` they tile its block (checked by the kernel's evaluation: Lib/Ring.lean `Piece.tiledBy`), so they cover it. -/
theorem cover0_A_8 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S4x704x1024 .bf16) (harg5 : arg5.IsWhole) (arg6 : Memref sig .tc .vmem S4x704x1024 .bf16) (harg6 : arg6.IsWhole) (arg7 : Memref sig .tc .vmem S4x704x1024 .bf16) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (hc0 : cond0_0 i) (hc1 : cond0_1 i)
    (x0 : Vec F S512x1024 .f32) (x1 : Vec F S512x1024 .f32) (x2 : Vec F S1x1024 .f32) (x3 : Vec F S4x704x1024 .bf16) (x4 : Vec F S4x704x1024 .bf16) (x5 : Vec F S4x704x1024 .bf16) (x6 : Vec F S1x512x704 .bf16) (x7 : Vec F S1x512x704 .bf16) (y : S1x512x704.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).1 ![1, 512, 64] (by sl_kernel_rfl) y

/-- What case A leaves in output 8's staging buffer: its pieces read back over junk. -/
def out0_A_8 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S4x704x1024 .bf16) (harg5 : arg5.IsWhole) (arg6 : Memref sig .tc .vmem S4x704x1024 .bf16) (harg6 : arg6.IsWhole) (arg7 : Memref sig .tc .vmem S4x704x1024 .bf16) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (hc0 : cond0_0 i) (hc1 : cond0_1 i)
    (x0 : Vec F S512x1024 .f32) (x1 : Vec F S512x1024 .f32) (x2 : Vec F S1x1024 .f32) (x3 : Vec F S4x704x1024 .bf16) (x4 : Vec F S4x704x1024 .bf16) (x5 : Vec F S4x704x1024 .bf16) (x6 : Vec F S1x512x704 .bf16) (x7 : Vec F S1x512x704 .bf16) : Vec F S1x512x704 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).1)

/-- Case A's pieces for output 9 are of SEVERAL sizes (2 stores of `S1x512x320`, `S1x512x384`): cut into blocks of `![1, 512, 64]` they tile its block (checked by the kernel's evaluation: Lib/Ring.lean `Piece.tiledBy`), so they cover it. -/
theorem cover0_A_9 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S4x704x1024 .bf16) (harg5 : arg5.IsWhole) (arg6 : Memref sig .tc .vmem S4x704x1024 .bf16) (harg6 : arg6.IsWhole) (arg7 : Memref sig .tc .vmem S4x704x1024 .bf16) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (hc0 : cond0_0 i) (hc1 : cond0_1 i)
    (x0 : Vec F S512x1024 .f32) (x1 : Vec F S512x1024 .f32) (x2 : Vec F S1x1024 .f32) (x3 : Vec F S4x704x1024 .bf16) (x4 : Vec F S4x704x1024 .bf16) (x5 : Vec F S4x704x1024 .bf16) (x6 : Vec F S1x512x704 .bf16) (x7 : Vec F S1x512x704 .bf16) (y : S1x512x704.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.1 ![1, 512, 64] (by sl_kernel_rfl) y

/-- What case A leaves in output 9's staging buffer: its pieces read back over junk. -/
def out0_A_9 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S4x704x1024 .bf16) (harg5 : arg5.IsWhole) (arg6 : Memref sig .tc .vmem S4x704x1024 .bf16) (harg6 : arg6.IsWhole) (arg7 : Memref sig .tc .vmem S4x704x1024 .bf16) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (hc0 : cond0_0 i) (hc1 : cond0_1 i)
    (x0 : Vec F S512x1024 .f32) (x1 : Vec F S512x1024 .f32) (x2 : Vec F S1x1024 .f32) (x3 : Vec F S4x704x1024 .bf16) (x4 : Vec F S4x704x1024 .bf16) (x5 : Vec F S4x704x1024 .bf16) (x6 : Vec F S1x512x704 .bf16) (x7 : Vec F S1x512x704 .bf16) : Vec F S1x512x704 .bf16 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.1)

/-- Case A's pieces for output 10 tile its block (2 stores of `S512x1024`, checked by the kernel's evaluation: Lib/Ring.lean `Piece.tiledL`, linear in the pieces, through a loop's `@[irreducible]` trip theorem too), so they cover it. -/
theorem cover0_A_10 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S4x704x1024 .bf16) (harg5 : arg5.IsWhole) (arg6 : Memref sig .tc .vmem S4x704x1024 .bf16) (harg6 : arg6.IsWhole) (arg7 : Memref sig .tc .vmem S4x704x1024 .bf16) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (hc0 : cond0_0 i) (hc1 : cond0_1 i)
    (x0 : Vec F S512x1024 .f32) (x1 : Vec F S512x1024 .f32) (x2 : Vec F S1x1024 .f32) (x3 : Vec F S4x704x1024 .bf16) (x4 : Vec F S4x704x1024 .bf16) (x5 : Vec F S4x704x1024 .bf16) (x6 : Vec F S1x512x704 .bf16) (x7 : Vec F S1x512x704 .bf16) (y : S512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.1 S512x1024.size (by sl_kernel_rfl) y

/-- What case A leaves in output 10's staging buffer: its pieces read back over junk. -/
def out0_A_10 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S4x704x1024 .bf16) (harg5 : arg5.IsWhole) (arg6 : Memref sig .tc .vmem S4x704x1024 .bf16) (harg6 : arg6.IsWhole) (arg7 : Memref sig .tc .vmem S4x704x1024 .bf16) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (hc0 : cond0_0 i) (hc1 : cond0_1 i)
    (x0 : Vec F S512x1024 .f32) (x1 : Vec F S512x1024 .f32) (x2 : Vec F S1x1024 .f32) (x3 : Vec F S4x704x1024 .bf16) (x4 : Vec F S4x704x1024 .bf16) (x5 : Vec F S4x704x1024 .bf16) (x6 : Vec F S1x512x704 .bf16) (x7 : Vec F S1x512x704 .bf16) : Vec F S512x1024 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.1)

/-- Case A's pieces for output 11 tile its block (1 store of `S512x1024`, checked by the kernel's evaluation: Lib/Ring.lean `Piece.tiledL`, linear in the pieces, through a loop's `@[irreducible]` trip theorem too), so they cover it. -/
theorem cover0_A_11 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S4x704x1024 .bf16) (harg5 : arg5.IsWhole) (arg6 : Memref sig .tc .vmem S4x704x1024 .bf16) (harg6 : arg6.IsWhole) (arg7 : Memref sig .tc .vmem S4x704x1024 .bf16) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (hc0 : cond0_0 i) (hc1 : cond0_1 i)
    (x0 : Vec F S512x1024 .f32) (x1 : Vec F S512x1024 .f32) (x2 : Vec F S1x1024 .f32) (x3 : Vec F S4x704x1024 .bf16) (x4 : Vec F S4x704x1024 .bf16) (x5 : Vec F S4x704x1024 .bf16) (x6 : Vec F S1x512x704 .bf16) (x7 : Vec F S1x512x704 .bf16) (y : S512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.2.1 S512x1024.size (by sl_kernel_rfl) y

/-- What case A leaves in output 11's staging buffer: its pieces read back over junk. -/
def out0_A_11 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S4x704x1024 .bf16) (harg5 : arg5.IsWhole) (arg6 : Memref sig .tc .vmem S4x704x1024 .bf16) (harg6 : arg6.IsWhole) (arg7 : Memref sig .tc .vmem S4x704x1024 .bf16) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (hc0 : cond0_0 i) (hc1 : cond0_1 i)
    (x0 : Vec F S512x1024 .f32) (x1 : Vec F S512x1024 .f32) (x2 : Vec F S1x1024 .f32) (x3 : Vec F S4x704x1024 .bf16) (x4 : Vec F S4x704x1024 .bf16) (x5 : Vec F S4x704x1024 .bf16) (x6 : Vec F S1x512x704 .bf16) (x7 : Vec F S1x512x704 .bf16) : Vec F S512x1024 .bf16 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.2.1)

/-- Case A's pieces for output 12 tile its block (2 stores of `S1x1024`, checked by the kernel's evaluation: Lib/Ring.lean `Piece.tiledL`, linear in the pieces, through a loop's `@[irreducible]` trip theorem too), so they cover it. -/
theorem cover0_A_12 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S4x704x1024 .bf16) (harg5 : arg5.IsWhole) (arg6 : Memref sig .tc .vmem S4x704x1024 .bf16) (harg6 : arg6.IsWhole) (arg7 : Memref sig .tc .vmem S4x704x1024 .bf16) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (hc0 : cond0_0 i) (hc1 : cond0_1 i)
    (x0 : Vec F S512x1024 .f32) (x1 : Vec F S512x1024 .f32) (x2 : Vec F S1x1024 .f32) (x3 : Vec F S4x704x1024 .bf16) (x4 : Vec F S4x704x1024 .bf16) (x5 : Vec F S4x704x1024 .bf16) (x6 : Vec F S1x512x704 .bf16) (x7 : Vec F S1x512x704 .bf16) (y : S1x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.2.2.1 S1x1024.size (by sl_kernel_rfl) y

/-- What case A leaves in output 12's staging buffer: its pieces read back over junk. -/
def out0_A_12 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S4x704x1024 .bf16) (harg5 : arg5.IsWhole) (arg6 : Memref sig .tc .vmem S4x704x1024 .bf16) (harg6 : arg6.IsWhole) (arg7 : Memref sig .tc .vmem S4x704x1024 .bf16) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (hc0 : cond0_0 i) (hc1 : cond0_1 i)
    (x0 : Vec F S512x1024 .f32) (x1 : Vec F S512x1024 .f32) (x2 : Vec F S1x1024 .f32) (x3 : Vec F S4x704x1024 .bf16) (x4 : Vec F S4x704x1024 .bf16) (x5 : Vec F S4x704x1024 .bf16) (x6 : Vec F S1x512x704 .bf16) (x7 : Vec F S1x512x704 .bf16) : Vec F S1x1024 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.2.2.1)

/-- Case A's pieces for output 13 tile its block (2 stores of `S1x1024`, checked by the kernel's evaluation: Lib/Ring.lean `Piece.tiledL`, linear in the pieces, through a loop's `@[irreducible]` trip theorem too), so they cover it. -/
theorem cover0_A_13 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S4x704x1024 .bf16) (harg5 : arg5.IsWhole) (arg6 : Memref sig .tc .vmem S4x704x1024 .bf16) (harg6 : arg6.IsWhole) (arg7 : Memref sig .tc .vmem S4x704x1024 .bf16) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (hc0 : cond0_0 i) (hc1 : cond0_1 i)
    (x0 : Vec F S512x1024 .f32) (x1 : Vec F S512x1024 .f32) (x2 : Vec F S1x1024 .f32) (x3 : Vec F S4x704x1024 .bf16) (x4 : Vec F S4x704x1024 .bf16) (x5 : Vec F S4x704x1024 .bf16) (x6 : Vec F S1x512x704 .bf16) (x7 : Vec F S1x512x704 .bf16) (y : S1x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.2.2.2.1 S1x1024.size (by sl_kernel_rfl) y

/-- What case A leaves in output 13's staging buffer: its pieces read back over junk. -/
def out0_A_13 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S4x704x1024 .bf16) (harg5 : arg5.IsWhole) (arg6 : Memref sig .tc .vmem S4x704x1024 .bf16) (harg6 : arg6.IsWhole) (arg7 : Memref sig .tc .vmem S4x704x1024 .bf16) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (hc0 : cond0_0 i) (hc1 : cond0_1 i)
    (x0 : Vec F S512x1024 .f32) (x1 : Vec F S512x1024 .f32) (x2 : Vec F S1x1024 .f32) (x3 : Vec F S4x704x1024 .bf16) (x4 : Vec F S4x704x1024 .bf16) (x5 : Vec F S4x704x1024 .bf16) (x6 : Vec F S1x512x704 .bf16) (x7 : Vec F S1x512x704 .bf16) : Vec F S1x1024 .f32 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.2.2.2.1)

/-- Case B's pieces for output 8 are of SEVERAL sizes (2 stores of `S1x512x320`, `S1x512x384`): cut into blocks of `![1, 512, 64]` they tile its block (checked by the kernel's evaluation: Lib/Ring.lean `Piece.tiledBy`), so they cover it. -/
theorem cover0_B_8 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S4x704x1024 .bf16) (harg5 : arg5.IsWhole) (arg6 : Memref sig .tc .vmem S4x704x1024 .bf16) (harg6 : arg6.IsWhole) (arg7 : Memref sig .tc .vmem S4x704x1024 .bf16) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (hc0 : ¬cond0_0 i) (hc1 : ¬cond0_1 i)
    (x0 : Vec F S512x1024 .f32) (x1 : Vec F S512x1024 .f32) (x2 : Vec F S1x1024 .f32) (x3 : Vec F S4x704x1024 .bf16) (x4 : Vec F S4x704x1024 .bf16) (x5 : Vec F S4x704x1024 .bf16) (x6 : Vec F S1x512x704 .bf16) (x7 : Vec F S1x512x704 .bf16) (xo10 : Vec F S512x1024 .f32) (xo11 : Vec F S512x1024 .bf16) (xo12 : Vec F S1x1024 .f32) (xo13 : Vec F S1x1024 .f32) (y : S1x512x704.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xo12 xo13).1, y ∈ pc.1.set :=
  View.cover_of_tiledBy (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xo12 xo13).1 ![1, 512, 64] (by sl_kernel_rfl) y

/-- What case B leaves in output 8's staging buffer: its pieces read back over junk. -/
def out0_B_8 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S4x704x1024 .bf16) (harg5 : arg5.IsWhole) (arg6 : Memref sig .tc .vmem S4x704x1024 .bf16) (harg6 : arg6.IsWhole) (arg7 : Memref sig .tc .vmem S4x704x1024 .bf16) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (hc0 : ¬cond0_0 i) (hc1 : ¬cond0_1 i)
    (x0 : Vec F S512x1024 .f32) (x1 : Vec F S512x1024 .f32) (x2 : Vec F S1x1024 .f32) (x3 : Vec F S4x704x1024 .bf16) (x4 : Vec F S4x704x1024 .bf16) (x5 : Vec F S4x704x1024 .bf16) (x6 : Vec F S1x512x704 .bf16) (x7 : Vec F S1x512x704 .bf16) (xo10 : Vec F S512x1024 .f32) (xo11 : Vec F S512x1024 .bf16) (xo12 : Vec F S1x1024 .f32) (xo13 : Vec F S1x1024 .f32) : Vec F S1x512x704 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xo12 xo13).1)

/-- Case B's pieces for output 9 are of SEVERAL sizes (2 stores of `S1x512x320`, `S1x512x384`): cut into blocks of `![1, 512, 64]` they tile its block (checked by the kernel's evaluation: Lib/Ring.lean `Piece.tiledBy`), so they cover it. -/
theorem cover0_B_9 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S4x704x1024 .bf16) (harg5 : arg5.IsWhole) (arg6 : Memref sig .tc .vmem S4x704x1024 .bf16) (harg6 : arg6.IsWhole) (arg7 : Memref sig .tc .vmem S4x704x1024 .bf16) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (hc0 : ¬cond0_0 i) (hc1 : ¬cond0_1 i)
    (x0 : Vec F S512x1024 .f32) (x1 : Vec F S512x1024 .f32) (x2 : Vec F S1x1024 .f32) (x3 : Vec F S4x704x1024 .bf16) (x4 : Vec F S4x704x1024 .bf16) (x5 : Vec F S4x704x1024 .bf16) (x6 : Vec F S1x512x704 .bf16) (x7 : Vec F S1x512x704 .bf16) (xo10 : Vec F S512x1024 .f32) (xo11 : Vec F S512x1024 .bf16) (xo12 : Vec F S1x1024 .f32) (xo13 : Vec F S1x1024 .f32) (y : S1x512x704.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xo12 xo13).2.1, y ∈ pc.1.set :=
  View.cover_of_tiledBy (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xo12 xo13).2.1 ![1, 512, 64] (by sl_kernel_rfl) y

/-- What case B leaves in output 9's staging buffer: its pieces read back over junk. -/
def out0_B_9 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S4x704x1024 .bf16) (harg5 : arg5.IsWhole) (arg6 : Memref sig .tc .vmem S4x704x1024 .bf16) (harg6 : arg6.IsWhole) (arg7 : Memref sig .tc .vmem S4x704x1024 .bf16) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (hc0 : ¬cond0_0 i) (hc1 : ¬cond0_1 i)
    (x0 : Vec F S512x1024 .f32) (x1 : Vec F S512x1024 .f32) (x2 : Vec F S1x1024 .f32) (x3 : Vec F S4x704x1024 .bf16) (x4 : Vec F S4x704x1024 .bf16) (x5 : Vec F S4x704x1024 .bf16) (x6 : Vec F S1x512x704 .bf16) (x7 : Vec F S1x512x704 .bf16) (xo10 : Vec F S512x1024 .f32) (xo11 : Vec F S512x1024 .bf16) (xo12 : Vec F S1x1024 .f32) (xo13 : Vec F S1x1024 .f32) : Vec F S1x512x704 .bf16 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xo12 xo13).2.1)

/-- Case B's pieces for output 10 tile its block (1 store of `S512x1024`, checked by the kernel's evaluation: Lib/Ring.lean `Piece.tiledL`, linear in the pieces, through a loop's `@[irreducible]` trip theorem too), so they cover it. -/
theorem cover0_B_10 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S4x704x1024 .bf16) (harg5 : arg5.IsWhole) (arg6 : Memref sig .tc .vmem S4x704x1024 .bf16) (harg6 : arg6.IsWhole) (arg7 : Memref sig .tc .vmem S4x704x1024 .bf16) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (hc0 : ¬cond0_0 i) (hc1 : ¬cond0_1 i)
    (x0 : Vec F S512x1024 .f32) (x1 : Vec F S512x1024 .f32) (x2 : Vec F S1x1024 .f32) (x3 : Vec F S4x704x1024 .bf16) (x4 : Vec F S4x704x1024 .bf16) (x5 : Vec F S4x704x1024 .bf16) (x6 : Vec F S1x512x704 .bf16) (x7 : Vec F S1x512x704 .bf16) (xo10 : Vec F S512x1024 .f32) (xo11 : Vec F S512x1024 .bf16) (xo12 : Vec F S1x1024 .f32) (xo13 : Vec F S1x1024 .f32) (y : S512x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xo12 xo13).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xo12 xo13).2.2.1 S512x1024.size (by sl_kernel_rfl) y

/-- What case B leaves in output 10's staging buffer: its pieces read back over junk. -/
def out0_B_10 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S4x704x1024 .bf16) (harg5 : arg5.IsWhole) (arg6 : Memref sig .tc .vmem S4x704x1024 .bf16) (harg6 : arg6.IsWhole) (arg7 : Memref sig .tc .vmem S4x704x1024 .bf16) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (hc0 : ¬cond0_0 i) (hc1 : ¬cond0_1 i)
    (x0 : Vec F S512x1024 .f32) (x1 : Vec F S512x1024 .f32) (x2 : Vec F S1x1024 .f32) (x3 : Vec F S4x704x1024 .bf16) (x4 : Vec F S4x704x1024 .bf16) (x5 : Vec F S4x704x1024 .bf16) (x6 : Vec F S1x512x704 .bf16) (x7 : Vec F S1x512x704 .bf16) (xo10 : Vec F S512x1024 .f32) (xo11 : Vec F S512x1024 .bf16) (xo12 : Vec F S1x1024 .f32) (xo13 : Vec F S1x1024 .f32) : Vec F S512x1024 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo10 xo11 xo12 xo13).2.2.1)

/-- Case B stores nothing into output 11, a live window: its staging buffer holds what the point before left. -/
def out0_B_11 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S4x704x1024 .bf16) (harg5 : arg5.IsWhole) (arg6 : Memref sig .tc .vmem S4x704x1024 .bf16) (harg6 : arg6.IsWhole) (arg7 : Memref sig .tc .vmem S4x704x1024 .bf16) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (hc0 : ¬cond0_0 i) (hc1 : ¬cond0_1 i)
    (x0 : Vec F S512x1024 .f32) (x1 : Vec F S512x1024 .f32) (x2 : Vec F S1x1024 .f32) (x3 : Vec F S4x704x1024 .bf16) (x4 : Vec F S4x704x1024 .bf16) (x5 : Vec F S4x704x1024 .bf16) (x6 : Vec F S1x512x704 .bf16) (x7 : Vec F S1x512x704 .bf16) (xo10 : Vec F S512x1024 .f32) (xo11 : Vec F S512x1024 .bf16) (xo12 : Vec F S1x1024 .f32) (xo13 : Vec F S1x1024 .f32) : Vec F S512x1024 .bf16 := xo11

/-- Case B stores nothing into output 12, a live window: its staging buffer holds what the point before left. -/
def out0_B_12 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S4x704x1024 .bf16) (harg5 : arg5.IsWhole) (arg6 : Memref sig .tc .vmem S4x704x1024 .bf16) (harg6 : arg6.IsWhole) (arg7 : Memref sig .tc .vmem S4x704x1024 .bf16) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (hc0 : ¬cond0_0 i) (hc1 : ¬cond0_1 i)
    (x0 : Vec F S512x1024 .f32) (x1 : Vec F S512x1024 .f32) (x2 : Vec F S1x1024 .f32) (x3 : Vec F S4x704x1024 .bf16) (x4 : Vec F S4x704x1024 .bf16) (x5 : Vec F S4x704x1024 .bf16) (x6 : Vec F S1x512x704 .bf16) (x7 : Vec F S1x512x704 .bf16) (xo10 : Vec F S512x1024 .f32) (xo11 : Vec F S512x1024 .bf16) (xo12 : Vec F S1x1024 .f32) (xo13 : Vec F S1x1024 .f32) : Vec F S1x1024 .f32 := xo12

/-- Case B stores nothing into output 13, a live window: its staging buffer holds what the point before left. -/
def out0_B_13 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S4x704x1024 .bf16) (harg5 : arg5.IsWhole) (arg6 : Memref sig .tc .vmem S4x704x1024 .bf16) (harg6 : arg6.IsWhole) (arg7 : Memref sig .tc .vmem S4x704x1024 .bf16) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (hc0 : ¬cond0_0 i) (hc1 : ¬cond0_1 i)
    (x0 : Vec F S512x1024 .f32) (x1 : Vec F S512x1024 .f32) (x2 : Vec F S1x1024 .f32) (x3 : Vec F S4x704x1024 .bf16) (x4 : Vec F S4x704x1024 .bf16) (x5 : Vec F S4x704x1024 .bf16) (x6 : Vec F S1x512x704 .bf16) (x7 : Vec F S1x512x704 .bf16) (xo10 : Vec F S512x1024 .f32) (xo11 : Vec F S512x1024 .bf16) (xo12 : Vec F S1x1024 .f32) (xo13 : Vec F S1x1024 .f32) : Vec F S1x1024 .f32 := xo13

/-- Case C's pieces for output 8 are of SEVERAL sizes (2 stores of `S1x512x320`, `S1x512x384`): cut into blocks of `![1, 512, 64]` they tile its block (checked by the kernel's evaluation: Lib/Ring.lean `Piece.tiledBy`), so they cover it. -/
theorem cover0_C_8 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S4x704x1024 .bf16) (harg5 : arg5.IsWhole) (arg6 : Memref sig .tc .vmem S4x704x1024 .bf16) (harg6 : arg6.IsWhole) (arg7 : Memref sig .tc .vmem S4x704x1024 .bf16) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (hc0 : ¬cond0_0 i) (hc1 : cond0_1 i)
    (x0 : Vec F S512x1024 .f32) (x1 : Vec F S512x1024 .f32) (x2 : Vec F S1x1024 .f32) (x3 : Vec F S4x704x1024 .bf16) (x4 : Vec F S4x704x1024 .bf16) (x5 : Vec F S4x704x1024 .bf16) (x6 : Vec F S1x512x704 .bf16) (x7 : Vec F S1x512x704 .bf16) (xo12 : Vec F S1x1024 .f32) (xo13 : Vec F S1x1024 .f32) (y : S1x512x704.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo12 xo13).1, y ∈ pc.1.set :=
  View.cover_of_tiledBy (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo12 xo13).1 ![1, 512, 64] (by sl_kernel_rfl) y

/-- What case C leaves in output 8's staging buffer: its pieces read back over junk. -/
def out0_C_8 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S4x704x1024 .bf16) (harg5 : arg5.IsWhole) (arg6 : Memref sig .tc .vmem S4x704x1024 .bf16) (harg6 : arg6.IsWhole) (arg7 : Memref sig .tc .vmem S4x704x1024 .bf16) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (hc0 : ¬cond0_0 i) (hc1 : cond0_1 i)
    (x0 : Vec F S512x1024 .f32) (x1 : Vec F S512x1024 .f32) (x2 : Vec F S1x1024 .f32) (x3 : Vec F S4x704x1024 .bf16) (x4 : Vec F S4x704x1024 .bf16) (x5 : Vec F S4x704x1024 .bf16) (x6 : Vec F S1x512x704 .bf16) (x7 : Vec F S1x512x704 .bf16) (xo12 : Vec F S1x1024 .f32) (xo13 : Vec F S1x1024 .f32) : Vec F S1x512x704 .bf16 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo12 xo13).1)

/-- Case C's pieces for output 9 are of SEVERAL sizes (2 stores of `S1x512x320`, `S1x512x384`): cut into blocks of `![1, 512, 64]` they tile its block (checked by the kernel's evaluation: Lib/Ring.lean `Piece.tiledBy`), so they cover it. -/
theorem cover0_C_9 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S4x704x1024 .bf16) (harg5 : arg5.IsWhole) (arg6 : Memref sig .tc .vmem S4x704x1024 .bf16) (harg6 : arg6.IsWhole) (arg7 : Memref sig .tc .vmem S4x704x1024 .bf16) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (hc0 : ¬cond0_0 i) (hc1 : cond0_1 i)
    (x0 : Vec F S512x1024 .f32) (x1 : Vec F S512x1024 .f32) (x2 : Vec F S1x1024 .f32) (x3 : Vec F S4x704x1024 .bf16) (x4 : Vec F S4x704x1024 .bf16) (x5 : Vec F S4x704x1024 .bf16) (x6 : Vec F S1x512x704 .bf16) (x7 : Vec F S1x512x704 .bf16) (xo12 : Vec F S1x1024 .f32) (xo13 : Vec F S1x1024 .f32) (y : S1x512x704.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo12 xo13).2.1, y ∈ pc.1.set :=
  View.cover_of_tiledBy (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo12 xo13).2.1 ![1, 512, 64] (by sl_kernel_rfl) y

/-- What case C leaves in output 9's staging buffer: its pieces read back over junk. -/
def out0_C_9 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S4x704x1024 .bf16) (harg5 : arg5.IsWhole) (arg6 : Memref sig .tc .vmem S4x704x1024 .bf16) (harg6 : arg6.IsWhole) (arg7 : Memref sig .tc .vmem S4x704x1024 .bf16) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (hc0 : ¬cond0_0 i) (hc1 : cond0_1 i)
    (x0 : Vec F S512x1024 .f32) (x1 : Vec F S512x1024 .f32) (x2 : Vec F S1x1024 .f32) (x3 : Vec F S4x704x1024 .bf16) (x4 : Vec F S4x704x1024 .bf16) (x5 : Vec F S4x704x1024 .bf16) (x6 : Vec F S1x512x704 .bf16) (x7 : Vec F S1x512x704 .bf16) (xo12 : Vec F S1x1024 .f32) (xo13 : Vec F S1x1024 .f32) : Vec F S1x512x704 .bf16 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo12 xo13).2.1)

/-- Case C's pieces for output 10 tile its block (2 stores of `S512x1024`, checked by the kernel's evaluation: Lib/Ring.lean `Piece.tiledL`, linear in the pieces, through a loop's `@[irreducible]` trip theorem too), so they cover it. -/
theorem cover0_C_10 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S4x704x1024 .bf16) (harg5 : arg5.IsWhole) (arg6 : Memref sig .tc .vmem S4x704x1024 .bf16) (harg6 : arg6.IsWhole) (arg7 : Memref sig .tc .vmem S4x704x1024 .bf16) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (hc0 : ¬cond0_0 i) (hc1 : cond0_1 i)
    (x0 : Vec F S512x1024 .f32) (x1 : Vec F S512x1024 .f32) (x2 : Vec F S1x1024 .f32) (x3 : Vec F S4x704x1024 .bf16) (x4 : Vec F S4x704x1024 .bf16) (x5 : Vec F S4x704x1024 .bf16) (x6 : Vec F S1x512x704 .bf16) (x7 : Vec F S1x512x704 .bf16) (xo12 : Vec F S1x1024 .f32) (xo13 : Vec F S1x1024 .f32) (y : S512x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo12 xo13).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo12 xo13).2.2.1 S512x1024.size (by sl_kernel_rfl) y

/-- What case C leaves in output 10's staging buffer: its pieces read back over junk. -/
def out0_C_10 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S4x704x1024 .bf16) (harg5 : arg5.IsWhole) (arg6 : Memref sig .tc .vmem S4x704x1024 .bf16) (harg6 : arg6.IsWhole) (arg7 : Memref sig .tc .vmem S4x704x1024 .bf16) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (hc0 : ¬cond0_0 i) (hc1 : cond0_1 i)
    (x0 : Vec F S512x1024 .f32) (x1 : Vec F S512x1024 .f32) (x2 : Vec F S1x1024 .f32) (x3 : Vec F S4x704x1024 .bf16) (x4 : Vec F S4x704x1024 .bf16) (x5 : Vec F S4x704x1024 .bf16) (x6 : Vec F S1x512x704 .bf16) (x7 : Vec F S1x512x704 .bf16) (xo12 : Vec F S1x1024 .f32) (xo13 : Vec F S1x1024 .f32) : Vec F S512x1024 .f32 :=
  VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo12 xo13).2.2.1)

/-- Case C's pieces for output 11 tile its block (1 store of `S512x1024`, checked by the kernel's evaluation: Lib/Ring.lean `Piece.tiledL`, linear in the pieces, through a loop's `@[irreducible]` trip theorem too), so they cover it. -/
theorem cover0_C_11 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S4x704x1024 .bf16) (harg5 : arg5.IsWhole) (arg6 : Memref sig .tc .vmem S4x704x1024 .bf16) (harg6 : arg6.IsWhole) (arg7 : Memref sig .tc .vmem S4x704x1024 .bf16) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (hc0 : ¬cond0_0 i) (hc1 : cond0_1 i)
    (x0 : Vec F S512x1024 .f32) (x1 : Vec F S512x1024 .f32) (x2 : Vec F S1x1024 .f32) (x3 : Vec F S4x704x1024 .bf16) (x4 : Vec F S4x704x1024 .bf16) (x5 : Vec F S4x704x1024 .bf16) (x6 : Vec F S1x512x704 .bf16) (x7 : Vec F S1x512x704 .bf16) (xo12 : Vec F S1x1024 .f32) (xo13 : Vec F S1x1024 .f32) (y : S512x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo12 xo13).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo12 xo13).2.2.2.1 S512x1024.size (by sl_kernel_rfl) y

/-- What case C leaves in output 11's staging buffer: its pieces read back over junk. -/
def out0_C_11 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S4x704x1024 .bf16) (harg5 : arg5.IsWhole) (arg6 : Memref sig .tc .vmem S4x704x1024 .bf16) (harg6 : arg6.IsWhole) (arg7 : Memref sig .tc .vmem S4x704x1024 .bf16) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (hc0 : ¬cond0_0 i) (hc1 : cond0_1 i)
    (x0 : Vec F S512x1024 .f32) (x1 : Vec F S512x1024 .f32) (x2 : Vec F S1x1024 .f32) (x3 : Vec F S4x704x1024 .bf16) (x4 : Vec F S4x704x1024 .bf16) (x5 : Vec F S4x704x1024 .bf16) (x6 : Vec F S1x512x704 .bf16) (x7 : Vec F S1x512x704 .bf16) (xo12 : Vec F S1x1024 .f32) (xo13 : Vec F S1x1024 .f32) : Vec F S512x1024 .bf16 :=
  VO0_11.read (Elt F) (VO0_11.writes (Elt F) VO0_11.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo12 xo13).2.2.2.1)

/-- Case C's pieces for output 12 tile its block (1 store of `S1x1024`, checked by the kernel's evaluation: Lib/Ring.lean `Piece.tiledL`, linear in the pieces, through a loop's `@[irreducible]` trip theorem too), so they cover it. -/
theorem cover0_C_12 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S4x704x1024 .bf16) (harg5 : arg5.IsWhole) (arg6 : Memref sig .tc .vmem S4x704x1024 .bf16) (harg6 : arg6.IsWhole) (arg7 : Memref sig .tc .vmem S4x704x1024 .bf16) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (hc0 : ¬cond0_0 i) (hc1 : cond0_1 i)
    (x0 : Vec F S512x1024 .f32) (x1 : Vec F S512x1024 .f32) (x2 : Vec F S1x1024 .f32) (x3 : Vec F S4x704x1024 .bf16) (x4 : Vec F S4x704x1024 .bf16) (x5 : Vec F S4x704x1024 .bf16) (x6 : Vec F S1x512x704 .bf16) (x7 : Vec F S1x512x704 .bf16) (xo12 : Vec F S1x1024 .f32) (xo13 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo12 xo13).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo12 xo13).2.2.2.2.1 S1x1024.size (by sl_kernel_rfl) y

/-- What case C leaves in output 12's staging buffer: its pieces read back over junk. -/
def out0_C_12 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S4x704x1024 .bf16) (harg5 : arg5.IsWhole) (arg6 : Memref sig .tc .vmem S4x704x1024 .bf16) (harg6 : arg6.IsWhole) (arg7 : Memref sig .tc .vmem S4x704x1024 .bf16) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (hc0 : ¬cond0_0 i) (hc1 : cond0_1 i)
    (x0 : Vec F S512x1024 .f32) (x1 : Vec F S512x1024 .f32) (x2 : Vec F S1x1024 .f32) (x3 : Vec F S4x704x1024 .bf16) (x4 : Vec F S4x704x1024 .bf16) (x5 : Vec F S4x704x1024 .bf16) (x6 : Vec F S1x512x704 .bf16) (x7 : Vec F S1x512x704 .bf16) (xo12 : Vec F S1x1024 .f32) (xo13 : Vec F S1x1024 .f32) : Vec F S1x1024 .f32 :=
  VO0_12.read (Elt F) (VO0_12.writes (Elt F) VO0_12.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo12 xo13).2.2.2.2.1)

/-- Case C's pieces for output 13 tile its block (1 store of `S1x1024`, checked by the kernel's evaluation: Lib/Ring.lean `Piece.tiledL`, linear in the pieces, through a loop's `@[irreducible]` trip theorem too), so they cover it. -/
theorem cover0_C_13 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S4x704x1024 .bf16) (harg5 : arg5.IsWhole) (arg6 : Memref sig .tc .vmem S4x704x1024 .bf16) (harg6 : arg6.IsWhole) (arg7 : Memref sig .tc .vmem S4x704x1024 .bf16) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (hc0 : ¬cond0_0 i) (hc1 : cond0_1 i)
    (x0 : Vec F S512x1024 .f32) (x1 : Vec F S512x1024 .f32) (x2 : Vec F S1x1024 .f32) (x3 : Vec F S4x704x1024 .bf16) (x4 : Vec F S4x704x1024 .bf16) (x5 : Vec F S4x704x1024 .bf16) (x6 : Vec F S1x512x704 .bf16) (x7 : Vec F S1x512x704 .bf16) (xo12 : Vec F S1x1024 .f32) (xo13 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo12 xo13).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo12 xo13).2.2.2.2.2.1 S1x1024.size (by sl_kernel_rfl) y

/-- What case C leaves in output 13's staging buffer: its pieces read back over junk. -/
def out0_C_13 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S4x704x1024 .bf16) (harg5 : arg5.IsWhole) (arg6 : Memref sig .tc .vmem S4x704x1024 .bf16) (harg6 : arg6.IsWhole) (arg7 : Memref sig .tc .vmem S4x704x1024 .bf16) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x512x704 .bf16) (harg10 : arg10.IsWhole) (arg11 : Memref sig .tc .vmem S1x512x704 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S1x1024 .f32) (harg15 : arg15.IsWhole) (hc0 : ¬cond0_0 i) (hc1 : cond0_1 i)
    (x0 : Vec F S512x1024 .f32) (x1 : Vec F S512x1024 .f32) (x2 : Vec F S1x1024 .f32) (x3 : Vec F S4x704x1024 .bf16) (x4 : Vec F S4x704x1024 .bf16) (x5 : Vec F S4x704x1024 .bf16) (x6 : Vec F S1x512x704 .bf16) (x7 : Vec F S1x512x704 .bf16) (xo12 : Vec F S1x1024 .f32) (xo13 : Vec F S1x1024 .f32) : Vec F S1x1024 .f32 :=
  VO0_13.read (Elt F) (VO0_13.writes (Elt F) VO0_13.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xo12 xo13).2.2.2.2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S1x512x704 .bf16 × Vec F S1x512x704 .bf16 × Vec F S512x1024 .f32 × Vec F S512x1024 .bf16 × Vec F S1x1024 .f32 × Vec F S1x1024 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 32 = 0 then
      if h1 : (n + 1) % 4 = 0 then
        (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
      else
        False.elim (by have hN : n + 1 < 32 := lt_of_lt_of_eq hn (show cfg0.N = 32 from N_0); omega)
    else
      if h1 : (n + 1) % 4 = 0 then
        (out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2, out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2, out0_C_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2, out0_C_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2, out0_C_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.1 (outsAt0 c n (Nat.lt_of_succ_lt hn)).2.2.2.2.2)
      else
        (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)

/-- `outsAt0` at a point of case A: that case's contents. -/
theorem outsAt0_A (c : Dev nD) (t : Fin cfg0.N) (h0 : t.val % 32 = 0) (h1 : t.val % 4 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) ((hcond0_1 t).mpr h1) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) ((hcond0_1 t).mpr h1) (iblk m c 0 t) (iblk m c 1 t) (iblk m c 2 t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) ((hcond0_1 t).mpr h1) (iblk m c 0 t) (iblk m c 1 t) (iblk m c 2 t) (iblk m c 3 t) (iblk m c 4 t) (iblk m c 5 t) (iblk m c 6 t) (iblk m c 7 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) ((hcond0_1 t).mpr h1) (iblk m c 0 t) (iblk m c 1 t) (iblk m c 2 t) (iblk m c 3 t) (iblk m c 4 t) (iblk m c 5 t) (iblk m c 6 t) (iblk m c 7 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) ((hcond0_1 t).mpr h1) (iblk m c 0 t) (iblk m c 1 t) (iblk m c 2 t) (iblk m c 3 t) (iblk m c 4 t) (iblk m c 5 t) (iblk m c 6 t) (iblk m c 7 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) ((hcond0_1 t).mpr h1) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_pos h1).trans rfl)

/-- `outsAt0` at a point of case B: that case's contents, over what the point before left. -/
theorem outsAt0_B (c : Dev nD) (t : Fin cfg0.N) (h0 : ¬t.val % 32 = 0) (h1 : ¬t.val % 4 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 32 = 0) (h1 : t.val % 4 = 0) :
    outsAt0 m c t.val t.isLt = (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
    | ⟨11, _⟩ => (outsAt0 m c t.val t.isLt).2.2.2.1
    | ⟨12, _⟩ => (outsAt0 m c t.val t.isLt).2.2.2.2.1
    | ⟨13, _⟩ => (outsAt0 m c t.val t.isLt).2.2.2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]
theorem after0_11 (c : Dev nD) (t : Fin cfg0.N) : (dats m 0 c).after 11 t = (outsAt0 m c t.val t.isLt).2.2.2.1 := by dsimp only [dats]
theorem after0_12 (c : Dev nD) (t : Fin cfg0.N) : (dats m 0 c).after 12 t = (outsAt0 m c t.val t.isLt).2.2.2.2.1 := by dsimp only [dats]
theorem after0_13 (c : Dev nD) (t : Fin cfg0.N) : (dats m 0 c).after 13 t = (outsAt0 m c t.val t.isLt).2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- Output 11's contents CARRY through the points that leave it idle: at such a point, its buffer not fresh, the proof data's
    `after` is the point before's (the case there stores nothing into the window and its term says so; a case that stores
    into it is not idle there by `liveAt0_11_κ`) — the hypothesis of Lib/Pipeline/TableIdle.lean `Dat.before_out_traj`. -/
theorem hcarry0_11 (c : Dev nD) : ∀ (t : Fin cfg0.N) (_ : t.val ≠ 0), cfg0.idle 11 (grid0.coords t) = true → cfg0.fresh 11 t.val = false →
    (dats m 0 c).after 11 t = (dats m 0 c).after 11 ⟨t.val - 1, by omega⟩ := by
  intro t _ hi _
  have hN : t.val < 32 := lt_of_lt_of_eq t.isLt (show cfg0.N = 32 from N_0)
  rw [after0_11, after0_11]
  by_cases h0 : t.val % 32 = 0
  · by_cases h1 : t.val % 4 = 0
    · rw [liveAt0_11_A t ((hcond0_0 t).mpr h0) ((hcond0_1 t).mpr h1)] at hi
      exact absurd hi Bool.false_ne_true
    · exfalso; omega
  · by_cases h1 : t.val % 4 = 0
    · rw [liveAt0_11_C t (fun h => h0 ((hcond0_0 t).mp h)) ((hcond0_1 t).mpr h1)] at hi
      exact absurd hi Bool.false_ne_true
    · rw [outsAt0_B m c t h0 h1]
      rfl

/-- Output 12's contents CARRY through the points that leave it idle: at such a point, its buffer not fresh, the proof data's
    `after` is the point before's (the case there stores nothing into the window and its term says so; a case that stores
    into it is not idle there by `liveAt0_12_κ`) — the hypothesis of Lib/Pipeline/TableIdle.lean `Dat.before_out_traj`. -/
theorem hcarry0_12 (c : Dev nD) : ∀ (t : Fin cfg0.N) (_ : t.val ≠ 0), cfg0.idle 12 (grid0.coords t) = true → cfg0.fresh 12 t.val = false →
    (dats m 0 c).after 12 t = (dats m 0 c).after 12 ⟨t.val - 1, by omega⟩ := by
  intro t _ hi _
  have hN : t.val < 32 := lt_of_lt_of_eq t.isLt (show cfg0.N = 32 from N_0)
  rw [after0_12, after0_12]
  by_cases h0 : t.val % 32 = 0
  · by_cases h1 : t.val % 4 = 0
    · rw [liveAt0_12_A t ((hcond0_0 t).mpr h0) ((hcond0_1 t).mpr h1)] at hi
      exact absurd hi Bool.false_ne_true
    · exfalso; omega
  · by_cases h1 : t.val % 4 = 0
    · rw [liveAt0_12_C t (fun h => h0 ((hcond0_0 t).mp h)) ((hcond0_1 t).mpr h1)] at hi
      exact absurd hi Bool.false_ne_true
    · rw [outsAt0_B m c t h0 h1]
      rfl

/-- Output 13's contents CARRY through the points that leave it idle: at such a point, its buffer not fresh, the proof data's
    `after` is the point before's (the case there stores nothing into the window and its term says so; a case that stores
    into it is not idle there by `liveAt0_13_κ`) — the hypothesis of Lib/Pipeline/TableIdle.lean `Dat.before_out_traj`. -/
theorem hcarry0_13 (c : Dev nD) : ∀ (t : Fin cfg0.N) (_ : t.val ≠ 0), cfg0.idle 13 (grid0.coords t) = true → cfg0.fresh 13 t.val = false →
    (dats m 0 c).after 13 t = (dats m 0 c).after 13 ⟨t.val - 1, by omega⟩ := by
  intro t _ hi _
  have hN : t.val < 32 := lt_of_lt_of_eq t.isLt (show cfg0.N = 32 from N_0)
  rw [after0_13, after0_13]
  by_cases h0 : t.val % 32 = 0
  · by_cases h1 : t.val % 4 = 0
    · rw [liveAt0_13_A t ((hcond0_0 t).mpr h0) ((hcond0_1 t).mpr h1)] at hi
      exact absurd hi Bool.false_ne_true
    · exfalso; omega
  · by_cases h1 : t.val % 4 = 0
    · rw [liveAt0_13_C t (fun h => h0 ((hcond0_0 t).mp h)) ((hcond0_1 t).mpr h1)] at hi
      exact absurd hi Bool.false_ne_true
    · rw [outsAt0_B m c t h0 h1]
      rfl
/-- At a point of case B output 10's current staging buffer holds what the body left at the point before: the point is
    not the first, the buffer was not written back between (`flush0_10`), the window is live and uncut (Lib/Pipeline/Frame.lean
    `Dat.before_out_kept`). -/
theorem before0_10_B (c : Dev nD) (t : Fin cfg0.N) (h0 : ¬t.val % 32 = 0) (h1 : ¬t.val % 4 = 0) (d) :
    (dats m 0 c).before 10 t d = (outsAt0 m c (t.val - 1) (Nat.lt_of_le_of_lt (Nat.sub_le _ _) t.isLt)).2.2.1 := by
  have hN : t.val < 32 := lt_of_lt_of_eq t.isLt (show cfg0.N = 32 from N_0)
  rw [Dat.before_out_kept _ 10 rfl t (by omega) (Bool.eq_false_iff.mpr fun h => by have := (flush0_10 _).mp h; dsimp only at this; omega)
    (fun _ => rfl) (fun _ _ => rfl)]
  dsimp only [dats]
/-- At a point of case B output 11's current staging buffer holds what the point before left: the buffer is not fresh
    there (`notFresh0_11_B`: stored into since the region's entry or the last write-back, carried through the points that
    leave it idle by `hcarry0_11`; Lib/Pipeline/TableIdle.lean `Dat.before_out_traj`). -/
theorem before0_11_B (c : Dev nD) (t : Fin cfg0.N) (h0 : ¬t.val % 32 = 0) (h1 : ¬t.val % 4 = 0) (d) :
    (dats m 0 c).before 11 t d = (outsAt0 m c (t.val - 1) (Nat.lt_of_le_of_lt (Nat.sub_le _ _) t.isLt)).2.2.2.1 := by
  rw [Dat.before_out_traj _ 11 rfl (fun _ _ => rfl) (hcarry0_11 m c) t.val t rfl d,
    if_neg (by rw [notFresh0_11_B t (fun h => h0 ((hcond0_0 t).mp h)) (fun h => h1 ((hcond0_1 t).mp h))]; exact Bool.false_ne_true)]
  dsimp only [dats]
/-- At a point of case B output 12's current staging buffer holds what the point before left: the buffer is not fresh
    there (`notFresh0_12_B`: stored into since the region's entry or the last write-back, carried through the points that
    leave it idle by `hcarry0_12`; Lib/Pipeline/TableIdle.lean `Dat.before_out_traj`). -/
theorem before0_12_B (c : Dev nD) (t : Fin cfg0.N) (h0 : ¬t.val % 32 = 0) (h1 : ¬t.val % 4 = 0) (d) :
    (dats m 0 c).before 12 t d = (outsAt0 m c (t.val - 1) (Nat.lt_of_le_of_lt (Nat.sub_le _ _) t.isLt)).2.2.2.2.1 := by
  rw [Dat.before_out_traj _ 12 rfl (fun _ _ => rfl) (hcarry0_12 m c) t.val t rfl d,
    if_neg (by rw [notFresh0_12_B t (fun h => h0 ((hcond0_0 t).mp h)) (fun h => h1 ((hcond0_1 t).mp h))]; exact Bool.false_ne_true)]
  dsimp only [dats]
/-- At a point of case B output 13's current staging buffer holds what the point before left: the buffer is not fresh
    there (`notFresh0_13_B`: stored into since the region's entry or the last write-back, carried through the points that
    leave it idle by `hcarry0_13`; Lib/Pipeline/TableIdle.lean `Dat.before_out_traj`). -/
theorem before0_13_B (c : Dev nD) (t : Fin cfg0.N) (h0 : ¬t.val % 32 = 0) (h1 : ¬t.val % 4 = 0) (d) :
    (dats m 0 c).before 13 t d = (outsAt0 m c (t.val - 1) (Nat.lt_of_le_of_lt (Nat.sub_le _ _) t.isLt)).2.2.2.2.2 := by
  rw [Dat.before_out_traj _ 13 rfl (fun _ _ => rfl) (hcarry0_13 m c) t.val t rfl d,
    if_neg (by rw [notFresh0_13_B t (fun h => h0 ((hcond0_0 t).mp h)) (fun h => h1 ((hcond0_1 t).mp h))]; exact Bool.false_ne_true)]
  dsimp only [dats]
/-- At a point of case C output 12's current staging buffer holds what the point before left: the buffer is not fresh
    there (`notFresh0_12_C`: stored into since the region's entry or the last write-back, carried through the points that
    leave it idle by `hcarry0_12`; Lib/Pipeline/TableIdle.lean `Dat.before_out_traj`). -/
theorem before0_12_C (c : Dev nD) (t : Fin cfg0.N) (h0 : ¬t.val % 32 = 0) (h1 : t.val % 4 = 0) (d) :
    (dats m 0 c).before 12 t d = (outsAt0 m c (t.val - 1) (Nat.lt_of_le_of_lt (Nat.sub_le _ _) t.isLt)).2.2.2.2.1 := by
  rw [Dat.before_out_traj _ 12 rfl (fun _ _ => rfl) (hcarry0_12 m c) t.val t rfl d,
    if_neg (by rw [notFresh0_12_C t (fun h => h0 ((hcond0_0 t).mp h)) ((hcond0_1 t).mpr h1)]; exact Bool.false_ne_true)]
  dsimp only [dats]
/-- At a point of case C output 13's current staging buffer holds what the point before left: the buffer is not fresh
    there (`notFresh0_13_C`: stored into since the region's entry or the last write-back, carried through the points that
    leave it idle by `hcarry0_13`; Lib/Pipeline/TableIdle.lean `Dat.before_out_traj`). -/
theorem before0_13_C (c : Dev nD) (t : Fin cfg0.N) (h0 : ¬t.val % 32 = 0) (h1 : t.val % 4 = 0) (d) :
    (dats m 0 c).before 13 t d = (outsAt0 m c (t.val - 1) (Nat.lt_of_le_of_lt (Nat.sub_le _ _) t.isLt)).2.2.2.2.2 := by
  rw [Dat.before_out_traj _ 13 rfl (fun _ _ => rfl) (hcarry0_13 m c) t.val t rfl d,
    if_neg (by rw [notFresh0_13_C t (fun h => h0 ((hcond0_0 t).mp h)) ((hcond0_1 t).mpr h1)]; exact Bool.false_ne_true)]
  dsimp only [dats]

/-- At a point of case B output 11's buffer, kept as the point before left it, is what the window owes there, written back or not. -/
theorem leaves0_11_B (c : Dev nD) (t : Fin cfg0.N) (h0 : ¬t.val % 32 = 0) (h1 : ¬t.val % 4 = 0) :
    owns (c : Thread nD τ) (ms0_11 t) fullShare (outsAt0 m c (t.val - 1) (Nat.lt_of_le_of_lt (Nat.sub_le _ _) t.isLt)).2.2.2.1
      ⊢ (dats m 0 c).leavesExact 11 t := by
  unfold Dat.leavesExact
  rw [idleAt0_11_B t (fun h => h0 ((hcond0_0 t).mp h)) (fun h => h1 ((hcond0_1 t).mp h))]
  cases hf : (cfg0.win 11).flush t
  · iintro H; iexists default
    rw [before0_11_B m c t h0 h1 _]; iexact H
  · rw [after0_11, outsAt0_B m c t h0 h1]
    iintro H; iexact H

/-- At a point of case B output 12's buffer, kept as the point before left it, is what the window owes there, written back or not. -/
theorem leaves0_12_B (c : Dev nD) (t : Fin cfg0.N) (h0 : ¬t.val % 32 = 0) (h1 : ¬t.val % 4 = 0) :
    owns (c : Thread nD τ) (ms0_12 t) fullShare (outsAt0 m c (t.val - 1) (Nat.lt_of_le_of_lt (Nat.sub_le _ _) t.isLt)).2.2.2.2.1
      ⊢ (dats m 0 c).leavesExact 12 t := by
  unfold Dat.leavesExact
  rw [idleAt0_12_B t (fun h => h0 ((hcond0_0 t).mp h)) (fun h => h1 ((hcond0_1 t).mp h))]
  cases hf : (cfg0.win 12).flush t
  · iintro H; iexists default
    rw [before0_12_B m c t h0 h1 _]; iexact H
  · rw [after0_12, outsAt0_B m c t h0 h1]
    iintro H; iexact H

/-- At a point of case B output 13's buffer, kept as the point before left it, is what the window owes there, written back or not. -/
theorem leaves0_13_B (c : Dev nD) (t : Fin cfg0.N) (h0 : ¬t.val % 32 = 0) (h1 : ¬t.val % 4 = 0) :
    owns (c : Thread nD τ) (ms0_13 t) fullShare (outsAt0 m c (t.val - 1) (Nat.lt_of_le_of_lt (Nat.sub_le _ _) t.isLt)).2.2.2.2.2
      ⊢ (dats m 0 c).leavesExact 13 t := by
  unfold Dat.leavesExact
  rw [idleAt0_13_B t (fun h => h0 ((hcond0_0 t).mp h)) (fun h => h1 ((hcond0_1 t).mp h))]
  cases hf : (cfg0.win 13).flush t
  · iintro H; iexists default
    rw [before0_13_B m c t h0 h1 _]; iexact H
  · rw [after0_13, outsAt0_B m c t h0 h1]
    iintro H; iexact H

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 3600000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl]
  have hN : t.val < 32 := lt_of_lt_of_eq t.isLt (show cfg0.N = 32 from N_0)
  by_cases h0 : t.val % 32 = 0
  · by_cases h1 : t.val % 4 = 0
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11_A t ((hcond0_0 t).mpr h0) ((hcond0_1 t).mpr h1)], after0_11]
      rw [show (dats m 0 c).leavesExact 12 t = owns (c : Thread nD τ) (ms0_12 t) fullShare ((dats m 0 c).after 12 t) from by
      unfold Dat.leavesExact; rw [liveAt0_12_A t ((hcond0_0 t).mpr h0) ((hcond0_1 t).mpr h1)], after0_12]
      rw [show (dats m 0 c).leavesExact 13 t = owns (c : Thread nD τ) (ms0_13 t) fullShare ((dats m 0 c).after 13 t) from by
      unfold Dat.leavesExact; rw [liveAt0_13_A t ((hcond0_0 t).mpr h0) ((hcond0_1 t).mpr h1)], after0_13]
      rw [outsAt0_A m c t h0 h1]
      unfold out0_A_8 out0_A_9 out0_A_10 out0_A_11 out0_A_12 out0_A_13; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_A c (grid0.coords t) _ _ _ _ _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t) (iblk m c 7 t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      iintro ⟨H0, H1, H2, H3, H4, H5, H6, H7, ⟨%e8, H8⟩, ⟨%e9, H9⟩, ⟨%e10, H10⟩, ⟨%e11, H11⟩, ⟨%e12, H12⟩, ⟨%e13, H13⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _)
      unfold owns; iexists _; isplitr
      swap; · iexact H13
      ipureintro; exact View.read_writes_of_cover _ _ _ _ _ (cover0_A_13 c _ _ _ _ _ _ _ _ _ _ _ _ _ _ _ _ _ _ _ _ _ _ _ _ _ _ _ _ _ _ _ _ _ _ _ _ _ _ _)
    · exfalso; omega
  · by_cases h1 : t.val % 4 = 0
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11_C t (fun h => h0 ((hcond0_0 t).mp h)) ((hcond0_1 t).mpr h1)], after0_11]
      rw [show (dats m 0 c).leavesExact 12 t = owns (c : Thread nD τ) (ms0_12 t) fullShare ((dats m 0 c).after 12 t) from by
      unfold Dat.leavesExact; rw [liveAt0_12_C t (fun h => h0 ((hcond0_0 t).mp h)) ((hcond0_1 t).mpr h1)], after0_12]
      rw [show (dats m 0 c).leavesExact 13 t = owns (c : Thread nD τ) (ms0_13 t) fullShare ((dats m 0 c).after 13 t) from by
      unfold Dat.leavesExact; rw [liveAt0_13_C t (fun h => h0 ((hcond0_0 t).mp h)) ((hcond0_1 t).mpr h1)], after0_13]
      rw [outsAt0_C m c t h0 h1]
      simp only [before0_12_C m c t h0 h1, before0_13_C m c t h0 h1]
      unfold out0_C_8 out0_C_9 out0_C_10 out0_C_11 out0_C_12 out0_C_13; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_C c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexact H12
      isplitl [H13]; · iexact H13
      iintro ⟨H0, H1, H2, H3, H4, H5, H6, H7, ⟨%e8, H8⟩, ⟨%e9, H9⟩, ⟨%e10, H10⟩, ⟨%e11, H11⟩, ⟨%e12, H12⟩, ⟨%e13, H13⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_C_9 c _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_C_10 c _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_C_11 c _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_C_12 c _ _ _ _ _ _ _ _ _ _ _ _ _ _ _ _ _ _ _ _ _ _ _ _ _ _ _ _ _ _ _ _ _ _ _ _ _ _ _ _ _)
      unfold owns; iexists _; isplitr
      swap; · iexact H13
      ipureintro; exact View.read_writes_of_cover _ _ _ _ _ (cover0_C_13 c _ _ _ _ _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [outsAt0_B m c t h0 h1]
      simp only [before0_10_B m c t h0 h1, before0_11_B m c t h0 h1, before0_12_B m c t h0 h1, before0_13_B m c t h0 h1]
      unfold out0_B_8 out0_B_9 out0_B_10; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_B c (grid0.coords t) _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _ _ _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexact H10
      isplitl [H11]; · iexact H11
      isplitl [H12]; · iexact H12
      isplitl [H13]; · iexact H13
      iintro ⟨H0, H1, H2, H3, H4, H5, H6, H7, ⟨%e8, H8⟩, ⟨%e9, H9⟩, ⟨%e10, H10⟩, H11, H12, H13⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_B_10 c _ _ _ _ _ _ _ _ _ _ _ _ _ _ _ _ _ _ _ _ _ _ _ _ _ _ _ _ _ _ _ _ _ _ _ _ _ _ _ _ _ _ _)
      isplitl [H11]; · iapply (leaves0_11_B m c t h0 h1); iexact H11
      isplitl [H12]; · iapply (leaves0_12_B m c t h0 h1); iexact H12
      iapply (leaves0_13_B m c t h0 h1); iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_FfnKernelIdeal`'s statement (Defs.lean) at any `F` — Proof.lean cites it at `Bits`:
    `theorem Cert.Proof.claim : Cert.Claim := ⟨Cert.FfnKernelIdeal.Gen.facts, fun m ρ _ => Cert.FfnKernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.FfnKernelIdeal.Gen

end
-- ==== Proof.FfnSame.lean ====
/- The feed-forward layer's backward pass as printed for the kernel's own number formats and as printed for the reals is one text: its
   body, its windows and its host code are equal, over any float values. So the one run gives both frames. -/
module

public import proofs.«01_k».proof.Defs
public import proofs.«01_k».proof.Proof.Gen.FfnKernel
public import proofs.«01_k».proof.Proof.FfnFrame

@[expose] public section

noncomputable section

namespace Cert.FfnSame
open Idealize.ShloMosaic Idealize.SL.Sem

variable {F : FTy → Type} [FloatOps F]

set_option maxHeartbeats 1000000 in
/-- The layer norm's part of the body. -/
theorem part1 : @Cert.FfnKernel.k0_part1 F _ _ = @Cert.FfnKernelIdeal.k0_part1 F _ _ := by
  unfold Cert.FfnKernel.k0_part1 Cert.FfnKernelIdeal.k0_part1
  rfl

set_option maxHeartbeats 1000000 in
/-- The part of the body up to the first columns' hidden cotangent. -/
theorem part2 : @Cert.FfnKernel.k0_part2 F _ _ = @Cert.FfnKernelIdeal.k0_part2 F _ _ := by
  unfold Cert.FfnKernel.k0_part2 Cert.FfnKernelIdeal.k0_part2
  rfl

set_option maxHeartbeats 1000000 in
/-- The part of the body up to the second columns' hidden cotangent. -/
theorem part3 : @Cert.FfnKernel.k0_part3 F _ _ = @Cert.FfnKernelIdeal.k0_part3 F _ _ := by
  unfold Cert.FfnKernel.k0_part3 Cert.FfnKernelIdeal.k0_part3
  rfl

set_option maxHeartbeats 1000000 in
/-- The body. -/
theorem body : @Cert.FfnKernel.cc0_ffn_bwd F _ _ = @Cert.FfnKernelIdeal.cc0_ffn_bwd F _ _ := by
  unfold Cert.FfnKernel.cc0_ffn_bwd Cert.FfnKernelIdeal.cc0_ffn_bwd
  rw [part2, part3]
  rfl

set_option maxHeartbeats 1000000 in
/-- The table of bodies. -/
theorem bodies : @Cert.FfnKernel.defs₀ F _ _ = @Cert.FfnKernelIdeal.defs₀ F _ _ := by
  unfold Cert.FfnKernel.defs₀ Cert.FfnKernelIdeal.defs₀
  rw [body]
  refine congrArg Defs.onTc ?_
  funext l a
  match l, a with
  | 0, (t, s) => rfl

set_option maxHeartbeats 1000000 in
/-- The gated unit's host code. -/
theorem silu : @Cert.FfnKernel.fn_silu.body F _ _ = fun a φ =>
    @Cert.FfnKernelIdeal.fn_silu.body F _ _ a ⟨φ.v0, φ.v1, φ.cst, φ.v2, φ.v3, φ.cst_0, φ.v4, φ.v5, φ.v6⟩ := by
  funext a φ
  unfold Cert.FfnKernel.fn_silu.body Cert.FfnKernelIdeal.fn_silu.body
  rfl

set_option maxHeartbeats 2000000 in
/-- The host code. -/
theorem host : @Cert.FfnKernel.main F _ _ = @Cert.FfnKernelIdeal.main F _ _ := by
  unfold Cert.FfnKernel.main Cert.FfnKernelIdeal.main
  rw [silu]
  rfl

set_option maxHeartbeats 2000000 in
/-- The table of bodies, regions and pipelines. -/
theorem table : @Cert.FfnKernel.defs F _ _ = @Cert.FfnKernelIdeal.defs F _ _ := by
  unfold Cert.FfnKernel.defs Cert.FfnKernelIdeal.defs
  rw [bodies]
  rfl

set_option maxHeartbeats 2000000 in
/-- The layer's backward pass ends, and leaves its arguments alone, at the machine's floats: the one run of its text. -/
theorem frame_kernel : Cert.quiescent_FfnKernel (hFfnKernel := Cert.FfnKernel.Gen.facts) := fun m ρ _ => by
  have h := Cert.FfnKernelIdeal.Gen.frame (F := Bits) m ρ
  rw [host, table]
  exact h

end Cert.FfnSame

end
-- ==== Proof.FfnBwdForm.lean ====
/- The feed-forward layer's backward pass as closed forms: the layer norm's derivative, the gate's derivative, and from
   these the six results, over plain functions of the arguments. -/
module

public import proofs.«01_k».proof.Proof.FfnForm

@[expose] public section

noncomputable section

open Idealize.ShloMosaic

namespace Cert.Ffn

/-- A vector of the model width as one row. -/
abbrev SL : Shape := ⟨2, ![1, 1024]⟩

/-- A row with its mean taken off and its deviation divided out. -/
def xhat (f : Fin 1024 → EReal) (k : Fin 1024) : EReal := (f k - mean f) * rstd f

/-- The derivative of the layer norm in its row `f`, along `h`, the cotangent times the scale. -/
def lnback (f h : Fin 1024 → EReal) (k : Fin 1024) : EReal :=
  rstd f * ((h k - mean h) - xhat f k * mean fun i => h i * xhat f i)

/-- The derivative of the gated unit in its gate. -/
def siluback (x : EReal) : EReal := logi x * (1 + x * (1 - logi x))

variable (X : SX.Idx → EReal) (G U : SWi.Idx → EReal) (D : SWo.Idx → EReal) (g : SV.Idx → EReal) (C : SX.Idx → EReal)

/-- The cotangent of the residual sum. -/
def dzed (t : Fin 4096) (k : Fin 1024) : EReal := lnback (zed X G U D t) (fun i => C (ix3 0 t i) * g (ix1 i)) k

/-- The cotangent of the layer's branch. -/
def dbranch (t : Fin 4096) (k : Fin 1024) : EReal := Ideal.ofBits FTy.f32 1056964608#32 * dzed X G U D g C t k

/-- The cotangent of the gated hidden row. -/
def dhid (t : Fin 4096) (j : Fin 2816) : EReal := ∑ k : Fin 1024, dbranch X G U D g C t k * D (ix2 j k)

/-- The cotangent of the gate. -/
def dgate (t : Fin 4096) (j : Fin 2816) : EReal := dhid X G U D g C t j * lin X U t j * siluback (lin X G t j)

/-- The cotangent of the up projection. -/
def dup (t : Fin 4096) (j : Fin 2816) : EReal := dhid X G U D g C t j * (lin X G t j * logi (lin X G t j))

/-- The cotangent of the activations. -/
def dact (t : Fin 4096) (k : Fin 1024) : EReal :=
  Ideal.ofBits FTy.f32 1068827891#32 * dzed X G U D g C t k
    + ∑ j : Fin 2816, (dgate X G U D g C t j * G (ix2 k j) + dup X G U D g C t j * U (ix2 k j))

/-- The cotangent of the norm's scale. -/
def dscale (k : Fin 1024) : EReal := ∑ t : Fin 4096, C (ix3 0 t k) * xhat (zed X G U D t) k

/-- The cotangent of the norm's shift. -/
def dshift (k : Fin 1024) : EReal := ∑ t : Fin 4096, C (ix3 0 t k)

/-- A function of the model channel as one row. -/
def line (h : Fin 1024 → EReal) : SL.Idx → EReal := fun i => h (i 1)

end Cert.Ffn

end
-- ==== Proof.FfnBwdPay.lean ====
/- The values that the backward body computes at a grid point, as functions of the vectors that it reads. -/
module

public import proofs.«01_k».proof.Proof.FfnFrame
public import proofs.«01_k».proof.Proof.FfnBwdForm
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.FfnKernelIdeal.Value
open Cert.FfnKernelIdeal Cert.FfnKernelIdeal.Gen Cert.Ffn

variable (X Z Y A B : S512x1024.Idx → EReal) (g b : S1x1024.Idx → EReal)

/-- The residual sum's cotangent of a block. -/
theorem pay10 (s : Fin 512) (k : Fin 1024) :
    @Eq EReal (k0_pay10 (F := Ideal) X Z g (ix2 s k))
      (lnback (fun i => Z (ix2 s i)) (fun i => X (ix2 s i) * g (ix2 0 i)) k) := by
  unfold lnback xhat rstd vari mean
  pointwise [k0_pay10, k0_pay9, k0_pay8, k0_pay7, k0_pay6]

/-- The branch's cotangent of a block. -/
theorem pay17 (s : Fin 512) (k : Fin 1024) :
    @Eq EReal (k0_pay17 (F := Ideal) X (ix2 s k)) (Ideal.ofBits FTy.f32 1056964608#32 * X (ix2 s k)) := by
  pointwise [k0_pay17]

/-- The residual path's cotangent of a block. -/
theorem pay16 (s : Fin 512) (k : Fin 1024) :
    @Eq EReal (k0_pay16 (F := Ideal) X (ix2 s k)) (Ideal.ofBits FTy.f32 1068827891#32 * X (ix2 s k)) := by
  pointwise [k0_pay16]

/-- The scale's cotangent of a block. -/
theorem pay11 (k : Fin 1024) :
    @Eq EReal (k0_pay11 (F := Ideal) X Z (ix2 0 k)) (∑ s : Fin 512, X (ix2 s k) * xhat (fun i => Z (ix2 s i)) k) := by
  unfold xhat rstd vari mean
  pointwise [k0_pay11, k0_pay9, k0_pay8, k0_pay7, k0_pay6]

/-- The scale's cotangent, with a block's added. -/
theorem pay14 (k : Fin 1024) :
    @Eq EReal (k0_pay14 (F := Ideal) g b (ix2 0 k)) (b (ix2 0 k) + g (ix2 0 k)) := by
  pointwise [k0_pay14]

/-- The shift's cotangent, with a block's added. -/
theorem pay15 (k : Fin 1024) :
    @Eq EReal (k0_pay15 (F := Ideal) X b (ix2 0 k)) (b (ix2 0 k) + ∑ s : Fin 512, X (ix2 s k)) := by
  pointwise [k0_pay15]

/-- The scale's cotangent starts at zero. -/
theorem pay12 (k : Fin 1024) : @Eq EReal (k0_pay12 (F := Ideal) (ix2 0 k)) 0 := by
  pointwise [k0_pay12]

/-- The shift's cotangent starts at zero. -/
theorem pay13 (k : Fin 1024) : @Eq EReal (k0_pay13 (F := Ideal) (ix2 0 k)) 0 := by
  pointwise [k0_pay13]

variable (W V V' : S1x384x1024.Idx → EReal) (w v v' : S1x320x1024.Idx → EReal) (P Q : S1x512x384.Idx → EReal)
  (p q : S1x512x320.Idx → EReal) (K L M N : S512x384.Idx → EReal) (k' l m' : S512x320.Idx → EReal)

/-- The hidden row's cotangent, first channels. -/
theorem pay19 (s : Fin 512) (n : Fin 384) :
    @Eq EReal (k0_pay19 (F := Ideal) Y W (ix2 s n)) (∑ k : Fin 1024, Y (ix2 s k) * W (ix3 0 n k)) := by
  pointwise [k0_pay19, k0_pay18]

/-- The hidden row's cotangent, last channels. -/
theorem pay28 (s : Fin 512) (n : Fin 320) :
    @Eq EReal (k0_pay28 (F := Ideal) Y w (ix2 s n)) (∑ k : Fin 1024, Y (ix2 s k) * w (ix3 0 n k)) := by
  pointwise [k0_pay28]

/-- The gate, first channels. -/
theorem pay20 (s : Fin 512) (n : Fin 384) : @Eq EReal (k0_pay20 (F := Ideal) P (ix2 s n)) (P (ix3 0 s n)) := by
  pointwise [k0_pay20]

/-- The gate, last channels. -/
theorem pay29 (s : Fin 512) (n : Fin 320) : @Eq EReal (k0_pay29 (F := Ideal) p (ix2 s n)) (p (ix3 0 s n)) := by
  pointwise [k0_pay29]

/-- The logistic of the gate, first channels. -/
theorem pay21 (s : Fin 512) (n : Fin 384) : @Eq EReal (k0_pay21 (F := Ideal) P (ix2 s n)) (logi (P (ix3 0 s n))) := by
  unfold logi
  rw [← zero_sub]
  pointwise [k0_pay21, k0_pay20]

/-- The logistic of the gate, last channels. -/
theorem pay30 (s : Fin 512) (n : Fin 320) : @Eq EReal (k0_pay30 (F := Ideal) p (ix2 s n)) (logi (p (ix3 0 s n))) := by
  unfold logi
  rw [← zero_sub]
  pointwise [k0_pay30, k0_pay29]

/-- The gate's cotangent, first channels. -/
theorem pay22 (s : Fin 512) (n : Fin 384) :
    @Eq EReal (k0_pay22 (F := Ideal) Y W P Q (ix2 s n))
      ((∑ k : Fin 1024, Y (ix2 s k) * W (ix3 0 n k)) * Q (ix3 0 s n) * siluback (P (ix3 0 s n))) := by
  unfold siluback logi
  rw [← zero_sub]
  pointwise [k0_pay22, k0_pay21, k0_pay20, k0_pay19, k0_pay18]

/-- The gate's cotangent, last channels. -/
theorem pay1 (s : Fin 512) (n : Fin 320) :
    @Eq EReal (k0_pay1 (F := Ideal) k' l m' q (ix2 s n))
      (k' (ix2 s n) * q (ix3 0 s n) * (m' (ix2 s n) * (1 + l (ix2 s n) * (1 - m' (ix2 s n))))) := by
  pointwise [k0_pay1]

/-- The up projection's cotangent, first channels. -/
theorem pay24 (s : Fin 512) (n : Fin 384) :
    @Eq EReal (k0_pay24 (F := Ideal) K L M (ix2 s n)) (K (ix2 s n) * (L (ix2 s n) * M (ix2 s n))) := by
  pointwise [k0_pay24]

/-- The up projection's cotangent, last channels. -/
theorem pay2 (s : Fin 512) (n : Fin 320) :
    @Eq EReal (k0_pay2 (F := Ideal) k' l m' (ix2 s n)) (k' (ix2 s n) * (l (ix2 s n) * m' (ix2 s n))) := by
  pointwise [k0_pay2]

/-- The gate's cotangent as stored, first channels. -/
theorem pay25 (s : Fin 512) (n : Fin 384) : @Eq EReal (k0_pay25 (F := Ideal) K (ix3 0 s n)) (K (ix2 s n)) := by
  pointwise [k0_pay25, k0_pay23]

/-- The up projection's cotangent as stored, first channels. -/
theorem pay26 (s : Fin 512) (n : Fin 384) :
    @Eq EReal (k0_pay26 (F := Ideal) K L M (ix3 0 s n)) (K (ix2 s n) * (L (ix2 s n) * M (ix2 s n))) := by
  pointwise [k0_pay26, k0_pay24]

/-- The gate's cotangent as stored, last channels. -/
theorem pay3 (s : Fin 512) (n : Fin 320) :
    @Eq EReal (k0_pay3 (F := Ideal) k' l m' q (ix3 0 s n))
      (k' (ix2 s n) * q (ix3 0 s n) * (m' (ix2 s n) * (1 + l (ix2 s n) * (1 - m' (ix2 s n))))) := by
  pointwise [k0_pay3, k0_pay1]

/-- The up projection's cotangent as stored, last channels. -/
theorem pay4 (s : Fin 512) (n : Fin 320) :
    @Eq EReal (k0_pay4 (F := Ideal) k' l m' (ix3 0 s n)) (k' (ix2 s n) * (l (ix2 s n) * m' (ix2 s n))) := by
  pointwise [k0_pay4, k0_pay2]

/-- The activations' cotangent through a chip's first channels. -/
theorem pay27 (s : Fin 512) (k : Fin 1024) :
    @Eq EReal (k0_pay27 (F := Ideal) K L M N V V' (ix2 s k))
      ((∑ n : Fin 384, N (ix2 s n) * V (ix3 0 n k))
        + ∑ n : Fin 384, (K (ix2 s n) * (L (ix2 s n) * M (ix2 s n))) * V' (ix3 0 n k)) := by
  pointwise [k0_pay27, k0_pay24, k0_pay23]

/-- The activations' cotangent with a chip's added. -/
theorem pay5 (s : Fin 512) (k : Fin 1024) :
    @Eq EReal (k0_pay5 (F := Ideal) A k' l m' q v v' B (ix2 s k))
      (B (ix2 s k) + (A (ix2 s k)
        + ((∑ n : Fin 320, (k' (ix2 s n) * q (ix3 0 s n) * (m' (ix2 s n) * (1 + l (ix2 s n) * (1 - m' (ix2 s n))))) * v (ix3 0 n k))
          + ∑ n : Fin 320, (k' (ix2 s n) * (l (ix2 s n) * m' (ix2 s n))) * v' (ix3 0 n k)))) := by
  pointwise [k0_pay5, k0_pay1, k0_pay2]

end Cert.FfnKernelIdeal.Value

end
-- ==== Proof.FfnBwdBlk.lean ====
/- The backward kernel's side: the blocks that the body reads, through the arguments. -/
module

public import proofs.«01_k».proof.Proof.FfnBwdPay
public import Idealize.ShloMosaic.Lib.Pipeline.ValueKit
public import Idealize.ShloMosaic.Lib.Pipeline.ReadBack
public import Idealize.ShloMosaic.Lib.StableHlo.ReadAt

@[expose] public section

set_option maxRecDepth 16384

noncomputable section

open Idealize.ShloMosaic Idealize.ShloMosaic.TcCoe Idealize.SL.Sem

namespace Cert.FfnKernelIdeal.Value
open Cert.FfnKernelIdeal Cert.FfnKernelIdeal.Gen Cert.Ffn

variable (m : (ℓ : Loc nD τ sig) → Buf (Elt Ideal) ℓ) (c : Dev nD)

/-- The activations. -/
abbrev argX : SX.Idx → EReal := m ((c : Thread nD τ).loc main_arg0)
/-- The gate weight. -/
abbrev argG : SWi.Idx → EReal := m ((c : Thread nD τ).loc main_arg1)
/-- The up weight. -/
abbrev argU : SWi.Idx → EReal := m ((c : Thread nD τ).loc main_arg2)
/-- The down weight. -/
abbrev argD : SWo.Idx → EReal := m ((c : Thread nD τ).loc main_arg3)
/-- The norm's scale. -/
abbrev argS : SV.Idx → EReal := m ((c : Thread nD τ).loc main_arg4)
/-- The output's cotangent. -/
abbrev argC : SX.Idx → EReal := m ((c : Thread nD τ).loc main_arg5)

/-- There are thirty-two grid points. -/
theorem point_lt (p : Fin cfg0.N) : p.val < 32 := p.isLt

/-- The block of window 0 at each grid point. -/
theorem idx0 : ∀ t : Fin cfg0.N, win0_0.index t = ![t.val / 4, 0] := by decide +kernel
/-- The block of window 1 at each grid point. -/
theorem idx1 : ∀ t : Fin cfg0.N, win0_1.index t = ![t.val / 4, 0] := by decide +kernel
/-- The block of window 2 at each grid point. -/
theorem idx2 : ∀ t : Fin cfg0.N, win0_2.index t = ![0, 0] := by decide +kernel
/-- The block of window 3 at each grid point. -/
theorem idx3 : ∀ t : Fin cfg0.N, win0_3.index t = ![0, 0, 0] := by decide +kernel
/-- The block of window 4 at each grid point. -/
theorem idx4 : ∀ t : Fin cfg0.N, win0_4.index t = ![0, 0, 0] := by decide +kernel
/-- The block of window 5 at each grid point. -/
theorem idx5 : ∀ t : Fin cfg0.N, win0_5.index t = ![0, 0, 0] := by decide +kernel
/-- The block of window 6 at each grid point. -/
theorem idx6 : ∀ t : Fin cfg0.N, win0_6.index t = ![t.val % 4, t.val / 4, 0] := by decide +kernel
/-- The block of window 7 at each grid point. -/
theorem idx7 : ∀ t : Fin cfg0.N, win0_7.index t = ![t.val % 4, t.val / 4, 0] := by decide +kernel
/-- The block of window 8 at each grid point. -/
theorem idx8 : ∀ t : Fin cfg0.N, win0_8.index t = ![t.val % 4, t.val / 4, 0] := by decide +kernel
/-- The block of window 9 at each grid point. -/
theorem idx9 : ∀ t : Fin cfg0.N, win0_9.index t = ![t.val % 4, t.val / 4, 0] := by decide +kernel
/-- The block of window 10 at each grid point. -/
theorem idx10 : ∀ t : Fin cfg0.N, win0_10.index t = ![t.val / 4, 0] := by decide +kernel
/-- The block of window 11 at each grid point. -/
theorem idx11 : ∀ t : Fin cfg0.N, win0_11.index t = ![t.val / 4, 0] := by decide +kernel
/-- The block of window 12 at each grid point. -/
theorem idx12 : ∀ t : Fin cfg0.N, win0_12.index t = ![0, 0] := by decide +kernel
/-- The block of window 13 at each grid point. -/
theorem idx13 : ∀ t : Fin cfg0.N, win0_13.index t = ![0, 0] := by decide +kernel

/-- Row `s` of a grid point's block of tokens. -/
def tok (t : Fin cfg0.N) (s : Fin 512) : Fin 4096 := ⟨t.val / 4 * 512 + s.val, by have := point_lt t; omega⟩
/-- Channel `n` of the chip of a grid point. -/
def chan (t : Fin cfg0.N) (n : Fin 704) : Fin 2816 := ⟨t.val % 4 * 704 + n.val, by omega⟩

set_option maxHeartbeats 2000000 in
/-- The cotangent's block in window 0. -/
theorem blk0 (t : Fin cfg0.N) (s : Fin 512) (k : Fin 1024) :
    @Eq EReal ((iblk m c 0 t : S512x1024.Idx → EReal) (ix2 s k)) (argC m c (ix3 0 (tok t s) k)) := by
  have ht := point_lt t
  have e : (iblk m c 0 t : S512x1024.Idx → EReal) (ix2 s k)
      = (V m c (Pipeline.arrRef spec0 0) : S4096x1024.Idx → EReal) (ix2 (tok t s) k) := by
    unfold tok
    blk_point [iblk, idx0 t]
  refine e.trans ?_
  show @Eq EReal _ _
  unfold V
  after_reads_at

set_option maxHeartbeats 2000000 in
/-- The residual sum's block in window 1. -/
theorem blk1 (t : Fin cfg0.N) (s : Fin 512) (k : Fin 1024) :
    @Eq EReal ((iblk m c 1 t : S512x1024.Idx → EReal) (ix2 s k)) (zed (argX m c) (argG m c) (argU m c) (argD m c) (tok t s) k) := by
  have ht := point_lt t
  have e : (iblk m c 1 t : S512x1024.Idx → EReal) (ix2 s k)
      = (V m c (Pipeline.arrRef spec0 1) : S4096x1024.Idx → EReal) (ix2 (tok t s) k) := by
    unfold tok
    blk_point [iblk, idx1 t]
  refine e.trans ?_
  show @Eq EReal _ _
  unfold V
  unfold zed hid logi lin
  after_reads_at

set_option maxHeartbeats 2000000 in
/-- The norm's scale in window 2. -/
theorem blk2 (t : Fin cfg0.N) (k : Fin 1024) :
    @Eq EReal ((iblk m c 2 t : S1x1024.Idx → EReal) (ix2 0 k)) (argS m c (ix1 k)) := by
  have ht := point_lt t
  have e : (iblk m c 2 t : S1x1024.Idx → EReal) (ix2 0 k)
      = (V m c (Pipeline.arrRef spec0 2) : S1x1024.Idx → EReal) (ix2 0 k) := by
    blk_point [iblk, idx2 t]
  refine e.trans ?_
  show @Eq EReal _ _
  unfold V
  after_reads_at

set_option maxHeartbeats 2000000 in
/-- The down weight in window 3, which holds all chips' slices. -/
theorem blk3 (t : Fin cfg0.N) (j : Fin 4) (n : Fin 704) (k : Fin 1024) :
    @Eq EReal ((iblk m c 3 t : S4x704x1024.Idx → EReal) (ix3 j n k)) (argD m c (ix2 ⟨j.val * 704 + n.val, by omega⟩ k)) := by
  have ht := point_lt t
  have e : (iblk m c 3 t : S4x704x1024.Idx → EReal) (ix3 j n k)
      = (V m c (Pipeline.arrRef spec0 3) : S4x704x1024.Idx → EReal) (ix3 j n k) := by
    blk_point [iblk, idx3 t]
  refine e.trans ?_
  show @Eq EReal _ _
  unfold V
  after_reads_at

set_option maxHeartbeats 2000000 in
/-- The gate weight in window 4, which holds all chips' slices. -/
theorem blk4 (t : Fin cfg0.N) (j : Fin 4) (n : Fin 704) (k : Fin 1024) :
    @Eq EReal ((iblk m c 4 t : S4x704x1024.Idx → EReal) (ix3 j n k)) (argG m c (ix2 k ⟨j.val * 704 + n.val, by omega⟩)) := by
  have ht := point_lt t
  have e : (iblk m c 4 t : S4x704x1024.Idx → EReal) (ix3 j n k)
      = (V m c (Pipeline.arrRef spec0 4) : S4x704x1024.Idx → EReal) (ix3 j n k) := by
    blk_point [iblk, idx4 t]
  refine e.trans ?_
  show @Eq EReal _ _
  unfold V
  after_reads_at

set_option maxHeartbeats 2000000 in
/-- The up weight in window 5, which holds all chips' slices. -/
theorem blk5 (t : Fin cfg0.N) (j : Fin 4) (n : Fin 704) (k : Fin 1024) :
    @Eq EReal ((iblk m c 5 t : S4x704x1024.Idx → EReal) (ix3 j n k)) (argU m c (ix2 k ⟨j.val * 704 + n.val, by omega⟩)) := by
  have ht := point_lt t
  have e : (iblk m c 5 t : S4x704x1024.Idx → EReal) (ix3 j n k)
      = (V m c (Pipeline.arrRef spec0 5) : S4x704x1024.Idx → EReal) (ix3 j n k) := by
    blk_point [iblk, idx5 t]
  refine e.trans ?_
  show @Eq EReal _ _
  unfold V
  after_reads_at

set_option maxHeartbeats 2000000 in
/-- The gate's block in window 6. -/
theorem blk6 (t : Fin cfg0.N) (s : Fin 512) (n : Fin 704) :
    @Eq EReal ((iblk m c 6 t : S1x512x704.Idx → EReal) (ix3 0 s n)) (lin (argX m c) (argG m c) (tok t s) (chan t n)) := by
  have ht := point_lt t
  have e : (iblk m c 6 t : S1x512x704.Idx → EReal) (ix3 0 s n)
      = (V m c (Pipeline.arrRef spec0 6) : S4x4096x704.Idx → EReal) (ix3 ⟨t.val % 4, by omega⟩ (tok t s) n) := by
    unfold tok
    blk_point [iblk, idx6 t]
  refine e.trans ?_
  show @Eq EReal _ _
  unfold V
  unfold lin chan
  after_reads_at

set_option maxHeartbeats 2000000 in
/-- The up projection's block in window 7. -/
theorem blk7 (t : Fin cfg0.N) (s : Fin 512) (n : Fin 704) :
    @Eq EReal ((iblk m c 7 t : S1x512x704.Idx → EReal) (ix3 0 s n)) (lin (argX m c) (argU m c) (tok t s) (chan t n)) := by
  have ht := point_lt t
  have e : (iblk m c 7 t : S1x512x704.Idx → EReal) (ix3 0 s n)
      = (V m c (Pipeline.arrRef spec0 7) : S4x4096x704.Idx → EReal) (ix3 ⟨t.val % 4, by omega⟩ (tok t s) n) := by
    unfold tok
    blk_point [iblk, idx7 t]
  refine e.trans ?_
  show @Eq EReal _ _
  unfold V
  unfold lin chan
  after_reads_at

end Cert.FfnKernelIdeal.Value

end
-- ==== Proof.FfnBwdOut.lean ====
/- The backward kernel's side: what the body leaves at a grid point. -/
module

public import proofs.«01_k».proof.Proof.FfnBwdBlk

@[expose] public section

set_option maxRecDepth 16384

noncomputable section

open Idealize.ShloMosaic Idealize.ShloMosaic.TcCoe Idealize.SL.Sem

namespace Cert.FfnKernelIdeal.Value
open Cert.FfnKernelIdeal Cert.FfnKernelIdeal.Gen Cert.Ffn

/-! ### Two stores that cover a block -/

/-- A block of a chip's channels, as two stores leave it: the first channels below, the last channels above. -/
abbrev joined (w : S1x512x320.Idx → EReal) (w' : S1x512x384.Idx → EReal) : S1x512x704.Idx → EReal :=
  View.canon (Val := Elt Ideal) (s := S1x512x704) (e := .bf16)
    [⟨Rect.unit (s := S1x512x704) ![0, 0, 384] ![1, 512, 320] Gen.inb_S1x512x704_S1x512x320_0_0_384, w⟩,
      ⟨Rect.unit (s := S1x512x704) ![0, 0, 0] ![1, 512, 384] Gen.inb_S1x512x704_S1x512x384_0_0_0, w'⟩]

/-- The last channels are the newer store. -/
theorem joined_hi (w : S1x512x320.Idx → EReal) (w' : S1x512x384.Idx → EReal) (s : Fin 512) (n : Fin 320) :
    joined w w' (ix3 0 s ⟨384 + n.val, by omega⟩) = w (ix3 0 s n) := by
  have e := View.canon_cons_emb (Val := Elt Ideal) (s := S1x512x704) (e := .bf16) (Rect.unit (s := S1x512x704) ![0, 0, 384] ![1, 512, 320] Gen.inb_S1x512x704_S1x512x320_0_0_384) w
    [⟨Rect.unit (s := S1x512x704) ![0, 0, 0] ![1, 512, 384] Gen.inb_S1x512x704_S1x512x384_0_0_0, w'⟩] (ix3 0 s n)
  refine Eq.trans (congrArg _ ?_) e
  funext a
  match a with
  | 0 => exact Fin.ext (by show 0 = 0 + 1 * 0; omega)
  | 1 => exact Fin.ext (by show s.val = 0 + 1 * s.val; omega)
  | 2 => exact Fin.ext (by show 384 + n.val = 384 + 1 * n.val; omega)

/-- The first channels are the older store. -/
theorem joined_lo (w : S1x512x320.Idx → EReal) (w' : S1x512x384.Idx → EReal) (s : Fin 512) (n : Fin 384) :
    joined w w' (ix3 0 s ⟨n.val, by omega⟩) = w' (ix3 0 s n) := by
  have e := View.canon_cons_emb (Val := Elt Ideal) (s := S1x512x704) (e := .bf16)
    (Rect.unit (s := S1x512x704) ![0, 0, 0] ![1, 512, 384] Gen.inb_S1x512x704_S1x512x384_0_0_0) w' [] (ix3 0 s n)
  refine Eq.trans (View.canon_cons_of_not_mem _ _ fun h => ?_) (Eq.trans (congrArg _ ?_) e)
  · have h2 : 384 ≤ n.val := ((Rect.mem_set_unit (s := S1x512x704) (off := ![0, 0, 384]) (size := ![1, 512, 320]) (inb := Gen.inb_S1x512x704_S1x512x320_0_0_384)).mp h 2).1
    omega
  funext a
  match a with
  | 0 => exact Fin.ext (by show 0 = 0 + 1 * 0; omega)
  | 1 => exact Fin.ext (by show s.val = 0 + 1 * s.val; omega)
  | 2 => exact Fin.ext (by show n.val = 0 + 1 * n.val; omega)

/-! ### The parts of a block that the body loads -/

/-- The weights' slice of the first channels at each grid point. -/
theorem offLo : ∀ t : Fin cfg0.N, k0_off1 (grid0.coords t) = ![t.val % 4, 0, 0] := (by decide +kernel : ∀ t : Fin grid0.N, _)

/-- The first channels of the slice of a weight that the body reads at a grid point. -/
abbrev sliceLo (t : Fin cfg0.N) (B : S4x704x1024.Idx → EReal) : S1x384x1024.Idx → EReal :=
  View.ld (Val := Elt Ideal) (S := S4x704x1024) (e' := .bf16) B (Rect.unit (s := S4x704x1024) (k0_off1 (grid0.coords t)) ![1, 384, 1024] (Facts₀.k0_off1_inb (grid0.coords t)))

/-- The slice at a grid point is the array of that point's chip. -/
theorem sliceLo_at (t : Fin cfg0.N) (B : S4x704x1024.Idx → EReal) (n : Fin 384) (k : Fin 1024) :
    sliceLo t B (ix3 0 n k) = B (ix3 ⟨t.val % 4, by omega⟩ ⟨n.val, by omega⟩ k) := by
  have h := offLo t
  have h0 : k0_off1 (grid0.coords t) 0 = t.val % 4 := congrFun h 0
  have h1 : k0_off1 (grid0.coords t) 1 = 0 := congrFun h 1
  have h2 : k0_off1 (grid0.coords t) 2 = 0 := congrFun h 2
  refine congrArg B ?_
  funext a
  match a with
  | 0 => exact Fin.ext (by show k0_off1 (grid0.coords t) 0 + 1 * 0 = t.val % 4; omega)
  | 1 => exact Fin.ext (by show k0_off1 (grid0.coords t) 1 + 1 * n.val = n.val; omega)
  | 2 => exact Fin.ext (by show k0_off1 (grid0.coords t) 2 + 1 * k.val = k.val; omega)

/-- The first channels of a block. -/
abbrev partLo (B : S1x512x704.Idx → EReal) : S1x512x384.Idx → EReal :=
  View.ld (Val := Elt Ideal) (S := S1x512x704) (e' := .bf16) B (Rect.unit (s := S1x512x704) ![0, 0, 0] ![1, 512, 384] Gen.inb_S1x512x704_S1x512x384_0_0_0)

/-- Reading the first channels of a block. -/
theorem partLo_at (B : S1x512x704.Idx → EReal) (s : Fin 512) (n : Fin 384) :
    partLo B (ix3 0 s n) = B (ix3 0 s ⟨n.val, by omega⟩) := by
  refine congrArg B ?_
  funext a
  match a with
  | 0 => exact Fin.ext (by show 0 + 1 * 0 = 0; omega)
  | 1 => exact Fin.ext (by show 0 + 1 * s.val = s.val; omega)
  | 2 => exact Fin.ext (by show 0 + 1 * n.val = n.val; omega)

/-- The weights' slice of the last channels at each grid point. -/
theorem offHi : ∀ t : Fin cfg0.N, k0_off2 (grid0.coords t) = ![t.val % 4, 384, 0] := (by decide +kernel : ∀ t : Fin grid0.N, _)

/-- The last channels of the slice of a weight that the body reads at a grid point. -/
abbrev sliceHi (t : Fin cfg0.N) (B : S4x704x1024.Idx → EReal) : S1x320x1024.Idx → EReal :=
  View.ld (Val := Elt Ideal) (S := S4x704x1024) (e' := .bf16) B (Rect.unit (s := S4x704x1024) (k0_off2 (grid0.coords t)) ![1, 320, 1024] (Facts₀.k0_off2_inb (grid0.coords t)))

/-- The slice at a grid point is the array of that point's chip. -/
theorem sliceHi_at (t : Fin cfg0.N) (B : S4x704x1024.Idx → EReal) (n : Fin 320) (k : Fin 1024) :
    sliceHi t B (ix3 0 n k) = B (ix3 ⟨t.val % 4, by omega⟩ ⟨384 + n.val, by omega⟩ k) := by
  have h := offHi t
  have h0 : k0_off2 (grid0.coords t) 0 = t.val % 4 := congrFun h 0
  have h1 : k0_off2 (grid0.coords t) 1 = 384 := congrFun h 1
  have h2 : k0_off2 (grid0.coords t) 2 = 0 := congrFun h 2
  refine congrArg B ?_
  funext a
  match a with
  | 0 => exact Fin.ext (by show k0_off2 (grid0.coords t) 0 + 1 * 0 = t.val % 4; omega)
  | 1 => exact Fin.ext (by show k0_off2 (grid0.coords t) 1 + 1 * n.val = 384 + n.val; omega)
  | 2 => exact Fin.ext (by show k0_off2 (grid0.coords t) 2 + 1 * k.val = k.val; omega)

/-- The last channels of a block. -/
abbrev partHi (B : S1x512x704.Idx → EReal) : S1x512x320.Idx → EReal :=
  View.ld (Val := Elt Ideal) (S := S1x512x704) (e' := .bf16) B (Rect.unit (s := S1x512x704) ![0, 0, 384] ![1, 512, 320] Gen.inb_S1x512x704_S1x512x320_0_0_384)

/-- Reading the last channels of a block. -/
theorem partHi_at (B : S1x512x704.Idx → EReal) (s : Fin 512) (n : Fin 320) :
    partHi B (ix3 0 s n) = B (ix3 0 s ⟨384 + n.val, by omega⟩) := by
  refine congrArg B ?_
  funext a
  match a with
  | 0 => exact Fin.ext (by show 0 + 1 * 0 = 0; omega)
  | 1 => exact Fin.ext (by show 0 + 1 * s.val = s.val; omega)
  | 2 => exact Fin.ext (by show 384 + 1 * n.val = 384 + n.val; omega)

/-! ### The body's outputs at a grid point -/

variable (m : (ℓ : Loc nD τ sig) → Buf (Elt Ideal) ℓ) (c : Dev nD)

/-- The contents after the grid point before. -/
abbrev before (t : Fin cfg0.N) := outsAt0 m c (t.val - 1) (Nat.lt_of_le_of_lt (Nat.sub_le _ _) t.isLt)

/-- The residual sum's cotangent that the body computes from its blocks. -/
abbrev bdz (t : Fin cfg0.N) : S512x1024.Idx → EReal := k0_pay10 (F := Ideal) (iblk m c 0 t) (iblk m c 1 t) (iblk m c 2 t)

/-- The branch's cotangent after a grid point. -/
abbrev dyv (t : Fin cfg0.N) : S512x1024.Idx → EReal := (outsAt0 m c t.val t.isLt).2.2.2.1

set_option maxHeartbeats 2000000 in
/-- A block's first chip writes the branch's cotangent. -/
theorem dyv_first (t : Fin cfg0.N) (h1 : t.val % 4 = 0) : dyv m c t = k0_pay17 (F := Ideal) (bdz m c t) := by
  funext y
  show @Eq EReal _ _
  by_cases h0 : t.val % 32 = 0
  · unfold dyv
    rw [outsAt0_A m c t h0 h1]
    frame_out
  · unfold dyv
    rw [outsAt0_C m c t h0 h1]
    frame_out

/-- The other chips keep it. -/
theorem dyv_rest (t : Fin cfg0.N) (h1 : ¬ t.val % 4 = 0) : dyv m c t = (before m c t).2.2.2.1 := by
  unfold dyv
  rw [outsAt0_B m c t (by omega) h1]
  rfl

/-- The gate's cotangent that the body leaves, first channels. -/
abbrev gateLo (t : Fin cfg0.N) : S512x384.Idx → EReal :=
  k0_pay22 (F := Ideal) (dyv m c t) (sliceLo t (iblk m c 3 t)) (partLo (iblk m c 6 t)) (partLo (iblk m c 7 t))
/-- The hidden row's cotangent, first channels. -/
abbrev hidLo (t : Fin cfg0.N) : S512x384.Idx → EReal := k0_pay19 (F := Ideal) (dyv m c t) (sliceLo t (iblk m c 3 t))
/-- The hidden row's cotangent, last channels. -/
abbrev hidHi (t : Fin cfg0.N) : S512x320.Idx → EReal := k0_pay28 (F := Ideal) (k0_pay18 (dyv m c t)) (sliceHi t (iblk m c 3 t))
/-- The gate, first channels. -/
abbrev gLo (t : Fin cfg0.N) : S512x384.Idx → EReal := k0_pay20 (F := Ideal) (partLo (iblk m c 6 t))
/-- The gate, last channels. -/
abbrev gHi (t : Fin cfg0.N) : S512x320.Idx → EReal := k0_pay29 (F := Ideal) (partHi (iblk m c 6 t))
/-- The logistic of the gate, first channels. -/
abbrev lLo (t : Fin cfg0.N) : S512x384.Idx → EReal := k0_pay21 (F := Ideal) (partLo (iblk m c 6 t))
/-- The logistic of the gate, last channels. -/
abbrev lHi (t : Fin cfg0.N) : S512x320.Idx → EReal := k0_pay30 (F := Ideal) (partHi (iblk m c 6 t))

set_option maxHeartbeats 2000000 in
/-- The gate's cotangent that the body leaves. -/
theorem left8 (t : Fin cfg0.N) (y : S1x512x704.Idx) :
    @Eq EReal ((outsAt0 m c t.val t.isLt).1 y)
      (joined (k0_pay3 (F := Ideal) (hidHi m c t) (gHi m c t) (lHi m c t) (partHi (iblk m c 7 t))) (k0_pay25 (F := Ideal) (gateLo m c t)) y) := by
  by_cases h1 : t.val % 4 = 0
  · unfold gateLo hidHi
    rw [dyv_first m c t h1]
    by_cases h0 : t.val % 32 = 0
    · rw [outsAt0_A m c t h0 h1]
      frame_out
    · rw [outsAt0_C m c t h0 h1]
      frame_out
  · unfold gateLo hidHi
    rw [dyv_rest m c t h1, outsAt0_B m c t (by omega) h1]
    frame_out

set_option maxHeartbeats 2000000 in
/-- The up projection's cotangent that the body leaves. -/
theorem left9 (t : Fin cfg0.N) (y : S1x512x704.Idx) :
    @Eq EReal ((outsAt0 m c t.val t.isLt).2.1 y)
      (joined (k0_pay4 (F := Ideal) (hidHi m c t) (gHi m c t) (lHi m c t)) (k0_pay26 (F := Ideal) (hidLo m c t) (gLo m c t) (lLo m c t)) y) := by
  by_cases h1 : t.val % 4 = 0
  · unfold hidLo hidHi
    rw [dyv_first m c t h1]
    by_cases h0 : t.val % 32 = 0
    · rw [outsAt0_A m c t h0 h1]
      frame_out
    · rw [outsAt0_C m c t h0 h1]
      frame_out
  · unfold hidLo hidHi
    rw [dyv_rest m c t h1, outsAt0_B m c t (by omega) h1]
    frame_out

/-- The activations' cotangent that a grid point adds to. -/
abbrev base (t : Fin cfg0.N) : S512x1024.Idx → EReal :=
  if t.val % 4 = 0 then k0_pay16 (F := Ideal) (bdz m c t) else (before m c t).2.2.1

set_option maxHeartbeats 2000000 in
/-- The activations' cotangent that the body leaves. -/
theorem left10 (t : Fin cfg0.N) (y : S512x1024.Idx) :
    @Eq EReal ((outsAt0 m c t.val t.isLt).2.2.1 y)
      (k0_pay5 (F := Ideal) (k0_pay27 (F := Ideal) (hidLo m c t) (gLo m c t) (lLo m c t) (gateLo m c t) (sliceLo t (iblk m c 4 t)) (sliceLo t (iblk m c 5 t)))
        (hidHi m c t) (gHi m c t) (lHi m c t) (partHi (iblk m c 7 t)) (sliceHi t (iblk m c 4 t)) (sliceHi t (iblk m c 5 t)) (base m c t) y) := by
  by_cases h1 : t.val % 4 = 0
  · unfold gateLo hidLo hidHi base
    rw [dyv_first m c t h1, if_pos h1]
    by_cases h0 : t.val % 32 = 0
    · rw [outsAt0_A m c t h0 h1]
      frame_out
    · rw [outsAt0_C m c t h0 h1]
      frame_out
  · unfold gateLo hidLo hidHi base
    rw [dyv_rest m c t h1, if_neg h1, outsAt0_B m c t (by omega) h1]
    frame_out

set_option maxHeartbeats 2000000 in
/-- The scale's cotangent after the first grid point. -/
theorem start12 (t : Fin cfg0.N) (h0 : t.val % 32 = 0) (y : S1x1024.Idx) :
    @Eq EReal ((outsAt0 m c t.val t.isLt).2.2.2.2.1 y) (k0_pay14 (F := Ideal) (k0_pay11 (F := Ideal) (iblk m c 0 t) (iblk m c 1 t)) (k0_pay12 (F := Ideal)) y) := by
  rw [outsAt0_A m c t h0 (by omega)]
  frame_out

set_option maxHeartbeats 2000000 in
/-- The scale's cotangent after a later block's first chip. -/
theorem more12 (t : Fin cfg0.N) (h0 : ¬ t.val % 32 = 0) (h1 : t.val % 4 = 0) (y : S1x1024.Idx) :
    @Eq EReal ((outsAt0 m c t.val t.isLt).2.2.2.2.1 y) (k0_pay14 (F := Ideal) (k0_pay11 (F := Ideal) (iblk m c 0 t) (iblk m c 1 t)) (before m c t).2.2.2.2.1 y) := by
  rw [outsAt0_C m c t h0 h1]
  frame_out

/-- The other chips keep the scale's cotangent. -/
theorem keep12 (t : Fin cfg0.N) (h1 : ¬ t.val % 4 = 0) (y : S1x1024.Idx) :
    @Eq EReal ((outsAt0 m c t.val t.isLt).2.2.2.2.1 y) ((before m c t).2.2.2.2.1 y) := by
  rw [outsAt0_B m c t (by omega) h1]
  rfl

set_option maxHeartbeats 2000000 in
/-- The shift's cotangent after the first grid point. -/
theorem start13 (t : Fin cfg0.N) (h0 : t.val % 32 = 0) (y : S1x1024.Idx) :
    @Eq EReal ((outsAt0 m c t.val t.isLt).2.2.2.2.2 y) (k0_pay15 (F := Ideal) (k0_pay6 (iblk m c 0 t)) (k0_pay13 (F := Ideal)) y) := by
  rw [outsAt0_A m c t h0 (by omega)]
  frame_out

set_option maxHeartbeats 2000000 in
/-- The shift's cotangent after a later block's first chip. -/
theorem more13 (t : Fin cfg0.N) (h0 : ¬ t.val % 32 = 0) (h1 : t.val % 4 = 0) (y : S1x1024.Idx) :
    @Eq EReal ((outsAt0 m c t.val t.isLt).2.2.2.2.2 y) (k0_pay15 (F := Ideal) (k0_pay6 (iblk m c 0 t)) (before m c t).2.2.2.2.2 y) := by
  rw [outsAt0_C m c t h0 h1]
  frame_out

/-- The other chips keep the shift's cotangent. -/
theorem keep13 (t : Fin cfg0.N) (h1 : ¬ t.val % 4 = 0) (y : S1x1024.Idx) :
    @Eq EReal ((outsAt0 m c t.val t.isLt).2.2.2.2.2 y) ((before m c t).2.2.2.2.2 y) := by
  rw [outsAt0_B m c t (by omega) h1]
  rfl

end Cert.FfnKernelIdeal.Value

end
-- ==== Proof.FfnBwdKer.lean ====
/- The backward kernel's side: the values that the body leaves, and from that the six arrays after the run. -/
module

public import proofs.«01_k».proof.Proof.FfnBwdOut

@[expose] public section

set_option maxRecDepth 16384

noncomputable section

open Idealize.ShloMosaic Idealize.ShloMosaic.TcCoe Idealize.SL.Sem

namespace Cert.FfnKernelIdeal.Value
open Cert.FfnKernelIdeal Cert.FfnKernelIdeal.Gen Cert.Ffn

variable (m : (ℓ : Loc nD τ sig) → Buf (Elt Ideal) ℓ) (c : Dev nD)

/-- The residual sum. -/
abbrev aZed := zed (argX m c) (argG m c) (argU m c) (argD m c)
/-- The residual sum's cotangent. -/
abbrev aDzed := dzed (argX m c) (argG m c) (argU m c) (argD m c) (argS m c) (argC m c)
/-- The branch's cotangent. -/
abbrev aDbranch := dbranch (argX m c) (argG m c) (argU m c) (argD m c) (argS m c) (argC m c)
/-- The hidden row's cotangent. -/
abbrev aDhid := dhid (argX m c) (argG m c) (argU m c) (argD m c) (argS m c) (argC m c)
/-- The gate's cotangent. -/
abbrev aDgate := dgate (argX m c) (argG m c) (argU m c) (argD m c) (argS m c) (argC m c)
/-- The up projection's cotangent. -/
abbrev aDup := dup (argX m c) (argG m c) (argU m c) (argD m c) (argS m c) (argC m c)
/-- The activations' cotangent. -/
abbrev aDact := dact (argX m c) (argG m c) (argU m c) (argD m c) (argS m c) (argC m c)
/-- The scale's cotangent. -/
abbrev aDscale := dscale (argX m c) (argG m c) (argU m c) (argD m c) (argC m c)

/-! ### The values at a grid point -/

/-- A grid point's residual sum, as a row. -/
theorem zed_row (t : Fin cfg0.N) (s : Fin 512) :
    (fun i : Fin 1024 => (iblk m c 1 t : S512x1024.Idx → EReal) (ix2 s i)) = aZed m c (tok t s) :=
  funext fun i => blk1 m c t s i

/-- The residual sum's cotangent at a grid point. -/
theorem bdz_at (t : Fin cfg0.N) (s : Fin 512) (k : Fin 1024) :
    @Eq EReal (bdz m c t (ix2 s k)) (aDzed m c (tok t s) k) := by
  refine (pay10 _ _ _ s k).trans ?_
  exact congrArg₂ (fun a b : Fin 1024 → EReal => lnback a b k) (zed_row m c t s)
    (funext fun i => congrArg₂ (fun a b : EReal => a * b) (blk0 m c t s i) (blk2 m c t i))

/-- Two grid points of one token block have the same tokens. -/
theorem tok_eq (t t' : Fin cfg0.N) (h : t.val / 4 = t'.val / 4) (s : Fin 512) : tok t s = tok t' s :=
  Fin.ext (by show t.val / 4 * 512 + s.val = t'.val / 4 * 512 + s.val; rw [h])

/-- The branch's cotangent at a block's first chip. -/
theorem dyv_start (t : Fin cfg0.N) (h1 : t.val % 4 = 0) (s : Fin 512) (k : Fin 1024) :
    @Eq EReal (dyv m c t (ix2 s k)) (aDbranch m c (tok t s) k) :=
  (congrFun (dyv_first m c t h1) (ix2 s k)).trans ((pay17 _ s k).trans
    (congrArg (fun z : EReal => Ideal.ofBits FTy.f32 1056964608#32 * z) (bdz_at m c t s k)))

/-- The branch's cotangent after any grid point, by its number. -/
theorem dyv_nat (n : Nat) : ∀ (h : n < cfg0.N) (s : Fin 512) (k : Fin 1024),
    @Eq EReal ((outsAt0 m c n h).2.2.2.1 (ix2 s k)) (aDbranch m c (tok ⟨n, h⟩ s) k) := by
  induction n with
  | zero => exact fun h s k => dyv_start m c ⟨0, h⟩ rfl s k
  | succ n ih =>
    intro h s k
    by_cases h1 : (n + 1) % 4 = 0
    · exact dyv_start m c ⟨n + 1, h⟩ h1 s k
    · refine (congrFun (dyv_rest m c ⟨n + 1, h⟩ h1) (ix2 s k)).trans ?_
      refine (ih (Nat.lt_of_succ_lt h) s k).trans ?_
      rw [tok_eq ⟨n, Nat.lt_of_succ_lt h⟩ ⟨n + 1, h⟩ (by show n / 4 = (n + 1) / 4; omega) s]

/-- The branch's cotangent after any grid point. -/
theorem dyv_at (t : Fin cfg0.N) (s : Fin 512) (k : Fin 1024) :
    @Eq EReal (dyv m c t (ix2 s k)) (aDbranch m c (tok t s) k) := dyv_nat m c t.val t.isLt s k

/-- The branch's cotangent in the format of the products. -/
theorem pay18 (Y : S512x1024.Idx → EReal) (s : Fin 512) (k : Fin 1024) :
    @Eq EReal (k0_pay18 (F := Ideal) Y (ix2 s k)) (Y (ix2 s k)) := by
  pointwise [k0_pay18]

/-- A chip's first channels. -/
abbrev lo (n : Fin 384) : Fin 704 := ⟨n.val, by omega⟩
/-- A chip's last channels. -/
abbrev hi (n : Fin 320) : Fin 704 := ⟨384 + n.val, by omega⟩

/-- The hidden row's cotangent, first channels. -/
theorem hidLo_at (t : Fin cfg0.N) (s : Fin 512) (n : Fin 384) :
    @Eq EReal (hidLo m c t (ix2 s n)) (aDhid m c (tok t s) (chan t (lo n))) :=
  (pay19 _ _ s n).trans (Finset.sum_congr rfl fun k _ => congrArg₂ (fun a b : EReal => a * b) (dyv_at m c t s k)
    ((sliceLo_at t _ n k).trans (blk3 m c t _ _ k)))

/-- The hidden row's cotangent, last channels. -/
theorem hidHi_at (t : Fin cfg0.N) (s : Fin 512) (n : Fin 320) :
    @Eq EReal (hidHi m c t (ix2 s n)) (aDhid m c (tok t s) (chan t (hi n))) :=
  (pay28 _ _ s n).trans (Finset.sum_congr rfl fun k _ => congrArg₂ (fun a b : EReal => a * b)
    ((pay18 _ s k).trans (dyv_at m c t s k)) ((sliceHi_at t _ n k).trans (blk3 m c t _ _ k)))

/-- The gate, first channels. -/
theorem gateLo_load (t : Fin cfg0.N) (s : Fin 512) (n : Fin 384) :
    @Eq EReal (partLo (iblk m c 6 t) (ix3 0 s n)) (lin (argX m c) (argG m c) (tok t s) (chan t (lo n))) :=
  (partLo_at _ s n).trans (blk6 m c t s _)

/-- The up projection, first channels. -/
theorem upLo_load (t : Fin cfg0.N) (s : Fin 512) (n : Fin 384) :
    @Eq EReal (partLo (iblk m c 7 t) (ix3 0 s n)) (lin (argX m c) (argU m c) (tok t s) (chan t (lo n))) :=
  (partLo_at _ s n).trans (blk7 m c t s _)

/-- The gate as the body holds it, first channels. -/
theorem gLo_at (t : Fin cfg0.N) (s : Fin 512) (n : Fin 384) :
    @Eq EReal (gLo m c t (ix2 s n)) (lin (argX m c) (argG m c) (tok t s) (chan t (lo n))) :=
  (pay20 _ s n).trans (gateLo_load m c t s n)

/-- The logistic of the gate, first channels. -/
theorem lLo_at (t : Fin cfg0.N) (s : Fin 512) (n : Fin 384) :
    @Eq EReal (lLo m c t (ix2 s n)) (logi (lin (argX m c) (argG m c) (tok t s) (chan t (lo n)))) :=
  (pay21 _ s n).trans (congrArg logi (gateLo_load m c t s n))

/-- The up projection's cotangent from the body's values, first channels. -/
theorem dupLo (t : Fin cfg0.N) (s : Fin 512) (n : Fin 384) :
    @Eq EReal ((hidLo m c t (ix2 s n) : EReal) * ((gLo m c t (ix2 s n) : EReal) * (lLo m c t (ix2 s n) : EReal)))
      (aDup m c (tok t s) (chan t (lo n))) :=
  congrArg₂ (fun a b : EReal => a * b) (hidLo_at m c t s n)
    (congrArg₂ (fun a b : EReal => a * b) (gLo_at m c t s n) (lLo_at m c t s n))

/-- The gate, last channels. -/
theorem gateHi_load (t : Fin cfg0.N) (s : Fin 512) (n : Fin 320) :
    @Eq EReal (partHi (iblk m c 6 t) (ix3 0 s n)) (lin (argX m c) (argG m c) (tok t s) (chan t (hi n))) :=
  (partHi_at _ s n).trans (blk6 m c t s _)

/-- The up projection, last channels. -/
theorem upHi_load (t : Fin cfg0.N) (s : Fin 512) (n : Fin 320) :
    @Eq EReal (partHi (iblk m c 7 t) (ix3 0 s n)) (lin (argX m c) (argU m c) (tok t s) (chan t (hi n))) :=
  (partHi_at _ s n).trans (blk7 m c t s _)

/-- The gate as the body holds it, last channels. -/
theorem gHi_at (t : Fin cfg0.N) (s : Fin 512) (n : Fin 320) :
    @Eq EReal (gHi m c t (ix2 s n)) (lin (argX m c) (argG m c) (tok t s) (chan t (hi n))) :=
  (pay29 _ s n).trans (gateHi_load m c t s n)

/-- The logistic of the gate, last channels. -/
theorem lHi_at (t : Fin cfg0.N) (s : Fin 512) (n : Fin 320) :
    @Eq EReal (lHi m c t (ix2 s n)) (logi (lin (argX m c) (argG m c) (tok t s) (chan t (hi n)))) :=
  (pay30 _ s n).trans (congrArg logi (gateHi_load m c t s n))

/-- The up projection's cotangent from the body's values, last channels. -/
theorem dupHi (t : Fin cfg0.N) (s : Fin 512) (n : Fin 320) :
    @Eq EReal ((hidHi m c t (ix2 s n) : EReal) * ((gHi m c t (ix2 s n) : EReal) * (lHi m c t (ix2 s n) : EReal)))
      (aDup m c (tok t s) (chan t (hi n))) :=
  congrArg₂ (fun a b : EReal => a * b) (hidHi_at m c t s n)
    (congrArg₂ (fun a b : EReal => a * b) (gHi_at m c t s n) (lHi_at m c t s n))

/-- The gate's cotangent, first channels. -/
theorem gateLo_at (t : Fin cfg0.N) (s : Fin 512) (n : Fin 384) :
    @Eq EReal (gateLo m c t (ix2 s n)) (aDgate m c (tok t s) (chan t (lo n))) :=
  (pay22 _ _ _ _ s n).trans (congrArg₂ (fun a b : EReal => a * b)
    (congrArg₂ (fun a b : EReal => a * b) ((pay19 _ _ s n).symm.trans (hidLo_at m c t s n)) (upLo_load m c t s n))
    (congrArg siluback (gateLo_load m c t s n)))

/-- The gate's cotangent from the body's values, last channels. -/
theorem dgateHi (t : Fin cfg0.N) (s : Fin 512) (n : Fin 320) :
    @Eq EReal ((hidHi m c t (ix2 s n) : EReal) * (partHi (iblk m c 7 t) (ix3 0 s n) : EReal)
        * ((lHi m c t (ix2 s n) : EReal) * (1 + (gHi m c t (ix2 s n) : EReal) * (1 - (lHi m c t (ix2 s n) : EReal)))))
      (aDgate m c (tok t s) (chan t (hi n))) :=
  congrArg₂ (fun a b : EReal => a * b)
    (congrArg₂ (fun a b : EReal => a * b) (hidHi_at m c t s n) (upHi_load m c t s n))
    (congrArg₂ (fun a b : EReal => a * (1 + b * (1 - a))) (lHi_at m c t s n) (gHi_at m c t s n))

/-- A channel of a chip is among its first or its last. -/
theorem lo_or_hi (P : Fin 704 → Prop) (h : ∀ n, P (lo n)) (h' : ∀ n, P (hi n)) (n : Fin 704) : P n := by
  by_cases hn : n.val < 384
  · exact h ⟨n.val, hn⟩
  · have := h' ⟨n.val - 384, by omega⟩
    have e : hi ⟨n.val - 384, by omega⟩ = n := Fin.ext (by show 384 + (n.val - 384) = n.val; omega)
    rwa [e] at this

/-- The gate's cotangent that the body leaves at a grid point. -/
theorem out8 (t : Fin cfg0.N) (s : Fin 512) (n : Fin 704) :
    @Eq EReal ((outsAt0 m c t.val t.isLt).1 (ix3 0 s n)) (aDgate m c (tok t s) (chan t n)) := by
  refine (left8 m c t (ix3 0 s n)).trans ?_
  refine lo_or_hi (fun n => joined _ _ (ix3 0 s n) = aDgate m c (tok t s) (chan t n)) (fun n => ?_) (fun n => ?_) n
  · exact (joined_lo _ _ s n).trans ((pay25 _ s n).trans (gateLo_at m c t s n))
  · exact (joined_hi _ _ s n).trans ((pay3 _ _ _ _ s n).trans (dgateHi m c t s n))

/-- The up projection's cotangent that the body leaves at a grid point. -/
theorem out9 (t : Fin cfg0.N) (s : Fin 512) (n : Fin 704) :
    @Eq EReal ((outsAt0 m c t.val t.isLt).2.1 (ix3 0 s n)) (aDup m c (tok t s) (chan t n)) := by
  refine (left9 m c t (ix3 0 s n)).trans ?_
  refine lo_or_hi (fun n => joined _ _ (ix3 0 s n) = aDup m c (tok t s) (chan t n)) (fun n => ?_) (fun n => ?_) n
  · exact (joined_lo _ _ s n).trans ((pay26 _ _ _ s n).trans (dupLo m c t s n))
  · exact (joined_hi _ _ s n).trans ((pay4 _ _ _ s n).trans (dupHi m c t s n))

/-! ### The activations' cotangent -/

/-- What channel `j` adds to the activations' cotangent. -/
def term (r : Fin 4096) (k : Fin 1024) (j : Fin 2816) : EReal :=
  aDgate m c r j * argG m c (ix2 k j) + aDup m c r j * argU m c (ix2 k j)

/-- What a grid point's chip adds to the activations' cotangent. -/
def add (t : Fin cfg0.N) (s : Fin 512) (k : Fin 1024) : EReal := ∑ n : Fin 704, term m c (tok t s) k (chan t n)

/-- A chip's sum, by its first and its last channels. -/
theorem add_split (t : Fin cfg0.N) (s : Fin 512) (k : Fin 1024) :
    add m c t s k = (∑ n : Fin 384, term m c (tok t s) k (chan t (lo n))) + ∑ n : Fin 320, term m c (tok t s) k (chan t (hi n)) :=
  Fin.sum_univ_add (a := 384) (b := 320) fun n => term m c (tok t s) k (chan t n)

/-- The body adds its chip's sum. -/
theorem out10 (t : Fin cfg0.N) (s : Fin 512) (k : Fin 1024) :
    @Eq EReal ((outsAt0 m c t.val t.isLt).2.2.1 (ix2 s k)) (base m c t (ix2 s k) + add m c t s k) := by
  refine (left10 m c t (ix2 s k)).trans ((pay5 _ _ _ _ _ _ _ _ s k).trans ?_)
  refine congrArg (fun z : EReal => base m c t (ix2 s k) + z) ?_
  rw [add_split]
  refine congrArg₂ (fun a b : EReal => a + b) ?_ ?_
  · refine (pay27 _ _ _ _ _ _ s k).trans ?_
    refine Eq.trans (congrArg₂ (fun a b : EReal => a + b)
      (Finset.sum_congr rfl fun n _ => congrArg₂ (fun a b : EReal => a * b) (gateLo_at m c t s n) ((sliceLo_at t _ n k).trans (blk4 m c t _ _ k)))
      (Finset.sum_congr rfl fun n _ => congrArg₂ (fun a b : EReal => a * b) (dupLo m c t s n) ((sliceLo_at t _ n k).trans (blk5 m c t _ _ k)))) ?_
    exact Finset.sum_add_distrib.symm
  · refine Eq.trans (congrArg₂ (fun a b : EReal => a + b)
      (Finset.sum_congr rfl fun n _ => congrArg₂ (fun a b : EReal => a * b) (dgateHi m c t s n) ((sliceHi_at t _ n k).trans (blk4 m c t _ _ k)))
      (Finset.sum_congr rfl fun n _ => congrArg₂ (fun a b : EReal => a * b) (dupHi m c t s n) ((sliceHi_at t _ n k).trans (blk5 m c t _ _ k)))) ?_
    exact Finset.sum_add_distrib.symm

/-- The first chip adds to the residual path's cotangent. -/
theorem out10_first (t : Fin cfg0.N) (h1 : t.val % 4 = 0) (s : Fin 512) (k : Fin 1024) :
    @Eq EReal ((outsAt0 m c t.val t.isLt).2.2.1 (ix2 s k))
      (Ideal.ofBits FTy.f32 1068827891#32 * aDzed m c (tok t s) k + add m c t s k) := by
  refine (out10 m c t s k).trans (congrArg (fun z : EReal => z + add m c t s k) ?_)
  unfold base
  rw [if_pos h1]
  exact (pay16 _ s k).trans (congrArg (fun z : EReal => Ideal.ofBits FTy.f32 1068827891#32 * z) (bdz_at m c t s k))

/-- The other chips add to what they find. -/
theorem out10_rest (t : Fin cfg0.N) (h1 : ¬ t.val % 4 = 0) (s : Fin 512) (k : Fin 1024) :
    @Eq EReal ((outsAt0 m c t.val t.isLt).2.2.1 (ix2 s k)) ((before m c t).2.2.1 (ix2 s k) + add m c t s k) := by
  refine (out10 m c t s k).trans (congrArg (fun z : EReal => z + add m c t s k) ?_)
  unfold base
  rw [if_neg h1]

/-- A chip's sum, by the chip's number. -/
theorem add_at (t t' : Fin cfg0.N) (h : t.val / 4 = t'.val / 4) (s : Fin 512) (k : Fin 1024) (q : Nat) (hq : t.val % 4 * 704 = q)
    (hb : q + 704 ≤ 2816) :
    add m c t s k = ∑ n : Fin 704, term m c (tok t' s) k ⟨q + n.val, by omega⟩ := by
  subst hq
  unfold add
  rw [tok_eq t t' h s]
  rfl

/-- After the last chip the block holds the activations' cotangent. -/
theorem out10_last (t : Fin cfg0.N) (h2 : t.val % 4 = 3) (s : Fin 512) (k : Fin 1024) :
    @Eq EReal ((outsAt0 m c t.val t.isLt).2.2.1 (ix2 s k)) (aDact m c (tok t s) k) := by
  have ht := point_lt t
  have l1 : t.val - 1 < cfg0.N := Nat.lt_of_le_of_lt (Nat.sub_le _ _) t.isLt
  have l2 : t.val - 1 - 1 < cfg0.N := Nat.lt_of_le_of_lt (Nat.sub_le _ _) l1
  have l3 : t.val - 1 - 1 - 1 < cfg0.N := Nat.lt_of_le_of_lt (Nat.sub_le _ _) l2
  have s0 := out10_rest m c t (by omega) s k
  have s1 := out10_rest m c ⟨t.val - 1, l1⟩ (by show ¬ (t.val - 1) % 4 = 0; omega) s k
  have s2 := out10_rest m c ⟨t.val - 1 - 1, l2⟩ (by show ¬ (t.val - 1 - 1) % 4 = 0; omega) s k
  have s3 := out10_first m c ⟨t.val - 1 - 1 - 1, l3⟩ (by show (t.val - 1 - 1 - 1) % 4 = 0; omega) s k
  have a0 := add_at m c t t rfl s k 2112 (by omega) (by omega)
  have a1 := add_at m c ⟨t.val - 1, l1⟩ t (by show (t.val - 1) / 4 = t.val / 4; omega) s k 1408 (by show (t.val - 1) % 4 * 704 = 1408; omega) (by omega)
  have a2 := add_at m c ⟨t.val - 1 - 1, l2⟩ t (by show (t.val - 1 - 1) / 4 = t.val / 4; omega) s k 704 (by show (t.val - 1 - 1) % 4 * 704 = 704; omega) (by omega)
  have a3 := add_at m c ⟨t.val - 1 - 1 - 1, l3⟩ t (by show (t.val - 1 - 1 - 1) / 4 = t.val / 4; omega) s k 0 (by show (t.val - 1 - 1 - 1) % 4 * 704 = 0; omega) (by omega)
  rw [tok_eq ⟨t.val - 1 - 1 - 1, l3⟩ t (by show (t.val - 1 - 1 - 1) / 4 = t.val / 4; omega) s] at s3
  unfold aDact dact
  show @Eq EReal _ (_ + ∑ j : Fin 2816, term m c (tok t s) k j)
  rw [sum_chips, ← add_assoc, ← add_assoc, ← add_assoc]
  refine s0.trans ?_
  rw [a0]
  refine congrArg (fun z : EReal => z + _) ?_
  refine s1.trans ?_
  rw [a1]
  refine congrArg (fun z : EReal => z + _) ?_
  refine s2.trans ?_
  rw [a2]
  refine congrArg (fun z : EReal => z + _) ?_
  refine s3.trans ?_
  rw [a3]
  simp only [Nat.zero_add]

/-! ### The norm's cotangents -/

/-- The sum of a row function over token block `b`. -/
def blockSum (f : Fin 4096 → EReal) (b : Nat) : EReal := ∑ s : Fin 512, f ⟨(b * 512 + s.val) % 4096, Nat.mod_lt _ (by decide)⟩

/-- A grid point's token block. -/
theorem blockSum_at (f : Fin 4096 → EReal) (t : Fin cfg0.N) : ∑ s : Fin 512, f (tok t s) = blockSum f (t.val / 4) := by
  have ht := point_lt t
  refine Finset.sum_congr rfl fun s _ => congrArg f (Fin.ext ?_)
  show t.val / 4 * 512 + s.val = (t.val / 4 * 512 + s.val) % 4096
  omega

/-- All token blocks together. -/
theorem sum_blocks (f : Fin 4096 → EReal) : ∑ b ∈ Finset.range 8, blockSum f b = ∑ r : Fin 4096, f r := by
  rw [Finset.sum_range]
  refine Eq.trans ?_ (Fin.sum_mul_add_fin 8 512 f)
  refine Finset.sum_congr rfl fun b _ => Finset.sum_congr rfl fun s _ => congrArg f (Fin.ext ?_)
  show (b.val * 512 + s.val) % 4096 = b.val * 512 + s.val
  omega

/-- A block's part of the scale's cotangent. -/
theorem scale_part (t : Fin cfg0.N) (b : S1x1024.Idx → EReal) (k : Fin 1024) :
    @Eq EReal (k0_pay14 (F := Ideal) (k0_pay11 (F := Ideal) (iblk m c 0 t) (iblk m c 1 t)) b (ix2 0 k))
      (b (ix2 0 k) + blockSum (fun r => argC m c (ix3 0 r k) * xhat (aZed m c r) k) (t.val / 4)) := by
  refine (pay14 _ _ k).trans (congrArg (fun z : EReal => b (ix2 0 k) + z) ?_)
  refine (pay11 _ _ k).trans (Eq.trans ?_ (blockSum_at (fun r => argC m c (ix3 0 r k) * xhat (aZed m c r) k) t))
  exact Finset.sum_congr rfl fun s _ => congrArg₂ (fun (a : EReal) (f : Fin 1024 → EReal) => a * xhat f k) (blk0 m c t s k) (zed_row m c t s)

/-- The scale's cotangent after any grid point, by its number. -/
theorem scale_nat (k : Fin 1024) (n : Nat) : ∀ h : n < cfg0.N,
    @Eq EReal ((outsAt0 m c n h).2.2.2.2.1 (ix2 0 k)) (∑ b ∈ Finset.range (n / 4 + 1), blockSum (fun r => argC m c (ix3 0 r k) * xhat (aZed m c r) k) b) := by
  induction n with
  | zero =>
    intro h
    refine (start12 m c ⟨0, h⟩ rfl (ix2 0 k)).trans ((scale_part m c ⟨0, h⟩ _ k).trans ?_)
    rw [pay12 k, zero_add]
    simp only [Nat.zero_div, Nat.zero_add, Finset.sum_range_one]
  | succ n ih =>
    intro h
    have hN := point_lt ⟨n + 1, h⟩
    have hn : n + 1 < 32 := hN
    by_cases h1 : (n + 1) % 4 = 0
    · refine (more12 m c ⟨n + 1, h⟩ (by show ¬ (n + 1) % 32 = 0; omega) h1 (ix2 0 k)).trans ((scale_part m c ⟨n + 1, h⟩ _ k).trans ?_)
      have e : (n + 1) / 4 = n / 4 + 1 := by omega
      show @Eq EReal (_ + blockSum _ ((n + 1) / 4)) _
      rw [e, Finset.sum_range_succ]
      exact congrArg (fun z : EReal => z + _) (ih (Nat.lt_of_succ_lt h))
    · refine (keep12 m c ⟨n + 1, h⟩ h1 (ix2 0 k)).trans ?_
      have e : (n + 1) / 4 = n / 4 := by omega
      rw [e]
      exact ih (Nat.lt_of_succ_lt h)

/-- The scale's cotangent after the last grid point. -/
theorem scale_last (t : Fin cfg0.N) (h : t.val % 32 = 31) (k : Fin 1024) :
    @Eq EReal ((outsAt0 m c t.val t.isLt).2.2.2.2.1 (ix2 0 k)) (aDscale m c k) := by
  have ht := point_lt t
  have e : t.val / 4 + 1 = 8 := by omega
  refine (scale_nat m c k t.val t.isLt).trans ?_
  rw [e]
  exact sum_blocks _

/-- The cotangent in the format of the sums. -/
theorem pay6 (X : S512x1024.Idx → EReal) (s : Fin 512) (k : Fin 1024) :
    @Eq EReal (k0_pay6 (F := Ideal) X (ix2 s k)) (X (ix2 s k)) := by
  pointwise [k0_pay6]

/-- A block's part of the shift's cotangent. -/
theorem shift_part (t : Fin cfg0.N) (b : S1x1024.Idx → EReal) (k : Fin 1024) :
    @Eq EReal (k0_pay15 (F := Ideal) (k0_pay6 (iblk m c 0 t)) b (ix2 0 k))
      (b (ix2 0 k) + blockSum (fun r => argC m c (ix3 0 r k)) (t.val / 4)) := by
  refine (pay15 _ _ k).trans (congrArg (fun z : EReal => b (ix2 0 k) + z) ?_)
  refine Eq.trans ?_ (blockSum_at (fun r => argC m c (ix3 0 r k)) t)
  exact Finset.sum_congr rfl fun s _ => (pay6 _ s k).trans (blk0 m c t s k)

/-- The shift's cotangent after any grid point, by its number. -/
theorem shift_nat (k : Fin 1024) (n : Nat) : ∀ h : n < cfg0.N,
    @Eq EReal ((outsAt0 m c n h).2.2.2.2.2 (ix2 0 k)) (∑ b ∈ Finset.range (n / 4 + 1), blockSum (fun r => argC m c (ix3 0 r k)) b) := by
  induction n with
  | zero =>
    intro h
    refine (start13 m c ⟨0, h⟩ rfl (ix2 0 k)).trans ((shift_part m c ⟨0, h⟩ _ k).trans ?_)
    rw [pay13 k, zero_add]
    simp only [Nat.zero_div, Nat.zero_add, Finset.sum_range_one]
  | succ n ih =>
    intro h
    have hN := point_lt ⟨n + 1, h⟩
    have hn : n + 1 < 32 := hN
    by_cases h1 : (n + 1) % 4 = 0
    · refine (more13 m c ⟨n + 1, h⟩ (by show ¬ (n + 1) % 32 = 0; omega) h1 (ix2 0 k)).trans ((shift_part m c ⟨n + 1, h⟩ _ k).trans ?_)
      have e : (n + 1) / 4 = n / 4 + 1 := by omega
      show @Eq EReal (_ + blockSum _ ((n + 1) / 4)) _
      rw [e, Finset.sum_range_succ]
      exact congrArg (fun z : EReal => z + _) (ih (Nat.lt_of_succ_lt h))
    · refine (keep13 m c ⟨n + 1, h⟩ h1 (ix2 0 k)).trans ?_
      have e : (n + 1) / 4 = n / 4 := by omega
      rw [e]
      exact ih (Nat.lt_of_succ_lt h)

/-- The shift's cotangent after the last grid point. -/
theorem shift_last (t : Fin cfg0.N) (h : t.val % 32 = 31) (k : Fin 1024) :
    @Eq EReal ((outsAt0 m c t.val t.isLt).2.2.2.2.2 (ix2 0 k)) (dshift (argC m c) k) := by
  have ht := point_lt t
  have e : t.val / 4 + 1 = 8 := by omega
  refine (shift_nat m c k t.val t.isLt).trans ?_
  rw [e]
  exact sum_blocks _

/-! ### The result arrays after the run -/

/-- The gate's cotangent at the end of the grid. -/
theorem arr8 : (dats m 0 c).arrAt 8 cfg0.N = chips (aDgate m c) := by
  refine (dats m 0 c).arrAt_eq_of_covers 8 _ (by decide +kernel) fun t hf y => ?_
  blk_simp
  rw [after0_8]
  idx_vars y
  have ht := point_lt t
  obtain rfl : y0 = 0 := Fin.ext (by omega)
  have e : ((View.whole main_v29_0).slice (win0_8.rect t)).emb (ix3 0 y1 y2)
      = ix3 ⟨t.val % 4, by omega⟩ (tok t y1) y2 := by
    unfold tok
    blk_ext [idx8 t]
  rw [e]
  exact out8 m c t y1 y2

/-- The up projection's cotangent at the end of the grid. -/
theorem arr9 : (dats m 0 c).arrAt 9 cfg0.N = chips (aDup m c) := by
  refine (dats m 0 c).arrAt_eq_of_covers 9 _ (by decide +kernel) fun t hf y => ?_
  blk_simp
  rw [after0_9]
  idx_vars y
  have ht := point_lt t
  obtain rfl : y0 = 0 := Fin.ext (by omega)
  have e : ((View.whole main_v29_1).slice (win0_9.rect t)).emb (ix3 0 y1 y2)
      = ix3 ⟨t.val % 4, by omega⟩ (tok t y1) y2 := by
    unfold tok
    blk_ext [idx9 t]
  rw [e]
  exact out9 m c t y1 y2

/-- The activations' cotangent at the end of the grid. -/
theorem arr10 : (dats m 0 c).arrAt 10 cfg0.N = rows (aDact m c) := by
  refine (dats m 0 c).arrAt_eq_of_covers 10 _ (by decide +kernel) fun t hf y => ?_
  have h2 : t.val % 4 = 3 := (flush0_10 t).mp hf
  blk_simp
  rw [after0_10]
  idx_vars y
  have ht := point_lt t
  have e : ((View.whole main_v29_2).slice (win0_10.rect t)).emb (ix2 y0 y1) = ix2 (tok t y0) y1 := by
    unfold tok
    blk_ext [idx10 t]
  rw [e]
  exact out10_last m c t h2 y0 y1

/-- The branch's cotangent at the end of the grid. -/
theorem arr11 : (dats m 0 c).arrAt 11 cfg0.N = rows (aDbranch m c) := by
  refine (dats m 0 c).arrAt_eq_of_covers 11 _ (by decide +kernel) fun t hf y => ?_
  have h2 : t.val % 4 = 3 := (flush0_11 t).mp hf
  blk_simp
  rw [after0_11]
  idx_vars y
  have ht := point_lt t
  have e : ((View.whole main_v29_3).slice (win0_11.rect t)).emb (ix2 y0 y1) = ix2 (tok t y0) y1 := by
    unfold tok
    blk_ext [idx11 t]
  rw [e]
  exact dyv_at m c t y0 y1

/-- The scale's cotangent at the end of the grid. -/
theorem arr12 : (dats m 0 c).arrAt 12 cfg0.N = line (aDscale m c) := by
  refine (dats m 0 c).arrAt_eq_of_covers 12 _ (by decide +kernel) fun t hf y => ?_
  have h2 : t.val % 32 = 31 := (flush0_12 t).mp hf
  blk_simp
  rw [after0_12]
  idx_vars y
  have ht := point_lt t
  obtain rfl : y0 = 0 := Fin.ext (by omega)
  have e : ((View.whole main_v29_4).slice (win0_12.rect t)).emb (ix2 0 y1) = ix2 0 y1 := by
    blk_ext [idx12 t]
  rw [e]
  exact scale_last m c t h2 y1

/-- The shift's cotangent at the end of the grid. -/
theorem arr13 : (dats m 0 c).arrAt 13 cfg0.N = line (dshift (argC m c)) := by
  refine (dats m 0 c).arrAt_eq_of_covers 13 _ (by decide +kernel) fun t hf y => ?_
  have h2 : t.val % 32 = 31 := (flush0_13 t).mp hf
  blk_simp
  rw [after0_13]
  idx_vars y
  have ht := point_lt t
  obtain rfl : y0 = 0 := Fin.ext (by omega)
  have e : ((View.whole main_v29_5).slice (win0_13.rect t)).emb (ix2 0 y1) = ix2 0 y1 := by
    blk_ext [idx13 t]
  rw [e]
  exact shift_last m c t h2 y1

variable (ρ : Dev nD → PrngReg)

/-- The run with every result as its closed form and every argument unchanged. -/
theorem run_forms : θ_run defs (onTc (τ := τ) (main (F := Ideal))) ⟨m, fun _ => 0, ρ⟩ fun r => ∀ c : Dev nD,
      r.2.mem ((c : Thread nD τ).loc main_v29_0) = chips (aDgate m c)
      ∧ r.2.mem ((c : Thread nD τ).loc main_v29_1) = chips (aDup m c)
      ∧ r.2.mem ((c : Thread nD τ).loc main_v29_2) = rows (aDact m c)
      ∧ r.2.mem ((c : Thread nD τ).loc main_v29_3) = rows (aDbranch m c)
      ∧ r.2.mem ((c : Thread nD τ).loc main_v29_4) = line (aDscale m c)
      ∧ r.2.mem ((c : Thread nD τ).loc main_v29_5) = line (dshift (argC m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 8).trans (arr8 m c),
      ((h c).1 9).trans (arr9 m c),
      ((h c).1 10).trans (arr10 m c),
      ((h c).1 11).trans (arr11 m c),
      ((h c).1 12).trans (arr12 m c),
      ((h c).1 13).trans (arr13 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.FfnKernelIdeal.Value

end
-- ==== Proof.FfnBwdRef.lean ====
/- The reference's side of the feed-forward layer's backward pass: each value of the reference program, read at an index,
   is a closed form, and so are its six results. -/
module

public import proofs.«01_k».proof.Proof.Gen.FfnReferenceIdeal.Run
public import proofs.«01_k».proof.Proof.FfnBwdForm
public import Idealize.ShloMosaic.Lib.Pointwise
public import Idealize.ShloMosaic.Lib.KernelVsHost
public import Idealize.ShloMosaic.Lib.Tactic.CleanTypes

@[expose] public section

set_option maxRecDepth 16384

noncomputable section

open Idealize.ShloMosaic Idealize.ShloMosaic.TcCoe Idealize.SL.Sem

namespace Cert.Ffn

/-- One over a row's variance and epsilon, times the row's factor: the derivative of the factor without its minus half. -/
def rcube (f : Fin 1024 → EReal) : EReal := Ideal.div (rstd f) (vari f + Ideal.ofBits FTy.f32 925353388#32)

/-- The variance's cotangent, along `h`. -/
def vback (f h : Fin 1024 → EReal) : EReal :=
  Ideal.div ((∑ k : Fin 1024, (f k - mean f) * h k) * (Ideal.ofBits FTy.f32 3204448256#32 * rcube f)) (Ideal.ofBits FTy.f32 1149239296#32)

/-- The part of the row's cotangent that goes through the variance. -/
def dev2 (f h : Fin 1024 → EReal) (k : Fin 1024) : EReal :=
  vback f h * (Ideal.ofBits FTy.f32 1073741824#32 * (f k - mean f))

/-- The derivative of the layer norm as differentiation writes it: through the row, through the variance, and through the
    mean of both. -/
def lnvjp (f h : Fin 1024 → EReal) (k : Fin 1024) : EReal :=
  (h k * rstd f + dev2 f h k)
    + Ideal.div ((∑ i : Fin 1024, -(h i * rstd f)) + ∑ i : Fin 1024, -(dev2 f h i)) (Ideal.ofBits FTy.f32 1149239296#32)

/-- The derivative of the gated unit as differentiation writes it, along `d`. -/
def siluvjp (x d : EReal) : EReal := d * logi x + (x * d) * (logi x * (1 - logi x))

end Cert.Ffn

namespace Cert.FfnReferenceIdeal.Value
open Cert.FfnReferenceIdeal Cert.FfnReferenceIdeal.Gen Cert.Ffn

variable (V0 : Valuation τ sig (Elt Ideal))

/-- A sum over the two outer axes of extent one is the element between them. -/
theorem sum_unit02 (x : S1x4096x1.Idx → EReal) (t : Fin 4096) :
    Ideal.hostReduceAdd Gen.reducesTo_S1x4096x1_S4096_d0_2 x 0 (ix1 t) = x (ix3 0 t 0) := by
  unfold Ideal.hostReduceAdd
  have e : (Finset.univ.filter fun i : S1x4096x1.Idx => Gen.reducesTo_S1x4096x1_S4096_d0_2.drop i = ix1 t) = {ix3 0 t 0} := by
    ext i
    simp only [Finset.mem_filter, Finset.mem_univ, true_and, Finset.mem_singleton]
    have hd : ((Gen.reducesTo_S1x4096x1_S4096_d0_2.drop i) 0).val = (i 1).val :=
      Shape.ReducesTo.drop_apply_val_of_eq _ i 0 1 (by decide)
    constructor
    · intro h
      have h1 : (i 1).val = t.val := hd.symm.trans (congrArg (fun q : S4096.Idx => (q 0).val) h)
      idx_vars i
      funext a
      match a with
      | 0 => exact (Subsingleton.elim (α := Fin 1) _ _)
      | 1 => exact Fin.ext h1
      | 2 => exact (Subsingleton.elim (α := Fin 1) _ _)
    · rintro rfl
      funext a
      match a with
      | 0 => exact Fin.ext hd
  rw [e, Finset.sum_singleton, zero_add]

/-- A sum over the two leading axes of extent one is the element after them. -/
theorem sum_unit01 (x : S1x1x1024.Idx → EReal) (k : Fin 1024) :
    Ideal.hostReduceAdd Gen.reducesTo_S1x1x1024_S1024_d0_1 x 0 (ix1 k) = x (ix3 0 0 k) := by
  unfold Ideal.hostReduceAdd
  have e : (Finset.univ.filter fun i : S1x1x1024.Idx => Gen.reducesTo_S1x1x1024_S1024_d0_1.drop i = ix1 k) = {ix3 0 0 k} := by
    ext i
    simp only [Finset.mem_filter, Finset.mem_univ, true_and, Finset.mem_singleton]
    have hd : ((Gen.reducesTo_S1x1x1024_S1024_d0_1.drop i) 0).val = (i 2).val :=
      Shape.ReducesTo.drop_apply_val_of_eq _ i 0 2 (by decide)
    constructor
    · intro h
      have h1 : (i 2).val = k.val := hd.symm.trans (congrArg (fun q : S1024.Idx => (q 0).val) h)
      idx_vars i
      funext a
      match a with
      | 0 => exact (Subsingleton.elim (α := Fin 1) _ _)
      | 1 => exact (Subsingleton.elim (α := Fin 1) _ _)
      | 2 => exact Fin.ext h1
    · rintro rfl
      funext a
      match a with
      | 0 => exact Fin.ext hd
  rw [e, Finset.sum_singleton, zero_add]

/-- The activations. -/
abbrev vX : SX.Idx → EReal := V0 (Proc.devRef .tc main_arg0)
/-- The gate weight. -/
abbrev vG : SWi.Idx → EReal := V0 (Proc.devRef .tc main_arg1)
/-- The up weight. -/
abbrev vU : SWi.Idx → EReal := V0 (Proc.devRef .tc main_arg2)
/-- The down weight. -/
abbrev vD : SWo.Idx → EReal := V0 (Proc.devRef .tc main_arg3)
/-- The norm's scale. -/
abbrev vS : SV.Idx → EReal := V0 (Proc.devRef .tc main_arg4)
/-- The output's cotangent. -/
abbrev vC : SX.Idx → EReal := V0 (Proc.devRef .tc main_arg5)

/-- The residual sum's row. -/
abbrev zr (t : Fin 4096) : Fin 1024 → EReal := zed (vX V0) (vG V0) (vU V0) (vD V0) t
/-- The cotangent times the scale, as a row. -/
abbrev hr (t : Fin 4096) : Fin 1024 → EReal := fun i => vC V0 (ix3 0 t i) * vS V0 (ix1 i)

set_option maxHeartbeats 2000000 in
/-- The gate. -/
theorem v0_at (t : Fin 4096) (j : Fin 2816) :
    @Eq EReal (res_main_v0 V0 (ix3 0 t j)) (lin (vX V0) (vG V0) t j) := by
  unfold res_main_v0 lin vX vG
  generalize V0 (Proc.devRef .tc main_arg0) = X
  generalize V0 (Proc.devRef .tc main_arg1) = G
  clean_types
  pointwise

set_option maxHeartbeats 2000000 in
/-- The up projection. -/
theorem v1_at (t : Fin 4096) (j : Fin 2816) :
    @Eq EReal (res_main_v1 V0 (ix3 0 t j)) (lin (vX V0) (vU V0) t j) := by
  unfold res_main_v1 lin vX vU
  generalize V0 (Proc.devRef .tc main_arg0) = X
  generalize V0 (Proc.devRef .tc main_arg2) = G
  clean_types
  pointwise

set_option maxHeartbeats 2000000 in
/-- The logistic of the gate. -/
theorem v2_2_at (t : Fin 4096) (j : Fin 2816) :
    @Eq EReal (res_main_v2_2 V0 (ix3 0 t j)) (logi (lin (vX V0) (vG V0) t j)) := by
  rw [← v0_at V0 t j]
  unfold res_main_v2_2 logi
  generalize res_main_v0 V0 = A
  clean_types
  pointwise

set_option maxHeartbeats 2000000 in
/-- The gated unit. -/
theorem v2_0_at (t : Fin 4096) (j : Fin 2816) :
    @Eq EReal (res_main_v2_0 V0 (ix3 0 t j)) (lin (vX V0) (vG V0) t j * logi (lin (vX V0) (vG V0) t j)) := by
  rw [← v2_2_at V0 t j, ← v0_at V0 t j]
  unfold res_main_v2_0
  generalize res_main_v2_2 V0 = B
  generalize res_main_v0 V0 = A
  clean_types
  pointwise

set_option maxHeartbeats 2000000 in
/-- The residual sum. -/
theorem v10_at (t : Fin 4096) (k : Fin 1024) :
    @Eq EReal (res_main_v10 V0 (ix3 0 t k)) (zr V0 t k) := by
  unfold zr zed hid
  simp only [← v2_0_at V0 t, ← v1_at V0 t]
  unfold res_main_v10 vX vD
  generalize res_main_v2_0 V0 = A
  generalize res_main_v1 V0 = B
  generalize V0 (Proc.devRef .tc main_arg0) = X
  generalize V0 (Proc.devRef .tc main_arg3) = D
  clean_types
  pointwise

/-- The residual sum's row, read off the reference's value. -/
theorem v10_row (t : Fin 4096) : zr V0 t = fun k => (res_main_v10 V0 (ix3 0 t k) : EReal) := funext fun k => (v10_at V0 t k).symm

set_option maxHeartbeats 2000000 in
/-- The row's mean. -/
theorem v14_at (t : Fin 4096) :
    @Eq EReal (res_main_v14 V0 (ix3 0 t 0)) (mean (zr V0 t)) := by
  rw [v10_row]
  unfold res_main_v14 mean
  generalize res_main_v10 V0 = A
  clean_types
  pointwise

set_option maxHeartbeats 2000000 in
/-- The row with its mean taken off. -/
theorem v16_at (t : Fin 4096) (k : Fin 1024) :
    @Eq EReal (res_main_v16 V0 (ix3 0 t k)) (zr V0 t k - mean (zr V0 t)) := by
  rw [← v14_at V0 t, ← v10_at V0 t k]
  unfold res_main_v16
  generalize res_main_v14 V0 = B
  generalize res_main_v10 V0 = A
  clean_types
  pointwise

set_option maxHeartbeats 2000000 in
/-- The row with its mean taken off. -/
theorem v25_at (t : Fin 4096) (k : Fin 1024) :
    @Eq EReal (res_main_v25 V0 (ix3 0 t k)) (zr V0 t k - mean (zr V0 t)) := by
  rw [← v14_at V0 t, ← v10_at V0 t k]
  unfold res_main_v25
  generalize res_main_v14 V0 = B
  generalize res_main_v10 V0 = A
  clean_types
  pointwise

set_option maxHeartbeats 2000000 in
/-- The row's variance and epsilon. -/
theorem v27_at (t : Fin 4096) :
    @Eq EReal (res_main_v27 V0 (ix3 0 t 0)) (vari (zr V0 t) + Ideal.ofBits FTy.f32 925353388#32) := by
  unfold vari
  simp only [← v16_at V0 t]
  unfold res_main_v27 mean
  generalize res_main_v16 V0 = A
  clean_types
  pointwise

set_option maxHeartbeats 2000000 in
/-- The row's factor. -/
theorem v28_at (t : Fin 4096) :
    @Eq EReal (res_main_v28 V0 (ix3 0 t 0)) (rstd (zr V0 t)) := by
  unfold rstd
  rw [← v27_at V0 t]
  unfold res_main_v28
  generalize res_main_v27 V0 = A
  clean_types
  pointwise

set_option maxHeartbeats 2000000 in
/-- The normalised row. -/
theorem v33_at (t : Fin 4096) (k : Fin 1024) :
    @Eq EReal (res_main_v33 V0 (ix3 0 t k)) (xhat (zr V0 t) k) := by
  unfold xhat
  rw [← v28_at V0 t, ← v25_at V0 t k]
  unfold res_main_v33
  generalize res_main_v28 V0 = B
  generalize res_main_v25 V0 = A
  clean_types
  pointwise

set_option maxHeartbeats 2000000 in
/-- The cotangent times the scale. -/
theorem v48_at (t : Fin 4096) (k : Fin 1024) :
    @Eq EReal (res_main_v48 V0 (ix3 0 t k)) (hr V0 t k) := by
  unfold res_main_v48 res_main_v40 res_main_v34 hr vC vS
  generalize V0 (Proc.devRef .tc main_arg4) = g
  generalize V0 (Proc.devRef .tc main_arg5) = C
  clean_types
  pointwise

set_option maxHeartbeats 2000000 in
/-- The row's cotangent through the row. -/
theorem v54_at (t : Fin 4096) (k : Fin 1024) :
    @Eq EReal (res_main_v54 V0 (ix3 0 t k)) (hr V0 t k * rstd (zr V0 t)) := by
  rw [← v28_at V0 t, ← v48_at V0 t k]
  unfold res_main_v54
  generalize res_main_v28 V0 = B
  generalize res_main_v48 V0 = A
  clean_types
  pointwise

set_option maxHeartbeats 2000000 in
/-- The row's cotangent through the variance. -/
theorem v64_at (t : Fin 4096) (k : Fin 1024) :
    @Eq EReal (res_main_v64 V0 (ix3 0 t k)) (dev2 (zr V0 t) (hr V0 t) k) := by
  unfold dev2 vback rcube
  simp only [← v25_at V0 t, ← v48_at V0 t, ← v28_at V0 t, ← v27_at V0 t]
  rw [v25_at V0 t k, ← v16_at V0 t k]
  unfold res_main_v64
  generalize res_main_v27 V0 = A
  generalize res_main_v28 V0 = B
  generalize res_main_v25 V0 = E
  generalize res_main_v48 V0 = H
  generalize res_main_v16 V0 = K
  clean_types
  pointwise
  rw [sum_unit02]
  pointwise

set_option maxHeartbeats 2000000 in
/-- The residual sum's cotangent. -/
theorem v75_at (t : Fin 4096) (k : Fin 1024) :
    @Eq EReal (res_main_v75 V0 (ix3 0 t k)) (lnvjp (zr V0 t) (hr V0 t) k) := by
  unfold lnvjp
  simp only [← v54_at V0 t, ← v64_at V0 t]
  unfold res_main_v75
  generalize res_main_v54 V0 = A
  generalize res_main_v64 V0 = B
  clean_types
  pointwise
  rw [sum_unit02]
  pointwise

set_option maxHeartbeats 2000000 in
/-- The branch's cotangent. -/
theorem v77_at (t : Fin 4096) (k : Fin 1024) :
    @Eq EReal (res_main_v77 V0 (ix3 0 t k)) (Ideal.ofBits FTy.f32 1056964608#32 * lnvjp (zr V0 t) (hr V0 t) k) := by
  rw [← v75_at V0 t k]
  unfold res_main_v77
  generalize res_main_v75 V0 = A
  clean_types
  pointwise

/-- The hidden row's cotangent. -/
def rhid (t : Fin 4096) (j : Fin 2816) : EReal :=
  ∑ k : Fin 1024, (Ideal.ofBits FTy.f32 1056964608#32 * lnvjp (zr V0 t) (hr V0 t) k) * vD V0 (ix2 j k)
/-- The up projection's cotangent. -/
def rup (t : Fin 4096) (j : Fin 2816) : EReal := lin (vX V0) (vG V0) t j * logi (lin (vX V0) (vG V0) t j) * rhid V0 t j
/-- The gate's cotangent. -/
def rgate (t : Fin 4096) (j : Fin 2816) : EReal := siluvjp (lin (vX V0) (vG V0) t j) (rhid V0 t j * lin (vX V0) (vU V0) t j)

set_option maxHeartbeats 2000000 in
/-- The hidden row's cotangent. -/
theorem v80_at (t : Fin 4096) (j : Fin 2816) :
    @Eq EReal (res_main_v80 V0 (ix3 0 t j)) (rhid V0 t j) := by
  unfold rhid
  simp only [← v77_at V0 t]
  unfold res_main_v80 vD
  generalize res_main_v77 V0 = A
  generalize V0 (Proc.devRef .tc main_arg3) = D
  clean_types
  pointwise

set_option maxHeartbeats 2000000 in
/-- The up projection's cotangent. -/
theorem v81_at (t : Fin 4096) (j : Fin 2816) :
    @Eq EReal (res_main_v81 V0 (ix3 0 t j)) (rup V0 t j) := by
  unfold rup
  rw [← v80_at V0 t j, ← v2_0_at V0 t j]
  unfold res_main_v81
  generalize res_main_v80 V0 = A
  generalize res_main_v2_0 V0 = B
  clean_types
  pointwise

set_option maxHeartbeats 2000000 in
/-- The gated unit's cotangent. -/
theorem v82_at (t : Fin 4096) (j : Fin 2816) :
    @Eq EReal (res_main_v82 V0 (ix3 0 t j)) (rhid V0 t j * lin (vX V0) (vU V0) t j) := by
  rw [← v80_at V0 t j, ← v1_at V0 t j]
  unfold res_main_v82
  generalize res_main_v80 V0 = A
  generalize res_main_v1 V0 = B
  clean_types
  pointwise

set_option maxHeartbeats 2000000 in
/-- The gate's cotangent. -/
theorem v83_at (t : Fin 4096) (j : Fin 2816) :
    @Eq EReal (res_main_v83 V0 (ix3 0 t j)) (rgate V0 t j) := by
  unfold rgate siluvjp
  rw [← v82_at V0 t j, ← v2_2_at V0 t j, ← v0_at V0 t j]
  unfold res_main_v83
  generalize res_main_v82 V0 = A
  generalize res_main_v2_2 V0 = B
  generalize res_main_v0 V0 = E
  clean_types
  pointwise

/-- The activations' cotangent. -/
def ract (t : Fin 4096) (k : Fin 1024) : EReal :=
  Ideal.ofBits FTy.f32 1068827891#32 * lnvjp (zr V0 t) (hr V0 t) k
    + ((∑ j : Fin 2816, rup V0 t j * vU V0 (ix2 k j)) + ∑ j : Fin 2816, rgate V0 t j * vG V0 (ix2 k j))
/-- The scale's cotangent. -/
def rscale (k : Fin 1024) : EReal := ∑ t : Fin 4096, xhat (zr V0 t) k * vC V0 (ix3 0 t k)

variable (m : (ℓ : Loc nD τ sig) → Buf (Elt Ideal) ℓ)

set_option maxHeartbeats 4000000 in
/-- The reference's run: its six results are the closed forms, and its arguments stay. -/
theorem run_forms (ρ : Dev nD → PrngReg) :
    θ_run (defs (F := Ideal)) (onTc (τ := τ) (main (F := Ideal))) ⟨m, fun _ => 0, ρ⟩ fun r => ∀ c : Dev nD,
      r.2.mem ((c.tc : Thread nD τ).loc main_v91) = chips (rgate (StableHlo.launchContents m c))
      ∧ r.2.mem ((c.tc : Thread nD τ).loc main_v95) = chips (rup (StableHlo.launchContents m c))
      ∧ r.2.mem ((c.tc : Thread nD τ).loc main_v96) = rows (ract (StableHlo.launchContents m c))
      ∧ r.2.mem ((c.tc : Thread nD τ).loc main_v98) = rows (fun t k => Ideal.ofBits FTy.f32 1056964608#32 * lnvjp (zr (StableHlo.launchContents m c) t) (hr (StableHlo.launchContents m c) t) k)
      ∧ r.2.mem ((c.tc : Thread nD τ).loc main_v99) = line (rscale (StableHlo.launchContents m c))
      ∧ r.2.mem ((c.tc : Thread nD τ).loc main_v100) = line (dshift (vC (StableHlo.launchContents m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run _ _ _).mono (fun r h c => ?_) (run (F := Ideal) m ρ)
  obtain ⟨h0, h1, h2, h3, h4, h5, ha⟩ := h c
  refine ⟨h0.trans ?_, h1.trans ?_, h2.trans ?_, h3.trans ?_, h4.trans ?_, h5.trans ?_, ha⟩
  all_goals generalize StableHlo.launchContents m c = V0
  · funext y
    idx_vars y
    show (_ : EReal) = rgate V0 y1 _
    rw [← v83_at V0]
    generalize res_main_v83 V0 = A
    clean_types
    pointwise
  · funext y
    idx_vars y
    show (_ : EReal) = rup V0 y1 _
    rw [← v81_at V0]
    generalize res_main_v81 V0 = A
    clean_types
    pointwise
  · funext y
    idx_vars y
    show (_ : EReal) = ract V0 y0 y1
    unfold ract
    simp only [← v75_at V0, ← v81_at V0, ← v83_at V0]
    unfold vU vG
    generalize res_main_v75 V0 = A
    generalize res_main_v81 V0 = B
    generalize res_main_v83 V0 = E
    generalize V0 (Proc.devRef .tc main_arg1) = G
    generalize V0 (Proc.devRef .tc main_arg2) = U
    clean_types
    pointwise
  · funext y
    idx_vars y
    show (_ : EReal) = Ideal.ofBits FTy.f32 1056964608#32 * lnvjp (zr V0 y0) (hr V0 y0) y1
    rw [← v77_at V0]
    generalize res_main_v77 V0 = A
    clean_types
    pointwise
  · funext y
    idx_vars y
    show (_ : EReal) = rscale V0 y1
    unfold rscale
    simp only [← v33_at V0]
    unfold res_main_v40 vC
    generalize res_main_v33 V0 = A
    generalize V0 (Proc.devRef .tc main_arg5) = C
    clean_types
    pointwise
    rw [sum_unit01]
    pointwise
  · funext y
    idx_vars y
    show (_ : EReal) = dshift (vC V0) y1
    unfold dshift vC
    generalize V0 (Proc.devRef .tc main_arg5) = C
    clean_types
    pointwise
    rw [sum_unit01]
    pointwise

end Cert.FfnReferenceIdeal.Value

end
-- ==== Proof.FfnBwdReal.lean ====
/- The two ways to write the layer norm's derivative, and the two ways to write the gated unit's, agree on finite rows; and
   every row that the layer computes from finite arguments is finite. -/
module

public import proofs.«01_k».proof.Proof.FfnBwdRef

@[expose] public section

noncomputable section

open Idealize.ShloMosaic

namespace Cert.Ffn

/-- An extended real that is a real number. -/
def IsReal (x : EReal) : Prop := ∃ r : ℝ, x = (r : EReal)

/-- A sum of two real numbers is one. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- A product of two real numbers is one. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- A finite sum of reals, taken among the extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

/-- A finite sum of real numbers is one. -/
theorem IsReal.sum {ι : Type} (s : Finset ι) (f : ι → EReal) (h : ∀ i, IsReal (f i)) : IsReal (∑ i ∈ s, f i) := by
  choose g hg using h
  refine ⟨∑ i ∈ s, g i, ?_⟩
  rw [← coe_sum]
  exact Finset.sum_congr rfl fun i _ => hg i

/-! ## The constants -/

/-- The row's length. -/
theorem bits_1024 : Ideal.ofBits FTy.f32 1149239296#32 = ((1024 : ℝ) : EReal) := by
  simp [Ideal.ofBits, Ideal.ieee, -EReal.coe_mul]; norm_num

/-- Minus a half. -/
theorem bits_neg_half : Ideal.ofBits FTy.f32 3204448256#32 = ((-(1 / 2) : ℝ) : EReal) := by
  simp [Ideal.ofBits, Ideal.ieee, -EReal.coe_mul, -EReal.coe_neg]; norm_num

/-- Two. -/
theorem bits_two : Ideal.ofBits FTy.f32 1073741824#32 = ((2 : ℝ) : EReal) := by
  simp [Ideal.ofBits, Ideal.ieee, -EReal.coe_mul]; norm_num

/-- The norm's epsilon is a positive real. -/
theorem bits_eps : ∃ e : ℝ, 0 < e ∧ Ideal.ofBits FTy.f32 925353388#32 = (e : EReal) := by
  refine ⟨(2 ^ 23 + 2606508 : ℕ) * (2 : ℝ) ^ (-40 : ℤ), by positivity, ?_⟩
  simp [Ideal.ofBits, Ideal.ieee, -EReal.coe_mul]

/-- The factor of the activations is a real. -/
theorem bits_alpha : IsReal (Ideal.ofBits FTy.f32 1068827891#32) := by
  unfold IsReal
  simp [Ideal.ofBits, Ideal.ieee, -EReal.coe_mul]

/-- The factor of the branch is a real. -/
theorem bits_half : IsReal (Ideal.ofBits FTy.f32 1056964608#32) := by
  unfold IsReal
  simp [Ideal.ofBits, Ideal.ieee, -EReal.coe_mul]

/-! ## The logistic function and the gated unit -/

/-- The logistic function of a real is a real. -/
theorem logi_coe (r : ℝ) : logi (r : EReal) = (((1 + Real.exp (-r))⁻¹ : ℝ) : EReal) := Ideal.logistic_coe r

/-- The logistic function of a real number is a real number. -/
theorem IsReal.logi {x : EReal} (h : IsReal x) : IsReal (Ffn.logi x) := by
  obtain ⟨a, rfl⟩ := h
  exact ⟨_, logi_coe a⟩

/-- On finite values the gated unit's derivative is a product, whichever way it is written. -/
theorem siluvjp_eq {x d : EReal} (hx : IsReal x) (hd : IsReal d) : siluvjp x d = d * siluback x := by
  obtain ⟨a, rfl⟩ := hx; obtain ⟨b, rfl⟩ := hd
  unfold siluvjp siluback
  rw [logi_coe]
  generalize (1 + Real.exp (-a))⁻¹ = s
  norm_cast
  ring

/-! ## The layer norm -/

/-- The mean of a real row. -/
theorem mean_coe (F : Fin 1024 → ℝ) : mean (fun k => (F k : EReal)) = (((∑ k, F k) / 1024 : ℝ) : EReal) := by
  unfold mean
  rw [bits_1024, coe_sum, Ideal.div_coe (by norm_num), ← EReal.coe_mul]
  congr 1; ring

/-- The variance of a real row. -/
theorem vari_coe (F : Fin 1024 → ℝ) : vari (fun k => (F k : EReal))
    = (((∑ k, (F k - (∑ i, F i) / 1024) * (F k - (∑ i, F i) / 1024)) / 1024 : ℝ) : EReal) := by
  unfold vari
  rw [mean_coe]
  simp only [← EReal.coe_sub, ← EReal.coe_mul]
  exact mean_coe _

/-- A row's variance and epsilon are together a positive real `w`, and the row's factor is one over the square root of it. -/
theorem rstd_coe (F : Fin 1024 → ℝ) : ∃ w : ℝ, 0 < w ∧ vari (fun k => (F k : EReal)) + Ideal.ofBits FTy.f32 925353388#32 = (w : EReal)
    ∧ rstd (fun k => (F k : EReal)) = (((Real.sqrt w)⁻¹ : ℝ) : EReal) := by
  obtain ⟨e, he, hb⟩ := bits_eps
  have hv : 0 ≤ (∑ k, (F k - (∑ i, F i) / 1024) * (F k - (∑ i, F i) / 1024)) / 1024 :=
    div_nonneg (Finset.sum_nonneg fun k _ => mul_self_nonneg _) (by norm_num)
  have hw : 0 < (∑ k, (F k - (∑ i, F i) / 1024) * (F k - (∑ i, F i) / 1024)) / 1024 + e := by linarith
  refine ⟨_, hw, by rw [vari_coe, hb, EReal.coe_add], ?_⟩
  unfold rstd
  rw [vari_coe, hb, ← EReal.coe_add, Ideal.rsqrt_coe, if_neg (not_lt.mpr hw.le), if_neg hw.ne']

/-- The identity behind the two forms of the derivative, over the reals: the deviations sum to nothing. -/
theorem norm_identity (F H : Fin 1024 → ℝ) (s w : ℝ) (hw : 0 < w) (hs : s * s * w = 1) (k : Fin 1024) (d : Fin 1024 → ℝ)
    (hd : ∀ i, d i = F i - (∑ i, F i) / 1024) :
    (H k * s + ((∑ i, d i * H i) * (-(1 / 2) * (s * (1 / w)))) * (1 / 1024) * (2 * d k))
      + ((∑ i, -(H i * s)) + ∑ i, -(((∑ i, d i * H i) * (-(1 / 2) * (s * (1 / w)))) * (1 / 1024) * (2 * d i))) * (1 / 1024)
    = s * ((H k - (∑ i, H i) / 1024) - d k * s * ((∑ i, H i * (d i * s)) / 1024)) := by
  have h0 : ∑ i, d i = 0 := by
    simp only [hd, Finset.sum_sub_distrib, Finset.sum_const, Finset.card_univ, Fintype.card_fin, nsmul_eq_mul]
    push_cast; ring
  have h1 : ∀ c : ℝ, ∑ i, -(c * (1 / 1024) * (2 * d i)) = 0 := fun c => by
    have : ∀ i, -(c * (1 / 1024) * (2 * d i)) = (-(c / 512)) * d i := fun i => by ring
    simp only [this, ← Finset.mul_sum, h0, mul_zero]
  have h2 : ∑ i, -(H i * s) = -((∑ i, H i) * s) := by rw [Finset.sum_neg_distrib, Finset.sum_mul]
  have h3 : ∑ i, H i * (d i * s) = (∑ i, d i * H i) * s := by
    rw [Finset.sum_mul]; exact Finset.sum_congr rfl fun i _ => by ring
  have h4 : 1 / w = s * s := by
    rw [div_eq_iff hw.ne']; exact hs.symm
  rw [h1, h2, h3, h4]
  ring

/-- On finite rows the layer norm's derivative is the same written either way. -/
theorem lnvjp_eq {f h : Fin 1024 → EReal} (hf : ∀ i, IsReal (f i)) (hh : ∀ i, IsReal (h i)) (k : Fin 1024) :
    lnvjp f h k = lnback f h k := by
  choose F hF using hf
  choose H hH using hh
  obtain rfl : f = fun i => (F i : EReal) := funext hF
  obtain rfl : h = fun i => (H i : EReal) := funext hH
  obtain ⟨w, hw, hv, hr⟩ := rstd_coe F
  have hs : (Real.sqrt w)⁻¹ * (Real.sqrt w)⁻¹ * w = 1 := by
    rw [← mul_inv, Real.mul_self_sqrt hw.le]; exact inv_mul_cancel₀ hw.ne'
  unfold lnvjp lnback dev2 vback rcube xhat
  rw [hv, hr, bits_neg_half, bits_two, bits_1024]
  simp only [mean_coe, Ideal.div_coe hw.ne', Ideal.div_coe (show (1024 : ℝ) ≠ 0 by norm_num), ← EReal.coe_sub, ← EReal.coe_mul,
    ← EReal.coe_add, ← EReal.coe_neg, coe_sum, EReal.coe_eq_coe_iff]
  exact norm_identity F H _ w hw hs k _ fun i => rfl

/-- The layer norm's derivative of finite rows is finite. -/
theorem lnback_real {f h : Fin 1024 → EReal} (hf : ∀ i, IsReal (f i)) (hh : ∀ i, IsReal (h i)) (k : Fin 1024) :
    IsReal (lnback f h k) := by
  choose F hF using hf
  choose H hH using hh
  obtain rfl : f = fun i => (F i : EReal) := funext hF
  obtain rfl : h = fun i => (H i : EReal) := funext hH
  obtain ⟨w, hw, hv, hr⟩ := rstd_coe F
  unfold lnback xhat
  rw [hr]
  simp only [mean_coe, ← EReal.coe_sub, ← EReal.coe_mul]
  exact ⟨_, rfl⟩

/-! ## The rows the layer computes -/

variable {X : SX.Idx → EReal} {G U : SWi.Idx → EReal} {D : SWo.Idx → EReal} {g : SV.Idx → EReal} {C : SX.Idx → EReal}

/-- The projection of finite activations by a finite weight is finite. -/
theorem lin_real (hX : ∀ i, IsReal (X i)) (hG : ∀ i, IsReal (G i)) (t : Fin 4096) (j : Fin 2816) : IsReal (lin X G t j) :=
  IsReal.sum _ _ fun _ => (hX _).mul (hG _)

/-- The residual sum of finite arguments is finite. -/
theorem zed_real (hX : ∀ i, IsReal (X i)) (hG : ∀ i, IsReal (G i)) (hU : ∀ i, IsReal (U i)) (hD : ∀ i, IsReal (D i))
    (t : Fin 4096) (k : Fin 1024) : IsReal (zed X G U D t k) := by
  unfold zed hid
  exact (bits_alpha.mul (hX _)).add (bits_half.mul (IsReal.sum _ _ fun j =>
    ((((lin_real hX hG t j).mul (lin_real hX hG t j).logi).mul (lin_real hX hU t j))).mul (hD _)))

/-- The cotangent of the branch is finite. -/
theorem dbranch_real (hX : ∀ i, IsReal (X i)) (hG : ∀ i, IsReal (G i)) (hU : ∀ i, IsReal (U i)) (hD : ∀ i, IsReal (D i))
    (hg : ∀ i, IsReal (g i)) (hC : ∀ i, IsReal (C i)) (t : Fin 4096) (k : Fin 1024) : IsReal (dbranch X G U D g C t k) :=
  bits_half.mul (lnback_real (zed_real hX hG hU hD t) (fun _ => (hC _).mul (hg _)) k)

/-- The cotangent of the gated hidden row is finite. -/
theorem dhid_real (hX : ∀ i, IsReal (X i)) (hG : ∀ i, IsReal (G i)) (hU : ∀ i, IsReal (U i)) (hD : ∀ i, IsReal (D i))
    (hg : ∀ i, IsReal (g i)) (hC : ∀ i, IsReal (C i)) (t : Fin 4096) (j : Fin 2816) : IsReal (dhid X G U D g C t j) :=
  IsReal.sum _ _ fun k => (dbranch_real hX hG hU hD hg hC t k).mul (hD _)

end Cert.Ffn

namespace Cert.FfnReferenceIdeal.Value
open Cert.FfnReferenceIdeal Cert.FfnReferenceIdeal.Gen Cert.Ffn

variable (V0 : Valuation τ sig (Elt Ideal))
variable (hX : ∀ i, IsReal (vX V0 i)) (hG : ∀ i, IsReal (vG V0 i)) (hU : ∀ i, IsReal (vU V0 i)) (hD : ∀ i, IsReal (vD V0 i))
  (hg : ∀ i, IsReal (vS V0 i)) (hC : ∀ i, IsReal (vC V0 i))

include hX hG hU hD hg hC

/-- The reference's cotangent of the residual sum, in the kernel's form. -/
theorem rzed_eq (t : Fin 4096) (k : Fin 1024) :
    lnvjp (zr V0 t) (hr V0 t) k = dzed (vX V0) (vG V0) (vU V0) (vD V0) (vS V0) (vC V0) t k :=
  lnvjp_eq (zed_real hX hG hU hD t) (fun _ => (hC _).mul (hg _)) k

/-- The reference's cotangent of the branch. -/
theorem rbranch_eq : (fun t k => Ideal.ofBits FTy.f32 1056964608#32 * lnvjp (zr V0 t) (hr V0 t) k)
    = dbranch (vX V0) (vG V0) (vU V0) (vD V0) (vS V0) (vC V0) := by
  funext t k
  rw [rzed_eq V0 hX hG hU hD hg hC]
  rfl

/-- The reference's cotangent of the gated hidden row. -/
theorem rhid_eq (t : Fin 4096) (j : Fin 2816) : rhid V0 t j = dhid (vX V0) (vG V0) (vU V0) (vD V0) (vS V0) (vC V0) t j := by
  unfold rhid dhid dbranch
  simp only [rzed_eq V0 hX hG hU hD hg hC]

/-- The reference's cotangent of the up projection. -/
theorem rup_eq : rup V0 = dup (vX V0) (vG V0) (vU V0) (vD V0) (vS V0) (vC V0) := by
  funext t j
  unfold rup dup
  rw [rhid_eq V0 hX hG hU hD hg hC]
  exact mul_comm _ _

/-- The reference's cotangent of the gate. -/
theorem rgate_eq : rgate V0 = dgate (vX V0) (vG V0) (vU V0) (vD V0) (vS V0) (vC V0) := by
  funext t j
  unfold rgate dgate
  rw [rhid_eq V0 hX hG hU hD hg hC]
  exact siluvjp_eq (lin_real hX hG t j) ((dhid_real hX hG hU hD hg hC t j).mul (lin_real hX hU t j))

/-- The reference's cotangent of the activations. -/
theorem ract_eq : ract V0 = dact (vX V0) (vG V0) (vU V0) (vD V0) (vS V0) (vC V0) := by
  funext t k
  unfold ract dact
  rw [rzed_eq V0 hX hG hU hD hg hC, rup_eq V0 hX hG hU hD hg hC, rgate_eq V0 hX hG hU hD hg hC, Finset.sum_add_distrib]
  exact congrArg₂ (fun a b : EReal => a + b) rfl (add_comm _ _)

omit hX hG hU hD hg hC in
/-- The reference's cotangent of the norm's scale. -/
theorem rscale_eq : rscale V0 = dscale (vX V0) (vG V0) (vU V0) (vD V0) (vC V0) := by
  funext k
  unfold rscale dscale
  exact Finset.sum_congr rfl fun t _ => mul_comm _ _

end Cert.FfnReferenceIdeal.Value

end
-- ==== Proof.FfnBwdClaim.lean ====
/- The value claim of the feed-forward layer's backward pass: the kernel's run and the reference's run, side by side, on
   finite arguments. -/
module

public import proofs.«01_k».proof.Defs
public import proofs.«01_k».proof.Proof.Gen.Pre_finite_inputs
public import proofs.«01_k».proof.Proof.FfnBwdKer
public import proofs.«01_k».proof.Proof.FfnBwdReal
public import Idealize.ShloMosaic.Lib.ReduceAll
public import Idealize.ShloMosaic.Lib.Claim

@[expose] public section

set_option maxRecDepth 16384

noncomputable section

open Idealize.ShloMosaic Idealize.ShloMosaic.TcCoe Idealize.SL.Sem

namespace Cert.FfnBwd
open Cert.Ffn

/-- The pattern with all exponent bits set is the positive infinity. -/
theorem bits_top : Ideal.ofBits FTy.f32 0x7F800000#32 = (⊤ : EReal) := by
  simp [Ideal.ofBits, Ideal.ieee]

/-- An extended real whose magnitude is below infinity is a real number. -/
theorem real_of_lt {x : EReal} (h : max x (-x) < ⊤) : IsReal x := by
  induction x using EReal.rec with
  | bot => simp at h
  | top => simp at h
  | coe r => exact ⟨r, rfl⟩

/-- A bit that says "the magnitude is below infinity" and is set says that the value is a real number. -/
theorem real_of_bit {x : EReal} (h : FloatOps.cmpf (F := Ideal) (φ := .f32) .olt (FloatOps.hostAbsf (F := Ideal) (φ := .f32) x) (Ideal.ofBits FTy.f32 0x7F800000#32) = 1#1) : IsReal x := by
  rw [bits_top] at h
  refine real_of_lt ?_
  by_contra hn
  have e : Ideal.cmp .olt (max x (-x)) ⊤ = 1#1 := h
  simp only [Ideal.cmp, hn, decide_false] at e
  exact absurd e (by decide)

open Cert.Pre_finite_inputs in
/-- What the precondition says of the six arguments: every element is a real number. -/
theorem unpack (x : SX.Idx → EReal) (a b : SWi.Idx → EReal) (d : SWo.Idx → EReal) (g : SV.Idx → EReal) (y : SX.Idx → EReal)
    (h : @Cert.Pre_finite_inputs.fn Cert.Pre_finite_inputs.Gen.facts Ideal _ x a b d g y = fun _ => 1#1) :
    (∀ i, IsReal (x i)) ∧ (∀ i, IsReal (a i)) ∧ (∀ i, IsReal (b i)) ∧ (∀ i, IsReal (d i)) ∧ (∀ i, IsReal (g i))
      ∧ (∀ i, IsReal (y i)) := by
  have e := congrFun h (Shape.Idx.first Cert.Pre_finite_inputs.Gen.facts.h_S_)
  unfold Cert.Pre_finite_inputs.fn Cert.Pre_finite_inputs.fn_part1 at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  haveI : Subsingleton Cert.Pre_finite_inputs.S_.Idx := ⟨fun p q => funext fun i => i.elim0⟩
  exact ⟨fun i => real_of_bit (Host.reduce_andi_all _ _ _ _ _ e0 i), fun i => real_of_bit (Host.reduce_andi_all _ _ _ _ _ e1 i),
    fun i => real_of_bit (Host.reduce_andi_all _ _ _ _ _ e2 i), fun i => real_of_bit (Host.reduce_andi_all _ _ _ _ _ e3 i),
    fun i => real_of_bit (Host.reduce_andi_all _ _ _ _ _ e4 i), fun i => real_of_bit (Host.reduce_andi_all _ _ _ _ _ e5 i)⟩

open Cert.FfnKernelIdeal.Value in
/-- The kernel's six arrays are the reference's six results, on every finite input. -/
theorem algebraic : Cert.algebraic_FfnKernelIdeal_FfnReferenceIdeal_pre_finite_inputs (hFfnKernelIdeal := Cert.FfnKernelIdeal.Gen.facts)
    (hFfnReferenceIdeal := Cert.FfnReferenceIdeal.Gen.facts) (hPre_finite_inputs := Cert.Pre_finite_inputs.Gen.facts) := by
  intro m g m' g' hpre hag
  refine ⟨fun c => chips (aDgate m c), fun c => chips (aDup m c), fun c => rows (aDact m c), fun c => rows (aDbranch m c),
    fun c => line (aDscale m c), fun c => line (dshift (argC m c)), run_forms m g, ?_⟩
  refine (θ_run _ _ _).mono (fun r h c => ?_) (Cert.FfnReferenceIdeal.Value.run_forms m' g')
  obtain ⟨h0, h1, h2, h3, h4, h5, ha⟩ := h c
  obtain ⟨e0, e1, e2, e3, e4, e5⟩ := hag c
  obtain ⟨pX, pG, pU, pD, pS, pC⟩ := unpack (argX m c) (argG m c) (argU m c) (argD m c) (argS m c) (argC m c) (hpre c)
  have eX : FfnReferenceIdeal.Value.vX (StableHlo.launchContents m' c) = argX m c := e0
  have eG : FfnReferenceIdeal.Value.vG (StableHlo.launchContents m' c) = argG m c := e1
  have eU : FfnReferenceIdeal.Value.vU (StableHlo.launchContents m' c) = argU m c := e2
  have eD : FfnReferenceIdeal.Value.vD (StableHlo.launchContents m' c) = argD m c := e3
  have eS : FfnReferenceIdeal.Value.vS (StableHlo.launchContents m' c) = argS m c := e4
  have eC : FfnReferenceIdeal.Value.vC (StableHlo.launchContents m' c) = argC m c := e5
  rw [← eX] at pX; rw [← eG] at pG; rw [← eU] at pU; rw [← eD] at pD; rw [← eS] at pS; rw [← eC] at pC
  rw [FfnReferenceIdeal.Value.rgate_eq _ pX pG pU pD pS pC] at h0
  rw [FfnReferenceIdeal.Value.rup_eq _ pX pG pU pD pS pC] at h1
  rw [FfnReferenceIdeal.Value.ract_eq _ pX pG pU pD pS pC] at h2
  rw [FfnReferenceIdeal.Value.rbranch_eq _ pX pG pU pD pS pC] at h3
  rw [FfnReferenceIdeal.Value.rscale_eq] at h4
  refine ⟨h0.trans ?_, h1.trans ?_, h2.trans ?_, h3.trans ?_, h4.trans ?_, h5.trans ?_, ha⟩
  all_goals simp only [eX, eG, eU, eD, eS, eC, aDgate, aDup, aDact, aDbranch, aDscale]

end Cert.FfnBwd

end
-- ==== Proof.MixForm.lean ====
/- The mixer's output projection with its residual and layer norm, backwards, as closed forms: the residual sum, its
   cotangent, the cotangent of the mixed rows and those of the norm's scale. -/
module

public import proofs.«01_k».proof.Proof.FfnBwdForm

@[expose] public section

noncomputable section

open Idealize.ShloMosaic

namespace Cert.MixerOut
open Cert.Ffn

/-- The output projection's weight. -/
abbrev SWm : Shape := ⟨2, ![1024, 1024]⟩
/-- The cotangent of the mixed rows, cut by chips: chip, token, mixed channel of the chip. -/
abbrev SM : Shape := ⟨3, ![4, 4096, 256]⟩

variable (X M : SX.Idx → EReal) (W : SWm.Idx → EReal) (g : SV.Idx → EReal) (C : SX.Idx → EReal)

/-- The residual sum that the layer norm takes. -/
def sumz (t : Fin 4096) (k : Fin 1024) : EReal :=
  Ideal.ofBits FTy.f32 1068827891#32 * X (ix3 0 t k) + ∑ j : Fin 1024, M (ix3 0 t j) * W (ix2 j k)

/-- The cotangent of the residual sum. -/
def dsumz (t : Fin 4096) (k : Fin 1024) : EReal := lnback (sumz X M W t) (fun i => C (ix3 0 t i) * g (ix1 i)) k

/-- The cotangent of the mixed rows. -/
def dmix (t : Fin 4096) (j : Fin 1024) : EReal := ∑ k : Fin 1024, dsumz X M W g C t k * W (ix2 j k)

/-- The cotangent of the norm's scale. -/
def dgain (k : Fin 1024) : EReal := ∑ t : Fin 4096, C (ix3 0 t k) * xhat (sumz X M W t) k

/-- A function of token and mixed channel as the array cut by chips. -/
def heads (f : Fin 4096 → Fin 1024 → EReal) : SM.Idx → EReal := fun i => f (i 1) ⟨(i 0).val * 256 + (i 2).val, by
  have h0 : (i 0).val < 4 := (i 0).isLt
  have h2 : (i 2).val < 256 := (i 2).isLt
  omega⟩

end Cert.MixerOut

end
-- ==== Proof.MixKer.lean ====
/- The kernel's side of the mixer's output projection, backwards: the values that the body computes at a grid point, and
   from that the five arrays after the run. -/
module

public import proofs.«01_k».proof.Proof.Gen.MixKernelIdeal.Value
public import proofs.«01_k».proof.Proof.MixForm
public import Idealize.ShloMosaic.Lib.Pipeline.ValueKit
public import Idealize.ShloMosaic.Lib.Pipeline.ReadBack
public import Idealize.ShloMosaic.Lib.Pointwise
public import Idealize.ShloMosaic.Lib.Tactic.CleanTypes
public import Idealize.ShloMosaic.Lib.StableHlo.ReadAt

@[expose] public section

set_option maxRecDepth 16384

noncomputable section

open Idealize.ShloMosaic Idealize.ShloMosaic.TcCoe Idealize.SL.Sem

namespace Cert.MixKernelIdeal.Value
open Cert.MixKernelIdeal Cert.MixKernelIdeal.Gen Cert.Ffn Cert.MixerOut

/-! ### The values of the body, over the vectors that it reads -/

section Pay
variable (X Z Y : S512x1024.Idx → EReal) (g b : S1x1024.Idx → EReal) (w : S1x256x1024.Idx → EReal)

/-- The residual sum's cotangent of a block. -/
abbrev cot : S512x1024.Idx → EReal := k0_pay11 (F := Ideal) (k0_pay8 Z) (k0_pay10 X Z g)

/-- The residual sum's cotangent of a block, read at an index. -/
theorem cot_at (s : Fin 512) (k : Fin 1024) :
    @Eq EReal (cot X Z g (ix2 s k)) (lnback (fun i => Z (ix2 s i)) (fun i => X (ix2 s i) * g (ix2 0 i)) k) := by
  unfold cot lnback xhat rstd vari mean
  pointwise [k0_pay11, k0_pay10, k0_pay9, k0_pay8, k0_pay7, k0_pay6]

/-- The cotangent in the format of the products. -/
theorem pay14 (s : Fin 512) (k : Fin 1024) :
    @Eq EReal (k0_pay14 (F := Ideal) (k0_pay8 Z) (k0_pay10 X Z g) (ix2 s k)) (cot X Z g (ix2 s k)) := by
  unfold cot
  generalize k0_pay8 (F := Ideal) Z = A
  generalize k0_pay10 (F := Ideal) X Z g = B
  pointwise [k0_pay14]

/-- The scale's cotangent, with a block's added. -/
theorem pay12 (k : Fin 1024) :
    @Eq EReal (k0_pay12 (F := Ideal) (k0_pay6 X) (k0_pay9 Z) b (ix2 0 k))
      (b (ix2 0 k) + ∑ s : Fin 512, X (ix2 s k) * xhat (fun i => Z (ix2 s i)) k) := by
  unfold xhat rstd vari mean
  pointwise [k0_pay12, k0_pay9, k0_pay8, k0_pay7, k0_pay6]

/-- The shift's cotangent, with a block's added. -/
theorem pay13 (k : Fin 1024) :
    @Eq EReal (k0_pay13 (F := Ideal) (k0_pay6 X) b (ix2 0 k)) (b (ix2 0 k) + ∑ s : Fin 512, X (ix2 s k)) := by
  pointwise [k0_pay13, k0_pay6]

/-- The scale's cotangent starts at zero. -/
theorem pay4 (k : Fin 1024) : @Eq EReal (k0_pay4 (F := Ideal) (ix2 0 k)) 0 := by
  pointwise [k0_pay4]

/-- The shift's cotangent starts at zero. -/
theorem pay5 (k : Fin 1024) : @Eq EReal (k0_pay5 (F := Ideal) (ix2 0 k)) 0 := by
  pointwise [k0_pay5]

/-- What a chip's store holds: the cotangent contracted with the chip's rows of the weight. -/
theorem pay2 (a : Fin 1) (s : Fin 512) (n : Fin 256) :
    @Eq EReal (k0_pay2 (F := Ideal) Y w (ix3 a s n)) (∑ k : Fin 1024, Y (ix2 s k) * w (ix3 0 n k)) := by
  pointwise [k0_pay2]

/-- The same, as the last chip's store writes it. -/
theorem pay3 (a : Fin 1) (s : Fin 512) (n : Fin 256) :
    @Eq EReal (k0_pay3 (F := Ideal) Y w (ix3 a s n)) (∑ k : Fin 1024, Y (ix2 s k) * w (ix3 0 n k)) := by
  pointwise [k0_pay3]

/-- What the first chip's store holds. -/
theorem pay15 (A : S512x1.Idx → EReal) (B : S512x1024.Idx → EReal) (a : Fin 1) (s : Fin 512) (n : Fin 256) :
    @Eq EReal (k0_pay15 (F := Ideal) A B w (ix3 a s n)) (∑ k : Fin 1024, k0_pay14 (F := Ideal) A B (ix2 s k) * w (ix3 0 n k)) := by
  pointwise [k0_pay15, k0_pay14]

/-- What the second chip's store holds. -/
theorem pay16 (A : S512x1.Idx → EReal) (B : S512x1024.Idx → EReal) (a : Fin 1) (s : Fin 512) (n : Fin 256) :
    @Eq EReal (k0_pay1 (F := Ideal) (k0_pay16 (F := Ideal) A B w) (ix3 a s n))
      (∑ k : Fin 1024, k0_pay14 (F := Ideal) A B (ix2 s k) * w (ix3 0 n k)) := by
  pointwise [k0_pay1, k0_pay16, k0_pay14]

end Pay

/-- Chip 0's rows of the weight, read at an index. -/
theorem chip0 (Y : S4x256x1024.Idx → EReal) (n : Fin 256) (k : Fin 1024) :
    @Eq EReal ((View.ld (Val := Elt Ideal) (e' := .bf16) Y (Rect.unit (s := S4x256x1024) ![0, 0, 0] ![1, 256, 1024] inb_S4x256x1024_S1x256x1024_0_0_0) : S1x256x1024.Idx → EReal) (ix3 0 n k)) (Y (ix3 0 n k)) := by
  refine congrArg Y (funext fun a => Fin.ext ?_)
  match a with
  | 0 => rfl
  | 1 => exact by show 0 + 1 * n.val = n.val; omega
  | 2 => exact by show 0 + 1 * k.val = k.val; omega

/-- Chip 1's rows of the weight, read at an index. -/
theorem chip1 (Y : S4x256x1024.Idx → EReal) (n : Fin 256) (k : Fin 1024) :
    @Eq EReal ((View.ld (Val := Elt Ideal) (e' := .bf16) Y (Rect.unit (s := S4x256x1024) ![1, 0, 0] ![1, 256, 1024] inb_S4x256x1024_S1x256x1024_1_0_0) : S1x256x1024.Idx → EReal) (ix3 0 n k)) (Y (ix3 1 n k)) := by
  refine congrArg Y (funext fun a => Fin.ext ?_)
  match a with
  | 0 => rfl
  | 1 => exact by show 0 + 1 * n.val = n.val; omega
  | 2 => exact by show 0 + 1 * k.val = k.val; omega

/-- Chip 2's rows of the weight, read at an index. -/
theorem chip2 (Y : S4x256x1024.Idx → EReal) (n : Fin 256) (k : Fin 1024) :
    @Eq EReal ((View.ld (Val := Elt Ideal) (e' := .bf16) Y (Rect.unit (s := S4x256x1024) ![2, 0, 0] ![1, 256, 1024] inb_S4x256x1024_S1x256x1024_2_0_0) : S1x256x1024.Idx → EReal) (ix3 0 n k)) (Y (ix3 2 n k)) := by
  refine congrArg Y (funext fun a => Fin.ext ?_)
  match a with
  | 0 => rfl
  | 1 => exact by show 0 + 1 * n.val = n.val; omega
  | 2 => exact by show 0 + 1 * k.val = k.val; omega

/-- Chip 3's rows of the weight, read at an index. -/
theorem chip3 (Y : S4x256x1024.Idx → EReal) (n : Fin 256) (k : Fin 1024) :
    @Eq EReal ((View.ld (Val := Elt Ideal) (e' := .bf16) Y (Rect.unit (s := S4x256x1024) ![3, 0, 0] ![1, 256, 1024] inb_S4x256x1024_S1x256x1024_3_0_0) : S1x256x1024.Idx → EReal) (ix3 0 n k)) (Y (ix3 3 n k)) := by
  refine congrArg Y (funext fun a => Fin.ext ?_)
  match a with
  | 0 => rfl
  | 1 => exact by show 0 + 1 * n.val = n.val; omega
  | 2 => exact by show 0 + 1 * k.val = k.val; omega

variable (m : (ℓ : Loc nD τ sig) → Buf (Elt Ideal) ℓ) (c : Dev nD)

/-! ### What the body leaves at a grid point -/

/-- What the point before left. -/
abbrev before (t : Fin cfg0.N) := outsAt0 m c (t.val - 1) (Nat.lt_of_le_of_lt (Nat.sub_le _ _) t.isLt)

/-- The residual sum's cotangent at a grid point. -/
abbrev bcot (t : Fin cfg0.N) : S512x1024.Idx → EReal := cot (iblk m c 0 t) (iblk m c 1 t) (iblk m c 2 t)

set_option maxHeartbeats 2000000 in
/-- The residual sum's cotangent after a grid point. -/
theorem left5 (t : Fin cfg0.N) (y : S512x1024.Idx) : @Eq EReal ((outsAt0 m c t.val t.isLt).2.1 y) (bcot m c t y) := by
  by_cases h0 : t.val % 8 = 0
  · rw [outsAt0_A m c t h0]
    frame_out
  · rw [outsAt0_B m c t h0]
    frame_out

set_option maxHeartbeats 2000000 in
/-- The residual sum's cotangent in the narrow format after a grid point. -/
theorem left6 (t : Fin cfg0.N) (y : S512x1024.Idx) :
    @Eq EReal ((outsAt0 m c t.val t.isLt).2.2.1 y) (k0_pay14 (F := Ideal) (k0_pay8 (iblk m c 1 t)) (k0_pay10 (iblk m c 0 t) (iblk m c 1 t) (iblk m c 2 t)) y) := by
  by_cases h0 : t.val % 8 = 0
  · rw [outsAt0_A m c t h0]
    frame_out
  · rw [outsAt0_B m c t h0]
    frame_out

set_option maxHeartbeats 2000000 in
/-- The scale's cotangent after the first grid point. -/
theorem start7 (t : Fin cfg0.N) (h0 : t.val % 8 = 0) (y : S1x1024.Idx) :
    @Eq EReal ((outsAt0 m c t.val t.isLt).2.2.2.1 y) (k0_pay12 (F := Ideal) (k0_pay6 (iblk m c 0 t)) (k0_pay9 (iblk m c 1 t)) (k0_pay4 (F := Ideal)) y) := by
  rw [outsAt0_A m c t h0]
  frame_out

set_option maxHeartbeats 2000000 in
/-- The scale's cotangent after a later grid point. -/
theorem more7 (t : Fin cfg0.N) (h0 : ¬ t.val % 8 = 0) (y : S1x1024.Idx) :
    @Eq EReal ((outsAt0 m c t.val t.isLt).2.2.2.1 y) (k0_pay12 (F := Ideal) (k0_pay6 (iblk m c 0 t)) (k0_pay9 (iblk m c 1 t)) (before m c t).2.2.2.1 y) := by
  rw [outsAt0_B m c t h0]
  frame_out

set_option maxHeartbeats 2000000 in
/-- The shift's cotangent after the first grid point. -/
theorem start8 (t : Fin cfg0.N) (h0 : t.val % 8 = 0) (y : S1x1024.Idx) :
    @Eq EReal ((outsAt0 m c t.val t.isLt).2.2.2.2 y) (k0_pay13 (F := Ideal) (k0_pay6 (iblk m c 0 t)) (k0_pay5 (F := Ideal)) y) := by
  rw [outsAt0_A m c t h0]
  frame_out

set_option maxHeartbeats 2000000 in
/-- The shift's cotangent after a later grid point. -/
theorem more8 (t : Fin cfg0.N) (h0 : ¬ t.val % 8 = 0) (y : S1x1024.Idx) :
    @Eq EReal ((outsAt0 m c t.val t.isLt).2.2.2.2 y) (k0_pay13 (F := Ideal) (k0_pay6 (iblk m c 0 t)) (before m c t).2.2.2.2 y) := by
  rw [outsAt0_B m c t h0]
  frame_out

set_option maxHeartbeats 2000000 in
/-- The mixed rows' cotangent after a grid point. -/
theorem left4 (t : Fin cfg0.N) (j : Fin 4) (s : Fin 512) (n : Fin 256) :
    @Eq EReal ((outsAt0 m c t.val t.isLt).1 (ix3 j s n))
      (∑ k : Fin 1024, bcot m c t (ix2 s k) * (iblk m c 3 t : S4x256x1024.Idx → EReal) (ix3 j n k)) := by
  unfold bcot
  simp only [← pay14]
  have hj := j.isLt
  by_cases h0 : t.val % 8 = 0
  · rw [outsAt0_A m c t h0]
    generalize iblk m c 0 t = X
    generalize iblk m c 1 t = Z
    generalize iblk m c 2 t = G
    generalize iblk m c 3 t = Y
    frame_out
    canon_tiles x h
    · obtain rfl : j = 3 := Fin.ext (by change j.val = 3 + _ at h0; show j.val = 3; omega)
      obtain rfl : s = x 1 := Fin.ext h1
      obtain rfl : n = x 2 := Fin.ext h2
      idx_vars x
      refine (pay3 _ _ _ _ _).trans (Finset.sum_congr rfl fun k _ => congrArg (fun z : EReal => _ * z) ?_)
      exact chip3 _ _ _
    · obtain rfl : j = 2 := Fin.ext (by change j.val = 2 + _ at h0; show j.val = 2; omega)
      obtain rfl : s = x 1 := Fin.ext h1
      obtain rfl : n = x 2 := Fin.ext h2
      idx_vars x
      refine (pay2 _ _ _ _ _).trans (Finset.sum_congr rfl fun k _ => congrArg (fun z : EReal => _ * z) ?_)
      exact chip2 _ _ _
    · obtain rfl : j = 1 := Fin.ext (by change j.val = 1 + _ at h0; show j.val = 1; omega)
      obtain rfl : s = x 1 := Fin.ext h1
      obtain rfl : n = x 2 := Fin.ext h2
      idx_vars x
      refine (pay16 _ _ _ _ _ _).trans (Finset.sum_congr rfl fun k _ => congrArg (fun z : EReal => _ * z) ?_)
      exact chip1 _ _ _
    · obtain rfl : j = 0 := Fin.ext (by change j.val = _ at h0; show j.val = 0; omega)
      obtain rfl : s = x 1 := Fin.ext h1
      obtain rfl : n = x 2 := Fin.ext h2
      idx_vars x
      refine (pay15 _ _ _ _ _ _).trans (Finset.sum_congr rfl fun k _ => congrArg (fun z : EReal => _ * z) ?_)
      exact chip0 _ _ _
  · rw [outsAt0_B m c t h0]
    generalize iblk m c 0 t = X
    generalize iblk m c 1 t = Z
    generalize iblk m c 2 t = G
    generalize iblk m c 3 t = Y
    frame_out
    canon_tiles x h
    · obtain rfl : j = 3 := Fin.ext (by change j.val = 3 + _ at h0; show j.val = 3; omega)
      obtain rfl : s = x 1 := Fin.ext h1
      obtain rfl : n = x 2 := Fin.ext h2
      idx_vars x
      refine (pay3 _ _ _ _ _).trans (Finset.sum_congr rfl fun k _ => congrArg (fun z : EReal => _ * z) ?_)
      exact chip3 _ _ _
    · obtain rfl : j = 2 := Fin.ext (by change j.val = 2 + _ at h0; show j.val = 2; omega)
      obtain rfl : s = x 1 := Fin.ext h1
      obtain rfl : n = x 2 := Fin.ext h2
      idx_vars x
      refine (pay2 _ _ _ _ _).trans (Finset.sum_congr rfl fun k _ => congrArg (fun z : EReal => _ * z) ?_)
      exact chip2 _ _ _
    · obtain rfl : j = 1 := Fin.ext (by change j.val = 1 + _ at h0; show j.val = 1; omega)
      obtain rfl : s = x 1 := Fin.ext h1
      obtain rfl : n = x 2 := Fin.ext h2
      idx_vars x
      refine (pay16 _ _ _ _ _ _).trans (Finset.sum_congr rfl fun k _ => congrArg (fun z : EReal => _ * z) ?_)
      exact chip1 _ _ _
    · obtain rfl : j = 0 := Fin.ext (by change j.val = _ at h0; show j.val = 0; omega)
      obtain rfl : s = x 1 := Fin.ext h1
      obtain rfl : n = x 2 := Fin.ext h2
      idx_vars x
      refine (pay15 _ _ _ _ _ _).trans (Finset.sum_congr rfl fun k _ => congrArg (fun z : EReal => _ * z) ?_)
      exact chip0 _ _ _

/-! ### The blocks that the body reads -/

/-- The activations. -/
abbrev argX : SX.Idx → EReal := m ((c : Thread nD τ).loc main_arg0)
/-- The mixed rows. -/
abbrev argM : SX.Idx → EReal := m ((c : Thread nD τ).loc main_arg1)
/-- The output projection's weight. -/
abbrev argW : SWm.Idx → EReal := m ((c : Thread nD τ).loc main_arg2)
/-- The norm's scale. -/
abbrev argS : SV.Idx → EReal := m ((c : Thread nD τ).loc main_arg3)
/-- The output's cotangent. -/
abbrev argC : SX.Idx → EReal := m ((c : Thread nD τ).loc main_arg4)

/-- There are eight grid points. -/
theorem point_lt (p : Fin cfg0.N) : p.val < 8 := p.isLt

/-- The block of window 0 at each grid point. -/
theorem idx0 : ∀ t : Fin cfg0.N, win0_0.index t = ![t.val, 0] := by decide +kernel
/-- The block of window 1 at each grid point. -/
theorem idx1 : ∀ t : Fin cfg0.N, win0_1.index t = ![t.val, 0] := by decide +kernel
/-- The block of window 2 at each grid point. -/
theorem idx2 : ∀ t : Fin cfg0.N, win0_2.index t = ![0, 0] := by decide +kernel
/-- The block of window 3 at each grid point. -/
theorem idx3 : ∀ t : Fin cfg0.N, win0_3.index t = ![0, 0, 0] := by decide +kernel
/-- The block of window 4 at each grid point. -/
theorem idx4 : ∀ t : Fin cfg0.N, win0_4.index t = ![0, t.val, 0] := by decide +kernel
/-- The block of window 5 at each grid point. -/
theorem idx5 : ∀ t : Fin cfg0.N, win0_5.index t = ![t.val, 0] := by decide +kernel
/-- The block of window 6 at each grid point. -/
theorem idx6 : ∀ t : Fin cfg0.N, win0_6.index t = ![t.val, 0] := by decide +kernel
/-- The block of window 7 at each grid point. -/
theorem idx7 : ∀ t : Fin cfg0.N, win0_7.index t = ![0, 0] := by decide +kernel
/-- The block of window 8 at each grid point. -/
theorem idx8 : ∀ t : Fin cfg0.N, win0_8.index t = ![0, 0] := by decide +kernel

/-- Row `s` of a grid point's block of tokens. -/
def tok (t : Fin cfg0.N) (s : Fin 512) : Fin 4096 := ⟨t.val * 512 + s.val, by have := point_lt t; omega⟩

set_option maxHeartbeats 2000000 in
/-- The cotangent's block in window 0. -/
theorem blk0 (t : Fin cfg0.N) (s : Fin 512) (k : Fin 1024) :
    @Eq EReal ((iblk m c 0 t : S512x1024.Idx → EReal) (ix2 s k)) (argC m c (ix3 0 (tok t s) k)) := by
  have ht := point_lt t
  have e : (iblk m c 0 t : S512x1024.Idx → EReal) (ix2 s k)
      = (V m c (Pipeline.arrRef spec0 0) : S4096x1024.Idx → EReal) (ix2 (tok t s) k) := by
    unfold tok
    blk_point [iblk, idx0 t]
  refine e.trans ?_
  show @Eq EReal _ _
  unfold V
  after_reads_at

set_option maxHeartbeats 2000000 in
/-- The residual sum's block in window 1. -/
theorem blk1 (t : Fin cfg0.N) (s : Fin 512) (k : Fin 1024) :
    @Eq EReal ((iblk m c 1 t : S512x1024.Idx → EReal) (ix2 s k)) (sumz (argX m c) (argM m c) (argW m c) (tok t s) k) := by
  have ht := point_lt t
  have e : (iblk m c 1 t : S512x1024.Idx → EReal) (ix2 s k)
      = (V m c (Pipeline.arrRef spec0 1) : S4096x1024.Idx → EReal) (ix2 (tok t s) k) := by
    unfold tok
    blk_point [iblk, idx1 t]
  refine e.trans ?_
  show @Eq EReal _ _
  unfold V sumz argX argM argW
  after_reads_at

set_option maxHeartbeats 2000000 in
/-- The scale's block in window 2. -/
theorem blk2 (t : Fin cfg0.N) (k : Fin 1024) :
    @Eq EReal ((iblk m c 2 t : S1x1024.Idx → EReal) (ix2 0 k)) (argS m c (ix1 k)) := by
  have e : (iblk m c 2 t : S1x1024.Idx → EReal) (ix2 0 k)
      = (V m c (Pipeline.arrRef spec0 2) : S1x1024.Idx → EReal) (ix2 0 k) := by
    blk_point [iblk, idx2 t]
  refine e.trans ?_
  show @Eq EReal _ _
  unfold V
  after_reads_at

set_option maxHeartbeats 2000000 in
/-- The weight's block in window 3. -/
theorem blk3 (t : Fin cfg0.N) (j : Fin 4) (n : Fin 256) (k : Fin 1024) :
    @Eq EReal ((iblk m c 3 t : S4x256x1024.Idx → EReal) (ix3 j n k)) (argW m c (ix2 ⟨j.val * 256 + n.val, by omega⟩ k)) := by
  have e : (iblk m c 3 t : S4x256x1024.Idx → EReal) (ix3 j n k)
      = (V m c (Pipeline.arrRef spec0 3) : S4x256x1024.Idx → EReal) (ix3 j n k) := by
    blk_point [iblk, idx3 t]
  refine e.trans ?_
  show @Eq EReal _ _
  unfold V
  after_reads_at

/-! ### The values at a grid point, through the arguments -/

/-- The residual sum. -/
abbrev aSumz := sumz (argX m c) (argM m c) (argW m c)
/-- The residual sum's cotangent. -/
abbrev aDsumz := dsumz (argX m c) (argM m c) (argW m c) (argS m c) (argC m c)
/-- The mixed rows' cotangent. -/
abbrev aDmix := dmix (argX m c) (argM m c) (argW m c) (argS m c) (argC m c)
/-- The scale's cotangent. -/
abbrev aDgain := dgain (argX m c) (argM m c) (argW m c) (argC m c)

/-- A grid point's residual sum, as a row. -/
theorem sumz_row (t : Fin cfg0.N) (s : Fin 512) :
    (fun i : Fin 1024 => (iblk m c 1 t : S512x1024.Idx → EReal) (ix2 s i)) = aSumz m c (tok t s) :=
  funext fun i => blk1 m c t s i

/-- The residual sum's cotangent at a grid point. -/
theorem bcot_at (t : Fin cfg0.N) (s : Fin 512) (k : Fin 1024) :
    @Eq EReal (bcot m c t (ix2 s k)) (aDsumz m c (tok t s) k) := by
  refine (cot_at _ _ _ s k).trans ?_
  exact congrArg₂ (fun a b : Fin 1024 → EReal => lnback a b k) (sumz_row m c t s)
    (funext fun i => congrArg₂ (fun a b : EReal => a * b) (blk0 m c t s i) (blk2 m c t i))

/-- The mixed rows' cotangent that the body leaves at a grid point. -/
theorem out4 (t : Fin cfg0.N) (j : Fin 4) (s : Fin 512) (n : Fin 256) :
    @Eq EReal ((outsAt0 m c t.val t.isLt).1 (ix3 j s n)) (aDmix m c (tok t s) ⟨j.val * 256 + n.val, by omega⟩) :=
  (left4 m c t j s n).trans (Finset.sum_congr rfl fun k _ => congrArg₂ (fun a b : EReal => a * b) (bcot_at m c t s k) (blk3 m c t j n k))

/-- The residual sum's cotangent that the body leaves at a grid point. -/
theorem out5 (t : Fin cfg0.N) (s : Fin 512) (k : Fin 1024) :
    @Eq EReal ((outsAt0 m c t.val t.isLt).2.1 (ix2 s k)) (aDsumz m c (tok t s) k) :=
  (left5 m c t (ix2 s k)).trans (bcot_at m c t s k)

/-- The same in the narrow format. -/
theorem out6 (t : Fin cfg0.N) (s : Fin 512) (k : Fin 1024) :
    @Eq EReal ((outsAt0 m c t.val t.isLt).2.2.1 (ix2 s k)) (aDsumz m c (tok t s) k) :=
  (left6 m c t (ix2 s k)).trans ((pay14 _ _ _ s k).trans (bcot_at m c t s k))

/-! ### The norm's cotangents -/

/-- The sum of a row function over token block `b`. -/
def blockSum (f : Fin 4096 → EReal) (b : Nat) : EReal := ∑ s : Fin 512, f ⟨(b * 512 + s.val) % 4096, Nat.mod_lt _ (by decide)⟩

/-- A grid point's token block. -/
theorem blockSum_at (f : Fin 4096 → EReal) (t : Fin cfg0.N) : ∑ s : Fin 512, f (tok t s) = blockSum f t.val := by
  have ht := point_lt t
  refine Finset.sum_congr rfl fun s _ => congrArg f (Fin.ext ?_)
  show t.val * 512 + s.val = (t.val * 512 + s.val) % 4096
  omega

/-- All token blocks together. -/
theorem sum_blocks (f : Fin 4096 → EReal) : ∑ b ∈ Finset.range 8, blockSum f b = ∑ r : Fin 4096, f r := by
  rw [Finset.sum_range]
  refine Eq.trans ?_ (Fin.sum_mul_add_fin 8 512 f)
  refine Finset.sum_congr rfl fun b _ => Finset.sum_congr rfl fun s _ => congrArg f (Fin.ext ?_)
  show (b.val * 512 + s.val) % 4096 = b.val * 512 + s.val
  omega

/-- A block's part of the scale's cotangent. -/
theorem scale_part (t : Fin cfg0.N) (b : S1x1024.Idx → EReal) (k : Fin 1024) :
    @Eq EReal (k0_pay12 (F := Ideal) (k0_pay6 (iblk m c 0 t)) (k0_pay9 (iblk m c 1 t)) b (ix2 0 k))
      (b (ix2 0 k) + blockSum (fun r => argC m c (ix3 0 r k) * xhat (aSumz m c r) k) t.val) := by
  refine (pay12 _ _ _ k).trans (congrArg (fun z : EReal => b (ix2 0 k) + z) ?_)
  refine Eq.trans ?_ (blockSum_at (fun r => argC m c (ix3 0 r k) * xhat (aSumz m c r) k) t)
  exact Finset.sum_congr rfl fun s _ => congrArg₂ (fun (a : EReal) (f : Fin 1024 → EReal) => a * xhat f k) (blk0 m c t s k) (sumz_row m c t s)

/-- The scale's cotangent after any grid point, by its number. -/
theorem scale_nat (k : Fin 1024) (n : Nat) : ∀ h : n < cfg0.N,
    @Eq EReal ((outsAt0 m c n h).2.2.2.1 (ix2 0 k)) (∑ b ∈ Finset.range (n + 1), blockSum (fun r => argC m c (ix3 0 r k) * xhat (aSumz m c r) k) b) := by
  induction n with
  | zero =>
    intro h
    refine (start7 m c ⟨0, h⟩ rfl (ix2 0 k)).trans ((scale_part m c ⟨0, h⟩ _ k).trans ?_)
    rw [pay4 k, zero_add]
    simp only [Nat.zero_add, Finset.sum_range_one]
  | succ n ih =>
    intro h
    have hn : n + 1 < 8 := point_lt ⟨n + 1, h⟩
    refine (more7 m c ⟨n + 1, h⟩ (by show ¬ (n + 1) % 8 = 0; omega) (ix2 0 k)).trans ((scale_part m c ⟨n + 1, h⟩ _ k).trans ?_)
    rw [Finset.sum_range_succ]
    exact congrArg (fun z : EReal => z + _) (ih (Nat.lt_of_succ_lt h))

/-- The scale's cotangent after the last grid point. -/
theorem scale_last (t : Fin cfg0.N) (h : t.val % 8 = 7) (k : Fin 1024) :
    @Eq EReal ((outsAt0 m c t.val t.isLt).2.2.2.1 (ix2 0 k)) (aDgain m c k) := by
  have ht := point_lt t
  have e : t.val + 1 = 8 := by omega
  refine (scale_nat m c k t.val t.isLt).trans ?_
  rw [e]
  exact sum_blocks _

/-- A block's part of the shift's cotangent. -/
theorem shift_part (t : Fin cfg0.N) (b : S1x1024.Idx → EReal) (k : Fin 1024) :
    @Eq EReal (k0_pay13 (F := Ideal) (k0_pay6 (iblk m c 0 t)) b (ix2 0 k))
      (b (ix2 0 k) + blockSum (fun r => argC m c (ix3 0 r k)) t.val) := by
  refine (pay13 _ _ k).trans (congrArg (fun z : EReal => b (ix2 0 k) + z) ?_)
  refine Eq.trans ?_ (blockSum_at (fun r => argC m c (ix3 0 r k)) t)
  exact Finset.sum_congr rfl fun s _ => blk0 m c t s k

/-- The shift's cotangent after any grid point, by its number. -/
theorem shift_nat (k : Fin 1024) (n : Nat) : ∀ h : n < cfg0.N,
    @Eq EReal ((outsAt0 m c n h).2.2.2.2 (ix2 0 k)) (∑ b ∈ Finset.range (n + 1), blockSum (fun r => argC m c (ix3 0 r k)) b) := by
  induction n with
  | zero =>
    intro h
    refine (start8 m c ⟨0, h⟩ rfl (ix2 0 k)).trans ((shift_part m c ⟨0, h⟩ _ k).trans ?_)
    rw [pay5 k, zero_add]
    simp only [Nat.zero_add, Finset.sum_range_one]
  | succ n ih =>
    intro h
    have hn : n + 1 < 8 := point_lt ⟨n + 1, h⟩
    refine (more8 m c ⟨n + 1, h⟩ (by show ¬ (n + 1) % 8 = 0; omega) (ix2 0 k)).trans ((shift_part m c ⟨n + 1, h⟩ _ k).trans ?_)
    rw [Finset.sum_range_succ]
    exact congrArg (fun z : EReal => z + _) (ih (Nat.lt_of_succ_lt h))

/-- The shift's cotangent after the last grid point. -/
theorem shift_last (t : Fin cfg0.N) (h : t.val % 8 = 7) (k : Fin 1024) :
    @Eq EReal ((outsAt0 m c t.val t.isLt).2.2.2.2 (ix2 0 k)) (dshift (argC m c) k) := by
  have ht := point_lt t
  have e : t.val + 1 = 8 := by omega
  refine (shift_nat m c k t.val t.isLt).trans ?_
  rw [e]
  exact sum_blocks _

/-! ### The result arrays after the run -/

/-- The mixed rows' cotangent at the end of the grid. -/
theorem arr4 : (dats m 0 c).arrAt 4 cfg0.N = heads (aDmix m c) := by
  refine (dats m 0 c).arrAt_eq_of_covers 4 _ (by decide +kernel) fun t hf y => ?_
  blk_simp
  rw [after0_4]
  idx_vars y
  have ht := point_lt t
  have e : ((View.whole main_v10_0).slice (win0_4.rect t)).emb (ix3 y0 y1 y2) = ix3 y0 (tok t y1) y2 := by
    unfold tok
    blk_ext [idx4 t]
  rw [e]
  exact out4 m c t y0 y1 y2

/-- The residual sum's cotangent at the end of the grid. -/
theorem arr5 : (dats m 0 c).arrAt 5 cfg0.N = rows (aDsumz m c) := by
  refine (dats m 0 c).arrAt_eq_of_covers 5 _ (by decide +kernel) fun t hf y => ?_
  blk_simp
  rw [after0_5]
  idx_vars y
  have ht := point_lt t
  have e : ((View.whole main_v10_1).slice (win0_5.rect t)).emb (ix2 y0 y1) = ix2 (tok t y0) y1 := by
    unfold tok
    blk_ext [idx5 t]
  rw [e]
  exact out5 m c t y0 y1

/-- The residual sum's cotangent in the narrow format at the end of the grid. -/
theorem arr6 : (dats m 0 c).arrAt 6 cfg0.N = rows (aDsumz m c) := by
  refine (dats m 0 c).arrAt_eq_of_covers 6 _ (by decide +kernel) fun t hf y => ?_
  blk_simp
  rw [after0_6]
  idx_vars y
  have ht := point_lt t
  have e : ((View.whole main_v10_2).slice (win0_6.rect t)).emb (ix2 y0 y1) = ix2 (tok t y0) y1 := by
    unfold tok
    blk_ext [idx6 t]
  rw [e]
  exact out6 m c t y0 y1

/-- The scale's cotangent at the end of the grid. -/
theorem arr7 : (dats m 0 c).arrAt 7 cfg0.N = line (aDgain m c) := by
  refine (dats m 0 c).arrAt_eq_of_covers 7 _ (by decide +kernel) fun t hf y => ?_
  have h2 : t.val % 8 = 7 := (flush0_7 t).mp hf
  blk_simp
  rw [after0_7]
  idx_vars y
  have ht := point_lt t
  obtain rfl : y0 = 0 := Fin.ext (by omega)
  have e : ((View.whole main_v10_3).slice (win0_7.rect t)).emb (ix2 0 y1) = ix2 0 y1 := by
    blk_ext [idx7 t]
  rw [e]
  exact scale_last m c t h2 y1

/-- The shift's cotangent at the end of the grid. -/
theorem arr8 : (dats m 0 c).arrAt 8 cfg0.N = line (dshift (argC m c)) := by
  refine (dats m 0 c).arrAt_eq_of_covers 8 _ (by decide +kernel) fun t hf y => ?_
  have h2 : t.val % 8 = 7 := (flush0_8 t).mp hf
  blk_simp
  rw [after0_8]
  idx_vars y
  have ht := point_lt t
  obtain rfl : y0 = 0 := Fin.ext (by omega)
  have e : ((View.whole main_v10_4).slice (win0_8.rect t)).emb (ix2 0 y1) = ix2 0 y1 := by
    blk_ext [idx8 t]
  rw [e]
  exact shift_last m c t h2 y1

end Cert.MixKernelIdeal.Value

end
-- ==== Proof.MixRef.lean ====
/- The reference's side of the mixer's output projection, backwards: the values that the reference computes, each read at an
   index as a closed form, and so its five results. -/
module

public import proofs.«01_k».proof.Proof.Gen.MixReferenceIdeal.Run
public import proofs.«01_k».proof.Proof.MixForm
public import proofs.«01_k».proof.Proof.FfnBwdRef
public import Idealize.ShloMosaic.Lib.Pointwise
public import Idealize.ShloMosaic.Lib.KernelVsHost
public import Idealize.ShloMosaic.Lib.Tactic.CleanTypes

@[expose] public section

set_option maxRecDepth 16384

noncomputable section

open Idealize.ShloMosaic Idealize.ShloMosaic.TcCoe Idealize.SL.Sem

namespace Cert.MixReferenceIdeal.Value
open Cert.MixReferenceIdeal Cert.MixReferenceIdeal.Gen Cert.Ffn Cert.MixerOut

/-! ### The reference's values, over the arrays that they take -/

/-- The residual sum, as the reference computes it. -/
def rSum (X M : FVec Ideal S1x4096x1024 .f32) (W : FVec Ideal S1024x1024 .f32) : FVec Ideal S1x4096x1024 .f32 :=
  addf (mulf (broadcastInDim S1x4096x1024 ![] bcast_S_S1x4096x1024 (constant S_ .f32 0x3FB504F3#32)) X) (Host.dotGeneral dot_S1x4096x1024_S1024x1024_S1x4096x1024_2_0_01_1_n_n none M W)

/-- Each row's mean. -/
def rMean (Z : FVec Ideal S1x4096x1024 .f32) : FVec Ideal S1x4096x1 .f32 :=
  Host.divf (broadcastInDim S1x4096x1 ![0, 1] bcast_S1x4096_S1x4096x1_0_1 (Host.reduceAdd Z (constant S_ .f32 0x00000000#32) reducesTo_S1x4096x1024_S1x4096_d2 h_S_)) (broadcastInDim S1x4096x1 ![] bcast_S_S1x4096x1 (constant S_ .f32 0x44800000#32))

/-- The rows with their means taken off. -/
def rDev (Z : FVec Ideal S1x4096x1024 .f32) : FVec Ideal S1x4096x1024 .f32 :=
  subf Z (broadcastInDim S1x4096x1024 ![0, 1, 2] bcast_S1x4096x1_S1x4096x1024_0_1_2 (rMean Z))

/-- Each row's variance and epsilon. -/
def rVar (Z : FVec Ideal S1x4096x1024 .f32) : FVec Ideal S1x4096x1 .f32 :=
  addf (Host.divf (broadcastInDim S1x4096x1 ![0, 1] bcast_S1x4096_S1x4096x1_0_1 (Host.reduceAdd (mulf (rDev Z) (rDev Z)) (constant S_ .f32 0x00000000#32) reducesTo_S1x4096x1024_S1x4096_d2 h_S_)) (broadcastInDim S1x4096x1 ![] bcast_S_S1x4096x1 (constant S_ .f32 0x44800000#32))) (broadcastInDim S1x4096x1 ![] bcast_S_S1x4096x1 (constant S_ .f32 0x3727C5AC#32))

/-- Each row's factor. -/
def rStd (Z : FVec Ideal S1x4096x1024 .f32) : FVec Ideal S1x4096x1 .f32 :=
  Host.rsqrt (rVar Z)

/-- The normalised rows. -/
def rHat (Z : FVec Ideal S1x4096x1024 .f32) : FVec Ideal S1x4096x1024 .f32 :=
  mulf (rDev Z) (broadcastInDim S1x4096x1024 ![0, 1, 2] bcast_S1x4096x1_S1x4096x1024_0_1_2 (rStd Z))

/-- The cotangent times the scale. -/
def rCot (C : FVec Ideal S1x4096x1024 .f32) (g : FVec Ideal S1024 .f32) : FVec Ideal S1x4096x1024 .f32 :=
  mulf (shapeCast S1x4096x1024 C shapeCasts_S1x4096x1024_S1x4096x1024) (broadcastInDim S1x4096x1024 ![0, 1, 2] bcast_S1x1x1024_S1x4096x1024_0_1_2 (broadcastInDim S1x1x1024 ![2] bcast_S1024_S1x1x1024_2 g))

/-- The rows' cotangent through the rows. -/
def rRow (Z H : FVec Ideal S1x4096x1024 .f32) : FVec Ideal S1x4096x1024 .f32 :=
  mulf H (broadcastInDim S1x4096x1024 ![0, 1, 2] bcast_S1x4096x1_S1x4096x1024_0_1_2 (rStd Z))

/-- The rows' cotangent through the variance. -/
def rVback (Z H : FVec Ideal S1x4096x1024 .f32) : FVec Ideal S1x4096x1024 .f32 :=
  mulf (broadcastInDim S1x4096x1024 ![0, 1] bcast_S1x4096_S1x4096x1024_0_1 (broadcastInDim S1x4096 ![1] bcast_S4096_S1x4096_1 (Host.reduceAdd (Host.divf (mulf (shapeCast S1x4096x1 (Host.reduceAdd (mulf (rDev Z) H) (constant S_ .f32 0x00000000#32) reducesTo_S1x4096x1024_S1x4096_d2 h_S_) shapeCasts_S1x4096_S1x4096x1) (mulf (broadcastInDim S1x4096x1 ![] bcast_S_S1x4096x1 (constant S_ .f32 0xBF000000#32)) (Host.divf (rStd Z) (rVar Z)))) (broadcastInDim S1x4096x1 ![] bcast_S_S1x4096x1 (constant S_ .f32 0x44800000#32))) (constant S_ .f32 0x00000000#32) reducesTo_S1x4096x1_S4096_d0_2 h_S_))) (mulf (broadcastInDim S1x4096x1024 ![] bcast_S_S1x4096x1024 (constant S_ .f32 0x40000000#32)) (rDev Z))

/-- The residual sum's cotangent. -/
def rAll (Z H : FVec Ideal S1x4096x1024 .f32) : FVec Ideal S1x4096x1024 .f32 :=
  addf (addf (rRow Z H) (rVback Z H)) (broadcastInDim S1x4096x1024 ![0, 1] bcast_S1x4096_S1x4096x1024_0_1 (broadcastInDim S1x4096 ![1] bcast_S4096_S1x4096_1 (Host.reduceAdd (Host.divf (addf (shapeCast S1x4096x1 (Host.reduceAdd (Host.negf (rRow Z H)) (constant S_ .f32 0x00000000#32) reducesTo_S1x4096x1024_S1x4096_d2 h_S_) shapeCasts_S1x4096_S1x4096x1) (shapeCast S1x4096x1 (Host.reduceAdd (Host.negf (rVback Z H)) (constant S_ .f32 0x00000000#32) reducesTo_S1x4096x1024_S1x4096_d2 h_S_) shapeCasts_S1x4096_S1x4096x1)) (broadcastInDim S1x4096x1 ![] bcast_S_S1x4096x1 (constant S_ .f32 0x44800000#32))) (constant S_ .f32 0x00000000#32) reducesTo_S1x4096x1_S4096_d0_2 h_S_)))

/-! ### The same, read at an index -/

variable (X M : S1x4096x1024.Idx → EReal) (W : S1024x1024.Idx → EReal) (g : S1024.Idx → EReal) (C Z H : S1x4096x1024.Idx → EReal)

/-- A row of an array of tokens. -/
abbrev row (Z : S1x4096x1024.Idx → EReal) (t : Fin 4096) : Fin 1024 → EReal := fun k => Z (ix3 0 t k)

set_option maxHeartbeats 2000000 in
/-- The residual sum. -/
theorem rSum_at (t : Fin 4096) (k : Fin 1024) :
    @Eq EReal (rSum X M W (ix3 0 t k)) (sumz X M W t k) := by
  unfold rSum sumz
  pointwise

set_option maxHeartbeats 2000000 in
/-- The row's mean. -/
theorem rMean_at (t : Fin 4096) :
    @Eq EReal (rMean Z (ix3 0 t 0)) (mean (row Z t)) := by
  unfold rMean mean row
  pointwise

set_option maxHeartbeats 2000000 in
/-- The row with its mean taken off. -/
theorem rDev_at (t : Fin 4096) (k : Fin 1024) :
    @Eq EReal (rDev Z (ix3 0 t k)) (row Z t k - mean (row Z t)) := by
  rw [← rMean_at Z t]
  unfold rDev row
  generalize rMean Z = B
  pointwise

set_option maxHeartbeats 2000000 in
/-- The row's variance and epsilon. -/
theorem rVar_at (t : Fin 4096) :
    @Eq EReal (rVar Z (ix3 0 t 0)) (vari (row Z t) + Ideal.ofBits FTy.f32 925353388#32) := by
  unfold vari
  simp only [← rDev_at Z t]
  unfold rVar mean
  generalize rDev Z = A
  pointwise

set_option maxHeartbeats 2000000 in
/-- The row's factor. -/
theorem rStd_at (t : Fin 4096) :
    @Eq EReal (rStd Z (ix3 0 t 0)) (rstd (row Z t)) := by
  unfold rstd
  rw [← rVar_at Z t]
  unfold rStd
  generalize rVar Z = A
  pointwise

set_option maxHeartbeats 2000000 in
/-- The normalised row. -/
theorem rHat_at (t : Fin 4096) (k : Fin 1024) :
    @Eq EReal (rHat Z (ix3 0 t k)) (xhat (row Z t) k) := by
  unfold xhat
  rw [← rStd_at Z t, ← rDev_at Z t k]
  unfold rHat
  generalize rStd Z = B
  generalize rDev Z = A
  pointwise

set_option maxHeartbeats 2000000 in
/-- The cotangent times the scale. -/
theorem rCot_at (t : Fin 4096) (k : Fin 1024) :
    @Eq EReal (rCot C g (ix3 0 t k)) (C (ix3 0 t k) * g (ix1 k)) := by
  unfold rCot
  pointwise

set_option maxHeartbeats 2000000 in
/-- The row's cotangent through the row. -/
theorem rRow_at (t : Fin 4096) (k : Fin 1024) :
    @Eq EReal (rRow Z H (ix3 0 t k)) (row H t k * rstd (row Z t)) := by
  rw [← rStd_at Z t]
  unfold rRow row
  generalize rStd Z = B
  pointwise

set_option maxHeartbeats 2000000 in
/-- The row's cotangent through the variance. -/
theorem rVback_at (t : Fin 4096) (k : Fin 1024) :
    @Eq EReal (rVback Z H (ix3 0 t k)) (dev2 (row Z t) (row H t) k) := by
  unfold dev2 vback rcube
  simp only [← rDev_at Z t, ← rStd_at Z t, ← rVar_at Z t]
  unfold rVback
  generalize rVar Z = A
  generalize rStd Z = B
  generalize rDev Z = E
  pointwise
  rw [Cert.FfnReferenceIdeal.Value.sum_unit02]
  pointwise

set_option maxHeartbeats 2000000 in
/-- The residual sum's cotangent. -/
theorem rAll_at (t : Fin 4096) (k : Fin 1024) :
    @Eq EReal (rAll Z H (ix3 0 t k)) (lnvjp (row Z t) (row H t) k) := by
  unfold lnvjp
  simp only [← rRow_at Z H t, ← rVback_at Z H t]
  unfold rAll
  generalize rRow Z H = A
  generalize rVback Z H = B
  pointwise
  rw [Cert.FfnReferenceIdeal.Value.sum_unit02]
  pointwise

/-! ### The results -/

variable (m : (ℓ : Loc nD τ sig) → Buf (Elt Ideal) ℓ) (c : Dev nD)

/-- The activations. -/
abbrev argX : SX.Idx → EReal := m ((c : Thread nD τ).loc main_arg0)
/-- The mixed rows. -/
abbrev argM : SX.Idx → EReal := m ((c : Thread nD τ).loc main_arg1)
/-- The output projection's weight. -/
abbrev argW : SWm.Idx → EReal := m ((c : Thread nD τ).loc main_arg2)
/-- The norm's scale. -/
abbrev argS : SV.Idx → EReal := m ((c : Thread nD τ).loc main_arg3)
/-- The output's cotangent. -/
abbrev argC : SX.Idx → EReal := m ((c : Thread nD τ).loc main_arg4)

/-- The residual sum's cotangent, as the reference computes it from the arguments. -/
abbrev whole : FVec Ideal S1x4096x1024 .f32 := rAll (rSum (argX m c) (argM m c) (argW m c)) (rCot (argC m c) (argS m c))

/-- The residual sum's cotangent in differentiation's form. -/
def back (t : Fin 4096) (k : Fin 1024) : EReal :=
  lnvjp (sumz (argX m c) (argM m c) (argW m c) t) (fun i => argC m c (ix3 0 t i) * argS m c (ix1 i)) k

/-- The reference's cotangent of the residual sum, read at an index. -/
theorem whole_at (t : Fin 4096) (k : Fin 1024) : @Eq EReal (whole m c (ix3 0 t k)) (back m c t k) := by
  refine (rAll_at _ _ t k).trans ?_
  exact congrArg₂ (fun a b : Fin 1024 → EReal => lnvjp a b k) (funext fun i => rSum_at _ _ _ t i) (funext fun i => rCot_at _ _ t i)

set_option maxHeartbeats 4000000 in
/-- The second result is the residual sum's cotangent as rows. -/
theorem res1_eq : res_main_v74 (F := Ideal) m c = shapeCast S4096x1024 (whole m c) shapeCasts_S1x4096x1024_S4096x1024 := by
  unfold res_main_v74 whole rAll rRow rVback rStd rVar rDev rMean rCot rSum
  rfl

set_option maxHeartbeats 4000000 in
/-- The third result is the same in the narrow format. -/
theorem res2_eq : res_main_v76 (F := Ideal) m c = truncf .bf16 (shapeCast S4096x1024 (whole m c) shapeCasts_S1x4096x1024_S4096x1024) bitsLt_bf16_f32 := by
  unfold res_main_v76 whole rAll rRow rVback rStd rVar rDev rMean rCot rSum
  rfl

set_option maxHeartbeats 4000000 in
/-- The first result is the residual sum's cotangent contracted with the weight, cut by chips. -/
theorem res0_eq : res_main_v73 (F := Ideal) m c
    = transpose S4x4096x256 [1, 0, 2] (shapeCast S4096x4x256 (shapeCast S4096x1024 (Host.dotGeneral (φ₂ := .f32) dot_S1x4096x1024_S1024x1024_S1x4096x1024_2_1_01_0_n_n none (whole m c) (argW m c)) shapeCasts_S1x4096x1024_S4096x1024) shapeCasts_S4096x1024_S4096x4x256) transposes_S4096x4x256_S4x4096x256_1_0_2 := by
  unfold res_main_v73 whole rAll rRow rVback rStd rVar rDev rMean rCot rSum
  rfl

/-- The mixed rows' cotangent. -/
def rmix (t : Fin 4096) (j : Fin 1024) : EReal := ∑ k : Fin 1024, back m c t k * argW m c (ix2 j k)
/-- The scale's cotangent. -/
def rgain (k : Fin 1024) : EReal := ∑ t : Fin 4096, xhat (sumz (argX m c) (argM m c) (argW m c) t) k * argC m c (ix3 0 t k)

/-- The scale's cotangent as the reference computes it. -/
abbrev gainV : FVec Ideal S1x1024 .f32 :=
  broadcastInDim S1x1024 ![1] bcast_S1024_S1x1024_1 (Host.reduceAdd (shapeCast S1x1x1024 (Host.reduceAdd (mulf (rHat (rSum (argX m c) (argM m c) (argW m c))) (shapeCast S1x4096x1024 (argC m c) shapeCasts_S1x4096x1024_S1x4096x1024)) (constant S_ .f32 0x00000000#32) reducesTo_S1x4096x1024_S1x1024_d1 h_S_) shapeCasts_S1x1024_S1x1x1024) (constant S_ .f32 0x00000000#32) reducesTo_S1x1x1024_S1024_d0_1 h_S_)

set_option maxHeartbeats 4000000 in
/-- The scale's cotangent, read at an index. -/
theorem gainV_eq : gainV m c = line (rgain m c) := by
  funext y
  idx_vars y
  show (_ : EReal) = rgain m c y1
  unfold rgain gainV
  have e : ∀ t k, xhat (sumz (argX m c) (argM m c) (argW m c) t) k = rHat (rSum (argX m c) (argM m c) (argW m c)) (ix3 0 t k) := fun t k =>
    (congrArg (fun f : Fin 1024 → EReal => xhat f k) (funext fun i => (rSum_at _ _ _ t i).symm)).trans (rHat_at _ t k).symm
  simp only [e]
  generalize rHat (rSum (argX m c) (argM m c) (argW m c)) = A
  generalize argC m c = C
  pointwise
  rw [Cert.FfnReferenceIdeal.Value.sum_unit01]
  pointwise

set_option maxHeartbeats 8000000 in
/-- The reference's run: its five results are the closed forms, and its arguments stay. -/
theorem run_forms (ρ : Dev nD → PrngReg) :
    θ_run (defs (F := Ideal)) (onTc (τ := τ) (main (F := Ideal))) ⟨m, fun _ => 0, ρ⟩ fun r => ∀ c : Dev nD,
      r.2.mem ((c.tc : Thread nD τ).loc main_v73) = heads (rmix m c)
      ∧ r.2.mem ((c.tc : Thread nD τ).loc main_v74) = rows (back m c)
      ∧ r.2.mem ((c.tc : Thread nD τ).loc main_v76) = rows (back m c)
      ∧ r.2.mem ((c.tc : Thread nD τ).loc main_v77) = line (rgain m c)
      ∧ r.2.mem ((c.tc : Thread nD τ).loc main_v78) = line (dshift (argC m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r h c => ?_) (run (F := Ideal) m ρ)
  obtain ⟨h0, h1, h2, h3, h4, ha⟩ := h c
  refine ⟨(h0.trans (res0_eq m c)).trans ?_, (h1.trans (res1_eq m c)).trans ?_, (h2.trans (res2_eq m c)).trans ?_, h3.trans ?_, h4.trans ?_, ha⟩
  · funext y
    idx_vars y
    show (_ : EReal) = rmix m c y1 _
    unfold rmix
    simp only [← whole_at m c]
    generalize whole m c = A
    generalize argW m c = W
    pointwise
  · funext y
    idx_vars y
    show (_ : EReal) = back m c y0 y1
    rw [← whole_at m c]
    generalize whole m c = A
    pointwise
  · funext y
    idx_vars y
    show (_ : EReal) = back m c y0 y1
    rw [← whole_at m c]
    generalize whole m c = A
    pointwise
  · refine Eq.trans ?_ (gainV_eq m c)
    unfold gainV rHat rStd rVar rDev rMean rSum
    rfl
  · funext y
    idx_vars y
    show (_ : EReal) = dshift (argC m c) y1
    unfold dshift argC
    generalize m ((c.tc : Thread nD τ).loc main_arg4) = C
    clean_types
    pointwise
    rw [Cert.FfnReferenceIdeal.Value.sum_unit01]
    pointwise

end Cert.MixReferenceIdeal.Value

end
-- ==== Proof.MixClaim.lean ====
/- The value claim of the mixer's output projection, backwards: the kernel's run and the reference's run, side by side, on
   finite arguments. -/
module

public import proofs.«01_k».proof.Defs
public import proofs.«01_k».proof.Proof.Gen.Pre_finite_mixer_inputs
public import proofs.«01_k».proof.Proof.FfnBwdClaim
public import proofs.«01_k».proof.Proof.MixKer
public import proofs.«01_k».proof.Proof.MixRef

@[expose] public section

set_option maxRecDepth 16384

noncomputable section

open Idealize.ShloMosaic Idealize.ShloMosaic.TcCoe Idealize.SL.Sem

namespace Cert.MixerOut
open Cert.Ffn

/-- What the precondition says of the five arguments: every element is a real number. -/
theorem unpack (x y : SX.Idx → EReal) (w : SWm.Idx → EReal) (g : SV.Idx → EReal) (d : SX.Idx → EReal)
    (h : @Cert.Pre_finite_mixer_inputs.fn Cert.Pre_finite_mixer_inputs.Gen.facts Ideal _ x y w g d = fun _ => 1#1) :
    (∀ i, IsReal (x i)) ∧ (∀ i, IsReal (y i)) ∧ (∀ i, IsReal (w i)) ∧ (∀ i, IsReal (g i)) ∧ (∀ i, IsReal (d i)) := by
  have e := congrFun h (Shape.Idx.first Cert.Pre_finite_mixer_inputs.Gen.facts.h_S_)
  unfold Cert.Pre_finite_mixer_inputs.fn Cert.Pre_finite_mixer_inputs.fn_part1 at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  haveI : Subsingleton Cert.Pre_finite_mixer_inputs.S_.Idx := ⟨fun p q => funext fun i => i.elim0⟩
  exact ⟨fun i => FfnBwd.real_of_bit (Host.reduce_andi_all _ _ _ _ _ e0 i), fun i => FfnBwd.real_of_bit (Host.reduce_andi_all _ _ _ _ _ e1 i),
    fun i => FfnBwd.real_of_bit (Host.reduce_andi_all _ _ _ _ _ e2 i), fun i => FfnBwd.real_of_bit (Host.reduce_andi_all _ _ _ _ _ e3 i),
    fun i => FfnBwd.real_of_bit (Host.reduce_andi_all _ _ _ _ _ e4 i)⟩

section Real
variable {X M : SX.Idx → EReal} {W : SWm.Idx → EReal} {g : SV.Idx → EReal} {C : SX.Idx → EReal}

/-- The residual sum of finite arguments is finite. -/
theorem sumz_real (hX : ∀ i, IsReal (X i)) (hM : ∀ i, IsReal (M i)) (hW : ∀ i, IsReal (W i)) (t : Fin 4096) (k : Fin 1024) :
    IsReal (sumz X M W t k) :=
  (bits_alpha.mul (hX _)).add (IsReal.sum _ _ fun _ => (hM _).mul (hW _))

/-- On finite arguments differentiation's form of the residual sum's cotangent is the kernel's. -/
theorem back_eq (hX : ∀ i, IsReal (X i)) (hM : ∀ i, IsReal (M i)) (hW : ∀ i, IsReal (W i)) (hg : ∀ i, IsReal (g i))
    (hC : ∀ i, IsReal (C i)) (t : Fin 4096) (k : Fin 1024) :
    lnvjp (sumz X M W t) (fun i => C (ix3 0 t i) * g (ix1 i)) k = dsumz X M W g C t k :=
  lnvjp_eq (sumz_real hX hM hW t) (fun _ => (hC _).mul (hg _)) k

end Real

open Cert.MixKernelIdeal.Value in
/-- The kernel's five arrays are the reference's five results, on every finite input. -/
theorem algebraic : Cert.algebraic_MixKernelIdeal_MixReferenceIdeal_pre_finite_mixer_inputs (hMixKernelIdeal := Cert.MixKernelIdeal.Gen.facts)
    (hMixReferenceIdeal := Cert.MixReferenceIdeal.Gen.facts) (hPre_finite_mixer_inputs := Cert.Pre_finite_mixer_inputs.Gen.facts) := by
  intro m g m' g' hpre hag
  refine ⟨fun c => heads (aDmix m c), fun c => rows (aDsumz m c), fun c => rows (aDsumz m c), fun c => line (aDgain m c),
    fun c => line (dshift (argC m c)), ?_, ?_⟩
  · refine (θ_run _ _ _).mono (fun r h c => ?_) (run_blocks m g)
    obtain ⟨h0, h1, h2, h3, h4, ha⟩ := h c
    exact ⟨h0.trans (arr4 m c), h1.trans (arr5 m c), h2.trans (arr6 m c), h3.trans (arr7 m c), h4.trans (arr8 m c), ha⟩
  refine (θ_run _ _ _).mono (fun r h c => ?_) (Cert.MixReferenceIdeal.Value.run_forms m' g')
  obtain ⟨h0, h1, h2, h3, h4, ha⟩ := h c
  obtain ⟨e0, e1, e2, e3, e4⟩ := hag c
  obtain ⟨pX, pM, pW, pS, pC⟩ := unpack (argX m c) (argM m c) (argW m c) (argS m c) (argC m c) (hpre c)
  have eX : MixReferenceIdeal.Value.argX m' c = argX m c := e0
  have eM : MixReferenceIdeal.Value.argM m' c = argM m c := e1
  have eW : MixReferenceIdeal.Value.argW m' c = argW m c := e2
  have eS : MixReferenceIdeal.Value.argS m' c = argS m c := e3
  have eC : MixReferenceIdeal.Value.argC m' c = argC m c := e4
  have eb : MixReferenceIdeal.Value.back m' c = aDsumz m c := by
    funext t k
    unfold MixReferenceIdeal.Value.back
    rw [eX, eM, eW, eS, eC]
    exact back_eq pX pM pW pS pC t k
  have em : MixReferenceIdeal.Value.rmix m' c = aDmix m c := by
    funext t j
    unfold MixReferenceIdeal.Value.rmix
    rw [eb, eW]
    rfl
  have eg : MixReferenceIdeal.Value.rgain m' c = aDgain m c := by
    funext k
    unfold MixReferenceIdeal.Value.rgain
    rw [eX, eM, eW, eC]
    exact Finset.sum_congr rfl fun t _ => mul_comm _ _
  rw [em] at h0
  rw [eb] at h1 h2
  rw [eg] at h3
  rw [eC] at h4
  exact ⟨h0, h1, h2, h3, h4, ha⟩

end Cert.MixerOut

end
-- ==== Proof.InbForm.lean ====
/- The mixer's input gradient in closed form: the residual's cotangent, scaled, plus the contraction of the projection's
   cotangent with the weight; and the cut of that contraction into two halves of five groups of 256 columns. -/
module

public import Idealize.ShloMosaic.Lib.Pointwise

@[expose] public section

noncomputable section

open Idealize.ShloMosaic

namespace Cert.InputGrad

/-- One row of the model width per token. -/
abbrev SMod : Shape := ⟨3, ![1, 4096, 1024]⟩
/-- One row of the projected width per token. -/
abbrev SProj : Shape := ⟨3, ![1, 4096, 2560]⟩
/-- The projection's weight. -/
abbrev SW : Shape := ⟨2, ![1024, 2560]⟩
/-- The gradient, per token and model channel. -/
abbrev SOut : Shape := ⟨2, ![4096, 1024]⟩

/-- The gradient at token `q` and model channel `k`. -/
def entry (D : SProj.Idx → EReal) (W : SW.Idx → EReal) (R : SMod.Idx → EReal) (q : Fin 4096) (k : Fin 1024) : EReal :=
  Ideal.ofBits .f32 0x3FB504F3#32 * R (ix3 0 q k) + ∑ j : Fin 2560, D (ix3 0 q j) * W (ix2 k j)

/-- The whole gradient. -/
def whole (D : SProj.Idx → EReal) (W : SW.Idx → EReal) (R : SMod.Idx → EReal) : SOut.Idx → EReal :=
  fun i => entry D W R (i 0) (i 1)

/-- The sum of five sums of 256 terms, in the order in which the body adds them. -/
def five (f : Fin 5 → Fin 256 → EReal) : EReal :=
  (∑ n, f 0 n) + (∑ n, f 1 n) + (∑ n, f 2 n) + (∑ n, f 3 n) + ∑ n, f 4 n

/-- A sum over 1280 columns is the sum of five sums over 256 columns each. -/
theorem five_eq (f : Fin 1280 → EReal) :
    ∑ j : Fin 1280, f j = five fun g n => f ⟨256 * g.val + n.val, by omega⟩ := by
  unfold five
  rw [show (∑ j : Fin 1280, f j) = (∑ j : Fin 1024, f ⟨j.val, by omega⟩) + ∑ n : Fin 256, f ⟨1024 + n.val, by omega⟩ from
      Fin.sum_univ_add (a := 1024) (b := 256) f,
    show (∑ j : Fin 1024, f ⟨j.val, by omega⟩) = (∑ j : Fin 768, f ⟨j.val, by omega⟩) + ∑ n : Fin 256, f ⟨768 + n.val, by omega⟩ from
      Fin.sum_univ_add (a := 768) (b := 256) fun j : Fin 1024 => f ⟨j.val, by omega⟩,
    show (∑ j : Fin 768, f ⟨j.val, by omega⟩) = (∑ j : Fin 512, f ⟨j.val, by omega⟩) + ∑ n : Fin 256, f ⟨512 + n.val, by omega⟩ from
      Fin.sum_univ_add (a := 512) (b := 256) fun j : Fin 768 => f ⟨j.val, by omega⟩,
    show (∑ j : Fin 512, f ⟨j.val, by omega⟩) = (∑ j : Fin 256, f ⟨j.val, by omega⟩) + ∑ n : Fin 256, f ⟨256 + n.val, by omega⟩ from
      Fin.sum_univ_add (a := 256) (b := 256) fun j : Fin 512 => f ⟨j.val, by omega⟩]
  refine congrArg₂ (· + ·) (congrArg₂ (· + ·) (congrArg₂ (· + ·) (congrArg₂ (· + ·) ?_ ?_) ?_) ?_) ?_ <;>
    exact Finset.sum_congr rfl fun n _ => congrArg f (Fin.ext (by simp))

/-- A sum over all columns is the sum over the first five groups plus the sum over the last five. -/
theorem ten (f : Fin 2560 → EReal) :
    ∑ j : Fin 2560, f j = (five fun g n => f ⟨256 * g.val + n.val, by omega⟩) + five fun g n => f ⟨256 * (5 + g.val) + n.val, by omega⟩ := by
  rw [show (∑ j : Fin 2560, f j) = (∑ j : Fin 1280, f ⟨j.val, by omega⟩) + ∑ j : Fin 1280, f ⟨1280 + j.val, by omega⟩ from
    Fin.sum_univ_add (a := 1280) (b := 1280) f, five_eq, five_eq]
  refine congrArg (fun z : EReal => (five fun g n => f ⟨256 * g.val + n.val, by omega⟩) + z) (congrArg five ?_)
  funext g n
  exact congrArg f (Fin.ext (by show 1280 + (256 * g.val + n.val) = 256 * (5 + g.val) + n.val; omega))

/-- What one grid point contracts: the five groups of its blocks. -/
def part (X : (⟨3, ![5, 1024, 256]⟩ : Shape).Idx → EReal) (Y : (⟨3, ![5, 1024, 256]⟩ : Shape).Idx → EReal)
    (q : Fin 1024) (k : Fin 1024) : EReal :=
  five fun g n => X (ix3 g q n) * Y (ix3 g k n)

end Cert.InputGrad

end
-- ==== Proof.InbKer.lean ====
/- The kernel's side of the mixer's input gradient: what the body leaves after each of the two halves of the projected
   columns, and from that the array after the run. -/
module

public import proofs.«01_k».proof.Proof.Gen.InbKernelIdeal.Value
public import proofs.«01_k».proof.Proof.InbForm
public import Idealize.ShloMosaic.Lib.Pipeline.ValueKit
public import Idealize.ShloMosaic.Lib.Pipeline.ReadBack
public import Idealize.ShloMosaic.Lib.Pointwise
public import Idealize.ShloMosaic.Lib.Tactic.CleanTypes
public import Idealize.ShloMosaic.Lib.StableHlo.ReadAt

@[expose] public section

set_option maxRecDepth 16384

noncomputable section

open Idealize.ShloMosaic Idealize.ShloMosaic.TcCoe Idealize.SL.Sem

namespace Cert.InbKernelIdeal.Value
open Cert.InbKernelIdeal Cert.InbKernelIdeal.Gen Cert.InputGrad

variable (m : (ℓ : Loc nD τ sig) → Buf (Elt Ideal) ℓ) (c : Dev nD)

/-- The projection's cotangent. -/
abbrev argD : SProj.Idx → EReal := m ((c : Thread nD τ).loc main_arg2)
/-- The projection's weight. -/
abbrev argW : SW.Idx → EReal := m ((c : Thread nD τ).loc main_arg1)
/-- The residual's cotangent. -/
abbrev argR : SMod.Idx → EReal := m ((c : Thread nD τ).loc main_arg3)

/-- At the first half of the columns the body writes the scaled residual plus the contraction of that half. -/
theorem first (t : Fin cfg0.N) (h0 : t.val % 2 = 0) (h1 : ¬ t.val % 2 = 1) (q k : Fin 1024) :
    @Eq EReal (outsAt0 m c t.val t.isLt (ix2 q k))
      (Ideal.ofBits .f32 0x3FB504F3#32 * (iblk m c 2 t : S1024x1024.Idx → EReal) (ix2 q k) + part (iblk m c 0 t) (iblk m c 1 t) q k) := by
  rw [outsAt0_A m c t h0 h1]
  generalize iblk m c 0 t = X
  generalize iblk m c 1 t = Y
  generalize iblk m c 2 t = Z
  unfold part five
  frame_out
  pointwise [k0_pay1, k0_pay2, k0_pay4, k0_pay5]

/-- At the second half of the columns the body adds the contraction of that half. -/
theorem second (t : Fin cfg0.N) (h0 : ¬ t.val % 2 = 0) (h1 : t.val % 2 = 1) (q k : Fin 1024) :
    @Eq EReal (outsAt0 m c t.val t.isLt (ix2 q k))
      (outsAt0 m c (t.val - 1) (Nat.lt_of_le_of_lt (Nat.sub_le _ _) t.isLt) (ix2 q k) + part (iblk m c 0 t) (iblk m c 1 t) q k) := by
  rw [outsAt0_B m c t h0 h1]
  generalize (outsAt0 m c (t.val - 1) (Nat.lt_of_le_of_lt (Nat.sub_le _ _) t.isLt)) = Z
  generalize iblk m c 0 t = X
  generalize iblk m c 1 t = Y
  unfold part five
  frame_out
  pointwise [k0_pay1, k0_pay3, k0_pay4, k0_pay5]

/-- The projection's cotangent as the call takes it, read through the argument. -/
theorem entry0 (g : Fin 10) (s : Fin 4096) (n : Fin 256) :
    @Eq EReal ((V m c (Pipeline.arrRef spec0 0) : S10x4096x256.Idx → EReal) (ix3 g s n)) (argD m c (ix3 0 s ⟨g.val * 256 + n.val, by omega⟩)) := by
  unfold V
  after_reads_at

/-- The weight as the call takes it, read through the argument. -/
theorem entry1 (g : Fin 10) (k : Fin 1024) (n : Fin 256) :
    @Eq EReal ((V m c (Pipeline.arrRef spec0 1) : S10x1024x256.Idx → EReal) (ix3 g k n)) (argW m c (ix2 k ⟨g.val * 256 + n.val, by omega⟩)) := by
  unfold V
  after_reads_at

/-- The residual's cotangent as the call takes it, read through the argument. -/
theorem entry2 (s : Fin 4096) (k : Fin 1024) :
    @Eq EReal ((V m c (Pipeline.arrRef spec0 2) : S4096x1024.Idx → EReal) (ix2 s k)) (argR m c (ix3 0 s k)) := by
  unfold V
  after_reads_at

/-- The block of the projection's cotangent at each grid point. -/
theorem idx0 : ∀ t : Fin cfg0.N, win0_0.index t = ![t.val % 2, t.val / 2, 0] := by decide +kernel
/-- The block of the weight at each grid point. -/
theorem idx1 : ∀ t : Fin cfg0.N, win0_1.index t = ![t.val % 2, 0, 0] := by decide +kernel
/-- The block of the residual's cotangent at each grid point. -/
theorem idx2 : ∀ t : Fin cfg0.N, win0_2.index t = ![t.val / 2, 0] := by decide +kernel
/-- The block of the result at each grid point. -/
theorem idx3 : ∀ t : Fin cfg0.N, win0_3.index t = ![t.val / 2, 0] := by decide +kernel

/-- There are eight grid points. -/
theorem point_lt (p : Fin cfg0.N) : p.val < 8 := p.isLt

/-- The cotangent's block at a grid point, read through the argument. -/
theorem blk0 (p : Fin cfg0.N) (g : Fin 5) (s : Fin 1024) (n : Fin 256) (q : Fin 4096) (hq : q.val = 1024 * (p.val / 2) + s.val)
    (j : Fin 2560) (hj : j.val = 256 * (p.val % 2 * 5 + g.val) + n.val) :
    @Eq EReal ((iblk m c 0 p : S5x1024x256.Idx → EReal) (ix3 g s n)) (argD m c (ix3 0 q j)) := by
  have hp := point_lt p
  have e : (iblk m c 0 p : S5x1024x256.Idx → EReal) (ix3 g s n)
      = (V m c (Pipeline.arrRef spec0 0) : S10x4096x256.Idx → EReal) (ix3 ⟨p.val % 2 * 5 + g.val, by omega⟩ ⟨p.val / 2 * 1024 + s.val, by omega⟩ n) := by
    blk_point [iblk, idx0 p]
  have eq : q = ⟨p.val / 2 * 1024 + s.val, by omega⟩ := Fin.ext (by show q.val = p.val / 2 * 1024 + s.val; omega)
  have ej : j = ⟨(p.val % 2 * 5 + g.val) * 256 + n.val, by omega⟩ := Fin.ext (by show j.val = (p.val % 2 * 5 + g.val) * 256 + n.val; omega)
  rw [eq, ej]
  exact e.trans (entry0 m c _ _ _)

/-- The weight's block at a grid point, read through the argument. -/
theorem blk1 (p : Fin cfg0.N) (g : Fin 5) (k : Fin 1024) (n : Fin 256) (j : Fin 2560) (hj : j.val = 256 * (p.val % 2 * 5 + g.val) + n.val) :
    @Eq EReal ((iblk m c 1 p : S5x1024x256.Idx → EReal) (ix3 g k n)) (argW m c (ix2 k j)) := by
  have hp := point_lt p
  have e : (iblk m c 1 p : S5x1024x256.Idx → EReal) (ix3 g k n)
      = (V m c (Pipeline.arrRef spec0 1) : S10x1024x256.Idx → EReal) (ix3 ⟨p.val % 2 * 5 + g.val, by omega⟩ k n) := by
    blk_point [iblk, idx1 p]
  have ej : j = ⟨(p.val % 2 * 5 + g.val) * 256 + n.val, by omega⟩ := Fin.ext (by show j.val = (p.val % 2 * 5 + g.val) * 256 + n.val; omega)
  rw [ej]
  exact e.trans (entry1 m c _ _ _)

/-- The residual's block at a grid point, read through the argument. -/
theorem blk2 (p : Fin cfg0.N) (s k : Fin 1024) (q : Fin 4096) (hq : q.val = 1024 * (p.val / 2) + s.val) :
    @Eq EReal ((iblk m c 2 p : S1024x1024.Idx → EReal) (ix2 s k)) (argR m c (ix3 0 q k)) := by
  have hp := point_lt p
  have e : (iblk m c 2 p : S1024x1024.Idx → EReal) (ix2 s k)
      = (V m c (Pipeline.arrRef spec0 2) : S4096x1024.Idx → EReal) (ix2 ⟨p.val / 2 * 1024 + s.val, by omega⟩ k) := by
    blk_point [iblk, idx2 p]
  have eq : q = ⟨p.val / 2 * 1024 + s.val, by omega⟩ := Fin.ext (by show q.val = p.val / 2 * 1024 + s.val; omega)
  rw [eq]
  exact e.trans (entry2 m c _ _)

/-- What a grid point contracts, read through the arguments. -/
theorem part_eq (p : Fin cfg0.N) (s k : Fin 1024) (q : Fin 4096) (hq : q.val = 1024 * (p.val / 2) + s.val)
    (j : Fin 5 → Fin 256 → Fin 2560) (hj : ∀ g n, (j g n).val = 256 * (p.val % 2 * 5 + g.val) + n.val) :
    part (iblk m c 0 p) (iblk m c 1 p) s k = five fun g n => argD m c (ix3 0 q (j g n)) * argW m c (ix2 k (j g n)) := by
  unfold part
  refine congrArg five ?_
  funext g n
  exact congrArg₂ (fun a b : EReal => a * b) (blk0 m c p g s n q hq _ (hj g n)) (blk1 m c p g k n _ (hj g n))

/-- The kernel's result at the end of the grid: the gradient's closed form. -/
theorem arr3 : (dats m 0 c).arrAt 3 cfg0.N = whole (argD m c) (argW m c) (argR m c) := by
  refine (dats m 0 c).arrAt_eq_of_covers 3 _ (by decide +kernel) fun t hf y => ?_
  have hodd : t.val % 2 = 1 := (flush0_3 t).mp hf
  have heven : ¬ t.val % 2 = 0 := by omega
  blk_simp
  rw [after0_3]
  idx_vars y
  have ht := point_lt t
  have e : ((View.whole main_v8).slice (win0_3.rect t)).emb (ix2 y0 y1) = ix2 ⟨t.val / 2 * 1024 + y0.val, by omega⟩ y1 := by
    blk_ext [idx3 t]
  rw [e]
  have hp : (t.val - 1) % 2 = 0 := by omega
  have hp' : ¬ (t.val - 1) % 2 = 1 := by omega
  have hd : (t.val - 1) / 2 = t.val / 2 := by omega
  have hl : t.val - 1 < cfg0.N := Nat.lt_of_le_of_lt (Nat.sub_le _ _) t.isLt
  refine (second m c t heven hodd y0 y1).trans ?_
  refine (congrArg (fun z : EReal => z + part (iblk m c 0 t) (iblk m c 1 t) y0 y1) (first m c ⟨t.val - 1, hl⟩ hp hp' y0 y1)).trans ?_
  have hq : t.val / 2 * 1024 + y0.val < 4096 := by have := y0.isLt; omega
  refine Eq.trans ?_ (congrArg (fun z : EReal => Ideal.ofBits .f32 0x3FB504F3#32 * argR m c (ix3 0 ⟨t.val / 2 * 1024 + y0.val, hq⟩ y1) + z)
    (ten fun j => argD m c (ix3 0 ⟨t.val / 2 * 1024 + y0.val, hq⟩ j) * argW m c (ix2 y1 j))).symm
  refine Eq.trans ?_ (add_assoc _ _ _)
  refine congrArg₂ (fun a b : EReal => a + b) (congrArg₂ (fun a b : EReal => a + b) ?_ ?_) ?_
  · exact congrArg (fun z : EReal => Ideal.ofBits .f32 0x3FB504F3#32 * z)
      (blk2 m c ⟨t.val - 1, hl⟩ y0 y1 _ (by show t.val / 2 * 1024 + y0.val = 1024 * ((t.val - 1) / 2) + y0.val; omega))
  · exact part_eq m c ⟨t.val - 1, hl⟩ y0 y1 _ (by show t.val / 2 * 1024 + y0.val = 1024 * ((t.val - 1) / 2) + y0.val; omega)
      _ fun g n => by show 256 * g.val + n.val = 256 * ((t.val - 1) % 2 * 5 + g.val) + n.val; omega
  · exact part_eq m c t y0 y1 _ (by show t.val / 2 * 1024 + y0.val = 1024 * (t.val / 2) + y0.val; omega)
      _ fun g n => by show 256 * (5 + g.val) + n.val = 256 * (t.val % 2 * 5 + g.val) + n.val; omega

end Cert.InbKernelIdeal.Value

end
-- ==== Proof.InbRef.lean ====
/- The reference's side of the mixer's input gradient: the reference program's result, read at an index. -/
module

public import proofs.«01_k».proof.Proof.Gen.InbReferenceIdeal.Run
public import proofs.«01_k».proof.Proof.InbForm
public import Idealize.ShloMosaic.Lib.Pointwise
public import Idealize.ShloMosaic.Lib.KernelVsHost
public import Idealize.ShloMosaic.Lib.Tactic.CleanTypes

@[expose] public section

set_option maxRecDepth 16384

noncomputable section

open Idealize.ShloMosaic Idealize.ShloMosaic.TcCoe Idealize.SL.Sem

namespace Cert.InbReferenceIdeal.Value
open Cert.InbReferenceIdeal Cert.InbReferenceIdeal.Facts Cert.InbReferenceIdeal.Gen Cert.InputGrad

variable (D : SProj.Idx → EReal) (W : SW.Idx → EReal) (R : SMod.Idx → EReal)

/-- The reference's result is the gradient's closed form. -/
theorem result : (shapeCast S4096x1024 (addf (F := Ideal) (Host.dotGeneral (φ₁ := .f32) (φ₂ := .f32) dot_S1x4096x2560_S1024x2560_S1x4096x1024_2_1_01_0_n_n none (D : (⟨S1x4096x2560, .f32⟩ : BufTy).Contents (Elt Ideal)) (W : (⟨S1024x2560, .f32⟩ : BufTy).Contents (Elt Ideal)))
      (mulf (broadcastInDim S1x4096x1024 ![] bcast_S_S1x4096x1024 (constant S_ .f32 0x3FB504F3#32)) (R : (⟨S1x4096x1024, .f32⟩ : BufTy).Contents (Elt Ideal)))) shapeCasts_S1x4096x1024_S4096x1024 : SOut.Idx → EReal)
    = whole D W R := by
  funext y
  idx_vars y
  clean_types
  pointwise
  show (_ : EReal) = _
  unfold whole entry
  exact add_comm _ _

end Cert.InbReferenceIdeal.Value

end
-- ==== Proof.InbClaim.lean ====
/- The value claim of the mixer's input gradient: the kernel's run and the reference's run, side by side. -/
module

public import proofs.«01_k».proof.Defs
public import proofs.«01_k».proof.Proof.InbKer
public import proofs.«01_k».proof.Proof.InbRef
public import Idealize.ShloMosaic.Lib.Claim

@[expose] public section

set_option maxRecDepth 16384

noncomputable section

open Idealize.ShloMosaic Idealize.ShloMosaic.TcCoe Idealize.SL.Sem

namespace Cert.InputGrad

/-- The kernel's array is the reference's result, for every input. -/
theorem algebraic : Cert.algebraic_InbKernelIdeal_InbReferenceIdeal (hInbKernelIdeal := Cert.InbKernelIdeal.Gen.facts)
    (hInbReferenceIdeal := Cert.InbReferenceIdeal.Gen.facts) := by
  intro m g m' g' _ hag
  refine ⟨fun c => whole (InbKernelIdeal.Value.argD m c) (InbKernelIdeal.Value.argW m c) (InbKernelIdeal.Value.argR m c), ?_, ?_⟩
  · refine (θ_run _ _ _).mono (fun r h c => ?_) (InbKernelIdeal.Value.run_blocks m g)
    obtain ⟨h0, ha⟩ := h c
    exact ⟨h0.trans (InbKernelIdeal.Value.arr3 m c), ha⟩
  · refine (θ_run _ _ _).mono (fun r h c => ?_) (InbReferenceIdeal.Value.run m' g')
    obtain ⟨h0, ha⟩ := h c
    obtain ⟨e0, e1, e2, e3⟩ := hag c
    refine ⟨h0.trans ((InbReferenceIdeal.Value.result _ _ _).trans ?_), ha⟩
    exact (congrArg₂ (fun a b => whole a b _) e2 e1).trans (congrArg (whole _ _) e3)

end Cert.InputGrad

end
-- ==== Proof.MixWForm.lean ====
/- The gradients of the mixer's output and input weights as closed forms: the sum over all tokens of the left operand's entry
   times the right operand's, laid out in groups of 256 channels. -/
module

public import Idealize.ShloMosaic.Lib.Pointwise

@[expose] public section

noncomputable section

open Idealize.ShloMosaic

namespace Cert.MixerWeight

/-- One row of the model width per token. -/
abbrev SRow : Shape := ⟨3, ![1, 4096, 1024]⟩
/-- One row of the projected width per token. -/
abbrev SProj : Shape := ⟨3, ![1, 4096, 2560]⟩
/-- The output weight's gradient, per group, mixed channel of the group and model channel. -/
abbrev SOut : Shape := ⟨3, ![4, 256, 1024]⟩
/-- The input weight's gradient, per group, model channel and projected channel of the group. -/
abbrev SIn : Shape := ⟨3, ![10, 1024, 256]⟩

/-- The output weight's gradient, cut into groups of rows. -/
def wholeOut (A B : SRow.Idx → EReal) : SOut.Idx → EReal :=
  fun i => ∑ s : Fin 4096, A (ix3 0 s ⟨256 * (i 0).val + (i 1).val, by
    have h0 : (i 0).val < 4 := (i 0).isLt
    have h1 : (i 1).val < 256 := (i 1).isLt
    omega⟩) * B (ix3 0 s (i 2))

/-- The input weight's gradient, cut into groups of columns. -/
def wholeIn (A : SRow.Idx → EReal) (B : SProj.Idx → EReal) : SIn.Idx → EReal :=
  fun i => ∑ s : Fin 4096, A (ix3 0 s (i 1)) * B (ix3 0 s ⟨256 * (i 0).val + (i 2).val, by
    have h0 : (i 0).val < 10 := (i 0).isLt
    have h2 : (i 2).val < 256 := (i 2).isLt
    omega⟩)

/-- What one grid point adds to the output weight's gradient: the sum over the tokens of its blocks. -/
def partOut (X : (⟨3, ![4, 2048, 256]⟩ : Shape).Idx → EReal) (Y : (⟨2, ![2048, 1024]⟩ : Shape).Idx → EReal) (g : Fin 4)
    (n : Fin 256) (k : Fin 1024) : EReal :=
  ∑ s : Fin 2048, X (ix3 g s n) * Y (ix2 s k)

/-- What one grid point adds to the input weight's gradient: the sum over the tokens of its blocks. -/
def partIn (X : (⟨2, ![2048, 1024]⟩ : Shape).Idx → EReal) (Y : (⟨3, ![5, 2048, 256]⟩ : Shape).Idx → EReal) (g : Fin 5)
    (k : Fin 1024) (n : Fin 256) : EReal :=
  ∑ s : Fin 2048, X (ix2 s k) * Y (ix3 g s n)

end Cert.MixerWeight

end
-- ==== Proof.MixWoutKer.lean ====
/- The kernel's side of the gradient of the mixer's output weight: what the body leaves after each of the two token blocks, and from that the array after
   the run. -/
module

public import proofs.«01_k».proof.Proof.Gen.WoutKernelIdeal.Value
public import proofs.«01_k».proof.Proof.WeightGrad
public import proofs.«01_k».proof.Proof.MixWForm
public import Idealize.ShloMosaic.Lib.Pipeline.ValueKit
public import Idealize.ShloMosaic.Lib.Pipeline.ReadBack
public import Idealize.ShloMosaic.Lib.Pointwise
public import Idealize.ShloMosaic.Lib.Tactic.CleanTypes
public import Idealize.ShloMosaic.Lib.StableHlo.ReadAt

@[expose] public section

set_option maxRecDepth 16384

noncomputable section

open Idealize.ShloMosaic Idealize.ShloMosaic.TcCoe Idealize.SL.Sem

namespace Cert.WoutKernelIdeal.Value
open Cert.WoutKernelIdeal Cert.WoutKernelIdeal.Gen Cert.MixerWeight

variable (m : (ℓ : Loc nD τ sig) → Buf (Elt Ideal) ℓ) (c : Dev nD)

/-- The mixed rows. -/
abbrev argA : SRow.Idx → EReal := m ((c : Thread nD τ).loc main_arg0)
/-- The cotangent of the projected rows. -/
abbrev argB : SRow.Idx → EReal := m ((c : Thread nD τ).loc main_arg2)

/-- After the first token block the accumulator holds the sum over that block. -/
theorem first (t : Fin cfg0.N) (h0 : t.val % 2 = 0) (h1 : ¬ t.val % 2 = 1) (g : Fin 4) (n : Fin 256) (k : Fin 1024) :
    @Eq EReal ((outsAt0 m c t.val t.isLt).2 (ix3 g n k)) (partOut (iblk m c 0 t) (iblk m c 1 t) g n k) := by
  rw [outsAt0_A m c t h0 h1]
  generalize iblk m c 0 t = X
  generalize iblk m c 1 t = Y
  unfold partOut
  frame_out
  simp (disch := decide) only [↓ View.readCov_skip, ↓ View.readCov_cons_toLoadRect, ↓ View.readCov_fill]
  refine View.canon_append_of_piecesOf (Val := Elt Ideal) (e := .f32) (fun i : S4x256x1024.Idx => (partOut X Y (i 0) (i 1) (i 2) : EReal)) [_] [_, _, _, _] ⟨?_, ?_, ?_, ?_, trivial⟩ (ix3 g n k) ?_
  · intro x
    pointwise [k0_pay2, k0_pay4]
    blk_point []
  · intro x
    pointwise [k0_pay1, k0_pay4]
    blk_point []
  · intro x
    pointwise [k0_pay6, k0_pay4]
    blk_point []
  · intro x
    pointwise [k0_pay5, k0_pay4]
    blk_point []
  · have hn := n.isLt
    have hk := k.isLt
    have hgl := g.isLt
    by_cases hg3 : g.val = 3
    · refine ⟨_, List.mem_cons_self, ?_⟩
      mem_blk []
      intro a
      match a with
      | 0 => exact ⟨by show 3 ≤ g.val; omega, by show g.val < 3 + 1; omega⟩
      | 1 => exact ⟨Nat.zero_le _, by show n.val < 0 + 256; omega⟩
      | 2 => exact ⟨Nat.zero_le _, by show k.val < 0 + 1024; omega⟩
    by_cases hg2 : g.val = 2
    · refine ⟨_, (List.mem_cons_of_mem _ List.mem_cons_self), ?_⟩
      mem_blk []
      intro a
      match a with
      | 0 => exact ⟨by show 2 ≤ g.val; omega, by show g.val < 2 + 1; omega⟩
      | 1 => exact ⟨Nat.zero_le _, by show n.val < 0 + 256; omega⟩
      | 2 => exact ⟨Nat.zero_le _, by show k.val < 0 + 1024; omega⟩
    by_cases hg1 : g.val = 1
    · refine ⟨_, (List.mem_cons_of_mem _ (List.mem_cons_of_mem _ List.mem_cons_self)), ?_⟩
      mem_blk []
      intro a
      match a with
      | 0 => exact ⟨by show 1 ≤ g.val; omega, by show g.val < 1 + 1; omega⟩
      | 1 => exact ⟨Nat.zero_le _, by show n.val < 0 + 256; omega⟩
      | 2 => exact ⟨Nat.zero_le _, by show k.val < 0 + 1024; omega⟩
    refine ⟨_, (List.mem_cons_of_mem _ (List.mem_cons_of_mem _ (List.mem_cons_of_mem _ List.mem_cons_self))), ?_⟩
    mem_blk []
    intro a
    match a with
    | 0 => exact ⟨Nat.zero_le _, by show g.val < 0 + 1; omega⟩
    | 1 => exact ⟨Nat.zero_le _, by show n.val < 0 + 256; omega⟩
    | 2 => exact ⟨Nat.zero_le _, by show k.val < 0 + 1024; omega⟩

/-- At the second token block the body writes the accumulator plus the sum over that block. -/
theorem second (t : Fin cfg0.N) (h0 : ¬ t.val % 2 = 0) (h1 : t.val % 2 = 1) (g : Fin 4) (n : Fin 256) (k : Fin 1024) :
    @Eq EReal ((outsAt0 m c t.val t.isLt).1 (ix3 g n k))
      ((outsAt0 m c (t.val - 1) (Nat.lt_of_le_of_lt (Nat.sub_le _ _) t.isLt)).2 (ix3 g n k) + partOut (iblk m c 0 t) (iblk m c 1 t) g n k) := by
  rw [outsAt0_B m c t h0 h1]
  generalize (outsAt0 m c (t.val - 1) (Nat.lt_of_le_of_lt (Nat.sub_le _ _) t.isLt)).2 = Z
  generalize iblk m c 0 t = X
  generalize iblk m c 1 t = Y
  unfold partOut
  frame_out
  simp only [read_unread_whole, View.readCov_eq_canon']
  pointwise [k0_pay3]
  canon_tiles x h
  · obtain rfl : g = 3 := Fin.ext (by change g.val = 3 + _ at h0; show g.val = 3; omega)
    obtain rfl : n = x 1 := Fin.ext h1
    obtain rfl : k = x 2 := Fin.ext h2
    pointwise [k0_pay2]
  · obtain rfl : g = 2 := Fin.ext (by change g.val = 2 + _ at h0; show g.val = 2; omega)
    obtain rfl : n = x 1 := Fin.ext h1
    obtain rfl : k = x 2 := Fin.ext h2
    pointwise [k0_pay1]
  · obtain rfl : g = 1 := Fin.ext (by change g.val = 1 + _ at h0; show g.val = 1; omega)
    obtain rfl : n = x 1 := Fin.ext h1
    obtain rfl : k = x 2 := Fin.ext h2
    pointwise [k0_pay6]
  · obtain rfl : g = 0 := Fin.ext (by change g.val = _ at h0; show g.val = 0; omega)
    obtain rfl : n = x 1 := Fin.ext h1
    obtain rfl : k = x 2 := Fin.ext h2
    pointwise [k0_pay5]

/-- The array of the mixed rows that the call takes, read through the argument. -/
theorem entry0 (g : Fin 4) (s : Fin 4096) (n : Fin 256) :
    @Eq EReal ((V m c (Pipeline.arrRef spec0 0) : S4x4096x256.Idx → EReal) (ix3 g s n)) (argA m c (ix3 0 s ⟨g.val * 256 + n.val, by omega⟩)) := by
  unfold V
  after_reads_at

/-- The array of the cotangent that the call takes, read through the argument. -/
theorem entry1 (s : Fin 4096) (k : Fin 1024) :
    @Eq EReal ((V m c (Pipeline.arrRef spec0 1) : S4096x1024.Idx → EReal) (ix2 s k)) (argB m c (ix3 0 s k)) := by
  unfold V
  after_reads_at

/-- The block of the mixed rows at each grid point. -/
theorem idx0 : ∀ t : Fin cfg0.N, win0_0.index t = ![0, t.val % 2, 0] := by decide +kernel
/-- The block of the cotangent at each grid point. -/
theorem idx1 : ∀ t : Fin cfg0.N, win0_1.index t = ![t.val % 2, 0] := by decide +kernel
/-- The block of the result at each grid point. -/
theorem idx2 : ∀ t : Fin cfg0.N, win0_2.index t = ![0, 0, 0] := by decide +kernel

/-- There are two grid points. -/
theorem point_lt (p : Fin cfg0.N) : p.val < 2 := p.isLt

/-- The mixed rows' block at a grid point, read through the argument. -/
theorem blk0 (p : Fin cfg0.N) (g : Fin 4) (s : Fin 2048) (n : Fin 256) (q : Fin 4096) (hq : q.val = 2048 * (p.val % 2) + s.val)
    (j : Fin 1024) (hj : j.val = g.val * 256 + n.val) :
    @Eq EReal ((iblk m c 0 p : S4x2048x256.Idx → EReal) (ix3 g s n)) (argA m c (ix3 0 q j)) := by
  have hp := point_lt p
  have e : (iblk m c 0 p : S4x2048x256.Idx → EReal) (ix3 g s n)
      = (V m c (Pipeline.arrRef spec0 0) : S4x4096x256.Idx → EReal) (ix3 g ⟨p.val % 2 * 2048 + s.val, by omega⟩ n) := by
    blk_point [iblk, idx0 p]
  have eq : q = ⟨p.val % 2 * 2048 + s.val, by omega⟩ := Fin.ext (by show q.val = p.val % 2 * 2048 + s.val; omega)
  have ej : j = ⟨g.val * 256 + n.val, by omega⟩ := Fin.ext hj
  rw [eq, ej]
  exact e.trans (entry0 m c _ _ _)

/-- The cotangent's block at a grid point, read through the argument. -/
theorem blk1 (p : Fin cfg0.N) (s : Fin 2048) (k : Fin 1024) (q : Fin 4096) (hq : q.val = 2048 * (p.val % 2) + s.val) :
    @Eq EReal ((iblk m c 1 p : S2048x1024.Idx → EReal) (ix2 s k)) (argB m c (ix3 0 q k)) := by
  have hp := point_lt p
  have e : (iblk m c 1 p : S2048x1024.Idx → EReal) (ix2 s k)
      = (V m c (Pipeline.arrRef spec0 1) : S4096x1024.Idx → EReal) (ix2 ⟨p.val % 2 * 2048 + s.val, by omega⟩ k) := by
    blk_point [iblk, idx1 p]
  have eq : q = ⟨p.val % 2 * 2048 + s.val, by omega⟩ := Fin.ext (by show q.val = p.val % 2 * 2048 + s.val; omega)
  rw [eq]
  exact e.trans (entry1 m c _ _)

/-- The kernel's result at the end of the grid: the gradient's closed form. -/
theorem arr2 : (dats m 0 c).arrAt 2 cfg0.N = wholeOut (argA m c) (argB m c) := by
  refine (dats m 0 c).arrAt_eq_of_covers 2 _ (by decide +kernel) fun t hf y => ?_
  have hodd : t.val % 2 = 1 := (flush0_2 t).mp hf
  have heven : ¬ t.val % 2 = 0 := by omega
  blk_simp
  rw [after0_2]
  idx_vars y
  have ht := point_lt t
  have e : ((View.whole main_v6).slice (win0_2.rect t)).emb (ix3 y0 y1 y2) = ix3 y0 y1 y2 := by
    blk_ext [idx2 t]
  rw [e]
  have hp : (t.val - 1) % 2 = 0 := by omega
  have hp' : ¬ (t.val - 1) % 2 = 1 := by omega
  have hl : t.val - 1 < cfg0.N := Nat.lt_of_le_of_lt (Nat.sub_le _ _) t.isLt
  refine (second m c t heven hodd y0 y1 y2).trans ?_
  refine (congrArg (fun z : EReal => z + partOut (iblk m c 0 t) (iblk m c 1 t) y0 y1 y2) (first m c ⟨t.val - 1, hl⟩ hp hp' y0 y1 y2)).trans ?_
  refine Eq.trans ?_ (Cert.WeightGrad.halves fun s => argA m c (ix3 0 s ⟨256 * y0.val + y1.val, by have := y0.isLt; have := y1.isLt; omega⟩) * argB m c (ix3 0 s y2)).symm
  refine congrArg₂ (fun a b : EReal => a + b) (Finset.sum_congr rfl fun s _ => ?_) (Finset.sum_congr rfl fun s _ => ?_)
  · exact congrArg₂ (fun a b : EReal => a * b)
      (blk0 m c ⟨t.val - 1, hl⟩ y0 s y1 _ (by show s.val = 2048 * ((t.val - 1) % 2) + s.val; omega) _
        (by show 256 * y0.val + y1.val = y0.val * 256 + y1.val; omega))
      (blk1 m c ⟨t.val - 1, hl⟩ s y2 _ (by show s.val = 2048 * ((t.val - 1) % 2) + s.val; omega))
  · exact congrArg₂ (fun a b : EReal => a * b)
      (blk0 m c t y0 s y1 _ (by show 2048 + s.val = 2048 * (t.val % 2) + s.val; omega) _ (by show 256 * y0.val + y1.val = y0.val * 256 + y1.val; omega))
      (blk1 m c t s y2 _ (by show 2048 + s.val = 2048 * (t.val % 2) + s.val; omega))

end Cert.WoutKernelIdeal.Value

end
-- ==== Proof.MixWoutRef.lean ====
/- The reference's side of the gradient of the mixer's output weight: the reference program's result, read at an index, is the
   sum over all tokens. -/
module

public import proofs.«01_k».proof.Proof.Gen.WoutReferenceIdeal.Run
public import proofs.«01_k».proof.Proof.MixWForm
public import Idealize.ShloMosaic.Lib.Pointwise
public import Idealize.ShloMosaic.Lib.KernelVsHost
public import Idealize.ShloMosaic.Lib.Tactic.CleanTypes

@[expose] public section

set_option maxRecDepth 16384

noncomputable section

open Idealize.ShloMosaic Idealize.ShloMosaic.TcCoe Idealize.SL.Sem

namespace Cert.WoutReferenceIdeal.Value
open Cert.WoutReferenceIdeal Cert.WoutReferenceIdeal.Facts Cert.WoutReferenceIdeal.Gen Cert.MixerWeight

variable (A : SRow.Idx → EReal) (B : SRow.Idx → EReal)

/-- The reference's result is the gradient's closed form. -/
theorem result : (truncf (F := Ideal) .bf16 (shapeCast _ (transpose S1024x1024 [1, 0]
      (Host.dotGeneral (φ₁ := .f32) (φ₂ := .f32) dot_S1x4096x1024_S1x4096x1024_S1024x1024_01_01_2_2_n_n none (B : (⟨S1x4096x1024, .f32⟩ : BufTy).Contents (Elt Ideal)) (A : (⟨S1x4096x1024, .f32⟩ : BufTy).Contents (Elt Ideal)))
      transposes_S1024x1024_S1024x1024_1_0) shapeCasts_S1024x1024_S4x256x1024) bitsLt_bf16_f32 : SOut.Idx → EReal)
    = wholeOut A B := by
  funext y
  idx_vars y
  clean_types
  pointwise
  rw [Fin.sum_univ_one]
  show (_ : EReal) = _
  unfold wholeOut
  refine Finset.sum_congr rfl fun s _ => ?_
  refine (mul_comm (B (ix3 0 s y2)) _).trans ?_
  refine congrArg (fun j : Fin 1024 => A (ix3 0 s j) * B (ix3 0 s y2)) (Fin.ext ?_)
  show y0.val * 256 + y1.val = 256 * y0.val + y1.val
  omega

end Cert.WoutReferenceIdeal.Value

end
-- ==== Proof.MixWoutClaim.lean ====
/- The value claim of the gradient of the mixer's output weight: the kernel's run and the reference's run, side by side. -/
module

public import proofs.«01_k».proof.Defs
public import proofs.«01_k».proof.Proof.MixWoutKer
public import proofs.«01_k».proof.Proof.MixWoutRef
public import Idealize.ShloMosaic.Lib.Claim

@[expose] public section

set_option maxRecDepth 16384

noncomputable section

open Idealize.ShloMosaic Idealize.ShloMosaic.TcCoe Idealize.SL.Sem

namespace Cert.MixerOutWeight
open Cert.MixerWeight

/-- The kernel's array is the reference's result, for every input. -/
theorem algebraic : Cert.algebraic_WoutKernelIdeal_WoutReferenceIdeal (hWoutKernelIdeal := Cert.WoutKernelIdeal.Gen.facts)
    (hWoutReferenceIdeal := Cert.WoutReferenceIdeal.Gen.facts) := by
  intro m g m' g' _ hag
  refine ⟨fun c => wholeOut (WoutKernelIdeal.Value.argA m c) (WoutKernelIdeal.Value.argB m c), ?_, ?_⟩
  · refine (θ_run _ _ _).mono (fun r h c => ?_) (WoutKernelIdeal.Value.run_blocks m g)
    obtain ⟨h0, ha⟩ := h c
    exact ⟨h0.trans (WoutKernelIdeal.Value.arr2 m c), ha⟩
  · refine (θ_run _ _ _).mono (fun r h c => ?_) (WoutReferenceIdeal.Value.run m' g')
    obtain ⟨h0, ha⟩ := h c
    obtain ⟨e0, e1, e2⟩ := hag c
    refine ⟨h0.trans ((WoutReferenceIdeal.Value.result _ _).trans ?_), ha⟩
    exact congrArg₂ wholeOut e0 e2

end Cert.MixerOutWeight

end
-- ==== Proof.MixWinKer.lean ====
/- The kernel's side of the gradient of the mixer's input weight: what the body leaves after each of the two token blocks, and from that the array after
   the run. -/
module

public import proofs.«01_k».proof.Proof.Gen.WinKernelIdeal.Value
public import proofs.«01_k».proof.Proof.WeightGrad
public import proofs.«01_k».proof.Proof.MixWForm
public import Idealize.ShloMosaic.Lib.Pipeline.ValueKit
public import Idealize.ShloMosaic.Lib.Pipeline.ReadBack
public import Idealize.ShloMosaic.Lib.Pointwise
public import Idealize.ShloMosaic.Lib.Tactic.CleanTypes
public import Idealize.ShloMosaic.Lib.StableHlo.ReadAt

@[expose] public section

set_option maxRecDepth 16384

noncomputable section

open Idealize.ShloMosaic Idealize.ShloMosaic.TcCoe Idealize.SL.Sem

namespace Cert.WinKernelIdeal.Value
open Cert.WinKernelIdeal Cert.WinKernelIdeal.Gen Cert.MixerWeight

variable (m : (ℓ : Loc nD τ sig) → Buf (Elt Ideal) ℓ) (c : Dev nD)

/-- The activations. -/
abbrev argA : SRow.Idx → EReal := m ((c : Thread nD τ).loc main_arg0)
/-- The cotangent of the projected rows. -/
abbrev argB : SProj.Idx → EReal := m ((c : Thread nD τ).loc main_arg2)

/-- After the first token block the accumulator holds the sum over that block. -/
theorem first (t : Fin cfg0.N) (h0 : t.val % 2 = 0) (h1 : ¬ t.val % 2 = 1) (g : Fin 5) (n : Fin 1024) (k : Fin 256) :
    @Eq EReal ((outsAt0 m c t.val t.isLt).2 (ix3 g n k)) (partIn (iblk m c 0 t) (iblk m c 1 t) g n k) := by
  rw [outsAt0_A m c t h0 h1]
  generalize iblk m c 0 t = X
  generalize iblk m c 1 t = Y
  unfold partIn
  frame_out
  simp (disch := decide) only [↓ View.readCov_skip, ↓ View.readCov_cons_toLoadRect, ↓ View.readCov_fill]
  refine View.canon_append_of_piecesOf (Val := Elt Ideal) (e := .f32) (fun i : S5x1024x256.Idx => (partIn X Y (i 0) (i 1) (i 2) : EReal)) [_] [_, _, _, _, _] ⟨?_, ?_, ?_, ?_, ?_, trivial⟩ (ix3 g n k) ?_
  · intro x
    pointwise [k0_pay1, k0_pay8, k0_pay9, k0_pay3]
    blk_point []
  · intro x
    pointwise [k0_pay7, k0_pay3]
    blk_point []
  · intro x
    pointwise [k0_pay6, k0_pay3]
    blk_point []
  · intro x
    pointwise [k0_pay5, k0_pay3]
    blk_point []
  · intro x
    pointwise [k0_pay4, k0_pay3]
    blk_point []
  · have hn := n.isLt
    have hk := k.isLt
    have hgl := g.isLt
    by_cases hg4 : g.val = 4
    · refine ⟨_, List.mem_cons_self, ?_⟩
      mem_blk []
      intro a
      match a with
      | 0 => exact ⟨by show 4 ≤ g.val; omega, by show g.val < 4 + 1; omega⟩
      | 1 => exact ⟨Nat.zero_le _, by show n.val < 0 + 1024; omega⟩
      | 2 => exact ⟨Nat.zero_le _, by show k.val < 0 + 256; omega⟩
    by_cases hg3 : g.val = 3
    · refine ⟨_, (List.mem_cons_of_mem _ List.mem_cons_self), ?_⟩
      mem_blk []
      intro a
      match a with
      | 0 => exact ⟨by show 3 ≤ g.val; omega, by show g.val < 3 + 1; omega⟩
      | 1 => exact ⟨Nat.zero_le _, by show n.val < 0 + 1024; omega⟩
      | 2 => exact ⟨Nat.zero_le _, by show k.val < 0 + 256; omega⟩
    by_cases hg2 : g.val = 2
    · refine ⟨_, (List.mem_cons_of_mem _ (List.mem_cons_of_mem _ List.mem_cons_self)), ?_⟩
      mem_blk []
      intro a
      match a with
      | 0 => exact ⟨by show 2 ≤ g.val; omega, by show g.val < 2 + 1; omega⟩
      | 1 => exact ⟨Nat.zero_le _, by show n.val < 0 + 1024; omega⟩
      | 2 => exact ⟨Nat.zero_le _, by show k.val < 0 + 256; omega⟩
    by_cases hg1 : g.val = 1
    · refine ⟨_, (List.mem_cons_of_mem _ (List.mem_cons_of_mem _ (List.mem_cons_of_mem _ List.mem_cons_self))), ?_⟩
      mem_blk []
      intro a
      match a with
      | 0 => exact ⟨by show 1 ≤ g.val; omega, by show g.val < 1 + 1; omega⟩
      | 1 => exact ⟨Nat.zero_le _, by show n.val < 0 + 1024; omega⟩
      | 2 => exact ⟨Nat.zero_le _, by show k.val < 0 + 256; omega⟩
    refine ⟨_, (List.mem_cons_of_mem _ (List.mem_cons_of_mem _ (List.mem_cons_of_mem _ (List.mem_cons_of_mem _ List.mem_cons_self)))), ?_⟩
    mem_blk []
    intro a
    match a with
    | 0 => exact ⟨Nat.zero_le _, by show g.val < 0 + 1; omega⟩
    | 1 => exact ⟨Nat.zero_le _, by show n.val < 0 + 1024; omega⟩
    | 2 => exact ⟨Nat.zero_le _, by show k.val < 0 + 256; omega⟩

/-- At the second token block the body writes the accumulator plus the sum over that block. -/
theorem second (t : Fin cfg0.N) (h0 : ¬ t.val % 2 = 0) (h1 : t.val % 2 = 1) (g : Fin 5) (n : Fin 1024) (k : Fin 256) :
    @Eq EReal ((outsAt0 m c t.val t.isLt).1 (ix3 g n k))
      ((outsAt0 m c (t.val - 1) (Nat.lt_of_le_of_lt (Nat.sub_le _ _) t.isLt)).2 (ix3 g n k) + partIn (iblk m c 0 t) (iblk m c 1 t) g n k) := by
  rw [outsAt0_B m c t h0 h1]
  generalize (outsAt0 m c (t.val - 1) (Nat.lt_of_le_of_lt (Nat.sub_le _ _) t.isLt)).2 = Z
  generalize iblk m c 0 t = X
  generalize iblk m c 1 t = Y
  unfold partIn
  frame_out
  simp only [read_unread_whole, View.readCov_eq_canon']
  pointwise [k0_pay2]
  canon_tiles x h
  · obtain rfl : g = 4 := Fin.ext (by change g.val = 4 + _ at h0; show g.val = 4; omega)
    obtain rfl : n = x 1 := Fin.ext h1
    obtain rfl : k = x 2 := Fin.ext h2
    pointwise [k0_pay1, k0_pay8, k0_pay9]
  · obtain rfl : g = 3 := Fin.ext (by change g.val = 3 + _ at h0; show g.val = 3; omega)
    obtain rfl : n = x 1 := Fin.ext h1
    obtain rfl : k = x 2 := Fin.ext h2
    pointwise [k0_pay7]
  · obtain rfl : g = 2 := Fin.ext (by change g.val = 2 + _ at h0; show g.val = 2; omega)
    obtain rfl : n = x 1 := Fin.ext h1
    obtain rfl : k = x 2 := Fin.ext h2
    pointwise [k0_pay6]
  · obtain rfl : g = 1 := Fin.ext (by change g.val = 1 + _ at h0; show g.val = 1; omega)
    obtain rfl : n = x 1 := Fin.ext h1
    obtain rfl : k = x 2 := Fin.ext h2
    pointwise [k0_pay5]
  · obtain rfl : g = 0 := Fin.ext (by change g.val = _ at h0; show g.val = 0; omega)
    obtain rfl : n = x 1 := Fin.ext h1
    obtain rfl : k = x 2 := Fin.ext h2
    pointwise [k0_pay4]

/-- The array of the activations that the call takes, read through the argument. -/
theorem entry0 (s : Fin 4096) (k : Fin 1024) :
    @Eq EReal ((V m c (Pipeline.arrRef spec0 0) : S4096x1024.Idx → EReal) (ix2 s k)) (argA m c (ix3 0 s k)) := by
  unfold V
  after_reads_at

/-- The array of the cotangent that the call takes, read through the argument. -/
theorem entry1 (g : Fin 10) (s : Fin 4096) (n : Fin 256) :
    @Eq EReal ((V m c (Pipeline.arrRef spec0 1) : S10x4096x256.Idx → EReal) (ix3 g s n)) (argB m c (ix3 0 s ⟨g.val * 256 + n.val, by omega⟩)) := by
  unfold V
  after_reads_at

/-- The block of the activations at each grid point. -/
theorem idx0 : ∀ t : Fin cfg0.N, win0_0.index t = ![t.val % 2, 0] := by decide +kernel
/-- The block of the cotangent at each grid point. -/
theorem idx1 : ∀ t : Fin cfg0.N, win0_1.index t = ![t.val / 2, t.val % 2, 0] := by decide +kernel
/-- The block of the result at each grid point. -/
theorem idx2 : ∀ t : Fin cfg0.N, win0_2.index t = ![t.val / 2, 0, 0] := by decide +kernel

/-- There are four grid points. -/
theorem point_lt (p : Fin cfg0.N) : p.val < 4 := p.isLt

/-- The activations' block at a grid point, read through the argument. -/
theorem blk0 (p : Fin cfg0.N) (s : Fin 2048) (k : Fin 1024) (q : Fin 4096) (hq : q.val = 2048 * (p.val % 2) + s.val) :
    @Eq EReal ((iblk m c 0 p : S2048x1024.Idx → EReal) (ix2 s k)) (argA m c (ix3 0 q k)) := by
  have hp := point_lt p
  have e : (iblk m c 0 p : S2048x1024.Idx → EReal) (ix2 s k)
      = (V m c (Pipeline.arrRef spec0 0) : S4096x1024.Idx → EReal) (ix2 ⟨p.val % 2 * 2048 + s.val, by omega⟩ k) := by
    blk_point [iblk, idx0 p]
  have eq : q = ⟨p.val % 2 * 2048 + s.val, by omega⟩ := Fin.ext (by show q.val = p.val % 2 * 2048 + s.val; omega)
  rw [eq]
  exact e.trans (entry0 m c _ _)

/-- The cotangent's block at a grid point, read through the argument. -/
theorem blk1 (p : Fin cfg0.N) (g : Fin 5) (s : Fin 2048) (n : Fin 256) (q : Fin 4096) (hq : q.val = 2048 * (p.val % 2) + s.val)
    (j : Fin 2560) (hj : j.val = (p.val / 2 * 5 + g.val) * 256 + n.val) :
    @Eq EReal ((iblk m c 1 p : S5x2048x256.Idx → EReal) (ix3 g s n)) (argB m c (ix3 0 q j)) := by
  have hp := point_lt p
  have e : (iblk m c 1 p : S5x2048x256.Idx → EReal) (ix3 g s n)
      = (V m c (Pipeline.arrRef spec0 1) : S10x4096x256.Idx → EReal) (ix3 ⟨p.val / 2 * 5 + g.val, by omega⟩ ⟨p.val % 2 * 2048 + s.val, by omega⟩ n) := by
    blk_point [iblk, idx1 p]
  have eq : q = ⟨p.val % 2 * 2048 + s.val, by omega⟩ := Fin.ext (by show q.val = p.val % 2 * 2048 + s.val; omega)
  have ej : j = ⟨(p.val / 2 * 5 + g.val) * 256 + n.val, by omega⟩ := Fin.ext hj
  rw [eq, ej]
  exact e.trans (entry1 m c _ _ _)

/-- The kernel's result at the end of the grid: the gradient's closed form. -/
theorem arr2 : (dats m 0 c).arrAt 2 cfg0.N = wholeIn (argA m c) (argB m c) := by
  refine (dats m 0 c).arrAt_eq_of_covers 2 _ (by decide +kernel) fun t hf y => ?_
  have hodd : t.val % 2 = 1 := (flush0_2 t).mp hf
  have heven : ¬ t.val % 2 = 0 := by omega
  blk_simp
  rw [after0_2]
  idx_vars y
  have ht := point_lt t
  have e : ((View.whole main_v6).slice (win0_2.rect t)).emb (ix3 y0 y1 y2) = ix3 ⟨t.val / 2 * 5 + y0.val, by omega⟩ y1 y2 := by
    blk_ext [idx2 t]
  rw [e]
  have hp : (t.val - 1) % 2 = 0 := by omega
  have hp' : ¬ (t.val - 1) % 2 = 1 := by omega
  have hd : (t.val - 1) / 2 = t.val / 2 := by omega
  have hl : t.val - 1 < cfg0.N := Nat.lt_of_le_of_lt (Nat.sub_le _ _) t.isLt
  refine (second m c t heven hodd y0 y1 y2).trans ?_
  refine (congrArg (fun z : EReal => z + partIn (iblk m c 0 t) (iblk m c 1 t) y0 y1 y2) (first m c ⟨t.val - 1, hl⟩ hp hp' y0 y1 y2)).trans ?_
  refine Eq.trans ?_ (Cert.WeightGrad.halves fun s => argA m c (ix3 0 s y1) * argB m c (ix3 0 s ⟨256 * (t.val / 2 * 5 + y0.val) + y2.val, by have := y0.isLt; have := y2.isLt; omega⟩)).symm
  refine congrArg₂ (fun a b : EReal => a + b) (Finset.sum_congr rfl fun s _ => ?_) (Finset.sum_congr rfl fun s _ => ?_)
  · exact congrArg₂ (fun a b : EReal => a * b)
      (blk0 m c ⟨t.val - 1, hl⟩ s y1 _ (by show s.val = 2048 * ((t.val - 1) % 2) + s.val; omega))
      (blk1 m c ⟨t.val - 1, hl⟩ y0 s y2 _ (by show s.val = 2048 * ((t.val - 1) % 2) + s.val; omega) _
        (by show 256 * (t.val / 2 * 5 + y0.val) + y2.val = ((t.val - 1) / 2 * 5 + y0.val) * 256 + y2.val; omega))
  · exact congrArg₂ (fun a b : EReal => a * b)
      (blk0 m c t s y1 _ (by show 2048 + s.val = 2048 * (t.val % 2) + s.val; omega))
      (blk1 m c t y0 s y2 _ (by show 2048 + s.val = 2048 * (t.val % 2) + s.val; omega) _ (by show 256 * (t.val / 2 * 5 + y0.val) + y2.val = (t.val / 2 * 5 + y0.val) * 256 + y2.val; omega))

end Cert.WinKernelIdeal.Value

end
-- ==== Proof.MixWinRef.lean ====
/- The reference's side of the gradient of the mixer's input weight: the reference program's result, read at an index, is the
   sum over all tokens. -/
module

public import proofs.«01_k».proof.Proof.Gen.WinReferenceIdeal.Run
public import proofs.«01_k».proof.Proof.MixWForm
public import Idealize.ShloMosaic.Lib.Pointwise
public import Idealize.ShloMosaic.Lib.KernelVsHost
public import Idealize.ShloMosaic.Lib.Tactic.CleanTypes

@[expose] public section

set_option maxRecDepth 16384

noncomputable section

open Idealize.ShloMosaic Idealize.ShloMosaic.TcCoe Idealize.SL.Sem

namespace Cert.WinReferenceIdeal.Value
open Cert.WinReferenceIdeal Cert.WinReferenceIdeal.Facts Cert.WinReferenceIdeal.Gen Cert.MixerWeight

variable (A : SRow.Idx → EReal) (B : SProj.Idx → EReal)

/-- The reference's result is the gradient's closed form. -/
theorem result : (truncf (F := Ideal) .bf16 (transpose S10x1024x256 [1, 0, 2] (shapeCast _ (transpose S1024x2560 [1, 0]
      (Host.dotGeneral (φ₁ := .f32) (φ₂ := .f32) dot_S1x4096x2560_S1x4096x1024_S2560x1024_01_01_2_2_n_n none (B : (⟨S1x4096x2560, .f32⟩ : BufTy).Contents (Elt Ideal)) (A : (⟨S1x4096x1024, .f32⟩ : BufTy).Contents (Elt Ideal)))
      transposes_S2560x1024_S1024x2560_1_0) shapeCasts_S1024x2560_S1024x10x256) transposes_S1024x10x256_S10x1024x256_1_0_2) bitsLt_bf16_f32 : SIn.Idx → EReal)
    = wholeIn A B := by
  funext y
  idx_vars y
  clean_types
  pointwise
  rw [Fin.sum_univ_one]
  show (_ : EReal) = _
  unfold wholeIn
  refine Finset.sum_congr rfl fun s _ => ?_
  refine (mul_comm _ (A (ix3 0 s y1))).trans ?_
  refine congrArg (fun j : Fin 2560 => A (ix3 0 s y1) * B (ix3 0 s j)) (Fin.ext ?_)
  show y0.val * 256 + y2.val = 256 * y0.val + y2.val
  omega

end Cert.WinReferenceIdeal.Value

end
-- ==== Proof.MixWinClaim.lean ====
/- The value claim of the gradient of the mixer's input weight: the kernel's run and the reference's run, side by side. -/
module

public import proofs.«01_k».proof.Defs
public import proofs.«01_k».proof.Proof.MixWinKer
public import proofs.«01_k».proof.Proof.MixWinRef
public import Idealize.ShloMosaic.Lib.Claim

@[expose] public section

set_option maxRecDepth 16384

noncomputable section

open Idealize.ShloMosaic Idealize.ShloMosaic.TcCoe Idealize.SL.Sem

namespace Cert.MixerInWeight
open Cert.MixerWeight

/-- The kernel's array is the reference's result, for every input. -/
theorem algebraic : Cert.algebraic_WinKernelIdeal_WinReferenceIdeal (hWinKernelIdeal := Cert.WinKernelIdeal.Gen.facts)
    (hWinReferenceIdeal := Cert.WinReferenceIdeal.Gen.facts) := by
  intro m g m' g' _ hag
  refine ⟨fun c => wholeIn (WinKernelIdeal.Value.argA m c) (WinKernelIdeal.Value.argB m c), ?_, ?_⟩
  · refine (θ_run _ _ _).mono (fun r h c => ?_) (WinKernelIdeal.Value.run_blocks m g)
    obtain ⟨h0, ha⟩ := h c
    exact ⟨h0.trans (WinKernelIdeal.Value.arr2 m c), ha⟩
  · refine (θ_run _ _ _).mono (fun r h c => ?_) (WinReferenceIdeal.Value.run m' g')
    obtain ⟨h0, ha⟩ := h c
    obtain ⟨e0, e1, e2⟩ := hag c
    refine ⟨h0.trans ((WinReferenceIdeal.Value.result _ _).trans ?_), ha⟩
    exact congrArg₂ wholeIn e0 e2

end Cert.MixerInWeight

end
-- ==== Proof.MixFForm.lean ====
/- The mixer's two projections, forward, as closed forms: the input projection cut into groups of columns, and the layer norm
   of the output projection's residual sum. -/
module

public import proofs.«01_k».proof.Proof.MixForm

@[expose] public section

noncomputable section

open Idealize.ShloMosaic

namespace Cert.MixerFwd
open Cert.Ffn Cert.MixerOut

/-- The input projection's weight. -/
abbrev SWp : Shape := ⟨2, ![1024, 2560]⟩
/-- The projected rows, per group of columns: group, token, column of the group. -/
abbrev SP : Shape := ⟨3, ![10, 4096, 256]⟩

/-- The input projection, cut into groups of columns. -/
def projected (X : SX.Idx → EReal) (W : SWp.Idx → EReal) : SP.Idx → EReal :=
  fun i => ∑ k : Fin 1024, X (ix3 0 (i 1) k) * W (ix2 k ⟨(i 0).val * 256 + (i 2).val, by
    have h0 : (i 0).val < 10 := (i 0).isLt
    have h2 : (i 2).val < 256 := (i 2).isLt
    omega⟩)

/-- The layer norm of the residual sum. -/
def normed (X M : SX.Idx → EReal) (W : SWm.Idx → EReal) (g b : SV.Idx → EReal) (t : Fin 4096) (k : Fin 1024) : EReal :=
  lnorm (sumz X M W t) k (g (ix1 k)) (b (ix1 k))

/-- The sum over all mixed channels is the sum of the four groups' sums, taken in the order of the groups. -/
theorem sum_groups (f : Fin 1024 → EReal) :
    ∑ j : Fin 1024, f j = (∑ n : Fin 256, f ⟨n.val, by omega⟩) + (∑ n : Fin 256, f ⟨256 + n.val, by omega⟩)
      + (∑ n : Fin 256, f ⟨512 + n.val, by omega⟩) + ∑ n : Fin 256, f ⟨768 + n.val, by omega⟩ := by
  have h3 : ∑ j : Fin 1024, f j = (∑ n : Fin 768, f ⟨n.val, by omega⟩) + ∑ n : Fin 256, f ⟨768 + n.val, by omega⟩ :=
    Fin.sum_univ_add (a := 768) (b := 256) f
  have h2 : ∑ n : Fin 768, f ⟨n.val, by omega⟩ = (∑ n : Fin 512, f ⟨n.val, by omega⟩) + ∑ n : Fin 256, f ⟨512 + n.val, by omega⟩ :=
    Fin.sum_univ_add (a := 512) (b := 256) fun n => f ⟨n.val, by omega⟩
  have h1 : ∑ n : Fin 512, f ⟨n.val, by omega⟩ = (∑ n : Fin 256, f ⟨n.val, by omega⟩) + ∑ n : Fin 256, f ⟨256 + n.val, by omega⟩ :=
    Fin.sum_univ_add (a := 256) (b := 256) fun n => f ⟨n.val, by omega⟩
  rw [h3, h2, h1]

end Cert.MixerFwd

end
-- ==== Proof.MixInfKer.lean ====
/- The kernel's side of the mixer's input projection: what the body leaves at each grid point, and from that the array after
   the run. -/
module

public import proofs.«01_k».proof.Proof.Gen.InfKernelIdeal.Value
public import proofs.«01_k».proof.Proof.MixFForm
public import Idealize.ShloMosaic.Lib.Pipeline.ValueKit
public import Idealize.ShloMosaic.Lib.Pipeline.ReadBack
public import Idealize.ShloMosaic.Lib.Pointwise
public import Idealize.ShloMosaic.Lib.Tactic.CleanTypes
public import Idealize.ShloMosaic.Lib.StableHlo.ReadAt

@[expose] public section

set_option maxRecDepth 16384

noncomputable section

open Idealize.ShloMosaic Idealize.ShloMosaic.TcCoe Idealize.SL.Sem

namespace Cert.InfKernelIdeal.Value
open Cert.InfKernelIdeal Cert.InfKernelIdeal.Gen Cert.Ffn Cert.MixerFwd

/-- What the body leaves for a block of rows and a block of groups: the rows times each group's columns. -/
theorem left (X : S1024x1024.Idx → EReal) (Y : S5x1024x256.Idx → EReal) (g : Fin 5) (s : Fin 1024) (n : Fin 256) :
    @Eq EReal (out0_2 (F := Ideal) X Y (ix3 g s n)) (∑ k : Fin 1024, X (ix2 s k) * Y (ix3 g k n)) := by
  unfold out0_2
  canon_tiles x h
  · obtain rfl : g = 4 := Fin.ext (by change g.val = 4 + _ at h0; show g.val = 4; omega)
    obtain rfl : s = x 1 := Fin.ext h1
    obtain rfl : n = x 2 := Fin.ext h2
    pointwise [k0_pay2, k0_pay3]
  · obtain rfl : g = 3 := Fin.ext (by change g.val = 3 + _ at h0; show g.val = 3; omega)
    obtain rfl : s = x 1 := Fin.ext h1
    obtain rfl : n = x 2 := Fin.ext h2
    pointwise [k0_pay1, k0_pay7, k0_pay3]
  · obtain rfl : g = 2 := Fin.ext (by change g.val = 2 + _ at h0; show g.val = 2; omega)
    obtain rfl : s = x 1 := Fin.ext h1
    obtain rfl : n = x 2 := Fin.ext h2
    pointwise [k0_pay6, k0_pay3]
  · obtain rfl : g = 1 := Fin.ext (by change g.val = 1 + _ at h0; show g.val = 1; omega)
    obtain rfl : s = x 1 := Fin.ext h1
    obtain rfl : n = x 2 := Fin.ext h2
    pointwise [k0_pay5, k0_pay3]
  · obtain rfl : g = 0 := Fin.ext (by change g.val = _ at h0; show g.val = 0; omega)
    obtain rfl : s = x 1 := Fin.ext h1
    obtain rfl : n = x 2 := Fin.ext h2
    pointwise [k0_pay4, k0_pay3]

variable (m : (ℓ : Loc nD τ sig) → Buf (Elt Ideal) ℓ) (c : Dev nD)

/-- The activations. -/
abbrev argX : SX.Idx → EReal := m ((c : Thread nD τ).loc main_arg0)
/-- The input projection's weight. -/
abbrev argW : SWp.Idx → EReal := m ((c : Thread nD τ).loc main_arg1)

/-- The block of the activations at each grid point. -/
theorem idx0 : ∀ t : Fin cfg0.N, win0_0.index t = ![t.val / 2, 0] := by decide +kernel
/-- The block of the weight at each grid point. -/
theorem idx1 : ∀ t : Fin cfg0.N, win0_1.index t = ![t.val % 2, 0, 0] := by decide +kernel
/-- The block of the result at each grid point. -/
theorem idx2 : ∀ t : Fin cfg0.N, win0_2.index t = ![t.val % 2, t.val / 2, 0] := by decide +kernel

/-- There are eight grid points. -/
theorem point_lt (p : Fin cfg0.N) : p.val < 8 := p.isLt

/-- Row `s` of a grid point's block of tokens. -/
def tok (t : Fin cfg0.N) (s : Fin 1024) : Fin 4096 := ⟨t.val / 2 * 1024 + s.val, by have := point_lt t; omega⟩

/-- The activations' block at a grid point, read through the argument. -/
theorem blk0 (t : Fin cfg0.N) (s : Fin 1024) (k : Fin 1024) :
    @Eq EReal ((iblk m c 0 t : S1024x1024.Idx → EReal) (ix2 s k)) (argX m c (ix3 0 (tok t s) k)) := by
  have ht := point_lt t
  have e : (iblk m c 0 t : S1024x1024.Idx → EReal) (ix2 s k)
      = (V m c (Pipeline.arrRef spec0 0) : S4096x1024.Idx → EReal) (ix2 (tok t s) k) := by
    unfold tok
    blk_point [iblk, idx0 t]
  refine e.trans ?_
  show @Eq EReal _ _
  unfold V
  after_reads_at

/-- The weight's block at a grid point, read through the argument. -/
theorem blk1 (t : Fin cfg0.N) (g : Fin 5) (k : Fin 1024) (n : Fin 256) :
    @Eq EReal ((iblk m c 1 t : S5x1024x256.Idx → EReal) (ix3 g k n)) (argW m c (ix2 k ⟨(t.val % 2 * 5 + g.val) * 256 + n.val, by omega⟩)) := by
  have ht := point_lt t
  have e : (iblk m c 1 t : S5x1024x256.Idx → EReal) (ix3 g k n)
      = (V m c (Pipeline.arrRef spec0 1) : S10x1024x256.Idx → EReal) (ix3 ⟨t.val % 2 * 5 + g.val, by omega⟩ k n) := by
    blk_point [iblk, idx1 t]
  refine e.trans ?_
  show @Eq EReal _ _
  unfold V
  after_reads_at

/-- The kernel's result at the end of the grid: the projection's closed form. -/
theorem arr2 : (dats m 0 c).arrAt 2 cfg0.N = projected (argX m c) (argW m c) := by
  refine (dats m 0 c).arrAt_eq_of_covers 2 _ (by decide +kernel) fun t hf y => ?_
  blk_simp
  rw [after0_2]
  idx_vars y
  have ht := point_lt t
  have e : ((View.whole main_v5).slice (win0_2.rect t)).emb (ix3 y0 y1 y2) = ix3 ⟨t.val % 2 * 5 + y0.val, by omega⟩ (tok t y1) y2 := by
    unfold tok
    blk_ext [idx2 t]
  rw [e]
  refine (left _ _ y0 y1 y2).trans (Finset.sum_congr rfl fun k _ => ?_)
  exact congrArg₂ (fun a b : EReal => a * b) (blk0 m c t y1 k) (blk1 m c t y0 k y2)

end Cert.InfKernelIdeal.Value

end
-- ==== Proof.MixInfRef.lean ====
/- The reference's side of the mixer's input projection: the reference program's result, read at an index, is the product of
   the token's row with the weight's column. -/
module

public import proofs.«01_k».proof.Proof.Gen.InfReferenceIdeal.Run
public import proofs.«01_k».proof.Proof.MixFForm
public import Idealize.ShloMosaic.Lib.Pointwise
public import Idealize.ShloMosaic.Lib.KernelVsHost
public import Idealize.ShloMosaic.Lib.Tactic.CleanTypes

@[expose] public section

set_option maxRecDepth 16384

noncomputable section

open Idealize.ShloMosaic Idealize.ShloMosaic.TcCoe Idealize.SL.Sem

namespace Cert.InfReferenceIdeal.Value
open Cert.InfReferenceIdeal Cert.InfReferenceIdeal.Facts Cert.InfReferenceIdeal.Gen Cert.Ffn Cert.MixerFwd

/-- The reference's result is the projection's closed form. -/
theorem result (X : SX.Idx → EReal) (W : SWp.Idx → EReal) :
    (transpose S10x4096x256 [1, 0, 2] (shapeCast _ (shapeCast _ (Host.dotGeneral (F := Ideal) (φ₁ := .f32) (φ₂ := .f32) dot_S1x4096x1024_S1024x2560_S1x4096x2560_2_0_01_1_n_n none (X : (⟨S1x4096x1024, .f32⟩ : BufTy).Contents (Elt Ideal)) (W : (⟨S1024x2560, .f32⟩ : BufTy).Contents (Elt Ideal))) shapeCasts_S1x4096x2560_S4096x2560) shapeCasts_S4096x2560_S4096x10x256) transposes_S4096x10x256_S10x4096x256_1_0_2 : SP.Idx → EReal)
    = projected X W := by
  funext y
  idx_vars y
  show (_ : EReal) = _
  unfold projected
  clean_types
  pointwise

end Cert.InfReferenceIdeal.Value

end
-- ==== Proof.MixInfClaim.lean ====
/- The value claim of the mixer's input projection: the kernel's run and the reference's run, side by side. -/
module

public import proofs.«01_k».proof.Defs
public import proofs.«01_k».proof.Proof.MixInfKer
public import proofs.«01_k».proof.Proof.MixInfRef
public import Idealize.ShloMosaic.Lib.Claim

@[expose] public section

set_option maxRecDepth 16384

noncomputable section

open Idealize.ShloMosaic Idealize.ShloMosaic.TcCoe Idealize.SL.Sem

namespace Cert.MixerInFwd
open Cert.MixerFwd

/-- The kernel's array is the reference's result, for every input. -/
theorem algebraic : Cert.algebraic_InfKernelIdeal_InfReferenceIdeal (hInfKernelIdeal := Cert.InfKernelIdeal.Gen.facts)
    (hInfReferenceIdeal := Cert.InfReferenceIdeal.Gen.facts) := by
  intro m g m' g' _ hag
  refine ⟨fun c => projected (InfKernelIdeal.Value.argX m c) (InfKernelIdeal.Value.argW m c), ?_, ?_⟩
  · refine (θ_run _ _ _).mono (fun r h c => ?_) (InfKernelIdeal.Value.run_blocks m g)
    obtain ⟨h0, ha⟩ := h c
    exact ⟨h0.trans (InfKernelIdeal.Value.arr2 m c), ha⟩
  · refine (θ_run _ _ _).mono (fun r h c => ?_) (InfReferenceIdeal.Value.run m' g')
    obtain ⟨h0, ha⟩ := h c
    obtain ⟨e0, e1⟩ := hag c
    refine ⟨h0.trans ((InfReferenceIdeal.Value.result _ _).trans ?_), ha⟩
    exact congrArg₂ projected e0 e1

end Cert.MixerInFwd

end
-- ==== Proof.MixOutfKer.lean ====
/- The kernel's side of the mixer's output projection with its residual and layer norm: the values that the body computes at
   a grid point, and from that the three arrays after the run. -/
module

public import proofs.«01_k».proof.Proof.Gen.OutfKernelIdeal.Value
public import proofs.«01_k».proof.Proof.MixFForm
public import Idealize.ShloMosaic.Lib.Pipeline.ValueKit
public import Idealize.ShloMosaic.Lib.Pipeline.ReadBack
public import Idealize.ShloMosaic.Lib.Pointwise
public import Idealize.ShloMosaic.Lib.Tactic.CleanTypes
public import Idealize.ShloMosaic.Lib.StableHlo.ReadAt

@[expose] public section

set_option maxRecDepth 16384

noncomputable section

open Idealize.ShloMosaic Idealize.ShloMosaic.TcCoe Idealize.SL.Sem

namespace Cert.OutfKernelIdeal.Value
open Cert.OutfKernelIdeal Cert.OutfKernelIdeal.Gen Cert.Ffn Cert.MixerOut Cert.MixerFwd

/-! ### The values of the body, over the vectors that it reads -/

/-- The pattern of one is one. -/
theorem bits_one : Ideal.ofBits FTy.f32 0x3F800000#32 = (1 : EReal) := by
  simp [Ideal.ofBits, Ideal.ieee]
  rw [← EReal.coe_mul]
  norm_num

section Pay
variable (A0 A1 A2 A3 : S1x1024x256.Idx → EReal) (W0 W1 W2 W3 : S1x256x1024.Idx → EReal)
variable (P Q Z : S1024x1024.Idx → EReal) (o : EReal) (g b : S1x1024.Idx → EReal)

/-- The four groups' products, added up. -/
theorem pay4 (s k : Fin 1024) :
    @Eq EReal (k0_pay4 (F := Ideal) A0 W0 A1 W1 A2 W2 A3 W3 (ix2 s k))
      ((∑ n : Fin 256, A0 (ix3 0 s n) * W0 (ix3 0 n k)) + (∑ n : Fin 256, A1 (ix3 0 s n) * W1 (ix3 0 n k))
        + (∑ n : Fin 256, A2 (ix3 0 s n) * W2 (ix3 0 n k)) + ∑ n : Fin 256, A3 (ix3 0 s n) * W3 (ix3 0 n k)) := by
  pointwise [k0_pay4]

/-- The residual, scaled. -/
theorem pay5 (s k : Fin 1024) :
    @Eq EReal (k0_pay5 (F := Ideal) Z (ix2 s k)) (Ideal.ofBits FTy.f32 1068827891#32 * Z (ix2 s k)) := by
  pointwise [k0_pay5]

/-- The residual sum. -/
theorem pay1 (s k : Fin 1024) :
    @Eq EReal (k0_pay1 (F := Ideal) P Q o (ix2 s k)) (Q (ix2 s k) + o * P (ix2 s k)) := by
  pointwise [k0_pay1]

/-- The layer norm of the residual sum. -/
theorem pay2 (s k : Fin 1024) :
    @Eq EReal (k0_pay2 (F := Ideal) P Q o g b (ix2 s k))
      (lnorm (fun i => Q (ix2 s i) + o * P (ix2 s i)) k (g (ix2 0 k)) (b (ix2 0 k))) := by
  unfold lnorm rstd vari mean
  pointwise [k0_pay2, k0_pay1]

/-- The layer norm, stored in the narrower format. -/
theorem pay3 (s k : Fin 1024) :
    @Eq EReal (k0_pay3 (F := Ideal) P Q o g b (ix2 s k)) (k0_pay2 (F := Ideal) P Q o g b (ix2 s k)) := by
  unfold k0_pay3
  generalize k0_pay2 (F := Ideal) P Q o g b = R
  pointwise

end Pay

/-- Group 0's mixed rows, read at an index. -/
theorem rows0 (X : S4x1024x256.Idx → EReal) (s : Fin 1024) (n : Fin 256) :
    @Eq EReal ((View.ld (Val := Elt Ideal) (e' := .bf16) X r0_0 : S1x1024x256.Idx → EReal) (ix3 0 s n)) (X (ix3 0 s n)) := by
  refine congrArg X (funext fun a => Fin.ext ?_)
  match a with
  | 0 => rfl
  | 1 => exact by show 0 + 1 * s.val = s.val; omega
  | 2 => exact by show 0 + 1 * n.val = n.val; omega

/-- Group 0's rows of the weight, read at an index. -/
theorem part0 (Y : S4x256x1024.Idx → EReal) (n : Fin 256) (k : Fin 1024) :
    @Eq EReal ((View.ld (Val := Elt Ideal) (e' := .bf16) Y r0_1 : S1x256x1024.Idx → EReal) (ix3 0 n k)) (Y (ix3 0 n k)) := by
  refine congrArg Y (funext fun a => Fin.ext ?_)
  match a with
  | 0 => rfl
  | 1 => exact by show 0 + 1 * n.val = n.val; omega
  | 2 => exact by show 0 + 1 * k.val = k.val; omega

/-- Group 1's mixed rows, read at an index. -/
theorem rows1 (X : S4x1024x256.Idx → EReal) (s : Fin 1024) (n : Fin 256) :
    @Eq EReal ((View.ld (Val := Elt Ideal) (e' := .bf16) X r0_2 : S1x1024x256.Idx → EReal) (ix3 0 s n)) (X (ix3 1 s n)) := by
  refine congrArg X (funext fun a => Fin.ext ?_)
  match a with
  | 0 => rfl
  | 1 => exact by show 0 + 1 * s.val = s.val; omega
  | 2 => exact by show 0 + 1 * n.val = n.val; omega

/-- Group 1's rows of the weight, read at an index. -/
theorem part1 (Y : S4x256x1024.Idx → EReal) (n : Fin 256) (k : Fin 1024) :
    @Eq EReal ((View.ld (Val := Elt Ideal) (e' := .bf16) Y r0_3 : S1x256x1024.Idx → EReal) (ix3 0 n k)) (Y (ix3 1 n k)) := by
  refine congrArg Y (funext fun a => Fin.ext ?_)
  match a with
  | 0 => rfl
  | 1 => exact by show 0 + 1 * n.val = n.val; omega
  | 2 => exact by show 0 + 1 * k.val = k.val; omega

/-- Group 2's mixed rows, read at an index. -/
theorem rows2 (X : S4x1024x256.Idx → EReal) (s : Fin 1024) (n : Fin 256) :
    @Eq EReal ((View.ld (Val := Elt Ideal) (e' := .bf16) X r0_4 : S1x1024x256.Idx → EReal) (ix3 0 s n)) (X (ix3 2 s n)) := by
  refine congrArg X (funext fun a => Fin.ext ?_)
  match a with
  | 0 => rfl
  | 1 => exact by show 0 + 1 * s.val = s.val; omega
  | 2 => exact by show 0 + 1 * n.val = n.val; omega

/-- Group 2's rows of the weight, read at an index. -/
theorem part2 (Y : S4x256x1024.Idx → EReal) (n : Fin 256) (k : Fin 1024) :
    @Eq EReal ((View.ld (Val := Elt Ideal) (e' := .bf16) Y r0_5 : S1x256x1024.Idx → EReal) (ix3 0 n k)) (Y (ix3 2 n k)) := by
  refine congrArg Y (funext fun a => Fin.ext ?_)
  match a with
  | 0 => rfl
  | 1 => exact by show 0 + 1 * n.val = n.val; omega
  | 2 => exact by show 0 + 1 * k.val = k.val; omega

/-- Group 3's mixed rows, read at an index. -/
theorem rows3 (X : S4x1024x256.Idx → EReal) (s : Fin 1024) (n : Fin 256) :
    @Eq EReal ((View.ld (Val := Elt Ideal) (e' := .bf16) X r0_6 : S1x1024x256.Idx → EReal) (ix3 0 s n)) (X (ix3 3 s n)) := by
  refine congrArg X (funext fun a => Fin.ext ?_)
  match a with
  | 0 => rfl
  | 1 => exact by show 0 + 1 * s.val = s.val; omega
  | 2 => exact by show 0 + 1 * n.val = n.val; omega

/-- Group 3's rows of the weight, read at an index. -/
theorem part3 (Y : S4x256x1024.Idx → EReal) (n : Fin 256) (k : Fin 1024) :
    @Eq EReal ((View.ld (Val := Elt Ideal) (e' := .bf16) Y r0_7 : S1x256x1024.Idx → EReal) (ix3 0 n k)) (Y (ix3 3 n k)) := by
  refine congrArg Y (funext fun a => Fin.ext ?_)
  match a with
  | 0 => rfl
  | 1 => exact by show 0 + 1 * n.val = n.val; omega
  | 2 => exact by show 0 + 1 * k.val = k.val; omega

/-- The residual's block, read at an index. -/
theorem whole8 (Z : S1024x1024.Idx → EReal) (s k : Fin 1024) :
    @Eq EReal ((View.ld (Val := Elt Ideal) (e' := .f32) Z r0_8 : S1024x1024.Idx → EReal) (ix2 s k)) (Z (ix2 s k)) := by
  refine congrArg Z (funext fun a => Fin.ext ?_)
  match a with
  | 0 => exact by show 0 + 1 * s.val = s.val; omega
  | 1 => exact by show 0 + 1 * k.val = k.val; omega

/-- A row of the norm's parameters, read at an index. -/
theorem whole9 (g : S1x1024.Idx → EReal) (k : Fin 1024) :
    @Eq EReal ((View.ld (Val := Elt Ideal) (e' := .f32) g r0_9 : S1x1024.Idx → EReal) (ix2 0 k)) (g (ix2 0 k)) := by
  refine congrArg g (funext fun a => Fin.ext ?_)
  match a with
  | 0 => rfl
  | 1 => exact by show 0 + 1 * k.val = k.val; omega

section Body
variable (X : S4x1024x256.Idx → EReal) (Y : S4x256x1024.Idx → EReal) (Z : S1024x1024.Idx → EReal) (g b : S1x1024.Idx → EReal)

/-- One group's product in a block. -/
def gsum (j : Fin 4) (s k : Fin 1024) : EReal := ∑ n : Fin 256, X (ix3 j s n) * Y (ix3 j n k)

/-- The residual sum of a block. -/
def bsum (s k : Fin 1024) : EReal :=
  Ideal.ofBits FTy.f32 1068827891#32 * Z (ix2 s k)
    + (gsum X Y 0 s k + gsum X Y 1 s k + gsum X Y 2 s k + gsum X Y 3 s k)

/-- What the body adds up is the residual sum. -/
theorem bsum_at (s k : Fin 1024) :
    (k0_pay7 (F := Ideal) X Y Z g b : S1024x1024.Idx → EReal) (ix2 s k)
      + Ideal.ofBits FTy.f32 0x3F800000#32 * (k0_pay6 (F := Ideal) X Y Z g b : S1024x1024.Idx → EReal) (ix2 s k) = bsum X Y Z s k := by
  rw [bits_one, one_mul]
  unfold k0_pay7 k0_pay6 bsum gsum
  refine congrArg₂ (fun a b : EReal => a + b) ((pay5 _ s k).trans (congrArg (fun z : EReal => _ * z) (whole8 Z s k))) ((pay4 _ _ _ _ _ _ _ _ s k).trans ?_)
  refine congrArg₂ (fun a b : EReal => a + b) (congrArg₂ (fun a b : EReal => a + b) (congrArg₂ (fun a b : EReal => a + b) ?_ ?_) ?_) ?_
  · exact Finset.sum_congr rfl fun n _ => congrArg₂ (fun a b : EReal => a * b) (rows0 X s n) (part0 Y n k)
  · exact Finset.sum_congr rfl fun n _ => congrArg₂ (fun a b : EReal => a * b) (rows1 X s n) (part1 Y n k)
  · exact Finset.sum_congr rfl fun n _ => congrArg₂ (fun a b : EReal => a * b) (rows2 X s n) (part2 Y n k)
  · exact Finset.sum_congr rfl fun n _ => congrArg₂ (fun a b : EReal => a * b) (rows3 X s n) (part3 Y n k)

/-- The body's layer norm is that of the residual sum. -/
theorem norm_at (s k : Fin 1024) :
    @Eq EReal (k0_pay2 (F := Ideal) (k0_pay6 (F := Ideal) X Y Z g b) (k0_pay7 (F := Ideal) X Y Z g b) (Scalar.ofBits .f32 0x3F800000#32)
        (View.ld (Val := Elt Ideal) (e' := .f32) g r0_9) (View.ld (Val := Elt Ideal) (e' := .f32) b r0_9) (ix2 s k))
      (lnorm (bsum X Y Z s) k (g (ix2 0 k)) (b (ix2 0 k))) := by
  refine (pay2 _ _ _ _ _ s k).trans ?_
  have h : (fun i : Fin 1024 => (k0_pay7 (F := Ideal) X Y Z g b : S1024x1024.Idx → EReal) (ix2 s i)
      + Ideal.ofBits FTy.f32 0x3F800000#32 * (k0_pay6 (F := Ideal) X Y Z g b : S1024x1024.Idx → EReal) (ix2 s i)) = bsum X Y Z s :=
    funext fun i => bsum_at X Y Z g b s i
  exact (congrArg (fun f : Fin 1024 → EReal => lnorm f k _ _) h).trans
    (congrArg₂ (fun u v : EReal => lnorm (bsum X Y Z s) k u v) (whole9 g k) (whole9 b k))

/-- The body leaves the residual sum. -/
theorem left5 (s k : Fin 1024) : @Eq EReal (out0_5 (F := Ideal) X Y Z g b (ix2 s k)) (bsum X Y Z s k) := by
  refine Eq.trans ?_ (bsum_at X Y Z g b s k)
  refine Eq.trans ?_ (pay1 _ _ _ s k)
  unfold out0_5
  frame_out
  rfl

/-- The body leaves the layer norm. -/
theorem left6 (s k : Fin 1024) :
    @Eq EReal (out0_6 (F := Ideal) X Y Z g b (ix2 s k)) (lnorm (bsum X Y Z s) k (g (ix2 0 k)) (b (ix2 0 k))) := by
  refine Eq.trans ?_ (norm_at X Y Z g b s k)
  unfold out0_6
  frame_out

/-- The body leaves the layer norm in the narrower format. -/
theorem left7 (s k : Fin 1024) :
    @Eq EReal (out0_7 (F := Ideal) X Y Z g b (ix2 s k)) (lnorm (bsum X Y Z s) k (g (ix2 0 k)) (b (ix2 0 k))) := by
  refine Eq.trans ?_ (norm_at X Y Z g b s k)
  refine Eq.trans ?_ (pay3 _ _ _ _ _ s k)
  unfold out0_7
  frame_out

end Body

/-! ### The blocks that the body reads, through the arguments -/

variable (m : (ℓ : Loc nD τ sig) → Buf (Elt Ideal) ℓ) (c : Dev nD)

/-- The mixed rows. -/
abbrev argM : SX.Idx → EReal := m ((c : Thread nD τ).loc main_arg0)
/-- The output projection's weight. -/
abbrev argW : SWm.Idx → EReal := m ((c : Thread nD τ).loc main_arg1)
/-- The activations. -/
abbrev argX : SX.Idx → EReal := m ((c : Thread nD τ).loc main_arg2)
/-- The norm's scale. -/
abbrev argS : SV.Idx → EReal := m ((c : Thread nD τ).loc main_arg3)
/-- The norm's shift. -/
abbrev argT : SV.Idx → EReal := m ((c : Thread nD τ).loc main_arg4)

/-- There are four grid points. -/
theorem point_lt (p : Fin cfg0.N) : p.val < 4 := p.isLt

/-- The block of window 0 at each grid point. -/
theorem idx0 : ∀ t : Fin cfg0.N, win0_0.index t = ![0, t.val, 0] := by decide +kernel
/-- The block of window 1 at each grid point. -/
theorem idx1 : ∀ t : Fin cfg0.N, win0_1.index t = ![0, 0, 0] := by decide +kernel
/-- The block of window 2 at each grid point. -/
theorem idx2 : ∀ t : Fin cfg0.N, win0_2.index t = ![t.val, 0] := by decide +kernel
/-- The block of window 3 at each grid point. -/
theorem idx3 : ∀ t : Fin cfg0.N, win0_3.index t = ![0, 0] := by decide +kernel
/-- The block of window 4 at each grid point. -/
theorem idx4 : ∀ t : Fin cfg0.N, win0_4.index t = ![0, 0] := by decide +kernel
/-- The block of window 5 at each grid point. -/
theorem idx5 : ∀ t : Fin cfg0.N, win0_5.index t = ![t.val, 0] := by decide +kernel
/-- The block of window 6 at each grid point. -/
theorem idx6 : ∀ t : Fin cfg0.N, win0_6.index t = ![t.val, 0] := by decide +kernel
/-- The block of window 7 at each grid point. -/
theorem idx7 : ∀ t : Fin cfg0.N, win0_7.index t = ![t.val, 0] := by decide +kernel

/-- Row `s` of a grid point's block of tokens. -/
def tok (t : Fin cfg0.N) (s : Fin 1024) : Fin 4096 := ⟨t.val * 1024 + s.val, by have := point_lt t; omega⟩

set_option maxHeartbeats 2000000 in
/-- The mixed rows' block in window 0. -/
theorem blk0 (t : Fin cfg0.N) (j : Fin 4) (s : Fin 1024) (n : Fin 256) :
    @Eq EReal ((iblk m c 0 t : S4x1024x256.Idx → EReal) (ix3 j s n)) (argM m c (ix3 0 (tok t s) ⟨j.val * 256 + n.val, by omega⟩)) := by
  have ht := point_lt t
  have e : (iblk m c 0 t : S4x1024x256.Idx → EReal) (ix3 j s n)
      = (V m c (Pipeline.arrRef spec0 0) : S4x4096x256.Idx → EReal) (ix3 j (tok t s) n) := by
    unfold tok
    blk_point [iblk, idx0 t]
  refine e.trans ?_
  show @Eq EReal _ _
  unfold V
  after_reads_at

set_option maxHeartbeats 2000000 in
/-- The weight's block in window 1. -/
theorem blk1 (t : Fin cfg0.N) (j : Fin 4) (n : Fin 256) (k : Fin 1024) :
    @Eq EReal ((iblk m c 1 t : S4x256x1024.Idx → EReal) (ix3 j n k)) (argW m c (ix2 ⟨j.val * 256 + n.val, by omega⟩ k)) := by
  have e : (iblk m c 1 t : S4x256x1024.Idx → EReal) (ix3 j n k)
      = (V m c (Pipeline.arrRef spec0 1) : S4x256x1024.Idx → EReal) (ix3 j n k) := by
    blk_point [iblk, idx1 t]
  refine e.trans ?_
  show @Eq EReal _ _
  unfold V
  after_reads_at

set_option maxHeartbeats 2000000 in
/-- The activations' block in window 2. -/
theorem blk2 (t : Fin cfg0.N) (s k : Fin 1024) :
    @Eq EReal ((iblk m c 2 t : S1024x1024.Idx → EReal) (ix2 s k)) (argX m c (ix3 0 (tok t s) k)) := by
  have ht := point_lt t
  have e : (iblk m c 2 t : S1024x1024.Idx → EReal) (ix2 s k)
      = (V m c (Pipeline.arrRef spec0 2) : S4096x1024.Idx → EReal) (ix2 (tok t s) k) := by
    unfold tok
    blk_point [iblk, idx2 t]
  refine e.trans ?_
  show @Eq EReal _ _
  unfold V
  after_reads_at

set_option maxHeartbeats 2000000 in
/-- The scale's block in window 3. -/
theorem blk3 (t : Fin cfg0.N) (k : Fin 1024) :
    @Eq EReal ((iblk m c 3 t : S1x1024.Idx → EReal) (ix2 0 k)) (argS m c (ix1 k)) := by
  have e : (iblk m c 3 t : S1x1024.Idx → EReal) (ix2 0 k)
      = (V m c (Pipeline.arrRef spec0 3) : S1x1024.Idx → EReal) (ix2 0 k) := by
    blk_point [iblk, idx3 t]
  refine e.trans ?_
  show @Eq EReal _ _
  unfold V
  after_reads_at

set_option maxHeartbeats 2000000 in
/-- The shift's block in window 4. -/
theorem blk4 (t : Fin cfg0.N) (k : Fin 1024) :
    @Eq EReal ((iblk m c 4 t : S1x1024.Idx → EReal) (ix2 0 k)) (argT m c (ix1 k)) := by
  have e : (iblk m c 4 t : S1x1024.Idx → EReal) (ix2 0 k)
      = (V m c (Pipeline.arrRef spec0 4) : S1x1024.Idx → EReal) (ix2 0 k) := by
    blk_point [iblk, idx4 t]
  refine e.trans ?_
  show @Eq EReal _ _
  unfold V
  after_reads_at

/-! ### The values at a grid point, through the arguments -/

/-- The residual sum. -/
abbrev aSum := sumz (argX m c) (argM m c) (argW m c)
/-- The layer norm. -/
abbrev aNorm := normed (argX m c) (argM m c) (argW m c) (argS m c) (argT m c)

/-- One group's product at a grid point. -/
theorem group (t : Fin cfg0.N) (j : Fin 4) (s k : Fin 1024) (q : Nat) (hq : j.val * 256 = q) (hb : q + 256 ≤ 1024) :
    @Eq EReal (gsum (iblk m c 0 t) (iblk m c 1 t) j s k)
      (∑ n : Fin 256, argM m c (ix3 0 (tok t s) ⟨q + n.val, by omega⟩) * argW m c (ix2 ⟨q + n.val, by omega⟩ k)) := by
  subst hq
  exact Finset.sum_congr rfl fun n _ => congrArg₂ (fun a b : EReal => a * b) (blk0 m c t j s n) (blk1 m c t j n k)

/-- The residual sum at a grid point. -/
theorem sum_at (t : Fin cfg0.N) (s k : Fin 1024) :
    bsum (iblk m c 0 t) (iblk m c 1 t) (iblk m c 2 t) s k = aSum m c (tok t s) k := by
  unfold bsum aSum sumz
  rw [sum_groups]
  refine congrArg₂ (fun a b : EReal => a + b) (congrArg (fun z : EReal => _ * z) (blk2 m c t s k)) ?_
  refine congrArg₂ (fun a b : EReal => a + b) (congrArg₂ (fun a b : EReal => a + b) (congrArg₂ (fun a b : EReal => a + b) ?_ ?_) ?_) ?_
  · refine (group m c t 0 s k 0 rfl (by decide)).trans (Finset.sum_congr rfl fun n _ => ?_)
    have e : (⟨0 + n.val, by omega⟩ : Fin 1024) = ⟨n.val, by omega⟩ := Fin.ext (Nat.zero_add _)
    rw [e]
  · exact group m c t 1 s k 256 rfl (by decide)
  · exact group m c t 2 s k 512 rfl (by decide)
  · exact group m c t 3 s k 768 rfl (by decide)

/-- The layer norm at a grid point. -/
theorem lnorm_at (t : Fin cfg0.N) (s k : Fin 1024) :
    @Eq EReal (lnorm (bsum (iblk m c 0 t) (iblk m c 1 t) (iblk m c 2 t) s) k ((iblk m c 3 t : S1x1024.Idx → EReal) (ix2 0 k)) ((iblk m c 4 t : S1x1024.Idx → EReal) (ix2 0 k)))
      (aNorm m c (tok t s) k) := by
  have h : bsum (iblk m c 0 t) (iblk m c 1 t) (iblk m c 2 t) s = aSum m c (tok t s) := funext fun i => sum_at m c t s i
  exact (congrArg (fun f : Fin 1024 → EReal => lnorm f k _ _) h).trans
    (congrArg₂ (fun u v : EReal => lnorm (aSum m c (tok t s)) k u v) (blk3 m c t k) (blk4 m c t k))

/-! ### The result arrays after the run -/

/-- The residual sum at the end of the grid. -/
theorem arr5 : (dats m 0 c).arrAt 5 cfg0.N = rows (aSum m c) := by
  refine (dats m 0 c).arrAt_eq_of_covers 5 _ (by decide +kernel) fun t hf y => ?_
  blk_simp
  rw [after0_5]
  idx_vars y
  have ht := point_lt t
  have e : ((View.whole main_v9_0).slice (win0_5.rect t)).emb (ix2 y0 y1) = ix2 (tok t y0) y1 := by
    unfold tok
    blk_ext [idx5 t]
  rw [e]
  exact (left5 _ _ _ _ _ y0 y1).trans (sum_at m c t y0 y1)

/-- The layer norm at the end of the grid. -/
theorem arr6 : (dats m 0 c).arrAt 6 cfg0.N = rows (aNorm m c) := by
  refine (dats m 0 c).arrAt_eq_of_covers 6 _ (by decide +kernel) fun t hf y => ?_
  blk_simp
  rw [after0_6]
  idx_vars y
  have ht := point_lt t
  have e : ((View.whole main_v9_1).slice (win0_6.rect t)).emb (ix2 y0 y1) = ix2 (tok t y0) y1 := by
    unfold tok
    blk_ext [idx6 t]
  rw [e]
  exact (left6 _ _ _ _ _ y0 y1).trans (lnorm_at m c t y0 y1)

/-- The layer norm in the narrower format at the end of the grid. -/
theorem arr7 : (dats m 0 c).arrAt 7 cfg0.N = rows (aNorm m c) := by
  refine (dats m 0 c).arrAt_eq_of_covers 7 _ (by decide +kernel) fun t hf y => ?_
  blk_simp
  rw [after0_7]
  idx_vars y
  have ht := point_lt t
  have e : ((View.whole main_v9_2).slice (win0_7.rect t)).emb (ix2 y0 y1) = ix2 (tok t y0) y1 := by
    unfold tok
    blk_ext [idx7 t]
  rw [e]
  exact (left7 _ _ _ _ _ y0 y1).trans (lnorm_at m c t y0 y1)

end Cert.OutfKernelIdeal.Value

end
-- ==== Proof.MixOutfRef.lean ====
/- The reference's side of the mixer's output projection with its residual and layer norm: each result of the reference
   program, read at an index, is its closed form. -/
module

public import proofs.«01_k».proof.Proof.Gen.OutfReferenceIdeal.Run
public import proofs.«01_k».proof.Proof.MixFForm
public import Idealize.ShloMosaic.Lib.Pointwise
public import Idealize.ShloMosaic.Lib.KernelVsHost
public import Idealize.ShloMosaic.Lib.Tactic.CleanTypes

@[expose] public section

set_option maxRecDepth 16384

noncomputable section

open Idealize.ShloMosaic Idealize.ShloMosaic.TcCoe Idealize.SL.Sem

namespace Cert.OutfReferenceIdeal.Value
open Cert.OutfReferenceIdeal Cert.OutfReferenceIdeal.Gen Cert.Ffn Cert.MixerOut Cert.MixerFwd

variable (m : (ℓ : Loc nD τ sig) → Buf (Elt Ideal) ℓ) (c : Dev nD)

/-- The mixed rows. -/
abbrev argM : SX.Idx → EReal := m ((c : Thread nD τ).loc main_arg0)
/-- The output projection's weight. -/
abbrev argW : SWm.Idx → EReal := m ((c : Thread nD τ).loc main_arg1)
/-- The activations. -/
abbrev argX : SX.Idx → EReal := m ((c : Thread nD τ).loc main_arg2)
/-- The norm's scale. -/
abbrev argS : SV.Idx → EReal := m ((c : Thread nD τ).loc main_arg3)
/-- The norm's shift. -/
abbrev argT : SV.Idx → EReal := m ((c : Thread nD τ).loc main_arg4)

set_option maxHeartbeats 4000000 in
/-- The reference's run: its three results are the closed forms, and its arguments stay. -/
theorem run_forms (ρ : Dev nD → PrngReg) :
    θ_run (defs (F := Ideal)) (onTc (τ := τ) (main (F := Ideal))) ⟨m, fun _ => 0, ρ⟩ fun r => ∀ c : Dev nD,
      r.2.mem ((c.tc : Thread nD τ).loc main_v28) = rows (sumz (argX m c) (argM m c) (argW m c))
      ∧ r.2.mem ((c.tc : Thread nD τ).loc main_v29) = rows (normed (argX m c) (argM m c) (argW m c) (argS m c) (argT m c))
      ∧ r.2.mem ((c.tc : Thread nD τ).loc main_v31) = rows (normed (argX m c) (argM m c) (argW m c) (argS m c) (argT m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r h c => ?_) (run (F := Ideal) m ρ)
  obtain ⟨h0, h1, h2, ha⟩ := h c
  refine ⟨h0.trans ?_, h1.trans ?_, h2.trans ?_, ha⟩
  · funext y
    idx_vars y
    show (_ : EReal) = sumz (argX m c) (argM m c) (argW m c) y0 y1
    unfold sumz argX argM argW
    generalize m ((c.tc : Thread nD τ).loc main_arg0) = M
    generalize m ((c.tc : Thread nD τ).loc main_arg1) = W
    generalize m ((c.tc : Thread nD τ).loc main_arg2) = X
    clean_types
    pointwise
  · funext y
    idx_vars y
    show (_ : EReal) = normed (argX m c) (argM m c) (argW m c) (argS m c) (argT m c) y0 y1
    unfold normed lnorm rstd vari mean sumz argX argM argW argS argT
    generalize m ((c.tc : Thread nD τ).loc main_arg0) = M
    generalize m ((c.tc : Thread nD τ).loc main_arg1) = W
    generalize m ((c.tc : Thread nD τ).loc main_arg2) = X
    generalize m ((c.tc : Thread nD τ).loc main_arg3) = g
    generalize m ((c.tc : Thread nD τ).loc main_arg4) = b
    clean_types
    pointwise
  · funext y
    idx_vars y
    show (_ : EReal) = normed (argX m c) (argM m c) (argW m c) (argS m c) (argT m c) y0 y1
    unfold normed lnorm rstd vari mean sumz argX argM argW argS argT
    generalize m ((c.tc : Thread nD τ).loc main_arg0) = M
    generalize m ((c.tc : Thread nD τ).loc main_arg1) = W
    generalize m ((c.tc : Thread nD τ).loc main_arg2) = X
    generalize m ((c.tc : Thread nD τ).loc main_arg3) = g
    generalize m ((c.tc : Thread nD τ).loc main_arg4) = b
    clean_types
    pointwise

end Cert.OutfReferenceIdeal.Value

end
-- ==== Proof.MixOutfClaim.lean ====
/- The value claim of the mixer's output projection with its residual and layer norm: the kernel's run and the reference's run,
   side by side. -/
module

public import proofs.«01_k».proof.Defs
public import proofs.«01_k».proof.Proof.MixOutfKer
public import proofs.«01_k».proof.Proof.MixOutfRef
public import Idealize.ShloMosaic.Lib.Claim

@[expose] public section

set_option maxRecDepth 16384

noncomputable section

open Idealize.ShloMosaic Idealize.ShloMosaic.TcCoe Idealize.SL.Sem

namespace Cert.MixerOutFwd
open Cert.Ffn Cert.MixerOut Cert.MixerFwd

/-- The kernel's three arrays are the reference's three results, for every input. -/
theorem algebraic : Cert.algebraic_OutfKernelIdeal_OutfReferenceIdeal (hOutfKernelIdeal := Cert.OutfKernelIdeal.Gen.facts)
    (hOutfReferenceIdeal := Cert.OutfReferenceIdeal.Gen.facts) := by
  intro m g m' g' _ hag
  refine ⟨fun c => rows (OutfKernelIdeal.Value.aSum m c), fun c => rows (OutfKernelIdeal.Value.aNorm m c),
    fun c => rows (OutfKernelIdeal.Value.aNorm m c), ?_, ?_⟩
  · refine (θ_run _ _ _).mono (fun r h c => ?_) (OutfKernelIdeal.Value.run_blocks m g)
    obtain ⟨h0, h1, h2, ha⟩ := h c
    exact ⟨h0.trans (OutfKernelIdeal.Value.arr5 m c), h1.trans (OutfKernelIdeal.Value.arr6 m c), h2.trans (OutfKernelIdeal.Value.arr7 m c), ha⟩
  · refine (θ_run _ _ _).mono (fun r h c => ?_) (OutfReferenceIdeal.Value.run_forms m' g')
    obtain ⟨h0, h1, h2, ha⟩ := h c
    obtain ⟨e0, e1, e2, e3, e4⟩ := hag c
    have eM : OutfReferenceIdeal.Value.argM m' c = OutfKernelIdeal.Value.argM m c := e0
    have eW : OutfReferenceIdeal.Value.argW m' c = OutfKernelIdeal.Value.argW m c := e1
    have eX : OutfReferenceIdeal.Value.argX m' c = OutfKernelIdeal.Value.argX m c := e2
    have eS : OutfReferenceIdeal.Value.argS m' c = OutfKernelIdeal.Value.argS m c := e3
    have eT : OutfReferenceIdeal.Value.argT m' c = OutfKernelIdeal.Value.argT m c := e4
    refine ⟨h0.trans ?_, h1.trans ?_, h2.trans ?_, ha⟩
    all_goals simp only [eM, eW, eX, eS, eT]

end Cert.MixerOutFwd

end
-- ==== Proof.AdamForm.lean ====
/- One AdamW step on one element, over the reals: the new moments and the change of the weight. -/
module

public import Idealize.ShloMosaic.PureOps.Ideal
public import Idealize.ShloMosaic.Lib.Pointwise
public import Idealize.ShloMosaic.Lib.KernelVsHost

@[expose] public section

noncomputable section

open Idealize.ShloMosaic

namespace Cert.Adam

/-- The new first moment of one element. -/
def first (g m : EReal) : EReal := Ideal.ofBits .f32 0x3F666666#32 * m + Ideal.ofBits .f32 0x3DCCCCCD#32 * g

/-- The new second moment of one element. -/
def second (g v : EReal) : EReal := Ideal.ofBits .f32 0x3F7FBE77#32 * v + Ideal.ofBits .f32 0x3A83126F#32 * (g * g)

/-- The change of one element of the weight, from the two moments with their bias taken off. -/
def change (w mhat vhat : EReal) : EReal :=
  Ideal.ofBits .f32 0xBA83126F#32 * (Ideal.div mhat (Ideal.sqrt vhat + Ideal.ofBits .f32 0x322BCC77#32) + Ideal.ofBits .f32 0x3C23D70A#32 * w)

/-- The change of one element of the weight: the moments are scaled by the reciprocals of the two bias corrections. -/
def delta (w g m v : EReal) : EReal :=
  change w (first g m * (((5463681 / 8388608)⁻¹ : ℝ) : EReal)) (second g v * (((2672307 / 268435456)⁻¹ : ℝ) : EReal))

/-- The first bias correction, as the real its float word is. -/
theorem word1 : Ideal.ofBits .f32 0x3F26BD02#32 = ((5463681 / 8388608 : ℝ) : EReal) := by
  simp [Ideal.ofBits, Ideal.ieee, -EReal.coe_mul]; norm_num

/-- The second bias correction, as the real its float word is. -/
theorem word2 : Ideal.ofBits .f32 0x3C231ACC#32 = ((2672307 / 268435456 : ℝ) : EReal) := by
  simp [Ideal.ofBits, Ideal.ieee, -EReal.coe_mul]; norm_num

/-- Dividing by the bias corrections is multiplying by their reciprocals. -/
theorem delta_div (w g m v : EReal) :
    change w (Ideal.div (first g m) (Ideal.ofBits .f32 0x3F26BD02#32)) (Ideal.div (second g v) (Ideal.ofBits .f32 0x3C231ACC#32)) = delta w g m v := by
  rw [word1, word2, Ideal.div_coe (by norm_num), Ideal.div_coe (by norm_num), one_div, one_div]
  rfl

/-! ## Whole arrays, with the arguments' rows one after the other -/

/-- The shape of one number. -/
abbrev S0 : Shape := ⟨0, ![]⟩

variable {S T : Shape} (h : S.ShapeCasts T) (b : S0.BroadcastsInDim S (![] : Fin 0 → Fin S.rank)) (W G M V : FVec Ideal S .f32)

/-- The changes of the weight. -/
def deltas : T.Idx → EReal := fun i => delta (shapeCast T W h i) (shapeCast T G h i) (shapeCast T M h i) (shapeCast T V h i)
/-- The new first moments. -/
def firsts : T.Idx → EReal := fun i => first (shapeCast T G h i) (shapeCast T M h i)
/-- The new second moments. -/
def seconds : T.Idx → EReal := fun i => second (shapeCast T G h i) (shapeCast T V h i)

/-- A reference's new first moments. -/
theorem ref_firsts : (shapeCast T (addf (mulf (broadcastInDim S ![] b (constant (F := Ideal) S0 .f32 0x3F666666#32)) M) (mulf (broadcastInDim S ![] b (constant (F := Ideal) S0 .f32 0x3DCCCCCD#32)) G)) h : T.Idx → EReal) = firsts h G M := rfl
/-- A reference's new second moments. -/
theorem ref_seconds : (shapeCast T (addf (mulf (broadcastInDim S ![] b (constant (F := Ideal) S0 .f32 0x3F7FBE77#32)) V) (mulf (broadcastInDim S ![] b (constant (F := Ideal) S0 .f32 0x3A83126F#32)) (mulf G G))) h : T.Idx → EReal) = seconds h G V := rfl
/-- A reference's changes of the weight. -/
theorem ref_deltas : (shapeCast T (mulf (broadcastInDim S ![] b (constant (F := Ideal) S0 .f32 0xBA83126F#32)) (addf (Host.divf (Host.divf (addf (mulf (broadcastInDim S ![] b (constant (F := Ideal) S0 .f32 0x3F666666#32)) M) (mulf (broadcastInDim S ![] b (constant (F := Ideal) S0 .f32 0x3DCCCCCD#32)) G)) (broadcastInDim S ![] b (constant (F := Ideal) S0 .f32 0x3F26BD02#32))) (addf (Host.sqrt (Host.divf (addf (mulf (broadcastInDim S ![] b (constant (F := Ideal) S0 .f32 0x3F7FBE77#32)) V) (mulf (broadcastInDim S ![] b (constant (F := Ideal) S0 .f32 0x3A83126F#32)) (mulf G G))) (broadcastInDim S ![] b (constant (F := Ideal) S0 .f32 0x3C231ACC#32)))) (broadcastInDim S ![] b (constant (F := Ideal) S0 .f32 0x322BCC77#32)))) (mulf (broadcastInDim S ![] b (constant (F := Ideal) S0 .f32 0x3C23D70A#32)) W))) h : T.Idx → EReal) = deltas h W G M V := by
  funext i
  exact delta_div (shapeCast T W h i) (shapeCast T G h i) (shapeCast T M h i) (shapeCast T V h i)

end Cert.Adam

end
-- ==== Proof.AdamLn.lean ====
/- The optimiser's step on the layer norms' scale: the kernel's arrays and the reference's arrays are one element-wise step. -/
module

public import proofs.«01_k».proof.Defs
public import proofs.«01_k».proof.Proof.Gen.AdamLnKernelIdeal.Value
public import proofs.«01_k».proof.Proof.Gen.AdamLnReferenceIdeal.Run
public import proofs.«01_k».proof.Proof.AdamForm
public import Idealize.ShloMosaic.Lib.Pipeline.ValueKit
public import Idealize.ShloMosaic.Lib.Pipeline.ReadBack
public import Idealize.ShloMosaic.Lib.Pointwise
public import Idealize.ShloMosaic.Lib.KernelVsHost
public import Idealize.ShloMosaic.Lib.Tactic.CleanTypes
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem

namespace Cert.AdamLnKernelIdeal.Value
open Cert.AdamLnKernelIdeal Cert.AdamLnKernelIdeal.Gen Cert.Adam

/-- The shape of the arguments. -/
abbrev SA : Shape := ⟨3, ![2, 3, 256]⟩
/-- The shape of the results: the arguments' rows, one after the other. -/
abbrev SB : Shape := ⟨2, ![6, 256]⟩

/-- The arguments' rows are the results' rows. -/
theorem hc : SA.ShapeCasts SB := by decide

/-- The reciprocal of the first bias correction, by its name. -/
theorem name1 : Named.named (F := Ideal) κ "c1" (φ := .f32) 0x3FC48605#32 = (((5463681 / 8388608)⁻¹ : ℝ) : EReal) :=
  IdealRules.named_const.ideal_named_scalar _ _ _ _ rfl
/-- The reciprocal of the second bias correction, by its name. -/
theorem name2 : Named.named (F := Ideal) κ "c2" (φ := .f32) 0x42C8E6D3#32 = (((2672307 / 268435456)⁻¹ : ℝ) : EReal) :=
  IdealRules.named_const.ideal_named_scalar _ _ _ _ rfl

/-- What the body leaves of the weight's change. -/
theorem left4 (W G M V : S6x256.Idx → EReal) (r : Fin 6) (n : Fin 256) :
    @Eq EReal (out0_4 (F := Ideal) W G M V (ix2 r n)) (delta (W (ix2 r n)) (G (ix2 r n)) (M (ix2 r n)) (V (ix2 r n))) := by
  unfold delta
  rw [← name1, ← name2]
  unfold out0_4
  frame_out
  pointwise [k0_pay1, k0_pay2, k0_pay3, k0_pay4]
  rfl
/-- What the body leaves of the first moment. -/
theorem left5 (W G M V : S6x256.Idx → EReal) (r : Fin 6) (n : Fin 256) :
    @Eq EReal (out0_5 (F := Ideal) W G M V (ix2 r n)) (first (G (ix2 r n)) (M (ix2 r n))) := by
  unfold out0_5
  frame_out
  pointwise [k0_pay1, k0_pay2]
  rfl
/-- What the body leaves of the second moment. -/
theorem left6 (W G M V : S6x256.Idx → EReal) (r : Fin 6) (n : Fin 256) :
    @Eq EReal (out0_6 (F := Ideal) W G M V (ix2 r n)) (second (G (ix2 r n)) (V (ix2 r n))) := by
  unfold out0_6
  frame_out
  pointwise [k0_pay1, k0_pay3]
  rfl

/-- The blocks of the inputs are the whole arrays. -/
theorem idxIn : ∀ t : Fin cfg0.N, win0_0.index t = ![0, 0] ∧ win0_1.index t = ![0, 0] ∧ win0_2.index t = ![0, 0] ∧ win0_3.index t = ![0, 0] := by decide +kernel
/-- The blocks of the outputs are the whole arrays. -/
theorem idxOut : ∀ t : Fin cfg0.N, win0_4.index t = ![0, 0] ∧ win0_5.index t = ![0, 0] ∧ win0_6.index t = ![0, 0] := by decide +kernel

variable (m : (ℓ : Loc nD τ sig) → Buf (Elt Ideal) ℓ) (c : Dev nD)

/-- The weight. -/
abbrev argW : SA.Idx → EReal := m ((c : Thread nD τ).loc main_arg0)
/-- The gradient. -/
abbrev argG : SA.Idx → EReal := m ((c : Thread nD τ).loc main_arg1)
/-- The first moment. -/
abbrev argM : SA.Idx → EReal := m ((c : Thread nD τ).loc main_arg2)
/-- The second moment. -/
abbrev argV : SA.Idx → EReal := m ((c : Thread nD τ).loc main_arg3)

/-- Argument 0's block, read through the argument. -/
theorem blk0 (t : Fin cfg0.N) (r : Fin 6) (n : Fin 256) :
    @Eq EReal ((iblk m c 0 t : S6x256.Idx → EReal) (ix2 r n)) (shapeCast SB (argW m c) hc (ix2 r n)) := by
  have e : (iblk m c 0 t : S6x256.Idx → EReal) (ix2 r n) = (V m c (Pipeline.arrRef spec0 0) : S6x256.Idx → EReal) (ix2 r n) := by
    blk_point [iblk, (idxIn t).1]
  refine e.trans ?_
  show @Eq EReal _ _
  unfold V
  after_reads_at

/-- Argument 1's block, read through the argument. -/
theorem blk1 (t : Fin cfg0.N) (r : Fin 6) (n : Fin 256) :
    @Eq EReal ((iblk m c 1 t : S6x256.Idx → EReal) (ix2 r n)) (shapeCast SB (argG m c) hc (ix2 r n)) := by
  have e : (iblk m c 1 t : S6x256.Idx → EReal) (ix2 r n) = (V m c (Pipeline.arrRef spec0 1) : S6x256.Idx → EReal) (ix2 r n) := by
    blk_point [iblk, (idxIn t).2.1]
  refine e.trans ?_
  show @Eq EReal _ _
  unfold V
  after_reads_at

/-- Argument 2's block, read through the argument. -/
theorem blk2 (t : Fin cfg0.N) (r : Fin 6) (n : Fin 256) :
    @Eq EReal ((iblk m c 2 t : S6x256.Idx → EReal) (ix2 r n)) (shapeCast SB (argM m c) hc (ix2 r n)) := by
  have e : (iblk m c 2 t : S6x256.Idx → EReal) (ix2 r n) = (V m c (Pipeline.arrRef spec0 2) : S6x256.Idx → EReal) (ix2 r n) := by
    blk_point [iblk, (idxIn t).2.2.1]
  refine e.trans ?_
  show @Eq EReal _ _
  unfold V
  after_reads_at

/-- Argument 3's block, read through the argument. -/
theorem blk3 (t : Fin cfg0.N) (r : Fin 6) (n : Fin 256) :
    @Eq EReal ((iblk m c 3 t : S6x256.Idx → EReal) (ix2 r n)) (shapeCast SB (argV m c) hc (ix2 r n)) := by
  have e : (iblk m c 3 t : S6x256.Idx → EReal) (ix2 r n) = (V m c (Pipeline.arrRef spec0 3) : S6x256.Idx → EReal) (ix2 r n) := by
    blk_point [iblk, (idxIn t).2.2.2]
  refine e.trans ?_
  show @Eq EReal _ _
  unfold V
  after_reads_at

/-- The kernel's changes of the weight at the end of the run. -/
theorem arr4 : (dats m 0 c).arrAt 4 cfg0.N = deltas hc (argW m c) (argG m c) (argM m c) (argV m c) := by
  refine (dats m 0 c).arrAt_eq_of_covers 4 _ (by decide +kernel) fun t hf y => ?_
  blk_simp
  rw [after0_4]
  idx_vars y
  have e : ((View.whole main_v4_0).slice (win0_4.rect t)).emb (ix2 y0 y1) = ix2 y0 y1 := by
    blk_ext [(idxOut t).1]
  rw [e]
  refine (left4 _ _ _ _ y0 y1).trans ?_
  show @Eq EReal _ _
  rw [blk0 m c t y0 y1, blk1 m c t y0 y1, blk2 m c t y0 y1, blk3 m c t y0 y1]
  rfl

/-- The kernel's new first moments at the end of the run. -/
theorem arr5 : (dats m 0 c).arrAt 5 cfg0.N = firsts hc (argG m c) (argM m c) := by
  refine (dats m 0 c).arrAt_eq_of_covers 5 _ (by decide +kernel) fun t hf y => ?_
  blk_simp
  rw [after0_5]
  idx_vars y
  have e : ((View.whole main_v4_1).slice (win0_5.rect t)).emb (ix2 y0 y1) = ix2 y0 y1 := by
    blk_ext [(idxOut t).2.1]
  rw [e]
  refine (left5 _ _ _ _ y0 y1).trans ?_
  show @Eq EReal _ _
  rw [blk1 m c t y0 y1, blk2 m c t y0 y1]
  rfl

/-- The kernel's new second moments at the end of the run. -/
theorem arr6 : (dats m 0 c).arrAt 6 cfg0.N = seconds hc (argG m c) (argV m c) := by
  refine (dats m 0 c).arrAt_eq_of_covers 6 _ (by decide +kernel) fun t hf y => ?_
  blk_simp
  rw [after0_6]
  idx_vars y
  have e : ((View.whole main_v4_2).slice (win0_6.rect t)).emb (ix2 y0 y1) = ix2 y0 y1 := by
    blk_ext [(idxOut t).2.2]
  rw [e]
  refine (left6 _ _ _ _ y0 y1).trans ?_
  show @Eq EReal _ _
  rw [blk1 m c t y0 y1, blk3 m c t y0 y1]
  rfl

end Cert.AdamLnKernelIdeal.Value

namespace Cert.AdamLn
open Cert.AdamLnKernelIdeal.Value Cert.Adam

/-- The two named reciprocals. -/
theorem preserves : Cert.preserves_AdamLnKernel_AdamLnKernelIdeal :=
  ⟨IdealRules.named_const.statement _ _ _ _ _ rfl, IdealRules.named_const.statement _ _ _ _ _ rfl⟩

/-- The kernel's arrays are the reference's results, for every input. -/
theorem algebraic : Cert.algebraic_AdamLnKernelIdeal_AdamLnReferenceIdeal (hAdamLnKernelIdeal := Cert.AdamLnKernelIdeal.Gen.facts)
    (hAdamLnReferenceIdeal := Cert.AdamLnReferenceIdeal.Gen.facts) := by
  intro m g m' g' _ hag
  refine ⟨fun c => deltas hc (argW m c) (argG m c) (argM m c) (argV m c), fun c => firsts hc (argG m c) (argM m c), fun c => seconds hc (argG m c) (argV m c), ?_, ?_⟩
  · refine (θ_run _ _ _).mono (fun r h c => ?_) (AdamLnKernelIdeal.Value.run_blocks m g)
    obtain ⟨h4, h5, h6, ha⟩ := h c
    exact ⟨h4.trans (arr4 m c), h5.trans (arr5 m c), h6.trans (arr6 m c), ha⟩
  · refine (θ_run _ _ _).mono (fun r h c => ?_) (AdamLnReferenceIdeal.Value.run m' g')
    obtain ⟨h4, h5, h6, ha⟩ := h c
    obtain ⟨e0, e1, e2, e3⟩ := hag c
    rw [e0, e1, e2, e3] at h4
    rw [e1, e2] at h5
    rw [e1, e3] at h6
    exact ⟨h4.trans (ref_deltas hc (by decide) _ _ _ _), h5.trans (ref_firsts hc (by decide) _ _), h6.trans (ref_seconds hc (by decide) _ _), ha⟩

end Cert.AdamLn

end
-- ==== Proof.AdamCv.lean ====
/- The optimiser's step on the convolution's taps: the kernel's arrays and the reference's arrays are one element-wise step. -/
module

public import proofs.«01_k».proof.Defs
public import proofs.«01_k».proof.Proof.Gen.AdamCvKernelIdeal.Value
public import proofs.«01_k».proof.Proof.Gen.AdamCvReferenceIdeal.Run
public import proofs.«01_k».proof.Proof.AdamForm
public import Idealize.ShloMosaic.Lib.Pipeline.ValueKit
public import Idealize.ShloMosaic.Lib.Pipeline.ReadBack
public import Idealize.ShloMosaic.Lib.Pointwise
public import Idealize.ShloMosaic.Lib.KernelVsHost
public import Idealize.ShloMosaic.Lib.Tactic.CleanTypes
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem

namespace Cert.AdamCvKernelIdeal.Value
open Cert.AdamCvKernelIdeal Cert.AdamCvKernelIdeal.Gen Cert.Adam

/-- The shape of the arguments. -/
abbrev SA : Shape := ⟨3, ![1, 3, 192]⟩
/-- The shape of the results: the arguments' rows, one after the other. -/
abbrev SB : Shape := ⟨2, ![3, 192]⟩

/-- The arguments' rows are the results' rows. -/
theorem hc : SA.ShapeCasts SB := by decide

/-- The reciprocal of the first bias correction, by its name. -/
theorem name1 : Named.named (F := Ideal) κ "c1" (φ := .f32) 0x3FC48605#32 = (((5463681 / 8388608)⁻¹ : ℝ) : EReal) :=
  IdealRules.named_const.ideal_named_scalar _ _ _ _ rfl
/-- The reciprocal of the second bias correction, by its name. -/
theorem name2 : Named.named (F := Ideal) κ "c2" (φ := .f32) 0x42C8E6D3#32 = (((2672307 / 268435456)⁻¹ : ℝ) : EReal) :=
  IdealRules.named_const.ideal_named_scalar _ _ _ _ rfl

/-- What the body leaves of the weight's change. -/
theorem left4 (W G M V : S3x192.Idx → EReal) (r : Fin 3) (n : Fin 192) :
    @Eq EReal (out0_4 (F := Ideal) W G M V (ix2 r n)) (delta (W (ix2 r n)) (G (ix2 r n)) (M (ix2 r n)) (V (ix2 r n))) := by
  unfold delta
  rw [← name1, ← name2]
  unfold out0_4
  frame_out
  pointwise [k0_pay1, k0_pay2, k0_pay3, k0_pay4]
  rfl
/-- What the body leaves of the first moment. -/
theorem left5 (W G M V : S3x192.Idx → EReal) (r : Fin 3) (n : Fin 192) :
    @Eq EReal (out0_5 (F := Ideal) W G M V (ix2 r n)) (first (G (ix2 r n)) (M (ix2 r n))) := by
  unfold out0_5
  frame_out
  pointwise [k0_pay1, k0_pay2]
  rfl
/-- What the body leaves of the second moment. -/
theorem left6 (W G M V : S3x192.Idx → EReal) (r : Fin 3) (n : Fin 192) :
    @Eq EReal (out0_6 (F := Ideal) W G M V (ix2 r n)) (second (G (ix2 r n)) (V (ix2 r n))) := by
  unfold out0_6
  frame_out
  pointwise [k0_pay1, k0_pay3]
  rfl

/-- The blocks of the inputs are the whole arrays. -/
theorem idxIn : ∀ t : Fin cfg0.N, win0_0.index t = ![0, 0] ∧ win0_1.index t = ![0, 0] ∧ win0_2.index t = ![0, 0] ∧ win0_3.index t = ![0, 0] := by decide +kernel
/-- The blocks of the outputs are the whole arrays. -/
theorem idxOut : ∀ t : Fin cfg0.N, win0_4.index t = ![0, 0] ∧ win0_5.index t = ![0, 0] ∧ win0_6.index t = ![0, 0] := by decide +kernel

variable (m : (ℓ : Loc nD τ sig) → Buf (Elt Ideal) ℓ) (c : Dev nD)

/-- The weight. -/
abbrev argW : SA.Idx → EReal := m ((c : Thread nD τ).loc main_arg0)
/-- The gradient. -/
abbrev argG : SA.Idx → EReal := m ((c : Thread nD τ).loc main_arg1)
/-- The first moment. -/
abbrev argM : SA.Idx → EReal := m ((c : Thread nD τ).loc main_arg2)
/-- The second moment. -/
abbrev argV : SA.Idx → EReal := m ((c : Thread nD τ).loc main_arg3)

/-- Argument 0's block, read through the argument. -/
theorem blk0 (t : Fin cfg0.N) (r : Fin 3) (n : Fin 192) :
    @Eq EReal ((iblk m c 0 t : S3x192.Idx → EReal) (ix2 r n)) (shapeCast SB (argW m c) hc (ix2 r n)) := by
  have e : (iblk m c 0 t : S3x192.Idx → EReal) (ix2 r n) = (V m c (Pipeline.arrRef spec0 0) : S3x192.Idx → EReal) (ix2 r n) := by
    blk_point [iblk, (idxIn t).1]
  refine e.trans ?_
  show @Eq EReal _ _
  unfold V
  after_reads_at

/-- Argument 1's block, read through the argument. -/
theorem blk1 (t : Fin cfg0.N) (r : Fin 3) (n : Fin 192) :
    @Eq EReal ((iblk m c 1 t : S3x192.Idx → EReal) (ix2 r n)) (shapeCast SB (argG m c) hc (ix2 r n)) := by
  have e : (iblk m c 1 t : S3x192.Idx → EReal) (ix2 r n) = (V m c (Pipeline.arrRef spec0 1) : S3x192.Idx → EReal) (ix2 r n) := by
    blk_point [iblk, (idxIn t).2.1]
  refine e.trans ?_
  show @Eq EReal _ _
  unfold V
  after_reads_at

/-- Argument 2's block, read through the argument. -/
theorem blk2 (t : Fin cfg0.N) (r : Fin 3) (n : Fin 192) :
    @Eq EReal ((iblk m c 2 t : S3x192.Idx → EReal) (ix2 r n)) (shapeCast SB (argM m c) hc (ix2 r n)) := by
  have e : (iblk m c 2 t : S3x192.Idx → EReal) (ix2 r n) = (V m c (Pipeline.arrRef spec0 2) : S3x192.Idx → EReal) (ix2 r n) := by
    blk_point [iblk, (idxIn t).2.2.1]
  refine e.trans ?_
  show @Eq EReal _ _
  unfold V
  after_reads_at

/-- Argument 3's block, read through the argument. -/
theorem blk3 (t : Fin cfg0.N) (r : Fin 3) (n : Fin 192) :
    @Eq EReal ((iblk m c 3 t : S3x192.Idx → EReal) (ix2 r n)) (shapeCast SB (argV m c) hc (ix2 r n)) := by
  have e : (iblk m c 3 t : S3x192.Idx → EReal) (ix2 r n) = (V m c (Pipeline.arrRef spec0 3) : S3x192.Idx → EReal) (ix2 r n) := by
    blk_point [iblk, (idxIn t).2.2.2]
  refine e.trans ?_
  show @Eq EReal _ _
  unfold V
  after_reads_at

/-- The kernel's changes of the weight at the end of the run. -/
theorem arr4 : (dats m 0 c).arrAt 4 cfg0.N = deltas hc (argW m c) (argG m c) (argM m c) (argV m c) := by
  refine (dats m 0 c).arrAt_eq_of_covers 4 _ (by decide +kernel) fun t hf y => ?_
  blk_simp
  rw [after0_4]
  idx_vars y
  have e : ((View.whole main_v4_0).slice (win0_4.rect t)).emb (ix2 y0 y1) = ix2 y0 y1 := by
    blk_ext [(idxOut t).1]
  rw [e]
  refine (left4 _ _ _ _ y0 y1).trans ?_
  show @Eq EReal _ _
  rw [blk0 m c t y0 y1, blk1 m c t y0 y1, blk2 m c t y0 y1, blk3 m c t y0 y1]
  rfl

/-- The kernel's new first moments at the end of the run. -/
theorem arr5 : (dats m 0 c).arrAt 5 cfg0.N = firsts hc (argG m c) (argM m c) := by
  refine (dats m 0 c).arrAt_eq_of_covers 5 _ (by decide +kernel) fun t hf y => ?_
  blk_simp
  rw [after0_5]
  idx_vars y
  have e : ((View.whole main_v4_1).slice (win0_5.rect t)).emb (ix2 y0 y1) = ix2 y0 y1 := by
    blk_ext [(idxOut t).2.1]
  rw [e]
  refine (left5 _ _ _ _ y0 y1).trans ?_
  show @Eq EReal _ _
  rw [blk1 m c t y0 y1, blk2 m c t y0 y1]
  rfl

/-- The kernel's new second moments at the end of the run. -/
theorem arr6 : (dats m 0 c).arrAt 6 cfg0.N = seconds hc (argG m c) (argV m c) := by
  refine (dats m 0 c).arrAt_eq_of_covers 6 _ (by decide +kernel) fun t hf y => ?_
  blk_simp
  rw [after0_6]
  idx_vars y
  have e : ((View.whole main_v4_2).slice (win0_6.rect t)).emb (ix2 y0 y1) = ix2 y0 y1 := by
    blk_ext [(idxOut t).2.2]
  rw [e]
  refine (left6 _ _ _ _ y0 y1).trans ?_
  show @Eq EReal _ _
  rw [blk1 m c t y0 y1, blk3 m c t y0 y1]
  rfl

end Cert.AdamCvKernelIdeal.Value

namespace Cert.AdamCv
open Cert.AdamCvKernelIdeal.Value Cert.Adam

/-- The two named reciprocals. -/
theorem preserves : Cert.preserves_AdamCvKernel_AdamCvKernelIdeal :=
  ⟨IdealRules.named_const.statement _ _ _ _ _ rfl, IdealRules.named_const.statement _ _ _ _ _ rfl⟩

/-- The kernel's arrays are the reference's results, for every input. -/
theorem algebraic : Cert.algebraic_AdamCvKernelIdeal_AdamCvReferenceIdeal (hAdamCvKernelIdeal := Cert.AdamCvKernelIdeal.Gen.facts)
    (hAdamCvReferenceIdeal := Cert.AdamCvReferenceIdeal.Gen.facts) := by
  intro m g m' g' _ hag
  refine ⟨fun c => deltas hc (argW m c) (argG m c) (argM m c) (argV m c), fun c => firsts hc (argG m c) (argM m c), fun c => seconds hc (argG m c) (argV m c), ?_, ?_⟩
  · refine (θ_run _ _ _).mono (fun r h c => ?_) (AdamCvKernelIdeal.Value.run_blocks m g)
    obtain ⟨h4, h5, h6, ha⟩ := h c
    exact ⟨h4.trans (arr4 m c), h5.trans (arr5 m c), h6.trans (arr6 m c), ha⟩
  · refine (θ_run _ _ _).mono (fun r h c => ?_) (AdamCvReferenceIdeal.Value.run m' g')
    obtain ⟨h4, h5, h6, ha⟩ := h c
    obtain ⟨e0, e1, e2, e3⟩ := hag c
    rw [e0, e1, e2, e3] at h4
    rw [e1, e2] at h5
    rw [e1, e3] at h6
    exact ⟨h4.trans (ref_deltas hc (by decide) _ _ _ _), h5.trans (ref_firsts hc (by decide) _ _), h6.trans (ref_seconds hc (by decide) _ _), ha⟩

end Cert.AdamCv

end
-- ==== Proof.AdamGt.lean ====
/- The optimiser's step on the gates' bias: the kernel's arrays and the reference's arrays are one element-wise step. -/
module

public import proofs.«01_k».proof.Defs
public import proofs.«01_k».proof.Proof.Gen.AdamGtKernelIdeal.Value
public import proofs.«01_k».proof.Proof.Gen.AdamGtReferenceIdeal.Run
public import proofs.«01_k».proof.Proof.AdamForm
public import Idealize.ShloMosaic.Lib.Claim

@[expose] public section

set_option maxRecDepth 16384

noncomputable section

open Idealize.ShloMosaic Idealize.ShloMosaic.TcCoe Idealize.SL.Sem

namespace Cert.AdamGt
open Cert.AdamGtKernelIdeal Cert.AdamGtKernelIdeal.Value Cert.Adam

/-- The shape of the bias. -/
abbrev SA : Shape := ⟨2, ![1, 8]⟩

/-- The reciprocal of the first bias correction, by its name. -/
theorem name1 : Named.named (F := Ideal) κ "c1" (φ := .f32) 0x3FC48605#32 = (((5463681 / 8388608)⁻¹ : ℝ) : EReal) :=
  IdealRules.named_const.ideal_named_scalar _ _ _ _ rfl
/-- The reciprocal of the second bias correction, by its name. -/
theorem name2 : Named.named (F := Ideal) κ "c2" (φ := .f32) 0x42C8E6D3#32 = (((2672307 / 268435456)⁻¹ : ℝ) : EReal) :=
  IdealRules.named_const.ideal_named_scalar _ _ _ _ rfl

/-- The kernel's changes of the bias, one element at a time. -/
theorem changes (W G M V : FVec Ideal SA .f32) (i : SA.Idx) : @Eq EReal (G4 (F := Ideal) W G M V i) (delta (W i) (G i) (M i) (V i)) := by
  unfold delta
  rw [← name1, ← name2]
  rfl

/-- The two named reciprocals. -/
theorem preserves : Cert.preserves_AdamGtKernel_AdamGtKernelIdeal :=
  ⟨IdealRules.named_const.statement _ _ _ _ _ rfl, IdealRules.named_const.statement _ _ _ _ _ rfl⟩

/-- The kernel's arrays are the reference's results, for every input. -/
theorem algebraic : Cert.algebraic_AdamGtKernelIdeal_AdamGtReferenceIdeal (hAdamGtKernelIdeal := Cert.AdamGtKernelIdeal.Gen.facts)
    (hAdamGtReferenceIdeal := Cert.AdamGtReferenceIdeal.Gen.facts) := by
  intro m g m' g' _ hag
  refine ⟨_, _, _, AdamGtKernelIdeal.Value.run m g, ?_⟩
  refine (θ_run _ _ _).mono (fun r h c => ?_) (AdamGtReferenceIdeal.Value.run m' g')
  obtain ⟨h4, h5, h6, ha⟩ := h c
  obtain ⟨e0, e1, e2, e3⟩ := hag c
  rw [e0, e1, e2, e3] at h4
  rw [e1, e2] at h5
  rw [e1, e3] at h6
  refine ⟨h4.trans (funext fun i => ?_), h5.trans (funext fun i => ?_), h6.trans (funext fun i => ?_), ha⟩
  · exact (delta_div _ _ _ _).trans (changes _ _ _ _ i).symm
  · rfl
  · rfl

end Cert.AdamGt

end
-- ==== Proof.AdamQk.lean ====
/- The optimiser's step on the query and key convolution's taps: the kernel's arrays and the reference's arrays are one element-wise step. -/
module

public import proofs.«01_k».proof.Defs
public import proofs.«01_k».proof.Proof.Gen.AdamQkKernelIdeal.Value
public import proofs.«01_k».proof.Proof.Gen.AdamQkReferenceIdeal.Run
public import proofs.«01_k».proof.Proof.AdamForm
public import Idealize.ShloMosaic.Lib.Pipeline.ValueKit
public import Idealize.ShloMosaic.Lib.Pipeline.ReadBack
public import Idealize.ShloMosaic.Lib.Pointwise
public import Idealize.ShloMosaic.Lib.KernelVsHost
public import Idealize.ShloMosaic.Lib.Tactic.CleanTypes
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem

namespace Cert.AdamQkKernelIdeal.Value
open Cert.AdamQkKernelIdeal Cert.AdamQkKernelIdeal.Gen Cert.Adam

/-- The shape of the arguments. -/
abbrev SA : Shape := ⟨3, ![1, 4, 384]⟩
/-- The shape of the results: the arguments' rows, one after the other. -/
abbrev SB : Shape := ⟨2, ![4, 384]⟩

/-- The arguments' rows are the results' rows. -/
theorem hc : SA.ShapeCasts SB := by decide

/-- The reciprocal of the first bias correction, by its name. -/
theorem name1 : Named.named (F := Ideal) κ "c1" (φ := .f32) 0x3FC48605#32 = (((5463681 / 8388608)⁻¹ : ℝ) : EReal) :=
  IdealRules.named_const.ideal_named_scalar _ _ _ _ rfl
/-- The reciprocal of the second bias correction, by its name. -/
theorem name2 : Named.named (F := Ideal) κ "c2" (φ := .f32) 0x42C8E6D3#32 = (((2672307 / 268435456)⁻¹ : ℝ) : EReal) :=
  IdealRules.named_const.ideal_named_scalar _ _ _ _ rfl

/-- What the body leaves of the weight's change. -/
theorem left4 (W G M V : S4x384.Idx → EReal) (r : Fin 4) (n : Fin 384) :
    @Eq EReal (out0_4 (F := Ideal) W G M V (ix2 r n)) (delta (W (ix2 r n)) (G (ix2 r n)) (M (ix2 r n)) (V (ix2 r n))) := by
  unfold delta
  rw [← name1, ← name2]
  unfold out0_4
  frame_out
  pointwise [k0_pay1, k0_pay2, k0_pay3, k0_pay4]
  rfl
/-- What the body leaves of the first moment. -/
theorem left5 (W G M V : S4x384.Idx → EReal) (r : Fin 4) (n : Fin 384) :
    @Eq EReal (out0_5 (F := Ideal) W G M V (ix2 r n)) (first (G (ix2 r n)) (M (ix2 r n))) := by
  unfold out0_5
  frame_out
  pointwise [k0_pay1, k0_pay2]
  rfl
/-- What the body leaves of the second moment. -/
theorem left6 (W G M V : S4x384.Idx → EReal) (r : Fin 4) (n : Fin 384) :
    @Eq EReal (out0_6 (F := Ideal) W G M V (ix2 r n)) (second (G (ix2 r n)) (V (ix2 r n))) := by
  unfold out0_6
  frame_out
  pointwise [k0_pay1, k0_pay3]
  rfl

/-- The blocks of the inputs are the whole arrays. -/
theorem idxIn : ∀ t : Fin cfg0.N, win0_0.index t = ![0, 0] ∧ win0_1.index t = ![0, 0] ∧ win0_2.index t = ![0, 0] ∧ win0_3.index t = ![0, 0] := by decide +kernel
/-- The blocks of the outputs are the whole arrays. -/
theorem idxOut : ∀ t : Fin cfg0.N, win0_4.index t = ![0, 0] ∧ win0_5.index t = ![0, 0] ∧ win0_6.index t = ![0, 0] := by decide +kernel

variable (m : (ℓ : Loc nD τ sig) → Buf (Elt Ideal) ℓ) (c : Dev nD)

/-- The weight. -/
abbrev argW : SA.Idx → EReal := m ((c : Thread nD τ).loc main_arg0)
/-- The gradient. -/
abbrev argG : SA.Idx → EReal := m ((c : Thread nD τ).loc main_arg1)
/-- The first moment. -/
abbrev argM : SA.Idx → EReal := m ((c : Thread nD τ).loc main_arg2)
/-- The second moment. -/
abbrev argV : SA.Idx → EReal := m ((c : Thread nD τ).loc main_arg3)

/-- Argument 0's block, read through the argument. -/
theorem blk0 (t : Fin cfg0.N) (r : Fin 4) (n : Fin 384) :
    @Eq EReal ((iblk m c 0 t : S4x384.Idx → EReal) (ix2 r n)) (shapeCast SB (argW m c) hc (ix2 r n)) := by
  have e : (iblk m c 0 t : S4x384.Idx → EReal) (ix2 r n) = (V m c (Pipeline.arrRef spec0 0) : S4x384.Idx → EReal) (ix2 r n) := by
    blk_point [iblk, (idxIn t).1]
  refine e.trans ?_
  show @Eq EReal _ _
  unfold V
  after_reads_at

/-- Argument 1's block, read through the argument. -/
theorem blk1 (t : Fin cfg0.N) (r : Fin 4) (n : Fin 384) :
    @Eq EReal ((iblk m c 1 t : S4x384.Idx → EReal) (ix2 r n)) (shapeCast SB (argG m c) hc (ix2 r n)) := by
  have e : (iblk m c 1 t : S4x384.Idx → EReal) (ix2 r n) = (V m c (Pipeline.arrRef spec0 1) : S4x384.Idx → EReal) (ix2 r n) := by
    blk_point [iblk, (idxIn t).2.1]
  refine e.trans ?_
  show @Eq EReal _ _
  unfold V
  after_reads_at

/-- Argument 2's block, read through the argument. -/
theorem blk2 (t : Fin cfg0.N) (r : Fin 4) (n : Fin 384) :
    @Eq EReal ((iblk m c 2 t : S4x384.Idx → EReal) (ix2 r n)) (shapeCast SB (argM m c) hc (ix2 r n)) := by
  have e : (iblk m c 2 t : S4x384.Idx → EReal) (ix2 r n) = (V m c (Pipeline.arrRef spec0 2) : S4x384.Idx → EReal) (ix2 r n) := by
    blk_point [iblk, (idxIn t).2.2.1]
  refine e.trans ?_
  show @Eq EReal _ _
  unfold V
  after_reads_at

/-- Argument 3's block, read through the argument. -/
theorem blk3 (t : Fin cfg0.N) (r : Fin 4) (n : Fin 384) :
    @Eq EReal ((iblk m c 3 t : S4x384.Idx → EReal) (ix2 r n)) (shapeCast SB (argV m c) hc (ix2 r n)) := by
  have e : (iblk m c 3 t : S4x384.Idx → EReal) (ix2 r n) = (V m c (Pipeline.arrRef spec0 3) : S4x384.Idx → EReal) (ix2 r n) := by
    blk_point [iblk, (idxIn t).2.2.2]
  refine e.trans ?_
  show @Eq EReal _ _
  unfold V
  after_reads_at

/-- The kernel's changes of the weight at the end of the run. -/
theorem arr4 : (dats m 0 c).arrAt 4 cfg0.N = deltas hc (argW m c) (argG m c) (argM m c) (argV m c) := by
  refine (dats m 0 c).arrAt_eq_of_covers 4 _ (by decide +kernel) fun t hf y => ?_
  blk_simp
  rw [after0_4]
  idx_vars y
  have e : ((View.whole main_v4_0).slice (win0_4.rect t)).emb (ix2 y0 y1) = ix2 y0 y1 := by
    blk_ext [(idxOut t).1]
  rw [e]
  refine (left4 _ _ _ _ y0 y1).trans ?_
  show @Eq EReal _ _
  rw [blk0 m c t y0 y1, blk1 m c t y0 y1, blk2 m c t y0 y1, blk3 m c t y0 y1]
  rfl

/-- The kernel's new first moments at the end of the run. -/
theorem arr5 : (dats m 0 c).arrAt 5 cfg0.N = firsts hc (argG m c) (argM m c) := by
  refine (dats m 0 c).arrAt_eq_of_covers 5 _ (by decide +kernel) fun t hf y => ?_
  blk_simp
  rw [after0_5]
  idx_vars y
  have e : ((View.whole main_v4_1).slice (win0_5.rect t)).emb (ix2 y0 y1) = ix2 y0 y1 := by
    blk_ext [(idxOut t).2.1]
  rw [e]
  refine (left5 _ _ _ _ y0 y1).trans ?_
  show @Eq EReal _ _
  rw [blk1 m c t y0 y1, blk2 m c t y0 y1]
  rfl

/-- The kernel's new second moments at the end of the run. -/
theorem arr6 : (dats m 0 c).arrAt 6 cfg0.N = seconds hc (argG m c) (argV m c) := by
  refine (dats m 0 c).arrAt_eq_of_covers 6 _ (by decide +kernel) fun t hf y => ?_
  blk_simp
  rw [after0_6]
  idx_vars y
  have e : ((View.whole main_v4_2).slice (win0_6.rect t)).emb (ix2 y0 y1) = ix2 y0 y1 := by
    blk_ext [(idxOut t).2.2]
  rw [e]
  refine (left6 _ _ _ _ y0 y1).trans ?_
  show @Eq EReal _ _
  rw [blk1 m c t y0 y1, blk3 m c t y0 y1]
  rfl

end Cert.AdamQkKernelIdeal.Value

namespace Cert.AdamQk
open Cert.AdamQkKernelIdeal.Value Cert.Adam

/-- The two named reciprocals. -/
theorem preserves : Cert.preserves_AdamQkKernel_AdamQkKernelIdeal :=
  ⟨IdealRules.named_const.statement _ _ _ _ _ rfl, IdealRules.named_const.statement _ _ _ _ _ rfl⟩

/-- The kernel's arrays are the reference's results, for every input. -/
theorem algebraic : Cert.algebraic_AdamQkKernelIdeal_AdamQkReferenceIdeal (hAdamQkKernelIdeal := Cert.AdamQkKernelIdeal.Gen.facts)
    (hAdamQkReferenceIdeal := Cert.AdamQkReferenceIdeal.Gen.facts) := by
  intro m g m' g' _ hag
  refine ⟨fun c => deltas hc (argW m c) (argG m c) (argM m c) (argV m c), fun c => firsts hc (argG m c) (argM m c), fun c => seconds hc (argG m c) (argV m c), ?_, ?_⟩
  · refine (θ_run _ _ _).mono (fun r h c => ?_) (AdamQkKernelIdeal.Value.run_blocks m g)
    obtain ⟨h4, h5, h6, ha⟩ := h c
    exact ⟨h4.trans (arr4 m c), h5.trans (arr5 m c), h6.trans (arr6 m c), ha⟩
  · refine (θ_run _ _ _).mono (fun r h c => ?_) (AdamQkReferenceIdeal.Value.run m' g')
    obtain ⟨h4, h5, h6, ha⟩ := h c
    obtain ⟨e0, e1, e2, e3⟩ := hag c
    rw [e0, e1, e2, e3] at h4
    rw [e1, e2] at h5
    rw [e1, e3] at h6
    exact ⟨h4.trans (ref_deltas hc (by decide) _ _ _ _), h5.trans (ref_firsts hc (by decide) _ _), h6.trans (ref_seconds hc (by decide) _ _), ha⟩

end Cert.AdamQk

end
-- ==== Proof.AdamHn.lean ====
/- The optimiser's step on the head norm's scale: the kernel's arrays and the reference's arrays are one element-wise step. -/
module

public import proofs.«01_k».proof.Defs
public import proofs.«01_k».proof.Proof.Gen.AdamHnKernelIdeal.Value
public import proofs.«01_k».proof.Proof.Gen.AdamHnReferenceIdeal.Run
public import proofs.«01_k».proof.Proof.AdamForm
public import Idealize.ShloMosaic.Lib.Pipeline.ValueKit
public import Idealize.ShloMosaic.Lib.Pipeline.ReadBack
public import Idealize.ShloMosaic.Lib.Pointwise
public import Idealize.ShloMosaic.Lib.KernelVsHost
public import Idealize.ShloMosaic.Lib.Tactic.CleanTypes
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem

namespace Cert.AdamHnKernelIdeal.Value
open Cert.AdamHnKernelIdeal Cert.AdamHnKernelIdeal.Gen Cert.Adam

/-- The shape of the arguments. -/
abbrev SA : Shape := ⟨3, ![1, 4, 192]⟩
/-- The shape of the results: the arguments' rows, one after the other. -/
abbrev SB : Shape := ⟨2, ![4, 192]⟩

/-- The arguments' rows are the results' rows. -/
theorem hc : SA.ShapeCasts SB := by decide

/-- The reciprocal of the first bias correction, by its name. -/
theorem name1 : Named.named (F := Ideal) κ "c1" (φ := .f32) 0x3FC48605#32 = (((5463681 / 8388608)⁻¹ : ℝ) : EReal) :=
  IdealRules.named_const.ideal_named_scalar _ _ _ _ rfl
/-- The reciprocal of the second bias correction, by its name. -/
theorem name2 : Named.named (F := Ideal) κ "c2" (φ := .f32) 0x42C8E6D3#32 = (((2672307 / 268435456)⁻¹ : ℝ) : EReal) :=
  IdealRules.named_const.ideal_named_scalar _ _ _ _ rfl

/-- What the body leaves of the weight's change. -/
theorem left4 (W G M V : S4x192.Idx → EReal) (r : Fin 4) (n : Fin 192) :
    @Eq EReal (out0_4 (F := Ideal) W G M V (ix2 r n)) (delta (W (ix2 r n)) (G (ix2 r n)) (M (ix2 r n)) (V (ix2 r n))) := by
  unfold delta
  rw [← name1, ← name2]
  unfold out0_4
  frame_out
  pointwise [k0_pay1, k0_pay2, k0_pay3, k0_pay4]
  rfl
/-- What the body leaves of the first moment. -/
theorem left5 (W G M V : S4x192.Idx → EReal) (r : Fin 4) (n : Fin 192) :
    @Eq EReal (out0_5 (F := Ideal) W G M V (ix2 r n)) (first (G (ix2 r n)) (M (ix2 r n))) := by
  unfold out0_5
  frame_out
  pointwise [k0_pay1, k0_pay2]
  rfl
/-- What the body leaves of the second moment. -/
theorem left6 (W G M V : S4x192.Idx → EReal) (r : Fin 4) (n : Fin 192) :
    @Eq EReal (out0_6 (F := Ideal) W G M V (ix2 r n)) (second (G (ix2 r n)) (V (ix2 r n))) := by
  unfold out0_6
  frame_out
  pointwise [k0_pay1, k0_pay3]
  rfl

/-- The blocks of the inputs are the whole arrays. -/
theorem idxIn : ∀ t : Fin cfg0.N, win0_0.index t = ![0, 0] ∧ win0_1.index t = ![0, 0] ∧ win0_2.index t = ![0, 0] ∧ win0_3.index t = ![0, 0] := by decide +kernel
/-- The blocks of the outputs are the whole arrays. -/
theorem idxOut : ∀ t : Fin cfg0.N, win0_4.index t = ![0, 0] ∧ win0_5.index t = ![0, 0] ∧ win0_6.index t = ![0, 0] := by decide +kernel

variable (m : (ℓ : Loc nD τ sig) → Buf (Elt Ideal) ℓ) (c : Dev nD)

/-- The weight. -/
abbrev argW : SA.Idx → EReal := m ((c : Thread nD τ).loc main_arg0)
/-- The gradient. -/
abbrev argG : SA.Idx → EReal := m ((c : Thread nD τ).loc main_arg1)
/-- The first moment. -/
abbrev argM : SA.Idx → EReal := m ((c : Thread nD τ).loc main_arg2)
/-- The second moment. -/
abbrev argV : SA.Idx → EReal := m ((c : Thread nD τ).loc main_arg3)

/-- Argument 0's block, read through the argument. -/
theorem blk0 (t : Fin cfg0.N) (r : Fin 4) (n : Fin 192) :
    @Eq EReal ((iblk m c 0 t : S4x192.Idx → EReal) (ix2 r n)) (shapeCast SB (argW m c) hc (ix2 r n)) := by
  have e : (iblk m c 0 t : S4x192.Idx → EReal) (ix2 r n) = (V m c (Pipeline.arrRef spec0 0) : S4x192.Idx → EReal) (ix2 r n) := by
    blk_point [iblk, (idxIn t).1]
  refine e.trans ?_
  show @Eq EReal _ _
  unfold V
  after_reads_at

/-- Argument 1's block, read through the argument. -/
theorem blk1 (t : Fin cfg0.N) (r : Fin 4) (n : Fin 192) :
    @Eq EReal ((iblk m c 1 t : S4x192.Idx → EReal) (ix2 r n)) (shapeCast SB (argG m c) hc (ix2 r n)) := by
  have e : (iblk m c 1 t : S4x192.Idx → EReal) (ix2 r n) = (V m c (Pipeline.arrRef spec0 1) : S4x192.Idx → EReal) (ix2 r n) := by
    blk_point [iblk, (idxIn t).2.1]
  refine e.trans ?_
  show @Eq EReal _ _
  unfold V
  after_reads_at

/-- Argument 2's block, read through the argument. -/
theorem blk2 (t : Fin cfg0.N) (r : Fin 4) (n : Fin 192) :
    @Eq EReal ((iblk m c 2 t : S4x192.Idx → EReal) (ix2 r n)) (shapeCast SB (argM m c) hc (ix2 r n)) := by
  have e : (iblk m c 2 t : S4x192.Idx → EReal) (ix2 r n) = (V m c (Pipeline.arrRef spec0 2) : S4x192.Idx → EReal) (ix2 r n) := by
    blk_point [iblk, (idxIn t).2.2.1]
  refine e.trans ?_
  show @Eq EReal _ _
  unfold V
  after_reads_at

/-- Argument 3's block, read through the argument. -/
theorem blk3 (t : Fin cfg0.N) (r : Fin 4) (n : Fin 192) :
    @Eq EReal ((iblk m c 3 t : S4x192.Idx → EReal) (ix2 r n)) (shapeCast SB (argV m c) hc (ix2 r n)) := by
  have e : (iblk m c 3 t : S4x192.Idx → EReal) (ix2 r n) = (V m c (Pipeline.arrRef spec0 3) : S4x192.Idx → EReal) (ix2 r n) := by
    blk_point [iblk, (idxIn t).2.2.2]
  refine e.trans ?_
  show @Eq EReal _ _
  unfold V
  after_reads_at

/-- The kernel's changes of the weight at the end of the run. -/
theorem arr4 : (dats m 0 c).arrAt 4 cfg0.N = deltas hc (argW m c) (argG m c) (argM m c) (argV m c) := by
  refine (dats m 0 c).arrAt_eq_of_covers 4 _ (by decide +kernel) fun t hf y => ?_
  blk_simp
  rw [after0_4]
  idx_vars y
  have e : ((View.whole main_v4_0).slice (win0_4.rect t)).emb (ix2 y0 y1) = ix2 y0 y1 := by
    blk_ext [(idxOut t).1]
  rw [e]
  refine (left4 _ _ _ _ y0 y1).trans ?_
  show @Eq EReal _ _
  rw [blk0 m c t y0 y1, blk1 m c t y0 y1, blk2 m c t y0 y1, blk3 m c t y0 y1]
  rfl

/-- The kernel's new first moments at the end of the run. -/
theorem arr5 : (dats m 0 c).arrAt 5 cfg0.N = firsts hc (argG m c) (argM m c) := by
  refine (dats m 0 c).arrAt_eq_of_covers 5 _ (by decide +kernel) fun t hf y => ?_
  blk_simp
  rw [after0_5]
  idx_vars y
  have e : ((View.whole main_v4_1).slice (win0_5.rect t)).emb (ix2 y0 y1) = ix2 y0 y1 := by
    blk_ext [(idxOut t).2.1]
  rw [e]
  refine (left5 _ _ _ _ y0 y1).trans ?_
  show @Eq EReal _ _
  rw [blk1 m c t y0 y1, blk2 m c t y0 y1]
  rfl

/-- The kernel's new second moments at the end of the run. -/
theorem arr6 : (dats m 0 c).arrAt 6 cfg0.N = seconds hc (argG m c) (argV m c) := by
  refine (dats m 0 c).arrAt_eq_of_covers 6 _ (by decide +kernel) fun t hf y => ?_
  blk_simp
  rw [after0_6]
  idx_vars y
  have e : ((View.whole main_v4_2).slice (win0_6.rect t)).emb (ix2 y0 y1) = ix2 y0 y1 := by
    blk_ext [(idxOut t).2.2]
  rw [e]
  refine (left6 _ _ _ _ y0 y1).trans ?_
  show @Eq EReal _ _
  rw [blk1 m c t y0 y1, blk3 m c t y0 y1]
  rfl

end Cert.AdamHnKernelIdeal.Value

namespace Cert.AdamHn
open Cert.AdamHnKernelIdeal.Value Cert.Adam

/-- The two named reciprocals. -/
theorem preserves : Cert.preserves_AdamHnKernel_AdamHnKernelIdeal :=
  ⟨IdealRules.named_const.statement _ _ _ _ _ rfl, IdealRules.named_const.statement _ _ _ _ _ rfl⟩

/-- The kernel's arrays are the reference's results, for every input. -/
theorem algebraic : Cert.algebraic_AdamHnKernelIdeal_AdamHnReferenceIdeal (hAdamHnKernelIdeal := Cert.AdamHnKernelIdeal.Gen.facts)
    (hAdamHnReferenceIdeal := Cert.AdamHnReferenceIdeal.Gen.facts) := by
  intro m g m' g' _ hag
  refine ⟨fun c => deltas hc (argW m c) (argG m c) (argM m c) (argV m c), fun c => firsts hc (argG m c) (argM m c), fun c => seconds hc (argG m c) (argV m c), ?_, ?_⟩
  · refine (θ_run _ _ _).mono (fun r h c => ?_) (AdamHnKernelIdeal.Value.run_blocks m g)
    obtain ⟨h4, h5, h6, ha⟩ := h c
    exact ⟨h4.trans (arr4 m c), h5.trans (arr5 m c), h6.trans (arr6 m c), ha⟩
  · refine (θ_run _ _ _).mono (fun r h c => ?_) (AdamHnReferenceIdeal.Value.run m' g')
    obtain ⟨h4, h5, h6, ha⟩ := h c
    obtain ⟨e0, e1, e2, e3⟩ := hag c
    rw [e0, e1, e2, e3] at h4
    rw [e1, e2] at h5
    rw [e1, e3] at h6
    exact ⟨h4.trans (ref_deltas hc (by decide) _ _ _ _), h5.trans (ref_firsts hc (by decide) _ _), h6.trans (ref_seconds hc (by decide) _ _), ha⟩

end Cert.AdamHn

end
-- ==== Proof.lean ====
module

public import proofs.«01_k».proof.Defs
public import proofs.«01_k».proof.Proof.Gen.ConvKernel
public import proofs.«01_k».proof.Proof.Gen.ConvKernel.Frame
public import proofs.«01_k».proof.Proof.Gen.ConvKernelIdeal
public import proofs.«01_k».proof.Proof.Gen.ConvKernelIdeal.Frame
public import proofs.«01_k».proof.Proof.Gen.ConvReferenceIdeal
public import proofs.«01_k».proof.Proof.Gen.MlKernel
public import proofs.«01_k».proof.Proof.Gen.MlKernel.Frame
public import proofs.«01_k».proof.Proof.Gen.MlKernelIdeal
public import proofs.«01_k».proof.Proof.Gen.MlKernelIdeal.Frame
public import proofs.«01_k».proof.Proof.Gen.GateKernel
public import proofs.«01_k».proof.Proof.Gen.GateKernel.Frame
public import proofs.«01_k».proof.Proof.Gen.GateKernelIdeal
public import proofs.«01_k».proof.Proof.Gen.GateKernelIdeal.Frame
public import proofs.«01_k».proof.Proof.Gen.GateReferenceIdeal
public import proofs.«01_k».proof.Proof.Gen.GateReferenceIdeal.Run
public import proofs.«01_k».proof.Proof.Gen.DownKernel
public import proofs.«01_k».proof.Proof.Gen.DownKernel.Frame
public import proofs.«01_k».proof.Proof.Gen.DownKernelIdeal
public import proofs.«01_k».proof.Proof.Gen.DownKernelIdeal.Frame
public import proofs.«01_k».proof.Proof.Gen.DownReferenceIdeal
public import proofs.«01_k».proof.Proof.Gen.DownReferenceIdeal.Run
public import proofs.«01_k».proof.Proof.Gen.FwdKernel
public import proofs.«01_k».proof.Proof.Gen.FwdKernel.Frame
public import proofs.«01_k».proof.Proof.Gen.FwdKernelIdeal
public import proofs.«01_k».proof.Proof.Gen.FwdKernelIdeal.Frame
public import proofs.«01_k».proof.Proof.Gen.FwdReferenceIdeal
public import proofs.«01_k».proof.Proof.Gen.FwdReferenceIdeal.Run
public import proofs.«01_k».proof.Proof.Gen.FfnKernel
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnReferenceIdeal
public import proofs.«01_k».proof.Proof.Gen.FfnReferenceIdeal.Run
public import proofs.«01_k».proof.Proof.Gen.Pre_finite_inputs
public import proofs.«01_k».proof.Proof.Gen.MixKernel
public import proofs.«01_k».proof.Proof.Gen.MixKernel.Frame
public import proofs.«01_k».proof.Proof.Gen.MixKernelIdeal
public import proofs.«01_k».proof.Proof.Gen.MixKernelIdeal.Frame
public import proofs.«01_k».proof.Proof.Gen.MixKernelIdeal.Value
public import proofs.«01_k».proof.Proof.Gen.MixReferenceIdeal
public import proofs.«01_k».proof.Proof.Gen.MixReferenceIdeal.Run
public import proofs.«01_k».proof.Proof.Gen.InbKernel
public import proofs.«01_k».proof.Proof.Gen.InbKernel.Frame
public import proofs.«01_k».proof.Proof.Gen.InbKernelIdeal
public import proofs.«01_k».proof.Proof.Gen.InbKernelIdeal.Frame
public import proofs.«01_k».proof.Proof.Gen.InbKernelIdeal.Value
public import proofs.«01_k».proof.Proof.Gen.InbReferenceIdeal
public import proofs.«01_k».proof.Proof.Gen.InbReferenceIdeal.Run
public import proofs.«01_k».proof.Proof.Gen.WoutKernel
public import proofs.«01_k».proof.Proof.Gen.WoutKernel.Frame
public import proofs.«01_k».proof.Proof.Gen.WoutKernelIdeal
public import proofs.«01_k».proof.Proof.Gen.WoutKernelIdeal.Frame
public import proofs.«01_k».proof.Proof.Gen.WoutKernelIdeal.Value
public import proofs.«01_k».proof.Proof.Gen.WoutReferenceIdeal
public import proofs.«01_k».proof.Proof.Gen.WoutReferenceIdeal.Run
public import proofs.«01_k».proof.Proof.Gen.WinKernel
public import proofs.«01_k».proof.Proof.Gen.WinKernel.Frame
public import proofs.«01_k».proof.Proof.Gen.WinKernelIdeal
public import proofs.«01_k».proof.Proof.Gen.WinKernelIdeal.Frame
public import proofs.«01_k».proof.Proof.Gen.WinKernelIdeal.Value
public import proofs.«01_k».proof.Proof.Gen.WinReferenceIdeal
public import proofs.«01_k».proof.Proof.Gen.WinReferenceIdeal.Run
public import proofs.«01_k».proof.Proof.Gen.InfKernel
public import proofs.«01_k».proof.Proof.Gen.InfKernel.Frame
public import proofs.«01_k».proof.Proof.Gen.InfKernelIdeal
public import proofs.«01_k».proof.Proof.Gen.InfKernelIdeal.Frame
public import proofs.«01_k».proof.Proof.Gen.InfKernelIdeal.Value
public import proofs.«01_k».proof.Proof.Gen.InfReferenceIdeal
public import proofs.«01_k».proof.Proof.Gen.InfReferenceIdeal.Run
public import proofs.«01_k».proof.Proof.Gen.OutfKernel
public import proofs.«01_k».proof.Proof.Gen.OutfKernel.Frame
public import proofs.«01_k».proof.Proof.Gen.OutfKernelIdeal
public import proofs.«01_k».proof.Proof.Gen.OutfKernelIdeal.Frame
public import proofs.«01_k».proof.Proof.Gen.OutfKernelIdeal.Value
public import proofs.«01_k».proof.Proof.Gen.OutfReferenceIdeal
public import proofs.«01_k».proof.Proof.Gen.OutfReferenceIdeal.Run
public import proofs.«01_k».proof.Proof.Gen.AdamLnKernel
public import proofs.«01_k».proof.Proof.Gen.AdamLnKernel.Frame
public import proofs.«01_k».proof.Proof.Gen.AdamLnKernelIdeal
public import proofs.«01_k».proof.Proof.Gen.AdamLnKernelIdeal.Frame
public import proofs.«01_k».proof.Proof.Gen.AdamLnKernelIdeal.Value
public import proofs.«01_k».proof.Proof.Gen.AdamLnReferenceIdeal
public import proofs.«01_k».proof.Proof.Gen.AdamLnReferenceIdeal.Run
public import proofs.«01_k».proof.Proof.Gen.AdamCvKernel
public import proofs.«01_k».proof.Proof.Gen.AdamCvKernel.Frame
public import proofs.«01_k».proof.Proof.Gen.AdamCvKernelIdeal
public import proofs.«01_k».proof.Proof.Gen.AdamCvKernelIdeal.Frame
public import proofs.«01_k».proof.Proof.Gen.AdamCvKernelIdeal.Value
public import proofs.«01_k».proof.Proof.Gen.AdamCvReferenceIdeal
public import proofs.«01_k».proof.Proof.Gen.AdamCvReferenceIdeal.Run
public import proofs.«01_k».proof.Proof.Gen.AdamGtKernel
public import proofs.«01_k».proof.Proof.Gen.AdamGtKernel.Frame
public import proofs.«01_k».proof.Proof.Gen.AdamGtKernelIdeal
public import proofs.«01_k».proof.Proof.Gen.AdamGtKernelIdeal.Frame
public import proofs.«01_k».proof.Proof.Gen.AdamGtKernelIdeal.Value
public import proofs.«01_k».proof.Proof.Gen.AdamGtReferenceIdeal
public import proofs.«01_k».proof.Proof.Gen.AdamGtReferenceIdeal.Run
public import proofs.«01_k».proof.Proof.Gen.AdamQkKernel
public import proofs.«01_k».proof.Proof.Gen.AdamQkKernel.Frame
public import proofs.«01_k».proof.Proof.Gen.AdamQkKernelIdeal
public import proofs.«01_k».proof.Proof.Gen.AdamQkKernelIdeal.Frame
public import proofs.«01_k».proof.Proof.Gen.AdamQkKernelIdeal.Value
public import proofs.«01_k».proof.Proof.Gen.AdamQkReferenceIdeal
public import proofs.«01_k».proof.Proof.Gen.AdamQkReferenceIdeal.Run
public import proofs.«01_k».proof.Proof.Gen.AdamHnKernel
public import proofs.«01_k».proof.Proof.Gen.AdamHnKernel.Frame
public import proofs.«01_k».proof.Proof.Gen.AdamHnKernelIdeal
public import proofs.«01_k».proof.Proof.Gen.AdamHnKernelIdeal.Frame
public import proofs.«01_k».proof.Proof.Gen.AdamHnKernelIdeal.Value
public import proofs.«01_k».proof.Proof.Gen.AdamHnReferenceIdeal
public import proofs.«01_k».proof.Proof.Gen.AdamHnReferenceIdeal.Run
public import proofs.«01_k».proof.Proof.Gen.Pre_finite_mixer_inputs
public import proofs.«01_k».proof.Proof.ConvClaim
public import proofs.«01_k».proof.Proof.GateClaim
public import proofs.«01_k».proof.Proof.DownClaim
public import proofs.«01_k».proof.Proof.FwdClaim
public import proofs.«01_k».proof.Proof.FfnSame
public import proofs.«01_k».proof.Proof.FfnBwdClaim
public import proofs.«01_k».proof.Proof.MixClaim
public import proofs.«01_k».proof.Proof.InbClaim
public import proofs.«01_k».proof.Proof.MixWoutClaim
public import proofs.«01_k».proof.Proof.MixWinClaim
public import proofs.«01_k».proof.Proof.MixInfClaim
public import proofs.«01_k».proof.Proof.MixOutfClaim
public import proofs.«01_k».proof.Proof.AdamLn
public import proofs.«01_k».proof.Proof.AdamCv
public import proofs.«01_k».proof.Proof.AdamGt
public import proofs.«01_k».proof.Proof.AdamQk
public import proofs.«01_k».proof.Proof.AdamHn
public import Idealize.ShloMosaic.Adequacy
public import Idealize.ShloMosaic.Init

@[expose] public section

noncomputable section

namespace Cert.Proof

open Idealize.ShloMosaic Idealize.SL.Sem

/-- The reference of the convolution is a straight line of host operations: it ends, and leaves its arguments alone. -/
theorem quiescent_ConvReferenceIdeal :
    Cert.quiescent_ConvReferenceIdeal (hConvReferenceIdeal := Cert.ConvReferenceIdeal.Gen.facts) := by
  intro m g _
  exact (θ_run Cert.ConvReferenceIdeal.defs _ _).mono
    (fun r h => ⟨fun c => (h c).2.2.2.2, sem_eq_zero_of_no_sems (by decide) r.2⟩)
    (Cert.ConvReferenceIdeal.Value.run m g)

/-- The reference of the gate weight's gradient is a straight line of host operations: it ends, and leaves its arguments alone. -/
theorem quiescent_GateReferenceIdeal :
    Cert.quiescent_GateReferenceIdeal (hGateReferenceIdeal := Cert.GateReferenceIdeal.Gen.facts) := by
  intro m g _
  exact (θ_run Cert.GateReferenceIdeal.defs _ _).mono
    (fun r h => ⟨fun c => (h c).2, sem_eq_zero_of_no_sems (by decide) r.2⟩)
    (Cert.GateReferenceIdeal.Value.run m g)

/-- The reference of the down weight's gradient is a straight line of host operations: it ends, and leaves its arguments alone. -/
theorem quiescent_DownReferenceIdeal :
    Cert.quiescent_DownReferenceIdeal (hDownReferenceIdeal := Cert.DownReferenceIdeal.Gen.facts) := by
  intro m g _
  exact (θ_run Cert.DownReferenceIdeal.defs _ _).mono
    (fun r h => ⟨fun c => (h c).2, sem_eq_zero_of_no_sems (by decide) r.2⟩)
    (Cert.DownReferenceIdeal.Value.run m g)

/-- The reference of the feed-forward layer is a straight line of host operations: it ends, and leaves its arguments alone. -/
theorem quiescent_FwdReferenceIdeal :
    Cert.quiescent_FwdReferenceIdeal (hFwdReferenceIdeal := Cert.FwdReferenceIdeal.Gen.facts) := by
  intro m g _
  exact (θ_run Cert.FwdReferenceIdeal.defs _ _).mono
    (fun r h => ⟨fun c => (h c).2.2.2.2.2.2, sem_eq_zero_of_no_sems (by decide) r.2⟩)
    (Cert.FwdReferenceIdeal.Value.run m g)

/-- The reference of the feed-forward layer's backward pass is a straight line of host operations: it ends, and leaves its
    arguments alone. -/
theorem quiescent_FfnReferenceIdeal :
    Cert.quiescent_FfnReferenceIdeal (hFfnReferenceIdeal := Cert.FfnReferenceIdeal.Gen.facts) := by
  intro m g _
  exact (θ_run Cert.FfnReferenceIdeal.defs _ _).mono
    (fun r h => ⟨fun c => (h c).2.2.2.2.2.2, sem_eq_zero_of_no_sems (by decide) r.2⟩)
    (Cert.FfnReferenceIdeal.Value.run m g)

/-- The reference of the mixer's output projection, backwards, is a straight line of host operations: it ends, and leaves its
    arguments alone. -/
theorem quiescent_MixReferenceIdeal :
    Cert.quiescent_MixReferenceIdeal (hMixReferenceIdeal := Cert.MixReferenceIdeal.Gen.facts) := by
  intro m g _
  exact (θ_run Cert.MixReferenceIdeal.defs _ _).mono
    (fun r h => ⟨fun c => (h c).2.2.2.2.2, sem_eq_zero_of_no_sems (by decide) r.2⟩)
    (Cert.MixReferenceIdeal.Value.run m g)

/-- The reference of the mixer's input gradient is a straight line of host operations: it ends, and leaves its
    arguments alone. -/
theorem quiescent_InbReferenceIdeal :
    Cert.quiescent_InbReferenceIdeal (hInbReferenceIdeal := Cert.InbReferenceIdeal.Gen.facts) := by
  intro m g _
  exact (θ_run Cert.InbReferenceIdeal.defs _ _).mono
    (fun r h => ⟨fun c => (h c).2, sem_eq_zero_of_no_sems (by decide) r.2⟩)
    (Cert.InbReferenceIdeal.Value.run m g)

/-- The reference of the gradient of the mixer's output weight is a straight line of host operations: it ends, and leaves its
    arguments alone. -/
theorem quiescent_WoutReferenceIdeal :
    Cert.quiescent_WoutReferenceIdeal (hWoutReferenceIdeal := Cert.WoutReferenceIdeal.Gen.facts) := by
  intro m g _
  exact (θ_run Cert.WoutReferenceIdeal.defs _ _).mono
    (fun r h => ⟨fun c => (h c).2, sem_eq_zero_of_no_sems (by decide) r.2⟩)
    (Cert.WoutReferenceIdeal.Value.run m g)

/-- The reference of the gradient of the mixer's input weight is a straight line of host operations: it ends, and leaves its
    arguments alone. -/
theorem quiescent_WinReferenceIdeal :
    Cert.quiescent_WinReferenceIdeal (hWinReferenceIdeal := Cert.WinReferenceIdeal.Gen.facts) := by
  intro m g _
  exact (θ_run Cert.WinReferenceIdeal.defs _ _).mono
    (fun r h => ⟨fun c => (h c).2, sem_eq_zero_of_no_sems (by decide) r.2⟩)
    (Cert.WinReferenceIdeal.Value.run m g)

/-- The reference of the mixer's input projection is a straight line of host operations: it ends, and leaves its
    arguments alone. -/
theorem quiescent_InfReferenceIdeal :
    Cert.quiescent_InfReferenceIdeal (hInfReferenceIdeal := Cert.InfReferenceIdeal.Gen.facts) := by
  intro m g _
  exact (θ_run Cert.InfReferenceIdeal.defs _ _).mono
    (fun r h => ⟨fun c => (h c).2, sem_eq_zero_of_no_sems (by decide) r.2⟩)
    (Cert.InfReferenceIdeal.Value.run m g)

/-- The reference of the mixer's output projection, its residual and its layer norm is a straight line of host operations: it ends, and leaves its
    arguments alone. -/
theorem quiescent_OutfReferenceIdeal :
    Cert.quiescent_OutfReferenceIdeal (hOutfReferenceIdeal := Cert.OutfReferenceIdeal.Gen.facts) := by
  intro m g _
  exact (θ_run Cert.OutfReferenceIdeal.defs _ _).mono
    (fun r h => ⟨fun c => (h c).2.2.2, sem_eq_zero_of_no_sems (by decide) r.2⟩)
    (Cert.OutfReferenceIdeal.Value.run m g)

/-- The reference of the optimiser's step on the layer norms' scale is a straight line of host operations: it ends, and leaves its
    arguments alone. -/
theorem quiescent_AdamLnReferenceIdeal :
    Cert.quiescent_AdamLnReferenceIdeal (hAdamLnReferenceIdeal := Cert.AdamLnReferenceIdeal.Gen.facts) := by
  intro m g _
  exact (θ_run Cert.AdamLnReferenceIdeal.defs _ _).mono
    (fun r h => ⟨fun c => (h c).2.2.2, sem_eq_zero_of_no_sems (by decide) r.2⟩)
    (Cert.AdamLnReferenceIdeal.Value.run m g)

/-- The reference of the optimiser's step on the convolution's taps is a straight line of host operations: it ends, and leaves its
    arguments alone. -/
theorem quiescent_AdamCvReferenceIdeal :
    Cert.quiescent_AdamCvReferenceIdeal (hAdamCvReferenceIdeal := Cert.AdamCvReferenceIdeal.Gen.facts) := by
  intro m g _
  exact (θ_run Cert.AdamCvReferenceIdeal.defs _ _).mono
    (fun r h => ⟨fun c => (h c).2.2.2, sem_eq_zero_of_no_sems (by decide) r.2⟩)
    (Cert.AdamCvReferenceIdeal.Value.run m g)

/-- The reference of the optimiser's step on the gates' bias is a straight line of host operations: it ends, and leaves its
    arguments alone. -/
theorem quiescent_AdamGtReferenceIdeal :
    Cert.quiescent_AdamGtReferenceIdeal (hAdamGtReferenceIdeal := Cert.AdamGtReferenceIdeal.Gen.facts) := by
  intro m g _
  exact (θ_run Cert.AdamGtReferenceIdeal.defs _ _).mono
    (fun r h => ⟨fun c => (h c).2.2.2, sem_eq_zero_of_no_sems (by decide) r.2⟩)
    (Cert.AdamGtReferenceIdeal.Value.run m g)

/-- The reference of the optimiser's step on the query and key convolution's taps is a straight line of host operations: it ends, and leaves its
    arguments alone. -/
theorem quiescent_AdamQkReferenceIdeal :
    Cert.quiescent_AdamQkReferenceIdeal (hAdamQkReferenceIdeal := Cert.AdamQkReferenceIdeal.Gen.facts) := by
  intro m g _
  exact (θ_run Cert.AdamQkReferenceIdeal.defs _ _).mono
    (fun r h => ⟨fun c => (h c).2.2.2, sem_eq_zero_of_no_sems (by decide) r.2⟩)
    (Cert.AdamQkReferenceIdeal.Value.run m g)

/-- The reference of the optimiser's step on the head norm's scale is a straight line of host operations: it ends, and leaves its
    arguments alone. -/
theorem quiescent_AdamHnReferenceIdeal :
    Cert.quiescent_AdamHnReferenceIdeal (hAdamHnReferenceIdeal := Cert.AdamHnReferenceIdeal.Gen.facts) := by
  intro m g _
  exact (θ_run Cert.AdamHnReferenceIdeal.defs _ _).mono
    (fun r h => ⟨fun c => (h c).2.2.2, sem_eq_zero_of_no_sems (by decide) r.2⟩)
    (Cert.AdamHnReferenceIdeal.Value.run m g)

/-- Everything the certificate claims. -/
theorem claim : Cert.Claim :=
  ⟨Cert.ConvKernel.Gen.facts, Cert.ConvKernelIdeal.Gen.facts, Cert.ConvReferenceIdeal.Gen.facts, Cert.MlKernel.Gen.facts,
    Cert.MlKernelIdeal.Gen.facts, Cert.GateKernel.Gen.facts, Cert.GateKernelIdeal.Gen.facts,
    Cert.GateReferenceIdeal.Gen.facts, Cert.DownKernel.Gen.facts, Cert.DownKernelIdeal.Gen.facts,
    Cert.DownReferenceIdeal.Gen.facts, Cert.FwdKernel.Gen.facts, Cert.FwdKernelIdeal.Gen.facts, Cert.FwdReferenceIdeal.Gen.facts,
    Cert.FfnKernel.Gen.facts, Cert.FfnKernelIdeal.Gen.facts, Cert.FfnReferenceIdeal.Gen.facts,
    Cert.MixKernel.Gen.facts, Cert.MixKernelIdeal.Gen.facts, Cert.MixReferenceIdeal.Gen.facts,
    Cert.InbKernel.Gen.facts, Cert.InbKernelIdeal.Gen.facts, Cert.InbReferenceIdeal.Gen.facts,
    Cert.WoutKernel.Gen.facts, Cert.WoutKernelIdeal.Gen.facts, Cert.WoutReferenceIdeal.Gen.facts,
    Cert.WinKernel.Gen.facts, Cert.WinKernelIdeal.Gen.facts, Cert.WinReferenceIdeal.Gen.facts,
    Cert.InfKernel.Gen.facts, Cert.InfKernelIdeal.Gen.facts, Cert.InfReferenceIdeal.Gen.facts,
    Cert.OutfKernel.Gen.facts, Cert.OutfKernelIdeal.Gen.facts, Cert.OutfReferenceIdeal.Gen.facts,
    Cert.AdamLnKernel.Gen.facts, Cert.AdamLnKernelIdeal.Gen.facts, Cert.AdamLnReferenceIdeal.Gen.facts,
    Cert.AdamCvKernel.Gen.facts, Cert.AdamCvKernelIdeal.Gen.facts, Cert.AdamCvReferenceIdeal.Gen.facts,
    Cert.AdamGtKernel.Gen.facts, Cert.AdamGtKernelIdeal.Gen.facts, Cert.AdamGtReferenceIdeal.Gen.facts,
    Cert.AdamQkKernel.Gen.facts, Cert.AdamQkKernelIdeal.Gen.facts, Cert.AdamQkReferenceIdeal.Gen.facts,
    Cert.AdamHnKernel.Gen.facts, Cert.AdamHnKernelIdeal.Gen.facts, Cert.AdamHnReferenceIdeal.Gen.facts,
    Cert.Pre_finite_inputs.Gen.facts, Cert.Pre_finite_mixer_inputs.Gen.facts,
    fun m g _ => Cert.ConvKernel.Gen.frame m g,
    fun m g _ => Cert.ConvKernelIdeal.Gen.frame m g,
    quiescent_ConvReferenceIdeal,
    fun m g _ => Cert.MlKernel.Gen.frame m g,
    fun m g _ => Cert.MlKernelIdeal.Gen.frame m g,
    fun m g _ => Cert.GateKernel.Gen.frame m g,
    fun m g _ => Cert.GateKernelIdeal.Gen.frame m g,
    quiescent_GateReferenceIdeal,
    fun m g _ => Cert.DownKernel.Gen.frame m g,
    fun m g _ => Cert.DownKernelIdeal.Gen.frame m g,
    quiescent_DownReferenceIdeal,
    fun m g _ => Cert.FwdKernel.Gen.frame m g,
    fun m g _ => Cert.FwdKernelIdeal.Gen.frame m g,
    quiescent_FwdReferenceIdeal,
    Cert.FfnSame.frame_kernel,
    fun m g _ => Cert.FfnKernelIdeal.Gen.frame m g,
    fun m g _ => Cert.FfnKernelIdeal.Gen.frame m g,
    quiescent_FfnReferenceIdeal,
    fun m g _ => quiescent_FfnReferenceIdeal m g trivial,
    fun m g _ => Cert.MixKernel.Gen.frame m g,
    fun m g _ => Cert.MixKernelIdeal.Gen.frame m g,
    fun m g _ => Cert.MixKernelIdeal.Gen.frame m g,
    quiescent_MixReferenceIdeal,
    fun m g _ => quiescent_MixReferenceIdeal m g trivial,
    fun m g _ => Cert.InbKernel.Gen.frame m g,
    fun m g _ => Cert.InbKernelIdeal.Gen.frame m g,
    quiescent_InbReferenceIdeal,
    fun m g _ => Cert.WoutKernel.Gen.frame m g,
    fun m g _ => Cert.WoutKernelIdeal.Gen.frame m g,
    quiescent_WoutReferenceIdeal,
    fun m g _ => Cert.WinKernel.Gen.frame m g,
    fun m g _ => Cert.WinKernelIdeal.Gen.frame m g,
    quiescent_WinReferenceIdeal,
    fun m g _ => Cert.InfKernel.Gen.frame m g,
    fun m g _ => Cert.InfKernelIdeal.Gen.frame m g,
    quiescent_InfReferenceIdeal,
    fun m g _ => Cert.OutfKernel.Gen.frame m g,
    fun m g _ => Cert.OutfKernelIdeal.Gen.frame m g,
    quiescent_OutfReferenceIdeal,
    fun m g _ => Cert.AdamLnKernel.Gen.frame m g,
    fun m g _ => Cert.AdamLnKernelIdeal.Gen.frame m g,
    quiescent_AdamLnReferenceIdeal,
    fun m g _ => Cert.AdamCvKernel.Gen.frame m g,
    fun m g _ => Cert.AdamCvKernelIdeal.Gen.frame m g,
    quiescent_AdamCvReferenceIdeal,
    fun m g _ => Cert.AdamGtKernel.Gen.frame m g,
    fun m g _ => Cert.AdamGtKernelIdeal.Gen.frame m g,
    quiescent_AdamGtReferenceIdeal,
    fun m g _ => Cert.AdamQkKernel.Gen.frame m g,
    fun m g _ => Cert.AdamQkKernelIdeal.Gen.frame m g,
    quiescent_AdamQkReferenceIdeal,
    fun m g _ => Cert.AdamHnKernel.Gen.frame m g,
    fun m g _ => Cert.AdamHnKernelIdeal.Gen.frame m g,
    quiescent_AdamHnReferenceIdeal,
    trivial,
    Cert.Conv.algebraic,
    IdealRules.sign_bit.statement Cert.MlKernelIdeal.S4x64x1 .f32,
    trivial,
    Cert.GateGrad.algebraic,
    trivial,
    Cert.DownGrad.algebraic,
    trivial,
    Cert.FwdLayer.algebraic,
    trivial,
    Cert.FfnBwd.algebraic,
    trivial,
    Cert.MixerOut.algebraic,
    trivial,
    Cert.InputGrad.algebraic,
    trivial,
    Cert.MixerOutWeight.algebraic,
    trivial,
    Cert.MixerInWeight.algebraic,
    trivial,
    Cert.MixerInFwd.algebraic,
    trivial,
    Cert.MixerOutFwd.algebraic,
    Cert.AdamLn.preserves,
    Cert.AdamLn.algebraic,
    Cert.AdamCv.preserves,
    Cert.AdamCv.algebraic,
    Cert.AdamGt.preserves,
    Cert.AdamGt.algebraic,
    Cert.AdamQk.preserves,
    Cert.AdamQk.algebraic,
    Cert.AdamHn.preserves,
    Cert.AdamHn.algebraic⟩

end Cert.Proof

end
